-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutIdeal_finite_hgrn_out [hPre_finite_hgrn_out : Cert.Pre_finite_hgrn_out.Facts] (m : (ℓ : Loc Cert.HgrnOutIdeal.nD Cert.HgrnOutIdeal.τ Cert.HgrnOutIdeal.sig) → Buf (Elt Ideal) ℓ) : Prop :=
  ∀ c : Dev Cert.HgrnOutIdeal.nD,
    (Cert.Pre_finite_hgrn_out.fn (F := Ideal) (m ((c.tc : Thread Cert.HgrnOutIdeal.nD Cert.HgrnOutIdeal.τ).loc Cert.HgrnOutIdeal.main_arg0)) (m ((c.tc : Thread Cert.HgrnOutIdeal.nD Cert.HgrnOutIdeal.τ).loc Cert.HgrnOutIdeal.main_arg1)) (m ((c.tc : Thread Cert.HgrnOutIdeal.nD Cert.HgrnOutIdeal.τ).loc Cert.HgrnOutIdeal.main_arg2)) (m ((c.tc : Thread Cert.HgrnOutIdeal.nD Cert.HgrnOutIdeal.τ).loc Cert.HgrnOutIdeal.main_arg3)) (m ((c.tc : Thread Cert.HgrnOutIdeal.nD Cert.HgrnOutIdeal.τ).loc Cert.HgrnOutIdeal.main_arg4)) (m ((c.tc : Thread Cert.HgrnOutIdeal.nD Cert.HgrnOutIdeal.τ).loc Cert.HgrnOutIdeal.main_arg5))) = (fun _ => 1#1)

def Pre_HgrnOutRefIdeal (m : (ℓ : Loc Cert.HgrnOutRefIdeal.nD Cert.HgrnOutRefIdeal.τ Cert.HgrnOutRefIdeal.sig) → Buf (Elt Ideal) ℓ) : Prop :=
  True

def Pre_HgrnOutRefIdeal_finite_hgrn_out [hPre_finite_hgrn_out : Cert.Pre_finite_hgrn_out.Facts] (m : (ℓ : Loc Cert.HgrnOutRefIdeal.nD Cert.HgrnOutRefIdeal.τ Cert.HgrnOutRefIdeal.sig) → Buf (Elt Ideal) ℓ) : Prop :=
  ∀ c : Dev Cert.HgrnOutRefIdeal.nD,
    (Cert.Pre_finite_hgrn_out.fn (F := Ideal) (m ((c.tc : Thread Cert.HgrnOutRefIdeal.nD Cert.HgrnOutRefIdeal.τ).loc Cert.HgrnOutRefIdeal.main_arg0)) (m ((c.tc : Thread Cert.HgrnOutRefIdeal.nD Cert.HgrnOutRefIdeal.τ).loc Cert.HgrnOutRefIdeal.main_arg1)) (m ((c.tc : Thread Cert.HgrnOutRefIdeal.nD Cert.HgrnOutRefIdeal.τ).loc Cert.HgrnOutRefIdeal.main_arg2)) (m ((c.tc : Thread Cert.HgrnOutRefIdeal.nD Cert.HgrnOutRefIdeal.τ).loc Cert.HgrnOutRefIdeal.main_arg3)) (m ((c.tc : Thread Cert.HgrnOutRefIdeal.nD Cert.HgrnOutRefIdeal.τ).loc Cert.HgrnOutRefIdeal.main_arg4)) (m ((c.tc : Thread Cert.HgrnOutRefIdeal.nD Cert.HgrnOutRefIdeal.τ).loc Cert.HgrnOutRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7))) = (fun _ => 1#1)

def Pre_PoolBack (m : (ℓ : Loc Cert.PoolBack.nD Cert.PoolBack.τ Cert.PoolBack.sig) → Buf (Elt Bits) ℓ) : Prop :=
  True

def Pre_PoolBackIdeal (m : (ℓ : Loc Cert.PoolBackIdeal.nD Cert.PoolBackIdeal.τ Cert.PoolBackIdeal.sig) → Buf (Elt Ideal) ℓ) : Prop :=
  True

def Pre_PoolBackIdeal_finite_pool [hPre_finite_pool : Cert.Pre_finite_pool.Facts] (m : (ℓ : Loc Cert.PoolBackIdeal.nD Cert.PoolBackIdeal.τ Cert.PoolBackIdeal.sig) → Buf (Elt Ideal) ℓ) : Prop :=
  ∀ c : Dev Cert.PoolBackIdeal.nD,
    (Cert.Pre_finite_pool.fn (F := Ideal) (m ((c.tc : Thread Cert.PoolBackIdeal.nD Cert.PoolBackIdeal.τ).loc Cert.PoolBackIdeal.main_arg0)) (m ((c.tc : Thread Cert.PoolBackIdeal.nD Cert.PoolBackIdeal.τ).loc Cert.PoolBackIdeal.main_arg1)) (m ((c.tc : Thread Cert.PoolBackIdeal.nD Cert.PoolBackIdeal.τ).loc Cert.PoolBackIdeal.main_arg2)) (m ((c.tc : Thread Cert.PoolBackIdeal.nD Cert.PoolBackIdeal.τ).loc Cert.PoolBackIdeal.main_arg3)) (m ((c.tc : Thread Cert.PoolBackIdeal.nD Cert.PoolBackIdeal.τ).loc Cert.PoolBackIdeal.main_arg4)) (m ((c.tc : Thread Cert.PoolBackIdeal.nD Cert.PoolBackIdeal.τ).loc Cert.PoolBackIdeal.main_arg5))) = (fun _ => 1#1)

def Pre_PoolBackRefIdeal (m : (ℓ : Loc Cert.PoolBackRefIdeal.nD Cert.PoolBackRefIdeal.τ Cert.PoolBackRefIdeal.sig) → Buf (Elt Ideal) ℓ) : Prop :=
  True

def Pre_PoolBackRefIdeal_finite_pool [hPre_finite_pool : Cert.Pre_finite_pool.Facts] (m : (ℓ : Loc Cert.PoolBackRefIdeal.nD Cert.PoolBackRefIdeal.τ Cert.PoolBackRefIdeal.sig) → Buf (Elt Ideal) ℓ) : Prop :=
  ∀ c : Dev Cert.PoolBackRefIdeal.nD,
    (Cert.Pre_finite_pool.fn (F := Ideal) (m ((c.tc : Thread Cert.PoolBackRefIdeal.nD Cert.PoolBackRefIdeal.τ).loc Cert.PoolBackRefIdeal.main_arg0)) (m ((c.tc : Thread Cert.PoolBackRefIdeal.nD Cert.PoolBackRefIdeal.τ).loc Cert.PoolBackRefIdeal.main_arg1)) (m ((c.tc : Thread Cert.PoolBackRefIdeal.nD Cert.PoolBackRefIdeal.τ).loc Cert.PoolBackRefIdeal.main_arg2)) (m ((c.tc : Thread Cert.PoolBackRefIdeal.nD Cert.PoolBackRefIdeal.τ).loc Cert.PoolBackRefIdeal.main_arg3)) (m ((c.tc : Thread Cert.PoolBackRefIdeal.nD Cert.PoolBackRefIdeal.τ).loc Cert.PoolBackRefIdeal.main_arg4)) (m ((c.tc : Thread Cert.PoolBackRefIdeal.nD Cert.PoolBackRefIdeal.τ).loc Cert.PoolBackRefIdeal.main_arg5))) = (fun _ => 1#1)

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInIdeal_finite_hgrn_in [hPre_finite_hgrn_in : Cert.Pre_finite_hgrn_in.Facts] (m : (ℓ : Loc Cert.HgrnInIdeal.nD Cert.HgrnInIdeal.τ Cert.HgrnInIdeal.sig) → Buf (Elt Ideal) ℓ) : Prop :=
  ∀ c : Dev Cert.HgrnInIdeal.nD,
    (Cert.Pre_finite_hgrn_in.fn (F := Ideal) (m ((c.tc : Thread Cert.HgrnInIdeal.nD Cert.HgrnInIdeal.τ).loc Cert.HgrnInIdeal.main_arg0)) (m ((c.tc : Thread Cert.HgrnInIdeal.nD Cert.HgrnInIdeal.τ).loc Cert.HgrnInIdeal.main_arg1)) (m ((c.tc : Thread Cert.HgrnInIdeal.nD Cert.HgrnInIdeal.τ).loc Cert.HgrnInIdeal.main_arg2)) (m ((c.tc : Thread Cert.HgrnInIdeal.nD Cert.HgrnInIdeal.τ).loc Cert.HgrnInIdeal.main_arg3)) (m ((c.tc : Thread Cert.HgrnInIdeal.nD Cert.HgrnInIdeal.τ).loc Cert.HgrnInIdeal.main_arg4)) (m ((c.tc : Thread Cert.HgrnInIdeal.nD Cert.HgrnInIdeal.τ).loc Cert.HgrnInIdeal.main_arg5)) (m ((c.tc : Thread Cert.HgrnInIdeal.nD Cert.HgrnInIdeal.τ).loc Cert.HgrnInIdeal.main_arg6)) (m ((c.tc : Thread Cert.HgrnInIdeal.nD Cert.HgrnInIdeal.τ).loc Cert.HgrnInIdeal.main_arg7)) (m ((c.tc : Thread Cert.HgrnInIdeal.nD Cert.HgrnInIdeal.τ).loc Cert.HgrnInIdeal.main_arg8)) (m ((c.tc : Thread Cert.HgrnInIdeal.nD Cert.HgrnInIdeal.τ).loc Cert.HgrnInIdeal.main_arg9)) (m ((c.tc : Thread Cert.HgrnInIdeal.nD Cert.HgrnInIdeal.τ).loc Cert.HgrnInIdeal.main_arg10))) = (fun _ => 1#1)

def Pre_HgrnInRefIdeal (m : (ℓ : Loc Cert.HgrnInRefIdeal.nD Cert.HgrnInRefIdeal.τ Cert.HgrnInRefIdeal.sig) → Buf (Elt Ideal) ℓ) : Prop :=
  True

def Pre_HgrnInRefIdeal_finite_hgrn_in [hPre_finite_hgrn_in : Cert.Pre_finite_hgrn_in.Facts] (m : (ℓ : Loc Cert.HgrnInRefIdeal.nD Cert.HgrnInRefIdeal.τ Cert.HgrnInRefIdeal.sig) → Buf (Elt Ideal) ℓ) : Prop :=
  ∀ c : Dev Cert.HgrnInRefIdeal.nD,
    (Cert.Pre_finite_hgrn_in.fn (F := Ideal) (m ((c.tc : Thread Cert.HgrnInRefIdeal.nD Cert.HgrnInRefIdeal.τ).loc Cert.HgrnInRefIdeal.main_arg0)) (m ((c.tc : Thread Cert.HgrnInRefIdeal.nD Cert.HgrnInRefIdeal.τ).loc Cert.HgrnInRefIdeal.main_arg1)) (m ((c.tc : Thread Cert.HgrnInRefIdeal.nD Cert.HgrnInRefIdeal.τ).loc Cert.HgrnInRefIdeal.main_arg2)) (m ((c.tc : Thread Cert.HgrnInRefIdeal.nD Cert.HgrnInRefIdeal.τ).loc Cert.HgrnInRefIdeal.main_arg3)) (m ((c.tc : Thread Cert.HgrnInRefIdeal.nD Cert.HgrnInRefIdeal.τ).loc Cert.HgrnInRefIdeal.main_arg4)) (m ((c.tc : Thread Cert.HgrnInRefIdeal.nD Cert.HgrnInRefIdeal.τ).loc Cert.HgrnInRefIdeal.main_arg5)) (m ((c.tc : Thread Cert.HgrnInRefIdeal.nD Cert.HgrnInRefIdeal.τ).loc Cert.HgrnInRefIdeal.main_arg6)) (m ((c.tc : Thread Cert.HgrnInRefIdeal.nD Cert.HgrnInRefIdeal.τ).loc Cert.HgrnInRefIdeal.main_arg7)) (m ((c.tc : Thread Cert.HgrnInRefIdeal.nD Cert.HgrnInRefIdeal.τ).loc Cert.HgrnInRefIdeal.main_arg8)) (m ((c.tc : Thread Cert.HgrnInRefIdeal.nD Cert.HgrnInRefIdeal.τ).loc Cert.HgrnInRefIdeal.main_arg9)) (m ((c.tc : Thread Cert.HgrnInRefIdeal.nD Cert.HgrnInRefIdeal.τ).loc Cert.HgrnInRefIdeal.main_arg10))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_finite_ada [hPre_finite_ada : Cert.Pre_finite_ada.Facts] (m : (ℓ : Loc Cert.AdaIdeal.nD Cert.AdaIdeal.τ Cert.AdaIdeal.sig) → Buf (Elt Ideal) ℓ) : Prop :=
  ∀ c : Dev Cert.AdaIdeal.nD,
    (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)) (m ((c.tc : Thread Cert.AdaIdeal.nD Cert.AdaIdeal.τ).loc Cert.AdaIdeal.main_arg3)) (m ((c.tc : Thread Cert.AdaIdeal.nD Cert.AdaIdeal.τ).loc Cert.AdaIdeal.main_arg4))) = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_finite_ada [hPre_finite_ada : Cert.Pre_finite_ada.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_finite_ada.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2)) (m ((c.tc : Thread Cert.AdaRefIdeal.nD Cert.AdaRefIdeal.τ).loc Cert.AdaRefIdeal.main_arg3)) (m ((c.tc : Thread Cert.AdaRefIdeal.nD Cert.AdaRefIdeal.τ).loc Cert.AdaRefIdeal.main_arg4))) = (fun _ => 1#1)

def Pre_HgrnOutFwd (m : (ℓ : Loc Cert.HgrnOutFwd.nD Cert.HgrnOutFwd.τ Cert.HgrnOutFwd.sig) → Buf (Elt Bits) ℓ) : Prop :=
  True

def Pre_HgrnOutFwdIdeal (m : (ℓ : Loc Cert.HgrnOutFwdIdeal.nD Cert.HgrnOutFwdIdeal.τ Cert.HgrnOutFwdIdeal.sig) → Buf (Elt Ideal) ℓ) : Prop :=
  True

def Pre_HgrnOutFwdRefIdeal (m : (ℓ : Loc Cert.HgrnOutFwdRefIdeal.nD Cert.HgrnOutFwdRefIdeal.τ Cert.HgrnOutFwdRefIdeal.sig) → Buf (Elt Ideal) ℓ) : Prop :=
  True

def Pre_PoolInFwd (m : (ℓ : Loc Cert.PoolInFwd.nD Cert.PoolInFwd.τ Cert.PoolInFwd.sig) → Buf (Elt Bits) ℓ) : Prop :=
  True

def Pre_PoolInFwdIdeal (m : (ℓ : Loc Cert.PoolInFwdIdeal.nD Cert.PoolInFwdIdeal.τ Cert.PoolInFwdIdeal.sig) → Buf (Elt Ideal) ℓ) : Prop :=
  True

def Pre_PoolInFwdRefIdeal (m : (ℓ : Loc Cert.PoolInFwdRefIdeal.nD Cert.PoolInFwdRefIdeal.τ Cert.PoolInFwdRefIdeal.sig) → Buf (Elt Ideal) ℓ) : Prop :=
  True

def Pre_HgrnInFwd (m : (ℓ : Loc Cert.HgrnInFwd.nD Cert.HgrnInFwd.τ Cert.HgrnInFwd.sig) → Buf (Elt Bits) ℓ) : Prop :=
  True

def Pre_HgrnInFwdIdeal (m : (ℓ : Loc Cert.HgrnInFwdIdeal.nD Cert.HgrnInFwdIdeal.τ Cert.HgrnInFwdIdeal.sig) → Buf (Elt Ideal) ℓ) : Prop :=
  True

def Pre_HgrnInFwdRefIdeal (m : (ℓ : Loc Cert.HgrnInFwdRefIdeal.nD Cert.HgrnInFwdRefIdeal.τ Cert.HgrnInFwdRefIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaBack (m : (ℓ : Loc Cert.GlaBack.nD Cert.GlaBack.τ Cert.GlaBack.sig) → Buf (Elt Bits) ℓ) : Prop :=
  True

def Pre_GlaBackIdeal (m : (ℓ : Loc Cert.GlaBackIdeal.nD Cert.GlaBackIdeal.τ Cert.GlaBackIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradRefIdeal (m : (ℓ : Loc Cert.WeightGradRefIdeal.nD Cert.WeightGradRefIdeal.τ Cert.WeightGradRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsIdeal_finite_sums [hPre_finite_sums : Cert.Pre_finite_sums.Facts] (m : (ℓ : Loc Cert.SumsIdeal.nD Cert.SumsIdeal.τ Cert.SumsIdeal.sig) → Buf (Elt Ideal) ℓ) : Prop :=
  ∀ c : Dev Cert.SumsIdeal.nD,
    (Cert.Pre_finite_sums.fn (F := Ideal) (m ((c.tc : Thread Cert.SumsIdeal.nD Cert.SumsIdeal.τ).loc Cert.SumsIdeal.main_arg0)) (m ((c.tc : Thread Cert.SumsIdeal.nD Cert.SumsIdeal.τ).loc Cert.SumsIdeal.main_arg1)) (m ((c.tc : Thread Cert.SumsIdeal.nD Cert.SumsIdeal.τ).loc Cert.SumsIdeal.main_arg2)) (m ((c.tc : Thread Cert.SumsIdeal.nD Cert.SumsIdeal.τ).loc Cert.SumsIdeal.main_arg3)) (m ((c.tc : Thread Cert.SumsIdeal.nD Cert.SumsIdeal.τ).loc Cert.SumsIdeal.main_arg4)) (m ((c.tc : Thread Cert.SumsIdeal.nD Cert.SumsIdeal.τ).loc Cert.SumsIdeal.main_arg5)) (m ((c.tc : Thread Cert.SumsIdeal.nD Cert.SumsIdeal.τ).loc Cert.SumsIdeal.main_arg6))) = (fun _ => 1#1)

def Pre_SumsRefIdeal (m : (ℓ : Loc Cert.SumsRefIdeal.nD Cert.SumsRefIdeal.τ Cert.SumsRefIdeal.sig) → Buf (Elt Ideal) ℓ) : Prop :=
  True

def Pre_SumsRefIdeal_finite_sums [hPre_finite_sums : Cert.Pre_finite_sums.Facts] (m : (ℓ : Loc Cert.SumsRefIdeal.nD Cert.SumsRefIdeal.τ Cert.SumsRefIdeal.sig) → Buf (Elt Ideal) ℓ) : Prop :=
  ∀ c : Dev Cert.SumsRefIdeal.nD,
    (Cert.Pre_finite_sums.fn (F := Ideal) (m ((c.tc : Thread Cert.SumsRefIdeal.nD Cert.SumsRefIdeal.τ).loc Cert.SumsRefIdeal.main_arg0)) (m ((c.tc : Thread Cert.SumsRefIdeal.nD Cert.SumsRefIdeal.τ).loc Cert.SumsRefIdeal.main_arg1)) (m ((c.tc : Thread Cert.SumsRefIdeal.nD Cert.SumsRefIdeal.τ).loc Cert.SumsRefIdeal.main_arg2)) (m ((c.tc : Thread Cert.SumsRefIdeal.nD Cert.SumsRefIdeal.τ).loc Cert.SumsRefIdeal.main_arg3)) (m ((c.tc : Thread Cert.SumsRefIdeal.nD Cert.SumsRefIdeal.τ).loc Cert.SumsRefIdeal.main_arg4)) (m ((c.tc : Thread Cert.SumsRefIdeal.nD Cert.SumsRefIdeal.τ).loc Cert.SumsRefIdeal.main_arg5)) (m ((c.tc : Thread Cert.SumsRefIdeal.nD Cert.SumsRefIdeal.τ).loc Cert.SumsRefIdeal.main_arg6))) = (fun _ => 1#1)

def Pre_GradSum (m : (ℓ : Loc Cert.GradSum.nD Cert.GradSum.τ Cert.GradSum.sig) → Buf (Elt Bits) ℓ) : Prop :=
  True

def Pre_GradSumIdeal (m : (ℓ : Loc Cert.GradSumIdeal.nD Cert.GradSumIdeal.τ Cert.GradSumIdeal.sig) → Buf (Elt Ideal) ℓ) : Prop :=
  True

def Pre_GradSumRefIdeal (m : (ℓ : Loc Cert.GradSumRefIdeal.nD Cert.GradSumRefIdeal.τ Cert.GradSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2)
      ∧ r.2.mem ((c.tc : Thread Cert.HgrnOut.nD Cert.HgrnOut.τ).loc Cert.HgrnOut.main_arg3) = m ((c.tc : Thread Cert.HgrnOut.nD Cert.HgrnOut.τ).loc Cert.HgrnOut.main_arg3)
      ∧ r.2.mem ((c.tc : Thread Cert.HgrnOut.nD Cert.HgrnOut.τ).loc Cert.HgrnOut.main_arg4) = m ((c.tc : Thread Cert.HgrnOut.nD Cert.HgrnOut.τ).loc Cert.HgrnOut.main_arg4)
      ∧ r.2.mem ((c.tc : Thread Cert.HgrnOut.nD Cert.HgrnOut.τ).loc Cert.HgrnOut.main_arg5) = m ((c.tc : Thread Cert.HgrnOut.nD Cert.HgrnOut.τ).loc Cert.HgrnOut.main_arg5))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
      ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4)
      ∧ r.2.mem ((c.tc : Thread Cert.HgrnOutIdeal.nD Cert.HgrnOutIdeal.τ).loc Cert.HgrnOutIdeal.main_arg5) = m ((c.tc : Thread Cert.HgrnOutIdeal.nD Cert.HgrnOutIdeal.τ).loc Cert.HgrnOutIdeal.main_arg5))
      ∧ r.2.sem = fun _ => 0)

def quiescent_HgrnOutIdeal_pre_finite_hgrn_out [hHgrnOutIdeal : Cert.HgrnOutIdeal.Facts] [hPre_finite_hgrn_out : Cert.Pre_finite_hgrn_out.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal_finite_hgrn_out m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
      ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4)
      ∧ r.2.mem ((c.tc : Thread Cert.HgrnOutIdeal.nD Cert.HgrnOutIdeal.τ).loc Cert.HgrnOutIdeal.main_arg5) = m ((c.tc : Thread Cert.HgrnOutIdeal.nD Cert.HgrnOutIdeal.τ).loc Cert.HgrnOutIdeal.main_arg5))
      ∧ r.2.sem = fun _ => 0)

def quiescent_HgrnOutRefIdeal [hHgrnOutRefIdeal : Cert.HgrnOutRefIdeal.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1)
      ∧ r.2.mem ((c.tc : Thread Cert.HgrnOutRefIdeal.nD Cert.HgrnOutRefIdeal.τ).loc Cert.HgrnOutRefIdeal.main_arg2) = m ((c.tc : Thread Cert.HgrnOutRefIdeal.nD Cert.HgrnOutRefIdeal.τ).loc Cert.HgrnOutRefIdeal.main_arg2)
      ∧ r.2.mem ((c.tc : Thread Cert.HgrnOutRefIdeal.nD Cert.HgrnOutRefIdeal.τ).loc Cert.HgrnOutRefIdeal.main_arg3) = m ((c.tc : Thread Cert.HgrnOutRefIdeal.nD Cert.HgrnOutRefIdeal.τ).loc Cert.HgrnOutRefIdeal.main_arg3)
      ∧ r.2.mem ((c.tc : Thread Cert.HgrnOutRefIdeal.nD Cert.HgrnOutRefIdeal.τ).loc Cert.HgrnOutRefIdeal.main_arg4) = m ((c.tc : Thread Cert.HgrnOutRefIdeal.nD Cert.HgrnOutRefIdeal.τ).loc Cert.HgrnOutRefIdeal.main_arg4)
      ∧ r.2.mem ((c.tc : Thread Cert.HgrnOutRefIdeal.nD Cert.HgrnOutRefIdeal.τ).loc Cert.HgrnOutRefIdeal.main_arg5) = m ((c.tc : Thread Cert.HgrnOutRefIdeal.nD Cert.HgrnOutRefIdeal.τ).loc Cert.HgrnOutRefIdeal.main_arg5))
      ∧ r.2.sem = fun _ => 0)

def quiescent_HgrnOutRefIdeal_pre_finite_hgrn_out [hHgrnOutRefIdeal : Cert.HgrnOutRefIdeal.Facts] [hPre_finite_hgrn_out : Cert.Pre_finite_hgrn_out.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal_finite_hgrn_out m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1)
      ∧ r.2.mem ((c.tc : Thread Cert.HgrnOutRefIdeal.nD Cert.HgrnOutRefIdeal.τ).loc Cert.HgrnOutRefIdeal.main_arg2) = m ((c.tc : Thread Cert.HgrnOutRefIdeal.nD Cert.HgrnOutRefIdeal.τ).loc Cert.HgrnOutRefIdeal.main_arg2)
      ∧ r.2.mem ((c.tc : Thread Cert.HgrnOutRefIdeal.nD Cert.HgrnOutRefIdeal.τ).loc Cert.HgrnOutRefIdeal.main_arg3) = m ((c.tc : Thread Cert.HgrnOutRefIdeal.nD Cert.HgrnOutRefIdeal.τ).loc Cert.HgrnOutRefIdeal.main_arg3)
      ∧ r.2.mem ((c.tc : Thread Cert.HgrnOutRefIdeal.nD Cert.HgrnOutRefIdeal.τ).loc Cert.HgrnOutRefIdeal.main_arg4) = m ((c.tc : Thread Cert.HgrnOutRefIdeal.nD Cert.HgrnOutRefIdeal.τ).loc Cert.HgrnOutRefIdeal.main_arg4)
      ∧ r.2.mem ((c.tc : Thread Cert.HgrnOutRefIdeal.nD Cert.HgrnOutRefIdeal.τ).loc Cert.HgrnOutRefIdeal.main_arg5) = m ((c.tc : Thread Cert.HgrnOutRefIdeal.nD Cert.HgrnOutRefIdeal.τ).loc Cert.HgrnOutRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7))
      ∧ r.2.sem = fun _ => 0)

def quiescent_PoolBack [hPoolBack : Cert.PoolBack.Facts] : Prop :=
  ∀ (m : (ℓ : Loc Cert.PoolBack.nD Cert.PoolBack.τ Cert.PoolBack.sig) → Buf (Elt Bits) ℓ) (g : Dev Cert.PoolBack.nD → PrngReg), Pre_PoolBack m →
    θ_run (Cert.PoolBack.defs (F := Bits)) (onTc (τ := Cert.PoolBack.τ) (Cert.PoolBack.main (F := Bits))) ⟨m, fun _ => 0, g⟩ (fun r => (∀ c : Dev Cert.PoolBack.nD,
      r.2.mem ((c.tc : Thread Cert.PoolBack.nD Cert.PoolBack.τ).loc Cert.PoolBack.main_arg0) = m ((c.tc : Thread Cert.PoolBack.nD Cert.PoolBack.τ).loc Cert.PoolBack.main_arg0)
      ∧ r.2.mem ((c.tc : Thread Cert.PoolBack.nD Cert.PoolBack.τ).loc Cert.PoolBack.main_arg1) = m ((c.tc : Thread Cert.PoolBack.nD Cert.PoolBack.τ).loc Cert.PoolBack.main_arg1)
      ∧ r.2.mem ((c.tc : Thread Cert.PoolBack.nD Cert.PoolBack.τ).loc Cert.PoolBack.main_arg2) = m ((c.tc : Thread Cert.PoolBack.nD Cert.PoolBack.τ).loc Cert.PoolBack.main_arg2)
      ∧ r.2.mem ((c.tc : Thread Cert.PoolBack.nD Cert.PoolBack.τ).loc Cert.PoolBack.main_arg3) = m ((c.tc : Thread Cert.PoolBack.nD Cert.PoolBack.τ).loc Cert.PoolBack.main_arg3)
      ∧ r.2.mem ((c.tc : Thread Cert.PoolBack.nD Cert.PoolBack.τ).loc Cert.PoolBack.main_arg4) = m ((c.tc : Thread Cert.PoolBack.nD Cert.PoolBack.τ).loc Cert.PoolBack.main_arg4)
      ∧ r.2.mem ((c.tc : Thread Cert.PoolBack.nD Cert.PoolBack.τ).loc Cert.PoolBack.main_arg5) = m ((c.tc : Thread Cert.PoolBack.nD Cert.PoolBack.τ).loc Cert.PoolBack.main_arg5))
      ∧ r.2.sem = fun _ => 0)

def quiescent_PoolBackIdeal [hPoolBackIdeal : Cert.PoolBackIdeal.Facts] : Prop :=
  ∀ (m : (ℓ : Loc Cert.PoolBackIdeal.nD Cert.PoolBackIdeal.τ Cert.PoolBackIdeal.sig) → Buf (Elt Ideal) ℓ) (g : Dev Cert.PoolBackIdeal.nD → PrngReg), Pre_PoolBackIdeal m →
    θ_run (Cert.PoolBackIdeal.defs (F := Ideal)) (onTc (τ := Cert.PoolBackIdeal.τ) (Cert.PoolBackIdeal.main (F := Ideal))) ⟨m, fun _ => 0, g⟩ (fun r => (∀ c : Dev Cert.PoolBackIdeal.nD,
      r.2.mem ((c.tc : Thread Cert.PoolBackIdeal.nD Cert.PoolBackIdeal.τ).loc Cert.PoolBackIdeal.main_arg0) = m ((c.tc : Thread Cert.PoolBackIdeal.nD Cert.PoolBackIdeal.τ).loc Cert.PoolBackIdeal.main_arg0)
      ∧ r.2.mem ((c.tc : Thread Cert.PoolBackIdeal.nD Cert.PoolBackIdeal.τ).loc Cert.PoolBackIdeal.main_arg1) = m ((c.tc : Thread Cert.PoolBackIdeal.nD Cert.PoolBackIdeal.τ).loc Cert.PoolBackIdeal.main_arg1)
      ∧ r.2.mem ((c.tc : Thread Cert.PoolBackIdeal.nD Cert.PoolBackIdeal.τ).loc Cert.PoolBackIdeal.main_arg2) = m ((c.tc : Thread Cert.PoolBackIdeal.nD Cert.PoolBackIdeal.τ).loc Cert.PoolBackIdeal.main_arg2)
      ∧ r.2.mem ((c.tc : Thread Cert.PoolBackIdeal.nD Cert.PoolBackIdeal.τ).loc Cert.PoolBackIdeal.main_arg3) = m ((c.tc : Thread Cert.PoolBackIdeal.nD Cert.PoolBackIdeal.τ).loc Cert.PoolBackIdeal.main_arg3)
      ∧ r.2.mem ((c.tc : Thread Cert.PoolBackIdeal.nD Cert.PoolBackIdeal.τ).loc Cert.PoolBackIdeal.main_arg4) = m ((c.tc : Thread Cert.PoolBackIdeal.nD Cert.PoolBackIdeal.τ).loc Cert.PoolBackIdeal.main_arg4)
      ∧ r.2.mem ((c.tc : Thread Cert.PoolBackIdeal.nD Cert.PoolBackIdeal.τ).loc Cert.PoolBackIdeal.main_arg5) = m ((c.tc : Thread Cert.PoolBackIdeal.nD Cert.PoolBackIdeal.τ).loc Cert.PoolBackIdeal.main_arg5))
      ∧ r.2.sem = fun _ => 0)

def quiescent_PoolBackIdeal_pre_finite_pool [hPoolBackIdeal : Cert.PoolBackIdeal.Facts] [hPre_finite_pool : Cert.Pre_finite_pool.Facts] : Prop :=
  ∀ (m : (ℓ : Loc Cert.PoolBackIdeal.nD Cert.PoolBackIdeal.τ Cert.PoolBackIdeal.sig) → Buf (Elt Ideal) ℓ) (g : Dev Cert.PoolBackIdeal.nD → PrngReg), Pre_PoolBackIdeal_finite_pool m →
    θ_run (Cert.PoolBackIdeal.defs (F := Ideal)) (onTc (τ := Cert.PoolBackIdeal.τ) (Cert.PoolBackIdeal.main (F := Ideal))) ⟨m, fun _ => 0, g⟩ (fun r => (∀ c : Dev Cert.PoolBackIdeal.nD,
      r.2.mem ((c.tc : Thread Cert.PoolBackIdeal.nD Cert.PoolBackIdeal.τ).loc Cert.PoolBackIdeal.main_arg0) = m ((c.tc : Thread Cert.PoolBackIdeal.nD Cert.PoolBackIdeal.τ).loc Cert.PoolBackIdeal.main_arg0)
      ∧ r.2.mem ((c.tc : Thread Cert.PoolBackIdeal.nD Cert.PoolBackIdeal.τ).loc Cert.PoolBackIdeal.main_arg1) = m ((c.tc : Thread Cert.PoolBackIdeal.nD Cert.PoolBackIdeal.τ).loc Cert.PoolBackIdeal.main_arg1)
      ∧ r.2.mem ((c.tc : Thread Cert.PoolBackIdeal.nD Cert.PoolBackIdeal.τ).loc Cert.PoolBackIdeal.main_arg2) = m ((c.tc : Thread Cert.PoolBackIdeal.nD Cert.PoolBackIdeal.τ).loc Cert.PoolBackIdeal.main_arg2)
      ∧ r.2.mem ((c.tc : Thread Cert.PoolBackIdeal.nD Cert.PoolBackIdeal.τ).loc Cert.PoolBackIdeal.main_arg3) = m ((c.tc : Thread Cert.PoolBackIdeal.nD Cert.PoolBackIdeal.τ).loc Cert.PoolBackIdeal.main_arg3)
      ∧ r.2.mem ((c.tc : Thread Cert.PoolBackIdeal.nD Cert.PoolBackIdeal.τ).loc Cert.PoolBackIdeal.main_arg4) = m ((c.tc : Thread Cert.PoolBackIdeal.nD Cert.PoolBackIdeal.τ).loc Cert.PoolBackIdeal.main_arg4)
      ∧ r.2.mem ((c.tc : Thread Cert.PoolBackIdeal.nD Cert.PoolBackIdeal.τ).loc Cert.PoolBackIdeal.main_arg5) = m ((c.tc : Thread Cert.PoolBackIdeal.nD Cert.PoolBackIdeal.τ).loc Cert.PoolBackIdeal.main_arg5))
      ∧ r.2.sem = fun _ => 0)

def quiescent_PoolBackRefIdeal [hPoolBackRefIdeal : Cert.PoolBackRefIdeal.Facts] : Prop :=
  ∀ (m : (ℓ : Loc Cert.PoolBackRefIdeal.nD Cert.PoolBackRefIdeal.τ Cert.PoolBackRefIdeal.sig) → Buf (Elt Ideal) ℓ) (g : Dev Cert.PoolBackRefIdeal.nD → PrngReg), Pre_PoolBackRefIdeal m →
    θ_run (Cert.PoolBackRefIdeal.defs (F := Ideal)) (onTc (τ := Cert.PoolBackRefIdeal.τ) (Cert.PoolBackRefIdeal.main (F := Ideal))) ⟨m, fun _ => 0, g⟩ (fun r => (∀ c : Dev Cert.PoolBackRefIdeal.nD,
      r.2.mem ((c.tc : Thread Cert.PoolBackRefIdeal.nD Cert.PoolBackRefIdeal.τ).loc Cert.PoolBackRefIdeal.main_arg0) = m ((c.tc : Thread Cert.PoolBackRefIdeal.nD Cert.PoolBackRefIdeal.τ).loc Cert.PoolBackRefIdeal.main_arg0)
      ∧ r.2.mem ((c.tc : Thread Cert.PoolBackRefIdeal.nD Cert.PoolBackRefIdeal.τ).loc Cert.PoolBackRefIdeal.main_arg1) = m ((c.tc : Thread Cert.PoolBackRefIdeal.nD Cert.PoolBackRefIdeal.τ).loc Cert.PoolBackRefIdeal.main_arg1)
      ∧ r.2.mem ((c.tc : Thread Cert.PoolBackRefIdeal.nD Cert.PoolBackRefIdeal.τ).loc Cert.PoolBackRefIdeal.main_arg2) = m ((c.tc : Thread Cert.PoolBackRefIdeal.nD Cert.PoolBackRefIdeal.τ).loc Cert.PoolBackRefIdeal.main_arg2)
      ∧ r.2.mem ((c.tc : Thread Cert.PoolBackRefIdeal.nD Cert.PoolBackRefIdeal.τ).loc Cert.PoolBackRefIdeal.main_arg3) = m ((c.tc : Thread Cert.PoolBackRefIdeal.nD Cert.PoolBackRefIdeal.τ).loc Cert.PoolBackRefIdeal.main_arg3)
      ∧ r.2.mem ((c.tc : Thread Cert.PoolBackRefIdeal.nD Cert.PoolBackRefIdeal.τ).loc Cert.PoolBackRefIdeal.main_arg4) = m ((c.tc : Thread Cert.PoolBackRefIdeal.nD Cert.PoolBackRefIdeal.τ).loc Cert.PoolBackRefIdeal.main_arg4)
      ∧ r.2.mem ((c.tc : Thread Cert.PoolBackRefIdeal.nD Cert.PoolBackRefIdeal.τ).loc Cert.PoolBackRefIdeal.main_arg5) = m ((c.tc : Thread Cert.PoolBackRefIdeal.nD Cert.PoolBackRefIdeal.τ).loc Cert.PoolBackRefIdeal.main_arg5))
      ∧ r.2.sem = fun _ => 0)

def quiescent_PoolBackRefIdeal_pre_finite_pool [hPoolBackRefIdeal : Cert.PoolBackRefIdeal.Facts] [hPre_finite_pool : Cert.Pre_finite_pool.Facts] : Prop :=
  ∀ (m : (ℓ : Loc Cert.PoolBackRefIdeal.nD Cert.PoolBackRefIdeal.τ Cert.PoolBackRefIdeal.sig) → Buf (Elt Ideal) ℓ) (g : Dev Cert.PoolBackRefIdeal.nD → PrngReg), Pre_PoolBackRefIdeal_finite_pool m →
    θ_run (Cert.PoolBackRefIdeal.defs (F := Ideal)) (onTc (τ := Cert.PoolBackRefIdeal.τ) (Cert.PoolBackRefIdeal.main (F := Ideal))) ⟨m, fun _ => 0, g⟩ (fun r => (∀ c : Dev Cert.PoolBackRefIdeal.nD,
      r.2.mem ((c.tc : Thread Cert.PoolBackRefIdeal.nD Cert.PoolBackRefIdeal.τ).loc Cert.PoolBackRefIdeal.main_arg0) = m ((c.tc : Thread Cert.PoolBackRefIdeal.nD Cert.PoolBackRefIdeal.τ).loc Cert.PoolBackRefIdeal.main_arg0)
      ∧ r.2.mem ((c.tc : Thread Cert.PoolBackRefIdeal.nD Cert.PoolBackRefIdeal.τ).loc Cert.PoolBackRefIdeal.main_arg1) = m ((c.tc : Thread Cert.PoolBackRefIdeal.nD Cert.PoolBackRefIdeal.τ).loc Cert.PoolBackRefIdeal.main_arg1)
      ∧ r.2.mem ((c.tc : Thread Cert.PoolBackRefIdeal.nD Cert.PoolBackRefIdeal.τ).loc Cert.PoolBackRefIdeal.main_arg2) = m ((c.tc : Thread Cert.PoolBackRefIdeal.nD Cert.PoolBackRefIdeal.τ).loc Cert.PoolBackRefIdeal.main_arg2)
      ∧ r.2.mem ((c.tc : Thread Cert.PoolBackRefIdeal.nD Cert.PoolBackRefIdeal.τ).loc Cert.PoolBackRefIdeal.main_arg3) = m ((c.tc : Thread Cert.PoolBackRefIdeal.nD Cert.PoolBackRefIdeal.τ).loc Cert.PoolBackRefIdeal.main_arg3)
      ∧ r.2.mem ((c.tc : Thread Cert.PoolBackRefIdeal.nD Cert.PoolBackRefIdeal.τ).loc Cert.PoolBackRefIdeal.main_arg4) = m ((c.tc : Thread Cert.PoolBackRefIdeal.nD Cert.PoolBackRefIdeal.τ).loc Cert.PoolBackRefIdeal.main_arg4)
      ∧ r.2.mem ((c.tc : Thread Cert.PoolBackRefIdeal.nD Cert.PoolBackRefIdeal.τ).loc Cert.PoolBackRefIdeal.main_arg5) = m ((c.tc : Thread Cert.PoolBackRefIdeal.nD Cert.PoolBackRefIdeal.τ).loc Cert.PoolBackRefIdeal.main_arg5))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1)
      ∧ r.2.mem ((c.tc : Thread Cert.HgrnIn.nD Cert.HgrnIn.τ).loc Cert.HgrnIn.main_arg2) = m ((c.tc : Thread Cert.HgrnIn.nD Cert.HgrnIn.τ).loc Cert.HgrnIn.main_arg2)
      ∧ r.2.mem ((c.tc : Thread Cert.HgrnIn.nD Cert.HgrnIn.τ).loc Cert.HgrnIn.main_arg3) = m ((c.tc : Thread Cert.HgrnIn.nD Cert.HgrnIn.τ).loc Cert.HgrnIn.main_arg3)
      ∧ r.2.mem ((c.tc : Thread Cert.HgrnIn.nD Cert.HgrnIn.τ).loc Cert.HgrnIn.main_arg4) = m ((c.tc : Thread Cert.HgrnIn.nD Cert.HgrnIn.τ).loc Cert.HgrnIn.main_arg4)
      ∧ r.2.mem ((c.tc : Thread Cert.HgrnIn.nD Cert.HgrnIn.τ).loc Cert.HgrnIn.main_arg5) = m ((c.tc : Thread Cert.HgrnIn.nD Cert.HgrnIn.τ).loc Cert.HgrnIn.main_arg5)
      ∧ r.2.mem ((c.tc : Thread Cert.HgrnIn.nD Cert.HgrnIn.τ).loc Cert.HgrnIn.main_arg6) = m ((c.tc : Thread Cert.HgrnIn.nD Cert.HgrnIn.τ).loc Cert.HgrnIn.main_arg6)
      ∧ r.2.mem ((c.tc : Thread Cert.HgrnIn.nD Cert.HgrnIn.τ).loc Cert.HgrnIn.main_arg7) = m ((c.tc : Thread Cert.HgrnIn.nD Cert.HgrnIn.τ).loc Cert.HgrnIn.main_arg7)
      ∧ r.2.mem ((c.tc : Thread Cert.HgrnIn.nD Cert.HgrnIn.τ).loc Cert.HgrnIn.main_arg8) = m ((c.tc : Thread Cert.HgrnIn.nD Cert.HgrnIn.τ).loc Cert.HgrnIn.main_arg8)
      ∧ r.2.mem ((c.tc : Thread Cert.HgrnIn.nD Cert.HgrnIn.τ).loc Cert.HgrnIn.main_arg9) = m ((c.tc : Thread Cert.HgrnIn.nD Cert.HgrnIn.τ).loc Cert.HgrnIn.main_arg9)
      ∧ r.2.mem ((c.tc : Thread Cert.HgrnIn.nD Cert.HgrnIn.τ).loc Cert.HgrnIn.main_arg10) = m ((c.tc : Thread Cert.HgrnIn.nD Cert.HgrnIn.τ).loc Cert.HgrnIn.main_arg10))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
      ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
      ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3)
      ∧ r.2.mem ((c.tc : Thread Cert.HgrnInIdeal.nD Cert.HgrnInIdeal.τ).loc Cert.HgrnInIdeal.main_arg4) = m ((c.tc : Thread Cert.HgrnInIdeal.nD Cert.HgrnInIdeal.τ).loc Cert.HgrnInIdeal.main_arg4)
      ∧ r.2.mem ((c.tc : Thread Cert.HgrnInIdeal.nD Cert.HgrnInIdeal.τ).loc Cert.HgrnInIdeal.main_arg5) = m ((c.tc : Thread Cert.HgrnInIdeal.nD Cert.HgrnInIdeal.τ).loc Cert.HgrnInIdeal.main_arg5)
      ∧ r.2.mem ((c.tc : Thread Cert.HgrnInIdeal.nD Cert.HgrnInIdeal.τ).loc Cert.HgrnInIdeal.main_arg6) = m ((c.tc : Thread Cert.HgrnInIdeal.nD Cert.HgrnInIdeal.τ).loc Cert.HgrnInIdeal.main_arg6)
      ∧ r.2.mem ((c.tc : Thread Cert.HgrnInIdeal.nD Cert.HgrnInIdeal.τ).loc Cert.HgrnInIdeal.main_arg7) = m ((c.tc : Thread Cert.HgrnInIdeal.nD Cert.HgrnInIdeal.τ).loc Cert.HgrnInIdeal.main_arg7)
      ∧ r.2.mem ((c.tc : Thread Cert.HgrnInIdeal.nD Cert.HgrnInIdeal.τ).loc Cert.HgrnInIdeal.main_arg8) = m ((c.tc : Thread Cert.HgrnInIdeal.nD Cert.HgrnInIdeal.τ).loc Cert.HgrnInIdeal.main_arg8)
      ∧ r.2.mem ((c.tc : Thread Cert.HgrnInIdeal.nD Cert.HgrnInIdeal.τ).loc Cert.HgrnInIdeal.main_arg9) = m ((c.tc : Thread Cert.HgrnInIdeal.nD Cert.HgrnInIdeal.τ).loc Cert.HgrnInIdeal.main_arg9)
      ∧ r.2.mem ((c.tc : Thread Cert.HgrnInIdeal.nD Cert.HgrnInIdeal.τ).loc Cert.HgrnInIdeal.main_arg10) = m ((c.tc : Thread Cert.HgrnInIdeal.nD Cert.HgrnInIdeal.τ).loc Cert.HgrnInIdeal.main_arg10))
      ∧ r.2.sem = fun _ => 0)

def quiescent_HgrnInIdeal_pre_finite_hgrn_in [hHgrnInIdeal : Cert.HgrnInIdeal.Facts] [hPre_finite_hgrn_in : Cert.Pre_finite_hgrn_in.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal_finite_hgrn_in m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
      ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
      ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3)
      ∧ r.2.mem ((c.tc : Thread Cert.HgrnInIdeal.nD Cert.HgrnInIdeal.τ).loc Cert.HgrnInIdeal.main_arg4) = m ((c.tc : Thread Cert.HgrnInIdeal.nD Cert.HgrnInIdeal.τ).loc Cert.HgrnInIdeal.main_arg4)
      ∧ r.2.mem ((c.tc : Thread Cert.HgrnInIdeal.nD Cert.HgrnInIdeal.τ).loc Cert.HgrnInIdeal.main_arg5) = m ((c.tc : Thread Cert.HgrnInIdeal.nD Cert.HgrnInIdeal.τ).loc Cert.HgrnInIdeal.main_arg5)
      ∧ r.2.mem ((c.tc : Thread Cert.HgrnInIdeal.nD Cert.HgrnInIdeal.τ).loc Cert.HgrnInIdeal.main_arg6) = m ((c.tc : Thread Cert.HgrnInIdeal.nD Cert.HgrnInIdeal.τ).loc Cert.HgrnInIdeal.main_arg6)
      ∧ r.2.mem ((c.tc : Thread Cert.HgrnInIdeal.nD Cert.HgrnInIdeal.τ).loc Cert.HgrnInIdeal.main_arg7) = m ((c.tc : Thread Cert.HgrnInIdeal.nD Cert.HgrnInIdeal.τ).loc Cert.HgrnInIdeal.main_arg7)
      ∧ r.2.mem ((c.tc : Thread Cert.HgrnInIdeal.nD Cert.HgrnInIdeal.τ).loc Cert.HgrnInIdeal.main_arg8) = m ((c.tc : Thread Cert.HgrnInIdeal.nD Cert.HgrnInIdeal.τ).loc Cert.HgrnInIdeal.main_arg8)
      ∧ r.2.mem ((c.tc : Thread Cert.HgrnInIdeal.nD Cert.HgrnInIdeal.τ).loc Cert.HgrnInIdeal.main_arg9) = m ((c.tc : Thread Cert.HgrnInIdeal.nD Cert.HgrnInIdeal.τ).loc Cert.HgrnInIdeal.main_arg9)
      ∧ r.2.mem ((c.tc : Thread Cert.HgrnInIdeal.nD Cert.HgrnInIdeal.τ).loc Cert.HgrnInIdeal.main_arg10) = m ((c.tc : Thread Cert.HgrnInIdeal.nD Cert.HgrnInIdeal.τ).loc Cert.HgrnInIdeal.main_arg10))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1)
      ∧ r.2.mem ((c.tc : Thread Cert.HgrnInRefIdeal.nD Cert.HgrnInRefIdeal.τ).loc Cert.HgrnInRefIdeal.main_arg2) = m ((c.tc : Thread Cert.HgrnInRefIdeal.nD Cert.HgrnInRefIdeal.τ).loc Cert.HgrnInRefIdeal.main_arg2)
      ∧ r.2.mem ((c.tc : Thread Cert.HgrnInRefIdeal.nD Cert.HgrnInRefIdeal.τ).loc Cert.HgrnInRefIdeal.main_arg3) = m ((c.tc : Thread Cert.HgrnInRefIdeal.nD Cert.HgrnInRefIdeal.τ).loc Cert.HgrnInRefIdeal.main_arg3)
      ∧ r.2.mem ((c.tc : Thread Cert.HgrnInRefIdeal.nD Cert.HgrnInRefIdeal.τ).loc Cert.HgrnInRefIdeal.main_arg4) = m ((c.tc : Thread Cert.HgrnInRefIdeal.nD Cert.HgrnInRefIdeal.τ).loc Cert.HgrnInRefIdeal.main_arg4)
      ∧ r.2.mem ((c.tc : Thread Cert.HgrnInRefIdeal.nD Cert.HgrnInRefIdeal.τ).loc Cert.HgrnInRefIdeal.main_arg5) = m ((c.tc : Thread Cert.HgrnInRefIdeal.nD Cert.HgrnInRefIdeal.τ).loc Cert.HgrnInRefIdeal.main_arg5)
      ∧ r.2.mem ((c.tc : Thread Cert.HgrnInRefIdeal.nD Cert.HgrnInRefIdeal.τ).loc Cert.HgrnInRefIdeal.main_arg6) = m ((c.tc : Thread Cert.HgrnInRefIdeal.nD Cert.HgrnInRefIdeal.τ).loc Cert.HgrnInRefIdeal.main_arg6)
      ∧ r.2.mem ((c.tc : Thread Cert.HgrnInRefIdeal.nD Cert.HgrnInRefIdeal.τ).loc Cert.HgrnInRefIdeal.main_arg7) = m ((c.tc : Thread Cert.HgrnInRefIdeal.nD Cert.HgrnInRefIdeal.τ).loc Cert.HgrnInRefIdeal.main_arg7)
      ∧ r.2.mem ((c.tc : Thread Cert.HgrnInRefIdeal.nD Cert.HgrnInRefIdeal.τ).loc Cert.HgrnInRefIdeal.main_arg8) = m ((c.tc : Thread Cert.HgrnInRefIdeal.nD Cert.HgrnInRefIdeal.τ).loc Cert.HgrnInRefIdeal.main_arg8)
      ∧ r.2.mem ((c.tc : Thread Cert.HgrnInRefIdeal.nD Cert.HgrnInRefIdeal.τ).loc Cert.HgrnInRefIdeal.main_arg9) = m ((c.tc : Thread Cert.HgrnInRefIdeal.nD Cert.HgrnInRefIdeal.τ).loc Cert.HgrnInRefIdeal.main_arg9)
      ∧ r.2.mem ((c.tc : Thread Cert.HgrnInRefIdeal.nD Cert.HgrnInRefIdeal.τ).loc Cert.HgrnInRefIdeal.main_arg10) = m ((c.tc : Thread Cert.HgrnInRefIdeal.nD Cert.HgrnInRefIdeal.τ).loc Cert.HgrnInRefIdeal.main_arg10))
      ∧ r.2.sem = fun _ => 0)

def quiescent_HgrnInRefIdeal_pre_finite_hgrn_in [hHgrnInRefIdeal : Cert.HgrnInRefIdeal.Facts] [hPre_finite_hgrn_in : Cert.Pre_finite_hgrn_in.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal_finite_hgrn_in m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1)
      ∧ r.2.mem ((c.tc : Thread Cert.HgrnInRefIdeal.nD Cert.HgrnInRefIdeal.τ).loc Cert.HgrnInRefIdeal.main_arg2) = m ((c.tc : Thread Cert.HgrnInRefIdeal.nD Cert.HgrnInRefIdeal.τ).loc Cert.HgrnInRefIdeal.main_arg2)
      ∧ r.2.mem ((c.tc : Thread Cert.HgrnInRefIdeal.nD Cert.HgrnInRefIdeal.τ).loc Cert.HgrnInRefIdeal.main_arg3) = m ((c.tc : Thread Cert.HgrnInRefIdeal.nD Cert.HgrnInRefIdeal.τ).loc Cert.HgrnInRefIdeal.main_arg3)
      ∧ r.2.mem ((c.tc : Thread Cert.HgrnInRefIdeal.nD Cert.HgrnInRefIdeal.τ).loc Cert.HgrnInRefIdeal.main_arg4) = m ((c.tc : Thread Cert.HgrnInRefIdeal.nD Cert.HgrnInRefIdeal.τ).loc Cert.HgrnInRefIdeal.main_arg4)
      ∧ r.2.mem ((c.tc : Thread Cert.HgrnInRefIdeal.nD Cert.HgrnInRefIdeal.τ).loc Cert.HgrnInRefIdeal.main_arg5) = m ((c.tc : Thread Cert.HgrnInRefIdeal.nD Cert.HgrnInRefIdeal.τ).loc Cert.HgrnInRefIdeal.main_arg5)
      ∧ r.2.mem ((c.tc : Thread Cert.HgrnInRefIdeal.nD Cert.HgrnInRefIdeal.τ).loc Cert.HgrnInRefIdeal.main_arg6) = m ((c.tc : Thread Cert.HgrnInRefIdeal.nD Cert.HgrnInRefIdeal.τ).loc Cert.HgrnInRefIdeal.main_arg6)
      ∧ r.2.mem ((c.tc : Thread Cert.HgrnInRefIdeal.nD Cert.HgrnInRefIdeal.τ).loc Cert.HgrnInRefIdeal.main_arg7) = m ((c.tc : Thread Cert.HgrnInRefIdeal.nD Cert.HgrnInRefIdeal.τ).loc Cert.HgrnInRefIdeal.main_arg7)
      ∧ r.2.mem ((c.tc : Thread Cert.HgrnInRefIdeal.nD Cert.HgrnInRefIdeal.τ).loc Cert.HgrnInRefIdeal.main_arg8) = m ((c.tc : Thread Cert.HgrnInRefIdeal.nD Cert.HgrnInRefIdeal.τ).loc Cert.HgrnInRefIdeal.main_arg8)
      ∧ r.2.mem ((c.tc : Thread Cert.HgrnInRefIdeal.nD Cert.HgrnInRefIdeal.τ).loc Cert.HgrnInRefIdeal.main_arg9) = m ((c.tc : Thread Cert.HgrnInRefIdeal.nD Cert.HgrnInRefIdeal.τ).loc Cert.HgrnInRefIdeal.main_arg9)
      ∧ r.2.mem ((c.tc : Thread Cert.HgrnInRefIdeal.nD Cert.HgrnInRefIdeal.τ).loc Cert.HgrnInRefIdeal.main_arg10) = m ((c.tc : Thread Cert.HgrnInRefIdeal.nD Cert.HgrnInRefIdeal.τ).loc Cert.HgrnInRefIdeal.main_arg10))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaIdeal_pre_finite_ada [hAdaIdeal : Cert.AdaIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_finite_ada m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_AdaRefIdeal_pre_finite_ada [hAdaRefIdeal : Cert.AdaRefIdeal.Facts] [hPre_finite_ada : Cert.Pre_finite_ada.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_finite_ada m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4))
      ∧ r.2.sem = fun _ => 0)

def quiescent_HgrnOutFwd [hHgrnOutFwd : Cert.HgrnOutFwd.Facts] : Prop :=
  ∀ (m : (ℓ : Loc Cert.HgrnOutFwd.nD Cert.HgrnOutFwd.τ Cert.HgrnOutFwd.sig) → Buf (Elt Bits) ℓ) (g : Dev Cert.HgrnOutFwd.nD → PrngReg), Pre_HgrnOutFwd m →
    θ_run (Cert.HgrnOutFwd.defs (F := Bits)) (onTc (τ := Cert.HgrnOutFwd.τ) (Cert.HgrnOutFwd.main (F := Bits))) ⟨m, fun _ => 0, g⟩ (fun r => (∀ c : Dev Cert.HgrnOutFwd.nD,
      r.2.mem ((c.tc : Thread Cert.HgrnOutFwd.nD Cert.HgrnOutFwd.τ).loc Cert.HgrnOutFwd.main_arg0) = m ((c.tc : Thread Cert.HgrnOutFwd.nD Cert.HgrnOutFwd.τ).loc Cert.HgrnOutFwd.main_arg0)
      ∧ r.2.mem ((c.tc : Thread Cert.HgrnOutFwd.nD Cert.HgrnOutFwd.τ).loc Cert.HgrnOutFwd.main_arg1) = m ((c.tc : Thread Cert.HgrnOutFwd.nD Cert.HgrnOutFwd.τ).loc Cert.HgrnOutFwd.main_arg1)
      ∧ r.2.mem ((c.tc : Thread Cert.HgrnOutFwd.nD Cert.HgrnOutFwd.τ).loc Cert.HgrnOutFwd.main_arg2) = m ((c.tc : Thread Cert.HgrnOutFwd.nD Cert.HgrnOutFwd.τ).loc Cert.HgrnOutFwd.main_arg2)
      ∧ r.2.mem ((c.tc : Thread Cert.HgrnOutFwd.nD Cert.HgrnOutFwd.τ).loc Cert.HgrnOutFwd.main_arg3) = m ((c.tc : Thread Cert.HgrnOutFwd.nD Cert.HgrnOutFwd.τ).loc Cert.HgrnOutFwd.main_arg3)
      ∧ r.2.mem ((c.tc : Thread Cert.HgrnOutFwd.nD Cert.HgrnOutFwd.τ).loc Cert.HgrnOutFwd.main_arg4) = m ((c.tc : Thread Cert.HgrnOutFwd.nD Cert.HgrnOutFwd.τ).loc Cert.HgrnOutFwd.main_arg4)
      ∧ r.2.mem ((c.tc : Thread Cert.HgrnOutFwd.nD Cert.HgrnOutFwd.τ).loc Cert.HgrnOutFwd.main_arg5) = m ((c.tc : Thread Cert.HgrnOutFwd.nD Cert.HgrnOutFwd.τ).loc Cert.HgrnOutFwd.main_arg5))
      ∧ r.2.sem = fun _ => 0)

def quiescent_HgrnOutFwdIdeal [hHgrnOutFwdIdeal : Cert.HgrnOutFwdIdeal.Facts] : Prop :=
  ∀ (m : (ℓ : Loc Cert.HgrnOutFwdIdeal.nD Cert.HgrnOutFwdIdeal.τ Cert.HgrnOutFwdIdeal.sig) → Buf (Elt Ideal) ℓ) (g : Dev Cert.HgrnOutFwdIdeal.nD → PrngReg), Pre_HgrnOutFwdIdeal m →
    θ_run (Cert.HgrnOutFwdIdeal.defs (F := Ideal)) (onTc (τ := Cert.HgrnOutFwdIdeal.τ) (Cert.HgrnOutFwdIdeal.main (F := Ideal))) ⟨m, fun _ => 0, g⟩ (fun r => (∀ c : Dev Cert.HgrnOutFwdIdeal.nD,
      r.2.mem ((c.tc : Thread Cert.HgrnOutFwdIdeal.nD Cert.HgrnOutFwdIdeal.τ).loc Cert.HgrnOutFwdIdeal.main_arg0) = m ((c.tc : Thread Cert.HgrnOutFwdIdeal.nD Cert.HgrnOutFwdIdeal.τ).loc Cert.HgrnOutFwdIdeal.main_arg0)
      ∧ r.2.mem ((c.tc : Thread Cert.HgrnOutFwdIdeal.nD Cert.HgrnOutFwdIdeal.τ).loc Cert.HgrnOutFwdIdeal.main_arg1) = m ((c.tc : Thread Cert.HgrnOutFwdIdeal.nD Cert.HgrnOutFwdIdeal.τ).loc Cert.HgrnOutFwdIdeal.main_arg1)
      ∧ r.2.mem ((c.tc : Thread Cert.HgrnOutFwdIdeal.nD Cert.HgrnOutFwdIdeal.τ).loc Cert.HgrnOutFwdIdeal.main_arg2) = m ((c.tc : Thread Cert.HgrnOutFwdIdeal.nD Cert.HgrnOutFwdIdeal.τ).loc Cert.HgrnOutFwdIdeal.main_arg2)
      ∧ r.2.mem ((c.tc : Thread Cert.HgrnOutFwdIdeal.nD Cert.HgrnOutFwdIdeal.τ).loc Cert.HgrnOutFwdIdeal.main_arg3) = m ((c.tc : Thread Cert.HgrnOutFwdIdeal.nD Cert.HgrnOutFwdIdeal.τ).loc Cert.HgrnOutFwdIdeal.main_arg3)
      ∧ r.2.mem ((c.tc : Thread Cert.HgrnOutFwdIdeal.nD Cert.HgrnOutFwdIdeal.τ).loc Cert.HgrnOutFwdIdeal.main_arg4) = m ((c.tc : Thread Cert.HgrnOutFwdIdeal.nD Cert.HgrnOutFwdIdeal.τ).loc Cert.HgrnOutFwdIdeal.main_arg4)
      ∧ r.2.mem ((c.tc : Thread Cert.HgrnOutFwdIdeal.nD Cert.HgrnOutFwdIdeal.τ).loc Cert.HgrnOutFwdIdeal.main_arg5) = m ((c.tc : Thread Cert.HgrnOutFwdIdeal.nD Cert.HgrnOutFwdIdeal.τ).loc Cert.HgrnOutFwdIdeal.main_arg5))
      ∧ r.2.sem = fun _ => 0)

def quiescent_HgrnOutFwdRefIdeal [hHgrnOutFwdRefIdeal : Cert.HgrnOutFwdRefIdeal.Facts] : Prop :=
  ∀ (m : (ℓ : Loc Cert.HgrnOutFwdRefIdeal.nD Cert.HgrnOutFwdRefIdeal.τ Cert.HgrnOutFwdRefIdeal.sig) → Buf (Elt Ideal) ℓ) (g : Dev Cert.HgrnOutFwdRefIdeal.nD → PrngReg), Pre_HgrnOutFwdRefIdeal m →
    θ_run (Cert.HgrnOutFwdRefIdeal.defs (F := Ideal)) (onTc (τ := Cert.HgrnOutFwdRefIdeal.τ) (Cert.HgrnOutFwdRefIdeal.main (F := Ideal))) ⟨m, fun _ => 0, g⟩ (fun r => (∀ c : Dev Cert.HgrnOutFwdRefIdeal.nD,
      r.2.mem ((c.tc : Thread Cert.HgrnOutFwdRefIdeal.nD Cert.HgrnOutFwdRefIdeal.τ).loc Cert.HgrnOutFwdRefIdeal.main_arg0) = m ((c.tc : Thread Cert.HgrnOutFwdRefIdeal.nD Cert.HgrnOutFwdRefIdeal.τ).loc Cert.HgrnOutFwdRefIdeal.main_arg0)
      ∧ r.2.mem ((c.tc : Thread Cert.HgrnOutFwdRefIdeal.nD Cert.HgrnOutFwdRefIdeal.τ).loc Cert.HgrnOutFwdRefIdeal.main_arg1) = m ((c.tc : Thread Cert.HgrnOutFwdRefIdeal.nD Cert.HgrnOutFwdRefIdeal.τ).loc Cert.HgrnOutFwdRefIdeal.main_arg1)
      ∧ r.2.mem ((c.tc : Thread Cert.HgrnOutFwdRefIdeal.nD Cert.HgrnOutFwdRefIdeal.τ).loc Cert.HgrnOutFwdRefIdeal.main_arg2) = m ((c.tc : Thread Cert.HgrnOutFwdRefIdeal.nD Cert.HgrnOutFwdRefIdeal.τ).loc Cert.HgrnOutFwdRefIdeal.main_arg2)
      ∧ r.2.mem ((c.tc : Thread Cert.HgrnOutFwdRefIdeal.nD Cert.HgrnOutFwdRefIdeal.τ).loc Cert.HgrnOutFwdRefIdeal.main_arg3) = m ((c.tc : Thread Cert.HgrnOutFwdRefIdeal.nD Cert.HgrnOutFwdRefIdeal.τ).loc Cert.HgrnOutFwdRefIdeal.main_arg3)
      ∧ r.2.mem ((c.tc : Thread Cert.HgrnOutFwdRefIdeal.nD Cert.HgrnOutFwdRefIdeal.τ).loc Cert.HgrnOutFwdRefIdeal.main_arg4) = m ((c.tc : Thread Cert.HgrnOutFwdRefIdeal.nD Cert.HgrnOutFwdRefIdeal.τ).loc Cert.HgrnOutFwdRefIdeal.main_arg4)
      ∧ r.2.mem ((c.tc : Thread Cert.HgrnOutFwdRefIdeal.nD Cert.HgrnOutFwdRefIdeal.τ).loc Cert.HgrnOutFwdRefIdeal.main_arg5) = m ((c.tc : Thread Cert.HgrnOutFwdRefIdeal.nD Cert.HgrnOutFwdRefIdeal.τ).loc Cert.HgrnOutFwdRefIdeal.main_arg5))
      ∧ r.2.sem = fun _ => 0)

def quiescent_PoolInFwd [hPoolInFwd : Cert.PoolInFwd.Facts] : Prop :=
  ∀ (m : (ℓ : Loc Cert.PoolInFwd.nD Cert.PoolInFwd.τ Cert.PoolInFwd.sig) → Buf (Elt Bits) ℓ) (g : Dev Cert.PoolInFwd.nD → PrngReg), Pre_PoolInFwd m →
    θ_run (Cert.PoolInFwd.defs (F := Bits)) (onTc (τ := Cert.PoolInFwd.τ) (Cert.PoolInFwd.main (F := Bits))) ⟨m, fun _ => 0, g⟩ (fun r => (∀ c : Dev Cert.PoolInFwd.nD,
      r.2.mem ((c.tc : Thread Cert.PoolInFwd.nD Cert.PoolInFwd.τ).loc Cert.PoolInFwd.main_arg0) = m ((c.tc : Thread Cert.PoolInFwd.nD Cert.PoolInFwd.τ).loc Cert.PoolInFwd.main_arg0)
      ∧ r.2.mem ((c.tc : Thread Cert.PoolInFwd.nD Cert.PoolInFwd.τ).loc Cert.PoolInFwd.main_arg1) = m ((c.tc : Thread Cert.PoolInFwd.nD Cert.PoolInFwd.τ).loc Cert.PoolInFwd.main_arg1)
      ∧ r.2.mem ((c.tc : Thread Cert.PoolInFwd.nD Cert.PoolInFwd.τ).loc Cert.PoolInFwd.main_arg2) = m ((c.tc : Thread Cert.PoolInFwd.nD Cert.PoolInFwd.τ).loc Cert.PoolInFwd.main_arg2)
      ∧ r.2.mem ((c.tc : Thread Cert.PoolInFwd.nD Cert.PoolInFwd.τ).loc Cert.PoolInFwd.main_arg3) = m ((c.tc : Thread Cert.PoolInFwd.nD Cert.PoolInFwd.τ).loc Cert.PoolInFwd.main_arg3)
      ∧ r.2.mem ((c.tc : Thread Cert.PoolInFwd.nD Cert.PoolInFwd.τ).loc Cert.PoolInFwd.main_arg4) = m ((c.tc : Thread Cert.PoolInFwd.nD Cert.PoolInFwd.τ).loc Cert.PoolInFwd.main_arg4))
      ∧ r.2.sem = fun _ => 0)

def quiescent_PoolInFwdIdeal [hPoolInFwdIdeal : Cert.PoolInFwdIdeal.Facts] : Prop :=
  ∀ (m : (ℓ : Loc Cert.PoolInFwdIdeal.nD Cert.PoolInFwdIdeal.τ Cert.PoolInFwdIdeal.sig) → Buf (Elt Ideal) ℓ) (g : Dev Cert.PoolInFwdIdeal.nD → PrngReg), Pre_PoolInFwdIdeal m →
    θ_run (Cert.PoolInFwdIdeal.defs (F := Ideal)) (onTc (τ := Cert.PoolInFwdIdeal.τ) (Cert.PoolInFwdIdeal.main (F := Ideal))) ⟨m, fun _ => 0, g⟩ (fun r => (∀ c : Dev Cert.PoolInFwdIdeal.nD,
      r.2.mem ((c.tc : Thread Cert.PoolInFwdIdeal.nD Cert.PoolInFwdIdeal.τ).loc Cert.PoolInFwdIdeal.main_arg0) = m ((c.tc : Thread Cert.PoolInFwdIdeal.nD Cert.PoolInFwdIdeal.τ).loc Cert.PoolInFwdIdeal.main_arg0)
      ∧ r.2.mem ((c.tc : Thread Cert.PoolInFwdIdeal.nD Cert.PoolInFwdIdeal.τ).loc Cert.PoolInFwdIdeal.main_arg1) = m ((c.tc : Thread Cert.PoolInFwdIdeal.nD Cert.PoolInFwdIdeal.τ).loc Cert.PoolInFwdIdeal.main_arg1)
      ∧ r.2.mem ((c.tc : Thread Cert.PoolInFwdIdeal.nD Cert.PoolInFwdIdeal.τ).loc Cert.PoolInFwdIdeal.main_arg2) = m ((c.tc : Thread Cert.PoolInFwdIdeal.nD Cert.PoolInFwdIdeal.τ).loc Cert.PoolInFwdIdeal.main_arg2)
      ∧ r.2.mem ((c.tc : Thread Cert.PoolInFwdIdeal.nD Cert.PoolInFwdIdeal.τ).loc Cert.PoolInFwdIdeal.main_arg3) = m ((c.tc : Thread Cert.PoolInFwdIdeal.nD Cert.PoolInFwdIdeal.τ).loc Cert.PoolInFwdIdeal.main_arg3)
      ∧ r.2.mem ((c.tc : Thread Cert.PoolInFwdIdeal.nD Cert.PoolInFwdIdeal.τ).loc Cert.PoolInFwdIdeal.main_arg4) = m ((c.tc : Thread Cert.PoolInFwdIdeal.nD Cert.PoolInFwdIdeal.τ).loc Cert.PoolInFwdIdeal.main_arg4))
      ∧ r.2.sem = fun _ => 0)

def quiescent_PoolInFwdRefIdeal [hPoolInFwdRefIdeal : Cert.PoolInFwdRefIdeal.Facts] : Prop :=
  ∀ (m : (ℓ : Loc Cert.PoolInFwdRefIdeal.nD Cert.PoolInFwdRefIdeal.τ Cert.PoolInFwdRefIdeal.sig) → Buf (Elt Ideal) ℓ) (g : Dev Cert.PoolInFwdRefIdeal.nD → PrngReg), Pre_PoolInFwdRefIdeal m →
    θ_run (Cert.PoolInFwdRefIdeal.defs (F := Ideal)) (onTc (τ := Cert.PoolInFwdRefIdeal.τ) (Cert.PoolInFwdRefIdeal.main (F := Ideal))) ⟨m, fun _ => 0, g⟩ (fun r => (∀ c : Dev Cert.PoolInFwdRefIdeal.nD,
      r.2.mem ((c.tc : Thread Cert.PoolInFwdRefIdeal.nD Cert.PoolInFwdRefIdeal.τ).loc Cert.PoolInFwdRefIdeal.main_arg0) = m ((c.tc : Thread Cert.PoolInFwdRefIdeal.nD Cert.PoolInFwdRefIdeal.τ).loc Cert.PoolInFwdRefIdeal.main_arg0)
      ∧ r.2.mem ((c.tc : Thread Cert.PoolInFwdRefIdeal.nD Cert.PoolInFwdRefIdeal.τ).loc Cert.PoolInFwdRefIdeal.main_arg1) = m ((c.tc : Thread Cert.PoolInFwdRefIdeal.nD Cert.PoolInFwdRefIdeal.τ).loc Cert.PoolInFwdRefIdeal.main_arg1)
      ∧ r.2.mem ((c.tc : Thread Cert.PoolInFwdRefIdeal.nD Cert.PoolInFwdRefIdeal.τ).loc Cert.PoolInFwdRefIdeal.main_arg2) = m ((c.tc : Thread Cert.PoolInFwdRefIdeal.nD Cert.PoolInFwdRefIdeal.τ).loc Cert.PoolInFwdRefIdeal.main_arg2)
      ∧ r.2.mem ((c.tc : Thread Cert.PoolInFwdRefIdeal.nD Cert.PoolInFwdRefIdeal.τ).loc Cert.PoolInFwdRefIdeal.main_arg3) = m ((c.tc : Thread Cert.PoolInFwdRefIdeal.nD Cert.PoolInFwdRefIdeal.τ).loc Cert.PoolInFwdRefIdeal.main_arg3)
      ∧ r.2.mem ((c.tc : Thread Cert.PoolInFwdRefIdeal.nD Cert.PoolInFwdRefIdeal.τ).loc Cert.PoolInFwdRefIdeal.main_arg4) = m ((c.tc : Thread Cert.PoolInFwdRefIdeal.nD Cert.PoolInFwdRefIdeal.τ).loc Cert.PoolInFwdRefIdeal.main_arg4))
      ∧ r.2.sem = fun _ => 0)

def quiescent_HgrnInFwd [hHgrnInFwd : Cert.HgrnInFwd.Facts] : Prop :=
  ∀ (m : (ℓ : Loc Cert.HgrnInFwd.nD Cert.HgrnInFwd.τ Cert.HgrnInFwd.sig) → Buf (Elt Bits) ℓ) (g : Dev Cert.HgrnInFwd.nD → PrngReg), Pre_HgrnInFwd m →
    θ_run (Cert.HgrnInFwd.defs (F := Bits)) (onTc (τ := Cert.HgrnInFwd.τ) (Cert.HgrnInFwd.main (F := Bits))) ⟨m, fun _ => 0, g⟩ (fun r => (∀ c : Dev Cert.HgrnInFwd.nD,
      r.2.mem ((c.tc : Thread Cert.HgrnInFwd.nD Cert.HgrnInFwd.τ).loc Cert.HgrnInFwd.main_arg0) = m ((c.tc : Thread Cert.HgrnInFwd.nD Cert.HgrnInFwd.τ).loc Cert.HgrnInFwd.main_arg0)
      ∧ r.2.mem ((c.tc : Thread Cert.HgrnInFwd.nD Cert.HgrnInFwd.τ).loc Cert.HgrnInFwd.main_arg1) = m ((c.tc : Thread Cert.HgrnInFwd.nD Cert.HgrnInFwd.τ).loc Cert.HgrnInFwd.main_arg1)
      ∧ r.2.mem ((c.tc : Thread Cert.HgrnInFwd.nD Cert.HgrnInFwd.τ).loc Cert.HgrnInFwd.main_arg2) = m ((c.tc : Thread Cert.HgrnInFwd.nD Cert.HgrnInFwd.τ).loc Cert.HgrnInFwd.main_arg2)
      ∧ r.2.mem ((c.tc : Thread Cert.HgrnInFwd.nD Cert.HgrnInFwd.τ).loc Cert.HgrnInFwd.main_arg3) = m ((c.tc : Thread Cert.HgrnInFwd.nD Cert.HgrnInFwd.τ).loc Cert.HgrnInFwd.main_arg3)
      ∧ r.2.mem ((c.tc : Thread Cert.HgrnInFwd.nD Cert.HgrnInFwd.τ).loc Cert.HgrnInFwd.main_arg4) = m ((c.tc : Thread Cert.HgrnInFwd.nD Cert.HgrnInFwd.τ).loc Cert.HgrnInFwd.main_arg4)
      ∧ r.2.mem ((c.tc : Thread Cert.HgrnInFwd.nD Cert.HgrnInFwd.τ).loc Cert.HgrnInFwd.main_arg5) = m ((c.tc : Thread Cert.HgrnInFwd.nD Cert.HgrnInFwd.τ).loc Cert.HgrnInFwd.main_arg5)
      ∧ r.2.mem ((c.tc : Thread Cert.HgrnInFwd.nD Cert.HgrnInFwd.τ).loc Cert.HgrnInFwd.main_arg6) = m ((c.tc : Thread Cert.HgrnInFwd.nD Cert.HgrnInFwd.τ).loc Cert.HgrnInFwd.main_arg6)
      ∧ r.2.mem ((c.tc : Thread Cert.HgrnInFwd.nD Cert.HgrnInFwd.τ).loc Cert.HgrnInFwd.main_arg7) = m ((c.tc : Thread Cert.HgrnInFwd.nD Cert.HgrnInFwd.τ).loc Cert.HgrnInFwd.main_arg7))
      ∧ r.2.sem = fun _ => 0)

def quiescent_HgrnInFwdIdeal [hHgrnInFwdIdeal : Cert.HgrnInFwdIdeal.Facts] : Prop :=
  ∀ (m : (ℓ : Loc Cert.HgrnInFwdIdeal.nD Cert.HgrnInFwdIdeal.τ Cert.HgrnInFwdIdeal.sig) → Buf (Elt Ideal) ℓ) (g : Dev Cert.HgrnInFwdIdeal.nD → PrngReg), Pre_HgrnInFwdIdeal m →
    θ_run (Cert.HgrnInFwdIdeal.defs (F := Ideal)) (onTc (τ := Cert.HgrnInFwdIdeal.τ) (Cert.HgrnInFwdIdeal.main (F := Ideal))) ⟨m, fun _ => 0, g⟩ (fun r => (∀ c : Dev Cert.HgrnInFwdIdeal.nD,
      r.2.mem ((c.tc : Thread Cert.HgrnInFwdIdeal.nD Cert.HgrnInFwdIdeal.τ).loc Cert.HgrnInFwdIdeal.main_arg0) = m ((c.tc : Thread Cert.HgrnInFwdIdeal.nD Cert.HgrnInFwdIdeal.τ).loc Cert.HgrnInFwdIdeal.main_arg0)
      ∧ r.2.mem ((c.tc : Thread Cert.HgrnInFwdIdeal.nD Cert.HgrnInFwdIdeal.τ).loc Cert.HgrnInFwdIdeal.main_arg1) = m ((c.tc : Thread Cert.HgrnInFwdIdeal.nD Cert.HgrnInFwdIdeal.τ).loc Cert.HgrnInFwdIdeal.main_arg1)
      ∧ r.2.mem ((c.tc : Thread Cert.HgrnInFwdIdeal.nD Cert.HgrnInFwdIdeal.τ).loc Cert.HgrnInFwdIdeal.main_arg2) = m ((c.tc : Thread Cert.HgrnInFwdIdeal.nD Cert.HgrnInFwdIdeal.τ).loc Cert.HgrnInFwdIdeal.main_arg2)
      ∧ r.2.mem ((c.tc : Thread Cert.HgrnInFwdIdeal.nD Cert.HgrnInFwdIdeal.τ).loc Cert.HgrnInFwdIdeal.main_arg3) = m ((c.tc : Thread Cert.HgrnInFwdIdeal.nD Cert.HgrnInFwdIdeal.τ).loc Cert.HgrnInFwdIdeal.main_arg3)
      ∧ r.2.mem ((c.tc : Thread Cert.HgrnInFwdIdeal.nD Cert.HgrnInFwdIdeal.τ).loc Cert.HgrnInFwdIdeal.main_arg4) = m ((c.tc : Thread Cert.HgrnInFwdIdeal.nD Cert.HgrnInFwdIdeal.τ).loc Cert.HgrnInFwdIdeal.main_arg4)
      ∧ r.2.mem ((c.tc : Thread Cert.HgrnInFwdIdeal.nD Cert.HgrnInFwdIdeal.τ).loc Cert.HgrnInFwdIdeal.main_arg5) = m ((c.tc : Thread Cert.HgrnInFwdIdeal.nD Cert.HgrnInFwdIdeal.τ).loc Cert.HgrnInFwdIdeal.main_arg5)
      ∧ r.2.mem ((c.tc : Thread Cert.HgrnInFwdIdeal.nD Cert.HgrnInFwdIdeal.τ).loc Cert.HgrnInFwdIdeal.main_arg6) = m ((c.tc : Thread Cert.HgrnInFwdIdeal.nD Cert.HgrnInFwdIdeal.τ).loc Cert.HgrnInFwdIdeal.main_arg6)
      ∧ r.2.mem ((c.tc : Thread Cert.HgrnInFwdIdeal.nD Cert.HgrnInFwdIdeal.τ).loc Cert.HgrnInFwdIdeal.main_arg7) = m ((c.tc : Thread Cert.HgrnInFwdIdeal.nD Cert.HgrnInFwdIdeal.τ).loc Cert.HgrnInFwdIdeal.main_arg7))
      ∧ r.2.sem = fun _ => 0)

def quiescent_HgrnInFwdRefIdeal [hHgrnInFwdRefIdeal : Cert.HgrnInFwdRefIdeal.Facts] : Prop :=
  ∀ (m : (ℓ : Loc Cert.HgrnInFwdRefIdeal.nD Cert.HgrnInFwdRefIdeal.τ Cert.HgrnInFwdRefIdeal.sig) → Buf (Elt Ideal) ℓ) (g : Dev Cert.HgrnInFwdRefIdeal.nD → PrngReg), Pre_HgrnInFwdRefIdeal m →
    θ_run (Cert.HgrnInFwdRefIdeal.defs (F := Ideal)) (onTc (τ := Cert.HgrnInFwdRefIdeal.τ) (Cert.HgrnInFwdRefIdeal.main (F := Ideal))) ⟨m, fun _ => 0, g⟩ (fun r => (∀ c : Dev Cert.HgrnInFwdRefIdeal.nD,
      r.2.mem ((c.tc : Thread Cert.HgrnInFwdRefIdeal.nD Cert.HgrnInFwdRefIdeal.τ).loc Cert.HgrnInFwdRefIdeal.main_arg0) = m ((c.tc : Thread Cert.HgrnInFwdRefIdeal.nD Cert.HgrnInFwdRefIdeal.τ).loc Cert.HgrnInFwdRefIdeal.main_arg0)
      ∧ r.2.mem ((c.tc : Thread Cert.HgrnInFwdRefIdeal.nD Cert.HgrnInFwdRefIdeal.τ).loc Cert.HgrnInFwdRefIdeal.main_arg1) = m ((c.tc : Thread Cert.HgrnInFwdRefIdeal.nD Cert.HgrnInFwdRefIdeal.τ).loc Cert.HgrnInFwdRefIdeal.main_arg1)
      ∧ r.2.mem ((c.tc : Thread Cert.HgrnInFwdRefIdeal.nD Cert.HgrnInFwdRefIdeal.τ).loc Cert.HgrnInFwdRefIdeal.main_arg2) = m ((c.tc : Thread Cert.HgrnInFwdRefIdeal.nD Cert.HgrnInFwdRefIdeal.τ).loc Cert.HgrnInFwdRefIdeal.main_arg2)
      ∧ r.2.mem ((c.tc : Thread Cert.HgrnInFwdRefIdeal.nD Cert.HgrnInFwdRefIdeal.τ).loc Cert.HgrnInFwdRefIdeal.main_arg3) = m ((c.tc : Thread Cert.HgrnInFwdRefIdeal.nD Cert.HgrnInFwdRefIdeal.τ).loc Cert.HgrnInFwdRefIdeal.main_arg3)
      ∧ r.2.mem ((c.tc : Thread Cert.HgrnInFwdRefIdeal.nD Cert.HgrnInFwdRefIdeal.τ).loc Cert.HgrnInFwdRefIdeal.main_arg4) = m ((c.tc : Thread Cert.HgrnInFwdRefIdeal.nD Cert.HgrnInFwdRefIdeal.τ).loc Cert.HgrnInFwdRefIdeal.main_arg4)
      ∧ r.2.mem ((c.tc : Thread Cert.HgrnInFwdRefIdeal.nD Cert.HgrnInFwdRefIdeal.τ).loc Cert.HgrnInFwdRefIdeal.main_arg5) = m ((c.tc : Thread Cert.HgrnInFwdRefIdeal.nD Cert.HgrnInFwdRefIdeal.τ).loc Cert.HgrnInFwdRefIdeal.main_arg5)
      ∧ r.2.mem ((c.tc : Thread Cert.HgrnInFwdRefIdeal.nD Cert.HgrnInFwdRefIdeal.τ).loc Cert.HgrnInFwdRefIdeal.main_arg6) = m ((c.tc : Thread Cert.HgrnInFwdRefIdeal.nD Cert.HgrnInFwdRefIdeal.τ).loc Cert.HgrnInFwdRefIdeal.main_arg6)
      ∧ r.2.mem ((c.tc : Thread Cert.HgrnInFwdRefIdeal.nD Cert.HgrnInFwdRefIdeal.τ).loc Cert.HgrnInFwdRefIdeal.main_arg7) = m ((c.tc : Thread Cert.HgrnInFwdRefIdeal.nD Cert.HgrnInFwdRefIdeal.τ).loc Cert.HgrnInFwdRefIdeal.main_arg7))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1))
      ∧ r.2.sem = fun _ => 0)

def quiescent_GlaBack [hGlaBack : Cert.GlaBack.Facts] : Prop :=
  ∀ (m : (ℓ : Loc Cert.GlaBack.nD Cert.GlaBack.τ Cert.GlaBack.sig) → Buf (Elt Bits) ℓ) (g : Dev Cert.GlaBack.nD → PrngReg), Pre_GlaBack m →
    θ_run (Cert.GlaBack.defs (F := Bits)) (onTc (τ := Cert.GlaBack.τ) (Cert.GlaBack.main (F := Bits))) ⟨m, fun _ => 0, g⟩ (fun r => (∀ c : Dev Cert.GlaBack.nD,
      r.2.mem ((c.tc : Thread Cert.GlaBack.nD Cert.GlaBack.τ).loc Cert.GlaBack.main_arg0) = m ((c.tc : Thread Cert.GlaBack.nD Cert.GlaBack.τ).loc Cert.GlaBack.main_arg0)
      ∧ r.2.mem ((c.tc : Thread Cert.GlaBack.nD Cert.GlaBack.τ).loc Cert.GlaBack.main_arg1) = m ((c.tc : Thread Cert.GlaBack.nD Cert.GlaBack.τ).loc Cert.GlaBack.main_arg1)
      ∧ r.2.mem ((c.tc : Thread Cert.GlaBack.nD Cert.GlaBack.τ).loc Cert.GlaBack.main_arg2) = m ((c.tc : Thread Cert.GlaBack.nD Cert.GlaBack.τ).loc Cert.GlaBack.main_arg2)
      ∧ r.2.mem ((c.tc : Thread Cert.GlaBack.nD Cert.GlaBack.τ).loc Cert.GlaBack.main_arg3) = m ((c.tc : Thread Cert.GlaBack.nD Cert.GlaBack.τ).loc Cert.GlaBack.main_arg3))
      ∧ r.2.sem = fun _ => 0)

def quiescent_GlaBackIdeal [hGlaBackIdeal : Cert.GlaBackIdeal.Facts] : Prop :=
  ∀ (m : (ℓ : Loc Cert.GlaBackIdeal.nD Cert.GlaBackIdeal.τ Cert.GlaBackIdeal.sig) → Buf (Elt Ideal) ℓ) (g : Dev Cert.GlaBackIdeal.nD → PrngReg), Pre_GlaBackIdeal m →
    θ_run (Cert.GlaBackIdeal.defs (F := Ideal)) (onTc (τ := Cert.GlaBackIdeal.τ) (Cert.GlaBackIdeal.main (F := Ideal))) ⟨m, fun _ => 0, g⟩ (fun r => (∀ c : Dev Cert.GlaBackIdeal.nD,
      r.2.mem ((c.tc : Thread Cert.GlaBackIdeal.nD Cert.GlaBackIdeal.τ).loc Cert.GlaBackIdeal.main_arg0) = m ((c.tc : Thread Cert.GlaBackIdeal.nD Cert.GlaBackIdeal.τ).loc Cert.GlaBackIdeal.main_arg0)
      ∧ r.2.mem ((c.tc : Thread Cert.GlaBackIdeal.nD Cert.GlaBackIdeal.τ).loc Cert.GlaBackIdeal.main_arg1) = m ((c.tc : Thread Cert.GlaBackIdeal.nD Cert.GlaBackIdeal.τ).loc Cert.GlaBackIdeal.main_arg1)
      ∧ r.2.mem ((c.tc : Thread Cert.GlaBackIdeal.nD Cert.GlaBackIdeal.τ).loc Cert.GlaBackIdeal.main_arg2) = m ((c.tc : Thread Cert.GlaBackIdeal.nD Cert.GlaBackIdeal.τ).loc Cert.GlaBackIdeal.main_arg2)
      ∧ r.2.mem ((c.tc : Thread Cert.GlaBackIdeal.nD Cert.GlaBackIdeal.τ).loc Cert.GlaBackIdeal.main_arg3) = m ((c.tc : Thread Cert.GlaBackIdeal.nD Cert.GlaBackIdeal.τ).loc Cert.GlaBackIdeal.main_arg3))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradRefIdeal [hWeightGradRefIdeal : Cert.WeightGradRefIdeal.Facts] : Prop :=
  ∀ (m : (ℓ : Loc Cert.WeightGradRefIdeal.nD Cert.WeightGradRefIdeal.τ Cert.WeightGradRefIdeal.sig) → Buf (Elt Ideal) ℓ) (g : Dev Cert.WeightGradRefIdeal.nD → PrngReg), Pre_WeightGradRefIdeal m →
    θ_run (Cert.WeightGradRefIdeal.defs (F := Ideal)) (onTc (τ := Cert.WeightGradRefIdeal.τ) (Cert.WeightGradRefIdeal.main (F := Ideal))) ⟨m, fun _ => 0, g⟩ (fun r => (∀ c : Dev Cert.WeightGradRefIdeal.nD,
      r.2.mem ((c.tc : Thread Cert.WeightGradRefIdeal.nD Cert.WeightGradRefIdeal.τ).loc Cert.WeightGradRefIdeal.main_arg0) = m ((c.tc : Thread Cert.WeightGradRefIdeal.nD Cert.WeightGradRefIdeal.τ).loc Cert.WeightGradRefIdeal.main_arg0)
      ∧ r.2.mem ((c.tc : Thread Cert.WeightGradRefIdeal.nD Cert.WeightGradRefIdeal.τ).loc Cert.WeightGradRefIdeal.main_arg1) = m ((c.tc : Thread Cert.WeightGradRefIdeal.nD Cert.WeightGradRefIdeal.τ).loc Cert.WeightGradRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4)
      ∧ r.2.mem ((c.tc : Thread Cert.Adamw.nD Cert.Adamw.τ).loc Cert.Adamw.main_arg5) = m ((c.tc : Thread Cert.Adamw.nD Cert.Adamw.τ).loc Cert.Adamw.main_arg5)
      ∧ r.2.mem ((c.tc : Thread Cert.Adamw.nD Cert.Adamw.τ).loc Cert.Adamw.main_arg6) = m ((c.tc : Thread Cert.Adamw.nD Cert.Adamw.τ).loc Cert.Adamw.main_arg6)
      ∧ r.2.mem ((c.tc : Thread Cert.Adamw.nD Cert.Adamw.τ).loc Cert.Adamw.main_arg7) = m ((c.tc : Thread Cert.Adamw.nD Cert.Adamw.τ).loc Cert.Adamw.main_arg7)
      ∧ r.2.mem ((c.tc : Thread Cert.Adamw.nD Cert.Adamw.τ).loc Cert.Adamw.main_arg8) = m ((c.tc : Thread Cert.Adamw.nD Cert.Adamw.τ).loc Cert.Adamw.main_arg8)
      ∧ r.2.mem ((c.tc : Thread Cert.Adamw.nD Cert.Adamw.τ).loc Cert.Adamw.main_arg9) = m ((c.tc : Thread Cert.Adamw.nD Cert.Adamw.τ).loc Cert.Adamw.main_arg9)
      ∧ r.2.mem ((c.tc : Thread Cert.Adamw.nD Cert.Adamw.τ).loc Cert.Adamw.main_arg10) = m ((c.tc : Thread Cert.Adamw.nD Cert.Adamw.τ).loc Cert.Adamw.main_arg10)
      ∧ r.2.mem ((c.tc : Thread Cert.Adamw.nD Cert.Adamw.τ).loc Cert.Adamw.main_arg11) = m ((c.tc : Thread Cert.Adamw.nD Cert.Adamw.τ).loc Cert.Adamw.main_arg11)
      ∧ r.2.mem ((c.tc : Thread Cert.Adamw.nD Cert.Adamw.τ).loc Cert.Adamw.main_arg12) = m ((c.tc : Thread Cert.Adamw.nD Cert.Adamw.τ).loc Cert.Adamw.main_arg12)
      ∧ r.2.mem ((c.tc : Thread Cert.Adamw.nD Cert.Adamw.τ).loc Cert.Adamw.main_arg13) = m ((c.tc : Thread Cert.Adamw.nD Cert.Adamw.τ).loc Cert.Adamw.main_arg13)
      ∧ r.2.mem ((c.tc : Thread Cert.Adamw.nD Cert.Adamw.τ).loc Cert.Adamw.main_arg14) = m ((c.tc : Thread Cert.Adamw.nD Cert.Adamw.τ).loc Cert.Adamw.main_arg14)
      ∧ r.2.mem ((c.tc : Thread Cert.Adamw.nD Cert.Adamw.τ).loc Cert.Adamw.main_arg15) = m ((c.tc : Thread Cert.Adamw.nD Cert.Adamw.τ).loc Cert.Adamw.main_arg15))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
      ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
      ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
      ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
      ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
      ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
      ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11)
      ∧ r.2.mem ((c.tc : Thread Cert.AdamwIdeal.nD Cert.AdamwIdeal.τ).loc Cert.AdamwIdeal.main_arg12) = m ((c.tc : Thread Cert.AdamwIdeal.nD Cert.AdamwIdeal.τ).loc Cert.AdamwIdeal.main_arg12)
      ∧ r.2.mem ((c.tc : Thread Cert.AdamwIdeal.nD Cert.AdamwIdeal.τ).loc Cert.AdamwIdeal.main_arg13) = m ((c.tc : Thread Cert.AdamwIdeal.nD Cert.AdamwIdeal.τ).loc Cert.AdamwIdeal.main_arg13)
      ∧ r.2.mem ((c.tc : Thread Cert.AdamwIdeal.nD Cert.AdamwIdeal.τ).loc Cert.AdamwIdeal.main_arg14) = m ((c.tc : Thread Cert.AdamwIdeal.nD Cert.AdamwIdeal.τ).loc Cert.AdamwIdeal.main_arg14)
      ∧ r.2.mem ((c.tc : Thread Cert.AdamwIdeal.nD Cert.AdamwIdeal.τ).loc Cert.AdamwIdeal.main_arg15) = m ((c.tc : Thread Cert.AdamwIdeal.nD Cert.AdamwIdeal.τ).loc Cert.AdamwIdeal.main_arg15))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)
      ∧ r.2.mem ((c.tc : Thread Cert.AdamwRefIdeal.nD Cert.AdamwRefIdeal.τ).loc Cert.AdamwRefIdeal.main_arg5) = m ((c.tc : Thread Cert.AdamwRefIdeal.nD Cert.AdamwRefIdeal.τ).loc Cert.AdamwRefIdeal.main_arg5)
      ∧ r.2.mem ((c.tc : Thread Cert.AdamwRefIdeal.nD Cert.AdamwRefIdeal.τ).loc Cert.AdamwRefIdeal.main_arg6) = m ((c.tc : Thread Cert.AdamwRefIdeal.nD Cert.AdamwRefIdeal.τ).loc Cert.AdamwRefIdeal.main_arg6)
      ∧ r.2.mem ((c.tc : Thread Cert.AdamwRefIdeal.nD Cert.AdamwRefIdeal.τ).loc Cert.AdamwRefIdeal.main_arg7) = m ((c.tc : Thread Cert.AdamwRefIdeal.nD Cert.AdamwRefIdeal.τ).loc Cert.AdamwRefIdeal.main_arg7)
      ∧ r.2.mem ((c.tc : Thread Cert.AdamwRefIdeal.nD Cert.AdamwRefIdeal.τ).loc Cert.AdamwRefIdeal.main_arg8) = m ((c.tc : Thread Cert.AdamwRefIdeal.nD Cert.AdamwRefIdeal.τ).loc Cert.AdamwRefIdeal.main_arg8)
      ∧ r.2.mem ((c.tc : Thread Cert.AdamwRefIdeal.nD Cert.AdamwRefIdeal.τ).loc Cert.AdamwRefIdeal.main_arg9) = m ((c.tc : Thread Cert.AdamwRefIdeal.nD Cert.AdamwRefIdeal.τ).loc Cert.AdamwRefIdeal.main_arg9)
      ∧ r.2.mem ((c.tc : Thread Cert.AdamwRefIdeal.nD Cert.AdamwRefIdeal.τ).loc Cert.AdamwRefIdeal.main_arg10) = m ((c.tc : Thread Cert.AdamwRefIdeal.nD Cert.AdamwRefIdeal.τ).loc Cert.AdamwRefIdeal.main_arg10)
      ∧ r.2.mem ((c.tc : Thread Cert.AdamwRefIdeal.nD Cert.AdamwRefIdeal.τ).loc Cert.AdamwRefIdeal.main_arg11) = m ((c.tc : Thread Cert.AdamwRefIdeal.nD Cert.AdamwRefIdeal.τ).loc Cert.AdamwRefIdeal.main_arg11)
      ∧ r.2.mem ((c.tc : Thread Cert.AdamwRefIdeal.nD Cert.AdamwRefIdeal.τ).loc Cert.AdamwRefIdeal.main_arg12) = m ((c.tc : Thread Cert.AdamwRefIdeal.nD Cert.AdamwRefIdeal.τ).loc Cert.AdamwRefIdeal.main_arg12)
      ∧ r.2.mem ((c.tc : Thread Cert.AdamwRefIdeal.nD Cert.AdamwRefIdeal.τ).loc Cert.AdamwRefIdeal.main_arg13) = m ((c.tc : Thread Cert.AdamwRefIdeal.nD Cert.AdamwRefIdeal.τ).loc Cert.AdamwRefIdeal.main_arg13)
      ∧ r.2.mem ((c.tc : Thread Cert.AdamwRefIdeal.nD Cert.AdamwRefIdeal.τ).loc Cert.AdamwRefIdeal.main_arg14) = m ((c.tc : Thread Cert.AdamwRefIdeal.nD Cert.AdamwRefIdeal.τ).loc Cert.AdamwRefIdeal.main_arg14)
      ∧ r.2.mem ((c.tc : Thread Cert.AdamwRefIdeal.nD Cert.AdamwRefIdeal.τ).loc Cert.AdamwRefIdeal.main_arg15) = m ((c.tc : Thread Cert.AdamwRefIdeal.nD Cert.AdamwRefIdeal.τ).loc Cert.AdamwRefIdeal.main_arg15))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0)
      ∧ r.2.mem ((c.tc : Thread Cert.Sums.nD Cert.Sums.τ).loc Cert.Sums.main_arg1) = m ((c.tc : Thread Cert.Sums.nD Cert.Sums.τ).loc Cert.Sums.main_arg1)
      ∧ r.2.mem ((c.tc : Thread Cert.Sums.nD Cert.Sums.τ).loc Cert.Sums.main_arg2) = m ((c.tc : Thread Cert.Sums.nD Cert.Sums.τ).loc Cert.Sums.main_arg2)
      ∧ r.2.mem ((c.tc : Thread Cert.Sums.nD Cert.Sums.τ).loc Cert.Sums.main_arg3) = m ((c.tc : Thread Cert.Sums.nD Cert.Sums.τ).loc Cert.Sums.main_arg3)
      ∧ r.2.mem ((c.tc : Thread Cert.Sums.nD Cert.Sums.τ).loc Cert.Sums.main_arg4) = m ((c.tc : Thread Cert.Sums.nD Cert.Sums.τ).loc Cert.Sums.main_arg4)
      ∧ r.2.mem ((c.tc : Thread Cert.Sums.nD Cert.Sums.τ).loc Cert.Sums.main_arg5) = m ((c.tc : Thread Cert.Sums.nD Cert.Sums.τ).loc Cert.Sums.main_arg5)
      ∧ r.2.mem ((c.tc : Thread Cert.Sums.nD Cert.Sums.τ).loc Cert.Sums.main_arg6) = m ((c.tc : Thread Cert.Sums.nD Cert.Sums.τ).loc Cert.Sums.main_arg6))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
      ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
      ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
      ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
      ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
      ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6))
      ∧ r.2.sem = fun _ => 0)

def quiescent_SumsIdeal_pre_finite_sums [hSumsIdeal : Cert.SumsIdeal.Facts] [hPre_finite_sums : Cert.Pre_finite_sums.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal_finite_sums m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
      ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
      ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
      ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
      ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
      ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0)
      ∧ r.2.mem ((c.tc : Thread Cert.SumsRefIdeal.nD Cert.SumsRefIdeal.τ).loc Cert.SumsRefIdeal.main_arg1) = m ((c.tc : Thread Cert.SumsRefIdeal.nD Cert.SumsRefIdeal.τ).loc Cert.SumsRefIdeal.main_arg1)
      ∧ r.2.mem ((c.tc : Thread Cert.SumsRefIdeal.nD Cert.SumsRefIdeal.τ).loc Cert.SumsRefIdeal.main_arg2) = m ((c.tc : Thread Cert.SumsRefIdeal.nD Cert.SumsRefIdeal.τ).loc Cert.SumsRefIdeal.main_arg2)
      ∧ r.2.mem ((c.tc : Thread Cert.SumsRefIdeal.nD Cert.SumsRefIdeal.τ).loc Cert.SumsRefIdeal.main_arg3) = m ((c.tc : Thread Cert.SumsRefIdeal.nD Cert.SumsRefIdeal.τ).loc Cert.SumsRefIdeal.main_arg3)
      ∧ r.2.mem ((c.tc : Thread Cert.SumsRefIdeal.nD Cert.SumsRefIdeal.τ).loc Cert.SumsRefIdeal.main_arg4) = m ((c.tc : Thread Cert.SumsRefIdeal.nD Cert.SumsRefIdeal.τ).loc Cert.SumsRefIdeal.main_arg4)
      ∧ r.2.mem ((c.tc : Thread Cert.SumsRefIdeal.nD Cert.SumsRefIdeal.τ).loc Cert.SumsRefIdeal.main_arg5) = m ((c.tc : Thread Cert.SumsRefIdeal.nD Cert.SumsRefIdeal.τ).loc Cert.SumsRefIdeal.main_arg5)
      ∧ r.2.mem ((c.tc : Thread Cert.SumsRefIdeal.nD Cert.SumsRefIdeal.τ).loc Cert.SumsRefIdeal.main_arg6) = m ((c.tc : Thread Cert.SumsRefIdeal.nD Cert.SumsRefIdeal.τ).loc Cert.SumsRefIdeal.main_arg6))
      ∧ r.2.sem = fun _ => 0)

def quiescent_SumsRefIdeal_pre_finite_sums [hSumsRefIdeal : Cert.SumsRefIdeal.Facts] [hPre_finite_sums : Cert.Pre_finite_sums.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal_finite_sums m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0)
      ∧ r.2.mem ((c.tc : Thread Cert.SumsRefIdeal.nD Cert.SumsRefIdeal.τ).loc Cert.SumsRefIdeal.main_arg1) = m ((c.tc : Thread Cert.SumsRefIdeal.nD Cert.SumsRefIdeal.τ).loc Cert.SumsRefIdeal.main_arg1)
      ∧ r.2.mem ((c.tc : Thread Cert.SumsRefIdeal.nD Cert.SumsRefIdeal.τ).loc Cert.SumsRefIdeal.main_arg2) = m ((c.tc : Thread Cert.SumsRefIdeal.nD Cert.SumsRefIdeal.τ).loc Cert.SumsRefIdeal.main_arg2)
      ∧ r.2.mem ((c.tc : Thread Cert.SumsRefIdeal.nD Cert.SumsRefIdeal.τ).loc Cert.SumsRefIdeal.main_arg3) = m ((c.tc : Thread Cert.SumsRefIdeal.nD Cert.SumsRefIdeal.τ).loc Cert.SumsRefIdeal.main_arg3)
      ∧ r.2.mem ((c.tc : Thread Cert.SumsRefIdeal.nD Cert.SumsRefIdeal.τ).loc Cert.SumsRefIdeal.main_arg4) = m ((c.tc : Thread Cert.SumsRefIdeal.nD Cert.SumsRefIdeal.τ).loc Cert.SumsRefIdeal.main_arg4)
      ∧ r.2.mem ((c.tc : Thread Cert.SumsRefIdeal.nD Cert.SumsRefIdeal.τ).loc Cert.SumsRefIdeal.main_arg5) = m ((c.tc : Thread Cert.SumsRefIdeal.nD Cert.SumsRefIdeal.τ).loc Cert.SumsRefIdeal.main_arg5)
      ∧ r.2.mem ((c.tc : Thread Cert.SumsRefIdeal.nD Cert.SumsRefIdeal.τ).loc Cert.SumsRefIdeal.main_arg6) = m ((c.tc : Thread Cert.SumsRefIdeal.nD Cert.SumsRefIdeal.τ).loc Cert.SumsRefIdeal.main_arg6))
      ∧ r.2.sem = fun _ => 0)

def quiescent_GradSum [hGradSum : Cert.GradSum.Facts] : Prop :=
  ∀ (m : (ℓ : Loc Cert.GradSum.nD Cert.GradSum.τ Cert.GradSum.sig) → Buf (Elt Bits) ℓ) (g : Dev Cert.GradSum.nD → PrngReg), Pre_GradSum m →
    θ_run (Cert.GradSum.defs (F := Bits)) (onTc (τ := Cert.GradSum.τ) (Cert.GradSum.main (F := Bits))) ⟨m, fun _ => 0, g⟩ (fun r => (∀ c : Dev Cert.GradSum.nD,
      r.2.mem ((c.tc : Thread Cert.GradSum.nD Cert.GradSum.τ).loc Cert.GradSum.main_arg0) = m ((c.tc : Thread Cert.GradSum.nD Cert.GradSum.τ).loc Cert.GradSum.main_arg0)
      ∧ r.2.mem ((c.tc : Thread Cert.GradSum.nD Cert.GradSum.τ).loc Cert.GradSum.main_arg1) = m ((c.tc : Thread Cert.GradSum.nD Cert.GradSum.τ).loc Cert.GradSum.main_arg1)
      ∧ r.2.mem ((c.tc : Thread Cert.GradSum.nD Cert.GradSum.τ).loc Cert.GradSum.main_arg2) = m ((c.tc : Thread Cert.GradSum.nD Cert.GradSum.τ).loc Cert.GradSum.main_arg2)
      ∧ r.2.mem ((c.tc : Thread Cert.GradSum.nD Cert.GradSum.τ).loc Cert.GradSum.main_arg3) = m ((c.tc : Thread Cert.GradSum.nD Cert.GradSum.τ).loc Cert.GradSum.main_arg3))
      ∧ r.2.sem = fun _ => 0)

def quiescent_GradSumIdeal [hGradSumIdeal : Cert.GradSumIdeal.Facts] : Prop :=
  ∀ (m : (ℓ : Loc Cert.GradSumIdeal.nD Cert.GradSumIdeal.τ Cert.GradSumIdeal.sig) → Buf (Elt Ideal) ℓ) (g : Dev Cert.GradSumIdeal.nD → PrngReg), Pre_GradSumIdeal m →
    θ_run (Cert.GradSumIdeal.defs (F := Ideal)) (onTc (τ := Cert.GradSumIdeal.τ) (Cert.GradSumIdeal.main (F := Ideal))) ⟨m, fun _ => 0, g⟩ (fun r => (∀ c : Dev Cert.GradSumIdeal.nD,
      r.2.mem ((c.tc : Thread Cert.GradSumIdeal.nD Cert.GradSumIdeal.τ).loc Cert.GradSumIdeal.main_arg0) = m ((c.tc : Thread Cert.GradSumIdeal.nD Cert.GradSumIdeal.τ).loc Cert.GradSumIdeal.main_arg0)
      ∧ r.2.mem ((c.tc : Thread Cert.GradSumIdeal.nD Cert.GradSumIdeal.τ).loc Cert.GradSumIdeal.main_arg1) = m ((c.tc : Thread Cert.GradSumIdeal.nD Cert.GradSumIdeal.τ).loc Cert.GradSumIdeal.main_arg1)
      ∧ r.2.mem ((c.tc : Thread Cert.GradSumIdeal.nD Cert.GradSumIdeal.τ).loc Cert.GradSumIdeal.main_arg2) = m ((c.tc : Thread Cert.GradSumIdeal.nD Cert.GradSumIdeal.τ).loc Cert.GradSumIdeal.main_arg2)
      ∧ r.2.mem ((c.tc : Thread Cert.GradSumIdeal.nD Cert.GradSumIdeal.τ).loc Cert.GradSumIdeal.main_arg3) = m ((c.tc : Thread Cert.GradSumIdeal.nD Cert.GradSumIdeal.τ).loc Cert.GradSumIdeal.main_arg3))
      ∧ r.2.sem = fun _ => 0)

def quiescent_GradSumRefIdeal [hGradSumRefIdeal : Cert.GradSumRefIdeal.Facts] : Prop :=
  ∀ (m : (ℓ : Loc Cert.GradSumRefIdeal.nD Cert.GradSumRefIdeal.τ Cert.GradSumRefIdeal.sig) → Buf (Elt Ideal) ℓ) (g : Dev Cert.GradSumRefIdeal.nD → PrngReg), Pre_GradSumRefIdeal m →
    θ_run (Cert.GradSumRefIdeal.defs (F := Ideal)) (onTc (τ := Cert.GradSumRefIdeal.τ) (Cert.GradSumRefIdeal.main (F := Ideal))) ⟨m, fun _ => 0, g⟩ (fun r => (∀ c : Dev Cert.GradSumRefIdeal.nD,
      r.2.mem ((c.tc : Thread Cert.GradSumRefIdeal.nD Cert.GradSumRefIdeal.τ).loc Cert.GradSumRefIdeal.main_arg0) = m ((c.tc : Thread Cert.GradSumRefIdeal.nD Cert.GradSumRefIdeal.τ).loc Cert.GradSumRefIdeal.main_arg0)
      ∧ r.2.mem ((c.tc : Thread Cert.GradSumRefIdeal.nD Cert.GradSumRefIdeal.τ).loc Cert.GradSumRefIdeal.main_arg1) = m ((c.tc : Thread Cert.GradSumRefIdeal.nD Cert.GradSumRefIdeal.τ).loc Cert.GradSumRefIdeal.main_arg1)
      ∧ r.2.mem ((c.tc : Thread Cert.GradSumRefIdeal.nD Cert.GradSumRefIdeal.τ).loc Cert.GradSumRefIdeal.main_arg2) = m ((c.tc : Thread Cert.GradSumRefIdeal.nD Cert.GradSumRefIdeal.τ).loc Cert.GradSumRefIdeal.main_arg2)
      ∧ r.2.mem ((c.tc : Thread Cert.GradSumRefIdeal.nD Cert.GradSumRefIdeal.τ).loc Cert.GradSumRefIdeal.main_arg3) = m ((c.tc : Thread Cert.GradSumRefIdeal.nD Cert.GradSumRefIdeal.τ).loc Cert.GradSumRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_HgrnOut_HgrnOutIdeal : Prop :=
  True

def algebraic_HgrnOutIdeal_HgrnOutRefIdeal_pre_finite_hgrn_out [hHgrnOutIdeal : Cert.HgrnOutIdeal.Facts] [hHgrnOutRefIdeal : Cert.HgrnOutRefIdeal.Facts] [hPre_finite_hgrn_out : Cert.Pre_finite_hgrn_out.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutRefIdeal.nD Cert.HgrnOutRefIdeal.τ Cert.HgrnOutRefIdeal.sig) → Buf (Elt Ideal) ℓ) (g' : Dev Cert.HgrnOutRefIdeal.nD → PrngReg), Pre_HgrnOutIdeal_finite_hgrn_out m →
    (∀ c : Dev Cert.HgrnOutIdeal.nD,
      m' ((c.tc : Thread Cert.HgrnOutRefIdeal.nD Cert.HgrnOutRefIdeal.τ).loc Cert.HgrnOutRefIdeal.main_arg0) = m ((c.tc : Thread Cert.HgrnOutIdeal.nD Cert.HgrnOutIdeal.τ).loc Cert.HgrnOutIdeal.main_arg0)
      ∧ m' ((c.tc : Thread Cert.HgrnOutRefIdeal.nD Cert.HgrnOutRefIdeal.τ).loc Cert.HgrnOutRefIdeal.main_arg1) = m ((c.tc : Thread Cert.HgrnOutIdeal.nD Cert.HgrnOutIdeal.τ).loc Cert.HgrnOutIdeal.main_arg1)
      ∧ m' ((c.tc : Thread Cert.HgrnOutRefIdeal.nD Cert.HgrnOutRefIdeal.τ).loc Cert.HgrnOutRefIdeal.main_arg2) = m ((c.tc : Thread Cert.HgrnOutIdeal.nD Cert.HgrnOutIdeal.τ).loc Cert.HgrnOutIdeal.main_arg2)
      ∧ m' ((c.tc : Thread Cert.HgrnOutRefIdeal.nD Cert.HgrnOutRefIdeal.τ).loc Cert.HgrnOutRefIdeal.main_arg3) = m ((c.tc : Thread Cert.HgrnOutIdeal.nD Cert.HgrnOutIdeal.τ).loc Cert.HgrnOutIdeal.main_arg3)
      ∧ m' ((c.tc : Thread Cert.HgrnOutRefIdeal.nD Cert.HgrnOutRefIdeal.τ).loc Cert.HgrnOutRefIdeal.main_arg4) = m ((c.tc : Thread Cert.HgrnOutIdeal.nD Cert.HgrnOutIdeal.τ).loc Cert.HgrnOutIdeal.main_arg4)
      ∧ m' ((c.tc : Thread Cert.HgrnOutRefIdeal.nD Cert.HgrnOutRefIdeal.τ).loc Cert.HgrnOutRefIdeal.main_arg5) = m ((c.tc : Thread Cert.HgrnOutIdeal.nD Cert.HgrnOutIdeal.τ).loc Cert.HgrnOutIdeal.main_arg5)) →
    ∃ (v0 : (c : Dev Cert.HgrnOutIdeal.nD) → Buf (Elt Ideal) ((c.tc : Thread Cert.HgrnOutIdeal.nD Cert.HgrnOutIdeal.τ).loc Cert.HgrnOutIdeal.main_v22_0)) (v1 : (c : Dev Cert.HgrnOutIdeal.nD) → Buf (Elt Ideal) ((c.tc : Thread Cert.HgrnOutIdeal.nD Cert.HgrnOutIdeal.τ).loc Cert.HgrnOutIdeal.main_v22_1)) (v2 : (c : Dev Cert.HgrnOutIdeal.nD) → Buf (Elt Ideal) ((c.tc : Thread Cert.HgrnOutIdeal.nD Cert.HgrnOutIdeal.τ).loc Cert.HgrnOutIdeal.main_v22_2)) (v3 : (c : Dev Cert.HgrnOutIdeal.nD) → Buf (Elt Ideal) ((c.tc : Thread Cert.HgrnOutIdeal.nD Cert.HgrnOutIdeal.τ).loc Cert.HgrnOutIdeal.main_v22_3)) (v4 : (c : Dev Cert.HgrnOutIdeal.nD) → Buf (Elt Ideal) ((c.tc : Thread Cert.HgrnOutIdeal.nD Cert.HgrnOutIdeal.τ).loc Cert.HgrnOutIdeal.main_v22_4)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v22_0) = v0 c
          ∧ r.2.mem ((c.tc : Thread Cert.HgrnOutIdeal.nD Cert.HgrnOutIdeal.τ).loc Cert.HgrnOutIdeal.main_v22_1) = v1 c
          ∧ r.2.mem ((c.tc : Thread Cert.HgrnOutIdeal.nD Cert.HgrnOutIdeal.τ).loc Cert.HgrnOutIdeal.main_v22_2) = v2 c
          ∧ r.2.mem ((c.tc : Thread Cert.HgrnOutIdeal.nD Cert.HgrnOutIdeal.τ).loc Cert.HgrnOutIdeal.main_v22_3) = v3 c
          ∧ r.2.mem ((c.tc : Thread Cert.HgrnOutIdeal.nD Cert.HgrnOutIdeal.τ).loc Cert.HgrnOutIdeal.main_v22_4) = v4 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
          ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
          ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4)
          ∧ r.2.mem ((c.tc : Thread Cert.HgrnOutIdeal.nD Cert.HgrnOutIdeal.τ).loc Cert.HgrnOutIdeal.main_arg5) = m ((c.tc : Thread Cert.HgrnOutIdeal.nD Cert.HgrnOutIdeal.τ).loc Cert.HgrnOutIdeal.main_arg5))
      ∧ θ_run (Cert.HgrnOutRefIdeal.defs (F := Ideal)) (onTc (τ := Cert.HgrnOutRefIdeal.τ) (Cert.HgrnOutRefIdeal.main (F := Ideal))) ⟨m', fun _ => 0, g'⟩ (fun r => ∀ c : Dev Cert.HgrnOutRefIdeal.nD,
          r.2.mem ((c.tc : Thread Cert.HgrnOutRefIdeal.nD Cert.HgrnOutRefIdeal.τ).loc Cert.HgrnOutRefIdeal.main_v61) = v0 c
          ∧ r.2.mem ((c.tc : Thread Cert.HgrnOutRefIdeal.nD Cert.HgrnOutRefIdeal.τ).loc Cert.HgrnOutRefIdeal.main_v62) = v1 c
          ∧ r.2.mem ((c.tc : Thread Cert.HgrnOutRefIdeal.nD Cert.HgrnOutRefIdeal.τ).loc Cert.HgrnOutRefIdeal.main_v63) = v2 c
          ∧ r.2.mem ((c.tc : Thread Cert.HgrnOutRefIdeal.nD Cert.HgrnOutRefIdeal.τ).loc Cert.HgrnOutRefIdeal.main_v31) = v3 c
          ∧ r.2.mem ((c.tc : Thread Cert.HgrnOutRefIdeal.nD Cert.HgrnOutRefIdeal.τ).loc Cert.HgrnOutRefIdeal.main_v59) = v4 c
          ∧ r.2.mem ((c.tc : Thread Cert.HgrnOutRefIdeal.nD Cert.HgrnOutRefIdeal.τ).loc Cert.HgrnOutRefIdeal.main_arg0) = m' ((c.tc : Thread Cert.HgrnOutRefIdeal.nD Cert.HgrnOutRefIdeal.τ).loc Cert.HgrnOutRefIdeal.main_arg0)
          ∧ r.2.mem ((c.tc : Thread Cert.HgrnOutRefIdeal.nD Cert.HgrnOutRefIdeal.τ).loc Cert.HgrnOutRefIdeal.main_arg1) = m' ((c.tc : Thread Cert.HgrnOutRefIdeal.nD Cert.HgrnOutRefIdeal.τ).loc Cert.HgrnOutRefIdeal.main_arg1)
          ∧ r.2.mem ((c.tc : Thread Cert.HgrnOutRefIdeal.nD Cert.HgrnOutRefIdeal.τ).loc Cert.HgrnOutRefIdeal.main_arg2) = m' ((c.tc : Thread Cert.HgrnOutRefIdeal.nD Cert.HgrnOutRefIdeal.τ).loc Cert.HgrnOutRefIdeal.main_arg2)
          ∧ r.2.mem ((c.tc : Thread Cert.HgrnOutRefIdeal.nD Cert.HgrnOutRefIdeal.τ).loc Cert.HgrnOutRefIdeal.main_arg3) = m' ((c.tc : Thread Cert.HgrnOutRefIdeal.nD Cert.HgrnOutRefIdeal.τ).loc Cert.HgrnOutRefIdeal.main_arg3)
          ∧ r.2.mem ((c.tc : Thread Cert.HgrnOutRefIdeal.nD Cert.HgrnOutRefIdeal.τ).loc Cert.HgrnOutRefIdeal.main_arg4) = m' ((c.tc : Thread Cert.HgrnOutRefIdeal.nD Cert.HgrnOutRefIdeal.τ).loc Cert.HgrnOutRefIdeal.main_arg4)
          ∧ r.2.mem ((c.tc : Thread Cert.HgrnOutRefIdeal.nD Cert.HgrnOutRefIdeal.τ).loc Cert.HgrnOutRefIdeal.main_arg5) = m' ((c.tc : Thread Cert.HgrnOutRefIdeal.nD Cert.HgrnOutRefIdeal.τ).loc Cert.HgrnOutRefIdeal.main_arg5))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)) →
    ∃ (v0 : (c : Dev Cert.LossIdeal.nD) → Buf (Elt Ideal) ((c.tc : Thread Cert.LossIdeal.nD Cert.LossIdeal.τ).loc Cert.LossIdeal.main_v38_0)) (v1 : (c : Dev Cert.LossIdeal.nD) → Buf (Elt Ideal) ((c.tc : Thread Cert.LossIdeal.nD Cert.LossIdeal.τ).loc Cert.LossIdeal.main_v38_1)) (v2 : (c : Dev Cert.LossIdeal.nD) → Buf (Elt Ideal) ((c.tc : Thread Cert.LossIdeal.nD Cert.LossIdeal.τ).loc Cert.LossIdeal.main_v38_2)) (v3 : (c : Dev Cert.LossIdeal.nD) → Buf (Elt Ideal) ((c.tc : Thread Cert.LossIdeal.nD Cert.LossIdeal.τ).loc Cert.LossIdeal.main_v38_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v38_0) = v0 c
          ∧ r.2.mem ((c.tc : Thread Cert.LossIdeal.nD Cert.LossIdeal.τ).loc Cert.LossIdeal.main_v38_1) = v1 c
          ∧ r.2.mem ((c.tc : Thread Cert.LossIdeal.nD Cert.LossIdeal.τ).loc Cert.LossIdeal.main_v38_2) = v2 c
          ∧ r.2.mem ((c.tc : Thread Cert.LossIdeal.nD Cert.LossIdeal.τ).loc Cert.LossIdeal.main_v38_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v168) = v0 c
          ∧ r.2.mem ((c.tc : Thread Cert.LossRefIdeal.nD Cert.LossRefIdeal.τ).loc Cert.LossRefIdeal.main_v172) = v1 c
          ∧ r.2.mem ((c.tc : Thread Cert.LossRefIdeal.nD Cert.LossRefIdeal.τ).loc Cert.LossRefIdeal.main_v152) = v2 c
          ∧ r.2.mem ((c.tc : Thread Cert.LossRefIdeal.nD Cert.LossRefIdeal.τ).loc Cert.LossRefIdeal.main_v171) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7))

def preserves_PoolBack_PoolBackIdeal : Prop :=
  True

def algebraic_PoolBackIdeal_PoolBackRefIdeal_pre_finite_pool [hPoolBackIdeal : Cert.PoolBackIdeal.Facts] [hPoolBackRefIdeal : Cert.PoolBackRefIdeal.Facts] [hPre_finite_pool : Cert.Pre_finite_pool.Facts] : Prop :=
  ∀ (m : (ℓ : Loc Cert.PoolBackIdeal.nD Cert.PoolBackIdeal.τ Cert.PoolBackIdeal.sig) → Buf (Elt Ideal) ℓ) (g : Dev Cert.PoolBackIdeal.nD → PrngReg)
    (m' : (ℓ : Loc Cert.PoolBackRefIdeal.nD Cert.PoolBackRefIdeal.τ Cert.PoolBackRefIdeal.sig) → Buf (Elt Ideal) ℓ) (g' : Dev Cert.PoolBackRefIdeal.nD → PrngReg), Pre_PoolBackIdeal_finite_pool m →
    (∀ c : Dev Cert.PoolBackIdeal.nD,
      m' ((c.tc : Thread Cert.PoolBackRefIdeal.nD Cert.PoolBackRefIdeal.τ).loc Cert.PoolBackRefIdeal.main_arg0) = m ((c.tc : Thread Cert.PoolBackIdeal.nD Cert.PoolBackIdeal.τ).loc Cert.PoolBackIdeal.main_arg0)
      ∧ m' ((c.tc : Thread Cert.PoolBackRefIdeal.nD Cert.PoolBackRefIdeal.τ).loc Cert.PoolBackRefIdeal.main_arg1) = m ((c.tc : Thread Cert.PoolBackIdeal.nD Cert.PoolBackIdeal.τ).loc Cert.PoolBackIdeal.main_arg1)
      ∧ m' ((c.tc : Thread Cert.PoolBackRefIdeal.nD Cert.PoolBackRefIdeal.τ).loc Cert.PoolBackRefIdeal.main_arg2) = m ((c.tc : Thread Cert.PoolBackIdeal.nD Cert.PoolBackIdeal.τ).loc Cert.PoolBackIdeal.main_arg2)
      ∧ m' ((c.tc : Thread Cert.PoolBackRefIdeal.nD Cert.PoolBackRefIdeal.τ).loc Cert.PoolBackRefIdeal.main_arg3) = m ((c.tc : Thread Cert.PoolBackIdeal.nD Cert.PoolBackIdeal.τ).loc Cert.PoolBackIdeal.main_arg3)
      ∧ m' ((c.tc : Thread Cert.PoolBackRefIdeal.nD Cert.PoolBackRefIdeal.τ).loc Cert.PoolBackRefIdeal.main_arg4) = m ((c.tc : Thread Cert.PoolBackIdeal.nD Cert.PoolBackIdeal.τ).loc Cert.PoolBackIdeal.main_arg4)
      ∧ m' ((c.tc : Thread Cert.PoolBackRefIdeal.nD Cert.PoolBackRefIdeal.τ).loc Cert.PoolBackRefIdeal.main_arg5) = m ((c.tc : Thread Cert.PoolBackIdeal.nD Cert.PoolBackIdeal.τ).loc Cert.PoolBackIdeal.main_arg5)) →
    ∃ (v0 : (c : Dev Cert.PoolBackIdeal.nD) → Buf (Elt Ideal) ((c.tc : Thread Cert.PoolBackIdeal.nD Cert.PoolBackIdeal.τ).loc Cert.PoolBackIdeal.main_v38_0)) (v1 : (c : Dev Cert.PoolBackIdeal.nD) → Buf (Elt Ideal) ((c.tc : Thread Cert.PoolBackIdeal.nD Cert.PoolBackIdeal.τ).loc Cert.PoolBackIdeal.main_v38_1)) (v2 : (c : Dev Cert.PoolBackIdeal.nD) → Buf (Elt Ideal) ((c.tc : Thread Cert.PoolBackIdeal.nD Cert.PoolBackIdeal.τ).loc Cert.PoolBackIdeal.main_v38_2)) (v3 : (c : Dev Cert.PoolBackIdeal.nD) → Buf (Elt Ideal) ((c.tc : Thread Cert.PoolBackIdeal.nD Cert.PoolBackIdeal.τ).loc Cert.PoolBackIdeal.main_v38_3)),
      θ_run (Cert.PoolBackIdeal.defs (F := Ideal)) (onTc (τ := Cert.PoolBackIdeal.τ) (Cert.PoolBackIdeal.main (F := Ideal))) ⟨m, fun _ => 0, g⟩ (fun r => ∀ c : Dev Cert.PoolBackIdeal.nD,
          r.2.mem ((c.tc : Thread Cert.PoolBackIdeal.nD Cert.PoolBackIdeal.τ).loc Cert.PoolBackIdeal.main_v38_0) = v0 c
          ∧ r.2.mem ((c.tc : Thread Cert.PoolBackIdeal.nD Cert.PoolBackIdeal.τ).loc Cert.PoolBackIdeal.main_v38_1) = v1 c
          ∧ r.2.mem ((c.tc : Thread Cert.PoolBackIdeal.nD Cert.PoolBackIdeal.τ).loc Cert.PoolBackIdeal.main_v38_2) = v2 c
          ∧ r.2.mem ((c.tc : Thread Cert.PoolBackIdeal.nD Cert.PoolBackIdeal.τ).loc Cert.PoolBackIdeal.main_v38_3) = v3 c
          ∧ r.2.mem ((c.tc : Thread Cert.PoolBackIdeal.nD Cert.PoolBackIdeal.τ).loc Cert.PoolBackIdeal.main_arg0) = m ((c.tc : Thread Cert.PoolBackIdeal.nD Cert.PoolBackIdeal.τ).loc Cert.PoolBackIdeal.main_arg0)
          ∧ r.2.mem ((c.tc : Thread Cert.PoolBackIdeal.nD Cert.PoolBackIdeal.τ).loc Cert.PoolBackIdeal.main_arg1) = m ((c.tc : Thread Cert.PoolBackIdeal.nD Cert.PoolBackIdeal.τ).loc Cert.PoolBackIdeal.main_arg1)
          ∧ r.2.mem ((c.tc : Thread Cert.PoolBackIdeal.nD Cert.PoolBackIdeal.τ).loc Cert.PoolBackIdeal.main_arg2) = m ((c.tc : Thread Cert.PoolBackIdeal.nD Cert.PoolBackIdeal.τ).loc Cert.PoolBackIdeal.main_arg2)
          ∧ r.2.mem ((c.tc : Thread Cert.PoolBackIdeal.nD Cert.PoolBackIdeal.τ).loc Cert.PoolBackIdeal.main_arg3) = m ((c.tc : Thread Cert.PoolBackIdeal.nD Cert.PoolBackIdeal.τ).loc Cert.PoolBackIdeal.main_arg3)
          ∧ r.2.mem ((c.tc : Thread Cert.PoolBackIdeal.nD Cert.PoolBackIdeal.τ).loc Cert.PoolBackIdeal.main_arg4) = m ((c.tc : Thread Cert.PoolBackIdeal.nD Cert.PoolBackIdeal.τ).loc Cert.PoolBackIdeal.main_arg4)
          ∧ r.2.mem ((c.tc : Thread Cert.PoolBackIdeal.nD Cert.PoolBackIdeal.τ).loc Cert.PoolBackIdeal.main_arg5) = m ((c.tc : Thread Cert.PoolBackIdeal.nD Cert.PoolBackIdeal.τ).loc Cert.PoolBackIdeal.main_arg5))
      ∧ θ_run (Cert.PoolBackRefIdeal.defs (F := Ideal)) (onTc (τ := Cert.PoolBackRefIdeal.τ) (Cert.PoolBackRefIdeal.main (F := Ideal))) ⟨m', fun _ => 0, g'⟩ (fun r => ∀ c : Dev Cert.PoolBackRefIdeal.nD,
          r.2.mem ((c.tc : Thread Cert.PoolBackRefIdeal.nD Cert.PoolBackRefIdeal.τ).loc Cert.PoolBackRefIdeal.main_v203) = v0 c
          ∧ r.2.mem ((c.tc : Thread Cert.PoolBackRefIdeal.nD Cert.PoolBackRefIdeal.τ).loc Cert.PoolBackRefIdeal.main_v204) = v1 c
          ∧ r.2.mem ((c.tc : Thread Cert.PoolBackRefIdeal.nD Cert.PoolBackRefIdeal.τ).loc Cert.PoolBackRefIdeal.main_v205) = v2 c
          ∧ r.2.mem ((c.tc : Thread Cert.PoolBackRefIdeal.nD Cert.PoolBackRefIdeal.τ).loc Cert.PoolBackRefIdeal.main_v133) = v3 c
          ∧ r.2.mem ((c.tc : Thread Cert.PoolBackRefIdeal.nD Cert.PoolBackRefIdeal.τ).loc Cert.PoolBackRefIdeal.main_arg0) = m' ((c.tc : Thread Cert.PoolBackRefIdeal.nD Cert.PoolBackRefIdeal.τ).loc Cert.PoolBackRefIdeal.main_arg0)
          ∧ r.2.mem ((c.tc : Thread Cert.PoolBackRefIdeal.nD Cert.PoolBackRefIdeal.τ).loc Cert.PoolBackRefIdeal.main_arg1) = m' ((c.tc : Thread Cert.PoolBackRefIdeal.nD Cert.PoolBackRefIdeal.τ).loc Cert.PoolBackRefIdeal.main_arg1)
          ∧ r.2.mem ((c.tc : Thread Cert.PoolBackRefIdeal.nD Cert.PoolBackRefIdeal.τ).loc Cert.PoolBackRefIdeal.main_arg2) = m' ((c.tc : Thread Cert.PoolBackRefIdeal.nD Cert.PoolBackRefIdeal.τ).loc Cert.PoolBackRefIdeal.main_arg2)
          ∧ r.2.mem ((c.tc : Thread Cert.PoolBackRefIdeal.nD Cert.PoolBackRefIdeal.τ).loc Cert.PoolBackRefIdeal.main_arg3) = m' ((c.tc : Thread Cert.PoolBackRefIdeal.nD Cert.PoolBackRefIdeal.τ).loc Cert.PoolBackRefIdeal.main_arg3)
          ∧ r.2.mem ((c.tc : Thread Cert.PoolBackRefIdeal.nD Cert.PoolBackRefIdeal.τ).loc Cert.PoolBackRefIdeal.main_arg4) = m' ((c.tc : Thread Cert.PoolBackRefIdeal.nD Cert.PoolBackRefIdeal.τ).loc Cert.PoolBackRefIdeal.main_arg4)
          ∧ r.2.mem ((c.tc : Thread Cert.PoolBackRefIdeal.nD Cert.PoolBackRefIdeal.τ).loc Cert.PoolBackRefIdeal.main_arg5) = m' ((c.tc : Thread Cert.PoolBackRefIdeal.nD Cert.PoolBackRefIdeal.τ).loc Cert.PoolBackRefIdeal.main_arg5))

def preserves_HgrnIn_HgrnInIdeal : Prop :=
  True

def algebraic_HgrnInIdeal_HgrnInRefIdeal_pre_finite_hgrn_in [hHgrnInIdeal : Cert.HgrnInIdeal.Facts] [hHgrnInRefIdeal : Cert.HgrnInRefIdeal.Facts] [hPre_finite_hgrn_in : Cert.Pre_finite_hgrn_in.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal_finite_hgrn_in m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)
      ∧ m' ((c.tc : Thread Cert.HgrnInRefIdeal.nD Cert.HgrnInRefIdeal.τ).loc Cert.HgrnInRefIdeal.main_arg2) = m ((c.tc : Thread Cert.HgrnInIdeal.nD Cert.HgrnInIdeal.τ).loc Cert.HgrnInIdeal.main_arg2)
      ∧ m' ((c.tc : Thread Cert.HgrnInRefIdeal.nD Cert.HgrnInRefIdeal.τ).loc Cert.HgrnInRefIdeal.main_arg3) = m ((c.tc : Thread Cert.HgrnInIdeal.nD Cert.HgrnInIdeal.τ).loc Cert.HgrnInIdeal.main_arg3)
      ∧ m' ((c.tc : Thread Cert.HgrnInRefIdeal.nD Cert.HgrnInRefIdeal.τ).loc Cert.HgrnInRefIdeal.main_arg4) = m ((c.tc : Thread Cert.HgrnInIdeal.nD Cert.HgrnInIdeal.τ).loc Cert.HgrnInIdeal.main_arg4)
      ∧ m' ((c.tc : Thread Cert.HgrnInRefIdeal.nD Cert.HgrnInRefIdeal.τ).loc Cert.HgrnInRefIdeal.main_arg5) = m ((c.tc : Thread Cert.HgrnInIdeal.nD Cert.HgrnInIdeal.τ).loc Cert.HgrnInIdeal.main_arg5)
      ∧ m' ((c.tc : Thread Cert.HgrnInRefIdeal.nD Cert.HgrnInRefIdeal.τ).loc Cert.HgrnInRefIdeal.main_arg6) = m ((c.tc : Thread Cert.HgrnInIdeal.nD Cert.HgrnInIdeal.τ).loc Cert.HgrnInIdeal.main_arg6)
      ∧ m' ((c.tc : Thread Cert.HgrnInRefIdeal.nD Cert.HgrnInRefIdeal.τ).loc Cert.HgrnInRefIdeal.main_arg7) = m ((c.tc : Thread Cert.HgrnInIdeal.nD Cert.HgrnInIdeal.τ).loc Cert.HgrnInIdeal.main_arg7)
      ∧ m' ((c.tc : Thread Cert.HgrnInRefIdeal.nD Cert.HgrnInRefIdeal.τ).loc Cert.HgrnInRefIdeal.main_arg8) = m ((c.tc : Thread Cert.HgrnInIdeal.nD Cert.HgrnInIdeal.τ).loc Cert.HgrnInIdeal.main_arg8)
      ∧ m' ((c.tc : Thread Cert.HgrnInRefIdeal.nD Cert.HgrnInRefIdeal.τ).loc Cert.HgrnInRefIdeal.main_arg9) = m ((c.tc : Thread Cert.HgrnInIdeal.nD Cert.HgrnInIdeal.τ).loc Cert.HgrnInIdeal.main_arg9)
      ∧ m' ((c.tc : Thread Cert.HgrnInRefIdeal.nD Cert.HgrnInRefIdeal.τ).loc Cert.HgrnInRefIdeal.main_arg10) = m ((c.tc : Thread Cert.HgrnInIdeal.nD Cert.HgrnInIdeal.τ).loc Cert.HgrnInIdeal.main_arg10)) →
    ∃ (v0 : (c : Dev Cert.HgrnInIdeal.nD) → Buf (Elt Ideal) ((c.tc : Thread Cert.HgrnInIdeal.nD Cert.HgrnInIdeal.τ).loc Cert.HgrnInIdeal.main_v4_0)) (v1 : (c : Dev Cert.HgrnInIdeal.nD) → Buf (Elt Ideal) ((c.tc : Thread Cert.HgrnInIdeal.nD Cert.HgrnInIdeal.τ).loc Cert.HgrnInIdeal.main_v4_1)) (v2 : (c : Dev Cert.HgrnInIdeal.nD) → Buf (Elt Ideal) ((c.tc : Thread Cert.HgrnInIdeal.nD Cert.HgrnInIdeal.τ).loc Cert.HgrnInIdeal.main_v4_2)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v4_0) = v0 c
          ∧ r.2.mem ((c.tc : Thread Cert.HgrnInIdeal.nD Cert.HgrnInIdeal.τ).loc Cert.HgrnInIdeal.main_v4_1) = v1 c
          ∧ r.2.mem ((c.tc : Thread Cert.HgrnInIdeal.nD Cert.HgrnInIdeal.τ).loc Cert.HgrnInIdeal.main_v4_2) = v2 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
          ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
          ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3)
          ∧ r.2.mem ((c.tc : Thread Cert.HgrnInIdeal.nD Cert.HgrnInIdeal.τ).loc Cert.HgrnInIdeal.main_arg4) = m ((c.tc : Thread Cert.HgrnInIdeal.nD Cert.HgrnInIdeal.τ).loc Cert.HgrnInIdeal.main_arg4)
          ∧ r.2.mem ((c.tc : Thread Cert.HgrnInIdeal.nD Cert.HgrnInIdeal.τ).loc Cert.HgrnInIdeal.main_arg5) = m ((c.tc : Thread Cert.HgrnInIdeal.nD Cert.HgrnInIdeal.τ).loc Cert.HgrnInIdeal.main_arg5)
          ∧ r.2.mem ((c.tc : Thread Cert.HgrnInIdeal.nD Cert.HgrnInIdeal.τ).loc Cert.HgrnInIdeal.main_arg6) = m ((c.tc : Thread Cert.HgrnInIdeal.nD Cert.HgrnInIdeal.τ).loc Cert.HgrnInIdeal.main_arg6)
          ∧ r.2.mem ((c.tc : Thread Cert.HgrnInIdeal.nD Cert.HgrnInIdeal.τ).loc Cert.HgrnInIdeal.main_arg7) = m ((c.tc : Thread Cert.HgrnInIdeal.nD Cert.HgrnInIdeal.τ).loc Cert.HgrnInIdeal.main_arg7)
          ∧ r.2.mem ((c.tc : Thread Cert.HgrnInIdeal.nD Cert.HgrnInIdeal.τ).loc Cert.HgrnInIdeal.main_arg8) = m ((c.tc : Thread Cert.HgrnInIdeal.nD Cert.HgrnInIdeal.τ).loc Cert.HgrnInIdeal.main_arg8)
          ∧ r.2.mem ((c.tc : Thread Cert.HgrnInIdeal.nD Cert.HgrnInIdeal.τ).loc Cert.HgrnInIdeal.main_arg9) = m ((c.tc : Thread Cert.HgrnInIdeal.nD Cert.HgrnInIdeal.τ).loc Cert.HgrnInIdeal.main_arg9)
          ∧ r.2.mem ((c.tc : Thread Cert.HgrnInIdeal.nD Cert.HgrnInIdeal.τ).loc Cert.HgrnInIdeal.main_arg10) = m ((c.tc : Thread Cert.HgrnInIdeal.nD Cert.HgrnInIdeal.τ).loc Cert.HgrnInIdeal.main_arg10))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v116) = v0 c
          ∧ r.2.mem ((c.tc : Thread Cert.HgrnInRefIdeal.nD Cert.HgrnInRefIdeal.τ).loc Cert.HgrnInRefIdeal.main_v99) = v1 c
          ∧ r.2.mem ((c.tc : Thread Cert.HgrnInRefIdeal.nD Cert.HgrnInRefIdeal.τ).loc Cert.HgrnInRefIdeal.main_v122) = v2 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1)
          ∧ r.2.mem ((c.tc : Thread Cert.HgrnInRefIdeal.nD Cert.HgrnInRefIdeal.τ).loc Cert.HgrnInRefIdeal.main_arg2) = m' ((c.tc : Thread Cert.HgrnInRefIdeal.nD Cert.HgrnInRefIdeal.τ).loc Cert.HgrnInRefIdeal.main_arg2)
          ∧ r.2.mem ((c.tc : Thread Cert.HgrnInRefIdeal.nD Cert.HgrnInRefIdeal.τ).loc Cert.HgrnInRefIdeal.main_arg3) = m' ((c.tc : Thread Cert.HgrnInRefIdeal.nD Cert.HgrnInRefIdeal.τ).loc Cert.HgrnInRefIdeal.main_arg3)
          ∧ r.2.mem ((c.tc : Thread Cert.HgrnInRefIdeal.nD Cert.HgrnInRefIdeal.τ).loc Cert.HgrnInRefIdeal.main_arg4) = m' ((c.tc : Thread Cert.HgrnInRefIdeal.nD Cert.HgrnInRefIdeal.τ).loc Cert.HgrnInRefIdeal.main_arg4)
          ∧ r.2.mem ((c.tc : Thread Cert.HgrnInRefIdeal.nD Cert.HgrnInRefIdeal.τ).loc Cert.HgrnInRefIdeal.main_arg5) = m' ((c.tc : Thread Cert.HgrnInRefIdeal.nD Cert.HgrnInRefIdeal.τ).loc Cert.HgrnInRefIdeal.main_arg5)
          ∧ r.2.mem ((c.tc : Thread Cert.HgrnInRefIdeal.nD Cert.HgrnInRefIdeal.τ).loc Cert.HgrnInRefIdeal.main_arg6) = m' ((c.tc : Thread Cert.HgrnInRefIdeal.nD Cert.HgrnInRefIdeal.τ).loc Cert.HgrnInRefIdeal.main_arg6)
          ∧ r.2.mem ((c.tc : Thread Cert.HgrnInRefIdeal.nD Cert.HgrnInRefIdeal.τ).loc Cert.HgrnInRefIdeal.main_arg7) = m' ((c.tc : Thread Cert.HgrnInRefIdeal.nD Cert.HgrnInRefIdeal.τ).loc Cert.HgrnInRefIdeal.main_arg7)
          ∧ r.2.mem ((c.tc : Thread Cert.HgrnInRefIdeal.nD Cert.HgrnInRefIdeal.τ).loc Cert.HgrnInRefIdeal.main_arg8) = m' ((c.tc : Thread Cert.HgrnInRefIdeal.nD Cert.HgrnInRefIdeal.τ).loc Cert.HgrnInRefIdeal.main_arg8)
          ∧ r.2.mem ((c.tc : Thread Cert.HgrnInRefIdeal.nD Cert.HgrnInRefIdeal.τ).loc Cert.HgrnInRefIdeal.main_arg9) = m' ((c.tc : Thread Cert.HgrnInRefIdeal.nD Cert.HgrnInRefIdeal.τ).loc Cert.HgrnInRefIdeal.main_arg9)
          ∧ r.2.mem ((c.tc : Thread Cert.HgrnInRefIdeal.nD Cert.HgrnInRefIdeal.τ).loc Cert.HgrnInRefIdeal.main_arg10) = m' ((c.tc : Thread Cert.HgrnInRefIdeal.nD Cert.HgrnInRefIdeal.τ).loc Cert.HgrnInRefIdeal.main_arg10))

def preserves_Ada_AdaIdeal : Prop :=
  True

def algebraic_AdaIdeal_AdaRefIdeal_pre_finite_ada [hAdaIdeal : Cert.AdaIdeal.Facts] [hAdaRefIdeal : Cert.AdaRefIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_finite_ada m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)) →
    ∃ (v0 : (c : Dev Cert.AdaIdeal.nD) → Buf (Elt Ideal) ((c.tc : Thread Cert.AdaIdeal.nD Cert.AdaIdeal.τ).loc Cert.AdaIdeal.main_v1_0)) (v1 : (c : Dev Cert.AdaIdeal.nD) → Buf (Elt Ideal) ((c.tc : Thread Cert.AdaIdeal.nD Cert.AdaIdeal.τ).loc Cert.AdaIdeal.main_v1_1)) (v2 : (c : Dev Cert.AdaIdeal.nD) → Buf (Elt Ideal) ((c.tc : Thread Cert.AdaIdeal.nD Cert.AdaIdeal.τ).loc Cert.AdaIdeal.main_v1_2)) (v3 : (c : Dev Cert.AdaIdeal.nD) → Buf (Elt Ideal) ((c.tc : Thread Cert.AdaIdeal.nD Cert.AdaIdeal.τ).loc Cert.AdaIdeal.main_v1_3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1_0) = v0 c
          ∧ r.2.mem ((c.tc : Thread Cert.AdaIdeal.nD Cert.AdaIdeal.τ).loc Cert.AdaIdeal.main_v1_1) = v1 c
          ∧ r.2.mem ((c.tc : Thread Cert.AdaIdeal.nD Cert.AdaIdeal.τ).loc Cert.AdaIdeal.main_v1_2) = v2 c
          ∧ r.2.mem ((c.tc : Thread Cert.AdaIdeal.nD Cert.AdaIdeal.τ).loc Cert.AdaIdeal.main_v1_3) = v3 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v23) = v0 c
          ∧ r.2.mem ((c.tc : Thread Cert.AdaRefIdeal.nD Cert.AdaRefIdeal.τ).loc Cert.AdaRefIdeal.main_v47) = v1 c
          ∧ r.2.mem ((c.tc : Thread Cert.AdaRefIdeal.nD Cert.AdaRefIdeal.τ).loc Cert.AdaRefIdeal.main_v28) = v2 c
          ∧ r.2.mem ((c.tc : Thread Cert.AdaRefIdeal.nD Cert.AdaRefIdeal.τ).loc Cert.AdaRefIdeal.main_v34) = v3 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4))

def preserves_HgrnOutFwd_HgrnOutFwdIdeal : Prop :=
  True

def algebraic_HgrnOutFwdIdeal_HgrnOutFwdRefIdeal [hHgrnOutFwdIdeal : Cert.HgrnOutFwdIdeal.Facts] [hHgrnOutFwdRefIdeal : Cert.HgrnOutFwdRefIdeal.Facts] : Prop :=
  ∀ (m : (ℓ : Loc Cert.HgrnOutFwdIdeal.nD Cert.HgrnOutFwdIdeal.τ Cert.HgrnOutFwdIdeal.sig) → Buf (Elt Ideal) ℓ) (g : Dev Cert.HgrnOutFwdIdeal.nD → PrngReg)
    (m' : (ℓ : Loc Cert.HgrnOutFwdRefIdeal.nD Cert.HgrnOutFwdRefIdeal.τ Cert.HgrnOutFwdRefIdeal.sig) → Buf (Elt Ideal) ℓ) (g' : Dev Cert.HgrnOutFwdRefIdeal.nD → PrngReg), Pre_HgrnOutFwdIdeal m →
    (∀ c : Dev Cert.HgrnOutFwdIdeal.nD,
      m' ((c.tc : Thread Cert.HgrnOutFwdRefIdeal.nD Cert.HgrnOutFwdRefIdeal.τ).loc Cert.HgrnOutFwdRefIdeal.main_arg0) = m ((c.tc : Thread Cert.HgrnOutFwdIdeal.nD Cert.HgrnOutFwdIdeal.τ).loc Cert.HgrnOutFwdIdeal.main_arg0)
      ∧ m' ((c.tc : Thread Cert.HgrnOutFwdRefIdeal.nD Cert.HgrnOutFwdRefIdeal.τ).loc Cert.HgrnOutFwdRefIdeal.main_arg1) = m ((c.tc : Thread Cert.HgrnOutFwdIdeal.nD Cert.HgrnOutFwdIdeal.τ).loc Cert.HgrnOutFwdIdeal.main_arg1)
      ∧ m' ((c.tc : Thread Cert.HgrnOutFwdRefIdeal.nD Cert.HgrnOutFwdRefIdeal.τ).loc Cert.HgrnOutFwdRefIdeal.main_arg2) = m ((c.tc : Thread Cert.HgrnOutFwdIdeal.nD Cert.HgrnOutFwdIdeal.τ).loc Cert.HgrnOutFwdIdeal.main_arg2)
      ∧ m' ((c.tc : Thread Cert.HgrnOutFwdRefIdeal.nD Cert.HgrnOutFwdRefIdeal.τ).loc Cert.HgrnOutFwdRefIdeal.main_arg3) = m ((c.tc : Thread Cert.HgrnOutFwdIdeal.nD Cert.HgrnOutFwdIdeal.τ).loc Cert.HgrnOutFwdIdeal.main_arg3)
      ∧ m' ((c.tc : Thread Cert.HgrnOutFwdRefIdeal.nD Cert.HgrnOutFwdRefIdeal.τ).loc Cert.HgrnOutFwdRefIdeal.main_arg4) = m ((c.tc : Thread Cert.HgrnOutFwdIdeal.nD Cert.HgrnOutFwdIdeal.τ).loc Cert.HgrnOutFwdIdeal.main_arg4)
      ∧ m' ((c.tc : Thread Cert.HgrnOutFwdRefIdeal.nD Cert.HgrnOutFwdRefIdeal.τ).loc Cert.HgrnOutFwdRefIdeal.main_arg5) = m ((c.tc : Thread Cert.HgrnOutFwdIdeal.nD Cert.HgrnOutFwdIdeal.τ).loc Cert.HgrnOutFwdIdeal.main_arg5)) →
    ∃ (v0 : (c : Dev Cert.HgrnOutFwdIdeal.nD) → Buf (Elt Ideal) ((c.tc : Thread Cert.HgrnOutFwdIdeal.nD Cert.HgrnOutFwdIdeal.τ).loc Cert.HgrnOutFwdIdeal.main_v0_0)) (v1 : (c : Dev Cert.HgrnOutFwdIdeal.nD) → Buf (Elt Ideal) ((c.tc : Thread Cert.HgrnOutFwdIdeal.nD Cert.HgrnOutFwdIdeal.τ).loc Cert.HgrnOutFwdIdeal.main_v0_1)),
      θ_run (Cert.HgrnOutFwdIdeal.defs (F := Ideal)) (onTc (τ := Cert.HgrnOutFwdIdeal.τ) (Cert.HgrnOutFwdIdeal.main (F := Ideal))) ⟨m, fun _ => 0, g⟩ (fun r => ∀ c : Dev Cert.HgrnOutFwdIdeal.nD,
          r.2.mem ((c.tc : Thread Cert.HgrnOutFwdIdeal.nD Cert.HgrnOutFwdIdeal.τ).loc Cert.HgrnOutFwdIdeal.main_v0_0) = v0 c
          ∧ r.2.mem ((c.tc : Thread Cert.HgrnOutFwdIdeal.nD Cert.HgrnOutFwdIdeal.τ).loc Cert.HgrnOutFwdIdeal.main_v0_1) = v1 c
          ∧ r.2.mem ((c.tc : Thread Cert.HgrnOutFwdIdeal.nD Cert.HgrnOutFwdIdeal.τ).loc Cert.HgrnOutFwdIdeal.main_arg0) = m ((c.tc : Thread Cert.HgrnOutFwdIdeal.nD Cert.HgrnOutFwdIdeal.τ).loc Cert.HgrnOutFwdIdeal.main_arg0)
          ∧ r.2.mem ((c.tc : Thread Cert.HgrnOutFwdIdeal.nD Cert.HgrnOutFwdIdeal.τ).loc Cert.HgrnOutFwdIdeal.main_arg1) = m ((c.tc : Thread Cert.HgrnOutFwdIdeal.nD Cert.HgrnOutFwdIdeal.τ).loc Cert.HgrnOutFwdIdeal.main_arg1)
          ∧ r.2.mem ((c.tc : Thread Cert.HgrnOutFwdIdeal.nD Cert.HgrnOutFwdIdeal.τ).loc Cert.HgrnOutFwdIdeal.main_arg2) = m ((c.tc : Thread Cert.HgrnOutFwdIdeal.nD Cert.HgrnOutFwdIdeal.τ).loc Cert.HgrnOutFwdIdeal.main_arg2)
          ∧ r.2.mem ((c.tc : Thread Cert.HgrnOutFwdIdeal.nD Cert.HgrnOutFwdIdeal.τ).loc Cert.HgrnOutFwdIdeal.main_arg3) = m ((c.tc : Thread Cert.HgrnOutFwdIdeal.nD Cert.HgrnOutFwdIdeal.τ).loc Cert.HgrnOutFwdIdeal.main_arg3)
          ∧ r.2.mem ((c.tc : Thread Cert.HgrnOutFwdIdeal.nD Cert.HgrnOutFwdIdeal.τ).loc Cert.HgrnOutFwdIdeal.main_arg4) = m ((c.tc : Thread Cert.HgrnOutFwdIdeal.nD Cert.HgrnOutFwdIdeal.τ).loc Cert.HgrnOutFwdIdeal.main_arg4)
          ∧ r.2.mem ((c.tc : Thread Cert.HgrnOutFwdIdeal.nD Cert.HgrnOutFwdIdeal.τ).loc Cert.HgrnOutFwdIdeal.main_arg5) = m ((c.tc : Thread Cert.HgrnOutFwdIdeal.nD Cert.HgrnOutFwdIdeal.τ).loc Cert.HgrnOutFwdIdeal.main_arg5))
      ∧ θ_run (Cert.HgrnOutFwdRefIdeal.defs (F := Ideal)) (onTc (τ := Cert.HgrnOutFwdRefIdeal.τ) (Cert.HgrnOutFwdRefIdeal.main (F := Ideal))) ⟨m', fun _ => 0, g'⟩ (fun r => ∀ c : Dev Cert.HgrnOutFwdRefIdeal.nD,
          r.2.mem ((c.tc : Thread Cert.HgrnOutFwdRefIdeal.nD Cert.HgrnOutFwdRefIdeal.τ).loc Cert.HgrnOutFwdRefIdeal.main_v24) = v0 c
          ∧ r.2.mem ((c.tc : Thread Cert.HgrnOutFwdRefIdeal.nD Cert.HgrnOutFwdRefIdeal.τ).loc Cert.HgrnOutFwdRefIdeal.main_v21) = v1 c
          ∧ r.2.mem ((c.tc : Thread Cert.HgrnOutFwdRefIdeal.nD Cert.HgrnOutFwdRefIdeal.τ).loc Cert.HgrnOutFwdRefIdeal.main_arg0) = m' ((c.tc : Thread Cert.HgrnOutFwdRefIdeal.nD Cert.HgrnOutFwdRefIdeal.τ).loc Cert.HgrnOutFwdRefIdeal.main_arg0)
          ∧ r.2.mem ((c.tc : Thread Cert.HgrnOutFwdRefIdeal.nD Cert.HgrnOutFwdRefIdeal.τ).loc Cert.HgrnOutFwdRefIdeal.main_arg1) = m' ((c.tc : Thread Cert.HgrnOutFwdRefIdeal.nD Cert.HgrnOutFwdRefIdeal.τ).loc Cert.HgrnOutFwdRefIdeal.main_arg1)
          ∧ r.2.mem ((c.tc : Thread Cert.HgrnOutFwdRefIdeal.nD Cert.HgrnOutFwdRefIdeal.τ).loc Cert.HgrnOutFwdRefIdeal.main_arg2) = m' ((c.tc : Thread Cert.HgrnOutFwdRefIdeal.nD Cert.HgrnOutFwdRefIdeal.τ).loc Cert.HgrnOutFwdRefIdeal.main_arg2)
          ∧ r.2.mem ((c.tc : Thread Cert.HgrnOutFwdRefIdeal.nD Cert.HgrnOutFwdRefIdeal.τ).loc Cert.HgrnOutFwdRefIdeal.main_arg3) = m' ((c.tc : Thread Cert.HgrnOutFwdRefIdeal.nD Cert.HgrnOutFwdRefIdeal.τ).loc Cert.HgrnOutFwdRefIdeal.main_arg3)
          ∧ r.2.mem ((c.tc : Thread Cert.HgrnOutFwdRefIdeal.nD Cert.HgrnOutFwdRefIdeal.τ).loc Cert.HgrnOutFwdRefIdeal.main_arg4) = m' ((c.tc : Thread Cert.HgrnOutFwdRefIdeal.nD Cert.HgrnOutFwdRefIdeal.τ).loc Cert.HgrnOutFwdRefIdeal.main_arg4)
          ∧ r.2.mem ((c.tc : Thread Cert.HgrnOutFwdRefIdeal.nD Cert.HgrnOutFwdRefIdeal.τ).loc Cert.HgrnOutFwdRefIdeal.main_arg5) = m' ((c.tc : Thread Cert.HgrnOutFwdRefIdeal.nD Cert.HgrnOutFwdRefIdeal.τ).loc Cert.HgrnOutFwdRefIdeal.main_arg5))

def preserves_PoolInFwd_PoolInFwdIdeal : Prop :=
  True

def algebraic_PoolInFwdIdeal_PoolInFwdRefIdeal [hPoolInFwdIdeal : Cert.PoolInFwdIdeal.Facts] [hPoolInFwdRefIdeal : Cert.PoolInFwdRefIdeal.Facts] : Prop :=
  ∀ (m : (ℓ : Loc Cert.PoolInFwdIdeal.nD Cert.PoolInFwdIdeal.τ Cert.PoolInFwdIdeal.sig) → Buf (Elt Ideal) ℓ) (g : Dev Cert.PoolInFwdIdeal.nD → PrngReg)
    (m' : (ℓ : Loc Cert.PoolInFwdRefIdeal.nD Cert.PoolInFwdRefIdeal.τ Cert.PoolInFwdRefIdeal.sig) → Buf (Elt Ideal) ℓ) (g' : Dev Cert.PoolInFwdRefIdeal.nD → PrngReg), Pre_PoolInFwdIdeal m →
    (∀ c : Dev Cert.PoolInFwdIdeal.nD,
      m' ((c.tc : Thread Cert.PoolInFwdRefIdeal.nD Cert.PoolInFwdRefIdeal.τ).loc Cert.PoolInFwdRefIdeal.main_arg0) = m ((c.tc : Thread Cert.PoolInFwdIdeal.nD Cert.PoolInFwdIdeal.τ).loc Cert.PoolInFwdIdeal.main_arg0)
      ∧ m' ((c.tc : Thread Cert.PoolInFwdRefIdeal.nD Cert.PoolInFwdRefIdeal.τ).loc Cert.PoolInFwdRefIdeal.main_arg1) = m ((c.tc : Thread Cert.PoolInFwdIdeal.nD Cert.PoolInFwdIdeal.τ).loc Cert.PoolInFwdIdeal.main_arg1)
      ∧ m' ((c.tc : Thread Cert.PoolInFwdRefIdeal.nD Cert.PoolInFwdRefIdeal.τ).loc Cert.PoolInFwdRefIdeal.main_arg2) = m ((c.tc : Thread Cert.PoolInFwdIdeal.nD Cert.PoolInFwdIdeal.τ).loc Cert.PoolInFwdIdeal.main_arg2)
      ∧ m' ((c.tc : Thread Cert.PoolInFwdRefIdeal.nD Cert.PoolInFwdRefIdeal.τ).loc Cert.PoolInFwdRefIdeal.main_arg3) = m ((c.tc : Thread Cert.PoolInFwdIdeal.nD Cert.PoolInFwdIdeal.τ).loc Cert.PoolInFwdIdeal.main_arg3)
      ∧ m' ((c.tc : Thread Cert.PoolInFwdRefIdeal.nD Cert.PoolInFwdRefIdeal.τ).loc Cert.PoolInFwdRefIdeal.main_arg4) = m ((c.tc : Thread Cert.PoolInFwdIdeal.nD Cert.PoolInFwdIdeal.τ).loc Cert.PoolInFwdIdeal.main_arg4)) →
    ∃ (v0 : (c : Dev Cert.PoolInFwdIdeal.nD) → Buf (Elt Ideal) ((c.tc : Thread Cert.PoolInFwdIdeal.nD Cert.PoolInFwdIdeal.τ).loc Cert.PoolInFwdIdeal.main_v2_0)) (v1 : (c : Dev Cert.PoolInFwdIdeal.nD) → Buf (Elt Ideal) ((c.tc : Thread Cert.PoolInFwdIdeal.nD Cert.PoolInFwdIdeal.τ).loc Cert.PoolInFwdIdeal.main_v2_1)),
      θ_run (Cert.PoolInFwdIdeal.defs (F := Ideal)) (onTc (τ := Cert.PoolInFwdIdeal.τ) (Cert.PoolInFwdIdeal.main (F := Ideal))) ⟨m, fun _ => 0, g⟩ (fun r => ∀ c : Dev Cert.PoolInFwdIdeal.nD,
          r.2.mem ((c.tc : Thread Cert.PoolInFwdIdeal.nD Cert.PoolInFwdIdeal.τ).loc Cert.PoolInFwdIdeal.main_v2_0) = v0 c
          ∧ r.2.mem ((c.tc : Thread Cert.PoolInFwdIdeal.nD Cert.PoolInFwdIdeal.τ).loc Cert.PoolInFwdIdeal.main_v2_1) = v1 c
          ∧ r.2.mem ((c.tc : Thread Cert.PoolInFwdIdeal.nD Cert.PoolInFwdIdeal.τ).loc Cert.PoolInFwdIdeal.main_arg0) = m ((c.tc : Thread Cert.PoolInFwdIdeal.nD Cert.PoolInFwdIdeal.τ).loc Cert.PoolInFwdIdeal.main_arg0)
          ∧ r.2.mem ((c.tc : Thread Cert.PoolInFwdIdeal.nD Cert.PoolInFwdIdeal.τ).loc Cert.PoolInFwdIdeal.main_arg1) = m ((c.tc : Thread Cert.PoolInFwdIdeal.nD Cert.PoolInFwdIdeal.τ).loc Cert.PoolInFwdIdeal.main_arg1)
          ∧ r.2.mem ((c.tc : Thread Cert.PoolInFwdIdeal.nD Cert.PoolInFwdIdeal.τ).loc Cert.PoolInFwdIdeal.main_arg2) = m ((c.tc : Thread Cert.PoolInFwdIdeal.nD Cert.PoolInFwdIdeal.τ).loc Cert.PoolInFwdIdeal.main_arg2)
          ∧ r.2.mem ((c.tc : Thread Cert.PoolInFwdIdeal.nD Cert.PoolInFwdIdeal.τ).loc Cert.PoolInFwdIdeal.main_arg3) = m ((c.tc : Thread Cert.PoolInFwdIdeal.nD Cert.PoolInFwdIdeal.τ).loc Cert.PoolInFwdIdeal.main_arg3)
          ∧ r.2.mem ((c.tc : Thread Cert.PoolInFwdIdeal.nD Cert.PoolInFwdIdeal.τ).loc Cert.PoolInFwdIdeal.main_arg4) = m ((c.tc : Thread Cert.PoolInFwdIdeal.nD Cert.PoolInFwdIdeal.τ).loc Cert.PoolInFwdIdeal.main_arg4))
      ∧ θ_run (Cert.PoolInFwdRefIdeal.defs (F := Ideal)) (onTc (τ := Cert.PoolInFwdRefIdeal.τ) (Cert.PoolInFwdRefIdeal.main (F := Ideal))) ⟨m', fun _ => 0, g'⟩ (fun r => ∀ c : Dev Cert.PoolInFwdRefIdeal.nD,
          r.2.mem ((c.tc : Thread Cert.PoolInFwdRefIdeal.nD Cert.PoolInFwdRefIdeal.τ).loc Cert.PoolInFwdRefIdeal.main_v24) = v0 c
          ∧ r.2.mem ((c.tc : Thread Cert.PoolInFwdRefIdeal.nD Cert.PoolInFwdRefIdeal.τ).loc Cert.PoolInFwdRefIdeal.main_v25) = v1 c
          ∧ r.2.mem ((c.tc : Thread Cert.PoolInFwdRefIdeal.nD Cert.PoolInFwdRefIdeal.τ).loc Cert.PoolInFwdRefIdeal.main_arg0) = m' ((c.tc : Thread Cert.PoolInFwdRefIdeal.nD Cert.PoolInFwdRefIdeal.τ).loc Cert.PoolInFwdRefIdeal.main_arg0)
          ∧ r.2.mem ((c.tc : Thread Cert.PoolInFwdRefIdeal.nD Cert.PoolInFwdRefIdeal.τ).loc Cert.PoolInFwdRefIdeal.main_arg1) = m' ((c.tc : Thread Cert.PoolInFwdRefIdeal.nD Cert.PoolInFwdRefIdeal.τ).loc Cert.PoolInFwdRefIdeal.main_arg1)
          ∧ r.2.mem ((c.tc : Thread Cert.PoolInFwdRefIdeal.nD Cert.PoolInFwdRefIdeal.τ).loc Cert.PoolInFwdRefIdeal.main_arg2) = m' ((c.tc : Thread Cert.PoolInFwdRefIdeal.nD Cert.PoolInFwdRefIdeal.τ).loc Cert.PoolInFwdRefIdeal.main_arg2)
          ∧ r.2.mem ((c.tc : Thread Cert.PoolInFwdRefIdeal.nD Cert.PoolInFwdRefIdeal.τ).loc Cert.PoolInFwdRefIdeal.main_arg3) = m' ((c.tc : Thread Cert.PoolInFwdRefIdeal.nD Cert.PoolInFwdRefIdeal.τ).loc Cert.PoolInFwdRefIdeal.main_arg3)
          ∧ r.2.mem ((c.tc : Thread Cert.PoolInFwdRefIdeal.nD Cert.PoolInFwdRefIdeal.τ).loc Cert.PoolInFwdRefIdeal.main_arg4) = m' ((c.tc : Thread Cert.PoolInFwdRefIdeal.nD Cert.PoolInFwdRefIdeal.τ).loc Cert.PoolInFwdRefIdeal.main_arg4))

def preserves_HgrnInFwd_HgrnInFwdIdeal : Prop :=
  True

def algebraic_HgrnInFwdIdeal_HgrnInFwdRefIdeal [hHgrnInFwdIdeal : Cert.HgrnInFwdIdeal.Facts] [hHgrnInFwdRefIdeal : Cert.HgrnInFwdRefIdeal.Facts] : Prop :=
  ∀ (m : (ℓ : Loc Cert.HgrnInFwdIdeal.nD Cert.HgrnInFwdIdeal.τ Cert.HgrnInFwdIdeal.sig) → Buf (Elt Ideal) ℓ) (g : Dev Cert.HgrnInFwdIdeal.nD → PrngReg)
    (m' : (ℓ : Loc Cert.HgrnInFwdRefIdeal.nD Cert.HgrnInFwdRefIdeal.τ Cert.HgrnInFwdRefIdeal.sig) → Buf (Elt Ideal) ℓ) (g' : Dev Cert.HgrnInFwdRefIdeal.nD → PrngReg), Pre_HgrnInFwdIdeal m →
    (∀ c : Dev Cert.HgrnInFwdIdeal.nD,
      m' ((c.tc : Thread Cert.HgrnInFwdRefIdeal.nD Cert.HgrnInFwdRefIdeal.τ).loc Cert.HgrnInFwdRefIdeal.main_arg0) = m ((c.tc : Thread Cert.HgrnInFwdIdeal.nD Cert.HgrnInFwdIdeal.τ).loc Cert.HgrnInFwdIdeal.main_arg0)
      ∧ m' ((c.tc : Thread Cert.HgrnInFwdRefIdeal.nD Cert.HgrnInFwdRefIdeal.τ).loc Cert.HgrnInFwdRefIdeal.main_arg1) = m ((c.tc : Thread Cert.HgrnInFwdIdeal.nD Cert.HgrnInFwdIdeal.τ).loc Cert.HgrnInFwdIdeal.main_arg1)
      ∧ m' ((c.tc : Thread Cert.HgrnInFwdRefIdeal.nD Cert.HgrnInFwdRefIdeal.τ).loc Cert.HgrnInFwdRefIdeal.main_arg2) = m ((c.tc : Thread Cert.HgrnInFwdIdeal.nD Cert.HgrnInFwdIdeal.τ).loc Cert.HgrnInFwdIdeal.main_arg2)
      ∧ m' ((c.tc : Thread Cert.HgrnInFwdRefIdeal.nD Cert.HgrnInFwdRefIdeal.τ).loc Cert.HgrnInFwdRefIdeal.main_arg3) = m ((c.tc : Thread Cert.HgrnInFwdIdeal.nD Cert.HgrnInFwdIdeal.τ).loc Cert.HgrnInFwdIdeal.main_arg3)
      ∧ m' ((c.tc : Thread Cert.HgrnInFwdRefIdeal.nD Cert.HgrnInFwdRefIdeal.τ).loc Cert.HgrnInFwdRefIdeal.main_arg4) = m ((c.tc : Thread Cert.HgrnInFwdIdeal.nD Cert.HgrnInFwdIdeal.τ).loc Cert.HgrnInFwdIdeal.main_arg4)
      ∧ m' ((c.tc : Thread Cert.HgrnInFwdRefIdeal.nD Cert.HgrnInFwdRefIdeal.τ).loc Cert.HgrnInFwdRefIdeal.main_arg5) = m ((c.tc : Thread Cert.HgrnInFwdIdeal.nD Cert.HgrnInFwdIdeal.τ).loc Cert.HgrnInFwdIdeal.main_arg5)
      ∧ m' ((c.tc : Thread Cert.HgrnInFwdRefIdeal.nD Cert.HgrnInFwdRefIdeal.τ).loc Cert.HgrnInFwdRefIdeal.main_arg6) = m ((c.tc : Thread Cert.HgrnInFwdIdeal.nD Cert.HgrnInFwdIdeal.τ).loc Cert.HgrnInFwdIdeal.main_arg6)
      ∧ m' ((c.tc : Thread Cert.HgrnInFwdRefIdeal.nD Cert.HgrnInFwdRefIdeal.τ).loc Cert.HgrnInFwdRefIdeal.main_arg7) = m ((c.tc : Thread Cert.HgrnInFwdIdeal.nD Cert.HgrnInFwdIdeal.τ).loc Cert.HgrnInFwdIdeal.main_arg7)) →
    ∃ (v0 : (c : Dev Cert.HgrnInFwdIdeal.nD) → Buf (Elt Ideal) ((c.tc : Thread Cert.HgrnInFwdIdeal.nD Cert.HgrnInFwdIdeal.τ).loc Cert.HgrnInFwdIdeal.main_v4_0)) (v1 : (c : Dev Cert.HgrnInFwdIdeal.nD) → Buf (Elt Ideal) ((c.tc : Thread Cert.HgrnInFwdIdeal.nD Cert.HgrnInFwdIdeal.τ).loc Cert.HgrnInFwdIdeal.main_v4_1)),
      θ_run (Cert.HgrnInFwdIdeal.defs (F := Ideal)) (onTc (τ := Cert.HgrnInFwdIdeal.τ) (Cert.HgrnInFwdIdeal.main (F := Ideal))) ⟨m, fun _ => 0, g⟩ (fun r => ∀ c : Dev Cert.HgrnInFwdIdeal.nD,
          r.2.mem ((c.tc : Thread Cert.HgrnInFwdIdeal.nD Cert.HgrnInFwdIdeal.τ).loc Cert.HgrnInFwdIdeal.main_v4_0) = v0 c
          ∧ r.2.mem ((c.tc : Thread Cert.HgrnInFwdIdeal.nD Cert.HgrnInFwdIdeal.τ).loc Cert.HgrnInFwdIdeal.main_v4_1) = v1 c
          ∧ r.2.mem ((c.tc : Thread Cert.HgrnInFwdIdeal.nD Cert.HgrnInFwdIdeal.τ).loc Cert.HgrnInFwdIdeal.main_arg0) = m ((c.tc : Thread Cert.HgrnInFwdIdeal.nD Cert.HgrnInFwdIdeal.τ).loc Cert.HgrnInFwdIdeal.main_arg0)
          ∧ r.2.mem ((c.tc : Thread Cert.HgrnInFwdIdeal.nD Cert.HgrnInFwdIdeal.τ).loc Cert.HgrnInFwdIdeal.main_arg1) = m ((c.tc : Thread Cert.HgrnInFwdIdeal.nD Cert.HgrnInFwdIdeal.τ).loc Cert.HgrnInFwdIdeal.main_arg1)
          ∧ r.2.mem ((c.tc : Thread Cert.HgrnInFwdIdeal.nD Cert.HgrnInFwdIdeal.τ).loc Cert.HgrnInFwdIdeal.main_arg2) = m ((c.tc : Thread Cert.HgrnInFwdIdeal.nD Cert.HgrnInFwdIdeal.τ).loc Cert.HgrnInFwdIdeal.main_arg2)
          ∧ r.2.mem ((c.tc : Thread Cert.HgrnInFwdIdeal.nD Cert.HgrnInFwdIdeal.τ).loc Cert.HgrnInFwdIdeal.main_arg3) = m ((c.tc : Thread Cert.HgrnInFwdIdeal.nD Cert.HgrnInFwdIdeal.τ).loc Cert.HgrnInFwdIdeal.main_arg3)
          ∧ r.2.mem ((c.tc : Thread Cert.HgrnInFwdIdeal.nD Cert.HgrnInFwdIdeal.τ).loc Cert.HgrnInFwdIdeal.main_arg4) = m ((c.tc : Thread Cert.HgrnInFwdIdeal.nD Cert.HgrnInFwdIdeal.τ).loc Cert.HgrnInFwdIdeal.main_arg4)
          ∧ r.2.mem ((c.tc : Thread Cert.HgrnInFwdIdeal.nD Cert.HgrnInFwdIdeal.τ).loc Cert.HgrnInFwdIdeal.main_arg5) = m ((c.tc : Thread Cert.HgrnInFwdIdeal.nD Cert.HgrnInFwdIdeal.τ).loc Cert.HgrnInFwdIdeal.main_arg5)
          ∧ r.2.mem ((c.tc : Thread Cert.HgrnInFwdIdeal.nD Cert.HgrnInFwdIdeal.τ).loc Cert.HgrnInFwdIdeal.main_arg6) = m ((c.tc : Thread Cert.HgrnInFwdIdeal.nD Cert.HgrnInFwdIdeal.τ).loc Cert.HgrnInFwdIdeal.main_arg6)
          ∧ r.2.mem ((c.tc : Thread Cert.HgrnInFwdIdeal.nD Cert.HgrnInFwdIdeal.τ).loc Cert.HgrnInFwdIdeal.main_arg7) = m ((c.tc : Thread Cert.HgrnInFwdIdeal.nD Cert.HgrnInFwdIdeal.τ).loc Cert.HgrnInFwdIdeal.main_arg7))
      ∧ θ_run (Cert.HgrnInFwdRefIdeal.defs (F := Ideal)) (onTc (τ := Cert.HgrnInFwdRefIdeal.τ) (Cert.HgrnInFwdRefIdeal.main (F := Ideal))) ⟨m', fun _ => 0, g'⟩ (fun r => ∀ c : Dev Cert.HgrnInFwdRefIdeal.nD,
          r.2.mem ((c.tc : Thread Cert.HgrnInFwdRefIdeal.nD Cert.HgrnInFwdRefIdeal.τ).loc Cert.HgrnInFwdRefIdeal.main_v49) = v0 c
          ∧ r.2.mem ((c.tc : Thread Cert.HgrnInFwdRefIdeal.nD Cert.HgrnInFwdRefIdeal.τ).loc Cert.HgrnInFwdRefIdeal.main_v50) = v1 c
          ∧ r.2.mem ((c.tc : Thread Cert.HgrnInFwdRefIdeal.nD Cert.HgrnInFwdRefIdeal.τ).loc Cert.HgrnInFwdRefIdeal.main_arg0) = m' ((c.tc : Thread Cert.HgrnInFwdRefIdeal.nD Cert.HgrnInFwdRefIdeal.τ).loc Cert.HgrnInFwdRefIdeal.main_arg0)
          ∧ r.2.mem ((c.tc : Thread Cert.HgrnInFwdRefIdeal.nD Cert.HgrnInFwdRefIdeal.τ).loc Cert.HgrnInFwdRefIdeal.main_arg1) = m' ((c.tc : Thread Cert.HgrnInFwdRefIdeal.nD Cert.HgrnInFwdRefIdeal.τ).loc Cert.HgrnInFwdRefIdeal.main_arg1)
          ∧ r.2.mem ((c.tc : Thread Cert.HgrnInFwdRefIdeal.nD Cert.HgrnInFwdRefIdeal.τ).loc Cert.HgrnInFwdRefIdeal.main_arg2) = m' ((c.tc : Thread Cert.HgrnInFwdRefIdeal.nD Cert.HgrnInFwdRefIdeal.τ).loc Cert.HgrnInFwdRefIdeal.main_arg2)
          ∧ r.2.mem ((c.tc : Thread Cert.HgrnInFwdRefIdeal.nD Cert.HgrnInFwdRefIdeal.τ).loc Cert.HgrnInFwdRefIdeal.main_arg3) = m' ((c.tc : Thread Cert.HgrnInFwdRefIdeal.nD Cert.HgrnInFwdRefIdeal.τ).loc Cert.HgrnInFwdRefIdeal.main_arg3)
          ∧ r.2.mem ((c.tc : Thread Cert.HgrnInFwdRefIdeal.nD Cert.HgrnInFwdRefIdeal.τ).loc Cert.HgrnInFwdRefIdeal.main_arg4) = m' ((c.tc : Thread Cert.HgrnInFwdRefIdeal.nD Cert.HgrnInFwdRefIdeal.τ).loc Cert.HgrnInFwdRefIdeal.main_arg4)
          ∧ r.2.mem ((c.tc : Thread Cert.HgrnInFwdRefIdeal.nD Cert.HgrnInFwdRefIdeal.τ).loc Cert.HgrnInFwdRefIdeal.main_arg5) = m' ((c.tc : Thread Cert.HgrnInFwdRefIdeal.nD Cert.HgrnInFwdRefIdeal.τ).loc Cert.HgrnInFwdRefIdeal.main_arg5)
          ∧ r.2.mem ((c.tc : Thread Cert.HgrnInFwdRefIdeal.nD Cert.HgrnInFwdRefIdeal.τ).loc Cert.HgrnInFwdRefIdeal.main_arg6) = m' ((c.tc : Thread Cert.HgrnInFwdRefIdeal.nD Cert.HgrnInFwdRefIdeal.τ).loc Cert.HgrnInFwdRefIdeal.main_arg6)
          ∧ r.2.mem ((c.tc : Thread Cert.HgrnInFwdRefIdeal.nD Cert.HgrnInFwdRefIdeal.τ).loc Cert.HgrnInFwdRefIdeal.main_arg7) = m' ((c.tc : Thread Cert.HgrnInFwdRefIdeal.nD Cert.HgrnInFwdRefIdeal.τ).loc Cert.HgrnInFwdRefIdeal.main_arg7))

def preserves_GlaFwd_GlaFwdIdeal : Prop :=
  True

def preserves_GlaBack_GlaBackIdeal : Prop :=
  True

def preserves_WeightGrad_WeightGradIdeal : Prop :=
  True

def algebraic_WeightGradIdeal_WeightGradRefIdeal [hWeightGradIdeal : Cert.WeightGradIdeal.Facts] [hWeightGradRefIdeal : Cert.WeightGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradRefIdeal.nD Cert.WeightGradRefIdeal.τ Cert.WeightGradRefIdeal.sig) → Buf (Elt Ideal) ℓ) (g' : Dev Cert.WeightGradRefIdeal.nD → PrngReg), Pre_WeightGradIdeal m →
    (∀ c : Dev Cert.WeightGradIdeal.nD,
      m' ((c.tc : Thread Cert.WeightGradRefIdeal.nD Cert.WeightGradRefIdeal.τ).loc Cert.WeightGradRefIdeal.main_arg0) = m ((c.tc : Thread Cert.WeightGradIdeal.nD Cert.WeightGradIdeal.τ).loc Cert.WeightGradIdeal.main_arg0)
      ∧ m' ((c.tc : Thread Cert.WeightGradRefIdeal.nD Cert.WeightGradRefIdeal.τ).loc Cert.WeightGradRefIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradRefIdeal.defs (F := Ideal)) (onTc (τ := Cert.WeightGradRefIdeal.τ) (Cert.WeightGradRefIdeal.main (F := Ideal))) ⟨m', fun _ => 0, g'⟩ (fun r => ∀ c : Dev Cert.WeightGradRefIdeal.nD,
          r.2.mem ((c.tc : Thread Cert.WeightGradRefIdeal.nD Cert.WeightGradRefIdeal.τ).loc Cert.WeightGradRefIdeal.main_v16) = v0 c
          ∧ r.2.mem ((c.tc : Thread Cert.WeightGradRefIdeal.nD Cert.WeightGradRefIdeal.τ).loc Cert.WeightGradRefIdeal.main_arg0) = m' ((c.tc : Thread Cert.WeightGradRefIdeal.nD Cert.WeightGradRefIdeal.τ).loc Cert.WeightGradRefIdeal.main_arg0)
          ∧ r.2.mem ((c.tc : Thread Cert.WeightGradRefIdeal.nD Cert.WeightGradRefIdeal.τ).loc Cert.WeightGradRefIdeal.main_arg1) = m' ((c.tc : Thread Cert.WeightGradRefIdeal.nD Cert.WeightGradRefIdeal.τ).loc Cert.WeightGradRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)
      ∧ m' ((c.tc : Thread Cert.AdamwRefIdeal.nD Cert.AdamwRefIdeal.τ).loc Cert.AdamwRefIdeal.main_arg5) = m ((c.tc : Thread Cert.AdamwIdeal.nD Cert.AdamwIdeal.τ).loc Cert.AdamwIdeal.main_arg5)
      ∧ m' ((c.tc : Thread Cert.AdamwRefIdeal.nD Cert.AdamwRefIdeal.τ).loc Cert.AdamwRefIdeal.main_arg6) = m ((c.tc : Thread Cert.AdamwIdeal.nD Cert.AdamwIdeal.τ).loc Cert.AdamwIdeal.main_arg6)
      ∧ m' ((c.tc : Thread Cert.AdamwRefIdeal.nD Cert.AdamwRefIdeal.τ).loc Cert.AdamwRefIdeal.main_arg7) = m ((c.tc : Thread Cert.AdamwIdeal.nD Cert.AdamwIdeal.τ).loc Cert.AdamwIdeal.main_arg7)
      ∧ m' ((c.tc : Thread Cert.AdamwRefIdeal.nD Cert.AdamwRefIdeal.τ).loc Cert.AdamwRefIdeal.main_arg8) = m ((c.tc : Thread Cert.AdamwIdeal.nD Cert.AdamwIdeal.τ).loc Cert.AdamwIdeal.main_arg8)
      ∧ m' ((c.tc : Thread Cert.AdamwRefIdeal.nD Cert.AdamwRefIdeal.τ).loc Cert.AdamwRefIdeal.main_arg9) = m ((c.tc : Thread Cert.AdamwIdeal.nD Cert.AdamwIdeal.τ).loc Cert.AdamwIdeal.main_arg9)
      ∧ m' ((c.tc : Thread Cert.AdamwRefIdeal.nD Cert.AdamwRefIdeal.τ).loc Cert.AdamwRefIdeal.main_arg10) = m ((c.tc : Thread Cert.AdamwIdeal.nD Cert.AdamwIdeal.τ).loc Cert.AdamwIdeal.main_arg10)
      ∧ m' ((c.tc : Thread Cert.AdamwRefIdeal.nD Cert.AdamwRefIdeal.τ).loc Cert.AdamwRefIdeal.main_arg11) = m ((c.tc : Thread Cert.AdamwIdeal.nD Cert.AdamwIdeal.τ).loc Cert.AdamwIdeal.main_arg11)
      ∧ m' ((c.tc : Thread Cert.AdamwRefIdeal.nD Cert.AdamwRefIdeal.τ).loc Cert.AdamwRefIdeal.main_arg12) = m ((c.tc : Thread Cert.AdamwIdeal.nD Cert.AdamwIdeal.τ).loc Cert.AdamwIdeal.main_arg12)
      ∧ m' ((c.tc : Thread Cert.AdamwRefIdeal.nD Cert.AdamwRefIdeal.τ).loc Cert.AdamwRefIdeal.main_arg13) = m ((c.tc : Thread Cert.AdamwIdeal.nD Cert.AdamwIdeal.τ).loc Cert.AdamwIdeal.main_arg13)
      ∧ m' ((c.tc : Thread Cert.AdamwRefIdeal.nD Cert.AdamwRefIdeal.τ).loc Cert.AdamwRefIdeal.main_arg14) = m ((c.tc : Thread Cert.AdamwIdeal.nD Cert.AdamwIdeal.τ).loc Cert.AdamwIdeal.main_arg14)
      ∧ m' ((c.tc : Thread Cert.AdamwRefIdeal.nD Cert.AdamwRefIdeal.τ).loc Cert.AdamwRefIdeal.main_arg15) = m ((c.tc : Thread Cert.AdamwIdeal.nD Cert.AdamwIdeal.τ).loc Cert.AdamwIdeal.main_arg15)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)) (v4 : (c : Dev Cert.AdamwIdeal.nD) → Buf (Elt Ideal) ((c.tc : Thread Cert.AdamwIdeal.nD Cert.AdamwIdeal.τ).loc Cert.AdamwIdeal.main_v0_4)) (v5 : (c : Dev Cert.AdamwIdeal.nD) → Buf (Elt Ideal) ((c.tc : Thread Cert.AdamwIdeal.nD Cert.AdamwIdeal.τ).loc Cert.AdamwIdeal.main_v0_5)) (v6 : (c : Dev Cert.AdamwIdeal.nD) → Buf (Elt Ideal) ((c.tc : Thread Cert.AdamwIdeal.nD Cert.AdamwIdeal.τ).loc Cert.AdamwIdeal.main_v0_6)) (v7 : (c : Dev Cert.AdamwIdeal.nD) → Buf (Elt Ideal) ((c.tc : Thread Cert.AdamwIdeal.nD Cert.AdamwIdeal.τ).loc Cert.AdamwIdeal.main_v0_7)) (v8 : (c : Dev Cert.AdamwIdeal.nD) → Buf (Elt Ideal) ((c.tc : Thread Cert.AdamwIdeal.nD Cert.AdamwIdeal.τ).loc Cert.AdamwIdeal.main_v0_8)) (v9 : (c : Dev Cert.AdamwIdeal.nD) → Buf (Elt Ideal) ((c.tc : Thread Cert.AdamwIdeal.nD Cert.AdamwIdeal.τ).loc Cert.AdamwIdeal.main_v0_9)) (v10 : (c : Dev Cert.AdamwIdeal.nD) → Buf (Elt Ideal) ((c.tc : Thread Cert.AdamwIdeal.nD Cert.AdamwIdeal.τ).loc Cert.AdamwIdeal.main_v0_10)) (v11 : (c : Dev Cert.AdamwIdeal.nD) → Buf (Elt Ideal) ((c.tc : Thread Cert.AdamwIdeal.nD Cert.AdamwIdeal.τ).loc Cert.AdamwIdeal.main_v0_11)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_v0_4) = v4 c
          ∧ r.2.mem ((c.tc : Thread Cert.AdamwIdeal.nD Cert.AdamwIdeal.τ).loc Cert.AdamwIdeal.main_v0_5) = v5 c
          ∧ r.2.mem ((c.tc : Thread Cert.AdamwIdeal.nD Cert.AdamwIdeal.τ).loc Cert.AdamwIdeal.main_v0_6) = v6 c
          ∧ r.2.mem ((c.tc : Thread Cert.AdamwIdeal.nD Cert.AdamwIdeal.τ).loc Cert.AdamwIdeal.main_v0_7) = v7 c
          ∧ r.2.mem ((c.tc : Thread Cert.AdamwIdeal.nD Cert.AdamwIdeal.τ).loc Cert.AdamwIdeal.main_v0_8) = v8 c
          ∧ r.2.mem ((c.tc : Thread Cert.AdamwIdeal.nD Cert.AdamwIdeal.τ).loc Cert.AdamwIdeal.main_v0_9) = v9 c
          ∧ r.2.mem ((c.tc : Thread Cert.AdamwIdeal.nD Cert.AdamwIdeal.τ).loc Cert.AdamwIdeal.main_v0_10) = v10 c
          ∧ r.2.mem ((c.tc : Thread Cert.AdamwIdeal.nD Cert.AdamwIdeal.τ).loc Cert.AdamwIdeal.main_v0_11) = v11 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
          ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
          ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
          ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
          ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
          ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
          ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11)
          ∧ r.2.mem ((c.tc : Thread Cert.AdamwIdeal.nD Cert.AdamwIdeal.τ).loc Cert.AdamwIdeal.main_arg12) = m ((c.tc : Thread Cert.AdamwIdeal.nD Cert.AdamwIdeal.τ).loc Cert.AdamwIdeal.main_arg12)
          ∧ r.2.mem ((c.tc : Thread Cert.AdamwIdeal.nD Cert.AdamwIdeal.τ).loc Cert.AdamwIdeal.main_arg13) = m ((c.tc : Thread Cert.AdamwIdeal.nD Cert.AdamwIdeal.τ).loc Cert.AdamwIdeal.main_arg13)
          ∧ r.2.mem ((c.tc : Thread Cert.AdamwIdeal.nD Cert.AdamwIdeal.τ).loc Cert.AdamwIdeal.main_arg14) = m ((c.tc : Thread Cert.AdamwIdeal.nD Cert.AdamwIdeal.τ).loc Cert.AdamwIdeal.main_arg14)
          ∧ r.2.mem ((c.tc : Thread Cert.AdamwIdeal.nD Cert.AdamwIdeal.τ).loc Cert.AdamwIdeal.main_arg15) = m ((c.tc : Thread Cert.AdamwIdeal.nD Cert.AdamwIdeal.τ).loc Cert.AdamwIdeal.main_arg15))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_v47) = v3 c
          ∧ r.2.mem ((c.tc : Thread Cert.AdamwRefIdeal.nD Cert.AdamwRefIdeal.τ).loc Cert.AdamwRefIdeal.main_v28) = v4 c
          ∧ r.2.mem ((c.tc : Thread Cert.AdamwRefIdeal.nD Cert.AdamwRefIdeal.τ).loc Cert.AdamwRefIdeal.main_v34) = v5 c
          ∧ r.2.mem ((c.tc : Thread Cert.AdamwRefIdeal.nD Cert.AdamwRefIdeal.τ).loc Cert.AdamwRefIdeal.main_v71) = v6 c
          ∧ r.2.mem ((c.tc : Thread Cert.AdamwRefIdeal.nD Cert.AdamwRefIdeal.τ).loc Cert.AdamwRefIdeal.main_v52) = v7 c
          ∧ r.2.mem ((c.tc : Thread Cert.AdamwRefIdeal.nD Cert.AdamwRefIdeal.τ).loc Cert.AdamwRefIdeal.main_v58) = v8 c
          ∧ r.2.mem ((c.tc : Thread Cert.AdamwRefIdeal.nD Cert.AdamwRefIdeal.τ).loc Cert.AdamwRefIdeal.main_v95) = v9 c
          ∧ r.2.mem ((c.tc : Thread Cert.AdamwRefIdeal.nD Cert.AdamwRefIdeal.τ).loc Cert.AdamwRefIdeal.main_v76) = v10 c
          ∧ r.2.mem ((c.tc : Thread Cert.AdamwRefIdeal.nD Cert.AdamwRefIdeal.τ).loc Cert.AdamwRefIdeal.main_v82) = v11 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4)
          ∧ r.2.mem ((c.tc : Thread Cert.AdamwRefIdeal.nD Cert.AdamwRefIdeal.τ).loc Cert.AdamwRefIdeal.main_arg5) = m' ((c.tc : Thread Cert.AdamwRefIdeal.nD Cert.AdamwRefIdeal.τ).loc Cert.AdamwRefIdeal.main_arg5)
          ∧ r.2.mem ((c.tc : Thread Cert.AdamwRefIdeal.nD Cert.AdamwRefIdeal.τ).loc Cert.AdamwRefIdeal.main_arg6) = m' ((c.tc : Thread Cert.AdamwRefIdeal.nD Cert.AdamwRefIdeal.τ).loc Cert.AdamwRefIdeal.main_arg6)
          ∧ r.2.mem ((c.tc : Thread Cert.AdamwRefIdeal.nD Cert.AdamwRefIdeal.τ).loc Cert.AdamwRefIdeal.main_arg7) = m' ((c.tc : Thread Cert.AdamwRefIdeal.nD Cert.AdamwRefIdeal.τ).loc Cert.AdamwRefIdeal.main_arg7)
          ∧ r.2.mem ((c.tc : Thread Cert.AdamwRefIdeal.nD Cert.AdamwRefIdeal.τ).loc Cert.AdamwRefIdeal.main_arg8) = m' ((c.tc : Thread Cert.AdamwRefIdeal.nD Cert.AdamwRefIdeal.τ).loc Cert.AdamwRefIdeal.main_arg8)
          ∧ r.2.mem ((c.tc : Thread Cert.AdamwRefIdeal.nD Cert.AdamwRefIdeal.τ).loc Cert.AdamwRefIdeal.main_arg9) = m' ((c.tc : Thread Cert.AdamwRefIdeal.nD Cert.AdamwRefIdeal.τ).loc Cert.AdamwRefIdeal.main_arg9)
          ∧ r.2.mem ((c.tc : Thread Cert.AdamwRefIdeal.nD Cert.AdamwRefIdeal.τ).loc Cert.AdamwRefIdeal.main_arg10) = m' ((c.tc : Thread Cert.AdamwRefIdeal.nD Cert.AdamwRefIdeal.τ).loc Cert.AdamwRefIdeal.main_arg10)
          ∧ r.2.mem ((c.tc : Thread Cert.AdamwRefIdeal.nD Cert.AdamwRefIdeal.τ).loc Cert.AdamwRefIdeal.main_arg11) = m' ((c.tc : Thread Cert.AdamwRefIdeal.nD Cert.AdamwRefIdeal.τ).loc Cert.AdamwRefIdeal.main_arg11)
          ∧ r.2.mem ((c.tc : Thread Cert.AdamwRefIdeal.nD Cert.AdamwRefIdeal.τ).loc Cert.AdamwRefIdeal.main_arg12) = m' ((c.tc : Thread Cert.AdamwRefIdeal.nD Cert.AdamwRefIdeal.τ).loc Cert.AdamwRefIdeal.main_arg12)
          ∧ r.2.mem ((c.tc : Thread Cert.AdamwRefIdeal.nD Cert.AdamwRefIdeal.τ).loc Cert.AdamwRefIdeal.main_arg13) = m' ((c.tc : Thread Cert.AdamwRefIdeal.nD Cert.AdamwRefIdeal.τ).loc Cert.AdamwRefIdeal.main_arg13)
          ∧ r.2.mem ((c.tc : Thread Cert.AdamwRefIdeal.nD Cert.AdamwRefIdeal.τ).loc Cert.AdamwRefIdeal.main_arg14) = m' ((c.tc : Thread Cert.AdamwRefIdeal.nD Cert.AdamwRefIdeal.τ).loc Cert.AdamwRefIdeal.main_arg14)
          ∧ r.2.mem ((c.tc : Thread Cert.AdamwRefIdeal.nD Cert.AdamwRefIdeal.τ).loc Cert.AdamwRefIdeal.main_arg15) = m' ((c.tc : Thread Cert.AdamwRefIdeal.nD Cert.AdamwRefIdeal.τ).loc Cert.AdamwRefIdeal.main_arg15))

def preserves_Sums_SumsIdeal : Prop :=
  True

def algebraic_SumsIdeal_SumsRefIdeal_pre_finite_sums [hSumsIdeal : Cert.SumsIdeal.Facts] [hSumsRefIdeal : Cert.SumsRefIdeal.Facts] [hPre_finite_sums : Cert.Pre_finite_sums.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal_finite_sums m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)
      ∧ m' ((c.tc : Thread Cert.SumsRefIdeal.nD Cert.SumsRefIdeal.τ).loc Cert.SumsRefIdeal.main_arg1) = m ((c.tc : Thread Cert.SumsIdeal.nD Cert.SumsIdeal.τ).loc Cert.SumsIdeal.main_arg1)
      ∧ m' ((c.tc : Thread Cert.SumsRefIdeal.nD Cert.SumsRefIdeal.τ).loc Cert.SumsRefIdeal.main_arg2) = m ((c.tc : Thread Cert.SumsIdeal.nD Cert.SumsIdeal.τ).loc Cert.SumsIdeal.main_arg2)
      ∧ m' ((c.tc : Thread Cert.SumsRefIdeal.nD Cert.SumsRefIdeal.τ).loc Cert.SumsRefIdeal.main_arg3) = m ((c.tc : Thread Cert.SumsIdeal.nD Cert.SumsIdeal.τ).loc Cert.SumsIdeal.main_arg3)
      ∧ m' ((c.tc : Thread Cert.SumsRefIdeal.nD Cert.SumsRefIdeal.τ).loc Cert.SumsRefIdeal.main_arg4) = m ((c.tc : Thread Cert.SumsIdeal.nD Cert.SumsIdeal.τ).loc Cert.SumsIdeal.main_arg4)
      ∧ m' ((c.tc : Thread Cert.SumsRefIdeal.nD Cert.SumsRefIdeal.τ).loc Cert.SumsRefIdeal.main_arg5) = m ((c.tc : Thread Cert.SumsIdeal.nD Cert.SumsIdeal.τ).loc Cert.SumsIdeal.main_arg5)
      ∧ m' ((c.tc : Thread Cert.SumsRefIdeal.nD Cert.SumsRefIdeal.τ).loc Cert.SumsRefIdeal.main_arg6) = m ((c.tc : Thread Cert.SumsIdeal.nD Cert.SumsIdeal.τ).loc Cert.SumsIdeal.main_arg6)) →
    ∃ (v0 : (c : Dev Cert.SumsIdeal.nD) → Buf (Elt Ideal) ((c.tc : Thread Cert.SumsIdeal.nD Cert.SumsIdeal.τ).loc Cert.SumsIdeal.main_v0_0)) (v1 : (c : Dev Cert.SumsIdeal.nD) → Buf (Elt Ideal) ((c.tc : Thread Cert.SumsIdeal.nD Cert.SumsIdeal.τ).loc Cert.SumsIdeal.main_v0_1)) (v2 : (c : Dev Cert.SumsIdeal.nD) → Buf (Elt Ideal) ((c.tc : Thread Cert.SumsIdeal.nD Cert.SumsIdeal.τ).loc Cert.SumsIdeal.main_v0_2)) (v3 : (c : Dev Cert.SumsIdeal.nD) → Buf (Elt Ideal) ((c.tc : Thread Cert.SumsIdeal.nD Cert.SumsIdeal.τ).loc Cert.SumsIdeal.main_v0_3)) (v4 : (c : Dev Cert.SumsIdeal.nD) → Buf (Elt Ideal) ((c.tc : Thread Cert.SumsIdeal.nD Cert.SumsIdeal.τ).loc Cert.SumsIdeal.main_v0_4)) (v5 : (c : Dev Cert.SumsIdeal.nD) → Buf (Elt Ideal) ((c.tc : Thread Cert.SumsIdeal.nD Cert.SumsIdeal.τ).loc Cert.SumsIdeal.main_v0_5)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0_0) = v0 c
          ∧ r.2.mem ((c.tc : Thread Cert.SumsIdeal.nD Cert.SumsIdeal.τ).loc Cert.SumsIdeal.main_v0_1) = v1 c
          ∧ r.2.mem ((c.tc : Thread Cert.SumsIdeal.nD Cert.SumsIdeal.τ).loc Cert.SumsIdeal.main_v0_2) = v2 c
          ∧ r.2.mem ((c.tc : Thread Cert.SumsIdeal.nD Cert.SumsIdeal.τ).loc Cert.SumsIdeal.main_v0_3) = v3 c
          ∧ r.2.mem ((c.tc : Thread Cert.SumsIdeal.nD Cert.SumsIdeal.τ).loc Cert.SumsIdeal.main_v0_4) = v4 c
          ∧ r.2.mem ((c.tc : Thread Cert.SumsIdeal.nD Cert.SumsIdeal.τ).loc Cert.SumsIdeal.main_v0_5) = v5 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
          ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
          ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
          ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
          ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
          ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v1) = v0 c
          ∧ r.2.mem ((c.tc : Thread Cert.SumsRefIdeal.nD Cert.SumsRefIdeal.τ).loc Cert.SumsRefIdeal.main_v17) = v1 c
          ∧ r.2.mem ((c.tc : Thread Cert.SumsRefIdeal.nD Cert.SumsRefIdeal.τ).loc Cert.SumsRefIdeal.main_v24) = v2 c
          ∧ r.2.mem ((c.tc : Thread Cert.SumsRefIdeal.nD Cert.SumsRefIdeal.τ).loc Cert.SumsRefIdeal.main_v48) = v3 c
          ∧ r.2.mem ((c.tc : Thread Cert.SumsRefIdeal.nD Cert.SumsRefIdeal.τ).loc Cert.SumsRefIdeal.main_v29) = v4 c
          ∧ r.2.mem ((c.tc : Thread Cert.SumsRefIdeal.nD Cert.SumsRefIdeal.τ).loc Cert.SumsRefIdeal.main_v35) = v5 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0)
          ∧ r.2.mem ((c.tc : Thread Cert.SumsRefIdeal.nD Cert.SumsRefIdeal.τ).loc Cert.SumsRefIdeal.main_arg1) = m' ((c.tc : Thread Cert.SumsRefIdeal.nD Cert.SumsRefIdeal.τ).loc Cert.SumsRefIdeal.main_arg1)
          ∧ r.2.mem ((c.tc : Thread Cert.SumsRefIdeal.nD Cert.SumsRefIdeal.τ).loc Cert.SumsRefIdeal.main_arg2) = m' ((c.tc : Thread Cert.SumsRefIdeal.nD Cert.SumsRefIdeal.τ).loc Cert.SumsRefIdeal.main_arg2)
          ∧ r.2.mem ((c.tc : Thread Cert.SumsRefIdeal.nD Cert.SumsRefIdeal.τ).loc Cert.SumsRefIdeal.main_arg3) = m' ((c.tc : Thread Cert.SumsRefIdeal.nD Cert.SumsRefIdeal.τ).loc Cert.SumsRefIdeal.main_arg3)
          ∧ r.2.mem ((c.tc : Thread Cert.SumsRefIdeal.nD Cert.SumsRefIdeal.τ).loc Cert.SumsRefIdeal.main_arg4) = m' ((c.tc : Thread Cert.SumsRefIdeal.nD Cert.SumsRefIdeal.τ).loc Cert.SumsRefIdeal.main_arg4)
          ∧ r.2.mem ((c.tc : Thread Cert.SumsRefIdeal.nD Cert.SumsRefIdeal.τ).loc Cert.SumsRefIdeal.main_arg5) = m' ((c.tc : Thread Cert.SumsRefIdeal.nD Cert.SumsRefIdeal.τ).loc Cert.SumsRefIdeal.main_arg5)
          ∧ r.2.mem ((c.tc : Thread Cert.SumsRefIdeal.nD Cert.SumsRefIdeal.τ).loc Cert.SumsRefIdeal.main_arg6) = m' ((c.tc : Thread Cert.SumsRefIdeal.nD Cert.SumsRefIdeal.τ).loc Cert.SumsRefIdeal.main_arg6))

def preserves_GradSum_GradSumIdeal : Prop :=
  True

def algebraic_GradSumIdeal_GradSumRefIdeal [hGradSumIdeal : Cert.GradSumIdeal.Facts] [hGradSumRefIdeal : Cert.GradSumRefIdeal.Facts] : Prop :=
  ∀ (m : (ℓ : Loc Cert.GradSumIdeal.nD Cert.GradSumIdeal.τ Cert.GradSumIdeal.sig) → Buf (Elt Ideal) ℓ) (g : Dev Cert.GradSumIdeal.nD → PrngReg)
    (m' : (ℓ : Loc Cert.GradSumRefIdeal.nD Cert.GradSumRefIdeal.τ Cert.GradSumRefIdeal.sig) → Buf (Elt Ideal) ℓ) (g' : Dev Cert.GradSumRefIdeal.nD → PrngReg), Pre_GradSumIdeal m →
    (∀ c : Dev Cert.GradSumIdeal.nD,
      m' ((c.tc : Thread Cert.GradSumRefIdeal.nD Cert.GradSumRefIdeal.τ).loc Cert.GradSumRefIdeal.main_arg0) = m ((c.tc : Thread Cert.GradSumIdeal.nD Cert.GradSumIdeal.τ).loc Cert.GradSumIdeal.main_arg0)
      ∧ m' ((c.tc : Thread Cert.GradSumRefIdeal.nD Cert.GradSumRefIdeal.τ).loc Cert.GradSumRefIdeal.main_arg1) = m ((c.tc : Thread Cert.GradSumIdeal.nD Cert.GradSumIdeal.τ).loc Cert.GradSumIdeal.main_arg1)
      ∧ m' ((c.tc : Thread Cert.GradSumRefIdeal.nD Cert.GradSumRefIdeal.τ).loc Cert.GradSumRefIdeal.main_arg2) = m ((c.tc : Thread Cert.GradSumIdeal.nD Cert.GradSumIdeal.τ).loc Cert.GradSumIdeal.main_arg2)
      ∧ m' ((c.tc : Thread Cert.GradSumRefIdeal.nD Cert.GradSumRefIdeal.τ).loc Cert.GradSumRefIdeal.main_arg3) = m ((c.tc : Thread Cert.GradSumIdeal.nD Cert.GradSumIdeal.τ).loc Cert.GradSumIdeal.main_arg3)) →
    ∃ (v0 : (c : Dev Cert.GradSumIdeal.nD) → Buf (Elt Ideal) ((c.tc : Thread Cert.GradSumIdeal.nD Cert.GradSumIdeal.τ).loc Cert.GradSumIdeal.main_v0_0)) (v1 : (c : Dev Cert.GradSumIdeal.nD) → Buf (Elt Ideal) ((c.tc : Thread Cert.GradSumIdeal.nD Cert.GradSumIdeal.τ).loc Cert.GradSumIdeal.main_v0_1)) (v2 : (c : Dev Cert.GradSumIdeal.nD) → Buf (Elt Ideal) ((c.tc : Thread Cert.GradSumIdeal.nD Cert.GradSumIdeal.τ).loc Cert.GradSumIdeal.main_v0_2)) (v3 : (c : Dev Cert.GradSumIdeal.nD) → Buf (Elt Ideal) ((c.tc : Thread Cert.GradSumIdeal.nD Cert.GradSumIdeal.τ).loc Cert.GradSumIdeal.main_v0_3)),
      θ_run (Cert.GradSumIdeal.defs (F := Ideal)) (onTc (τ := Cert.GradSumIdeal.τ) (Cert.GradSumIdeal.main (F := Ideal))) ⟨m, fun _ => 0, g⟩ (fun r => ∀ c : Dev Cert.GradSumIdeal.nD,
          r.2.mem ((c.tc : Thread Cert.GradSumIdeal.nD Cert.GradSumIdeal.τ).loc Cert.GradSumIdeal.main_v0_0) = v0 c
          ∧ r.2.mem ((c.tc : Thread Cert.GradSumIdeal.nD Cert.GradSumIdeal.τ).loc Cert.GradSumIdeal.main_v0_1) = v1 c
          ∧ r.2.mem ((c.tc : Thread Cert.GradSumIdeal.nD Cert.GradSumIdeal.τ).loc Cert.GradSumIdeal.main_v0_2) = v2 c
          ∧ r.2.mem ((c.tc : Thread Cert.GradSumIdeal.nD Cert.GradSumIdeal.τ).loc Cert.GradSumIdeal.main_v0_3) = v3 c
          ∧ r.2.mem ((c.tc : Thread Cert.GradSumIdeal.nD Cert.GradSumIdeal.τ).loc Cert.GradSumIdeal.main_arg0) = m ((c.tc : Thread Cert.GradSumIdeal.nD Cert.GradSumIdeal.τ).loc Cert.GradSumIdeal.main_arg0)
          ∧ r.2.mem ((c.tc : Thread Cert.GradSumIdeal.nD Cert.GradSumIdeal.τ).loc Cert.GradSumIdeal.main_arg1) = m ((c.tc : Thread Cert.GradSumIdeal.nD Cert.GradSumIdeal.τ).loc Cert.GradSumIdeal.main_arg1)
          ∧ r.2.mem ((c.tc : Thread Cert.GradSumIdeal.nD Cert.GradSumIdeal.τ).loc Cert.GradSumIdeal.main_arg2) = m ((c.tc : Thread Cert.GradSumIdeal.nD Cert.GradSumIdeal.τ).loc Cert.GradSumIdeal.main_arg2)
          ∧ r.2.mem ((c.tc : Thread Cert.GradSumIdeal.nD Cert.GradSumIdeal.τ).loc Cert.GradSumIdeal.main_arg3) = m ((c.tc : Thread Cert.GradSumIdeal.nD Cert.GradSumIdeal.τ).loc Cert.GradSumIdeal.main_arg3))
      ∧ θ_run (Cert.GradSumRefIdeal.defs (F := Ideal)) (onTc (τ := Cert.GradSumRefIdeal.τ) (Cert.GradSumRefIdeal.main (F := Ideal))) ⟨m', fun _ => 0, g'⟩ (fun r => ∀ c : Dev Cert.GradSumRefIdeal.nD,
          r.2.mem ((c.tc : Thread Cert.GradSumRefIdeal.nD Cert.GradSumRefIdeal.τ).loc Cert.GradSumRefIdeal.main_v1) = v0 c
          ∧ r.2.mem ((c.tc : Thread Cert.GradSumRefIdeal.nD Cert.GradSumRefIdeal.τ).loc Cert.GradSumRefIdeal.main_v3) = v1 c
          ∧ r.2.mem ((c.tc : Thread Cert.GradSumRefIdeal.nD Cert.GradSumRefIdeal.τ).loc Cert.GradSumRefIdeal.main_v5) = v2 c
          ∧ r.2.mem ((c.tc : Thread Cert.GradSumRefIdeal.nD Cert.GradSumRefIdeal.τ).loc Cert.GradSumRefIdeal.main_v7) = v3 c
          ∧ r.2.mem ((c.tc : Thread Cert.GradSumRefIdeal.nD Cert.GradSumRefIdeal.τ).loc Cert.GradSumRefIdeal.main_arg0) = m' ((c.tc : Thread Cert.GradSumRefIdeal.nD Cert.GradSumRefIdeal.τ).loc Cert.GradSumRefIdeal.main_arg0)
          ∧ r.2.mem ((c.tc : Thread Cert.GradSumRefIdeal.nD Cert.GradSumRefIdeal.τ).loc Cert.GradSumRefIdeal.main_arg1) = m' ((c.tc : Thread Cert.GradSumRefIdeal.nD Cert.GradSumRefIdeal.τ).loc Cert.GradSumRefIdeal.main_arg1)
          ∧ r.2.mem ((c.tc : Thread Cert.GradSumRefIdeal.nD Cert.GradSumRefIdeal.τ).loc Cert.GradSumRefIdeal.main_arg2) = m' ((c.tc : Thread Cert.GradSumRefIdeal.nD Cert.GradSumRefIdeal.τ).loc Cert.GradSumRefIdeal.main_arg2)
          ∧ r.2.mem ((c.tc : Thread Cert.GradSumRefIdeal.nD Cert.GradSumRefIdeal.τ).loc Cert.GradSumRefIdeal.main_arg3) = m' ((c.tc : Thread Cert.GradSumRefIdeal.nD Cert.GradSumRefIdeal.τ).loc Cert.GradSumRefIdeal.main_arg3))

def Claim : Prop :=
  ∃ (hKernel : Cert.Kernel.Facts) (hKernelIdeal : Cert.KernelIdeal.Facts) (hReferenceIdeal : Cert.ReferenceIdeal.Facts) (hHgrnOut : Cert.HgrnOut.Facts) (hHgrnOutIdeal : Cert.HgrnOutIdeal.Facts) (hHgrnOutRefIdeal : Cert.HgrnOutRefIdeal.Facts) (hLoss : Cert.Loss.Facts) (hLossIdeal : Cert.LossIdeal.Facts) (hLossRefIdeal : Cert.LossRefIdeal.Facts) (hPoolBack : Cert.PoolBack.Facts) (hPoolBackIdeal : Cert.PoolBackIdeal.Facts) (hPoolBackRefIdeal : Cert.PoolBackRefIdeal.Facts) (hHgrnIn : Cert.HgrnIn.Facts) (hHgrnInIdeal : Cert.HgrnInIdeal.Facts) (hHgrnInRefIdeal : Cert.HgrnInRefIdeal.Facts) (hAda : Cert.Ada.Facts) (hAdaIdeal : Cert.AdaIdeal.Facts) (hAdaRefIdeal : Cert.AdaRefIdeal.Facts) (hHgrnOutFwd : Cert.HgrnOutFwd.Facts) (hHgrnOutFwdIdeal : Cert.HgrnOutFwdIdeal.Facts) (hHgrnOutFwdRefIdeal : Cert.HgrnOutFwdRefIdeal.Facts) (hPoolInFwd : Cert.PoolInFwd.Facts) (hPoolInFwdIdeal : Cert.PoolInFwdIdeal.Facts) (hPoolInFwdRefIdeal : Cert.PoolInFwdRefIdeal.Facts) (hHgrnInFwd : Cert.HgrnInFwd.Facts) (hHgrnInFwdIdeal : Cert.HgrnInFwdIdeal.Facts) (hHgrnInFwdRefIdeal : Cert.HgrnInFwdRefIdeal.Facts) (hGlaFwd : Cert.GlaFwd.Facts) (hGlaFwdIdeal : Cert.GlaFwdIdeal.Facts) (hGlaBack : Cert.GlaBack.Facts) (hGlaBackIdeal : Cert.GlaBackIdeal.Facts) (hWeightGrad : Cert.WeightGrad.Facts) (hWeightGradIdeal : Cert.WeightGradIdeal.Facts) (hWeightGradRefIdeal : Cert.WeightGradRefIdeal.Facts) (hAdamw : Cert.Adamw.Facts) (hAdamwIdeal : Cert.AdamwIdeal.Facts) (hAdamwRefIdeal : Cert.AdamwRefIdeal.Facts) (hSums : Cert.Sums.Facts) (hSumsIdeal : Cert.SumsIdeal.Facts) (hSumsRefIdeal : Cert.SumsRefIdeal.Facts) (hGradSum : Cert.GradSum.Facts) (hGradSumIdeal : Cert.GradSumIdeal.Facts) (hGradSumRefIdeal : Cert.GradSumRefIdeal.Facts) (hPre_finite : Cert.Pre_finite.Facts) (hPre_finite_hgrn_out : Cert.Pre_finite_hgrn_out.Facts) (hPre_finite_loss : Cert.Pre_finite_loss.Facts) (hPre_finite_pool : Cert.Pre_finite_pool.Facts) (hPre_finite_hgrn_in : Cert.Pre_finite_hgrn_in.Facts) (hPre_finite_ada : Cert.Pre_finite_ada.Facts) (hPre_finite_sums : Cert.Pre_finite_sums.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_HgrnOut (hHgrnOut := hHgrnOut)
    ∧ quiescent_HgrnOutIdeal (hHgrnOutIdeal := hHgrnOutIdeal)
    ∧ quiescent_HgrnOutIdeal_pre_finite_hgrn_out (hHgrnOutIdeal := hHgrnOutIdeal) (hPre_finite_hgrn_out := hPre_finite_hgrn_out)
    ∧ quiescent_HgrnOutRefIdeal (hHgrnOutRefIdeal := hHgrnOutRefIdeal)
    ∧ quiescent_HgrnOutRefIdeal_pre_finite_hgrn_out (hHgrnOutRefIdeal := hHgrnOutRefIdeal) (hPre_finite_hgrn_out := hPre_finite_hgrn_out)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_PoolBack (hPoolBack := hPoolBack)
    ∧ quiescent_PoolBackIdeal (hPoolBackIdeal := hPoolBackIdeal)
    ∧ quiescent_PoolBackIdeal_pre_finite_pool (hPoolBackIdeal := hPoolBackIdeal) (hPre_finite_pool := hPre_finite_pool)
    ∧ quiescent_PoolBackRefIdeal (hPoolBackRefIdeal := hPoolBackRefIdeal)
    ∧ quiescent_PoolBackRefIdeal_pre_finite_pool (hPoolBackRefIdeal := hPoolBackRefIdeal) (hPre_finite_pool := hPre_finite_pool)
    ∧ quiescent_HgrnIn (hHgrnIn := hHgrnIn)
    ∧ quiescent_HgrnInIdeal (hHgrnInIdeal := hHgrnInIdeal)
    ∧ quiescent_HgrnInIdeal_pre_finite_hgrn_in (hHgrnInIdeal := hHgrnInIdeal) (hPre_finite_hgrn_in := hPre_finite_hgrn_in)
    ∧ quiescent_HgrnInRefIdeal (hHgrnInRefIdeal := hHgrnInRefIdeal)
    ∧ quiescent_HgrnInRefIdeal_pre_finite_hgrn_in (hHgrnInRefIdeal := hHgrnInRefIdeal) (hPre_finite_hgrn_in := hPre_finite_hgrn_in)
    ∧ quiescent_Ada (hAda := hAda)
    ∧ quiescent_AdaIdeal (hAdaIdeal := hAdaIdeal)
    ∧ quiescent_AdaIdeal_pre_finite_ada (hAdaIdeal := hAdaIdeal) (hPre_finite_ada := hPre_finite_ada)
    ∧ quiescent_AdaRefIdeal (hAdaRefIdeal := hAdaRefIdeal)
    ∧ quiescent_AdaRefIdeal_pre_finite_ada (hAdaRefIdeal := hAdaRefIdeal) (hPre_finite_ada := hPre_finite_ada)
    ∧ quiescent_HgrnOutFwd (hHgrnOutFwd := hHgrnOutFwd)
    ∧ quiescent_HgrnOutFwdIdeal (hHgrnOutFwdIdeal := hHgrnOutFwdIdeal)
    ∧ quiescent_HgrnOutFwdRefIdeal (hHgrnOutFwdRefIdeal := hHgrnOutFwdRefIdeal)
    ∧ quiescent_PoolInFwd (hPoolInFwd := hPoolInFwd)
    ∧ quiescent_PoolInFwdIdeal (hPoolInFwdIdeal := hPoolInFwdIdeal)
    ∧ quiescent_PoolInFwdRefIdeal (hPoolInFwdRefIdeal := hPoolInFwdRefIdeal)
    ∧ quiescent_HgrnInFwd (hHgrnInFwd := hHgrnInFwd)
    ∧ quiescent_HgrnInFwdIdeal (hHgrnInFwdIdeal := hHgrnInFwdIdeal)
    ∧ quiescent_HgrnInFwdRefIdeal (hHgrnInFwdRefIdeal := hHgrnInFwdRefIdeal)
    ∧ quiescent_GlaFwd (hGlaFwd := hGlaFwd)
    ∧ quiescent_GlaFwdIdeal (hGlaFwdIdeal := hGlaFwdIdeal)
    ∧ quiescent_GlaBack (hGlaBack := hGlaBack)
    ∧ quiescent_GlaBackIdeal (hGlaBackIdeal := hGlaBackIdeal)
    ∧ quiescent_WeightGrad (hWeightGrad := hWeightGrad)
    ∧ quiescent_WeightGradIdeal (hWeightGradIdeal := hWeightGradIdeal)
    ∧ quiescent_WeightGradRefIdeal (hWeightGradRefIdeal := hWeightGradRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Sums (hSums := hSums)
    ∧ quiescent_SumsIdeal (hSumsIdeal := hSumsIdeal)
    ∧ quiescent_SumsIdeal_pre_finite_sums (hSumsIdeal := hSumsIdeal) (hPre_finite_sums := hPre_finite_sums)
    ∧ quiescent_SumsRefIdeal (hSumsRefIdeal := hSumsRefIdeal)
    ∧ quiescent_SumsRefIdeal_pre_finite_sums (hSumsRefIdeal := hSumsRefIdeal) (hPre_finite_sums := hPre_finite_sums)
    ∧ quiescent_GradSum (hGradSum := hGradSum)
    ∧ quiescent_GradSumIdeal (hGradSumIdeal := hGradSumIdeal)
    ∧ quiescent_GradSumRefIdeal (hGradSumRefIdeal := hGradSumRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_HgrnOut_HgrnOutIdeal
    ∧ algebraic_HgrnOutIdeal_HgrnOutRefIdeal_pre_finite_hgrn_out (hHgrnOutIdeal := hHgrnOutIdeal) (hHgrnOutRefIdeal := hHgrnOutRefIdeal) (hPre_finite_hgrn_out := hPre_finite_hgrn_out)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_PoolBack_PoolBackIdeal
    ∧ algebraic_PoolBackIdeal_PoolBackRefIdeal_pre_finite_pool (hPoolBackIdeal := hPoolBackIdeal) (hPoolBackRefIdeal := hPoolBackRefIdeal) (hPre_finite_pool := hPre_finite_pool)
    ∧ preserves_HgrnIn_HgrnInIdeal
    ∧ algebraic_HgrnInIdeal_HgrnInRefIdeal_pre_finite_hgrn_in (hHgrnInIdeal := hHgrnInIdeal) (hHgrnInRefIdeal := hHgrnInRefIdeal) (hPre_finite_hgrn_in := hPre_finite_hgrn_in)
    ∧ preserves_Ada_AdaIdeal
    ∧ algebraic_AdaIdeal_AdaRefIdeal_pre_finite_ada (hAdaIdeal := hAdaIdeal) (hAdaRefIdeal := hAdaRefIdeal) (hPre_finite_ada := hPre_finite_ada)
    ∧ preserves_HgrnOutFwd_HgrnOutFwdIdeal
    ∧ algebraic_HgrnOutFwdIdeal_HgrnOutFwdRefIdeal (hHgrnOutFwdIdeal := hHgrnOutFwdIdeal) (hHgrnOutFwdRefIdeal := hHgrnOutFwdRefIdeal)
    ∧ preserves_PoolInFwd_PoolInFwdIdeal
    ∧ algebraic_PoolInFwdIdeal_PoolInFwdRefIdeal (hPoolInFwdIdeal := hPoolInFwdIdeal) (hPoolInFwdRefIdeal := hPoolInFwdRefIdeal)
    ∧ preserves_HgrnInFwd_HgrnInFwdIdeal
    ∧ algebraic_HgrnInFwdIdeal_HgrnInFwdRefIdeal (hHgrnInFwdIdeal := hHgrnInFwdIdeal) (hHgrnInFwdRefIdeal := hHgrnInFwdRefIdeal)
    ∧ preserves_GlaFwd_GlaFwdIdeal
    ∧ preserves_GlaBack_GlaBackIdeal
    ∧ preserves_WeightGrad_WeightGradIdeal
    ∧ algebraic_WeightGradIdeal_WeightGradRefIdeal (hWeightGradIdeal := hWeightGradIdeal) (hWeightGradRefIdeal := hWeightGradRefIdeal)
    ∧ preserves_Adamw_AdamwIdeal
    ∧ algebraic_AdamwIdeal_AdamwRefIdeal (hAdamwIdeal := hAdamwIdeal) (hAdamwRefIdeal := hAdamwRefIdeal)
    ∧ preserves_Sums_SumsIdeal
    ∧ algebraic_SumsIdeal_SumsRefIdeal_pre_finite_sums (hSumsIdeal := hSumsIdeal) (hSumsRefIdeal := hSumsRefIdeal) (hPre_finite_sums := hPre_finite_sums)
    ∧ preserves_GradSum_GradSumIdeal
    ∧ algebraic_GradSumIdeal_GradSumRefIdeal (hGradSumIdeal := hGradSumIdeal) (hGradSumRefIdeal := hGradSumRefIdeal)
-- ==== Pre_finite.lean ====
abbrev S2x2048x1024 : Shape := ⟨3, ![2, 2048, 1024]⟩
abbrev S1024x2048 : Shape := ⟨2, ![1024, 2048]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1x1024 .f32 := Host.absf main_arg5
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S2x2048x1024 .bf16) (main_arg1 : FVec F S1024x2048 .bf16) (main_arg2 : FVec F S2048x1024 .f32) (main_arg3 : FVec F S1x1024 .f32) (main_arg4 : FVec F S1x1024 .f32) (main_arg5 : FVec F S1x1024 .f32) (main_arg6 : FVec F S2048x1024 .f32) : IVec S_ 1 :=
  let main_v0 : FVec F S2x2048x1024 .f32 := (extf .f32 · bitsLt_bf16_f32) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  let main_c : IVec S_ 1 := constantI S_ 1 1#1
  let main_v4 : IVec S_ 1 := (fun x v => Host.reduce IntOp.andi x v reducesTo_S2x2048x1024_S_d0_1_2 h_S_) main_v3 main_c
  let main_v5 : FVec F S1024x2048 .f32 := (extf .f32 · bitsLt_bf16_f32) main_arg1
  let main_v6 : FVec F S1024x2048 .f32 := Host.absf main_v5
  let main_cst_0 : FVec F S_ .f32 := constant S_ .f32 0x7F800000#32
  let main_v7 : FVec F S1024x2048 .f32 := broadcastInDim S1024x2048 ![] bcast_S_S1024x2048 main_cst_0
  let main_v8 : IVec S1024x2048 1 := cmpf .olt main_v6 main_v7
  let main_c_1 : IVec S_ 1 := constantI S_ 1 1#1
  let main_v9 : IVec S_ 1 := (fun x v => Host.reduce IntOp.andi x v reducesTo_S1024x2048_S_d0_1 h_S_) main_v8 main_c_1
  let main_v10 : IVec S_ 1 := andi main_v4 main_v9
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg5 main_v15 main_v16 main_cst_4
-- ==== Pre_finite_ada.lean ====
abbrev S16x1024 : Shape := ⟨2, ![16, 1024]⟩
abbrev S2x16x768 : Shape := ⟨3, ![2, 16, 768]⟩
abbrev S2x1024x768 : Shape := ⟨3, ![2, 1024, 768]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S2x16x768 : S_.BroadcastsInDim S2x16x768 (![] : Fin 0 → Fin S2x16x768.rank)
  reducesTo_S2x16x768_S_d0_1_2 : S2x16x768.ReducesTo [0, 1, 2] S_

variable [Facts]

def fn {F : FTy → Type} [FloatOps F] (main_arg0 : FVec F S16x1024 .f32) (main_arg1 : FVec F S2x16x768 .f32) (main_arg2 : FVec F S2x1024x768 .f32) (main_arg3 : FVec F S2x1024x768 .f32) (main_arg4 : FVec F S2x1024x768 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S2x16x768 .f32 := Host.absf main_arg1
  let main_cst_0 : FVec F S_ .f32 := constant S_ .f32 0x7F800000#32
  let main_v5 : FVec F S2x16x768 .f32 := broadcastInDim S2x16x768 ![] bcast_S_S2x16x768 main_cst_0
  let main_v6 : IVec S2x16x768 1 := cmpf .olt main_v4 main_v5
  let main_c_1 : IVec S_ 1 := constantI S_ 1 1#1
  let main_v7 : IVec S_ 1 := (fun x v => Host.reduce IntOp.andi x v reducesTo_S2x16x768_S_d0_1_2 h_S_) main_v6 main_c_1
  let main_v8 : IVec S_ 1 := andi main_v3 main_v7
  main_v8
-- ==== Pre_finite_hgrn_in.lean ====
abbrev S3x256x1024 : Shape := ⟨3, ![3, 256, 1024]⟩
abbrev S5x2048x1024 : Shape := ⟨3, ![5, 2048, 1024]⟩
abbrev S1024x5120 : Shape := ⟨2, ![1024, 5120]⟩
abbrev S256x1024 : Shape := ⟨2, ![256, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S3x256x1024 : S_.BroadcastsInDim S3x256x1024 (![] : Fin 0 → Fin S3x256x1024.rank)
  reducesTo_S3x256x1024_S_d0_1_2 : S3x256x1024.ReducesTo [0, 1, 2] S_
  h_S_ : 0 < S_.numel
  bcast_S_S5x2048x1024 : S_.BroadcastsInDim S5x2048x1024 (![] : Fin 0 → Fin S5x2048x1024.rank)
  reducesTo_S5x2048x1024_S_d0_1_2 : S5x2048x1024.ReducesTo [0, 1, 2] S_
  bcast_S_S1024x5120 : S_.BroadcastsInDim S1024x5120 (![] : Fin 0 → Fin S1024x5120.rank)
  reducesTo_S1024x5120_S_d0_1 : S1024x5120.ReducesTo [0, 1] S_
  bcast_S_S256x1024 : S_.BroadcastsInDim S256x1024 (![] : Fin 0 → Fin S256x1024.rank)
  reducesTo_S256x1024_S_d0_1 : S256x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg9 : FVec F S1x1024 .f32) (main_v31 : IVec S_ 1) (main_v34 : IVec S1x1024 1) : IVec S_ 1 :=
  let main_c_11 : IVec S_ 1 := constantI S_ 1 1#1
  let main_v35 : IVec S_ 1 := (fun x v => Host.reduce IntOp.andi x v reducesTo_S1x1024_S_d0_1 h_S_) main_v34 main_c_11
  let main_v36 : IVec S_ 1 := andi main_v31 main_v35
  let main_v37 : FVec F S1x1024 .f32 := Host.absf main_arg9
  let main_cst_12 : FVec F S_ .f32 := constant S_ .f32 0x7F800000#32
  let main_v38 : FVec F S1x1024 .f32 := broadcastInDim S1x1024 ![] bcast_S_S1x1024 main_cst_12
  let main_v39 : IVec S1x1024 1 := cmpf .olt main_v37 main_v38
  let main_c_13 : IVec S_ 1 := constantI S_ 1 1#1
  let main_v40 : IVec S_ 1 := (fun x v => Host.reduce IntOp.andi x v reducesTo_S1x1024_S_d0_1 h_S_) main_v39 main_c_13
  let main_v41 : IVec S_ 1 := andi main_v36 main_v40
  main_v41

def fn_part1 {F : FTy → Type} [FloatOps F] (main_arg4 : FVec F S2048x1024 .f32) (main_arg5 : FVec F S1x1024 .f32) (main_arg7 : FVec F S1x1024 .f32) (main_arg9 : FVec F S1x1024 .f32) (main_v16 : IVec S_ 1) (main_v17 : FVec F S256x1024 .f32) : IVec S_ 1 :=
  let main_cst_4 : FVec F S_ .f32 := constant S_ .f32 0x7F800000#32
  let main_v18 : FVec F S256x1024 .f32 := broadcastInDim S256x1024 ![] bcast_S_S256x1024 main_cst_4
  let main_v19 : IVec S256x1024 1 := cmpf .olt main_v17 main_v18
  let main_c_5 : IVec S_ 1 := constantI S_ 1 1#1
  let main_v20 : IVec S_ 1 := (fun x v => Host.reduce IntOp.andi x v reducesTo_S256x1024_S_d0_1 h_S_) main_v19 main_c_5
  let main_v21 : IVec S_ 1 := andi main_v16 main_v20
  let main_v22 : FVec F S2048x1024 .f32 := Host.absf main_arg4
  let main_cst_6 : FVec F S_ .f32 := constant S_ .f32 0x7F800000#32
  let main_v23 : FVec F S2048x1024 .f32 := broadcastInDim S2048x1024 ![] bcast_S_S2048x1024 main_cst_6
  let main_v24 : IVec S2048x1024 1 := cmpf .olt main_v22 main_v23
  let main_c_7 : IVec S_ 1 := constantI S_ 1 1#1
  let main_v25 : IVec S_ 1 := (fun x v => Host.reduce IntOp.andi x v reducesTo_S2048x1024_S_d0_1 h_S_) main_v24 main_c_7
  let main_v26 : IVec S_ 1 := andi main_v21 main_v25
  let main_v27 : FVec F S1x1024 .f32 := Host.absf main_arg5
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_c_9 : IVec S_ 1 := constantI S_ 1 1#1
  let main_v30 : IVec S_ 1 := (fun x v => Host.reduce IntOp.andi x v reducesTo_S1x1024_S_d0_1 h_S_) main_v29 main_c_9
  let main_v31 : IVec S_ 1 := andi main_v26 main_v30
  let main_v32 : FVec F S1x1024 .f32 := Host.absf main_arg7
  let main_cst_10 : FVec F S_ .f32 := constant S_ .f32 0x7F800000#32
  let main_v33 : FVec F S1x1024 .f32 := broadcastInDim S1x1024 ![] bcast_S_S1x1024 main_cst_10
  let main_v34 : IVec S1x1024 1 := cmpf .olt main_v32 main_v33
  fn_part2 (F := F) main_arg9 main_v31 main_v34

def fn {F : FTy → Type} [FloatOps F] (main_arg0 : FVec F S3x256x1024 .bf16) (main_arg1 : FVec F S5x2048x1024 .bf16) (main_arg2 : FVec F S1024x5120 .bf16) (main_arg3 : FVec F S256x1024 .f32) (main_arg4 : FVec F S2048x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S2048x1024 .f32) : IVec S_ 1 :=
  let main_v0 : FVec F S3x256x1024 .f32 := (extf .f32 · bitsLt_bf16_f32) main_arg0
  let main_v1 : FVec F S3x256x1024 .f32 := Host.absf main_v0
  let main_cst : FVec F S_ .f32 := constant S_ .f32 0x7F800000#32
  let main_v2 : FVec F S3x256x1024 .f32 := broadcastInDim S3x256x1024 ![] bcast_S_S3x256x1024 main_cst
  let main_v3 : IVec S3x256x1024 1 := cmpf .olt main_v1 main_v2
  let main_c : IVec S_ 1 := constantI S_ 1 1#1
  let main_v4 : IVec S_ 1 := (fun x v => Host.reduce IntOp.andi x v reducesTo_S3x256x1024_S_d0_1_2 h_S_) main_v3 main_c
  let main_v5 : FVec F S5x2048x1024 .f32 := (extf .f32 · bitsLt_bf16_f32) main_arg1
  let main_v6 : FVec F S5x2048x1024 .f32 := Host.absf main_v5
  let main_cst_0 : FVec F S_ .f32 := constant S_ .f32 0x7F800000#32
  let main_v7 : FVec F S5x2048x1024 .f32 := broadcastInDim S5x2048x1024 ![] bcast_S_S5x2048x1024 main_cst_0
  let main_v8 : IVec S5x2048x1024 1 := cmpf .olt main_v6 main_v7
  let main_c_1 : IVec S_ 1 := constantI S_ 1 1#1
  let main_v9 : IVec S_ 1 := (fun x v => Host.reduce IntOp.andi x v reducesTo_S5x2048x1024_S_d0_1_2 h_S_) main_v8 main_c_1
  let main_v10 : IVec S_ 1 := andi main_v4 main_v9
  let main_v11 : FVec F S1024x5120 .f32 := (extf .f32 · bitsLt_bf16_f32) main_arg2
  let main_v12 : FVec F S1024x5120 .f32 := Host.absf main_v11
  let main_cst_2 : FVec F S_ .f32 := constant S_ .f32 0x7F800000#32
  let main_v13 : FVec F S1024x5120 .f32 := broadcastInDim S1024x5120 ![] bcast_S_S1024x5120 main_cst_2
  let main_v14 : IVec S1024x5120 1 := cmpf .olt main_v12 main_v13
  let main_c_3 : IVec S_ 1 := constantI S_ 1 1#1
  let main_v15 : IVec S_ 1 := (fun x v => Host.reduce IntOp.andi x v reducesTo_S1024x5120_S_d0_1 h_S_) main_v14 main_c_3
  let main_v16 : IVec S_ 1 := andi main_v10 main_v15
  let main_v17 : FVec F S256x1024 .f32 := Host.absf main_arg3
  fn_part1 (F := F) main_arg4 main_arg5 main_arg7 main_arg9 main_v16 main_v17
-- ==== Pre_finite_hgrn_out.lean ====
abbrev S2048x1024 : Shape := ⟨2, ![2048, 1024]⟩
abbrev S5x2304x1024 : Shape := ⟨3, ![5, 2304, 1024]⟩
abbrev S1x1024 : Shape := ⟨2, ![1, 1024]⟩
abbrev S1024x1024 : Shape := ⟨2, ![1024, 1024]⟩
abbrev S_ : Shape := ⟨0, ![]⟩
abbrev S1x2048x1024 : Shape := ⟨3, ![1, 2048, 1024]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S5x2304x1024_S1x2048x1024_4_256_0 : S5x2304x1024.Slices ![4, 256, 0] S1x2048x1024
  shapeCasts_S1x2048x1024_S2048x1024 : S1x2048x1024.ShapeCasts S2048x1024
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1x1024 .f32) (main_arg5 : FVec F S1024x1024 .bf16) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  let main_v26 : FVec F S1024x1024 .f32 := (extf .f32 · bitsLt_bf16_f32) main_arg5
  let main_v27 : FVec F S1024x1024 .f32 := Host.absf main_v26
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_c_9 : IVec S_ 1 := constantI S_ 1 1#1
  let main_v30 : IVec S_ 1 := (fun x v => Host.reduce IntOp.andi x v reducesTo_S1024x1024_S_d0_1 h_S_) main_v29 main_c_9
  let main_v31 : IVec S_ 1 := andi main_v25 main_v30
  main_v31

def fn {F : FTy → Type} [FloatOps F] (main_arg0 : FVec F S2048x1024 .f32) (main_arg1 : FVec F S2048x1024 .f32) (main_arg2 : FVec F S5x2304x1024 .f32) (main_arg3 : FVec F S1x1024 .f32) (main_arg4 : FVec F S1x1024 .f32) (main_arg5 : FVec F S1024x1024 .bf16) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x2048x1024 .f32 := (extractStridedSlice S1x2048x1024 ![4, 256, 0] · slices_S5x2304x1024_S1x2048x1024_4_256_0) main_arg2
  let main_v10 : FVec F S2048x1024 .f32 := shapeCast S2048x1024 main_v9 shapeCasts_S1x2048x1024_S2048x1024
  let main_v11 : FVec F S2048x1024 .f32 := Host.absf main_v10
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v8 main_v14
  let main_v16 : FVec F S1x1024 .f32 := Host.absf main_arg3
  let main_cst_4 : FVec F S_ .f32 := constant S_ .f32 0x7F800000#32
  fn_part1 (F := F) main_arg4 main_arg5 main_v15 main_v16 main_cst_4
-- ==== Pre_finite_loss.lean ====
abbrev S2x2048x1024 : Shape := ⟨3, ![2, 2048, 1024]⟩
abbrev S2048x1024 : Shape := ⟨2, ![2048, 1024]⟩
abbrev S1x1024 : Shape := ⟨2, ![1, 1024]⟩
abbrev S4x256x256 : Shape := ⟨3, ![4, 256, 256]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S4x256x256 : S_.BroadcastsInDim S4x256x256 (![] : Fin 0 → Fin S4x256x256.rank)
  reducesTo_S4x256x256_S_d0_1_2 : S4x256x256.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1x1024 .f32) (main_v29 : IVec S_ 1) (main_v33 : IVec S1024x1024 1) (main_c_11 : IVec S_ 1) : IVec S_ 1 :=
  let main_v34 : IVec S_ 1 := (fun x v => Host.reduce IntOp.andi x v reducesTo_S1024x1024_S_d0_1 h_S_) main_v33 main_c_11
  let main_v35 : IVec S_ 1 := andi main_v29 main_v34
  let main_v36 : FVec F S1x1024 .f32 := Host.absf main_arg7
  let main_cst_12 : FVec F S_ .f32 := constant S_ .f32 0x7F800000#32
  let main_v37 : FVec F S1x1024 .f32 := broadcastInDim S1x1024 ![] bcast_S_S1x1024 main_cst_12
  let main_v38 : IVec S1x1024 1 := cmpf .olt main_v36 main_v37
  let main_c_13 : IVec S_ 1 := constantI S_ 1 1#1
  let main_v39 : IVec S_ 1 := (fun x v => Host.reduce IntOp.andi x v reducesTo_S1x1024_S_d0_1 h_S_) main_v38 main_c_13
  let main_v40 : IVec S_ 1 := andi main_v35 main_v39
  main_v40

def fn_part1 {F : FTy → Type} [FloatOps F] (main_arg4 : FVec F S4x256x256 .bf16) (main_arg5 : FVec F S1x1024 .f32) (main_arg6 : FVec F S1024x1024 .bf16) (main_arg7 : FVec F S1x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4x256x256 .f32 := (extf .f32 · bitsLt_bf16_f32) main_arg4
  let main_v20 : FVec F S4x256x256 .f32 := Host.absf main_v19
  let main_cst_6 : FVec F S_ .f32 := constant S_ .f32 0x7F800000#32
  let main_v21 : FVec F S4x256x256 .f32 := broadcastInDim S4x256x256 ![] bcast_S_S4x256x256 main_cst_6
  let main_v22 : IVec S4x256x256 1 := cmpf .olt main_v20 main_v21
  let main_c_7 : IVec S_ 1 := constantI S_ 1 1#1
  let main_v23 : IVec S_ 1 := (fun x v => Host.reduce IntOp.andi x v reducesTo_S4x256x256_S_d0_1_2 h_S_) main_v22 main_c_7
  let main_v24 : IVec S_ 1 := andi main_v18 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S1024x1024 .f32 := (extf .f32 · bitsLt_bf16_f32) main_arg6
  let main_v31 : FVec F S1024x1024 .f32 := Host.absf main_v30
  let main_cst_10 : FVec F S_ .f32 := constant S_ .f32 0x7F800000#32
  let main_v32 : FVec F S1024x1024 .f32 := broadcastInDim S1024x1024 ![] bcast_S_S1024x1024 main_cst_10
  let main_v33 : IVec S1024x1024 1 := cmpf .olt main_v31 main_v32
  let main_c_11 : IVec S_ 1 := constantI S_ 1 1#1
  fn_part2 (F := F) main_arg7 main_v29 main_v33 main_c_11

def fn {F : FTy → Type} [FloatOps F] (main_arg0 : FVec F S2x2048x1024 .f32) (main_arg1 : FVec F S2048x1024 .f32) (main_arg2 : FVec F S2048x1024 .f32) (main_arg3 : FVec F S1x1024 .f32) (main_arg4 : FVec F S4x256x256 .bf16) (main_arg5 : FVec F S1x1024 .f32) (main_arg6 : FVec F S1024x1024 .bf16) (main_arg7 : FVec F S1x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Pre_finite_pool.lean ====
abbrev S2048x1024 : Shape := ⟨2, ![2048, 1024]⟩
abbrev S2x2048x1024 : Shape := ⟨3, ![2, 2048, 1024]⟩
abbrev S1x1024 : Shape := ⟨2, ![1, 1024]⟩
abbrev S4x256x256 : Shape := ⟨3, ![4, 256, 256]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S4x256x256 : S_.BroadcastsInDim S4x256x256 (![] : Fin 0 → Fin S4x256x256.rank)
  reducesTo_S4x256x256_S_d0_1_2 : S4x256x256.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1x1024 .f32) (main_arg5 : FVec F S1024x1024 .bf16) (main_v13 : IVec S_ 1) (main_v15 : FVec F S4x256x256 .f32) (main_v16 : FVec F S4x256x256 .f32) : IVec S_ 1 :=
  let main_v17 : IVec S4x256x256 1 := cmpf .olt main_v15 main_v16
  let main_c_5 : IVec S_ 1 := constantI S_ 1 1#1
  let main_v18 : IVec S_ 1 := (fun x v => Host.reduce IntOp.andi x v reducesTo_S4x256x256_S_d0_1_2 h_S_) main_v17 main_c_5
  let main_v19 : IVec S_ 1 := andi main_v13 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1024x1024 .f32 := (extf .f32 · bitsLt_bf16_f32) main_arg5
  let main_v26 : FVec F S1024x1024 .f32 := Host.absf main_v25
  let main_cst_8 : FVec F S_ .f32 := constant S_ .f32 0x7F800000#32
  let main_v27 : FVec F S1024x1024 .f32 := broadcastInDim S1024x1024 ![] bcast_S_S1024x1024 main_cst_8
  let main_v28 : IVec S1024x1024 1 := cmpf .olt main_v26 main_v27
  let main_c_9 : IVec S_ 1 := constantI S_ 1 1#1
  let main_v29 : IVec S_ 1 := (fun x v => Host.reduce IntOp.andi x v reducesTo_S1024x1024_S_d0_1 h_S_) main_v28 main_c_9
  let main_v30 : IVec S_ 1 := andi main_v24 main_v29
  main_v30

def fn {F : FTy → Type} [FloatOps F] (main_arg0 : FVec F S2048x1024 .f32) (main_arg1 : FVec F S2x2048x1024 .f32) (main_arg2 : FVec F S1x1024 .f32) (main_arg3 : FVec F S4x256x256 .bf16) (main_arg4 : FVec F S1x1024 .f32) (main_arg5 : FVec F S1024x1024 .bf16) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4x256x256 .f32 := (extf .f32 · bitsLt_bf16_f32) main_arg3
  let main_v15 : FVec F S4x256x256 .f32 := Host.absf main_v14
  let main_cst_4 : FVec F S_ .f32 := constant S_ .f32 0x7F800000#32
  let main_v16 : FVec F S4x256x256 .f32 := broadcastInDim S4x256x256 ![] bcast_S_S4x256x256 main_cst_4
  fn_part1 (F := F) main_arg4 main_arg5 main_v13 main_v15 main_v16
-- ==== Pre_finite_sums.lean ====
abbrev S192x1024 : Shape := ⟨2, ![192, 1024]⟩
abbrev S64x1024 : Shape := ⟨2, ![64, 1024]⟩
abbrev S2 : Shape := ⟨1, ![2]⟩
abbrev S2x1024x768 : Shape := ⟨3, ![2, 1024, 768]⟩
abbrev S1x1024 : Shape := ⟨2, ![1, 1024]⟩
abbrev S_ : Shape := ⟨0, ![]⟩

class Facts : Prop where
  bcast_S_S192x1024 : S_.BroadcastsInDim S192x1024 (![] : Fin 0 → Fin S192x1024.rank)
  reducesTo_S192x1024_S_d0_1 : S192x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S2x1024x768 : S_.BroadcastsInDim S2x1024x768 (![] : Fin 0 → Fin S2x1024x768.rank)
  reducesTo_S2x1024x768_S_d0_1_2 : S2x1024x768.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S192x1024 .f32) (main_arg1 : FVec F S64x1024 .f32) (main_arg2 : IVec S2 32) (main_arg3 : FVec F S2x1024x768 .f32) (main_arg4 : FVec F S1x1024 .f32) (main_arg5 : FVec F S1x1024 .f32) (main_arg6 : FVec F S1x1024 .f32) : IVec S_ 1 :=
  let main_v0 : FVec F S192x1024 .f32 := Host.absf main_arg0
  let main_cst : FVec F S_ .f32 := constant S_ .f32 0x7F800000#32
  let main_v1 : FVec F S192x1024 .f32 := broadcastInDim S192x1024 ![] bcast_S_S192x1024 main_cst
  let main_v2 : IVec S192x1024 1 := cmpf .olt main_v0 main_v1
  let main_c : IVec S_ 1 := constantI S_ 1 1#1
  let main_v3 : IVec S_ 1 := (fun x v => Host.reduce IntOp.andi x v reducesTo_S192x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S2x1024x768 .f32 := Host.absf main_arg3
  let main_cst_2 : FVec F S_ .f32 := constant S_ .f32 0x7F800000#32
  let main_v10 : FVec F S2x1024x768 .f32 := broadcastInDim S2x1024x768 ![] bcast_S_S2x1024x768 main_cst_2
  let main_v11 : IVec S2x1024x768 1 := cmpf .olt main_v9 main_v10
  let main_c_3 : IVec S_ 1 := constantI S_ 1 1#1
  let main_v12 : IVec S_ 1 := (fun x v => Host.reduce IntOp.andi x v reducesTo_S2x1024x768_S_d0_1_2 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S2x2048x1024 : Shape := ⟨3, ![2, 2048, 1024]⟩
abbrev S1024x2048 : Shape := ⟨2, ![1024, 2048]⟩
abbrev S2048x1024 : Shape := ⟨2, ![2048, 1024]⟩
abbrev S1x1024 : Shape := ⟨2, ![1, 1024]⟩
abbrev S1x1x1024 : Shape := ⟨3, ![1, 1, 1024]⟩
abbrev S1x8x1024 : Shape := ⟨3, ![1, 8, 1024]⟩
abbrev S2x512x1024 : Shape := ⟨3, ![2, 512, 1024]⟩
abbrev S512x1024 : Shape := ⟨2, ![512, 1024]⟩
abbrev S8x1024 : Shape := ⟨2, ![8, 1024]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S2x2048x1024, .bf16⟩
  | .hbm, ⟨1, _⟩ => ⟨S1024x2048, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S1x1x1024, .f32⟩
  | .hbm, ⟨8, _⟩ => ⟨S2048x1024, .f32⟩
  | .hbm, ⟨9, _⟩ => ⟨S1x1024, .f32⟩
  | .hbm, ⟨10, _⟩ => ⟨S1x8x1024, .f32⟩
  | .local _ .vmem, ⟨0, _⟩ => ⟨S2x512x1024, .bf16⟩
  | .local _ .vmem, ⟨1, _⟩ => ⟨S2x512x1024, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x8x1024, .f32⟩
  | .local _ .vmem, ⟨14, _⟩ => ⟨S1x8x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c0_i32_42 : BitVec 32 := 0#32
  let v63 : BitVec 1 := Scalar.cmpi .sge arg0 c0_i32_42
  let v64 : BitVec 32 := Scalar.extui v63
  let c0_i32_43 : BitVec 32 := 0#32
  let v65 : BitVec 1 := Scalar.cmpi .ne v64 c0_i32_43
  v65

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  let c0_i32_2 : BitVec 32 := 0#32
  ![v0.toNat, c0_i32_0.toNat, c0_i32_1.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x2048x1024 : Shape := ⟨3, ![2, 2048, 1024]⟩
abbrev S1024x2048 : Shape := ⟨2, ![1024, 2048]⟩
abbrev S2048x1024 : Shape := ⟨2, ![2048, 1024]⟩
abbrev S1x1024 : Shape := ⟨2, ![1, 1024]⟩
abbrev S1x2048x1024 : Shape := ⟨3, ![1, 2048, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S1024 : Shape := ⟨1, ![1024]⟩
abbrev S6x1024 : Shape := ⟨2, ![6, 1024]⟩
abbrev S8x1024 : Shape := ⟨2, ![8, 1024]⟩
abbrev S1x8x1024 : Shape := ⟨3, ![1, 8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S1024x2048, .bf16⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2x2048x1024, .f32⟩
  | .hbm, ⟨8, _⟩ => ⟨S1x2048x1024, .f32⟩
  | .hbm, ⟨9, _⟩ => ⟨S2048x1024, .f32⟩
  | .hbm, ⟨10, _⟩ => ⟨S1x2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1024x2048, .f32⟩
  | .hbm, ⟨39, _⟩ => ⟨S2048x2048, .f32⟩
  | .hbm, ⟨40, _⟩ => ⟨S2048x1024, .f32⟩
  | .hbm, ⟨41, _⟩ => ⟨S2048x1024, .f32⟩
  | .hbm, ⟨42, _⟩ => ⟨S2048x2048, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S6x1024, .f32⟩
  | .hbm, ⟨79, _⟩ => ⟨S8x1024, .f32⟩
  | .hbm, ⟨80, _⟩ => ⟨S1x8x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== HgrnOut.lean ====
abbrev S2048x1024 : Shape := ⟨2, ![2048, 1024]⟩
abbrev S5x2304x1024 : Shape := ⟨3, ![5, 2304, 1024]⟩
abbrev S1x1024 : Shape := ⟨2, ![1, 1024]⟩
abbrev S1024x1024 : Shape := ⟨2, ![1024, 1024]⟩
abbrev S1x2048x1024 : Shape := ⟨3, ![1, 2048, 1024]⟩
abbrev S2048x8x128 : Shape := ⟨3, ![2048, 8, 128]⟩
abbrev S8x128 : Shape := ⟨2, ![8, 128]⟩
abbrev S_ : Shape := ⟨0, ![]⟩
abbrev S2048x8 : Shape := ⟨2, ![2048, 8]⟩
abbrev S2048x8x1 : Shape := ⟨3, ![2048, 8, 1]⟩
abbrev S1x8x128 : Shape := ⟨3, ![1, 8, 128]⟩
abbrev S256x1024 : Shape := ⟨2, ![256, 1024]⟩
abbrev S1x256x1024 : Shape := ⟨3, ![1, 256, 1024]⟩
abbrev S1024 : Shape := ⟨1, ![1024]⟩
abbrev S256x128 : Shape := ⟨2, ![256, 128]⟩
abbrev S256 : Shape := ⟨1, ![256]⟩
abbrev S256x1 : Shape := ⟨2, ![256, 1]⟩

abbrev nBuf : Space → Nat
  | .hbm => 44
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S5x2304x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S1x2048x1024, .f32⟩
  | .hbm, ⟨7, _⟩ => ⟨S2048x1024, .f32⟩
  | .hbm, ⟨8, _⟩ => ⟨S1024x1024, .f32⟩
  | .hbm, ⟨9, _⟩ => ⟨S2048x8x128, .f32⟩
  | .hbm, ⟨10, _⟩ => ⟨S8x128, .f32⟩
  | .hbm, ⟨11, _⟩ => ⟨S2048x8x128, .f32⟩
  | .hbm, ⟨12, _⟩ => ⟨S_, .f32⟩
  | .hbm, ⟨13, _⟩ => ⟨S2048x8, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S2048x8x1, .f32⟩
  | .hbm, ⟨22, _⟩ => ⟨S2048x8x128, .f32⟩
  | .hbm, ⟨23, _⟩ => ⟨S2048x8x128, .f32⟩
  | .hbm, ⟨24, _⟩ => ⟨S1x8x128, .f32⟩
  | .hbm, ⟨25, _⟩ => ⟨S2048x8x128, .f32⟩
  | .hbm, ⟨26, _⟩ => ⟨S2048x8x128, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | .hbm, ⟨40, _⟩ => ⟨S2048x1024, .bf16⟩
  | .hbm, ⟨41, _⟩ => ⟨S1024x1024, .bf16⟩
  | .hbm, ⟨42, _⟩ => ⟨S1x1024, .f32⟩
  | .hbm, ⟨43, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_v22_3 : Ref sig .tc := ⟨.hbm, 42, rfl⟩
abbrev main_v22_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v315 : BitVec 1 := Scalar.cmpi .eq arg0 c7_i32
  let v316 : BitVec 32 := Scalar.extui v315
  let c0_i32_143 : BitVec 32 := 0#32
  let v317 : BitVec 1 := Scalar.cmpi .ne v316 c0_i32_143
  v317

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let c0_i32 : BitVec 32 := 0#32
  let c0_i32_0 : BitVec 32 := 0#32
  ![c4_i32.toNat, v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== HgrnOutRefIdeal.lean ====
abbrev S2048x1024 : Shape := ⟨2, ![2048, 1024]⟩
abbrev S5x2304x1024 : Shape := ⟨3, ![5, 2304, 1024]⟩
abbrev S1x1024 : Shape := ⟨2, ![1, 1024]⟩
abbrev S1024x1024 : Shape := ⟨2, ![1024, 1024]⟩
abbrev S1x2048x1024 : Shape := ⟨3, ![1, 2048, 1024]⟩
abbrev S2048x8x128 : Shape := ⟨3, ![2048, 8, 128]⟩
abbrev S8x128 : Shape := ⟨2, ![8, 128]⟩
abbrev S_ : Shape := ⟨0, ![]⟩
abbrev S2048x8 : Shape := ⟨2, ![2048, 8]⟩
abbrev S2048x8x1 : Shape := ⟨3, ![2048, 8, 1]⟩
abbrev S1x8x128 : Shape := ⟨3, ![1, 8, 128]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S5x2304x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S1x2048x1024, .f32⟩
  | .hbm, ⟨7, _⟩ => ⟨S2048x1024, .f32⟩
  | .hbm, ⟨8, _⟩ => ⟨S1024x1024, .f32⟩
  | .hbm, ⟨9, _⟩ => ⟨S2048x8x128, .f32⟩
  | .hbm, ⟨10, _⟩ => ⟨S8x128, .f32⟩
  | .hbm, ⟨11, _⟩ => ⟨S2048x8x128, .f32⟩
  | .hbm, ⟨12, _⟩ => ⟨S_, .f32⟩
  | .hbm, ⟨13, _⟩ => ⟨S2048x8, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S2048x8x1, .f32⟩
  | .hbm, ⟨22, _⟩ => ⟨S2048x8x1, .f32⟩
  | .hbm, ⟨23, _⟩ => ⟨S_, .f32⟩
  | .hbm, ⟨24, _⟩ => ⟨S2048x8x1, .f32⟩
  | .hbm, ⟨25, _⟩ => ⟨S2048x8x1, .f32⟩
  | .hbm, ⟨26, _⟩ => ⟨S2048x8x128, .f32⟩
  | .hbm, ⟨27, _⟩ => ⟨S2048x8x128, .f32⟩
  | .hbm, ⟨28, _⟩ => ⟨S1x8x128, .f32⟩
  | .hbm, ⟨29, _⟩ => ⟨S2048x8x128, .f32⟩
  | .hbm, ⟨30, _⟩ => ⟨S2048x8x128, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1024x1024, .f32⟩
  | .hbm, ⟨56, _⟩ => ⟨S1024x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x8x128, .f32⟩
  | .hbm, ⟨65, _⟩ => ⟨S2048x8x128, .f32⟩
  | .hbm, ⟨66, _⟩ => ⟨S_, .f32⟩
  | .hbm, ⟨67, _⟩ => ⟨S8x128, .f32⟩
  | .hbm, ⟨68, _⟩ => ⟨S1x8x128, .f32⟩
  | .hbm, ⟨69, _⟩ => ⟨S2048x8x128, .f32⟩
  | .hbm, ⟨70, _⟩ => ⟨S2048x8x128, .f32⟩
  | .hbm, ⟨71, _⟩ => ⟨S_, .f32⟩
  | .hbm, ⟨72, _⟩ => ⟨S8x128, .f32⟩
  | .hbm, ⟨73, _⟩ => ⟨S2048x8x128, .f32⟩
  | .hbm, ⟨74, _⟩ => ⟨S_, .f32⟩
  | .hbm, ⟨75, _⟩ => ⟨S2048x8, .f32⟩
  | .hbm, ⟨76, _⟩ => ⟨S2048x8x1, .f32⟩
  | .hbm, ⟨77, _⟩ => ⟨S2048x8x128, .f32⟩
  | .hbm, ⟨78, _⟩ => ⟨S2048x8x128, .f32⟩
  | .hbm, ⟨79, _⟩ => ⟨S2048x8x1, .f32⟩
  | .hbm, ⟨80, _⟩ => ⟨S_, .f32⟩
  | .hbm, ⟨81, _⟩ => ⟨S2048x8x1, .f32⟩
  | .hbm, ⟨82, _⟩ => ⟨S2048x8x1, .f32⟩
  | .hbm, ⟨83, _⟩ => ⟨S_, .f32⟩
  | .hbm, ⟨84, _⟩ => ⟨S2048x8, .f32⟩
  | .hbm, ⟨85, _⟩ => ⟨S2048x8x128, .f32⟩
  | .hbm, ⟨86, _⟩ => ⟨S2048x8x128, .f32⟩
  | .hbm, ⟨87, _⟩ => ⟨S2048x8x128, .f32⟩
  | .hbm, ⟨88, _⟩ => ⟨S2048x8x128, .f32⟩
  | .hbm, ⟨89, _⟩ => ⟨S2048x8x128, .f32⟩
  | .hbm, ⟨90, _⟩ => ⟨S1x1024, .f32⟩
  | .hbm, ⟨91, _⟩ => ⟨S2048x1024, .f32⟩
  | .hbm, ⟨92, _⟩ => ⟨S2048x1024, .bf16⟩
  | .hbm, ⟨93, _⟩ => ⟨S2048x1024, .bf16⟩
  | .hbm, ⟨94, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v22_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v22_1 : Ref sig .tc := ⟨.hbm, 43, rfl⟩
abbrev main_v22_0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== Loss.lean ====
abbrev S2x2048x1024 : Shape := ⟨3, ![2, 2048, 1024]⟩
abbrev S2048x1024 : Shape := ⟨2, ![2048, 1024]⟩
abbrev S1x1024 : Shape := ⟨2, ![1, 1024]⟩
abbrev S4x256x256 : Shape := ⟨3, ![4, 256, 256]⟩
abbrev S1024x1024 : Shape := ⟨2, ![1024, 1024]⟩
abbrev S4x64x64 : Shape := ⟨3, ![4, 64, 64]⟩
abbrev S_ : Shape := ⟨0, ![]⟩
abbrev S4x4 : Shape := ⟨2, ![4, 4]⟩
abbrev S1x4x1x4x1 : Shape := ⟨5, ![1, 4, 1, 4, 1]⟩
abbrev S4x1x64x1x64 : Shape := ⟨5, ![4, 1, 64, 1, 64]⟩
abbrev S4x4x64x4x64 : Shape := ⟨5, ![4, 4, 64, 4, 64]⟩
abbrev S4x64x1 : Shape := ⟨3, ![4, 64, 1]⟩
abbrev S4x1x64x1 : Shape := ⟨4, ![4, 1, 64, 1]⟩
abbrev S4x4x64x1 : Shape := ⟨4, ![4, 4, 64, 1]⟩
abbrev S4x256x1 : Shape := ⟨3, ![4, 256, 1]⟩
abbrev S8x128 : Shape := ⟨2, ![8, 128]⟩
abbrev S1x512x1024 : Shape := ⟨3, ![1, 512, 1024]⟩
abbrev S512x1024 : Shape := ⟨2, ![512, 1024]⟩
abbrev S1x256x256 : Shape := ⟨3, ![1, 256, 256]⟩
abbrev S256x256 : Shape := ⟨2, ![256, 256]⟩
abbrev S1x256x1 : Shape := ⟨3, ![1, 256, 1]⟩
abbrev S256x1 : Shape := ⟨2, ![256, 1]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 54
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S4x256x256, .bf16⟩
  | .hbm, ⟨5, _⟩ => ⟨S1x1024, .f32⟩
  | .hbm, ⟨6, _⟩ => ⟨S1024x1024, .bf16⟩
  | .hbm, ⟨7, _⟩ => ⟨S1x1024, .f32⟩
  | .hbm, ⟨8, _⟩ => ⟨S4x64x64, .i32⟩
  | .hbm, ⟨9, _⟩ => ⟨S4x64x64, .i32⟩
  | .hbm, ⟨10, _⟩ => ⟨S4x64x64, .i32⟩
  | .hbm, ⟨11, _⟩ => ⟨S_, .i32⟩
  | .hbm, ⟨12, _⟩ => ⟨S4x64x64, .i32⟩
  | .hbm, ⟨13, _⟩ => ⟨S4x64x64, .i32⟩
  | .hbm, ⟨14, _⟩ => ⟨S4x64x64, .i32⟩
  | .hbm, ⟨15, _⟩ => ⟨S4x64x64, .i1⟩
  | .hbm, ⟨16, _⟩ => ⟨S4x64x64, .i32⟩
  | .hbm, ⟨17, _⟩ => ⟨S4x64x64, .i1⟩
  | .hbm, ⟨18, _⟩ => ⟨S4x64x64, .i1⟩
  | .hbm, ⟨19, _⟩ => ⟨S4x64x64, .f32⟩
  | .hbm, ⟨20, _⟩ => ⟨S4x4, .i32⟩
  | .hbm, ⟨21, _⟩ => ⟨S4x4, .i32⟩
  | .hbm, ⟨22, _⟩ => ⟨S4x4, .i1⟩
  | .hbm, ⟨23, _⟩ => ⟨S4x4, .f32⟩
  | .hbm, ⟨24, _⟩ => ⟨S1x4x1x4x1, .f32⟩
  | .hbm, ⟨25, _⟩ => ⟨S4x1x64x1x64, .f32⟩
  | .hbm, ⟨26, _⟩ => ⟨S4x4x64x4x64, .f32⟩
  | .hbm, ⟨27, _⟩ => ⟨S4x4x64x4x64, .f32⟩
  | .hbm, ⟨28, _⟩ => ⟨S4x4x64x4x64, .f32⟩
  | .hbm, ⟨29, _⟩ => ⟨S4x256x256, .f32⟩
  | .hbm, ⟨30, _⟩ => ⟨S4x64x64, .i32⟩
  | .hbm, ⟨31, _⟩ => ⟨S_, .i32⟩
  | .hbm, ⟨32, _⟩ => ⟨S4x64x64, .i32⟩
  | .hbm, ⟨33, _⟩ => ⟨S4x64x64, .i32⟩
  | .hbm, ⟨34, _⟩ => ⟨S4x64x64, .i32⟩
  | .hbm, ⟨35, _⟩ => ⟨S_, .i32⟩
  | .hbm, ⟨36, _⟩ => ⟨S4x64x64, .i32⟩
  | .hbm, ⟨37, _⟩ => ⟨S4x64x64, .i32⟩
  | .hbm, ⟨38, _⟩ => ⟨S4x64x64, .i32⟩
  | .hbm, ⟨39, _⟩ => ⟨S4x64x1, .i32⟩
  | .hbm, ⟨40, _⟩ => ⟨S4x1x64x1, .i32⟩
  | .hbm, ⟨41, _⟩ => ⟨S4x1x64x1, .f32⟩
  | .hbm, ⟨42, _⟩ => ⟨S_, .f32⟩
  | .hbm, ⟨43, _⟩ => ⟨S4x1x64x1, .f32⟩
  | .hbm, ⟨44, _⟩ => ⟨S4x1x64x1, .f32⟩
  | .hbm, ⟨45, _⟩ => ⟨S4x4x64x1, .f32⟩
  | .hbm, ⟨46, _⟩ => ⟨S4x256x1, .f32⟩
  | .hbm, ⟨47, _⟩ => ⟨S4x256x256, .bf16⟩
  | .hbm, ⟨48, _⟩ => ⟨S4x256x256, .f32⟩
  | .hbm, ⟨49, _⟩ => ⟨S4x256x256, .bf16⟩
  | .hbm, ⟨50, _⟩ => ⟨S2048x1024, .f32⟩
  | .hbm, ⟨51, _⟩ => ⟨S8x128, .f32⟩
  | .hbm, ⟨52, _⟩ => ⟨S1x1024, .f32⟩
  | .hbm, ⟨53, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S4x256x256, .bf16⟩
  | .local _ .vmem, ⟨14, _⟩ => ⟨S4x256x1, .f32⟩
  | .local _ .vmem, ⟨15, _⟩ => ⟨S512x1024, .f32⟩
  | .local _ .vmem, ⟨16, _⟩ => ⟨S512x1024, .f32⟩
  | .local _ .vmem, ⟨17, _⟩ => ⟨S8x128, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== LossRefIdeal.lean ====
abbrev S2x2048x1024 : Shape := ⟨3, ![2, 2048, 1024]⟩
abbrev S2048x1024 : Shape := ⟨2, ![2048, 1024]⟩
abbrev S1x1024 : Shape := ⟨2, ![1, 1024]⟩
abbrev S4x256x256 : Shape := ⟨3, ![4, 256, 256]⟩
abbrev S1024x1024 : Shape := ⟨2, ![1024, 1024]⟩
abbrev S1x2048x1024 : Shape := ⟨3, ![1, 2048, 1024]⟩
abbrev S32x64x4x256 : Shape := ⟨4, ![32, 64, 4, 256]⟩
abbrev S32x64x1x256 : Shape := ⟨4, ![32, 64, 1, 256]⟩
abbrev S32x64x256 : Shape := ⟨3, ![32, 64, 256]⟩
abbrev S32x1x256 : Shape := ⟨3, ![32, 1, 256]⟩
abbrev S_ : Shape := ⟨0, ![]⟩
abbrev S32x65x256 : Shape := ⟨3, ![32, 65, 256]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x64x1 : Shape := ⟨3, ![1, 64, 1]⟩
abbrev S4x256x32x64 : Shape := ⟨4, ![4, 256, 32, 64]⟩
abbrev S2048 : Shape := ⟨1, ![2048]⟩
abbrev S2048x1 : Shape := ⟨2, ![2048, 1]⟩
abbrev S1024 : Shape := ⟨1, ![1024]⟩
abbrev S8x128 : Shape := ⟨2, ![8, 128]⟩

abbrev nBuf : Space → Nat
  | .hbm => 462
  | .vmem => 0
  | .smem => 0
  | _ => 0

abbrev hbmTy0_0 (i : Nat) : BufTy := match i % 128 with
  | 0 => ⟨S2x2048x1024, .f32⟩
  | 1 => ⟨S2048x1024, .f32⟩
  | 2 => ⟨S2048x1024, .f32⟩
  | 3 => ⟨S1x1024, .f32⟩
  | 4 => ⟨S4x256x256, .bf16⟩
  | 5 => ⟨S1x1024, .f32⟩
  | 6 => ⟨S1024x1024, .bf16⟩
  | 7 => ⟨S1x1024, .f32⟩
  | 8 => ⟨S1x2048x1024, .f32⟩
  | 9 => ⟨S2048x1024, .f32⟩
  | 10 => ⟨S1x2048x1024, .f32⟩
  | 11 => ⟨S2048x1024, .f32⟩
  | 12 => ⟨S4x256x256, .f32⟩
  | 13 => ⟨S1024x1024, .f32⟩
  | 14 => ⟨S32x64x4x256, .f32⟩
  | 15 => ⟨S32x64x1x256, .f32⟩
  | 16 => ⟨S32x64x256, .f32⟩
  | 17 => ⟨S32x1x256, .f32⟩
  | 18 => ⟨S_, .f32⟩
  | 19 => ⟨S32x1x256, .f32⟩
  | 20 => ⟨S_, .f32⟩
  | 21 => ⟨S_, .f32⟩
  | 22 => ⟨S32x64x256, .f32⟩
  | 23 => ⟨S32x65x256, .f32⟩
  | 24 => ⟨S64, .i32⟩
  | 25 => ⟨S_, .i32⟩
  | 26 => ⟨S64, .i32⟩
  | 27 => ⟨S64, .i32⟩
  | 28 => ⟨S_, .i32⟩
  | 29 => ⟨S_, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S_, .i32⟩
  | 40 => ⟨S64, .i32⟩
  | 41 => ⟨S64, .i32⟩
  | 42 => ⟨S_, .i32⟩
  | 43 => ⟨S_, .i32⟩
  | 44 => ⟨S_, .i32⟩
  | 45 => ⟨S64, .i32⟩
  | 46 => ⟨S64, .i32⟩
  | 47 => ⟨S_, .i32⟩
  | 48 => ⟨S64, .i32⟩
  | 49 => ⟨S64, .i32⟩
  | 50 => ⟨S_, .i32⟩
  | 51 => ⟨S64, .i32⟩
  | 52 => ⟨S64, .i1⟩
  | 53 => ⟨S_, .i32⟩
  | 54 => ⟨S64, .i32⟩
  | 55 => ⟨S64, .i32⟩
  | 56 => ⟨S64, .i32⟩
  | 57 => ⟨S64x1, .i32⟩
  | 58 => ⟨S1, .i32⟩
  | 59 => ⟨S_, .i32⟩
  | 60 => ⟨S64x1, .i32⟩
  | 61 => ⟨S64x1, .i1⟩
  | 62 => ⟨S1x1, .i32⟩
  | 63 => ⟨S64x1, .i32⟩
  | 64 => ⟨S64x1, .i1⟩
  | 65 => ⟨S64x1, .i1⟩
  | 66 => ⟨S_, .i1⟩
  | 67 => ⟨S64, .i1⟩
  | 68 => ⟨S32x64x256, .f32⟩
  | 69 => ⟨S32x64x256, .i1⟩
  | 70 => ⟨S_, .f32⟩
  | 71 => ⟨S32x64x256, .f32⟩
  | 72 => ⟨S32x64x256, .f32⟩
  | 73 => ⟨S_, .i32⟩
  | 74 => ⟨S64, .i32⟩
  | 75 => ⟨S64, .i1⟩
  | 76 => ⟨S_, .i32⟩
  | 77 => ⟨S64, .i32⟩
  | 78 => ⟨S64, .i32⟩
  | 79 => ⟨S64, .i32⟩
  | 80 => ⟨S64x1, .i32⟩
  | 81 => ⟨S1, .i32⟩
  | 82 => ⟨S_, .i32⟩
  | 83 => ⟨S64x1, .i32⟩
  | 84 => ⟨S64x1, .i1⟩
  | 85 => ⟨S1x1, .i32⟩
  | 86 => ⟨S64x1, .i32⟩
  | 87 => ⟨S64x1, .i1⟩
  | 88 => ⟨S64x1, .i1⟩
  | 89 => ⟨S_, .i1⟩
  | 90 => ⟨S64, .i1⟩
  | 91 => ⟨S32x64x256, .f32⟩
  | 92 => ⟨S32x64x256, .i1⟩
  | 93 => ⟨S_, .f32⟩
  | 94 => ⟨S32x64x256, .f32⟩
  | 95 => ⟨S32x64x256, .f32⟩
  | 96 => ⟨S32x64x256, .f32⟩
  | 97 => ⟨S64, .i32⟩
  | 98 => ⟨S64, .f32⟩
  | 99 => ⟨S64x1, .f32⟩
  | 100 => ⟨S1x64x1, .f32⟩
  | 101 => ⟨S32x64x256, .f32⟩
  | 102 => ⟨S32x64x256, .f32⟩
  | 103 => ⟨S32x64x1x256, .f32⟩
  | 104 => ⟨S32x64x256, .f32⟩
  | 105 => ⟨S32x1x256, .f32⟩
  | 106 => ⟨S_, .f32⟩
  | 107 => ⟨S32x1x256, .f32⟩
  | 108 => ⟨S_, .f32⟩
  | 109 => ⟨S_, .f32⟩
  | 110 => ⟨S32x64x256, .f32⟩
  | 111 => ⟨S32x65x256, .f32⟩
  | 112 => ⟨S64, .i32⟩
  | 113 => ⟨S_, .i32⟩
  | 114 => ⟨S64, .i32⟩
  | 115 => ⟨S64, .i32⟩
  | 116 => ⟨S_, .i32⟩
  | 117 => ⟨S_, .i32⟩
  | 118 => ⟨S_, .i32⟩
  | 119 => ⟨S64, .i32⟩
  | 120 => ⟨S64, .i32⟩
  | 121 => ⟨S_, .i32⟩
  | 122 => ⟨S64, .i32⟩
  | 123 => ⟨S64, .i32⟩
  | 124 => ⟨S_, .i32⟩
  | 125 => ⟨S64, .i32⟩
  | 126 => ⟨S64, .i32⟩
  | 127 => ⟨S_, .i32⟩
  | _ => ⟨S2x2048x1024, .f32⟩

abbrev hbmTy0_1 (i : Nat) : BufTy := match i % 128 with
  | 0 => ⟨S64, .i32⟩
  | 1 => ⟨S64, .i32⟩
  | 2 => ⟨S_, .i32⟩
  | 3 => ⟨S_, .i32⟩
  | 4 => ⟨S_, .i32⟩
  | 5 => ⟨S64, .i32⟩
  | 6 => ⟨S64, .i32⟩
  | 7 => ⟨S_, .i32⟩
  | 8 => ⟨S64, .i32⟩
  | 9 => ⟨S64, .i32⟩
  | 10 => ⟨S_, .i32⟩
  | 11 => ⟨S64, .i32⟩
  | 12 => ⟨S64, .i1⟩
  | 13 => ⟨S_, .i32⟩
  | 14 => ⟨S64, .i32⟩
  | 15 => ⟨S64, .i32⟩
  | 16 => ⟨S64, .i32⟩
  | 17 => ⟨S64x1, .i32⟩
  | 18 => ⟨S1, .i32⟩
  | 19 => ⟨S_, .i32⟩
  | 20 => ⟨S64x1, .i32⟩
  | 21 => ⟨S64x1, .i1⟩
  | 22 => ⟨S1x1, .i32⟩
  | 23 => ⟨S64x1, .i32⟩
  | 24 => ⟨S64x1, .i1⟩
  | 25 => ⟨S64x1, .i1⟩
  | 26 => ⟨S_, .i1⟩
  | 27 => ⟨S64, .i1⟩
  | 28 => ⟨S32x64x256, .f32⟩
  | 29 => ⟨S32x64x256, .i1⟩
  | 30 => ⟨S_, .f32⟩
  | 31 => ⟨S32x64x256, .f32⟩
  | 32 => ⟨S32x64x256, .f32⟩
  | 33 => ⟨S_, .i32⟩
  | 34 => ⟨S64, .i32⟩
  | 35 => ⟨S64, .i1⟩
  | 36 => ⟨S_, .i32⟩
  | 37 => ⟨S64, .i32⟩
  | 38 => ⟨S64, .i32⟩
  | 39 => ⟨S64, .i32⟩
  | 40 => ⟨S64x1, .i32⟩
  | 41 => ⟨S1, .i32⟩
  | 42 => ⟨S_, .i32⟩
  | 43 => ⟨S64x1, .i32⟩
  | 44 => ⟨S64x1, .i1⟩
  | 45 => ⟨S1x1, .i32⟩
  | 46 => ⟨S64x1, .i32⟩
  | 47 => ⟨S64x1, .i1⟩
  | 48 => ⟨S64x1, .i1⟩
  | 49 => ⟨S_, .i1⟩
  | 50 => ⟨S64, .i1⟩
  | 51 => ⟨S32x64x256, .f32⟩
  | 52 => ⟨S32x64x256, .i1⟩
  | 53 => ⟨S_, .f32⟩
  | 54 => ⟨S32x64x256, .f32⟩
  | 55 => ⟨S32x64x256, .f32⟩
  | 56 => ⟨S32x64x256, .f32⟩
  | 57 => ⟨S64, .i32⟩
  | 58 => ⟨S64, .f32⟩
  | 59 => ⟨S64x1, .f32⟩
  | 60 => ⟨S1x64x1, .f32⟩
  | 61 => ⟨S32x64x256, .f32⟩
  | 62 => ⟨S32x64x256, .f32⟩
  | 63 => ⟨S32x64x1x256, .f32⟩
  | 64 => ⟨S32x64x256, .f32⟩
  | 65 => ⟨S32x1x256, .f32⟩
  | 66 => ⟨S_, .f32⟩
  | 67 => ⟨S32x1x256, .f32⟩
  | 68 => ⟨S_, .f32⟩
  | 69 => ⟨S_, .f32⟩
  | 70 => ⟨S32x64x256, .f32⟩
  | 71 => ⟨S32x65x256, .f32⟩
  | 72 => ⟨S64, .i32⟩
  | 73 => ⟨S_, .i32⟩
  | 74 => ⟨S64, .i32⟩
  | 75 => ⟨S64, .i32⟩
  | 76 => ⟨S_, .i32⟩
  | 77 => ⟨S_, .i32⟩
  | 78 => ⟨S_, .i32⟩
  | 79 => ⟨S64, .i32⟩
  | 80 => ⟨S64, .i32⟩
  | 81 => ⟨S_, .i32⟩
  | 82 => ⟨S64, .i32⟩
  | 83 => ⟨S64, .i32⟩
  | 84 => ⟨S_, .i32⟩
  | 85 => ⟨S64, .i32⟩
  | 86 => ⟨S64, .i32⟩
  | 87 => ⟨S_, .i32⟩
  | 88 => ⟨S64, .i32⟩
  | 89 => ⟨S64, .i32⟩
  | 90 => ⟨S_, .i32⟩
  | 91 => ⟨S_, .i32⟩
  | 92 => ⟨S_, .i32⟩
  | 93 => ⟨S64, .i32⟩
  | 94 => ⟨S64, .i32⟩
  | 95 => ⟨S_, .i32⟩
  | 96 => ⟨S64, .i32⟩
  | 97 => ⟨S64, .i32⟩
  | 98 => ⟨S_, .i32⟩
  | 99 => ⟨S64, .i32⟩
  | 100 => ⟨S64, .i1⟩
  | 101 => ⟨S_, .i32⟩
  | 102 => ⟨S64, .i32⟩
  | 103 => ⟨S64, .i32⟩
  | 104 => ⟨S64, .i32⟩
  | 105 => ⟨S64x1, .i32⟩
  | 106 => ⟨S1, .i32⟩
  | 107 => ⟨S_, .i32⟩
  | 108 => ⟨S64x1, .i32⟩
  | 109 => ⟨S64x1, .i1⟩
  | 110 => ⟨S1x1, .i32⟩
  | 111 => ⟨S64x1, .i32⟩
  | 112 => ⟨S64x1, .i1⟩
  | 113 => ⟨S64x1, .i1⟩
  | 114 => ⟨S_, .i1⟩
  | 115 => ⟨S64, .i1⟩
  | 116 => ⟨S32x64x256, .f32⟩
  | 117 => ⟨S32x64x256, .i1⟩
  | 118 => ⟨S_, .f32⟩
  | 119 => ⟨S32x64x256, .f32⟩
  | 120 => ⟨S32x64x256, .f32⟩
  | 121 => ⟨S_, .i32⟩
  | 122 => ⟨S64, .i32⟩
  | 123 => ⟨S64, .i1⟩
  | 124 => ⟨S_, .i32⟩
  | 125 => ⟨S64, .i32⟩
  | 126 => ⟨S64, .i32⟩
  | 127 => ⟨S64, .i32⟩
  | _ => ⟨S2x2048x1024, .f32⟩

abbrev hbmTy0_2 (i : Nat) : BufTy := match i % 128 with
  | 0 => ⟨S64x1, .i32⟩
  | 1 => ⟨S1, .i32⟩
  | 2 => ⟨S_, .i32⟩
  | 3 => ⟨S64x1, .i32⟩
  | 4 => ⟨S64x1, .i1⟩
  | 5 => ⟨S1x1, .i32⟩
  | 6 => ⟨S64x1, .i32⟩
  | 7 => ⟨S64x1, .i1⟩
  | 8 => ⟨S64x1, .i1⟩
  | 9 => ⟨S_, .i1⟩
  | 10 => ⟨S64, .i1⟩
  | 11 => ⟨S32x64x256, .f32⟩
  | 12 => ⟨S32x64x256, .i1⟩
  | 13 => ⟨S_, .f32⟩
  | 14 => ⟨S32x64x256, .f32⟩
  | 15 => ⟨S32x64x256, .f32⟩
  | 16 => ⟨S32x64x256, .f32⟩
  | 17 => ⟨S64, .i32⟩
  | 18 => ⟨S64, .f32⟩
  | 19 => ⟨S64x1, .f32⟩
  | 20 => ⟨S1x64x1, .f32⟩
  | 21 => ⟨S32x64x256, .f32⟩
  | 22 => ⟨S32x64x256, .f32⟩
  | 23 => ⟨S32x64x1x256, .f32⟩
  | 24 => ⟨S32x64x256, .f32⟩
  | 25 => ⟨S32x1x256, .f32⟩
  | 26 => ⟨S_, .f32⟩
  | 27 => ⟨S32x1x256, .f32⟩
  | 28 => ⟨S_, .f32⟩
  | 29 => ⟨S_, .f32⟩
  | 30 => ⟨S32x64x256, .f32⟩
  | 31 => ⟨S32x65x256, .f32⟩
  | 32 => ⟨S64, .i32⟩
  | 33 => ⟨S_, .i32⟩
  | 34 => ⟨S64, .i32⟩
  | 35 => ⟨S64, .i32⟩
  | 36 => ⟨S_, .i32⟩
  | 37 => ⟨S_, .i32⟩
  | 38 => ⟨S_, .i32⟩
  | 39 => ⟨S64, .i32⟩
  | 40 => ⟨S64, .i32⟩
  | 41 => ⟨S_, .i32⟩
  | 42 => ⟨S64, .i32⟩
  | 43 => ⟨S64, .i32⟩
  | 44 => ⟨S_, .i32⟩
  | 45 => ⟨S64, .i32⟩
  | 46 => ⟨S64, .i32⟩
  | 47 => ⟨S_, .i32⟩
  | 48 => ⟨S64, .i32⟩
  | 49 => ⟨S64, .i32⟩
  | 50 => ⟨S_, .i32⟩
  | 51 => ⟨S_, .i32⟩
  | 52 => ⟨S_, .i32⟩
  | 53 => ⟨S64, .i32⟩
  | 54 => ⟨S64, .i32⟩
  | 55 => ⟨S_, .i32⟩
  | 56 => ⟨S64, .i32⟩
  | 57 => ⟨S64, .i32⟩
  | 58 => ⟨S_, .i32⟩
  | 59 => ⟨S64, .i32⟩
  | 60 => ⟨S64, .i1⟩
  | 61 => ⟨S_, .i32⟩
  | 62 => ⟨S64, .i32⟩
  | 63 => ⟨S64, .i32⟩
  | 64 => ⟨S64, .i32⟩
  | 65 => ⟨S64x1, .i32⟩
  | 66 => ⟨S1, .i32⟩
  | 67 => ⟨S_, .i32⟩
  | 68 => ⟨S64x1, .i32⟩
  | 69 => ⟨S64x1, .i1⟩
  | 70 => ⟨S1x1, .i32⟩
  | 71 => ⟨S64x1, .i32⟩
  | 72 => ⟨S64x1, .i1⟩
  | 73 => ⟨S64x1, .i1⟩
  | 74 => ⟨S_, .i1⟩
  | 75 => ⟨S64, .i1⟩
  | 76 => ⟨S32x64x256, .f32⟩
  | 77 => ⟨S32x64x256, .i1⟩
  | 78 => ⟨S_, .f32⟩
  | 79 => ⟨S32x64x256, .f32⟩
  | 80 => ⟨S32x64x256, .f32⟩
  | 81 => ⟨S_, .i32⟩
  | 82 => ⟨S64, .i32⟩
  | 83 => ⟨S64, .i1⟩
  | 84 => ⟨S_, .i32⟩
  | 85 => ⟨S64, .i32⟩
  | 86 => ⟨S64, .i32⟩
  | 87 => ⟨S64, .i32⟩
  | 88 => ⟨S64x1, .i32⟩
  | 89 => ⟨S1, .i32⟩
  | 90 => ⟨S_, .i32⟩
  | 91 => ⟨S64x1, .i32⟩
  | 92 => ⟨S64x1, .i1⟩
  | 93 => ⟨S1x1, .i32⟩
  | 94 => ⟨S64x1, .i32⟩
  | 95 => ⟨S64x1, .i1⟩
  | 96 => ⟨S64x1, .i1⟩
  | 97 => ⟨S_, .i1⟩
  | 98 => ⟨S64, .i1⟩
  | 99 => ⟨S32x64x256, .f32⟩
  | 100 => ⟨S32x64x256, .i1⟩
  | 101 => ⟨S_, .f32⟩
  | 102 => ⟨S32x64x256, .f32⟩
  | 103 => ⟨S32x64x256, .f32⟩
  | 104 => ⟨S32x64x256, .f32⟩
  | 105 => ⟨S64, .i32⟩
  | 106 => ⟨S64, .f32⟩
  | 107 => ⟨S64x1, .f32⟩
  | 108 => ⟨S1x64x1, .f32⟩
  | 109 => ⟨S32x64x256, .f32⟩
  | 110 => ⟨S32x64x256, .f32⟩
  | 111 => ⟨S32x64x1x256, .f32⟩
  | 112 => ⟨S32x64x1x256, .f32⟩
  | 113 => ⟨S32x64x1x256, .f32⟩
  | 114 => ⟨S32x64x1x256, .f32⟩
  | 115 => ⟨S32x64x4x256, .f32⟩
  | 116 => ⟨S32x64x4x256, .f32⟩
  | 117 => ⟨S4x256x32x64, .f32⟩
  | 118 => ⟨S32x64x4x256, .f32⟩
  | 119 => ⟨S2048x1024, .f32⟩
  | 120 => ⟨S2048x1024, .f32⟩
  | 121 => ⟨S2048x1024, .f32⟩
  | 122 => ⟨S2048x1024, .f32⟩
  | 123 => ⟨S2048x1024, .f32⟩
  | 124 => ⟨S_, .f32⟩
  | 125 => ⟨S2048x1024, .f32⟩
  | 126 => ⟨S2048x1024, .f32⟩
  | 127 => ⟨S_, .f32⟩
  | _ => ⟨S2x2048x1024, .f32⟩

abbrev hbmTy0_3 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S_, .f32⟩
  | 16 => ⟨S2048x1, .f32⟩
  | 17 => ⟨S2048x1, .f32⟩
  | 18 => ⟨S2048x1, .f32⟩
  | 19 => ⟨S2048x1, .f32⟩
  | 20 => ⟨S_, .f32⟩
  | 21 => ⟨S2048x1, .f32⟩
  | 22 => ⟨S2048x1, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S_, .f32⟩
  | 33 => ⟨S2048, .f32⟩
  | 34 => ⟨S_, .f32⟩
  | 35 => ⟨S2048, .f32⟩
  | 36 => ⟨S2048, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S2048, .f32⟩
  | 45 => ⟨S_, .f32⟩
  | 46 => ⟨S2048, .f32⟩
  | 47 => ⟨S2048, .f32⟩
  | 48 => ⟨S2048x1024, .f32⟩
  | 49 => ⟨S2048x1024, .f32⟩
  | 50 => ⟨S2048x1024, .f32⟩
  | 51 => ⟨S_, .f32⟩
  | 52 => ⟨S1024, .f32⟩
  | 53 => ⟨S1x1024, .f32⟩
  | 54 => ⟨S2048x1024, .f32⟩
  | 55 => ⟨S2048x1024, .f32⟩
  | 56 => ⟨S2048x1024, .f32⟩
  | 57 => ⟨S_, .f32⟩
  | 58 => ⟨S2048, .f32⟩
  | 59 => ⟨S2048x1, .f32⟩
  | 60 => ⟨S2048x1024, .f32⟩
  | 61 => ⟨S2048x1024, .f32⟩
  | 62 => ⟨S2048x1, .f32⟩
  | 63 => ⟨S_, .f32⟩
  | 64 => ⟨S2048x1, .f32⟩
  | 65 => ⟨S2048x1, .f32⟩
  | 66 => ⟨S_, .f32⟩
  | 67 => ⟨S2048, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S_, .f32⟩
  | 75 => ⟨S1024, .f32⟩
  | 76 => ⟨S1x1024, .f32⟩
  | 77 => ⟨S8x128, .f32⟩
  | _ => ⟨S2x2048x1024, .f32⟩

abbrev hbmTy (i : Nat) : BufTy := match i / 128 with
  | 0 => hbmTy0_0 i
  | 1 => hbmTy0_1 i
  | 2 => hbmTy0_2 i
  | 3 => hbmTy0_3 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_call0_call0_cst : Ref sig .tc := ⟨.hbm, 20, rfl⟩
abbrev main_call0_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_c_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_c_5 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v21 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_v14 : Ref sig .tc := ⟨.hbm, 69, rfl⟩
abbrev main_call3_cst : Ref sig .tc := ⟨.hbm, 70, rfl⟩
abbrev main_call3_v15 : Ref sig .tc := ⟨.hbm, 71, rfl⟩
abbrev main_v22 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_call4_v5 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_v14 : Ref sig .tc := ⟨.hbm, 92, rfl⟩
abbrev main_call4_cst : Ref sig .tc := ⟨.hbm, 93, rfl⟩
abbrev main_call4_v15 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_cst_6 : Ref sig .tc := ⟨.hbm, 106, rfl⟩
abbrev main_v34 : Ref sig .tc := ⟨.hbm, 107, rfl⟩
abbrev main_call5_call0_cst : Ref sig .tc := ⟨.hbm, 108, rfl⟩
abbrev main_call5_call0_v0 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_c_7 : Ref sig .tc := ⟨.hbm, 113, rfl⟩
abbrev main_v38 : Ref sig .tc := ⟨.hbm, 114, rfl⟩
abbrev main_v39 : Ref sig .tc := ⟨.hbm, 115, rfl⟩
abbrev main_c_8 : Ref sig .tc := ⟨.hbm, 116, rfl⟩
abbrev main_c_9 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_v40 : Ref sig .tc := ⟨.hbm, 123, rfl⟩
abbrev main_c_10 : Ref sig .tc := ⟨.hbm, 124, rfl⟩
abbrev main_v41 : Ref sig .tc := ⟨.hbm, 125, rfl⟩
abbrev main_v42 : Ref sig .tc := ⟨.hbm, 126, rfl⟩
abbrev main_c_11 : Ref sig .tc := ⟨.hbm, 127, rfl⟩
abbrev main_v43 : Ref sig .tc := ⟨.hbm, 128, rfl⟩
abbrev main_v44 : Ref sig .tc := ⟨.hbm, 129, rfl⟩
abbrev main_c_12 : Ref sig .tc := ⟨.hbm, 130, rfl⟩
abbrev main_c_13 : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_v45 : Ref sig .tc := ⟨.hbm, 137, rfl⟩
abbrev main_call8_c : Ref sig .tc := ⟨.hbm, 138, rfl⟩
abbrev main_call8_v0 : Ref sig .tc := ⟨.hbm, 139, rfl⟩
abbrev main_call8_v1 : Ref sig .tc := ⟨.hbm, 140, rfl⟩
abbrev main_call8_c_0 : Ref sig .tc := ⟨.hbm, 141, rfl⟩
abbrev main_call8_v2 : Ref sig .tc := ⟨.hbm, 142, rfl⟩
abbrev main_call8_v3 : Ref sig .tc := ⟨.hbm, 143, rfl⟩
abbrev main_call8_v4 : Ref sig .tc := ⟨.hbm, 144, rfl⟩
abbrev main_call8_v5 : Ref sig .tc := ⟨.hbm, 145, rfl⟩
abbrev main_call8_c_1 : Ref sig .tc := ⟨.hbm, 146, rfl⟩
abbrev main_call8_c_2 : Ref sig .tc := ⟨.hbm, 147, rfl⟩
abbrev main_call8_v6 : Ref sig .tc := ⟨.hbm, 148, rfl⟩
abbrev main_call8_v7 : Ref sig .tc := ⟨.hbm, 149, rfl⟩
abbrev main_call8_v8 : Ref sig .tc := ⟨.hbm, 150, rfl⟩
abbrev main_call8_v9 : Ref sig .tc := ⟨.hbm, 151, rfl⟩
abbrev main_call8_v10 : Ref sig .tc := ⟨.hbm, 152, rfl⟩
abbrev main_call8_v11 : Ref sig .tc := ⟨.hbm, 153, rfl⟩
abbrev main_call8_c_3 : Ref sig .tc := ⟨.hbm, 154, rfl⟩
abbrev main_call8_v12 : Ref sig .tc := ⟨.hbm, 155, rfl⟩
abbrev main_call8_v13 : Ref sig .tc := ⟨.hbm, 156, rfl⟩
abbrev main_call8_v14 : Ref sig .tc := ⟨.hbm, 157, rfl⟩
abbrev main_call8_cst : Ref sig .tc := ⟨.hbm, 158, rfl⟩
abbrev main_call8_v15 : Ref sig .tc := ⟨.hbm, 159, rfl⟩
abbrev main_v46 : Ref sig .tc := ⟨.hbm, 160, rfl⟩
abbrev main_call9_c : Ref sig .tc := ⟨.hbm, 161, rfl⟩
abbrev main_call9_v0 : Ref sig .tc := ⟨.hbm, 162, rfl⟩
abbrev main_call9_v1 : Ref sig .tc := ⟨.hbm, 163, rfl⟩
abbrev main_call9_c_0 : Ref sig .tc := ⟨.hbm, 164, rfl⟩
abbrev main_call9_v2 : Ref sig .tc := ⟨.hbm, 165, rfl⟩
abbrev main_call9_v3 : Ref sig .tc := ⟨.hbm, 166, rfl⟩
abbrev main_call9_v4 : Ref sig .tc := ⟨.hbm, 167, rfl⟩
abbrev main_call9_v5 : Ref sig .tc := ⟨.hbm, 168, rfl⟩
abbrev main_call9_c_1 : Ref sig .tc := ⟨.hbm, 169, rfl⟩
abbrev main_call9_c_2 : Ref sig .tc := ⟨.hbm, 170, rfl⟩
abbrev main_call9_v6 : Ref sig .tc := ⟨.hbm, 171, rfl⟩
abbrev main_call9_v7 : Ref sig .tc := ⟨.hbm, 172, rfl⟩
abbrev main_call9_v8 : Ref sig .tc := ⟨.hbm, 173, rfl⟩
abbrev main_call9_v9 : Ref sig .tc := ⟨.hbm, 174, rfl⟩
abbrev main_call9_v10 : Ref sig .tc := ⟨.hbm, 175, rfl⟩
abbrev main_call9_v11 : Ref sig .tc := ⟨.hbm, 176, rfl⟩
abbrev main_call9_c_3 : Ref sig .tc := ⟨.hbm, 177, rfl⟩
abbrev main_call9_v12 : Ref sig .tc := ⟨.hbm, 178, rfl⟩
abbrev main_call9_v13 : Ref sig .tc := ⟨.hbm, 179, rfl⟩
abbrev main_call9_v14 : Ref sig .tc := ⟨.hbm, 180, rfl⟩
abbrev main_call9_cst : Ref sig .tc := ⟨.hbm, 181, rfl⟩
abbrev main_call9_v15 : Ref sig .tc := ⟨.hbm, 182, rfl⟩
abbrev main_v47 : Ref sig .tc := ⟨.hbm, 183, rfl⟩
abbrev main_v48 : Ref sig .tc := ⟨.hbm, 184, rfl⟩
abbrev main_v49 : Ref sig .tc := ⟨.hbm, 185, rfl⟩
abbrev main_v50 : Ref sig .tc := ⟨.hbm, 186, rfl⟩
abbrev main_v51 : Ref sig .tc := ⟨.hbm, 187, rfl⟩
abbrev main_v52 : Ref sig .tc := ⟨.hbm, 188, rfl⟩
abbrev main_v53 : Ref sig .tc := ⟨.hbm, 189, rfl⟩
abbrev main_v54 : Ref sig .tc := ⟨.hbm, 190, rfl⟩
abbrev main_v55 : Ref sig .tc := ⟨.hbm, 191, rfl⟩
abbrev main_v56 : Ref sig .tc := ⟨.hbm, 192, rfl⟩
abbrev main_v57 : Ref sig .tc := ⟨.hbm, 193, rfl⟩
abbrev main_cst_14 : Ref sig .tc := ⟨.hbm, 194, rfl⟩
abbrev main_v58 : Ref sig .tc := ⟨.hbm, 195, rfl⟩
abbrev main_call10_call0_cst : Ref sig .tc := ⟨.hbm, 196, rfl⟩
abbrev main_call10_call0_v0 : Ref sig .tc := ⟨.hbm, 197, rfl⟩
abbrev main_v59 : Ref sig .tc := ⟨.hbm, 198, rfl⟩
abbrev main_v60 : Ref sig .tc := ⟨.hbm, 199, rfl⟩
abbrev main_v61 : Ref sig .tc := ⟨.hbm, 200, rfl⟩
abbrev main_c_15 : Ref sig .tc := ⟨.hbm, 201, rfl⟩
abbrev main_v62 : Ref sig .tc := ⟨.hbm, 202, rfl⟩
abbrev main_v63 : Ref sig .tc := ⟨.hbm, 203, rfl⟩
abbrev main_c_16 : Ref sig .tc := ⟨.hbm, 204, rfl⟩
abbrev main_c_17 : Ref sig .tc := ⟨.hbm, 205, rfl⟩
abbrev main_call11_v0 : Ref sig .tc := ⟨.hbm, 206, rfl⟩
abbrev main_call11_v1 : Ref sig .tc := ⟨.hbm, 207, rfl⟩
abbrev main_call11_v2 : Ref sig .tc := ⟨.hbm, 208, rfl⟩
abbrev main_call11_v3 : Ref sig .tc := ⟨.hbm, 209, rfl⟩
abbrev main_call11_v4 : Ref sig .tc := ⟨.hbm, 210, rfl⟩
abbrev main_v64 : Ref sig .tc := ⟨.hbm, 211, rfl⟩
abbrev main_c_18 : Ref sig .tc := ⟨.hbm, 212, rfl⟩
abbrev main_v65 : Ref sig .tc := ⟨.hbm, 213, rfl⟩
abbrev main_v66 : Ref sig .tc := ⟨.hbm, 214, rfl⟩
abbrev main_c_19 : Ref sig .tc := ⟨.hbm, 215, rfl⟩
abbrev main_v67 : Ref sig .tc := ⟨.hbm, 216, rfl⟩
abbrev main_v68 : Ref sig .tc := ⟨.hbm, 217, rfl⟩
abbrev main_c_20 : Ref sig .tc := ⟨.hbm, 218, rfl⟩
abbrev main_c_21 : Ref sig .tc := ⟨.hbm, 219, rfl⟩
abbrev main_call12_v0 : Ref sig .tc := ⟨.hbm, 220, rfl⟩
abbrev main_call12_v1 : Ref sig .tc := ⟨.hbm, 221, rfl⟩
abbrev main_call12_v2 : Ref sig .tc := ⟨.hbm, 222, rfl⟩
abbrev main_call12_v3 : Ref sig .tc := ⟨.hbm, 223, rfl⟩
abbrev main_call12_v4 : Ref sig .tc := ⟨.hbm, 224, rfl⟩
abbrev main_v69 : Ref sig .tc := ⟨.hbm, 225, rfl⟩
abbrev main_call13_c : Ref sig .tc := ⟨.hbm, 226, rfl⟩
abbrev main_call13_v0 : Ref sig .tc := ⟨.hbm, 227, rfl⟩
abbrev main_call13_v1 : Ref sig .tc := ⟨.hbm, 228, rfl⟩
abbrev main_call13_c_0 : Ref sig .tc := ⟨.hbm, 229, rfl⟩
abbrev main_call13_v2 : Ref sig .tc := ⟨.hbm, 230, rfl⟩
abbrev main_call13_v3 : Ref sig .tc := ⟨.hbm, 231, rfl⟩
abbrev main_call13_v4 : Ref sig .tc := ⟨.hbm, 232, rfl⟩
abbrev main_call13_v5 : Ref sig .tc := ⟨.hbm, 233, rfl⟩
abbrev main_call13_c_1 : Ref sig .tc := ⟨.hbm, 234, rfl⟩
abbrev main_call13_c_2 : Ref sig .tc := ⟨.hbm, 235, rfl⟩
abbrev main_call13_v6 : Ref sig .tc := ⟨.hbm, 236, rfl⟩
abbrev main_call13_v7 : Ref sig .tc := ⟨.hbm, 237, rfl⟩
abbrev main_call13_v8 : Ref sig .tc := ⟨.hbm, 238, rfl⟩
abbrev main_call13_v9 : Ref sig .tc := ⟨.hbm, 239, rfl⟩
abbrev main_call13_v10 : Ref sig .tc := ⟨.hbm, 240, rfl⟩
abbrev main_call13_v11 : Ref sig .tc := ⟨.hbm, 241, rfl⟩
abbrev main_call13_c_3 : Ref sig .tc := ⟨.hbm, 242, rfl⟩
abbrev main_call13_v12 : Ref sig .tc := ⟨.hbm, 243, rfl⟩
abbrev main_call13_v13 : Ref sig .tc := ⟨.hbm, 244, rfl⟩
abbrev main_call13_v14 : Ref sig .tc := ⟨.hbm, 245, rfl⟩
abbrev main_call13_cst : Ref sig .tc := ⟨.hbm, 246, rfl⟩
abbrev main_call13_v15 : Ref sig .tc := ⟨.hbm, 247, rfl⟩
abbrev main_v70 : Ref sig .tc := ⟨.hbm, 248, rfl⟩
abbrev main_call14_c : Ref sig .tc := ⟨.hbm, 249, rfl⟩
abbrev main_call14_v0 : Ref sig .tc := ⟨.hbm, 250, rfl⟩
abbrev main_call14_v1 : Ref sig .tc := ⟨.hbm, 251, rfl⟩
abbrev main_call14_c_0 : Ref sig .tc := ⟨.hbm, 252, rfl⟩
abbrev main_call14_v2 : Ref sig .tc := ⟨.hbm, 253, rfl⟩
abbrev main_call14_v3 : Ref sig .tc := ⟨.hbm, 254, rfl⟩
abbrev main_call14_v4 : Ref sig .tc := ⟨.hbm, 255, rfl⟩
abbrev main_call14_v5 : Ref sig .tc := ⟨.hbm, 256, rfl⟩
abbrev main_call14_c_1 : Ref sig .tc := ⟨.hbm, 257, rfl⟩
abbrev main_call14_c_2 : Ref sig .tc := ⟨.hbm, 258, rfl⟩
abbrev main_call14_v6 : Ref sig .tc := ⟨.hbm, 259, rfl⟩
abbrev main_call14_v7 : Ref sig .tc := ⟨.hbm, 260, rfl⟩
abbrev main_call14_v8 : Ref sig .tc := ⟨.hbm, 261, rfl⟩
abbrev main_call14_v9 : Ref sig .tc := ⟨.hbm, 262, rfl⟩
abbrev main_call14_v10 : Ref sig .tc := ⟨.hbm, 263, rfl⟩
abbrev main_call14_v11 : Ref sig .tc := ⟨.hbm, 264, rfl⟩
abbrev main_call14_c_3 : Ref sig .tc := ⟨.hbm, 265, rfl⟩
abbrev main_call14_v12 : Ref sig .tc := ⟨.hbm, 266, rfl⟩
abbrev main_call14_v13 : Ref sig .tc := ⟨.hbm, 267, rfl⟩
abbrev main_call14_v14 : Ref sig .tc := ⟨.hbm, 268, rfl⟩
abbrev main_call14_cst : Ref sig .tc := ⟨.hbm, 269, rfl⟩
abbrev main_call14_v15 : Ref sig .tc := ⟨.hbm, 270, rfl⟩
abbrev main_v71 : Ref sig .tc := ⟨.hbm, 271, rfl⟩
abbrev main_v72 : Ref sig .tc := ⟨.hbm, 272, rfl⟩
abbrev main_v73 : Ref sig .tc := ⟨.hbm, 273, rfl⟩
abbrev main_v74 : Ref sig .tc := ⟨.hbm, 274, rfl⟩
abbrev main_v75 : Ref sig .tc := ⟨.hbm, 275, rfl⟩
abbrev main_v76 : Ref sig .tc := ⟨.hbm, 276, rfl⟩
abbrev main_v77 : Ref sig .tc := ⟨.hbm, 277, rfl⟩
abbrev main_v78 : Ref sig .tc := ⟨.hbm, 278, rfl⟩
abbrev main_v79 : Ref sig .tc := ⟨.hbm, 279, rfl⟩
abbrev main_v80 : Ref sig .tc := ⟨.hbm, 280, rfl⟩
abbrev main_v81 : Ref sig .tc := ⟨.hbm, 281, rfl⟩
abbrev main_cst_22 : Ref sig .tc := ⟨.hbm, 282, rfl⟩
abbrev main_v82 : Ref sig .tc := ⟨.hbm, 283, rfl⟩
abbrev main_call15_call0_cst : Ref sig .tc := ⟨.hbm, 284, rfl⟩
abbrev main_call15_call0_v0 : Ref sig .tc := ⟨.hbm, 285, rfl⟩
abbrev main_v83 : Ref sig .tc := ⟨.hbm, 286, rfl⟩
abbrev main_v84 : Ref sig .tc := ⟨.hbm, 287, rfl⟩
abbrev main_v85 : Ref sig .tc := ⟨.hbm, 288, rfl⟩
abbrev main_c_23 : Ref sig .tc := ⟨.hbm, 289, rfl⟩
abbrev main_v86 : Ref sig .tc := ⟨.hbm, 290, rfl⟩
abbrev main_v87 : Ref sig .tc := ⟨.hbm, 291, rfl⟩
abbrev main_c_24 : Ref sig .tc := ⟨.hbm, 292, rfl⟩
abbrev main_c_25 : Ref sig .tc := ⟨.hbm, 293, rfl⟩
abbrev main_call16_v0 : Ref sig .tc := ⟨.hbm, 294, rfl⟩
abbrev main_call16_v1 : Ref sig .tc := ⟨.hbm, 295, rfl⟩
abbrev main_call16_v2 : Ref sig .tc := ⟨.hbm, 296, rfl⟩
abbrev main_call16_v3 : Ref sig .tc := ⟨.hbm, 297, rfl⟩
abbrev main_call16_v4 : Ref sig .tc := ⟨.hbm, 298, rfl⟩
abbrev main_v88 : Ref sig .tc := ⟨.hbm, 299, rfl⟩
abbrev main_c_26 : Ref sig .tc := ⟨.hbm, 300, rfl⟩
abbrev main_v89 : Ref sig .tc := ⟨.hbm, 301, rfl⟩
abbrev main_v90 : Ref sig .tc := ⟨.hbm, 302, rfl⟩
abbrev main_c_27 : Ref sig .tc := ⟨.hbm, 303, rfl⟩
abbrev main_v91 : Ref sig .tc := ⟨.hbm, 304, rfl⟩
abbrev main_v92 : Ref sig .tc := ⟨.hbm, 305, rfl⟩
abbrev main_c_28 : Ref sig .tc := ⟨.hbm, 306, rfl⟩
abbrev main_c_29 : Ref sig .tc := ⟨.hbm, 307, rfl⟩
abbrev main_call17_v0 : Ref sig .tc := ⟨.hbm, 308, rfl⟩
abbrev main_call17_v1 : Ref sig .tc := ⟨.hbm, 309, rfl⟩
abbrev main_call17_v2 : Ref sig .tc := ⟨.hbm, 310, rfl⟩
abbrev main_call17_v3 : Ref sig .tc := ⟨.hbm, 311, rfl⟩
abbrev main_call17_v4 : Ref sig .tc := ⟨.hbm, 312, rfl⟩
abbrev main_v93 : Ref sig .tc := ⟨.hbm, 313, rfl⟩
abbrev main_call18_c : Ref sig .tc := ⟨.hbm, 314, rfl⟩
abbrev main_call18_v0 : Ref sig .tc := ⟨.hbm, 315, rfl⟩
abbrev main_call18_v1 : Ref sig .tc := ⟨.hbm, 316, rfl⟩
abbrev main_call18_c_0 : Ref sig .tc := ⟨.hbm, 317, rfl⟩
abbrev main_call18_v2 : Ref sig .tc := ⟨.hbm, 318, rfl⟩
abbrev main_call18_v3 : Ref sig .tc := ⟨.hbm, 319, rfl⟩
abbrev main_call18_v4 : Ref sig .tc := ⟨.hbm, 320, rfl⟩
abbrev main_call18_v5 : Ref sig .tc := ⟨.hbm, 321, rfl⟩
abbrev main_call18_c_1 : Ref sig .tc := ⟨.hbm, 322, rfl⟩
abbrev main_call18_c_2 : Ref sig .tc := ⟨.hbm, 323, rfl⟩
abbrev main_call18_v6 : Ref sig .tc := ⟨.hbm, 324, rfl⟩
abbrev main_call18_v7 : Ref sig .tc := ⟨.hbm, 325, rfl⟩
abbrev main_call18_v8 : Ref sig .tc := ⟨.hbm, 326, rfl⟩
abbrev main_call18_v9 : Ref sig .tc := ⟨.hbm, 327, rfl⟩
abbrev main_call18_v10 : Ref sig .tc := ⟨.hbm, 328, rfl⟩
abbrev main_call18_v11 : Ref sig .tc := ⟨.hbm, 329, rfl⟩
abbrev main_call18_c_3 : Ref sig .tc := ⟨.hbm, 330, rfl⟩
abbrev main_call18_v12 : Ref sig .tc := ⟨.hbm, 331, rfl⟩
abbrev main_call18_v13 : Ref sig .tc := ⟨.hbm, 332, rfl⟩
abbrev main_call18_v14 : Ref sig .tc := ⟨.hbm, 333, rfl⟩
abbrev main_call18_cst : Ref sig .tc := ⟨.hbm, 334, rfl⟩
abbrev main_call18_v15 : Ref sig .tc := ⟨.hbm, 335, rfl⟩
abbrev main_v94 : Ref sig .tc := ⟨.hbm, 336, rfl⟩
abbrev main_call19_c : Ref sig .tc := ⟨.hbm, 337, rfl⟩
abbrev main_call19_v0 : Ref sig .tc := ⟨.hbm, 338, rfl⟩
abbrev main_call19_v1 : Ref sig .tc := ⟨.hbm, 339, rfl⟩
abbrev main_call19_c_0 : Ref sig .tc := ⟨.hbm, 340, rfl⟩
abbrev main_call19_v2 : Ref sig .tc := ⟨.hbm, 341, rfl⟩
abbrev main_call19_v3 : Ref sig .tc := ⟨.hbm, 342, rfl⟩
abbrev main_call19_v4 : Ref sig .tc := ⟨.hbm, 343, rfl⟩
abbrev main_call19_v5 : Ref sig .tc := ⟨.hbm, 344, rfl⟩
abbrev main_call19_c_1 : Ref sig .tc := ⟨.hbm, 345, rfl⟩
abbrev main_call19_c_2 : Ref sig .tc := ⟨.hbm, 346, rfl⟩
abbrev main_call19_v6 : Ref sig .tc := ⟨.hbm, 347, rfl⟩
abbrev main_call19_v7 : Ref sig .tc := ⟨.hbm, 348, rfl⟩
abbrev main_call19_v8 : Ref sig .tc := ⟨.hbm, 349, rfl⟩
abbrev main_call19_v9 : Ref sig .tc := ⟨.hbm, 350, rfl⟩
abbrev main_call19_v10 : Ref sig .tc := ⟨.hbm, 351, rfl⟩
abbrev main_call19_v11 : Ref sig .tc := ⟨.hbm, 352, rfl⟩
abbrev main_call19_c_3 : Ref sig .tc := ⟨.hbm, 353, rfl⟩
abbrev main_call19_v12 : Ref sig .tc := ⟨.hbm, 354, rfl⟩
abbrev main_call19_v13 : Ref sig .tc := ⟨.hbm, 355, rfl⟩
abbrev main_call19_v14 : Ref sig .tc := ⟨.hbm, 356, rfl⟩
abbrev main_call19_cst : Ref sig .tc := ⟨.hbm, 357, rfl⟩
abbrev main_call19_v15 : Ref sig .tc := ⟨.hbm, 358, rfl⟩
abbrev main_v95 : Ref sig .tc := ⟨.hbm, 359, rfl⟩
abbrev main_v96 : Ref sig .tc := ⟨.hbm, 360, rfl⟩
abbrev main_v97 : Ref sig .tc := ⟨.hbm, 361, rfl⟩
abbrev main_v98 : Ref sig .tc := ⟨.hbm, 362, rfl⟩
abbrev main_v99 : Ref sig .tc := ⟨.hbm, 363, rfl⟩
abbrev main_v100 : Ref sig .tc := ⟨.hbm, 364, rfl⟩
abbrev main_v101 : Ref sig .tc := ⟨.hbm, 365, rfl⟩
abbrev main_v102 : Ref sig .tc := ⟨.hbm, 366, rfl⟩
abbrev main_v103 : Ref sig .tc := ⟨.hbm, 367, rfl⟩
abbrev main_v104 : Ref sig .tc := ⟨.hbm, 368, rfl⟩
abbrev main_v105 : Ref sig .tc := ⟨.hbm, 369, rfl⟩
abbrev main_v106 : Ref sig .tc := ⟨.hbm, 370, rfl⟩
abbrev main_v107 : Ref sig .tc := ⟨.hbm, 371, rfl⟩
abbrev main_v108 : Ref sig .tc := ⟨.hbm, 372, rfl⟩
abbrev main_v109 : Ref sig .tc := ⟨.hbm, 373, rfl⟩
abbrev main_v110 : Ref sig .tc := ⟨.hbm, 374, rfl⟩
abbrev main_v111 : Ref sig .tc := ⟨.hbm, 375, rfl⟩
abbrev main_v112 : Ref sig .tc := ⟨.hbm, 376, rfl⟩
abbrev main_v113 : Ref sig .tc := ⟨.hbm, 377, rfl⟩
abbrev main_call20_v0 : Ref sig .tc := ⟨.hbm, 378, rfl⟩
abbrev main_call20_v1 : Ref sig .tc := ⟨.hbm, 379, rfl⟩
abbrev main_call20_cst : Ref sig .tc := ⟨.hbm, 380, rfl⟩
abbrev main_call20_v2 : Ref sig .tc := ⟨.hbm, 381, rfl⟩
abbrev main_call20_v3 : Ref sig .tc := ⟨.hbm, 382, rfl⟩
abbrev main_call20_cst_0 : Ref sig .tc := ⟨.hbm, 383, rfl⟩
abbrev main_call20_v4 : Ref sig .tc := ⟨.hbm, 384, rfl⟩
abbrev main_call20_v5 : Ref sig .tc := ⟨.hbm, 385, rfl⟩
abbrev main_v114 : Ref sig .tc := ⟨.hbm, 386, rfl⟩
abbrev main_v115 : Ref sig .tc := ⟨.hbm, 387, rfl⟩
abbrev main_v116 : Ref sig .tc := ⟨.hbm, 388, rfl⟩
abbrev main_v117 : Ref sig .tc := ⟨.hbm, 389, rfl⟩
abbrev main_v118 : Ref sig .tc := ⟨.hbm, 390, rfl⟩
abbrev main_v119 : Ref sig .tc := ⟨.hbm, 391, rfl⟩
abbrev main_v120 : Ref sig .tc := ⟨.hbm, 392, rfl⟩
abbrev main_cst_30 : Ref sig .tc := ⟨.hbm, 393, rfl⟩
abbrev main_v121 : Ref sig .tc := ⟨.hbm, 394, rfl⟩
abbrev main_v122 : Ref sig .tc := ⟨.hbm, 395, rfl⟩
abbrev main_cst_31 : Ref sig .tc := ⟨.hbm, 396, rfl⟩
abbrev main_v123 : Ref sig .tc := ⟨.hbm, 397, rfl⟩
abbrev main_v124 : Ref sig .tc := ⟨.hbm, 398, rfl⟩
abbrev main_cst_32 : Ref sig .tc := ⟨.hbm, 399, rfl⟩
abbrev main_v125 : Ref sig .tc := ⟨.hbm, 400, rfl⟩
abbrev main_v126 : Ref sig .tc := ⟨.hbm, 401, rfl⟩
abbrev main_v127 : Ref sig .tc := ⟨.hbm, 402, rfl⟩
abbrev main_v128 : Ref sig .tc := ⟨.hbm, 403, rfl⟩
abbrev main_cst_33 : Ref sig .tc := ⟨.hbm, 404, rfl⟩
abbrev main_v129 : Ref sig .tc := ⟨.hbm, 405, rfl⟩
abbrev main_v130 : Ref sig .tc := ⟨.hbm, 406, rfl⟩
abbrev main_v131 : Ref sig .tc := ⟨.hbm, 407, rfl⟩
abbrev main_v132 : Ref sig .tc := ⟨.hbm, 408, rfl⟩
abbrev main_v133 : Ref sig .tc := ⟨.hbm, 409, rfl⟩
abbrev main_v134 : Ref sig .tc := ⟨.hbm, 410, rfl⟩
abbrev main_v135 : Ref sig .tc := ⟨.hbm, 411, rfl⟩
abbrev main_v136 : Ref sig .tc := ⟨.hbm, 412, rfl⟩
abbrev main_cst_34 : Ref sig .tc := ⟨.hbm, 413, rfl⟩
abbrev main_v137 : Ref sig .tc := ⟨.hbm, 414, rfl⟩
abbrev main_v138 : Ref sig .tc := ⟨.hbm, 415, rfl⟩
abbrev main_cst_35 : Ref sig .tc := ⟨.hbm, 416, rfl⟩
abbrev main_v139 : Ref sig .tc := ⟨.hbm, 417, rfl⟩
abbrev main_cst_36 : Ref sig .tc := ⟨.hbm, 418, rfl⟩
abbrev main_v140 : Ref sig .tc := ⟨.hbm, 419, rfl⟩
abbrev main_v141 : Ref sig .tc := ⟨.hbm, 420, rfl⟩
abbrev main_cst_37 : Ref sig .tc := ⟨.hbm, 421, rfl⟩
abbrev main_v142 : Ref sig .tc := ⟨.hbm, 422, rfl⟩
abbrev main_cst_38 : Ref sig .tc := ⟨.hbm, 423, rfl⟩
abbrev main_v143 : Ref sig .tc := ⟨.hbm, 424, rfl⟩
abbrev main_cst_39 : Ref sig .tc := ⟨.hbm, 425, rfl⟩
abbrev main_cst_40 : Ref sig .tc := ⟨.hbm, 426, rfl⟩
abbrev main_v144 : Ref sig .tc := ⟨.hbm, 427, rfl⟩
abbrev main_v145 : Ref sig .tc := ⟨.hbm, 428, rfl⟩
abbrev main_cst_41 : Ref sig .tc := ⟨.hbm, 429, rfl⟩
abbrev main_v146 : Ref sig .tc := ⟨.hbm, 430, rfl⟩
abbrev main_v147 : Ref sig .tc := ⟨.hbm, 431, rfl⟩
abbrev main_v148 : Ref sig .tc := ⟨.hbm, 432, rfl⟩
abbrev main_v149 : Ref sig .tc := ⟨.hbm, 433, rfl⟩
abbrev main_v150 : Ref sig .tc := ⟨.hbm, 434, rfl⟩
abbrev main_cst_42 : Ref sig .tc := ⟨.hbm, 435, rfl⟩
abbrev main_v151 : Ref sig .tc := ⟨.hbm, 436, rfl⟩
abbrev main_v152 : Ref sig .tc := ⟨.hbm, 437, rfl⟩
abbrev main_v153 : Ref sig .tc := ⟨.hbm, 438, rfl⟩
abbrev main_v154 : Ref sig .tc := ⟨.hbm, 439, rfl⟩
abbrev main_v155 : Ref sig .tc := ⟨.hbm, 440, rfl⟩
abbrev main_cst_43 : Ref sig .tc := ⟨.hbm, 441, rfl⟩
abbrev main_v156 : Ref sig .tc := ⟨.hbm, 442, rfl⟩
abbrev main_v157 : Ref sig .tc := ⟨.hbm, 443, rfl⟩
abbrev main_v158 : Ref sig .tc := ⟨.hbm, 444, rfl⟩
abbrev main_v159 : Ref sig .tc := ⟨.hbm, 445, rfl⟩
abbrev main_v160 : Ref sig .tc := ⟨.hbm, 446, rfl⟩
abbrev main_cst_44 : Ref sig .tc := ⟨.hbm, 447, rfl⟩
abbrev main_v161 : Ref sig .tc := ⟨.hbm, 448, rfl⟩
abbrev main_v162 : Ref sig .tc := ⟨.hbm, 449, rfl⟩
abbrev main_cst_45 : Ref sig .tc := ⟨.hbm, 450, rfl⟩
abbrev main_v163 : Ref sig .tc := ⟨.hbm, 451, rfl⟩
abbrev main_v164 : Ref sig .tc := ⟨.hbm, 452, rfl⟩
abbrev main_v165 : Ref sig .tc := ⟨.hbm, 453, rfl⟩
abbrev main_v166 : Ref sig .tc := ⟨.hbm, 454, rfl⟩
abbrev main_v167 : Ref sig .tc := ⟨.hbm, 455, rfl⟩
abbrev main_v168 : Ref sig .tc := ⟨.hbm, 456, rfl⟩
abbrev main_v169 : Ref sig .tc := ⟨.hbm, 457, rfl⟩
abbrev main_cst_46 : Ref sig .tc := ⟨.hbm, 458, rfl⟩
abbrev main_v170 : Ref sig .tc := ⟨.hbm, 459, rfl⟩
abbrev main_v171 : Ref sig .tc := ⟨.hbm, 460, rfl⟩
abbrev main_v172 : Ref sig .tc := ⟨.hbm, 461, rfl⟩

abbrev nD : Nat := 1
abbrev τ : Topo := Topo.v7x

variable {F : FTy → Type} [FloatOps F]
-- ==== PoolBack.lean ====
abbrev S2048x1024 : Shape := ⟨2, ![2048, 1024]⟩
abbrev S2x2048x1024 : Shape := ⟨3, ![2, 2048, 1024]⟩
abbrev S1x1024 : Shape := ⟨2, ![1, 1024]⟩
abbrev S4x256x256 : Shape := ⟨3, ![4, 256, 256]⟩
abbrev S1024x1024 : Shape := ⟨2, ![1024, 1024]⟩
abbrev S4x64x64 : Shape := ⟨3, ![4, 64, 64]⟩
abbrev S_ : Shape := ⟨0, ![]⟩
abbrev S4x4 : Shape := ⟨2, ![4, 4]⟩
abbrev S1x4x1x4x1 : Shape := ⟨5, ![1, 4, 1, 4, 1]⟩
abbrev S4x1x64x1x64 : Shape := ⟨5, ![4, 1, 64, 1, 64]⟩
abbrev S4x4x64x4x64 : Shape := ⟨5, ![4, 4, 64, 4, 64]⟩
abbrev S4x64x1 : Shape := ⟨3, ![4, 64, 1]⟩
abbrev S4x1x64x1 : Shape := ⟨4, ![4, 1, 64, 1]⟩
abbrev S4x4x64x1 : Shape := ⟨4, ![4, 4, 64, 1]⟩
abbrev S4x256x1 : Shape := ⟨3, ![4, 256, 1]⟩
abbrev S512x1024 : Shape := ⟨2, ![512, 1024]⟩
abbrev S1x512x1024 : Shape := ⟨3, ![1, 512, 1024]⟩
abbrev S2x512x1024 : Shape := ⟨3, ![2, 512, 1024]⟩
abbrev S1x256x256 : Shape := ⟨3, ![1, 256, 256]⟩
abbrev S256x256 : Shape := ⟨2, ![256, 256]⟩
abbrev S1x256x1 : Shape := ⟨3, ![1, 256, 1]⟩
abbrev S256x1 : Shape := ⟨2, ![256, 1]⟩
abbrev S512x256 : Shape := ⟨2, ![512, 256]⟩
abbrev S1024 : Shape := ⟨1, ![1024]⟩

abbrev nBuf : Space → Nat
  | .hbm => 52
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S2x2048x1024, .f32⟩
  | .hbm, ⟨2, _⟩ => ⟨S1x1024, .f32⟩
  | .hbm, ⟨3, _⟩ => ⟨S4x256x256, .bf16⟩
  | .hbm, ⟨4, _⟩ => ⟨S1x1024, .f32⟩
  | .hbm, ⟨5, _⟩ => ⟨S1024x1024, .bf16⟩
  | .hbm, ⟨6, _⟩ => ⟨S4x64x64, .i32⟩
  | .hbm, ⟨7, _⟩ => ⟨S4x64x64, .i32⟩
  | .hbm, ⟨8, _⟩ => ⟨S4x64x64, .i32⟩
  | .hbm, ⟨9, _⟩ => ⟨S_, .i32⟩
  | .hbm, ⟨10, _⟩ => ⟨S4x64x64, .i32⟩
  | .hbm, ⟨11, _⟩ => ⟨S4x64x64, .i32⟩
  | .hbm, ⟨12, _⟩ => ⟨S4x64x64, .i32⟩
  | .hbm, ⟨13, _⟩ => ⟨S4x64x64, .i1⟩
  | .hbm, ⟨14, _⟩ => ⟨S4x64x64, .i32⟩
  | .hbm, ⟨15, _⟩ => ⟨S4x64x64, .i1⟩
  | .hbm, ⟨16, _⟩ => ⟨S4x64x64, .i1⟩
  | .hbm, ⟨17, _⟩ => ⟨S4x64x64, .f32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S4x4, .f32⟩
  | .hbm, ⟨22, _⟩ => ⟨S1x4x1x4x1, .f32⟩
  | .hbm, ⟨23, _⟩ => ⟨S4x1x64x1x64, .f32⟩
  | .hbm, ⟨24, _⟩ => ⟨S4x4x64x4x64, .f32⟩
  | .hbm, ⟨25, _⟩ => ⟨S4x4x64x4x64, .f32⟩
  | .hbm, ⟨26, _⟩ => ⟨S4x4x64x4x64, .f32⟩
  | .hbm, ⟨27, _⟩ => ⟨S4x256x256, .f32⟩
  | .hbm, ⟨28, _⟩ => ⟨S4x64x64, .i32⟩
  | .hbm, ⟨29, _⟩ => ⟨S_, .i32⟩
  | .hbm, ⟨30, _⟩ => ⟨S4x64x64, .i32⟩
  | .hbm, ⟨31, _⟩ => ⟨S4x64x64, .i32⟩
  | .hbm, ⟨32, _⟩ => ⟨S4x64x64, .i32⟩
  | .hbm, ⟨33, _⟩ => ⟨S_, .i32⟩
  | .hbm, ⟨34, _⟩ => ⟨S4x64x64, .i32⟩
  | .hbm, ⟨35, _⟩ => ⟨S4x64x64, .i32⟩
  | .hbm, ⟨36, _⟩ => ⟨S4x64x64, .i32⟩
  | .hbm, ⟨37, _⟩ => ⟨S4x64x1, .i32⟩
  | .hbm, ⟨38, _⟩ => ⟨S4x1x64x1, .i32⟩
  | .hbm, ⟨39, _⟩ => ⟨S4x1x64x1, .f32⟩
  | .hbm, ⟨40, _⟩ => ⟨S_, .f32⟩
  | .hbm, ⟨41, _⟩ => ⟨S4x1x64x1, .f32⟩
  | .hbm, ⟨42, _⟩ => ⟨S4x1x64x1, .f32⟩
  | .hbm, ⟨43, _⟩ => ⟨S4x4x64x1, .f32⟩
  | .hbm, ⟨44, _⟩ => ⟨S4x256x1, .f32⟩
  | .hbm, ⟨45, _⟩ => ⟨S4x256x256, .bf16⟩
  | .hbm, ⟨46, _⟩ => ⟨S4x256x256, .f32⟩
  | .hbm, ⟨47, _⟩ => ⟨S4x256x256, .bf16⟩
  | .hbm, ⟨48, _⟩ => ⟨S2x2048x1024, .bf16⟩
  | .hbm, ⟨49, _⟩ => ⟨S1024x1024, .bf16⟩
  | .hbm, ⟨50, _⟩ => ⟨S4x256x256, .bf16⟩
  | .hbm, ⟨51, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S4x256x256, .bf16⟩
  | .local _ .vmem, ⟨8, _⟩ => ⟨S1x1024, .f32⟩
  | .local _ .vmem, ⟨9, _⟩ => ⟨S1024x1024, .bf16⟩
  | .local _ .vmem, ⟨10, _⟩ => ⟨S4x256x256, .bf16⟩
  | .local _ .vmem, ⟨11, _⟩ => ⟨S4x256x256, .bf16⟩
  | .local _ .vmem, ⟨12, _⟩ => ⟨S4x256x1, .f32⟩
  | .local _ .vmem, ⟨13, _⟩ => ⟨S2x512x1024, .bf16⟩
  | .local _ .vmem, ⟨14, _⟩ => ⟨S2x512x1024, .bf16⟩
  | .local _ .vmem, ⟨15, _⟩ => ⟨S1024x1024, .bf16⟩
  | .local _ .vmem, ⟨16, _⟩ => ⟨S4x256x256, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1024x1024, .f32⟩
  | .local _ .vmem, ⟨22, _⟩ => ⟨S4x256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev main_v38_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v457 : BitVec 1 := Scalar.cmpi .eq arg0 c3_i32
  let v458 : BitVec 32 := Scalar.extui v457
  let c0_i32_316 : BitVec 32 := 0#32
  let v459 : BitVec 1 := Scalar.cmpi .ne v458 c0_i32_316
  v459

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PoolBackRefIdeal.lean ====
abbrev S2048x1024 : Shape := ⟨2, ![2048, 1024]⟩
abbrev S2x2048x1024 : Shape := ⟨3, ![2, 2048, 1024]⟩
abbrev S1x1024 : Shape := ⟨2, ![1, 1024]⟩
abbrev S4x256x256 : Shape := ⟨3, ![4, 256, 256]⟩
abbrev S1024x1024 : Shape := ⟨2, ![1024, 1024]⟩
abbrev S1x2048x1024 : Shape := ⟨3, ![1, 2048, 1024]⟩
abbrev S32x64x4x256 : Shape := ⟨4, ![32, 64, 4, 256]⟩
abbrev S32x64x1x256 : Shape := ⟨4, ![32, 64, 1, 256]⟩
abbrev S32x64x256 : Shape := ⟨3, ![32, 64, 256]⟩
abbrev S32x1x256 : Shape := ⟨3, ![32, 1, 256]⟩
abbrev S_ : Shape := ⟨0, ![]⟩
abbrev S32x65x256 : Shape := ⟨3, ![32, 65, 256]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x64x1 : Shape := ⟨3, ![1, 64, 1]⟩
abbrev S4x256x32x64 : Shape := ⟨4, ![4, 256, 32, 64]⟩
abbrev S1024 : Shape := ⟨1, ![1024]⟩
abbrev S4x32x64x256 : Shape := ⟨4, ![4, 32, 64, 256]⟩

abbrev nBuf : Space → Nat
  | .hbm => 516
  | .vmem => 0
  | .smem => 0
  | _ => 0

abbrev hbmTy0_0 (i : Nat) : BufTy := match i % 128 with
  | 0 => ⟨S2048x1024, .f32⟩
  | 1 => ⟨S2x2048x1024, .f32⟩
  | 2 => ⟨S1x1024, .f32⟩
  | 3 => ⟨S4x256x256, .bf16⟩
  | 4 => ⟨S1x1024, .f32⟩
  | 5 => ⟨S1024x1024, .bf16⟩
  | 6 => ⟨S1x2048x1024, .f32⟩
  | 7 => ⟨S2048x1024, .f32⟩
  | 8 => ⟨S1x2048x1024, .f32⟩
  | 9 => ⟨S2048x1024, .f32⟩
  | 10 => ⟨S4x256x256, .f32⟩
  | 11 => ⟨S1024x1024, .f32⟩
  | 12 => ⟨S32x64x4x256, .f32⟩
  | 13 => ⟨S32x64x1x256, .f32⟩
  | 14 => ⟨S32x64x256, .f32⟩
  | 15 => ⟨S32x1x256, .f32⟩
  | 16 => ⟨S_, .f32⟩
  | 17 => ⟨S32x1x256, .f32⟩
  | 18 => ⟨S_, .f32⟩
  | 19 => ⟨S_, .f32⟩
  | 20 => ⟨S32x64x256, .f32⟩
  | 21 => ⟨S32x65x256, .f32⟩
  | 22 => ⟨S_, .f32⟩
  | 23 => ⟨S32x1x256, .f32⟩
  | 24 => ⟨S64, .i32⟩
  | 25 => ⟨S_, .i32⟩
  | 26 => ⟨S64, .i32⟩
  | 27 => ⟨S64, .i32⟩
  | 28 => ⟨S_, .i32⟩
  | 29 => ⟨S_, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S_, .i32⟩
  | 37 => ⟨S64, .i32⟩
  | 38 => ⟨S64, .i32⟩
  | 39 => ⟨S_, .i32⟩
  | 40 => ⟨S64, .i32⟩
  | 41 => ⟨S64, .i32⟩
  | 42 => ⟨S_, .i32⟩
  | 43 => ⟨S_, .i32⟩
  | 44 => ⟨S_, .i32⟩
  | 45 => ⟨S64, .i32⟩
  | 46 => ⟨S64, .i32⟩
  | 47 => ⟨S_, .i32⟩
  | 48 => ⟨S64, .i32⟩
  | 49 => ⟨S64, .i32⟩
  | 50 => ⟨S_, .i32⟩
  | 51 => ⟨S64, .i32⟩
  | 52 => ⟨S64, .i1⟩
  | 53 => ⟨S_, .i32⟩
  | 54 => ⟨S64, .i32⟩
  | 55 => ⟨S64, .i32⟩
  | 56 => ⟨S64, .i32⟩
  | 57 => ⟨S64x1, .i32⟩
  | 58 => ⟨S1, .i32⟩
  | 59 => ⟨S_, .i32⟩
  | 60 => ⟨S64x1, .i32⟩
  | 61 => ⟨S64x1, .i1⟩
  | 62 => ⟨S1x1, .i32⟩
  | 63 => ⟨S64x1, .i32⟩
  | 64 => ⟨S64x1, .i1⟩
  | 65 => ⟨S64x1, .i1⟩
  | 66 => ⟨S_, .i1⟩
  | 67 => ⟨S64, .i1⟩
  | 68 => ⟨S32x64x256, .f32⟩
  | 69 => ⟨S32x64x256, .i1⟩
  | 70 => ⟨S_, .f32⟩
  | 71 => ⟨S32x64x256, .f32⟩
  | 72 => ⟨S32x64x256, .f32⟩
  | 73 => ⟨S_, .i32⟩
  | 74 => ⟨S64, .i32⟩
  | 75 => ⟨S64, .i1⟩
  | 76 => ⟨S_, .i32⟩
  | 77 => ⟨S64, .i32⟩
  | 78 => ⟨S64, .i32⟩
  | 79 => ⟨S64, .i32⟩
  | 80 => ⟨S64x1, .i32⟩
  | 81 => ⟨S1, .i32⟩
  | 82 => ⟨S_, .i32⟩
  | 83 => ⟨S64x1, .i32⟩
  | 84 => ⟨S64x1, .i1⟩
  | 85 => ⟨S1x1, .i32⟩
  | 86 => ⟨S64x1, .i32⟩
  | 87 => ⟨S64x1, .i1⟩
  | 88 => ⟨S64x1, .i1⟩
  | 89 => ⟨S_, .i1⟩
  | 90 => ⟨S64, .i1⟩
  | 91 => ⟨S32x64x256, .f32⟩
  | 92 => ⟨S32x64x256, .i1⟩
  | 93 => ⟨S_, .f32⟩
  | 94 => ⟨S32x64x256, .f32⟩
  | 95 => ⟨S32x64x256, .f32⟩
  | 96 => ⟨S32x64x256, .f32⟩
  | 97 => ⟨S64, .i32⟩
  | 98 => ⟨S64, .f32⟩
  | 99 => ⟨S64x1, .f32⟩
  | 100 => ⟨S1x64x1, .f32⟩
  | 101 => ⟨S32x64x256, .f32⟩
  | 102 => ⟨S32x64x256, .f32⟩
  | 103 => ⟨S32x64x1x256, .f32⟩
  | 104 => ⟨S32x64x256, .f32⟩
  | 105 => ⟨S32x1x256, .f32⟩
  | 106 => ⟨S_, .f32⟩
  | 107 => ⟨S32x1x256, .f32⟩
  | 108 => ⟨S_, .f32⟩
  | 109 => ⟨S_, .f32⟩
  | 110 => ⟨S32x64x256, .f32⟩
  | 111 => ⟨S32x65x256, .f32⟩
  | 112 => ⟨S_, .f32⟩
  | 113 => ⟨S32x1x256, .f32⟩
  | 114 => ⟨S64, .i32⟩
  | 115 => ⟨S_, .i32⟩
  | 116 => ⟨S64, .i32⟩
  | 117 => ⟨S64, .i32⟩
  | 118 => ⟨S_, .i32⟩
  | 119 => ⟨S_, .i32⟩
  | 120 => ⟨S_, .i32⟩
  | 121 => ⟨S64, .i32⟩
  | 122 => ⟨S64, .i32⟩
  | 123 => ⟨S_, .i32⟩
  | 124 => ⟨S64, .i32⟩
  | 125 => ⟨S64, .i32⟩
  | 126 => ⟨S_, .i32⟩
  | 127 => ⟨S64, .i32⟩
  | _ => ⟨S2048x1024, .f32⟩

abbrev hbmTy0_1 (i : Nat) : BufTy := match i % 128 with
  | 0 => ⟨S64, .i32⟩
  | 1 => ⟨S_, .i32⟩
  | 2 => ⟨S64, .i32⟩
  | 3 => ⟨S64, .i32⟩
  | 4 => ⟨S_, .i32⟩
  | 5 => ⟨S_, .i32⟩
  | 6 => ⟨S_, .i32⟩
  | 7 => ⟨S64, .i32⟩
  | 8 => ⟨S64, .i32⟩
  | 9 => ⟨S_, .i32⟩
  | 10 => ⟨S64, .i32⟩
  | 11 => ⟨S64, .i32⟩
  | 12 => ⟨S_, .i32⟩
  | 13 => ⟨S64, .i32⟩
  | 14 => ⟨S64, .i1⟩
  | 15 => ⟨S_, .i32⟩
  | 16 => ⟨S64, .i32⟩
  | 17 => ⟨S64, .i32⟩
  | 18 => ⟨S64, .i32⟩
  | 19 => ⟨S64x1, .i32⟩
  | 20 => ⟨S1, .i32⟩
  | 21 => ⟨S_, .i32⟩
  | 22 => ⟨S64x1, .i32⟩
  | 23 => ⟨S64x1, .i1⟩
  | 24 => ⟨S1x1, .i32⟩
  | 25 => ⟨S64x1, .i32⟩
  | 26 => ⟨S64x1, .i1⟩
  | 27 => ⟨S64x1, .i1⟩
  | 28 => ⟨S_, .i1⟩
  | 29 => ⟨S64, .i1⟩
  | 30 => ⟨S32x64x256, .f32⟩
  | 31 => ⟨S32x64x256, .i1⟩
  | 32 => ⟨S_, .f32⟩
  | 33 => ⟨S32x64x256, .f32⟩
  | 34 => ⟨S32x64x256, .f32⟩
  | 35 => ⟨S_, .i32⟩
  | 36 => ⟨S64, .i32⟩
  | 37 => ⟨S64, .i1⟩
  | 38 => ⟨S_, .i32⟩
  | 39 => ⟨S64, .i32⟩
  | 40 => ⟨S64, .i32⟩
  | 41 => ⟨S64, .i32⟩
  | 42 => ⟨S64x1, .i32⟩
  | 43 => ⟨S1, .i32⟩
  | 44 => ⟨S_, .i32⟩
  | 45 => ⟨S64x1, .i32⟩
  | 46 => ⟨S64x1, .i1⟩
  | 47 => ⟨S1x1, .i32⟩
  | 48 => ⟨S64x1, .i32⟩
  | 49 => ⟨S64x1, .i1⟩
  | 50 => ⟨S64x1, .i1⟩
  | 51 => ⟨S_, .i1⟩
  | 52 => ⟨S64, .i1⟩
  | 53 => ⟨S32x64x256, .f32⟩
  | 54 => ⟨S32x64x256, .i1⟩
  | 55 => ⟨S_, .f32⟩
  | 56 => ⟨S32x64x256, .f32⟩
  | 57 => ⟨S32x64x256, .f32⟩
  | 58 => ⟨S32x64x256, .f32⟩
  | 59 => ⟨S64, .i32⟩
  | 60 => ⟨S64, .f32⟩
  | 61 => ⟨S64x1, .f32⟩
  | 62 => ⟨S1x64x1, .f32⟩
  | 63 => ⟨S32x64x256, .f32⟩
  | 64 => ⟨S32x64x256, .f32⟩
  | 65 => ⟨S32x64x1x256, .f32⟩
  | 66 => ⟨S32x64x256, .f32⟩
  | 67 => ⟨S32x1x256, .f32⟩
  | 68 => ⟨S_, .f32⟩
  | 69 => ⟨S32x1x256, .f32⟩
  | 70 => ⟨S_, .f32⟩
  | 71 => ⟨S_, .f32⟩
  | 72 => ⟨S32x64x256, .f32⟩
  | 73 => ⟨S32x65x256, .f32⟩
  | 74 => ⟨S_, .f32⟩
  | 75 => ⟨S32x1x256, .f32⟩
  | 76 => ⟨S64, .i32⟩
  | 77 => ⟨S_, .i32⟩
  | 78 => ⟨S64, .i32⟩
  | 79 => ⟨S64, .i32⟩
  | 80 => ⟨S_, .i32⟩
  | 81 => ⟨S_, .i32⟩
  | 82 => ⟨S_, .i32⟩
  | 83 => ⟨S64, .i32⟩
  | 84 => ⟨S64, .i32⟩
  | 85 => ⟨S_, .i32⟩
  | 86 => ⟨S64, .i32⟩
  | 87 => ⟨S64, .i32⟩
  | 88 => ⟨S_, .i32⟩
  | 89 => ⟨S64, .i32⟩
  | 90 => ⟨S64, .i32⟩
  | 91 => ⟨S_, .i32⟩
  | 92 => ⟨S64, .i32⟩
  | 93 => ⟨S64, .i32⟩
  | 94 => ⟨S_, .i32⟩
  | 95 => ⟨S_, .i32⟩
  | 96 => ⟨S_, .i32⟩
  | 97 => ⟨S64, .i32⟩
  | 98 => ⟨S64, .i32⟩
  | 99 => ⟨S_, .i32⟩
  | 100 => ⟨S64, .i32⟩
  | 101 => ⟨S64, .i32⟩
  | 102 => ⟨S_, .i32⟩
  | 103 => ⟨S64, .i32⟩
  | 104 => ⟨S64, .i1⟩
  | 105 => ⟨S_, .i32⟩
  | 106 => ⟨S64, .i32⟩
  | 107 => ⟨S64, .i32⟩
  | 108 => ⟨S64, .i32⟩
  | 109 => ⟨S64x1, .i32⟩
  | 110 => ⟨S1, .i32⟩
  | 111 => ⟨S_, .i32⟩
  | 112 => ⟨S64x1, .i32⟩
  | 113 => ⟨S64x1, .i1⟩
  | 114 => ⟨S1x1, .i32⟩
  | 115 => ⟨S64x1, .i32⟩
  | 116 => ⟨S64x1, .i1⟩
  | 117 => ⟨S64x1, .i1⟩
  | 118 => ⟨S_, .i1⟩
  | 119 => ⟨S64, .i1⟩
  | 120 => ⟨S32x64x256, .f32⟩
  | 121 => ⟨S32x64x256, .i1⟩
  | 122 => ⟨S_, .f32⟩
  | 123 => ⟨S32x64x256, .f32⟩
  | 124 => ⟨S32x64x256, .f32⟩
  | 125 => ⟨S_, .i32⟩
  | 126 => ⟨S64, .i32⟩
  | 127 => ⟨S64, .i1⟩
  | _ => ⟨S2048x1024, .f32⟩

abbrev hbmTy0_2 (i : Nat) : BufTy := match i % 128 with
  | 0 => ⟨S_, .i32⟩
  | 1 => ⟨S64, .i32⟩
  | 2 => ⟨S64, .i32⟩
  | 3 => ⟨S64, .i32⟩
  | 4 => ⟨S64x1, .i32⟩
  | 5 => ⟨S1, .i32⟩
  | 6 => ⟨S_, .i32⟩
  | 7 => ⟨S64x1, .i32⟩
  | 8 => ⟨S64x1, .i1⟩
  | 9 => ⟨S1x1, .i32⟩
  | 10 => ⟨S64x1, .i32⟩
  | 11 => ⟨S64x1, .i1⟩
  | 12 => ⟨S64x1, .i1⟩
  | 13 => ⟨S_, .i1⟩
  | 14 => ⟨S64, .i1⟩
  | 15 => ⟨S32x64x256, .f32⟩
  | 16 => ⟨S32x64x256, .i1⟩
  | 17 => ⟨S_, .f32⟩
  | 18 => ⟨S32x64x256, .f32⟩
  | 19 => ⟨S32x64x256, .f32⟩
  | 20 => ⟨S32x64x256, .f32⟩
  | 21 => ⟨S64, .i32⟩
  | 22 => ⟨S64, .f32⟩
  | 23 => ⟨S64x1, .f32⟩
  | 24 => ⟨S1x64x1, .f32⟩
  | 25 => ⟨S32x64x256, .f32⟩
  | 26 => ⟨S32x64x256, .f32⟩
  | 27 => ⟨S32x64x1x256, .f32⟩
  | 28 => ⟨S32x64x256, .f32⟩
  | 29 => ⟨S32x1x256, .f32⟩
  | 30 => ⟨S_, .f32⟩
  | 31 => ⟨S32x1x256, .f32⟩
  | 32 => ⟨S_, .f32⟩
  | 33 => ⟨S_, .f32⟩
  | 34 => ⟨S32x64x256, .f32⟩
  | 35 => ⟨S32x65x256, .f32⟩
  | 36 => ⟨S_, .f32⟩
  | 37 => ⟨S32x1x256, .f32⟩
  | 38 => ⟨S64, .i32⟩
  | 39 => ⟨S_, .i32⟩
  | 40 => ⟨S64, .i32⟩
  | 41 => ⟨S64, .i32⟩
  | 42 => ⟨S_, .i32⟩
  | 43 => ⟨S_, .i32⟩
  | 44 => ⟨S_, .i32⟩
  | 45 => ⟨S64, .i32⟩
  | 46 => ⟨S64, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S_, .i32⟩
  | 54 => ⟨S64, .i32⟩
  | 55 => ⟨S64, .i32⟩
  | 56 => ⟨S_, .i32⟩
  | 57 => ⟨S_, .i32⟩
  | 58 => ⟨S_, .i32⟩
  | 59 => ⟨S64, .i32⟩
  | 60 => ⟨S64, .i32⟩
  | 61 => ⟨S_, .i32⟩
  | 62 => ⟨S64, .i32⟩
  | 63 => ⟨S64, .i32⟩
  | 64 => ⟨S_, .i32⟩
  | 65 => ⟨S64, .i32⟩
  | 66 => ⟨S64, .i1⟩
  | 67 => ⟨S_, .i32⟩
  | 68 => ⟨S64, .i32⟩
  | 69 => ⟨S64, .i32⟩
  | 70 => ⟨S64, .i32⟩
  | 71 => ⟨S64x1, .i32⟩
  | 72 => ⟨S1, .i32⟩
  | 73 => ⟨S_, .i32⟩
  | 74 => ⟨S64x1, .i32⟩
  | 75 => ⟨S64x1, .i1⟩
  | 76 => ⟨S1x1, .i32⟩
  | 77 => ⟨S64x1, .i32⟩
  | 78 => ⟨S64x1, .i1⟩
  | 79 => ⟨S64x1, .i1⟩
  | 80 => ⟨S_, .i1⟩
  | 81 => ⟨S64, .i1⟩
  | 82 => ⟨S32x64x256, .f32⟩
  | 83 => ⟨S32x64x256, .i1⟩
  | 84 => ⟨S_, .f32⟩
  | 85 => ⟨S32x64x256, .f32⟩
  | 86 => ⟨S32x64x256, .f32⟩
  | 87 => ⟨S_, .i32⟩
  | 88 => ⟨S64, .i32⟩
  | 89 => ⟨S64, .i1⟩
  | 90 => ⟨S_, .i32⟩
  | 91 => ⟨S64, .i32⟩
  | 92 => ⟨S64, .i32⟩
  | 93 => ⟨S64, .i32⟩
  | 94 => ⟨S64x1, .i32⟩
  | 95 => ⟨S1, .i32⟩
  | 96 => ⟨S_, .i32⟩
  | 97 => ⟨S64x1, .i32⟩
  | 98 => ⟨S64x1, .i1⟩
  | 99 => ⟨S1x1, .i32⟩
  | 100 => ⟨S64x1, .i32⟩
  | 101 => ⟨S64x1, .i1⟩
  | 102 => ⟨S64x1, .i1⟩
  | 103 => ⟨S_, .i1⟩
  | 104 => ⟨S64, .i1⟩
  | 105 => ⟨S32x64x256, .f32⟩
  | 106 => ⟨S32x64x256, .i1⟩
  | 107 => ⟨S_, .f32⟩
  | 108 => ⟨S32x64x256, .f32⟩
  | 109 => ⟨S32x64x256, .f32⟩
  | 110 => ⟨S32x64x256, .f32⟩
  | 111 => ⟨S64, .i32⟩
  | 112 => ⟨S64, .f32⟩
  | 113 => ⟨S64x1, .f32⟩
  | 114 => ⟨S1x64x1, .f32⟩
  | 115 => ⟨S32x64x256, .f32⟩
  | 116 => ⟨S32x64x256, .f32⟩
  | 117 => ⟨S32x64x1x256, .f32⟩
  | 118 => ⟨S32x64x1x256, .f32⟩
  | 119 => ⟨S32x64x1x256, .f32⟩
  | 120 => ⟨S32x64x1x256, .f32⟩
  | 121 => ⟨S32x64x4x256, .f32⟩
  | 122 => ⟨S32x64x4x256, .f32⟩
  | 123 => ⟨S4x256x32x64, .f32⟩
  | 124 => ⟨S32x64x4x256, .f32⟩
  | 125 => ⟨S2048x1024, .f32⟩
  | 126 => ⟨S2048x1024, .f32⟩
  | 127 => ⟨S2048x1024, .f32⟩
  | _ => ⟨S2048x1024, .f32⟩

abbrev hbmTy0_3 (i : Nat) : BufTy := match i % 128 with
  | 0 => ⟨S2048x1024, .f32⟩
  | 1 => ⟨S2048x1024, .f32⟩
  | 2 => ⟨S_, .f32⟩
  | 3 => ⟨S2048x1024, .f32⟩
  | 4 => ⟨S2048x1024, .f32⟩
  | 5 => ⟨S_, .f32⟩
  | 6 => ⟨S2048x1024, .f32⟩
  | 7 => ⟨S2048x1024, .f32⟩
  | 8 => ⟨S_, .f32⟩
  | 9 => ⟨S2048x1024, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S1024x1024, .f32⟩
  | 20 => ⟨S1024x1024, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S1024, .f32⟩
  | 31 => ⟨S1x1024, .f32⟩
  | 32 => ⟨S2048x1024, .f32⟩
  | 33 => ⟨S2048x1024, .f32⟩
  | 34 => ⟨S32x64x4x256, .f32⟩
  | 35 => ⟨S4x256x32x64, .f32⟩
  | 36 => ⟨S4x32x64x256, .f32⟩
  | 37 => ⟨S32x64x4x256, .f32⟩
  | 38 => ⟨S4x256x256, .f32⟩
  | 39 => ⟨S4x256x256, .f32⟩
  | 40 => ⟨S32x64x4x256, .f32⟩
  | 41 => ⟨S32x64x1x256, .f32⟩
  | 42 => ⟨S32x64x256, .f32⟩
  | 43 => ⟨S32x64x1x256, .f32⟩
  | 44 => ⟨S32x64x256, .f32⟩
  | 45 => ⟨S32x64x1x256, .f32⟩
  | 46 => ⟨S32x64x256, .f32⟩
  | 47 => ⟨S32x64x1x256, .f32⟩
  | 48 => ⟨S32x64x256, .f32⟩
  | 49 => ⟨S32x64x256, .f32⟩
  | 50 => ⟨S32x64x256, .f32⟩
  | 51 => ⟨S32x64x256, .f32⟩
  | 52 => ⟨S_, .f32⟩
  | 53 => ⟨S32x65x256, .f32⟩
  | 54 => ⟨S32x65x256, .f32⟩
  | 55 => ⟨S_, .f32⟩
  | 56 => ⟨S32x65x256, .f32⟩
  | 57 => ⟨S32x65x256, .f32⟩
  | 58 => ⟨S32x65x256, .f32⟩
  | 59 => ⟨S32x1x256, .f32⟩
  | 60 => ⟨S32x64x256, .f32⟩
  | 61 => ⟨S_, .f32⟩
  | 62 => ⟨S_, .f32⟩
  | 63 => ⟨S32x64x256, .f32⟩
  | 64 => ⟨S32x64x1x256, .f32⟩
  | 65 => ⟨S_, .f32⟩
  | 66 => ⟨S32x64x4x256, .f32⟩
  | 67 => ⟨S32x64x4x256, .f32⟩
  | 68 => ⟨S32x64x256, .f32⟩
  | 69 => ⟨S32x64x256, .f32⟩
  | 70 => ⟨S32x64x256, .f32⟩
  | 71 => ⟨S_, .f32⟩
  | 72 => ⟨S32x65x256, .f32⟩
  | 73 => ⟨S32x65x256, .f32⟩
  | 74 => ⟨S_, .f32⟩
  | 75 => ⟨S32x65x256, .f32⟩
  | 76 => ⟨S32x65x256, .f32⟩
  | 77 => ⟨S32x65x256, .f32⟩
  | 78 => ⟨S32x1x256, .f32⟩
  | 79 => ⟨S32x64x256, .f32⟩
  | 80 => ⟨S_, .f32⟩
  | 81 => ⟨S_, .f32⟩
  | 82 => ⟨S32x64x256, .f32⟩
  | 83 => ⟨S32x64x1x256, .f32⟩
  | 84 => ⟨S_, .f32⟩
  | 85 => ⟨S32x64x4x256, .f32⟩
  | 86 => ⟨S32x64x4x256, .f32⟩
  | 87 => ⟨S32x64x256, .f32⟩
  | 88 => ⟨S32x64x256, .f32⟩
  | 89 => ⟨S32x64x256, .f32⟩
  | 90 => ⟨S_, .f32⟩
  | 91 => ⟨S32x65x256, .f32⟩
  | 92 => ⟨S32x65x256, .f32⟩
  | 93 => ⟨S_, .f32⟩
  | 94 => ⟨S32x65x256, .f32⟩
  | 95 => ⟨S32x65x256, .f32⟩
  | 96 => ⟨S32x65x256, .f32⟩
  | 97 => ⟨S32x1x256, .f32⟩
  | 98 => ⟨S32x64x256, .f32⟩
  | 99 => ⟨S_, .f32⟩
  | 100 => ⟨S_, .f32⟩
  | 101 => ⟨S32x64x256, .f32⟩
  | 102 => ⟨S32x64x1x256, .f32⟩
  | 103 => ⟨S_, .f32⟩
  | 104 => ⟨S32x64x4x256, .f32⟩
  | 105 => ⟨S32x64x4x256, .f32⟩
  | 106 => ⟨S32x64x256, .f32⟩
  | 107 => ⟨S32x64x256, .f32⟩
  | 108 => ⟨S32x64x256, .f32⟩
  | 109 => ⟨S_, .f32⟩
  | 110 => ⟨S32x65x256, .f32⟩
  | 111 => ⟨S32x65x256, .f32⟩
  | 112 => ⟨S_, .f32⟩
  | 113 => ⟨S32x65x256, .f32⟩
  | 114 => ⟨S32x65x256, .f32⟩
  | 115 => ⟨S32x65x256, .f32⟩
  | 116 => ⟨S32x1x256, .f32⟩
  | 117 => ⟨S32x64x256, .f32⟩
  | 118 => ⟨S_, .f32⟩
  | 119 => ⟨S_, .f32⟩
  | 120 => ⟨S32x64x256, .f32⟩
  | 121 => ⟨S32x64x1x256, .f32⟩
  | 122 => ⟨S_, .f32⟩
  | 123 => ⟨S32x64x4x256, .f32⟩
  | 124 => ⟨S32x64x4x256, .f32⟩
  | 125 => ⟨S2048x1024, .f32⟩
  | 126 => ⟨S1x2048x1024, .f32⟩
  | 127 => ⟨S1x2048x1024, .f32⟩
  | _ => ⟨S2048x1024, .f32⟩

abbrev hbmTy0_4 (i : Nat) : BufTy := match i % 128 with
  | 0 => ⟨S2x2048x1024, .f32⟩
  | 1 => ⟨S2x2048x1024, .bf16⟩
  | 2 => ⟨S1024x1024, .bf16⟩
  | 3 => ⟨S4x256x256, .bf16⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_c_6 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v22 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v23_1 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_v14 : Ref sig .tc := ⟨.hbm, 69, rfl⟩
abbrev main_call3_cst : Ref sig .tc := ⟨.hbm, 70, rfl⟩
abbrev main_call3_v15 : Ref sig .tc := ⟨.hbm, 71, rfl⟩
abbrev main_v23_0 : Ref sig .tc := ⟨.hbm, 72, rfl⟩
abbrev main_call4_c : Ref sig .tc := ⟨.hbm, 73, rfl⟩
abbrev main_call4_v0 : Ref sig .tc := ⟨.hbm, 74, rfl⟩
abbrev main_call4_v1 : Ref sig .tc := ⟨.hbm, 75, rfl⟩
abbrev main_call4_c_0 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_v24_1 : Ref sig .tc := ⟨.hbm, 80, rfl⟩
abbrev main_call4_c_1 : Ref sig .tc := ⟨.hbm, 81, rfl⟩
abbrev main_call4_c_2 : Ref sig .tc := ⟨.hbm, 82, rfl⟩
abbrev main_call4_v6 : Ref sig .tc := ⟨.hbm, 83, rfl⟩
abbrev main_call4_v7 : Ref sig .tc := ⟨.hbm, 84, rfl⟩
abbrev main_call4_v8 : Ref sig .tc := ⟨.hbm, 85, rfl⟩
abbrev main_call4_v9 : Ref sig .tc := ⟨.hbm, 86, rfl⟩
abbrev main_call4_v10 : Ref sig .tc := ⟨.hbm, 87, rfl⟩
abbrev main_call4_v11 : Ref sig .tc := ⟨.hbm, 88, rfl⟩
abbrev main_call4_c_3 : Ref sig .tc := ⟨.hbm, 89, rfl⟩
abbrev main_call4_v12 : Ref sig .tc := ⟨.hbm, 90, rfl⟩
abbrev main_call4_v13 : Ref sig .tc := ⟨.hbm, 91, rfl⟩
abbrev main_call4_v14 : Ref sig .tc := ⟨.hbm, 92, rfl⟩
abbrev main_call4_cst : Ref sig .tc := ⟨.hbm, 93, rfl⟩
abbrev main_call4_v15 : Ref sig .tc := ⟨.hbm, 94, rfl⟩
abbrev main_v24_0 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_cst_7 : Ref sig .tc := ⟨.hbm, 106, rfl⟩
abbrev main_v35 : Ref sig .tc := ⟨.hbm, 107, rfl⟩
abbrev main_call5_call0_cst : Ref sig .tc := ⟨.hbm, 108, rfl⟩
abbrev main_call5_call0_v0 : Ref sig .tc := ⟨.hbm, 109, rfl⟩
abbrev main_v36 : Ref sig .tc := ⟨.hbm, 110, rfl⟩
abbrev main_v37 : Ref sig .tc := ⟨.hbm, 111, rfl⟩
abbrev main_cst_8 : Ref sig .tc := ⟨.hbm, 112, rfl⟩
abbrev main_v38 : Ref sig .tc := ⟨.hbm, 113, rfl⟩
abbrev main_v39 : Ref sig .tc := ⟨.hbm, 114, rfl⟩
abbrev main_c_9 : Ref sig .tc := ⟨.hbm, 115, rfl⟩
abbrev main_v40 : Ref sig .tc := ⟨.hbm, 116, rfl⟩
abbrev main_v41 : Ref sig .tc := ⟨.hbm, 117, rfl⟩
abbrev main_c_10 : Ref sig .tc := ⟨.hbm, 118, rfl⟩
abbrev main_c_11 : Ref sig .tc := ⟨.hbm, 119, rfl⟩
abbrev main_call6_v0 : Ref sig .tc := ⟨.hbm, 120, rfl⟩
abbrev main_call6_v1 : Ref sig .tc := ⟨.hbm, 121, rfl⟩
abbrev main_call6_v2 : Ref sig .tc := ⟨.hbm, 122, rfl⟩
abbrev main_call6_v3 : Ref sig .tc := ⟨.hbm, 123, rfl⟩
abbrev main_call6_v4 : Ref sig .tc := ⟨.hbm, 124, rfl⟩
abbrev main_v42 : Ref sig .tc := ⟨.hbm, 125, rfl⟩
abbrev main_c_12 : Ref sig .tc := ⟨.hbm, 126, rfl⟩
abbrev main_v43 : Ref sig .tc := ⟨.hbm, 127, rfl⟩
abbrev main_v44 : Ref sig .tc := ⟨.hbm, 128, rfl⟩
abbrev main_c_13 : Ref sig .tc := ⟨.hbm, 129, rfl⟩
abbrev main_v45 : Ref sig .tc := ⟨.hbm, 130, rfl⟩
abbrev main_v46 : Ref sig .tc := ⟨.hbm, 131, rfl⟩
abbrev main_c_14 : Ref sig .tc := ⟨.hbm, 132, rfl⟩
abbrev main_c_15 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_v47 : Ref sig .tc := ⟨.hbm, 139, rfl⟩
abbrev main_call8_c : Ref sig .tc := ⟨.hbm, 140, rfl⟩
abbrev main_call8_v0 : Ref sig .tc := ⟨.hbm, 141, rfl⟩
abbrev main_call8_v1 : Ref sig .tc := ⟨.hbm, 142, rfl⟩
abbrev main_call8_c_0 : Ref sig .tc := ⟨.hbm, 143, rfl⟩
abbrev main_call8_v2 : Ref sig .tc := ⟨.hbm, 144, rfl⟩
abbrev main_call8_v3 : Ref sig .tc := ⟨.hbm, 145, rfl⟩
abbrev main_call8_v4 : Ref sig .tc := ⟨.hbm, 146, rfl⟩
abbrev main_v48_1 : Ref sig .tc := ⟨.hbm, 147, rfl⟩
abbrev main_call8_c_1 : Ref sig .tc := ⟨.hbm, 148, rfl⟩
abbrev main_call8_c_2 : Ref sig .tc := ⟨.hbm, 149, rfl⟩
abbrev main_call8_v6 : Ref sig .tc := ⟨.hbm, 150, rfl⟩
abbrev main_call8_v7 : Ref sig .tc := ⟨.hbm, 151, rfl⟩
abbrev main_call8_v8 : Ref sig .tc := ⟨.hbm, 152, rfl⟩
abbrev main_call8_v9 : Ref sig .tc := ⟨.hbm, 153, rfl⟩
abbrev main_call8_v10 : Ref sig .tc := ⟨.hbm, 154, rfl⟩
abbrev main_call8_v11 : Ref sig .tc := ⟨.hbm, 155, rfl⟩
abbrev main_call8_c_3 : Ref sig .tc := ⟨.hbm, 156, rfl⟩
abbrev main_call8_v12 : Ref sig .tc := ⟨.hbm, 157, rfl⟩
abbrev main_call8_v13 : Ref sig .tc := ⟨.hbm, 158, rfl⟩
abbrev main_call8_v14 : Ref sig .tc := ⟨.hbm, 159, rfl⟩
abbrev main_call8_cst : Ref sig .tc := ⟨.hbm, 160, rfl⟩
abbrev main_call8_v15 : Ref sig .tc := ⟨.hbm, 161, rfl⟩
abbrev main_v48_0 : Ref sig .tc := ⟨.hbm, 162, rfl⟩
abbrev main_call9_c : Ref sig .tc := ⟨.hbm, 163, rfl⟩
abbrev main_call9_v0 : Ref sig .tc := ⟨.hbm, 164, rfl⟩
abbrev main_call9_v1 : Ref sig .tc := ⟨.hbm, 165, rfl⟩
abbrev main_call9_c_0 : Ref sig .tc := ⟨.hbm, 166, rfl⟩
abbrev main_call9_v2 : Ref sig .tc := ⟨.hbm, 167, rfl⟩
abbrev main_call9_v3 : Ref sig .tc := ⟨.hbm, 168, rfl⟩
abbrev main_call9_v4 : Ref sig .tc := ⟨.hbm, 169, rfl⟩
abbrev main_v49_1 : Ref sig .tc := ⟨.hbm, 170, rfl⟩
abbrev main_call9_c_1 : Ref sig .tc := ⟨.hbm, 171, rfl⟩
abbrev main_call9_c_2 : Ref sig .tc := ⟨.hbm, 172, rfl⟩
abbrev main_call9_v6 : Ref sig .tc := ⟨.hbm, 173, rfl⟩
abbrev main_call9_v7 : Ref sig .tc := ⟨.hbm, 174, rfl⟩
abbrev main_call9_v8 : Ref sig .tc := ⟨.hbm, 175, rfl⟩
abbrev main_call9_v9 : Ref sig .tc := ⟨.hbm, 176, rfl⟩
abbrev main_call9_v10 : Ref sig .tc := ⟨.hbm, 177, rfl⟩
abbrev main_call9_v11 : Ref sig .tc := ⟨.hbm, 178, rfl⟩
abbrev main_call9_c_3 : Ref sig .tc := ⟨.hbm, 179, rfl⟩
abbrev main_call9_v12 : Ref sig .tc := ⟨.hbm, 180, rfl⟩
abbrev main_call9_v13 : Ref sig .tc := ⟨.hbm, 181, rfl⟩
abbrev main_call9_v14 : Ref sig .tc := ⟨.hbm, 182, rfl⟩
abbrev main_call9_cst : Ref sig .tc := ⟨.hbm, 183, rfl⟩
abbrev main_call9_v15 : Ref sig .tc := ⟨.hbm, 184, rfl⟩
abbrev main_v49_0 : Ref sig .tc := ⟨.hbm, 185, rfl⟩
abbrev main_v50 : Ref sig .tc := ⟨.hbm, 186, rfl⟩
abbrev main_v51 : Ref sig .tc := ⟨.hbm, 187, rfl⟩
abbrev main_v52 : Ref sig .tc := ⟨.hbm, 188, rfl⟩
abbrev main_v53 : Ref sig .tc := ⟨.hbm, 189, rfl⟩
abbrev main_v54 : Ref sig .tc := ⟨.hbm, 190, rfl⟩
abbrev main_v55 : Ref sig .tc := ⟨.hbm, 191, rfl⟩
abbrev main_v56 : Ref sig .tc := ⟨.hbm, 192, rfl⟩
abbrev main_v57 : Ref sig .tc := ⟨.hbm, 193, rfl⟩
abbrev main_v58 : Ref sig .tc := ⟨.hbm, 194, rfl⟩
abbrev main_v59 : Ref sig .tc := ⟨.hbm, 195, rfl⟩
abbrev main_cst_16 : Ref sig .tc := ⟨.hbm, 196, rfl⟩
abbrev main_v60 : Ref sig .tc := ⟨.hbm, 197, rfl⟩
abbrev main_call10_call0_cst : Ref sig .tc := ⟨.hbm, 198, rfl⟩
abbrev main_call10_call0_v0 : Ref sig .tc := ⟨.hbm, 199, rfl⟩
abbrev main_v61 : Ref sig .tc := ⟨.hbm, 200, rfl⟩
abbrev main_v62 : Ref sig .tc := ⟨.hbm, 201, rfl⟩
abbrev main_cst_17 : Ref sig .tc := ⟨.hbm, 202, rfl⟩
abbrev main_v63 : Ref sig .tc := ⟨.hbm, 203, rfl⟩
abbrev main_v64 : Ref sig .tc := ⟨.hbm, 204, rfl⟩
abbrev main_c_18 : Ref sig .tc := ⟨.hbm, 205, rfl⟩
abbrev main_v65 : Ref sig .tc := ⟨.hbm, 206, rfl⟩
abbrev main_v66 : Ref sig .tc := ⟨.hbm, 207, rfl⟩
abbrev main_c_19 : Ref sig .tc := ⟨.hbm, 208, rfl⟩
abbrev main_c_20 : Ref sig .tc := ⟨.hbm, 209, rfl⟩
abbrev main_call11_v0 : Ref sig .tc := ⟨.hbm, 210, rfl⟩
abbrev main_call11_v1 : Ref sig .tc := ⟨.hbm, 211, rfl⟩
abbrev main_call11_v2 : Ref sig .tc := ⟨.hbm, 212, rfl⟩
abbrev main_call11_v3 : Ref sig .tc := ⟨.hbm, 213, rfl⟩
abbrev main_call11_v4 : Ref sig .tc := ⟨.hbm, 214, rfl⟩
abbrev main_v67 : Ref sig .tc := ⟨.hbm, 215, rfl⟩
abbrev main_c_21 : Ref sig .tc := ⟨.hbm, 216, rfl⟩
abbrev main_v68 : Ref sig .tc := ⟨.hbm, 217, rfl⟩
abbrev main_v69 : Ref sig .tc := ⟨.hbm, 218, rfl⟩
abbrev main_c_22 : Ref sig .tc := ⟨.hbm, 219, rfl⟩
abbrev main_v70 : Ref sig .tc := ⟨.hbm, 220, rfl⟩
abbrev main_v71 : Ref sig .tc := ⟨.hbm, 221, rfl⟩
abbrev main_c_23 : Ref sig .tc := ⟨.hbm, 222, rfl⟩
abbrev main_c_24 : Ref sig .tc := ⟨.hbm, 223, rfl⟩
abbrev main_call12_v0 : Ref sig .tc := ⟨.hbm, 224, rfl⟩
abbrev main_call12_v1 : Ref sig .tc := ⟨.hbm, 225, rfl⟩
abbrev main_call12_v2 : Ref sig .tc := ⟨.hbm, 226, rfl⟩
abbrev main_call12_v3 : Ref sig .tc := ⟨.hbm, 227, rfl⟩
abbrev main_call12_v4 : Ref sig .tc := ⟨.hbm, 228, rfl⟩
abbrev main_v72 : Ref sig .tc := ⟨.hbm, 229, rfl⟩
abbrev main_call13_c : Ref sig .tc := ⟨.hbm, 230, rfl⟩
abbrev main_call13_v0 : Ref sig .tc := ⟨.hbm, 231, rfl⟩
abbrev main_call13_v1 : Ref sig .tc := ⟨.hbm, 232, rfl⟩
abbrev main_call13_c_0 : Ref sig .tc := ⟨.hbm, 233, rfl⟩
abbrev main_call13_v2 : Ref sig .tc := ⟨.hbm, 234, rfl⟩
abbrev main_call13_v3 : Ref sig .tc := ⟨.hbm, 235, rfl⟩
abbrev main_call13_v4 : Ref sig .tc := ⟨.hbm, 236, rfl⟩
abbrev main_v73_1 : Ref sig .tc := ⟨.hbm, 237, rfl⟩
abbrev main_call13_c_1 : Ref sig .tc := ⟨.hbm, 238, rfl⟩
abbrev main_call13_c_2 : Ref sig .tc := ⟨.hbm, 239, rfl⟩
abbrev main_call13_v6 : Ref sig .tc := ⟨.hbm, 240, rfl⟩
abbrev main_call13_v7 : Ref sig .tc := ⟨.hbm, 241, rfl⟩
abbrev main_call13_v8 : Ref sig .tc := ⟨.hbm, 242, rfl⟩
abbrev main_call13_v9 : Ref sig .tc := ⟨.hbm, 243, rfl⟩
abbrev main_call13_v10 : Ref sig .tc := ⟨.hbm, 244, rfl⟩
abbrev main_call13_v11 : Ref sig .tc := ⟨.hbm, 245, rfl⟩
abbrev main_call13_c_3 : Ref sig .tc := ⟨.hbm, 246, rfl⟩
abbrev main_call13_v12 : Ref sig .tc := ⟨.hbm, 247, rfl⟩
abbrev main_call13_v13 : Ref sig .tc := ⟨.hbm, 248, rfl⟩
abbrev main_call13_v14 : Ref sig .tc := ⟨.hbm, 249, rfl⟩
abbrev main_call13_cst : Ref sig .tc := ⟨.hbm, 250, rfl⟩
abbrev main_call13_v15 : Ref sig .tc := ⟨.hbm, 251, rfl⟩
abbrev main_v73_0 : Ref sig .tc := ⟨.hbm, 252, rfl⟩
abbrev main_call14_c : Ref sig .tc := ⟨.hbm, 253, rfl⟩
abbrev main_call14_v0 : Ref sig .tc := ⟨.hbm, 254, rfl⟩
abbrev main_call14_v1 : Ref sig .tc := ⟨.hbm, 255, rfl⟩
abbrev main_call14_c_0 : Ref sig .tc := ⟨.hbm, 256, rfl⟩
abbrev main_call14_v2 : Ref sig .tc := ⟨.hbm, 257, rfl⟩
abbrev main_call14_v3 : Ref sig .tc := ⟨.hbm, 258, rfl⟩
abbrev main_call14_v4 : Ref sig .tc := ⟨.hbm, 259, rfl⟩
abbrev main_v74_1 : Ref sig .tc := ⟨.hbm, 260, rfl⟩
abbrev main_call14_c_1 : Ref sig .tc := ⟨.hbm, 261, rfl⟩
abbrev main_call14_c_2 : Ref sig .tc := ⟨.hbm, 262, rfl⟩
abbrev main_call14_v6 : Ref sig .tc := ⟨.hbm, 263, rfl⟩
abbrev main_call14_v7 : Ref sig .tc := ⟨.hbm, 264, rfl⟩
abbrev main_call14_v8 : Ref sig .tc := ⟨.hbm, 265, rfl⟩
abbrev main_call14_v9 : Ref sig .tc := ⟨.hbm, 266, rfl⟩
abbrev main_call14_v10 : Ref sig .tc := ⟨.hbm, 267, rfl⟩
abbrev main_call14_v11 : Ref sig .tc := ⟨.hbm, 268, rfl⟩
abbrev main_call14_c_3 : Ref sig .tc := ⟨.hbm, 269, rfl⟩
abbrev main_call14_v12 : Ref sig .tc := ⟨.hbm, 270, rfl⟩
abbrev main_call14_v13 : Ref sig .tc := ⟨.hbm, 271, rfl⟩
abbrev main_call14_v14 : Ref sig .tc := ⟨.hbm, 272, rfl⟩
abbrev main_call14_cst : Ref sig .tc := ⟨.hbm, 273, rfl⟩
abbrev main_call14_v15 : Ref sig .tc := ⟨.hbm, 274, rfl⟩
abbrev main_v74_0 : Ref sig .tc := ⟨.hbm, 275, rfl⟩
abbrev main_v75 : Ref sig .tc := ⟨.hbm, 276, rfl⟩
abbrev main_v76 : Ref sig .tc := ⟨.hbm, 277, rfl⟩
abbrev main_v77 : Ref sig .tc := ⟨.hbm, 278, rfl⟩
abbrev main_v78 : Ref sig .tc := ⟨.hbm, 279, rfl⟩
abbrev main_v79 : Ref sig .tc := ⟨.hbm, 280, rfl⟩
abbrev main_v80 : Ref sig .tc := ⟨.hbm, 281, rfl⟩
abbrev main_v81 : Ref sig .tc := ⟨.hbm, 282, rfl⟩
abbrev main_v82 : Ref sig .tc := ⟨.hbm, 283, rfl⟩
abbrev main_v83 : Ref sig .tc := ⟨.hbm, 284, rfl⟩
abbrev main_v84 : Ref sig .tc := ⟨.hbm, 285, rfl⟩
abbrev main_cst_25 : Ref sig .tc := ⟨.hbm, 286, rfl⟩
abbrev main_v85 : Ref sig .tc := ⟨.hbm, 287, rfl⟩
abbrev main_call15_call0_cst : Ref sig .tc := ⟨.hbm, 288, rfl⟩
abbrev main_call15_call0_v0 : Ref sig .tc := ⟨.hbm, 289, rfl⟩
abbrev main_v86 : Ref sig .tc := ⟨.hbm, 290, rfl⟩
abbrev main_v87 : Ref sig .tc := ⟨.hbm, 291, rfl⟩
abbrev main_cst_26 : Ref sig .tc := ⟨.hbm, 292, rfl⟩
abbrev main_v88 : Ref sig .tc := ⟨.hbm, 293, rfl⟩
abbrev main_v89 : Ref sig .tc := ⟨.hbm, 294, rfl⟩
abbrev main_c_27 : Ref sig .tc := ⟨.hbm, 295, rfl⟩
abbrev main_v90 : Ref sig .tc := ⟨.hbm, 296, rfl⟩
abbrev main_v91 : Ref sig .tc := ⟨.hbm, 297, rfl⟩
abbrev main_c_28 : Ref sig .tc := ⟨.hbm, 298, rfl⟩
abbrev main_c_29 : Ref sig .tc := ⟨.hbm, 299, rfl⟩
abbrev main_call16_v0 : Ref sig .tc := ⟨.hbm, 300, rfl⟩
abbrev main_call16_v1 : Ref sig .tc := ⟨.hbm, 301, rfl⟩
abbrev main_call16_v2 : Ref sig .tc := ⟨.hbm, 302, rfl⟩
abbrev main_call16_v3 : Ref sig .tc := ⟨.hbm, 303, rfl⟩
abbrev main_call16_v4 : Ref sig .tc := ⟨.hbm, 304, rfl⟩
abbrev main_v92 : Ref sig .tc := ⟨.hbm, 305, rfl⟩
abbrev main_c_30 : Ref sig .tc := ⟨.hbm, 306, rfl⟩
abbrev main_v93 : Ref sig .tc := ⟨.hbm, 307, rfl⟩
abbrev main_v94 : Ref sig .tc := ⟨.hbm, 308, rfl⟩
abbrev main_c_31 : Ref sig .tc := ⟨.hbm, 309, rfl⟩
abbrev main_v95 : Ref sig .tc := ⟨.hbm, 310, rfl⟩
abbrev main_v96 : Ref sig .tc := ⟨.hbm, 311, rfl⟩
abbrev main_c_32 : Ref sig .tc := ⟨.hbm, 312, rfl⟩
abbrev main_c_33 : Ref sig .tc := ⟨.hbm, 313, rfl⟩
abbrev main_call17_v0 : Ref sig .tc := ⟨.hbm, 314, rfl⟩
abbrev main_call17_v1 : Ref sig .tc := ⟨.hbm, 315, rfl⟩
abbrev main_call17_v2 : Ref sig .tc := ⟨.hbm, 316, rfl⟩
abbrev main_call17_v3 : Ref sig .tc := ⟨.hbm, 317, rfl⟩
abbrev main_call17_v4 : Ref sig .tc := ⟨.hbm, 318, rfl⟩
abbrev main_v97 : Ref sig .tc := ⟨.hbm, 319, rfl⟩
abbrev main_call18_c : Ref sig .tc := ⟨.hbm, 320, rfl⟩
abbrev main_call18_v0 : Ref sig .tc := ⟨.hbm, 321, rfl⟩
abbrev main_call18_v1 : Ref sig .tc := ⟨.hbm, 322, rfl⟩
abbrev main_call18_c_0 : Ref sig .tc := ⟨.hbm, 323, rfl⟩
abbrev main_call18_v2 : Ref sig .tc := ⟨.hbm, 324, rfl⟩
abbrev main_call18_v3 : Ref sig .tc := ⟨.hbm, 325, rfl⟩
abbrev main_call18_v4 : Ref sig .tc := ⟨.hbm, 326, rfl⟩
abbrev main_v98_1 : Ref sig .tc := ⟨.hbm, 327, rfl⟩
abbrev main_call18_c_1 : Ref sig .tc := ⟨.hbm, 328, rfl⟩
abbrev main_call18_c_2 : Ref sig .tc := ⟨.hbm, 329, rfl⟩
abbrev main_call18_v6 : Ref sig .tc := ⟨.hbm, 330, rfl⟩
abbrev main_call18_v7 : Ref sig .tc := ⟨.hbm, 331, rfl⟩
abbrev main_call18_v8 : Ref sig .tc := ⟨.hbm, 332, rfl⟩
abbrev main_call18_v9 : Ref sig .tc := ⟨.hbm, 333, rfl⟩
abbrev main_call18_v10 : Ref sig .tc := ⟨.hbm, 334, rfl⟩
abbrev main_call18_v11 : Ref sig .tc := ⟨.hbm, 335, rfl⟩
abbrev main_call18_c_3 : Ref sig .tc := ⟨.hbm, 336, rfl⟩
abbrev main_call18_v12 : Ref sig .tc := ⟨.hbm, 337, rfl⟩
abbrev main_call18_v13 : Ref sig .tc := ⟨.hbm, 338, rfl⟩
abbrev main_call18_v14 : Ref sig .tc := ⟨.hbm, 339, rfl⟩
abbrev main_call18_cst : Ref sig .tc := ⟨.hbm, 340, rfl⟩
abbrev main_call18_v15 : Ref sig .tc := ⟨.hbm, 341, rfl⟩
abbrev main_v98_0 : Ref sig .tc := ⟨.hbm, 342, rfl⟩
abbrev main_call19_c : Ref sig .tc := ⟨.hbm, 343, rfl⟩
abbrev main_call19_v0 : Ref sig .tc := ⟨.hbm, 344, rfl⟩
abbrev main_call19_v1 : Ref sig .tc := ⟨.hbm, 345, rfl⟩
abbrev main_call19_c_0 : Ref sig .tc := ⟨.hbm, 346, rfl⟩
abbrev main_call19_v2 : Ref sig .tc := ⟨.hbm, 347, rfl⟩
abbrev main_call19_v3 : Ref sig .tc := ⟨.hbm, 348, rfl⟩
abbrev main_call19_v4 : Ref sig .tc := ⟨.hbm, 349, rfl⟩
abbrev main_v99_1 : Ref sig .tc := ⟨.hbm, 350, rfl⟩
abbrev main_call19_c_1 : Ref sig .tc := ⟨.hbm, 351, rfl⟩
abbrev main_call19_c_2 : Ref sig .tc := ⟨.hbm, 352, rfl⟩
abbrev main_call19_v6 : Ref sig .tc := ⟨.hbm, 353, rfl⟩
abbrev main_call19_v7 : Ref sig .tc := ⟨.hbm, 354, rfl⟩
abbrev main_call19_v8 : Ref sig .tc := ⟨.hbm, 355, rfl⟩
abbrev main_call19_v9 : Ref sig .tc := ⟨.hbm, 356, rfl⟩
abbrev main_call19_v10 : Ref sig .tc := ⟨.hbm, 357, rfl⟩
abbrev main_call19_v11 : Ref sig .tc := ⟨.hbm, 358, rfl⟩
abbrev main_call19_c_3 : Ref sig .tc := ⟨.hbm, 359, rfl⟩
abbrev main_call19_v12 : Ref sig .tc := ⟨.hbm, 360, rfl⟩
abbrev main_call19_v13 : Ref sig .tc := ⟨.hbm, 361, rfl⟩
abbrev main_call19_v14 : Ref sig .tc := ⟨.hbm, 362, rfl⟩
abbrev main_call19_cst : Ref sig .tc := ⟨.hbm, 363, rfl⟩
abbrev main_call19_v15 : Ref sig .tc := ⟨.hbm, 364, rfl⟩
abbrev main_v99_0 : Ref sig .tc := ⟨.hbm, 365, rfl⟩
abbrev main_v100 : Ref sig .tc := ⟨.hbm, 366, rfl⟩
abbrev main_v101 : Ref sig .tc := ⟨.hbm, 367, rfl⟩
abbrev main_v102 : Ref sig .tc := ⟨.hbm, 368, rfl⟩
abbrev main_v103 : Ref sig .tc := ⟨.hbm, 369, rfl⟩
abbrev main_v104 : Ref sig .tc := ⟨.hbm, 370, rfl⟩
abbrev main_v105 : Ref sig .tc := ⟨.hbm, 371, rfl⟩
abbrev main_v106 : Ref sig .tc := ⟨.hbm, 372, rfl⟩
abbrev main_v107 : Ref sig .tc := ⟨.hbm, 373, rfl⟩
abbrev main_v108 : Ref sig .tc := ⟨.hbm, 374, rfl⟩
abbrev main_v109 : Ref sig .tc := ⟨.hbm, 375, rfl⟩
abbrev main_v110 : Ref sig .tc := ⟨.hbm, 376, rfl⟩
abbrev main_v111 : Ref sig .tc := ⟨.hbm, 377, rfl⟩
abbrev main_v112 : Ref sig .tc := ⟨.hbm, 378, rfl⟩
abbrev main_v113 : Ref sig .tc := ⟨.hbm, 379, rfl⟩
abbrev main_v114 : Ref sig .tc := ⟨.hbm, 380, rfl⟩
abbrev main_v115 : Ref sig .tc := ⟨.hbm, 381, rfl⟩
abbrev main_v116 : Ref sig .tc := ⟨.hbm, 382, rfl⟩
abbrev main_v117 : Ref sig .tc := ⟨.hbm, 383, rfl⟩
abbrev main_call20_v0 : Ref sig .tc := ⟨.hbm, 384, rfl⟩
abbrev main_call20_v1 : Ref sig .tc := ⟨.hbm, 385, rfl⟩
abbrev main_call20_cst : Ref sig .tc := ⟨.hbm, 386, rfl⟩
abbrev main_call20_v2 : Ref sig .tc := ⟨.hbm, 387, rfl⟩
abbrev main_call20_v3 : Ref sig .tc := ⟨.hbm, 388, rfl⟩
abbrev main_call20_cst_0 : Ref sig .tc := ⟨.hbm, 389, rfl⟩
abbrev main_call20_v4 : Ref sig .tc := ⟨.hbm, 390, rfl⟩
abbrev main_v118_2 : Ref sig .tc := ⟨.hbm, 391, rfl⟩
abbrev main_call20_cst_1 : Ref sig .tc := ⟨.hbm, 392, rfl⟩
abbrev main_call20_v6 : Ref sig .tc := ⟨.hbm, 393, rfl⟩
abbrev main_call20_v7 : Ref sig .tc := ⟨.hbm, 394, rfl⟩
abbrev main_v118_1 : Ref sig .tc := ⟨.hbm, 395, rfl⟩
abbrev main_v118_0 : Ref sig .tc := ⟨.hbm, 396, rfl⟩
abbrev main_v119 : Ref sig .tc := ⟨.hbm, 397, rfl⟩
abbrev main_v120 : Ref sig .tc := ⟨.hbm, 398, rfl⟩
abbrev main_v121 : Ref sig .tc := ⟨.hbm, 399, rfl⟩
abbrev main_v122 : Ref sig .tc := ⟨.hbm, 400, rfl⟩
abbrev main_v123 : Ref sig .tc := ⟨.hbm, 401, rfl⟩
abbrev main_v124 : Ref sig .tc := ⟨.hbm, 402, rfl⟩
abbrev main_v125 : Ref sig .tc := ⟨.hbm, 403, rfl⟩
abbrev main_v126 : Ref sig .tc := ⟨.hbm, 404, rfl⟩
abbrev main_v127 : Ref sig .tc := ⟨.hbm, 405, rfl⟩
abbrev main_v128 : Ref sig .tc := ⟨.hbm, 406, rfl⟩
abbrev main_v129 : Ref sig .tc := ⟨.hbm, 407, rfl⟩
abbrev main_call21_v0 : Ref sig .tc := ⟨.hbm, 408, rfl⟩
abbrev main_call21_v1 : Ref sig .tc := ⟨.hbm, 409, rfl⟩
abbrev main_call21_v2 : Ref sig .tc := ⟨.hbm, 410, rfl⟩
abbrev main_v130 : Ref sig .tc := ⟨.hbm, 411, rfl⟩
abbrev main_v131 : Ref sig .tc := ⟨.hbm, 412, rfl⟩
abbrev main_cst_34 : Ref sig .tc := ⟨.hbm, 413, rfl⟩
abbrev main_v132 : Ref sig .tc := ⟨.hbm, 414, rfl⟩
abbrev main_v133 : Ref sig .tc := ⟨.hbm, 415, rfl⟩
abbrev main_v134 : Ref sig .tc := ⟨.hbm, 416, rfl⟩
abbrev main_v135 : Ref sig .tc := ⟨.hbm, 417, rfl⟩
abbrev main_v136 : Ref sig .tc := ⟨.hbm, 418, rfl⟩
abbrev main_v137 : Ref sig .tc := ⟨.hbm, 419, rfl⟩
abbrev main_v138 : Ref sig .tc := ⟨.hbm, 420, rfl⟩
abbrev main_v139 : Ref sig .tc := ⟨.hbm, 421, rfl⟩
abbrev main_v140 : Ref sig .tc := ⟨.hbm, 422, rfl⟩
abbrev main_v141 : Ref sig .tc := ⟨.hbm, 423, rfl⟩
abbrev main_v142 : Ref sig .tc := ⟨.hbm, 424, rfl⟩
abbrev main_v143 : Ref sig .tc := ⟨.hbm, 425, rfl⟩
abbrev main_v144 : Ref sig .tc := ⟨.hbm, 426, rfl⟩
abbrev main_v145 : Ref sig .tc := ⟨.hbm, 427, rfl⟩
abbrev main_v146 : Ref sig .tc := ⟨.hbm, 428, rfl⟩
abbrev main_v147 : Ref sig .tc := ⟨.hbm, 429, rfl⟩
abbrev main_v148 : Ref sig .tc := ⟨.hbm, 430, rfl⟩
abbrev main_v149 : Ref sig .tc := ⟨.hbm, 431, rfl⟩
abbrev main_v150 : Ref sig .tc := ⟨.hbm, 432, rfl⟩
abbrev main_v151 : Ref sig .tc := ⟨.hbm, 433, rfl⟩
abbrev main_v152 : Ref sig .tc := ⟨.hbm, 434, rfl⟩
abbrev main_v153 : Ref sig .tc := ⟨.hbm, 435, rfl⟩
abbrev main_call22_cst : Ref sig .tc := ⟨.hbm, 436, rfl⟩
abbrev main_call22_v0 : Ref sig .tc := ⟨.hbm, 437, rfl⟩
abbrev main_v154 : Ref sig .tc := ⟨.hbm, 438, rfl⟩
abbrev main_call23_cst : Ref sig .tc := ⟨.hbm, 439, rfl⟩
abbrev main_call23_v0 : Ref sig .tc := ⟨.hbm, 440, rfl⟩
abbrev main_v155 : Ref sig .tc := ⟨.hbm, 441, rfl⟩
abbrev main_v156 : Ref sig .tc := ⟨.hbm, 442, rfl⟩
abbrev main_v157 : Ref sig .tc := ⟨.hbm, 443, rfl⟩
abbrev main_v158 : Ref sig .tc := ⟨.hbm, 444, rfl⟩
abbrev main_call24_call0_cst : Ref sig .tc := ⟨.hbm, 445, rfl⟩
abbrev main_call24_call0_v0 : Ref sig .tc := ⟨.hbm, 446, rfl⟩
abbrev main_v159 : Ref sig .tc := ⟨.hbm, 447, rfl⟩
abbrev main_v160 : Ref sig .tc := ⟨.hbm, 448, rfl⟩
abbrev main_cst_35 : Ref sig .tc := ⟨.hbm, 449, rfl⟩
abbrev main_v161 : Ref sig .tc := ⟨.hbm, 450, rfl⟩
abbrev main_v162 : Ref sig .tc := ⟨.hbm, 451, rfl⟩
abbrev main_v163 : Ref sig .tc := ⟨.hbm, 452, rfl⟩
abbrev main_v164 : Ref sig .tc := ⟨.hbm, 453, rfl⟩
abbrev main_v165 : Ref sig .tc := ⟨.hbm, 454, rfl⟩
abbrev main_call25_cst : Ref sig .tc := ⟨.hbm, 455, rfl⟩
abbrev main_call25_v0 : Ref sig .tc := ⟨.hbm, 456, rfl⟩
abbrev main_v166 : Ref sig .tc := ⟨.hbm, 457, rfl⟩
abbrev main_call26_cst : Ref sig .tc := ⟨.hbm, 458, rfl⟩
abbrev main_call26_v0 : Ref sig .tc := ⟨.hbm, 459, rfl⟩
abbrev main_v167 : Ref sig .tc := ⟨.hbm, 460, rfl⟩
abbrev main_v168 : Ref sig .tc := ⟨.hbm, 461, rfl⟩
abbrev main_v169 : Ref sig .tc := ⟨.hbm, 462, rfl⟩
abbrev main_v170 : Ref sig .tc := ⟨.hbm, 463, rfl⟩
abbrev main_call27_call0_cst : Ref sig .tc := ⟨.hbm, 464, rfl⟩
abbrev main_call27_call0_v0 : Ref sig .tc := ⟨.hbm, 465, rfl⟩
abbrev main_v171 : Ref sig .tc := ⟨.hbm, 466, rfl⟩
abbrev main_v172 : Ref sig .tc := ⟨.hbm, 467, rfl⟩
abbrev main_cst_36 : Ref sig .tc := ⟨.hbm, 468, rfl⟩
abbrev main_v173 : Ref sig .tc := ⟨.hbm, 469, rfl⟩
abbrev main_v174 : Ref sig .tc := ⟨.hbm, 470, rfl⟩
abbrev main_v175 : Ref sig .tc := ⟨.hbm, 471, rfl⟩
abbrev main_v176 : Ref sig .tc := ⟨.hbm, 472, rfl⟩
abbrev main_v177 : Ref sig .tc := ⟨.hbm, 473, rfl⟩
abbrev main_call28_cst : Ref sig .tc := ⟨.hbm, 474, rfl⟩
abbrev main_call28_v0 : Ref sig .tc := ⟨.hbm, 475, rfl⟩
abbrev main_v178 : Ref sig .tc := ⟨.hbm, 476, rfl⟩
abbrev main_call29_cst : Ref sig .tc := ⟨.hbm, 477, rfl⟩
abbrev main_call29_v0 : Ref sig .tc := ⟨.hbm, 478, rfl⟩
abbrev main_v179 : Ref sig .tc := ⟨.hbm, 479, rfl⟩
abbrev main_v180 : Ref sig .tc := ⟨.hbm, 480, rfl⟩
abbrev main_v181 : Ref sig .tc := ⟨.hbm, 481, rfl⟩
abbrev main_v182 : Ref sig .tc := ⟨.hbm, 482, rfl⟩
abbrev main_call30_call0_cst : Ref sig .tc := ⟨.hbm, 483, rfl⟩
abbrev main_call30_call0_v0 : Ref sig .tc := ⟨.hbm, 484, rfl⟩
abbrev main_v183 : Ref sig .tc := ⟨.hbm, 485, rfl⟩
abbrev main_v184 : Ref sig .tc := ⟨.hbm, 486, rfl⟩
abbrev main_cst_37 : Ref sig .tc := ⟨.hbm, 487, rfl⟩
abbrev main_v185 : Ref sig .tc := ⟨.hbm, 488, rfl⟩
abbrev main_v186 : Ref sig .tc := ⟨.hbm, 489, rfl⟩
abbrev main_v187 : Ref sig .tc := ⟨.hbm, 490, rfl⟩
abbrev main_v188 : Ref sig .tc := ⟨.hbm, 491, rfl⟩
abbrev main_v189 : Ref sig .tc := ⟨.hbm, 492, rfl⟩
abbrev main_call31_cst : Ref sig .tc := ⟨.hbm, 493, rfl⟩
abbrev main_call31_v0 : Ref sig .tc := ⟨.hbm, 494, rfl⟩
abbrev main_v190 : Ref sig .tc := ⟨.hbm, 495, rfl⟩
abbrev main_call32_cst : Ref sig .tc := ⟨.hbm, 496, rfl⟩
abbrev main_call32_v0 : Ref sig .tc := ⟨.hbm, 497, rfl⟩
abbrev main_v191 : Ref sig .tc := ⟨.hbm, 498, rfl⟩
abbrev main_v192 : Ref sig .tc := ⟨.hbm, 499, rfl⟩
abbrev main_v193 : Ref sig .tc := ⟨.hbm, 500, rfl⟩
abbrev main_v194 : Ref sig .tc := ⟨.hbm, 501, rfl⟩
abbrev main_call33_call0_cst : Ref sig .tc := ⟨.hbm, 502, rfl⟩
abbrev main_call33_call0_v0 : Ref sig .tc := ⟨.hbm, 503, rfl⟩
abbrev main_v195 : Ref sig .tc := ⟨.hbm, 504, rfl⟩
abbrev main_v196 : Ref sig .tc := ⟨.hbm, 505, rfl⟩
abbrev main_cst_38 : Ref sig .tc := ⟨.hbm, 506, rfl⟩
abbrev main_v197 : Ref sig .tc := ⟨.hbm, 507, rfl⟩
abbrev main_v198 : Ref sig .tc := ⟨.hbm, 508, rfl⟩
abbrev main_v199 : Ref sig .tc := ⟨.hbm, 509, rfl⟩
abbrev main_v200 : Ref sig .tc := ⟨.hbm, 510, rfl⟩
abbrev main_v201 : Ref sig .tc := ⟨.hbm, 511, rfl⟩
abbrev main_v202 : Ref sig .tc := ⟨.hbm, 512, rfl⟩
abbrev main_v203 : Ref sig .tc := ⟨.hbm, 513, rfl⟩
abbrev main_v204 : Ref sig .tc := ⟨.hbm, 514, rfl⟩
abbrev main_v205 : Ref sig .tc := ⟨.hbm, 515, rfl⟩

abbrev nD : Nat := 1
abbrev τ : Topo := Topo.v7x

variable {F : FTy → Type} [FloatOps F]
-- ==== HgrnIn.lean ====
abbrev S3x256x1024 : Shape := ⟨3, ![3, 256, 1024]⟩
abbrev S5x2048x1024 : Shape := ⟨3, ![5, 2048, 1024]⟩
abbrev S1024x5120 : Shape := ⟨2, ![1024, 5120]⟩
abbrev S256x1024 : Shape := ⟨2, ![256, 1024]⟩
abbrev S2048x1024 : Shape := ⟨2, ![2048, 1024]⟩
abbrev S1x1024 : Shape := ⟨2, ![1, 1024]⟩
abbrev S_ : Shape := ⟨0, ![]⟩
abbrev S5x256x1024 : Shape := ⟨3, ![5, 256, 1024]⟩
abbrev S5x2304x1024 : Shape := ⟨3, ![5, 2304, 1024]⟩
abbrev S2x1024 : Shape := ⟨2, ![2, 1024]⟩
abbrev S2x1x1024 : Shape := ⟨3, ![2, 1, 1024]⟩
abbrev S2x8x1024 : Shape := ⟨3, ![2, 8, 1024]⟩
abbrev S1x1x1024 : Shape := ⟨3, ![1, 1, 1024]⟩
abbrev S1x8x1024 : Shape := ⟨3, ![1, 8, 1024]⟩
abbrev S8x1024 : Shape := ⟨2, ![8, 1024]⟩
abbrev S1x256x1024 : Shape := ⟨3, ![1, 256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 20
  | .vmem => 16
  | .smem => 0
  | _ => 0

abbrev bufTy : (tb : Table) → Fin (tcTables nBuf tb) → BufTy
  | .hbm, ⟨0, _⟩ => ⟨S3x256x1024, .bf16⟩
  | .hbm, ⟨1, _⟩ => ⟨S5x2048x1024, .bf16⟩
  | .hbm, ⟨2, _⟩ => ⟨S1024x5120, .bf16⟩
  | .hbm, ⟨3, _⟩ => ⟨S256x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S_, .i32⟩
  | .hbm, ⟨12, _⟩ => ⟨S_, .bf16⟩
  | .hbm, ⟨13, _⟩ => ⟨S5x256x1024, .bf16⟩
  | .hbm, ⟨14, _⟩ => ⟨S5x2304x1024, .bf16⟩
  | .hbm, ⟨15, _⟩ => ⟨S2x1024, .f32⟩
  | .hbm, ⟨16, _⟩ => ⟨S2x1x1024, .f32⟩
  | .hbm, ⟨17, _⟩ => ⟨S2048x1024, .f32⟩
  | .hbm, ⟨18, _⟩ => ⟨S1x1024, .f32⟩
  | .hbm, ⟨19, _⟩ => ⟨S2x8x1024, .f32⟩
  | .local _ .vmem, ⟨0, _⟩ => ⟨S5x256x1024, .bf16⟩
  | .local _ .vmem, ⟨1, _⟩ => ⟨S5x256x1024, .bf16⟩
  | .local _ .vmem, ⟨2, _⟩ => ⟨S1024x5120, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x8x1024, .f32⟩
  | .local _ .vmem, ⟨15, _⟩ => ⟨S1x8x1024, .f32⟩
  | _, _ => ⟨S3x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c1_i32_56 : BitVec 32 := 1#32
  let v81 : BitVec 1 := Scalar.cmpi .sge arg0 c1_i32_56
  let v82 : BitVec 32 := Scalar.extui v81
  let c0_i32_57 : BitVec 32 := 0#32
  let v83 : BitVec 1 := Scalar.cmpi .ne v82 c0_i32_57
  v83

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S5x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== HgrnInRefIdeal.lean ====
abbrev S3x256x1024 : Shape := ⟨3, ![3, 256, 1024]⟩
abbrev S5x2048x1024 : Shape := ⟨3, ![5, 2048, 1024]⟩
abbrev S1024x5120 : Shape := ⟨2, ![1024, 5120]⟩
abbrev S256x1024 : Shape := ⟨2, ![256, 1024]⟩
abbrev S2048x1024 : Shape := ⟨2, ![2048, 1024]⟩
abbrev S1x1024 : Shape := ⟨2, ![1, 1024]⟩
abbrev S1x256x1024 : Shape := ⟨3, ![1, 256, 1024]⟩
abbrev S1x2048x1024 : Shape := ⟨3, ![1, 2048, 1024]⟩
abbrev S_ : Shape := ⟨0, ![]⟩
abbrev S2048 : Shape := ⟨1, ![2048]⟩
abbrev S2048x1 : Shape := ⟨2, ![2048, 1]⟩
abbrev S256 : Shape := ⟨1, ![256]⟩
abbrev S256x1 : Shape := ⟨2, ![256, 1]⟩
abbrev S1024x3072 : Shape := ⟨2, ![1024, 3072]⟩
abbrev S256x3072 : Shape := ⟨2, ![256, 3072]⟩
abbrev S2048x3072 : Shape := ⟨2, ![2048, 3072]⟩
abbrev S1024x2048 : Shape := ⟨2, ![1024, 2048]⟩
abbrev S2048x2048 : Shape := ⟨2, ![2048, 2048]⟩
abbrev S1024 : Shape := ⟨1, ![1024]⟩
abbrev S6x1024 : Shape := ⟨2, ![6, 1024]⟩
abbrev S8x1024 : Shape := ⟨2, ![8, 1024]⟩
abbrev S1x8x1024 : Shape := ⟨3, ![1, 8, 1024]⟩
abbrev S2x8x1024 : Shape := ⟨3, ![2, 8, 1024]⟩

abbrev nBuf : Space → Nat
  | .hbm => 153
  | .vmem => 0
  | .smem => 0
  | _ => 0

abbrev hbmTy0_0 (i : Nat) : BufTy := match i % 128 with
  | 0 => ⟨S3x256x1024, .bf16⟩
  | 1 => ⟨S5x2048x1024, .bf16⟩
  | 2 => ⟨S1024x5120, .bf16⟩
  | 3 => ⟨S256x1024, .f32⟩
  | 4 => ⟨S2048x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S2048x1024, .f32⟩
  | 11 => ⟨S1024x5120, .f32⟩
  | 12 => ⟨S3x256x1024, .f32⟩
  | 13 => ⟨S1x256x1024, .f32⟩
  | 14 => ⟨S256x1024, .f32⟩
  | 15 => ⟨S1x256x1024, .f32⟩
  | 16 => ⟨S256x1024, .f32⟩
  | 17 => ⟨S1x256x1024, .f32⟩
  | 18 => ⟨S256x1024, .f32⟩
  | 19 => ⟨S5x2048x1024, .f32⟩
  | 20 => ⟨S1x2048x1024, .f32⟩
  | 21 => ⟨S2048x1024, .f32⟩
  | 22 => ⟨S1x2048x1024, .f32⟩
  | 23 => ⟨S2048x1024, .f32⟩
  | 24 => ⟨S1x2048x1024, .f32⟩
  | 25 => ⟨S2048x1024, .f32⟩
  | 26 => ⟨S1x2048x1024, .f32⟩
  | 27 => ⟨S2048x1024, .f32⟩
  | 28 => ⟨S1x2048x1024, .f32⟩
  | 29 => ⟨S2048x1024, .f32⟩
  | 30 => ⟨S2048x1024, .f32⟩
  | 31 => ⟨S_, .f32⟩
  | 32 => ⟨S2048, .f32⟩
  | 33 => ⟨S2048x1, .f32⟩
  | 34 => ⟨S_, .f32⟩
  | 35 => ⟨S2048x1, .f32⟩
  | 36 => ⟨S2048x1, .f32⟩
  | 37 => ⟨S_, .f32⟩
  | 38 => ⟨S2048x1, .f32⟩
  | 39 => ⟨S2048x1, .f32⟩
  | 40 => ⟨S2048x1, .f32⟩
  | 41 => ⟨S2048x1, .f32⟩
  | 42 => ⟨S_, .f32⟩
  | 43 => ⟨S2048x1, .f32⟩
  | 44 => ⟨S2048x1, .f32⟩
  | 45 => ⟨S2048x1024, .f32⟩
  | 46 => ⟨S2048x1024, .f32⟩
  | 47 => ⟨S2048x1024, .f32⟩
  | 48 => ⟨S2048x1024, .f32⟩
  | 49 => ⟨S_, .f32⟩
  | 50 => ⟨S1x1024, .f32⟩
  | 51 => ⟨S1x1024, .f32⟩
  | 52 => ⟨S2048x1024, .f32⟩
  | 53 => ⟨S2048x1024, .f32⟩
  | 54 => ⟨S2048x1024, .f32⟩
  | 55 => ⟨S2048x1024, .f32⟩
  | 56 => ⟨S256x1024, .f32⟩
  | 57 => ⟨S_, .f32⟩
  | 58 => ⟨S256, .f32⟩
  | 59 => ⟨S256x1, .f32⟩
  | 60 => ⟨S_, .f32⟩
  | 61 => ⟨S256x1, .f32⟩
  | 62 => ⟨S256x1, .f32⟩
  | 63 => ⟨S_, .f32⟩
  | 64 => ⟨S256x1, .f32⟩
  | 65 => ⟨S256x1, .f32⟩
  | 66 => ⟨S256x1, .f32⟩
  | 67 => ⟨S256x1024, .f32⟩
  | 68 => ⟨S256x1024, .f32⟩
  | 69 => ⟨S256x1024, .f32⟩
  | 70 => ⟨S256x1024, .f32⟩
  | 71 => ⟨S_, .f32⟩
  | 72 => ⟨S1x1024, .f32⟩
  | 73 => ⟨S1x1024, .f32⟩
  | 74 => ⟨S256x1024, .f32⟩
  | 75 => ⟨S256x1024, .f32⟩
  | 76 => ⟨S256x1024, .f32⟩
  | 77 => ⟨S256x1024, .f32⟩
  | 78 => ⟨S1024x3072, .f32⟩
  | 79 => ⟨S256x3072, .f32⟩
  | 80 => ⟨S256x1024, .f32⟩
  | 81 => ⟨S256x1024, .f32⟩
  | 82 => ⟨S256x1024, .f32⟩
  | 83 => ⟨S1024x3072, .f32⟩
  | 84 => ⟨S2048x3072, .f32⟩
  | 85 => ⟨S2048x1024, .f32⟩
  | 86 => ⟨S2048x1024, .f32⟩
  | 87 => ⟨S2048x1024, .f32⟩
  | 88 => ⟨S1024x2048, .f32⟩
  | 89 => ⟨S2048x2048, .f32⟩
  | 90 => ⟨S2048x1024, .f32⟩
  | 91 => ⟨S2048x1024, .f32⟩
  | 92 => ⟨S2048x2048, .f32⟩
  | 93 => ⟨S2048x1024, .f32⟩
  | 94 => ⟨S2048x3072, .f32⟩
  | 95 => ⟨S2048x1024, .f32⟩
  | 96 => ⟨S2048x1024, .f32⟩
  | 97 => ⟨S256x3072, .f32⟩
  | 98 => ⟨S256x1024, .f32⟩
  | 99 => ⟨S_, .f32⟩
  | 100 => ⟨S1024, .f32⟩
  | 101 => ⟨S1x1024, .f32⟩
  | 102 => ⟨S256x1024, .f32⟩
  | 103 => ⟨S_, .f32⟩
  | 104 => ⟨S1024, .f32⟩
  | 105 => ⟨S1x1024, .f32⟩
  | 106 => ⟨S256x1024, .f32⟩
  | 107 => ⟨S256x1024, .f32⟩
  | 108 => ⟨S256x1024, .f32⟩
  | 109 => ⟨S_, .f32⟩
  | 110 => ⟨S1024, .f32⟩
  | 111 => ⟨S1x1024, .f32⟩
  | 112 => ⟨S_, .f32⟩
  | 113 => ⟨S1024, .f32⟩
  | 114 => ⟨S1x1024, .f32⟩
  | 115 => ⟨S2048x1024, .f32⟩
  | 116 => ⟨S_, .f32⟩
  | 117 => ⟨S1024, .f32⟩
  | 118 => ⟨S1x1024, .f32⟩
  | 119 => ⟨S2048x1024, .f32⟩
  | 120 => ⟨S2048x1024, .f32⟩
  | 121 => ⟨S2048x1024, .f32⟩
  | 122 => ⟨S_, .f32⟩
  | 123 => ⟨S1024, .f32⟩
  | 124 => ⟨S1x1024, .f32⟩
  | 125 => ⟨S1x1024, .f32⟩
  | 126 => ⟨S2048x1024, .f32⟩
  | 127 => ⟨S2048x1024, .f32⟩
  | _ => ⟨S3x256x1024, .bf16⟩

abbrev hbmTy0_1 (i : Nat) : BufTy := match i % 128 with
  | 0 => ⟨S2048x1024, .f32⟩
  | 1 => ⟨S_, .f32⟩
  | 2 => ⟨S2048, .f32⟩
  | 3 => ⟨S2048x1, .f32⟩
  | 4 => ⟨S2048x1024, .f32⟩
  | 5 => ⟨S2048x1024, .f32⟩
  | 6 => ⟨S2048x1024, .f32⟩
  | 7 => ⟨S2048x1, .f32⟩
  | 8 => ⟨S_, .f32⟩
  | 9 => ⟨S2048x1, .f32⟩
  | 10 => ⟨S2048x1, .f32⟩
  | 11 => ⟨S_, .f32⟩
  | 12 => ⟨S2048, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S_, .f32⟩
  | 19 => ⟨S6x1024, .f32⟩
  | 20 => ⟨S8x1024, .f32⟩
  | 21 => ⟨S8x1024, .f32⟩
  | 22 => ⟨S1x8x1024, .f32⟩
  | 23 => ⟨S1x8x1024, .f32⟩
  | 24 => ⟨S2x8x1024, .f32⟩
  | _ => ⟨S3x256x1024, .bf16⟩

abbrev hbmTy (i : Nat) : BufTy := match i / 128 with
  | 0 => hbmTy0_0 i
  | 1 => hbmTy0_1 i
  | _ => ⟨S3x256x1024, .bf16⟩

abbrev bufTy : (tb : Table) → Fin (tcTables nBuf tb) → BufTy
  | .hbm, ⟨i, _⟩ => hbmTy i
  | _, _ => ⟨S3x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_8 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_9 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_10 : Ref sig .tc := ⟨.hbm, 109, rfl⟩
abbrev main_v87 : Ref sig .tc := ⟨.hbm, 110, rfl⟩
abbrev main_v88 : Ref sig .tc := ⟨.hbm, 111, rfl⟩
abbrev main_cst_11 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_12 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_13 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_14 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_15 : Ref sig .tc := ⟨.hbm, 136, rfl⟩
abbrev main_v109 : Ref sig .tc := ⟨.hbm, 137, rfl⟩
abbrev main_v110 : Ref sig .tc := ⟨.hbm, 138, rfl⟩
abbrev main_cst_16 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_17 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩

abbrev nD : Nat := 1
abbrev τ : Topo := Topo.v7x

variable {F : FTy → Type} [FloatOps F]
-- ==== Ada.lean ====
abbrev S16x1024 : Shape := ⟨2, ![16, 1024]⟩
abbrev S2x16x768 : Shape := ⟨3, ![2, 16, 768]⟩
abbrev S2x1024x768 : Shape := ⟨3, ![2, 1024, 768]⟩
abbrev S1024x16 : Shape := ⟨2, ![1024, 16]⟩
abbrev S256x16 : Shape := ⟨2, ![256, 16]⟩
abbrev S1x16x768 : Shape := ⟨3, ![1, 16, 768]⟩
abbrev S1x256x768 : Shape := ⟨3, ![1, 256, 768]⟩
abbrev S16x768 : Shape := ⟨2, ![16, 768]⟩
abbrev S256x768 : Shape := ⟨2, ![256, 768]⟩

abbrev nBuf : Space → Nat
  | .hbm => 10
  | .vmem => 18
  | .smem => 0
  | _ => 0

abbrev bufTy : (tb : Table) → Fin (tcTables nBuf tb) → BufTy
  | .hbm, ⟨0, _⟩ => ⟨S16x1024, .f32⟩
  | .hbm, ⟨1, _⟩ => ⟨S2x16x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S1024x16, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .hbm, ⟨9, _⟩ => ⟨S2x1024x768, .f32⟩
  | .local _ .vmem, ⟨0, _⟩ => ⟨S256x16, .f32⟩
  | .local _ .vmem, ⟨1, _⟩ => ⟨S256x16, .f32⟩
  | .local _ .vmem, ⟨2, _⟩ => ⟨S1x16x768, .f32⟩
  | .local _ .vmem, ⟨3, _⟩ => ⟨S1x16x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaRefIdeal.lean ====
abbrev S16x1024 : Shape := ⟨2, ![16, 1024]⟩
abbrev S2x16x768 : Shape := ⟨3, ![2, 16, 768]⟩
abbrev S2x1024x768 : Shape := ⟨3, ![2, 1024, 768]⟩
abbrev S_ : Shape := ⟨0, ![]⟩
abbrev S1x1024x768 : Shape := ⟨3, ![1, 1024, 768]⟩
abbrev S1024x768 : Shape := ⟨2, ![1024, 768]⟩
abbrev S16x768 : Shape := ⟨2, ![16, 768]⟩
abbrev S1x16x768 : Shape := ⟨3, ![1, 16, 768]⟩
abbrev S768x1024 : Shape := ⟨2, ![768, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S1x1024x768, .f32⟩
  | .hbm, ⟨15, _⟩ => ⟨S1024x768, .f32⟩
  | .hbm, ⟨16, _⟩ => ⟨S16x768, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S1x1024x768, .f32⟩
  | .hbm, ⟨27, _⟩ => ⟨S1024x768, .f32⟩
  | .hbm, ⟨28, _⟩ => ⟨S16x768, .f32⟩
  | .hbm, ⟨29, _⟩ => ⟨S1x16x768, .f32⟩
  | .hbm, ⟨30, _⟩ => ⟨S1x16x768, .f32⟩
  | .hbm, ⟨31, _⟩ => ⟨S2x16x768, .f32⟩
  | .hbm, ⟨32, _⟩ => ⟨S1x16x768, .f32⟩
  | .hbm, ⟨33, _⟩ => ⟨S16x768, .f32⟩
  | .hbm, ⟨34, _⟩ => ⟨S1x16x768, .f32⟩
  | .hbm, ⟨35, _⟩ => ⟨S16x768, .f32⟩
  | .hbm, ⟨36, _⟩ => ⟨S768x1024, .f32⟩
  | .hbm, ⟨37, _⟩ => ⟨S1024x768, .f32⟩
  | .hbm, ⟨38, _⟩ => ⟨S1x1024x768, .f32⟩
  | .hbm, ⟨39, _⟩ => ⟨S_, .f32⟩
  | .hbm, ⟨40, _⟩ => ⟨S2x1024x768, .f32⟩
  | .hbm, ⟨41, _⟩ => ⟨S768x1024, .f32⟩
  | .hbm, ⟨42, _⟩ => ⟨S1024x768, .f32⟩
  | .hbm, ⟨43, _⟩ => ⟨S1x1024x768, .f32⟩
  | .hbm, ⟨44, _⟩ => ⟨S_, .f32⟩
  | .hbm, ⟨45, _⟩ => ⟨S2x1024x768, .f32⟩
  | .hbm, ⟨46, _⟩ => ⟨S2x1024x768, .f32⟩
  | .hbm, ⟨47, _⟩ => ⟨S_, .f32⟩
  | .hbm, ⟨48, _⟩ => ⟨S2x1024x768, .f32⟩
  | .hbm, ⟨49, _⟩ => ⟨S2x1024x768, .f32⟩
  | .hbm, ⟨50, _⟩ => ⟨S_, .f32⟩
  | .hbm, ⟨51, _⟩ => ⟨S2x1024x768, .f32⟩
  | .hbm, ⟨52, _⟩ => ⟨S2x1024x768, .f32⟩
  | .hbm, ⟨53, _⟩ => ⟨S2x1024x768, .f32⟩
  | .hbm, ⟨54, _⟩ => ⟨S_, .f32⟩
  | .hbm, ⟨55, _⟩ => ⟨S2x1024x768, .f32⟩
  | .hbm, ⟨56, _⟩ => ⟨S2x1024x768, .f32⟩
  | .hbm, ⟨57, _⟩ => ⟨S2x1024x768, .f32⟩
  | .hbm, ⟨58, _⟩ => ⟨S_, .f32⟩
  | .hbm, ⟨59, _⟩ => ⟨S2x1024x768, .f32⟩
  | .hbm, ⟨60, _⟩ => ⟨S2x1024x768, .f32⟩
  | .hbm, ⟨61, _⟩ => ⟨S2x1024x768, .f32⟩
  | .hbm, ⟨62, _⟩ => ⟨S_, .f32⟩
  | .hbm, ⟨63, _⟩ => ⟨S2x1024x768, .f32⟩
  | .hbm, ⟨64, _⟩ => ⟨S2x1024x768, .f32⟩
  | .hbm, ⟨65, _⟩ => ⟨S_, .f32⟩
  | .hbm, ⟨66, _⟩ => ⟨S2x1024x768, .f32⟩
  | .hbm, ⟨67, _⟩ => ⟨S2x1024x768, .f32⟩
  | .hbm, ⟨68, _⟩ => ⟨S2x1024x768, .f32⟩
  | .hbm, ⟨69, _⟩ => ⟨S_, .f32⟩
  | .hbm, ⟨70, _⟩ => ⟨S2x1024x768, .f32⟩
  | .hbm, ⟨71, _⟩ => ⟨S2x1024x768, .f32⟩
  | .hbm, ⟨72, _⟩ => ⟨S2x1024x768, .f32⟩
  | .hbm, ⟨73, _⟩ => ⟨S_, .f32⟩
  | .hbm, ⟨74, _⟩ => ⟨S2x1024x768, .f32⟩
  | .hbm, ⟨75, _⟩ => ⟨S2x1024x768, .f32⟩
  | .hbm, ⟨76, _⟩ => ⟨S2x1024x768, .f32⟩
  | .hbm, ⟨77, _⟩ => ⟨S_, .f32⟩
  | .hbm, ⟨78, _⟩ => ⟨S2x1024x768, .f32⟩
  | .hbm, ⟨79, _⟩ => ⟨S2x1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_0 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩

abbrev nD : Nat := 1
abbrev τ : Topo := Topo.v7x

variable {F : FTy → Type} [FloatOps F]
-- ==== HgrnOutFwd.lean ====
abbrev S2048x1024 : Shape := ⟨2, ![2048, 1024]⟩
abbrev S5x2304x1024 : Shape := ⟨3, ![5, 2304, 1024]⟩
abbrev S1x1024 : Shape := ⟨2, ![1, 1024]⟩
abbrev S1024x1024 : Shape := ⟨2, ![1024, 1024]⟩
abbrev S256x1024 : Shape := ⟨2, ![256, 1024]⟩
abbrev S1x256x1024 : Shape := ⟨3, ![1, 256, 1024]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S5x2304x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let c0_i32 : BitVec 32 := 0#32
  let c0_i32_0 : BitVec 32 := 0#32
  ![c4_i32.toNat, v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HgrnOutFwdRefIdeal.lean ====
abbrev S2048x1024 : Shape := ⟨2, ![2048, 1024]⟩
abbrev S5x2304x1024 : Shape := ⟨3, ![5, 2304, 1024]⟩
abbrev S1x1024 : Shape := ⟨2, ![1, 1024]⟩
abbrev S1024x1024 : Shape := ⟨2, ![1024, 1024]⟩
abbrev S1x2048x1024 : Shape := ⟨3, ![1, 2048, 1024]⟩
abbrev S2048x8x128 : Shape := ⟨3, ![2048, 8, 128]⟩
abbrev S8x128 : Shape := ⟨2, ![8, 128]⟩
abbrev S_ : Shape := ⟨0, ![]⟩
abbrev S2048x8 : Shape := ⟨2, ![2048, 8]⟩
abbrev S2048x8x1 : Shape := ⟨3, ![2048, 8, 1]⟩
abbrev S1x8x128 : Shape := ⟨3, ![1, 8, 128]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S5x2304x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1024x1024, .bf16⟩
  | .hbm, ⟨6, _⟩ => ⟨S1x2048x1024, .f32⟩
  | .hbm, ⟨7, _⟩ => ⟨S2048x1024, .f32⟩
  | .hbm, ⟨8, _⟩ => ⟨S1024x1024, .f32⟩
  | .hbm, ⟨9, _⟩ => ⟨S2048x8x128, .f32⟩
  | .hbm, ⟨10, _⟩ => ⟨S8x128, .f32⟩
  | .hbm, ⟨11, _⟩ => ⟨S2048x8x128, .f32⟩
  | .hbm, ⟨12, _⟩ => ⟨S_, .f32⟩
  | .hbm, ⟨13, _⟩ => ⟨S2048x8, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S2048x8x1, .f32⟩
  | .hbm, ⟨22, _⟩ => ⟨S2048x8x128, .f32⟩
  | .hbm, ⟨23, _⟩ => ⟨S2048x8x128, .f32⟩
  | .hbm, ⟨24, _⟩ => ⟨S1x8x128, .f32⟩
  | .hbm, ⟨25, _⟩ => ⟨S2048x8x128, .f32⟩
  | .hbm, ⟨26, _⟩ => ⟨S2048x8x128, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== PoolInFwd.lean ====
abbrev S2048x1024 : Shape := ⟨2, ![2048, 1024]⟩
abbrev S1x1024 : Shape := ⟨2, ![1, 1024]⟩
abbrev S1024x2048 : Shape := ⟨2, ![1024, 2048]⟩
abbrev S1x1x1024 : Shape := ⟨3, ![1, 1, 1024]⟩
abbrev S2x2048x1024 : Shape := ⟨3, ![2, 2048, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1024x1024 : Shape := ⟨2, ![1024, 1024]⟩
abbrev S1x512x1024 : Shape := ⟨3, ![1, 512, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .bf16⟩
  | .hbm, ⟨5, _⟩ => ⟨S1x1x1024, .f32⟩
  | .hbm, ⟨6, _⟩ => ⟨S1x1x1024, .f32⟩
  | .hbm, ⟨7, _⟩ => ⟨S2x2048x1024, .f32⟩
  | .hbm, ⟨8, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S2x512x1024, .f32⟩
  | .local _ .vmem, ⟨9, _⟩ => ⟨S2x512x1024, .f32⟩
  | .local _ .vmem, ⟨10, _⟩ => ⟨S512x1024, .bf16⟩
  | .local _ .vmem, ⟨11, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 3 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolInFwdRefIdeal.lean ====
abbrev S2048x1024 : Shape := ⟨2, ![2048, 1024]⟩
abbrev S1x1024 : Shape := ⟨2, ![1, 1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S1x2048x1024 : Shape := ⟨3, ![1, 2048, 1024]⟩
abbrev S2x2048x1024 : Shape := ⟨3, ![2, 2048, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .bf16⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1024x2048, .f32⟩
  | .hbm, ⟨28, _⟩ => ⟨S2048x2048, .f32⟩
  | .hbm, ⟨29, _⟩ => ⟨S2048x1024, .f32⟩
  | .hbm, ⟨30, _⟩ => ⟨S2048x1024, .f32⟩
  | .hbm, ⟨31, _⟩ => ⟨S1x2048x1024, .f32⟩
  | .hbm, ⟨32, _⟩ => ⟨S1x2048x1024, .f32⟩
  | .hbm, ⟨33, _⟩ => ⟨S2x2048x1024, .f32⟩
  | .hbm, ⟨34, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== HgrnInFwd.lean ====
abbrev S256x1024 : Shape := ⟨2, ![256, 1024]⟩
abbrev S2048x1024 : Shape := ⟨2, ![2048, 1024]⟩
abbrev S1x1024 : Shape := ⟨2, ![1, 1024]⟩
abbrev S1024x5120 : Shape := ⟨2, ![1024, 5120]⟩
abbrev S2x1024 : Shape := ⟨2, ![2, 1024]⟩
abbrev S2x1x1024 : Shape := ⟨3, ![2, 1, 1024]⟩
abbrev S5x2304x1024 : Shape := ⟨3, ![5, 2304, 1024]⟩
abbrev S2304x1024 : Shape := ⟨2, ![2304, 1024]⟩
abbrev S1x1x1024 : Shape := ⟨3, ![1, 1, 1024]⟩
abbrev S5x256x1024 : Shape := ⟨3, ![5, 256, 1024]⟩
abbrev S256 : Shape := ⟨1, ![256]⟩
abbrev S256x1 : Shape := ⟨2, ![256, 1]⟩
abbrev S1024x1024 : Shape := ⟨2, ![1024, 1024]⟩
abbrev S1x256x1024 : Shape := ⟨3, ![1, 256, 1024]⟩

abbrev nBuf : Space → Nat
  | .hbm => 14
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x5120, .bf16⟩
  | .hbm, ⟨8, _⟩ => ⟨S2x1024, .f32⟩
  | .hbm, ⟨9, _⟩ => ⟨S2x1024, .f32⟩
  | .hbm, ⟨10, _⟩ => ⟨S2x1x1024, .f32⟩
  | .hbm, ⟨11, _⟩ => ⟨S2x1x1024, .f32⟩
  | .hbm, ⟨12, _⟩ => ⟨S5x2304x1024, .f32⟩
  | .hbm, ⟨13, _⟩ => ⟨S2304x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x5120, .bf16⟩
  | .local _ .vmem, ⟨9, _⟩ => ⟨S5x256x1024, .f32⟩
  | .local _ .vmem, ⟨10, _⟩ => ⟨S5x256x1024, .f32⟩
  | .local _ .vmem, ⟨11, _⟩ => ⟨S256x1024, .bf16⟩
  | .local _ .vmem, ⟨12, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HgrnInFwdRefIdeal.lean ====
abbrev S256x1024 : Shape := ⟨2, ![256, 1024]⟩
abbrev S2048x1024 : Shape := ⟨2, ![2048, 1024]⟩
abbrev S1x1024 : Shape := ⟨2, ![1, 1024]⟩
abbrev S1024x5120 : Shape := ⟨2, ![1024, 5120]⟩
abbrev S_ : Shape := ⟨0, ![]⟩
abbrev S2048 : Shape := ⟨1, ![2048]⟩
abbrev S2048x1 : Shape := ⟨2, ![2048, 1]⟩
abbrev S256 : Shape := ⟨1, ![256]⟩
abbrev S256x1 : Shape := ⟨2, ![256, 1]⟩
abbrev S2304x1024 : Shape := ⟨2, ![2304, 1024]⟩
abbrev S2304x5120 : Shape := ⟨2, ![2304, 5120]⟩
abbrev S1x2304x1024 : Shape := ⟨3, ![1, 2304, 1024]⟩
abbrev S5x2304x1024 : Shape := ⟨3, ![5, 2304, 1024]⟩

abbrev nBuf : Space → Nat
  | .hbm => 67
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x5120, .bf16⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S256x1024, .f32⟩
  | .hbm, ⟨31, _⟩ => ⟨S_, .f32⟩
  | .hbm, ⟨32, _⟩ => ⟨S256, .f32⟩
  | .hbm, ⟨33, _⟩ => ⟨S256x1, .f32⟩
  | .hbm, ⟨34, _⟩ => ⟨S_, .f32⟩
  | .hbm, ⟨35, _⟩ => ⟨S256x1, .f32⟩
  | .hbm, ⟨36, _⟩ => ⟨S256x1, .f32⟩
  | .hbm, ⟨37, _⟩ => ⟨S_, .f32⟩
  | .hbm, ⟨38, _⟩ => ⟨S256x1, .f32⟩
  | .hbm, ⟨39, _⟩ => ⟨S256x1, .f32⟩
  | .hbm, ⟨40, _⟩ => ⟨S256x1, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S2304x1024, .f32⟩
  | .hbm, ⟨53, _⟩ => ⟨S1024x5120, .f32⟩
  | .hbm, ⟨54, _⟩ => ⟨S2304x5120, .f32⟩
  | .hbm, ⟨55, _⟩ => ⟨S2304x1024, .f32⟩
  | .hbm, ⟨56, _⟩ => ⟨S2304x1024, .f32⟩
  | .hbm, ⟨57, _⟩ => ⟨S2304x1024, .f32⟩
  | .hbm, ⟨58, _⟩ => ⟨S2304x1024, .f32⟩
  | .hbm, ⟨59, _⟩ => ⟨S2304x1024, .f32⟩
  | .hbm, ⟨60, _⟩ => ⟨S1x2304x1024, .f32⟩
  | .hbm, ⟨61, _⟩ => ⟨S1x2304x1024, .f32⟩
  | .hbm, ⟨62, _⟩ => ⟨S1x2304x1024, .f32⟩
  | .hbm, ⟨63, _⟩ => ⟨S1x2304x1024, .f32⟩
  | .hbm, ⟨64, _⟩ => ⟨S1x2304x1024, .f32⟩
  | .hbm, ⟨65, _⟩ => ⟨S5x2304x1024, .f32⟩
  | .hbm, ⟨66, _⟩ => ⟨S2304x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== GlaFwd.lean ====
abbrev S5x2304x1024 : Shape := ⟨3, ![5, 2304, 1024]⟩
abbrev S2x1024 : Shape := ⟨2, ![2, 1024]⟩
abbrev S128x128 : Shape := ⟨2, ![128, 128]⟩
abbrev S_ : Shape := ⟨0, ![]⟩
abbrev S128x256 : Shape := ⟨2, ![128, 256]⟩
abbrev S1x128x128 : Shape := ⟨3, ![1, 128, 128]⟩
abbrev S2x128x128 : Shape := ⟨3, ![2, 128, 128]⟩
abbrev S1x128x256 : Shape := ⟨3, ![1, 128, 256]⟩
abbrev S2x128x256 : Shape := ⟨3, ![2, 128, 256]⟩
abbrev S2048x1024 : Shape := ⟨2, ![2048, 1024]⟩
abbrev S1x2304x128 : Shape := ⟨3, ![1, 2304, 128]⟩
abbrev S2x128 : Shape := ⟨2, ![2, 128]⟩
abbrev S2048x128 : Shape := ⟨2, ![2048, 128]⟩
abbrev S36x128x128 : Shape := ⟨3, ![36, 128, 128]⟩
abbrev S36x1x128 : Shape := ⟨3, ![36, 1, 128]⟩
abbrev S1x128 : Shape := ⟨2, ![1, 128]⟩
abbrev S64x128 : Shape := ⟨2, ![64, 128]⟩
abbrev S1x1x128 : Shape := ⟨3, ![1, 1, 128]⟩
abbrev S256x128 : Shape := ⟨2, ![256, 128]⟩

abbrev nBuf : Space → Nat
  | .hbm => 36
  | .vmem => 18
  | .smem => 0
  | _ => 0

abbrev bufTy : (tb : Table) → Fin (tcTables nBuf tb) → BufTy
  | .hbm, ⟨0, _⟩ => ⟨S5x2304x1024, .f32⟩
  | .hbm, ⟨1, _⟩ => ⟨S2x1024, .f32⟩
  | .hbm, ⟨2, _⟩ => ⟨S128x128, .i32⟩
  | .hbm, ⟨3, _⟩ => ⟨S128x128, .i32⟩
  | .hbm, ⟨4, _⟩ => ⟨S_, .i32⟩
  | .hbm, ⟨5, _⟩ => ⟨S128x128, .i32⟩
  | .hbm, ⟨6, _⟩ => ⟨S128x128, .i1⟩
  | .hbm, ⟨7, _⟩ => ⟨S_, .i32⟩
  | .hbm, ⟨8, _⟩ => ⟨S128x128, .i32⟩
  | .hbm, ⟨9, _⟩ => ⟨S128x128, .i1⟩
  | .hbm, ⟨10, _⟩ => ⟨S128x128, .i1⟩
  | .hbm, ⟨11, _⟩ => ⟨S128x128, .i1⟩
  | .hbm, ⟨12, _⟩ => ⟨S128x128, .i1⟩
  | .hbm, ⟨13, _⟩ => ⟨S128x128, .i1⟩
  | .hbm, ⟨14, _⟩ => ⟨S128x128, .i1⟩
  | .hbm, ⟨15, _⟩ => ⟨S128x128, .i1⟩
  | .hbm, ⟨16, _⟩ => ⟨S128x128, .i1⟩
  | .hbm, ⟨17, _⟩ => ⟨S128x256, .i1⟩
  | .hbm, ⟨18, _⟩ => ⟨S128x128, .i1⟩
  | .hbm, ⟨19, _⟩ => ⟨S128x128, .i1⟩
  | .hbm, ⟨20, _⟩ => ⟨S128x128, .i1⟩
  | .hbm, ⟨21, _⟩ => ⟨S128x128, .i1⟩
  | .hbm, ⟨22, _⟩ => ⟨S128x128, .i1⟩
  | .hbm, ⟨23, _⟩ => ⟨S128x128, .i1⟩
  | .hbm, ⟨24, _⟩ => ⟨S128x256, .i1⟩
  | .hbm, ⟨25, _⟩ => ⟨S1x128x128, .i1⟩
  | .hbm, ⟨26, _⟩ => ⟨S1x128x128, .i1⟩
  | .hbm, ⟨27, _⟩ => ⟨S2x128x128, .i1⟩
  | .hbm, ⟨28, _⟩ => ⟨S2x128x128, .f32⟩
  | .hbm, ⟨29, _⟩ => ⟨S1x128x256, .i1⟩
  | .hbm, ⟨30, _⟩ => ⟨S1x128x256, .i1⟩
  | .hbm, ⟨31, _⟩ => ⟨S2x128x256, .i1⟩
  | .hbm, ⟨32, _⟩ => ⟨S2x128x256, .f32⟩
  | .hbm, ⟨33, _⟩ => ⟨S2x128x128, .bf16⟩
  | .hbm, ⟨34, _⟩ => ⟨S2x128x256, .bf16⟩
  | .hbm, ⟨35, _⟩ => ⟨S2048x1024, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x2304x128, .f32⟩
  | .local _ .vmem, ⟨7, _⟩ => ⟨S1x2304x128, .f32⟩
  | .local _ .vmem, ⟨8, _⟩ => ⟨S2x128, .f32⟩
  | .local _ .vmem, ⟨9, _⟩ => ⟨S2x128, .f32⟩
  | .local _ .vmem, ⟨10, _⟩ => ⟨S2x128x128, .bf16⟩
  | .local _ .vmem, ⟨11, _⟩ => ⟨S2x128x256, .bf16⟩
  | .local _ .vmem, ⟨12, _⟩ => ⟨S2x128x128, .f32⟩
  | .local _ .vmem, ⟨13, _⟩ => ⟨S2048x128, .f32⟩
  | .local _ .vmem, ⟨14, _⟩ => ⟨S2048x128, .f32⟩
  | .local _ .vmem, ⟨15, _⟩ => ⟨S36x128x128, .f32⟩
  | .local _ .vmem, ⟨16, _⟩ => ⟨S36x1x128, .f32⟩
  | .local _ .vmem, ⟨17, _⟩ => ⟨S2048x128, .bf16⟩
  | _, _ => ⟨S5x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaBack.lean ====
abbrev S5x2304x1024 : Shape := ⟨3, ![5, 2304, 1024]⟩
abbrev S2x1024 : Shape := ⟨2, ![2, 1024]⟩
abbrev S2048x1024 : Shape := ⟨2, ![2048, 1024]⟩
abbrev S128x128 : Shape := ⟨2, ![128, 128]⟩
abbrev S_ : Shape := ⟨0, ![]⟩
abbrev S128x256 : Shape := ⟨2, ![128, 256]⟩
abbrev S1x128x128 : Shape := ⟨3, ![1, 128, 128]⟩
abbrev S2x128x128 : Shape := ⟨3, ![2, 128, 128]⟩
abbrev S1x128x256 : Shape := ⟨3, ![1, 128, 256]⟩
abbrev S2x128x256 : Shape := ⟨3, ![2, 128, 256]⟩
abbrev S1x2304x128 : Shape := ⟨3, ![1, 2304, 128]⟩
abbrev S2x128 : Shape := ⟨2, ![2, 128]⟩
abbrev S2048x128 : Shape := ⟨2, ![2048, 128]⟩
abbrev S5x2304x128 : Shape := ⟨3, ![5, 2304, 128]⟩
abbrev S36x128x128 : Shape := ⟨3, ![36, 128, 128]⟩
abbrev S36x1x128 : Shape := ⟨3, ![36, 1, 128]⟩
abbrev S2x2304x128 : Shape := ⟨3, ![2, 2304, 128]⟩
abbrev S256x128 : Shape := ⟨2, ![256, 128]⟩
abbrev S1x256x128 : Shape := ⟨3, ![1, 256, 128]⟩
abbrev S1x2048x128 : Shape := ⟨3, ![1, 2048, 128]⟩
abbrev S1x128 : Shape := ⟨2, ![1, 128]⟩
abbrev S64x128 : Shape := ⟨2, ![64, 128]⟩
abbrev S1x1x128 : Shape := ⟨3, ![1, 1, 128]⟩
abbrev S128 : Shape := ⟨1, ![128]⟩
abbrev S256x256 : Shape := ⟨2, ![256, 256]⟩

abbrev nBuf : Space → Nat
  | .hbm => 39
  | .vmem => 25
  | .smem => 0
  | _ => 0

abbrev bufTy : (tb : Table) → Fin (tcTables nBuf tb) → BufTy
  | .hbm, ⟨0, _⟩ => ⟨S5x2304x1024, .f32⟩
  | .hbm, ⟨1, _⟩ => ⟨S2x1024, .f32⟩
  | .hbm, ⟨2, _⟩ => ⟨S2048x1024, .bf16⟩
  | .hbm, ⟨3, _⟩ => ⟨S2048x1024, .bf16⟩
  | .hbm, ⟨4, _⟩ => ⟨S128x128, .i32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i1⟩
  | .hbm, ⟨9, _⟩ => ⟨S_, .i32⟩
  | .hbm, ⟨10, _⟩ => ⟨S128x128, .i32⟩
  | .hbm, ⟨11, _⟩ => ⟨S128x128, .i1⟩
  | .hbm, ⟨12, _⟩ => ⟨S128x128, .i1⟩
  | .hbm, ⟨13, _⟩ => ⟨S128x128, .i1⟩
  | .hbm, ⟨14, _⟩ => ⟨S128x128, .i1⟩
  | .hbm, ⟨15, _⟩ => ⟨S128x128, .i1⟩
  | .hbm, ⟨16, _⟩ => ⟨S128x128, .i1⟩
  | .hbm, ⟨17, _⟩ => ⟨S128x128, .i1⟩
  | .hbm, ⟨18, _⟩ => ⟨S128x128, .i1⟩
  | .hbm, ⟨19, _⟩ => ⟨S128x256, .i1⟩
  | .hbm, ⟨20, _⟩ => ⟨S128x128, .i1⟩
  | .hbm, ⟨21, _⟩ => ⟨S128x128, .i1⟩
  | .hbm, ⟨22, _⟩ => ⟨S128x128, .i1⟩
  | .hbm, ⟨23, _⟩ => ⟨S128x128, .i1⟩
  | .hbm, ⟨24, _⟩ => ⟨S128x128, .i1⟩
  | .hbm, ⟨25, _⟩ => ⟨S128x128, .i1⟩
  | .hbm, ⟨26, _⟩ => ⟨S128x256, .i1⟩
  | .hbm, ⟨27, _⟩ => ⟨S1x128x128, .i1⟩
  | .hbm, ⟨28, _⟩ => ⟨S1x128x128, .i1⟩
  | .hbm, ⟨29, _⟩ => ⟨S2x128x128, .i1⟩
  | .hbm, ⟨30, _⟩ => ⟨S2x128x128, .f32⟩
  | .hbm, ⟨31, _⟩ => ⟨S1x128x256, .i1⟩
  | .hbm, ⟨32, _⟩ => ⟨S1x128x256, .i1⟩
  | .hbm, ⟨33, _⟩ => ⟨S2x128x256, .i1⟩
  | .hbm, ⟨34, _⟩ => ⟨S2x128x256, .f32⟩
  | .hbm, ⟨35, _⟩ => ⟨S2x128x128, .bf16⟩
  | .hbm, ⟨36, _⟩ => ⟨S2x128x256, .bf16⟩
  | .hbm, ⟨37, _⟩ => ⟨S5x2304x1024, .bf16⟩
  | .hbm, ⟨38, _⟩ => ⟨S2x1024, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x2304x128, .f32⟩
  | .local _ .vmem, ⟨7, _⟩ => ⟨S1x2304x128, .f32⟩
  | .local _ .vmem, ⟨8, _⟩ => ⟨S2x128, .f32⟩
  | .local _ .vmem, ⟨9, _⟩ => ⟨S2x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2x128x128, .bf16⟩
  | .local _ .vmem, ⟨15, _⟩ => ⟨S2x128x256, .bf16⟩
  | .local _ .vmem, ⟨16, _⟩ => ⟨S2x128x128, .f32⟩
  | .local _ .vmem, ⟨17, _⟩ => ⟨S5x2304x128, .bf16⟩
  | .local _ .vmem, ⟨18, _⟩ => ⟨S5x2304x128, .bf16⟩
  | .local _ .vmem, ⟨19, _⟩ => ⟨S2x128, .f32⟩
  | .local _ .vmem, ⟨20, _⟩ => ⟨S2x128, .f32⟩
  | .local _ .vmem, ⟨21, _⟩ => ⟨S36x128x128, .f32⟩
  | .local _ .vmem, ⟨22, _⟩ => ⟨S36x128x128, .f32⟩
  | .local _ .vmem, ⟨23, _⟩ => ⟨S36x1x128, .f32⟩
  | .local _ .vmem, ⟨24, _⟩ => ⟨S2x2304x128, .f32⟩
  | _, _ => ⟨S5x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31_0 : Ref sig .tc := ⟨.hbm, 37, rfl⟩
abbrev main_v31_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5x2304x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== WeightGrad.lean ====
abbrev S2048x1024 : Shape := ⟨2, ![2048, 1024]⟩
abbrev S2x2048x1024 : Shape := ⟨3, ![2, 2048, 1024]⟩
abbrev S1024x2048 : Shape := ⟨2, ![1024, 2048]⟩
abbrev S512x1024 : Shape := ⟨2, ![512, 1024]⟩
abbrev S1x512x1024 : Shape := ⟨3, ![1, 512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2x2048x1024, .bf16⟩
  | .hbm, ⟨2, _⟩ => ⟨S1024x2048, .bf16⟩
  | .local _ .vmem, ⟨0, _⟩ => ⟨S512x1024, .bf16⟩
  | .local _ .vmem, ⟨1, _⟩ => ⟨S512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32_7 : BitVec 32 := 3#32
  let v12 : BitVec 1 := Scalar.cmpi .eq arg1 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WeightGradRefIdeal.lean ====
abbrev S2048x1024 : Shape := ⟨2, ![2048, 1024]⟩
abbrev S2x2048x1024 : Shape := ⟨3, ![2, 2048, 1024]⟩
abbrev S_ : Shape := ⟨0, ![]⟩
abbrev S1024x2048 : Shape := ⟨2, ![1024, 2048]⟩
abbrev S2048x2048 : Shape := ⟨2, ![2048, 2048]⟩
abbrev S1x2048x1024 : Shape := ⟨3, ![1, 2048, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x1024, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x1024, .f32⟩
  | .hbm, ⟨7, _⟩ => ⟨S2048x1024, .f32⟩
  | .hbm, ⟨8, _⟩ => ⟨S1x2048x1024, .f32⟩
  | .hbm, ⟨9, _⟩ => ⟨S1x2048x1024, .f32⟩
  | .hbm, ⟨10, _⟩ => ⟨S2x2048x1024, .f32⟩
  | .hbm, ⟨11, _⟩ => ⟨S2x2048x1024, .f32⟩
  | .hbm, ⟨12, _⟩ => ⟨S1x2048x1024, .f32⟩
  | .hbm, ⟨13, _⟩ => ⟨S2048x1024, .f32⟩
  | .hbm, ⟨14, _⟩ => ⟨S1x2048x1024, .f32⟩
  | .hbm, ⟨15, _⟩ => ⟨S2048x1024, .f32⟩
  | .hbm, ⟨16, _⟩ => ⟨S2048x2048, .f32⟩
  | .hbm, ⟨17, _⟩ => ⟨S2048x1024, .f32⟩
  | .hbm, ⟨18, _⟩ => ⟨S1024x2048, .f32⟩
  | .hbm, ⟨19, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Adamw.lean ====
abbrev S256x1024 : Shape := ⟨2, ![256, 1024]⟩
abbrev S1024x512 : Shape := ⟨2, ![1024, 512]⟩
abbrev S256x256 : Shape := ⟨2, ![256, 256]⟩

abbrev nBuf : Space → Nat
  | .hbm => 28
  | .vmem => 28
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S256x1024, .f32⟩
  | .hbm, ⟨26, _⟩ => ⟨S256x1024, .f32⟩
  | .hbm, ⟨27, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1024x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1024x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S256x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S256x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S256x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AdamwRefIdeal.lean ====
abbrev S256x1024 : Shape := ⟨2, ![256, 1024]⟩
abbrev S1024x512 : Shape := ⟨2, ![1024, 512]⟩
abbrev S256x256 : Shape := ⟨2, ![256, 256]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S256x1024, .f32⟩
  | 1 => ⟨S256x1024, .f32⟩
  | 2 => ⟨S256x1024, .f32⟩
  | 3 => ⟨S256x1024, .f32⟩
  | 4 => ⟨S1024x512, .f32⟩
  | 5 => ⟨S1024x512, .f32⟩
  | 6 => ⟨S1024x512, .f32⟩
  | 7 => ⟨S1024x512, .f32⟩
  | 8 => ⟨S256x256, .f32⟩
  | 9 => ⟨S256x256, .f32⟩
  | 10 => ⟨S256x256, .f32⟩
  | 11 => ⟨S256x256, .f32⟩
  | 12 => ⟨S256x1024, .f32⟩
  | 13 => ⟨S256x1024, .f32⟩
  | 14 => ⟨S256x1024, .f32⟩
  | 15 => ⟨S256x1024, .f32⟩
  | 16 => ⟨S_, .f32⟩
  | 17 => ⟨S256x1024, .f32⟩
  | 18 => ⟨S256x1024, .f32⟩
  | 19 => ⟨S_, .f32⟩
  | 20 => ⟨S256x1024, .f32⟩
  | 21 => ⟨S256x1024, .f32⟩
  | 22 => ⟨S256x1024, .f32⟩
  | 23 => ⟨S_, .f32⟩
  | 24 => ⟨S256x1024, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S256x1024, .f32⟩
  | 31 => ⟨S_, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S256x1024, .f32⟩
  | 46 => ⟨S_, .f32⟩
  | 47 => ⟨S256x1024, .f32⟩
  | 48 => ⟨S256x1024, .f32⟩
  | 49 => ⟨S_, .f32⟩
  | 50 => ⟨S1024x512, .f32⟩
  | 51 => ⟨S1024x512, .f32⟩
  | 52 => ⟨S_, .f32⟩
  | 53 => ⟨S1024x512, .f32⟩
  | 54 => ⟨S1024x512, .f32⟩
  | 55 => ⟨S1024x512, .f32⟩
  | 56 => ⟨S_, .f32⟩
  | 57 => ⟨S1024x512, .f32⟩
  | 58 => ⟨S1024x512, .f32⟩
  | 59 => ⟨S1024x512, .f32⟩
  | 60 => ⟨S_, .f32⟩
  | 61 => ⟨S1024x512, .f32⟩
  | 62 => ⟨S1024x512, .f32⟩
  | 63 => ⟨S1024x512, .f32⟩
  | 64 => ⟨S_, .f32⟩
  | 65 => ⟨S1024x512, .f32⟩
  | 66 => ⟨S1024x512, .f32⟩
  | 67 => ⟨S_, .f32⟩
  | 68 => ⟨S1024x512, .f32⟩
  | 69 => ⟨S1024x512, .f32⟩
  | 70 => ⟨S1024x512, .f32⟩
  | 71 => ⟨S_, .f32⟩
  | 72 => ⟨S1024x512, .f32⟩
  | 73 => ⟨S1024x512, .f32⟩
  | 74 => ⟨S1024x512, .f32⟩
  | 75 => ⟨S_, .f32⟩
  | 76 => ⟨S1024x512, .f32⟩
  | 77 => ⟨S1024x512, .f32⟩
  | 78 => ⟨S1024x512, .f32⟩
  | 79 => ⟨S_, .f32⟩
  | 80 => ⟨S1024x512, .f32⟩
  | 81 => ⟨S1024x512, .f32⟩
  | 82 => ⟨S_, .f32⟩
  | 83 => ⟨S256x256, .f32⟩
  | 84 => ⟨S256x256, .f32⟩
  | 85 => ⟨S_, .f32⟩
  | 86 => ⟨S256x256, .f32⟩
  | 87 => ⟨S256x256, .f32⟩
  | 88 => ⟨S256x256, .f32⟩
  | 89 => ⟨S_, .f32⟩
  | 90 => ⟨S256x256, .f32⟩
  | 91 => ⟨S256x256, .f32⟩
  | 92 => ⟨S256x256, .f32⟩
  | 93 => ⟨S_, .f32⟩
  | 94 => ⟨S256x256, .f32⟩
  | 95 => ⟨S256x256, .f32⟩
  | 96 => ⟨S256x256, .f32⟩
  | 97 => ⟨S_, .f32⟩
  | 98 => ⟨S256x256, .f32⟩
  | 99 => ⟨S256x256, .f32⟩
  | 100 => ⟨S_, .f32⟩
  | 101 => ⟨S256x256, .f32⟩
  | 102 => ⟨S256x256, .f32⟩
  | 103 => ⟨S256x256, .f32⟩
  | 104 => ⟨S_, .f32⟩
  | 105 => ⟨S256x256, .f32⟩
  | 106 => ⟨S256x256, .f32⟩
  | 107 => ⟨S256x256, .f32⟩
  | 108 => ⟨S_, .f32⟩
  | 109 => ⟨S256x256, .f32⟩
  | 110 => ⟨S256x256, .f32⟩
  | 111 => ⟨S256x256, .f32⟩
  | 112 => ⟨S_, .f32⟩
  | 113 => ⟨S256x256, .f32⟩
  | 114 => ⟨S256x256, .f32⟩
  | 115 => ⟨S_, .f32⟩
  | 116 => ⟨S256x1024, .f32⟩
  | 117 => ⟨S256x1024, .f32⟩
  | 118 => ⟨S_, .f32⟩
  | 119 => ⟨S256x1024, .f32⟩
  | 120 => ⟨S256x1024, .f32⟩
  | 121 => ⟨S256x1024, .f32⟩
  | 122 => ⟨S_, .f32⟩
  | 123 => ⟨S256x1024, .f32⟩
  | 124 => ⟨S256x1024, .f32⟩
  | 125 => ⟨S256x1024, .f32⟩
  | 126 => ⟨S_, .f32⟩
  | 127 => ⟨S256x1024, .f32⟩
  | _ => ⟨S256x1024, .f32⟩

abbrev hbmTy0_1 (i : Nat) : BufTy := match i % 128 with
  | 0 => ⟨S256x1024, .f32⟩
  | 1 => ⟨S256x1024, .f32⟩
  | 2 => ⟨S_, .f32⟩
  | 3 => ⟨S256x1024, .f32⟩
  | 4 => ⟨S256x1024, .f32⟩
  | 5 => ⟨S_, .f32⟩
  | 6 => ⟨S256x1024, .f32⟩
  | 7 => ⟨S256x1024, .f32⟩
  | 8 => ⟨S256x1024, .f32⟩
  | 9 => ⟨S_, .f32⟩
  | 10 => ⟨S256x1024, .f32⟩
  | 11 => ⟨S256x1024, .f32⟩
  | 12 => ⟨S256x1024, .f32⟩
  | 13 => ⟨S_, .f32⟩
  | 14 => ⟨S256x1024, .f32⟩
  | 15 => ⟨S256x1024, .f32⟩
  | 16 => ⟨S256x1024, .f32⟩
  | 17 => ⟨S_, .f32⟩
  | 18 => ⟨S256x1024, .f32⟩
  | 19 => ⟨S256x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Sums.lean ====
abbrev S192x1024 : Shape := ⟨2, ![192, 1024]⟩
abbrev S64x1024 : Shape := ⟨2, ![64, 1024]⟩
abbrev S2 : Shape := ⟨1, ![2]⟩
abbrev S2x1024x768 : Shape := ⟨3, ![2, 1024, 768]⟩
abbrev S1x1024 : Shape := ⟨2, ![1, 1024]⟩
abbrev S24x1024 : Shape := ⟨2, ![24, 1024]⟩
abbrev S8x1024 : Shape := ⟨2, ![8, 1024]⟩
abbrev S1 : Shape := ⟨1, ![1]⟩
abbrev S1x3072 : Shape := ⟨2, ![1, 3072]⟩
abbrev S1x768 : Shape := ⟨2, ![1, 768]⟩
abbrev S8x768 : Shape := ⟨2, ![8, 768]⟩
abbrev S1x1024x768 : Shape := ⟨3, ![1, 1024, 768]⟩
abbrev S1024x768 : Shape := ⟨2, ![1024, 768]⟩

abbrev nBuf : Space → Nat
  | .hbm => 13
  | .vmem => 12
  | .smem => 1
  | _ => 0

abbrev bufTy : (tb : Table) → Fin (tcTables nBuf tb) → BufTy
  | .hbm, ⟨0, _⟩ => ⟨S192x1024, .f32⟩
  | .hbm, ⟨1, _⟩ => ⟨S64x1024, .f32⟩
  | .hbm, ⟨2, _⟩ => ⟨S2, .i32⟩
  | .hbm, ⟨3, _⟩ => ⟨S2x1024x768, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S24x1024, .f32⟩
  | .hbm, ⟨8, _⟩ => ⟨S8x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S192x1024, .f32⟩
  | .local _ .vmem, ⟨1, _⟩ => ⟨S64x1024, .f32⟩
  | .local _ .vmem, ⟨2, _⟩ => ⟨S2x1024x768, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S24x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .smem, ⟨0, _⟩ => ⟨S2, .i32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== SumsRefIdeal.lean ====
abbrev S192x1024 : Shape := ⟨2, ![192, 1024]⟩
abbrev S64x1024 : Shape := ⟨2, ![64, 1024]⟩
abbrev S2 : Shape := ⟨1, ![2]⟩
abbrev S2x1024x768 : Shape := ⟨3, ![2, 1024, 768]⟩
abbrev S1x1024 : Shape := ⟨2, ![1, 1024]⟩
abbrev S8x24x1024 : Shape := ⟨3, ![8, 24, 1024]⟩
abbrev S_ : Shape := ⟨0, ![]⟩
abbrev S24x1024 : Shape := ⟨2, ![24, 1024]⟩
abbrev S3x1024 : Shape := ⟨2, ![3, 1024]⟩
abbrev S4x768 : Shape := ⟨2, ![4, 768]⟩
abbrev S1 : Shape := ⟨1, ![1]⟩
abbrev S4 : Shape := ⟨1, ![4]⟩
abbrev S768 : Shape := ⟨1, ![768]⟩
abbrev S8x1024 : Shape := ⟨2, ![8, 1024]⟩
abbrev S1x1024x768 : Shape := ⟨3, ![1, 1024, 768]⟩
abbrev S1024x768 : Shape := ⟨2, ![1024, 768]⟩
abbrev S8x768 : Shape := ⟨2, ![8, 768]⟩
abbrev S4x16x1024 : Shape := ⟨3, ![4, 16, 1024]⟩
abbrev S4x1x1024 : Shape := ⟨3, ![4, 1, 1024]⟩
abbrev S4x1024 : Shape := ⟨2, ![4, 1024]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S64x1024, .f32⟩
  | .hbm, ⟨2, _⟩ => ⟨S2, .i32⟩
  | .hbm, ⟨3, _⟩ => ⟨S2x1024x768, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8x24x1024, .f32⟩
  | .hbm, ⟨8, _⟩ => ⟨S_, .f32⟩
  | .hbm, ⟨9, _⟩ => ⟨S24x1024, .f32⟩
  | .hbm, ⟨10, _⟩ => ⟨S3x1024, .f32⟩
  | .hbm, ⟨11, _⟩ => ⟨S4x768, .f32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S1, .i32⟩
  | .hbm, ⟨20, _⟩ => ⟨S4, .i32⟩
  | .hbm, ⟨21, _⟩ => ⟨S4, .i32⟩
  | .hbm, ⟨22, _⟩ => ⟨S4, .i1⟩
  | .hbm, ⟨23, _⟩ => ⟨S4, .f32⟩
  | .hbm, ⟨24, _⟩ => ⟨S768, .f32⟩
  | .hbm, ⟨25, _⟩ => ⟨S_, .f32⟩
  | .hbm, ⟨26, _⟩ => ⟨S8x1024, .f32⟩
  | .hbm, ⟨27, _⟩ => ⟨S1x1024x768, .f32⟩
  | .hbm, ⟨28, _⟩ => ⟨S1024x768, .f32⟩
  | .hbm, ⟨29, _⟩ => ⟨S8x768, .f32⟩
  | .hbm, ⟨30, _⟩ => ⟨S8x768, .f32⟩
  | .hbm, ⟨31, _⟩ => ⟨S8x1024, .f32⟩
  | .hbm, ⟨32, _⟩ => ⟨S4x16x1024, .f32⟩
  | .hbm, ⟨33, _⟩ => ⟨S4x1x1024, .f32⟩
  | .hbm, ⟨34, _⟩ => ⟨S4x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_v23_2 : Ref sig .tc := ⟨.hbm, 45, rfl⟩
abbrev main_call1_cst_1 : Ref sig .tc := ⟨.hbm, 46, rfl⟩
abbrev main_call1_v6 : Ref sig .tc := ⟨.hbm, 47, rfl⟩
abbrev main_call1_v7 : Ref sig .tc := ⟨.hbm, 48, rfl⟩
abbrev main_v23_1 : Ref sig .tc := ⟨.hbm, 49, rfl⟩
abbrev main_v23_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v24 : Ref sig .tc := ⟨.hbm, 54, rfl⟩
abbrev main_cst_2 : Ref sig .tc := ⟨.hbm, 55, rfl⟩
abbrev main_v25 : Ref sig .tc := ⟨.hbm, 56, rfl⟩
abbrev main_v26 : Ref sig .tc := ⟨.hbm, 57, rfl⟩
abbrev main_cst_3 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_5 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_6 : Ref sig .tc := ⟨.hbm, 70, rfl⟩
abbrev main_v36 : Ref sig .tc := ⟨.hbm, 71, rfl⟩
abbrev main_v37 : Ref sig .tc := ⟨.hbm, 72, rfl⟩
abbrev main_cst_7 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_8 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_9 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_10 : Ref sig .tc := ⟨.hbm, 85, rfl⟩
abbrev main_v47 : Ref sig .tc := ⟨.hbm, 86, rfl⟩
abbrev main_v48 : Ref sig .tc := ⟨.hbm, 87, rfl⟩

abbrev nD : Nat := 1
abbrev τ : Topo := Topo.v7x

variable {F : FTy → Type} [FloatOps F]
-- ==== GradSum.lean ====
abbrev S8x128x1024 : Shape := ⟨3, ![8, 128, 1024]⟩
abbrev S8x512x512 : Shape := ⟨3, ![8, 512, 512]⟩
abbrev S8x4x32x256 : Shape := ⟨4, ![8, 4, 32, 256]⟩
abbrev S128x1024 : Shape := ⟨2, ![128, 1024]⟩
abbrev S512x512 : Shape := ⟨2, ![512, 512]⟩
abbrev S4x32x256 : Shape := ⟨3, ![4, 32, 256]⟩
abbrev S1x128x1024 : Shape := ⟨3, ![1, 128, 1024]⟩
abbrev S1x512x512 : Shape := ⟨3, ![1, 512, 512]⟩
abbrev S1x4x32x256 : Shape := ⟨4, ![1, 4, 32, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S8x512x512, .bf16⟩
  | .hbm, ⟨2, _⟩ => ⟨S8x4x32x256, .bf16⟩
  | .hbm, ⟨3, _⟩ => ⟨S8x128x1024, .bf16⟩
  | .hbm, ⟨4, _⟩ => ⟨S128x1024, .f32⟩
  | .hbm, ⟨5, _⟩ => ⟨S512x512, .f32⟩
  | .hbm, ⟨6, _⟩ => ⟨S4x32x256, .f32⟩
  | .hbm, ⟨7, _⟩ => ⟨S128x1024, .f32⟩
  | .local _ .vmem, ⟨0, _⟩ => ⟨S8x128x1024, .bf16⟩
  | .local _ .vmem, ⟨1, _⟩ => ⟨S8x512x512, .bf16⟩
  | .local _ .vmem, ⟨2, _⟩ => ⟨S8x4x32x256, .bf16⟩
  | .local _ .vmem, ⟨3, _⟩ => ⟨S8x128x1024, .bf16⟩
  | .local _ .vmem, ⟨4, _⟩ => ⟨S128x1024, .f32⟩
  | .local _ .vmem, ⟨5, _⟩ => ⟨S512x512, .f32⟩
  | .local _ .vmem, ⟨6, _⟩ => ⟨S4x32x256, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== GradSumRefIdeal.lean ====
abbrev S8x128x1024 : Shape := ⟨3, ![8, 128, 1024]⟩
abbrev S8x512x512 : Shape := ⟨3, ![8, 512, 512]⟩
abbrev S8x4x32x256 : Shape := ⟨4, ![8, 4, 32, 256]⟩
abbrev S_ : Shape := ⟨0, ![]⟩
abbrev S128x1024 : Shape := ⟨2, ![128, 1024]⟩
abbrev S512x512 : Shape := ⟨2, ![512, 512]⟩
abbrev S4x32x256 : Shape := ⟨3, ![4, 32, 256]⟩

abbrev nBuf : Space → Nat
  | .hbm => 16
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x512x512, .bf16⟩
  | .hbm, ⟨2, _⟩ => ⟨S8x4x32x256, .bf16⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S8x512x512, .f32⟩
  | .hbm, ⟨8, _⟩ => ⟨S_, .f32⟩
  | .hbm, ⟨9, _⟩ => ⟨S512x512, .f32⟩
  | .hbm, ⟨10, _⟩ => ⟨S8x4x32x256, .f32⟩
  | .hbm, ⟨11, _⟩ => ⟨S_, .f32⟩
  | .hbm, ⟨12, _⟩ => ⟨S4x32x256, .f32⟩
  | .hbm, ⟨13, _⟩ => ⟨S8x128x1024, .f32⟩
  | .hbm, ⟨14, _⟩ => ⟨S_, .f32⟩
  | .hbm, ⟨15, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Proof.Reals.lean ====
/- Extended reals that are real numbers: sums, products, quotients and inverse square roots of them are real numbers
   again, and an array all of whose elements are finite is an array of real numbers. Everything the gradients below
   compute is read through these few facts. -/
module

public import Idealize.ShloMosaic.Lib.Pointwise
public import Idealize.ShloMosaic.Lib.Pipeline.ValueKit.Acc
public import Idealize.ShloMosaic.Lib.ReduceAll
public import Idealize.ShloMosaic.Lib.IdealHost

@[expose] public section

noncomputable section

namespace Cert.Reals

open Idealize.ShloMosaic

/-- A finite sum of real numbers is the same sum in the extended reals. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A quotient of real numbers with a denominator that is not zero. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The inverse square root of a positive number. -/
theorem rsqrt_coe (x : ℝ) (hx : 0 < x) : Ideal.rsqrt (x : EReal) = (((Real.sqrt x)⁻¹ : ℝ) : EReal) := by
  show (if x < 0 then (⊥ : EReal) else if x = 0 then ⊤ else ((Real.sqrt x)⁻¹ : ℝ)) = _
  rw [if_neg (not_lt.mpr hx.le), if_neg hx.ne']

/-- The width of a row, 1024, as the constant the programs divide by. -/
theorem ofBits_1024 : Ideal.ofBits .f32 0x44800000#32 = (((1024 : ℕ) : ℝ) : EReal) := by
  simp [Ideal.ofBits, Ideal.ieee, -EReal.coe_mul]; norm_num

/-- The width of a head, 128. -/
theorem ofBits_128 : Ideal.ofBits .f32 0x43000000#32 = (((128 : ℕ) : ℝ) : EReal) := by
  simp [Ideal.ofBits, Ideal.ieee, -EReal.coe_mul]; norm_num

/-- The number the mean square is padded with before its root is taken (the f32 nearest to one millionth). -/
def eps : ℝ := 8796093 / 2 ^ 43

theorem eps_pos : 0 < eps := by unfold eps; positivity

theorem ofBits_eps : Ideal.ofBits .f32 0x358637BD#32 = ((eps : ℝ) : EReal) := by
  unfold eps
  simp [Ideal.ofBits, Ideal.ieee, -EReal.coe_mul]; norm_num

theorem ofBits_neg_half : Ideal.ofBits .f32 0xBF000000#32 = ((-1 / 2 : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_inf : Ideal.ofBits .f32 0x7F800000#32 = ⊤ := by
  simp [Ideal.ofBits, Ideal.ieee]

/-- An extended real whose absolute value compares below infinity is a real number. -/
theorem coe_toReal_of_abs_lt (x : EReal) (h : Ideal.cmp .olt (max x (-x)) ⊤ = 1#1) : ((x.toReal : ℝ) : EReal) = x := by
  have h' : max x (-x) < ⊤ := by
    by_contra hn
    simp [Ideal.cmp, hn] at h
  refine EReal.coe_toReal (fun e => ?_) (fun e => ?_)
  · rw [e] at h'; simp at h'
  · rw [e] at h'; simp at h'

/-- Where an array's absolute values all compare below infinity the array is one of real numbers. -/
theorem exists_coe {s : Shape} (x : s.Idx → EReal) (h : ∀ i, Ideal.cmp .olt (max (x i) (-(x i))) ⊤ = 1#1) :
    ∃ X : s.Idx → ℝ, ∀ i, x i = (X i : EReal) :=
  ⟨fun i => (x i).toReal, fun i => (coe_toReal_of_abs_lt _ (h i)).symm⟩

/-- The test `all (|x| < ∞)` of a precondition: an array that passes it is the cast of a real one. -/
theorem exists_real {s t u : Shape} {axes : List (Fin s.rank)} [Subsingleton t.Idx] (x : FVec Ideal s .f32) (d : Fin 0 → Fin s.rank)
    (hb : (⟨0, ![]⟩ : Shape).BroadcastsInDim s d) (init : IVec u 1) (h : s.ReducesTo axes t) (hu : 0 < u.numel) (j : t.Idx)
    (e : Host.reduce IntOp.andi (cmpf .olt (Host.absf x) (broadcastInDim s d hb (constant (F := Ideal) ⟨0, ![]⟩ .f32 0x7F800000#32))) init h hu j = 1#1) :
    ∃ X : s.Idx → ℝ, ∀ i, x i = (X i : EReal) := by
  refine exists_coe x fun i => ?_
  have h1 := Host.reduce_andi_all _ _ _ _ _ e i
  rw [← ofBits_inf]
  exact h1

/-- The same of an array in the narrower format. -/
theorem exists_real_half {s t u : Shape} {axes : List (Fin s.rank)} [Subsingleton t.Idx] (x : FVec Ideal s .bf16) (hl : FTy.bits .bf16 < FTy.bits .f32)
    (d : Fin 0 → Fin s.rank) (hb : (⟨0, ![]⟩ : Shape).BroadcastsInDim s d) (init : IVec u 1) (h : s.ReducesTo axes t) (hu : 0 < u.numel) (j : t.Idx)
    (e : Host.reduce IntOp.andi (cmpf .olt (Host.absf (extf .f32 x hl)) (broadcastInDim s d hb (constant (F := Ideal) ⟨0, ![]⟩ .f32 0x7F800000#32))) init h hu j = 1#1) :
    ∃ X : s.Idx → ℝ, ∀ i, x i = (X i : EReal) :=
  exists_real (extf .f32 x hl) d hb init h hu j e

instance : Subsingleton (⟨0, ![]⟩ : Shape).Idx := ⟨fun a b => funext fun i => i.elim0⟩

theorem _root_.Fin.mul_add_lt {N n : ℕ} (t : Fin N) (r : Fin n) : t.val * n + r.val < N * n :=
  calc t.val * n + r.val < t.val * n + n := Nat.add_lt_add_left r.isLt _
    _ = (t.val + 1) * n := (Nat.succ_mul _ _).symm
    _ ≤ N * n := Nat.mul_le_mul_right n t.isLt

/-- A sum gathered over the points of one run: zeroed at the first point, then each point adds its rows' terms. The last
    point holds the sum over all rows. -/
theorem acc_total {N n M : ℕ} (J : ℕ) (f : (k : ℕ) → k < N → EReal) (U : Fin M → ℝ) (hM : N * n = M)
    (h : ∀ t : Fin N, f t.val t.isLt
      = (if t.val % J = 0 then 0 else f (t.val - 1) (Nat.lt_of_le_of_lt (Nat.sub_le _ _) t.isLt))
        + ((∑ r : Fin n, U ⟨t.val * n + r.val, hM ▸ Fin.mul_add_lt t r⟩ : ℝ) : EReal))
    (hJ : N ≤ J) (t : Fin N) (ht : t.val + 1 = N) : f t.val t.isLt = ((∑ k, U k : ℝ) : EReal) := by
  rw [Pipeline.eq_sum_fin_of_reset_step_last f J 0 _ (fun t e => by rw [h t, if_pos e]) (fun t e => by rw [h t, if_neg e]) hJ t ht,
    zero_add, coe_sum, Fin.sum_univ_tiles N n hM]

end Cert.Reals

end
-- ==== Proof.Norm.lean ====
/- The gradient of a modulated RMS norm, over the real numbers: the rows' functions that both programs compute, and the
   one identity between the two ways of writing the gradient with respect to the input. -/
module

public import proofs.«01_k».proof.Proof.Reals

@[expose] public section

noncomputable section

namespace Cert.Norm

open Cert.Reals Idealize.ShloMosaic

variable {n : ℕ}

/-- The padded mean square of a row of `n` numbers. -/
def meanSq (x : Fin n → ℝ) : ℝ := (∑ l, x l * x l) / n + eps

theorem meanSq_pos (x : Fin n → ℝ) : 0 < meanSq x :=
  add_pos_of_nonneg_of_pos (div_nonneg (Finset.sum_nonneg fun l _ => mul_self_nonneg (x l)) (Nat.cast_nonneg n)) eps_pos

/-- The inverse root mean square of a row. -/
def rms (x : Fin n → ℝ) : ℝ := (Real.sqrt (meanSq x))⁻¹

theorem rms_sq (x : Fin n → ℝ) : rms x * rms x = (meanSq x)⁻¹ := by
  unfold rms; rw [← mul_inv, Real.mul_self_sqrt (meanSq_pos x).le]

theorem rsqrt_meanSq (x : Fin n → ℝ) : Ideal.rsqrt ((meanSq x : ℝ) : EReal) = ((rms x : ℝ) : EReal) :=
  rsqrt_coe _ (meanSq_pos x)

/-- The padded mean square as the programs compute it. -/
theorem meanSq_coe [NeZero n] (x : Fin n → ℝ) :
    Ideal.div (∑ l, (x l : EReal) * (x l : EReal)) ((n : ℝ) : EReal) + ((eps : ℝ) : EReal) = ((meanSq x : ℝ) : EReal) := by
  simp only [← EReal.coe_mul, coe_sum]
  rw [div_coe _ _ (Nat.cast_ne_zero.mpr (NeZero.ne n)), ← EReal.coe_add]; rfl

/-- One element of the gradient with respect to a projection's input: both sections of the cotangent's row against the
    weight's row. -/
def projGrad (g : Fin 2 → Fin 1024 → ℝ) (w : Fin 2048 → ℝ) : ℝ :=
  (∑ k : Fin 1024, g 0 k * w ⟨k.val, by omega⟩) + ∑ k : Fin 1024, g 1 k * w ⟨1024 + k.val, by omega⟩

/-- The input's gradient of one row: `e` is the gradient with respect to the normalised row. -/
def grad (x e : Fin n → ℝ) (l : Fin n) : ℝ :=
  rms x * (e l - x l * rms x * ((∑ k, e k * (x k * rms x)) / n))

/-- The same gradient as the rule for a quotient of roots writes it: the direct term, and twice the input times the
    gradient of the mean square. -/
theorem grad_eq (x e : Fin n → ℝ) (l : Fin n) :
    grad x e l = e l * rms x
      + (x l * ((∑ k, x k * e k) * (-1 / 2 * (rms x / meanSq x)) / n)
        + ((∑ k, x k * e k) * (-1 / 2 * (rms x / meanSq x)) / n) * x l) := by
  have h : ∑ k, e k * (x k * rms x) = rms x * ∑ k, x k * e k := by
    rw [Finset.mul_sum]; exact Finset.sum_congr rfl fun k _ => by ring
  have h2 : rms x / meanSq x = rms x * (rms x * rms x) := by rw [rms_sq, div_eq_mul_inv]
  unfold grad
  rw [h, h2]
  ring

end Cert.Norm

end
-- ==== Proof.PoolInBlock.lean ====
/- One grid point of the pooling block's norm-gradient kernel, read at an index: from its blocks of 512 rows, the product
   with the transposed projection, the input's gradient, and what the point adds to the column sums. -/
module

public import proofs.«01_k».proof.Proof.Gen.KernelIdeal.Value
public import proofs.«01_k».proof.Proof.Norm
public import Idealize.ShloMosaic.Lib.WritesUnit

@[expose] public section

set_option maxRecDepth 16384

noncomputable section

namespace Cert.PoolIn

open Cert.KernelIdeal Cert.KernelIdeal.Gen Idealize.ShloMosaic Idealize.ShloMosaic.TcCoe Idealize.SL.Sem
open Cert.Reals Cert.Norm

/-! ## The payloads at an index, over blocks of real numbers -/

section
variable (g : Vec Ideal S2x512x1024 .bf16) (w : Vec Ideal S1024x2048 .bf16) (x up : Vec Ideal S512x1024 .f32)
  (nw : Vec Ideal S1x1024 .f32) (sc : Vec Ideal S1x1x1024 .f32)

/-- Section `s` of the cotangent's block. -/
abbrev sec0 : Vec Ideal S1x512x1024 .bf16 :=
  View.ld (Val := Elt Ideal) (e' := .bf16) g (Rect.unit (s := S2x512x1024) ![0, 0, 0] ![1, 512, 1024] inb_S2x512x1024_S1x512x1024_0_0_0)
abbrev sec1 : Vec Ideal S1x512x1024 .bf16 :=
  View.ld (Val := Elt Ideal) (e' := .bf16) g (Rect.unit (s := S2x512x1024) ![1, 0, 0] ![1, 512, 1024] inb_S2x512x1024_S1x512x1024_1_0_0)
/-- The columns of the projection that make section `s`. -/
abbrev cols0 : Vec Ideal S1024x1024 .bf16 :=
  View.ld (Val := Elt Ideal) (e' := .bf16) w (Rect.unit (s := S1024x2048) ![0, 0] ![1024, 1024] inb_S1024x2048_S1024x1024_0_0)
abbrev cols1 : Vec Ideal S1024x1024 .bf16 :=
  View.ld (Val := Elt Ideal) (e' := .bf16) w (Rect.unit (s := S1024x2048) ![0, 1024] ![1024, 1024] inb_S1024x2048_S1024x1024_0_1024)

/-- The gradient with respect to the projection's input: both sections of the cotangent against the weight's columns. -/
abbrev dhBlock : FVec Ideal S512x1024 .f32 := k0_pay4 (sec0 g) (cols0 w) (sec1 g) (cols1 w)

theorem dhBlock_apply (r : Fin 512) (l : Fin 1024) : dhBlock g w (ix2 r l)
    = (∑ k : Fin 1024, g (ix3 0 r k) * w (ix2 l ⟨k.val, by omega⟩)) + ∑ k : Fin 1024, g (ix3 1 r k) * w (ix2 l ⟨1024 + k.val, by omega⟩) := by
  pointwise [dhBlock, k0_pay4, sec0, sec1, cols0, cols1]

/-- The block of the input's gradient. -/
abbrev dxBlock : FVec Ideal S512x1024 .f32 := k0_pay1 (k0_pay5 x) (k0_pay6 x) (k0_pay11 (dhBlock g w) nw sc) up

end

/-! ## Over blocks of real numbers -/

section
variable {g : Vec Ideal S2x512x1024 .bf16} {w : Vec Ideal S1024x2048 .bf16} {x up : Vec Ideal S512x1024 .f32}
  {nw : Vec Ideal S1x1024 .f32} {sc : Vec Ideal S1x1x1024 .f32}
variable {G : Fin 2 → Fin 512 → Fin 1024 → ℝ} {W : Fin 1024 → Fin 2048 → ℝ} {X D : Fin 512 → Fin 1024 → ℝ} {N S : Fin 1024 → ℝ}
variable (hg : ∀ s r k, g (ix3 s r k) = (G s r k : EReal)) (hw : ∀ l k, w (ix2 l k) = (W l k : EReal))
variable (hD : ∀ r l, dhBlock g w (ix2 r l) = (D r l : EReal)) (hx : ∀ r l, x (ix2 r l) = (X r l : EReal))
  (hn : ∀ l, nw (ix2 0 l) = (N l : EReal)) (hs : ∀ l, sc (ix3 0 0 l) = (S l : EReal))

include hg hw in
theorem dhBlock_coe (r : Fin 512) (l : Fin 1024) : dhBlock g w (ix2 r l) = (projGrad (fun s => G s r) (W l) : EReal) := by
  rw [dhBlock_apply]
  simp only [hg, hw, ← EReal.coe_mul, coe_sum, ← EReal.coe_add]; rfl

include hD hx hn hs in
theorem dxBlock_coe (r : Fin 512) (l : Fin 1024) : dxBlock g w x up nw sc (ix2 r l)
    = up (ix2 r l) + (grad (X r) (fun k => D r k * (1 + S k) * N k) l : EReal) := by
  pointwise [dxBlock, k0_pay1, k0_pay5, k0_pay6, k0_pay11, k0_pay9]
  rw [ofBits_1024, ofBits_eps]
  simp only [hD, hx, hn, hs, meanSq_coe, rsqrt_meanSq]
  simp only [← EReal.coe_one, ← EReal.coe_add, ← EReal.coe_mul, coe_sum,
    div_coe _ _ (by norm_num : ((1024 : ℕ) : ℝ) ≠ 0), ← EReal.coe_sub]
  rfl

include hD hx hs in
theorem pay10_coe (p : Vec Ideal S1x1024 .f32) (l : Fin 1024) : k0_pay10 (dhBlock g w) (k0_pay6 x) sc p (ix2 0 l)
    = p (ix2 0 l) + ((∑ r, D r l * (1 + S l) * (X r l * rms (X r)) : ℝ) : EReal) := by
  pointwise [k0_pay10, k0_pay5, k0_pay6, k0_pay11, k0_pay9]
  rw [ofBits_1024, ofBits_eps]
  simp only [hD, hx, hs, meanSq_coe, rsqrt_meanSq]
  simp only [← EReal.coe_one, ← EReal.coe_add, ← EReal.coe_mul, coe_sum]

include hD in
theorem pay7_coe (p : Vec Ideal S1x1x1024 .f32) (l : Fin 1024) : k0_pay7 (dhBlock g w) p (ix3 0 0 l)
    = p (ix3 0 0 l) + ((∑ r, D r l : ℝ) : EReal) := by
  pointwise [k0_pay7]
  simp only [hD, coe_sum]

include hD hx hn in
theorem pay8_coe (p : Vec Ideal S1x1x1024 .f32) (l : Fin 1024) : k0_pay8 (dhBlock g w) (k0_pay6 x) nw p (ix3 0 0 l)
    = p (ix3 0 0 l) + ((∑ r, D r l * (X r l * rms (X r) * N l) : ℝ) : EReal) := by
  pointwise [k0_pay8, k0_pay5, k0_pay6]
  rw [ofBits_1024, ofBits_eps]
  simp only [hD, hx, hn, meanSq_coe, rsqrt_meanSq]
  simp only [← EReal.coe_mul, coe_sum]
end

/-! ## What a point leaves -/

variable (m : (ℓ : Loc nD τ sig) → Buf (Elt Ideal) ℓ) (c : Dev nD) (t : Fin cfg0.N)

theorem hz2 : (![0, 0] : Fin 2 → Nat) = fun _ => 0 := funext fun a => by fin_cases a <;> rfl
theorem hz3 : (![0, 0, 0] : Fin 3 → Nat) = fun _ => 0 := funext fun a => by fin_cases a <;> rfl

/-- The input blocks of point `t`. -/
abbrev gB : Vec Ideal S2x512x1024 .bf16 := iblk m c 0 t
abbrev wB : Vec Ideal S1024x2048 .bf16 := iblk m c 1 t
abbrev xB : Vec Ideal S512x1024 .f32 := iblk m c 2 t
abbrev nB : Vec Ideal S1x1024 .f32 := iblk m c 3 t
abbrev sB : Vec Ideal S1x1x1024 .f32 := iblk m c 4 t
abbrev uB : Vec Ideal S512x1024 .f32 := iblk m c 5 t
/-- What the points before `t` left of the column sums. -/
abbrev dnwPrev : Vec Ideal S1x1024 .f32 := (outsAt0 m c (t.val - 1) (Nat.lt_of_le_of_lt (Nat.sub_le _ _) t.isLt)).2.1
abbrev dmodPrev : Vec Ideal S1x8x1024 .f32 := (outsAt0 m c (t.val - 1) (Nat.lt_of_le_of_lt (Nat.sub_le _ _) t.isLt)).2.2

theorem dx_out : (outsAt0 m c t.val t.isLt).1 = dxBlock (gB m c t) (wB m c t) (xB m c t) (uB m c t) (nB m c t) (sB m c t) := by
  by_cases h : t.val % 4 = 0
  · rw [outsAt0_A m c t h h]
    dsimp only
    unfold out0_A_6
    rw [View.read_writes_eq_canon _ _ _ (fun y => cover0_A_6 (y := y) ..)]
    unfold kernelRun0_A
    dsimp only
    sl_unfold_words
    simp only [View.canon_unit_zero (S := S512x1024) hz2, View.canon_unit_zero (S := S1x1024) hz2, View.readAt_eq_ld, (hs0_0 t).read_unread, (hs0_1 t).read_unread, (hs0_2 t).read_unread,
      (hs0_3 t).read_unread, (hs0_4 t).read_unread, (hs0_5 t).read_unread, View.ld_unit_zero (S := S512x1024) hz2,
      View.ld_unit_zero (S := S1x1024) hz2, View.ld_unit_zero (S := S1x1x1024) hz3]
  · rw [outsAt0_B m c t h h]
    dsimp only
    unfold out0_B_6
    rw [View.read_writes_eq_canon _ _ _ (fun y => cover0_B_6 (y := y) ..)]
    unfold kernelRun0_B
    dsimp only
    sl_unfold_words
    simp only [View.canon_unit_zero (S := S512x1024) hz2, View.canon_unit_zero (S := S1x1024) hz2, View.readAt_eq_ld, (hs0_0 t).read_unread, (hs0_1 t).read_unread, (hs0_2 t).read_unread,
      (hs0_3 t).read_unread, (hs0_4 t).read_unread, (hs0_5 t).read_unread, View.ld_unit_zero (S := S512x1024) hz2,
      View.ld_unit_zero (S := S1x1024) hz2, View.ld_unit_zero (S := S1x1x1024) hz3]

/-- What the norm weight's sum held before point `t` added to it. -/
def dnwBefore (l : Fin 1024) : EReal := if t.val % 4 = 0 then 0 else dnwPrev m c t (ix2 0 l)

theorem dnw_out : ∃ p, (∀ l, p (ix2 0 l) = dnwBefore m c t l) ∧
    (outsAt0 m c t.val t.isLt).2.1 = k0_pay10 (dhBlock (gB m c t) (wB m c t)) (k0_pay6 (xB m c t)) (sB m c t) p := by
  by_cases h : t.val % 4 = 0
  · refine ⟨k0_pay2 (F := Ideal), fun l => ?_, ?_⟩
    · unfold dnwBefore
      rw [if_pos h]
      pointwise [k0_pay2]
    rw [outsAt0_A m c t h h]
    dsimp only
    unfold out0_A_7
    rw [View.read_writes_eq_canon _ _ _ (fun y => cover0_A_7 (y := y) ..)]
    unfold kernelRun0_A
    dsimp only
    sl_unfold_words
    simp only [View.canon_cons_unit_zero (S := S1x1024) hz2, View.readCov_unit_zero (S := S1x1024) _ hz2, View.readAt_eq_ld, (hs0_0 t).read_unread, (hs0_1 t).read_unread, (hs0_2 t).read_unread,
      (hs0_3 t).read_unread, (hs0_4 t).read_unread, (hs0_5 t).read_unread, View.ld_unit_zero (S := S512x1024) hz2,
      View.ld_unit_zero (S := S1x1024) hz2, View.ld_unit_zero (S := S1x1x1024) hz3]
  · refine ⟨dnwPrev m c t, fun l => ?_, ?_⟩
    · unfold dnwBefore
      rw [if_neg h]
    rw [outsAt0_B m c t h h]
    dsimp only
    unfold out0_B_7
    rw [View.read_writes_eq_canon _ _ _ (fun y => cover0_B_7 (y := y) ..)]
    unfold kernelRun0_B
    dsimp only
    sl_unfold_words
    simp only [View.canon_unit_zero (S := S512x1024) hz2, View.canon_unit_zero (S := S1x1024) hz2, View.readAt_eq_ld, (hs0_0 t).read_unread, (hs0_1 t).read_unread, (hs0_2 t).read_unread,
      (hs0_3 t).read_unread, (hs0_4 t).read_unread, (hs0_5 t).read_unread, (hs0_7 t).read_unread, View.ld_unit_zero (S := S512x1024) hz2,
      View.ld_unit_zero (S := S1x1024) hz2, View.ld_unit_zero (S := S1x1x1024) hz3]

/-- What row `k` of the second and third column sums held before point `t` added to it. -/
def dmodBefore (k : Fin 8) (l : Fin 1024) : EReal := if t.val % 4 = 0 then 0 else dmodPrev m c t (ix3 0 k l)

theorem shift_out (l : Fin 1024) : ∃ p, (∀ l, p (ix3 0 0 l) = dmodBefore m c t 0 l) ∧
    (outsAt0 m c t.val t.isLt).2.2 (ix3 0 0 l) = k0_pay7 (dhBlock (gB m c t) (wB m c t)) p (ix3 0 0 l) := by
  by_cases h : t.val % 4 = 0
  · rw [outsAt0_A m c t h h]
    dsimp only
    unfold out0_A_8 kernelRun0_A
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_8 t).read_unread, View.ld_unit_zero (S := S512x1024) hz2,
      View.ld_unit_zero (S := S1x1024) hz2, View.ld_unit_zero (S := S1x1x1024) hz3]
    rw [View.read_writes_cons_unit_of_not_mem _ _ _ _ _ _ rfl 1 (Or.inl Nat.zero_lt_one),
      View.read_writes_cons_unit_of_mem _ _ _ _ _ _ (ix3 0 0 l) rfl (fun a => by fin_cases a <;> simp [ix3])]
    refine ⟨_, fun l => ?_, rfl⟩
    rw [View.readCov_eq_canon', View.canon_cons_unit_zero (S := S1x8x1024) hz3]
    unfold dmodBefore
    rw [if_pos h]
    pointwise [k0_pay3]
  · rw [outsAt0_B m c t h h]
    dsimp only
    unfold out0_B_8 kernelRun0_B
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_8 t).read_unread, View.ld_unit_zero (S := S512x1024) hz2,
      View.ld_unit_zero (S := S1x1024) hz2, View.ld_unit_zero (S := S1x1x1024) hz3]
    rw [View.read_writes_cons_unit_of_not_mem _ _ _ _ _ _ rfl 1 (Or.inl Nat.zero_lt_one),
      View.read_writes_cons_unit_of_mem _ _ _ _ _ _ (ix3 0 0 l) rfl (fun a => by fin_cases a <;> simp [ix3])]
    refine ⟨_, fun l => ?_, rfl⟩
    unfold dmodBefore
    rw [if_neg h]
    pointwise []

theorem scale_out (l : Fin 1024) : ∃ p, (∀ l, p (ix3 0 0 l) = dmodBefore m c t 1 l) ∧
    (outsAt0 m c t.val t.isLt).2.2 (ix3 0 1 l) = k0_pay8 (dhBlock (gB m c t) (wB m c t)) (k0_pay6 (xB m c t)) (nB m c t) p (ix3 0 0 l) := by
  by_cases h : t.val % 4 = 0
  · rw [outsAt0_A m c t h h]
    dsimp only
    unfold out0_A_8 kernelRun0_A
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_8 t).read_unread, View.ld_unit_zero (S := S512x1024) hz2,
      View.ld_unit_zero (S := S1x1024) hz2, View.ld_unit_zero (S := S1x1x1024) hz3]
    rw [View.read_writes_cons_unit_of_mem _ _ _ _ _ _ (ix3 0 0 l) rfl (fun a => by fin_cases a <;> simp [ix3])]
    refine ⟨_, fun l => ?_, rfl⟩
    rw [View.readCov_cons_of_disjoint, View.readCov_eq_canon', View.canon_cons_unit_zero (S := S1x8x1024) hz3]
    · unfold dmodBefore
      rw [if_pos h]
      pointwise [k0_pay3]
    · exact Rect.unit_disjoint (inb := inb_S1x8x1024_S1x1x1024_0_0_0) 1 (Or.inl Nat.le.refl)
  · rw [outsAt0_B m c t h h]
    dsimp only
    unfold out0_B_8 kernelRun0_B
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_8 t).read_unread, View.ld_unit_zero (S := S512x1024) hz2,
      View.ld_unit_zero (S := S1x1024) hz2, View.ld_unit_zero (S := S1x1x1024) hz3]
    rw [View.read_writes_cons_unit_of_mem _ _ _ _ _ _ (ix3 0 0 l) rfl (fun a => by fin_cases a <;> simp [ix3])]
    refine ⟨_, fun l => ?_, rfl⟩
    unfold dmodBefore
    rw [if_neg h]
    pointwise []

theorem rest_out (k : Fin 8) (hk : 2 ≤ k.val) (l : Fin 1024) :
    (outsAt0 m c t.val t.isLt).2.2 (ix3 0 k l) = dmodBefore m c t k l := by
  by_cases h : t.val % 4 = 0
  · rw [outsAt0_A m c t h h]
    dsimp only
    unfold out0_A_8 kernelRun0_A
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_8 t).read_unread, View.ld_unit_zero (S := S512x1024) hz2,
      View.ld_unit_zero (S := S1x1024) hz2, View.ld_unit_zero (S := S1x1x1024) hz3]
    rw [View.read_writes_cons_unit_of_not_mem _ _ _ _ _ _ rfl 1 (Or.inr hk),
      View.read_writes_cons_unit_of_not_mem _ _ _ _ _ _ rfl 1 (Or.inr (Nat.le_trans (by decide) hk)),
      View.read_writes_cons_unit_of_mem _ _ _ _ _ _ (ix3 0 k l) rfl (fun a => by fin_cases a <;> simp [ix3])]
    unfold dmodBefore
    rw [if_pos h]
    pointwise [k0_pay3]
  · rw [outsAt0_B m c t h h]
    dsimp only
    unfold out0_B_8 kernelRun0_B
    dsimp only
    sl_unfold_words
    simp only [View.readAt_eq_ld, (hs0_0 t).read_unread, (hs0_1 t).read_unread, (hs0_2 t).read_unread,
      (hs0_3 t).read_unread, (hs0_4 t).read_unread, (hs0_5 t).read_unread, (hs0_8 t).read_unread, View.ld_unit_zero (S := S512x1024) hz2,
      View.ld_unit_zero (S := S1x1024) hz2, View.ld_unit_zero (S := S1x1x1024) hz3]
    rw [View.read_writes_cons_unit_of_not_mem _ _ _ _ _ _ rfl 1 (Or.inr hk),
      View.read_writes_cons_unit_of_not_mem _ _ _ _ _ _ rfl 1 (Or.inr (Nat.le_trans (by decide) hk))]
    unfold dmodBefore
    rw [if_neg h]
    exact congrFun ((hs0_8 t).read_unread _) _

end Cert.PoolIn

end
-- ==== Proof.PoolInMath.lean ====
/- The gradients of the pooling block's input norm as functions of real arrays: cotangent `G` of the projection's two
   sections, projection weight `W`, input `X`, norm weight `N`, modulation scale `S`. -/
module

public import proofs.«01_k».proof.Proof.Norm

@[expose] public section

noncomputable section

namespace Cert.PoolIn

open Cert.Reals Cert.Norm

variable {R : ℕ} (G : Fin 2 → Fin R → Fin 1024 → ℝ) (W : Fin 1024 → Fin 2048 → ℝ) (X : Fin R → Fin 1024 → ℝ) (N S : Fin 1024 → ℝ)

/-- The gradient with respect to the projection's input. -/
def dh (r : Fin R) (l : Fin 1024) : ℝ := projGrad (fun s => G s r) (W l)
/-- The input's gradient through the norm. -/
def dxn (r : Fin R) (l : Fin 1024) : ℝ := grad (X r) (fun k => dh G W r k * (1 + S k) * N k) l
/-- The norm weight's gradient. -/
def dnw (l : Fin 1024) : ℝ := ∑ r, dh G W r l * (1 + S l) * (X r l * rms (X r))
/-- The modulation shift's gradient. -/
def dshift (l : Fin 1024) : ℝ := ∑ r, dh G W r l
/-- The modulation scale's gradient. -/
def dscale (l : Fin 1024) : ℝ := ∑ r, dh G W r l * (X r l * rms (X r) * N l)

/-- The modulation's gradient as the kernels pack it: shift, scale, six zero rows. -/
def dmod (k : Fin 8) (l : Fin 1024) : ℝ := if k = 0 then dshift G W l else if k = 1 then dscale G W X N l else 0

/-- An array plus a real array. -/
def addReal {R C : ℕ} (U : (⟨2, ![R, C]⟩ : Idealize.ShloMosaic.Shape).Idx → EReal) (D : Fin R → Fin C → ℝ) :
    (⟨2, ![R, C]⟩ : Idealize.ShloMosaic.Shape).Idx → EReal := fun i => U i + (D (i 0) (i 1) : EReal)

end Cert.PoolIn

end
-- ==== Proof.PoolInArray.lean ====
/- The pooling block's norm-gradient kernel over its whole arrays: where each block sits, the column sums over the four
   points, and the three result arrays as the gradients of real arrays. -/
module

public import proofs.«01_k».proof.Proof.PoolInBlock
public import proofs.«01_k».proof.Proof.PoolInMath
public import Idealize.ShloMosaic.Lib.Pipeline.ValueKit

@[expose] public section

set_option maxRecDepth 16384

noncomputable section

namespace Cert.PoolIn

open Cert.KernelIdeal Cert.KernelIdeal.Gen Idealize.ShloMosaic Idealize.ShloMosaic.TcCoe Idealize.SL.Sem
open Cert.Reals Cert.Norm

variable (m : (ℓ : Loc nD τ sig) → Buf (Elt Ideal) ℓ) (c : Dev nD) (t : Fin cfg0.N)

theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)

/-- Row `r` of point `t`'s block. -/
def row (r : Fin 512) : Fin 2048 := ⟨t.val * 512 + r.val, by have := t.isLt; have : cfg0.N = 4 := N_0; omega⟩

theorem rows_total : cfg0.N * 512 = 2048 := by rw [show cfg0.N = 4 from N_0]
theorem last (h : t.val % 4 = 3) : t.val + 1 = cfg0.N := by have := t.isLt; have : cfg0.N = 4 := N_0; omega

theorem gB_apply (s : Fin 2) (r : Fin 512) (k : Fin 1024) :
    gB m c t (ix3 s r k) = m ((c : Thread nD τ).loc main_arg0) (ix3 s (row t r) k) := by
  unfold gB
  blk_simp [iblk, V_main_arg0]
  congr 1
  blk_ext [idx0 t, row]

theorem wB_apply (l : Fin 1024) (k : Fin 2048) : wB m c t (ix2 l k) = m ((c : Thread nD τ).loc main_arg1) (ix2 l k) := by
  unfold wB
  blk_simp [iblk, V_main_arg1]
  congr 1
  blk_ext [idx1 t]

theorem xB_apply (r : Fin 512) (l : Fin 1024) : xB m c t (ix2 r l) = m ((c : Thread nD τ).loc main_arg2) (ix2 (row t r) l) := by
  unfold xB
  blk_simp [iblk, V_main_arg2]
  congr 1
  blk_ext [idx2 t, row]

theorem nB_apply (l : Fin 1024) : nB m c t (ix2 0 l) = m ((c : Thread nD τ).loc main_arg3) (ix2 0 l) := by
  unfold nB
  blk_simp [iblk, V_main_arg3]
  congr 1
  blk_ext [idx3 t]

theorem uB_apply (r : Fin 512) (l : Fin 1024) : uB m c t (ix2 r l) = m ((c : Thread nD τ).loc main_arg6) (ix2 (row t r) l) := by
  unfold uB
  blk_simp [iblk, V_main_arg6]
  congr 1
  blk_ext [idx5 t, row]

theorem sB_apply (l : Fin 1024) : sB m c t (ix3 0 0 l) = m ((c : Thread nD τ).loc main_arg5) (ix2 0 l) := by
  unfold sB
  have e : V m c main_v0 = shapeCast S1x1x1024 (m ((c : Thread nD τ).loc main_arg5) : Vec Ideal S1x1024 .f32) shapeCasts_S1x1024_S1x1x1024 := by
    unfold V hostOps0
    after_results
    rfl
  blk_simp [iblk, e]
  have e' : (win0_4.blk t).view.emb (ix3 0 0 l) = (ix3 0 0 l : S1x1x1024.Idx) := by blk_ext [idx4 t]
  rw [e']
  pointwise []

section
variable {m} {c}
variable {G : Fin 2 → Fin 2048 → Fin 1024 → ℝ} {W : Fin 1024 → Fin 2048 → ℝ} {X : Fin 2048 → Fin 1024 → ℝ} {N S : Fin 1024 → ℝ}
variable (hg : ∀ s r k, m ((c : Thread nD τ).loc main_arg0) (ix3 s r k) = (G s r k : EReal))
  (hw : ∀ l k, m ((c : Thread nD τ).loc main_arg1) (ix2 l k) = (W l k : EReal))
  (hx : ∀ r l, m ((c : Thread nD τ).loc main_arg2) (ix2 r l) = (X r l : EReal))
  (hn : ∀ l, m ((c : Thread nD τ).loc main_arg3) (ix2 0 l) = (N l : EReal))
  (hs : ∀ l, m ((c : Thread nD τ).loc main_arg5) (ix2 0 l) = (S l : EReal))

include hg hw in
theorem dhB_coe (r : Fin 512) (l : Fin 1024) : dhBlock (gB m c t) (wB m c t) (ix2 r l) = (dh G W (row t r) l : EReal) :=
  dhBlock_coe (G := fun s r k => G s (row t r) k) (W := W) (fun s r k => (gB_apply m c t s r k).trans (hg ..))
    (fun l k => (wB_apply m c t l k).trans (hw ..)) r l

include hg hw hx hn hs

/-- The input's gradient. -/
theorem dx_final : (dats m 0 c).arrAt 6 cfg0.N
    = addReal (m ((c : Thread nD τ).loc main_arg6)) (dxn G W X N S) := by
  refine (dats m 0 c).arrAt_eq_of_covers 6 _ (by decide +kernel) fun t hf y => ?_
  blk_simp
  rw [after0_6, dx_out]
  obtain ⟨r, l, rfl⟩ : ∃ (r : Fin 512) (l : Fin 1024), y = ix2 r l := ⟨y 0, y 1, eq_ix2 y⟩
  refine (dxBlock_coe (X := fun r l => X (row t r) l) (dhB_coe t hg hw)
    (fun r l => (xB_apply m c t r l).trans (hx ..)) (fun l => (nB_apply m c t l).trans (hn l))
    (fun l => (sB_apply m c t l).trans (hs l)) r l).trans ?_
  rw [uB_apply]
  have e : (win0_6.blk t).view.emb (ix2 r l) = (ix2 (row t r) l : S2048x1024.Idx) := by blk_ext [idx6 t, row]
  rw [e]
  rfl

omit hn in
/-- The norm weight's gradient. -/
theorem dnw_final : (dats m 0 c).arrAt 7 cfg0.N = (fun i => (dnw G W X S (i 1) : EReal) : Vec Ideal S1x1024 .f32) := by
  refine (dats m 0 c).arrAt_eq_of_covers 7 _ (by decide +kernel) fun t hf y => ?_
  blk_simp
  rw [after0_7]
  obtain ⟨l, rfl⟩ : ∃ (l : Fin 1024), y = ix2 0 l := ⟨y 1, by rw [eq_ix2 y]; congr 1; exact Subsingleton.elim (α := Fin 1) _ _⟩
  have e : (win0_7.blk t).view.emb (ix2 0 l) = (ix2 0 l : S1x1024.Idx) := by blk_ext [idx7 t]
  rw [e]
  refine acc_total 4 (fun n h => (outsAt0 m c n h).2.1 (ix2 0 l)) _ rows_total (fun t => ?_) (le_of_eq N_0) t (last t ((flush0_7 t).mp hf))
  obtain ⟨p, hp, e⟩ := dnw_out m c t
  rw [e, pay10_coe (X := fun r l => X (row t r) l) (dhB_coe t hg hw)
      (fun r l => (xB_apply m c t r l).trans (hx ..)) (fun l => (sB_apply m c t l).trans (hs l)), hp]
  rfl

/-- The modulation's gradients. -/
theorem dmod_final : (dats m 0 c).arrAt 8 cfg0.N = (fun i => (dmod G W X N (i 1) (i 2) : EReal) : Vec Ideal S1x8x1024 .f32) := by
  refine (dats m 0 c).arrAt_eq_of_covers 8 _ (by decide +kernel) fun t hf y => ?_
  blk_simp
  rw [after0_8]
  obtain ⟨k, l, rfl⟩ : ∃ (k : Fin 8) (l : Fin 1024), y = ix3 0 k l :=
    ⟨y 1, y 2, by rw [eq_ix3 y]; congr 1; exact Subsingleton.elim (α := Fin 1) _ _⟩
  have e : (win0_8.blk t).view.emb (ix3 0 k l) = (ix3 0 k l : S1x8x1024.Idx) := by blk_ext [idx8 t]
  rw [e]
  show (outsAt0 m c t.val t.isLt).2.2 (ix3 0 k l) = (dmod G W X N k l : EReal)
  have ht := last t ((flush0_8 t).mp hf)
  unfold dmod
  split_ifs with h0 h1
  · subst h0
    refine acc_total 4 (fun n h => (outsAt0 m c n h).2.2 (ix3 0 0 l)) _ rows_total (fun t => ?_) (le_of_eq N_0) t ht
    obtain ⟨p, hp, e⟩ := shift_out m c t l
    rw [e, pay7_coe (dhB_coe t hg hw), hp]
    rfl
  · subst h1
    refine acc_total 4 (fun n h => (outsAt0 m c n h).2.2 (ix3 0 1 l)) _ rows_total (fun t => ?_) (le_of_eq N_0) t ht
    obtain ⟨p, hp, e⟩ := scale_out m c t l
    rw [e, pay8_coe (X := fun r l => X (row t r) l) (dhB_coe t hg hw)
      (fun r l => (xB_apply m c t r l).trans (hx ..)) (fun l => (nB_apply m c t l).trans (hn l)), hp]
    rfl
  · have hk : 2 ≤ k.val := by
      have : k.val ≠ 0 := fun h => h0 (Fin.ext h)
      have : k.val ≠ 1 := fun h => h1 (Fin.ext h)
      omega
    refine (acc_total (n := 512) 4 (fun n h => (outsAt0 m c n h).2.2 (ix3 0 k l)) (fun _ => 0) rows_total (fun t => ?_) (le_of_eq N_0) t ht).trans ?_
    · rw [rest_out m c t k hk l, Finset.sum_const_zero, EReal.coe_zero, add_zero]
      rfl
    · rw [Finset.sum_const_zero]

end

end Cert.PoolIn

end
-- ==== Proof.PoolInRef.lean ====
/- The reference gradients of the pooling block's input norm, read at an index over real arrays. -/
module

public import proofs.«01_k».proof.Proof.Gen.ReferenceIdeal.Run
public import proofs.«01_k».proof.Proof.Gen.ReferenceIdeal.Read
public import proofs.«01_k».proof.Proof.PoolInMath
public import Idealize.ShloMosaic.Lib.Pointwise

@[expose] public section

set_option maxRecDepth 16384

noncomputable section

namespace Cert.PoolIn.Ref

open Cert.ReferenceIdeal Cert.ReferenceIdeal.Read Idealize.ShloMosaic Idealize.ShloMosaic.TcCoe Idealize.SL.Sem
open Cert.Reals Cert.Norm Cert.PoolIn

variable {g : Vec Ideal S2x2048x1024 .bf16} {w : Vec Ideal S1024x2048 .bf16} {x up : Vec Ideal S2048x1024 .f32}
  {nw sc : Vec Ideal S1x1024 .f32}
variable {G : Fin 2 → Fin 2048 → Fin 1024 → ℝ} {W : Fin 1024 → Fin 2048 → ℝ} {X : Fin 2048 → Fin 1024 → ℝ} {N S : Fin 1024 → ℝ}
variable (hg : ∀ s r k, g (ix3 s r k) = (G s r k : EReal)) (hw : ∀ l k, w (ix2 l k) = (W l k : EReal))
  (hx : ∀ r l, x (ix2 r l) = (X r l : EReal)) (hn : ∀ l, nw (ix2 0 l) = (N l : EReal)) (hs : ∀ l, sc (ix2 0 l) = (S l : EReal))

include hg hw in
theorem v31_coe (r : Fin 2048) (l : Fin 1024) : val_main_v31 (F := Ideal) g w (ix2 r l) = (dh G W r l : EReal) := by
  pointwise [val_main_v31, val_main_v30, val_main_v26, val_main_v4, val_main_v3, val_main_v2, val_main_v1, val_main_v0]
  simp only [hg, hw, ← EReal.coe_mul, coe_sum, ← EReal.coe_add]
  rfl

include hx in
theorem v11_coe (r : Fin 2048) : val_main_v11 (F := Ideal) x (ix2 r 0) = (meanSq (X r) : EReal) := by
  pointwise [val_main_v11, val_main_v10, val_main_v9, val_main_v8, val_main_v7, val_main_v6, val_main_v5, val_main_cst, val_main_cst_0, val_main_cst_1]
  rw [ofBits_1024, ofBits_eps]
  simp only [hx, meanSq_coe]

include hx in
theorem v12_coe (r : Fin 2048) : val_main_v12 (F := Ideal) x (ix2 r 0) = (rms (X r) : EReal) := by
  pointwise [val_main_v12]
  rw [v11_coe hx, rsqrt_meanSq]

include hx in
theorem v15_coe (r : Fin 2048) : val_main_v15 (F := Ideal) x (ix2 r 0) = (-1/2 * (rms (X r) / meanSq (X r)) : ℝ) := by
  pointwise [val_main_v15, val_main_v14, val_main_v13, val_main_cst_2]
  rw [v12_coe hx, v11_coe hx, ofBits_neg_half, div_coe _ _ (meanSq_pos _).ne', ← EReal.coe_mul]

include hg hw hx hn hs in
theorem dx_coe : val_main_v58 (F := Ideal) g w x nw sc up = addReal up (dxn G W X N S) := by
  funext i
  obtain ⟨r, l, rfl⟩ : ∃ (r : Fin 2048) (l : Fin 1024), i = ix2 r l := ⟨i 0, i 1, eq_ix2 i⟩
  show _ = up (ix2 r l) + (dxn G W X N S r l : EReal)
  pointwise [val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v38, val_main_v37,
    val_main_v21, val_main_v20, val_main_cst_3, val_main_cst_7, val_main_cst_8, val_main_cst_9]
  rw [ofBits_1024]
  simp only [v31_coe hg hw, v12_coe hx, v15_coe hx, hx, hn, hs, Finset.univ_unique, Finset.sum_singleton, Fin.default_eq_zero]
  simp only [← EReal.coe_one, ← EReal.coe_mul, ← EReal.coe_add, coe_sum, div_coe _ _ (by norm_num : ((1024 : ℕ) : ℝ) ≠ 0)]
  rw [add_assoc, add_assoc, ← EReal.coe_add, ← EReal.coe_add, dxn, grad_eq]

include hg hw hx hs in
theorem dnw_coe : val_main_v41 (F := Ideal) g w x sc = fun i => (dnw G W X S (i 1) : EReal) := by
  funext i
  obtain ⟨l, rfl⟩ : ∃ (l : Fin 1024), i = ix2 0 l := ⟨i 1, by rw [eq_ix2 i]; congr 1; exact Subsingleton.elim (α := Fin 1) _ _⟩
  show _ = (dnw G W X S l : EReal)
  pointwise [val_main_v41, val_main_v40, val_main_v39, val_main_v38, val_main_v37, val_main_v21, val_main_v20, val_main_v17,
    val_main_v16, val_main_cst_3, val_main_cst_6]
  simp only [v31_coe hg hw, v12_coe hx, hx, hs, ← EReal.coe_one, ← EReal.coe_mul, ← EReal.coe_add, coe_sum]
  refine congrArg _ (Finset.sum_congr rfl fun r _ => ?_)
  ring

include hg hw hx hn in
theorem dmod_coe : val_main_v61 (F := Ideal) g w x nw = fun i => (dmod G W X N (i 1) (i 2) : EReal) := by
  funext i
  obtain ⟨k, l, rfl⟩ : ∃ (k : Fin 8) (l : Fin 1024), i = ix3 0 k l :=
    ⟨i 1, i 2, by rw [eq_ix3 i]; congr 1; exact Subsingleton.elim (α := Fin 1) _ _⟩
  show _ = (dmod G W X N k l : EReal)
  pointwise [val_main_v61, val_main_v60, val_main_v59, val_main_v36, val_main_v35, val_main_v34, val_main_v33, val_main_v32,
    val_main_v19, val_main_v18, val_main_v17, val_main_v16, val_main_cst_4, val_main_cst_5, val_main_cst_10]
  simp only [v31_coe hg hw, v12_coe hx, hx, hn, ← EReal.coe_one, ← EReal.coe_mul, ← EReal.coe_add, coe_sum]
  unfold dmod dshift dscale
  by_cases h0 : k = 0
  · subst h0
    rfl
  · have h0' : ¬k.val < 1 := fun h => h0 (Fin.ext (Nat.lt_one_iff.mp h))
    rw [dif_neg h0', if_neg h0]
    by_cases h1 : k = 1
    · subst h1
      rw [dif_pos (by decide), if_pos rfl]
      refine congrArg _ (Finset.sum_congr rfl fun r _ => ?_)
      ring
    · rw [dif_neg (fun h => h1 (Fin.ext (by show k.val = 1; omega))), if_neg h1, EReal.coe_zero]

end Cert.PoolIn.Ref

end
-- ==== Proof.PoolIn.lean ====
/- The pooling block's norm gradient: kernel and reference leave the same three arrays, from the two runs and the
   precondition that the arguments the gradient multiplies are real. -/
module

public import proofs.«01_k».proof.Defs
public import proofs.«01_k».proof.Proof.PoolInArray
public import proofs.«01_k».proof.Proof.PoolInRef
public import proofs.«01_k».proof.Proof.Gen.Pre_finite

@[expose] public section

set_option maxRecDepth 16384

noncomputable section

namespace Cert.PoolIn

open Idealize.ShloMosaic Idealize.ShloMosaic.TcCoe Idealize.SL.Sem Cert.Reals

/-- The precondition, read: five arrays of reals. -/
theorem reals {g : FVec Ideal Pre_finite.S2x2048x1024 .bf16} {w : FVec Ideal Pre_finite.S1024x2048 .bf16} {x up : FVec Ideal Pre_finite.S2048x1024 .f32}
    {nw sh sc : FVec Ideal Pre_finite.S1x1024 .f32} (h : Pre_finite.fn (F := Ideal) g w x nw sh sc up = fun _ => 1#1) :
    (∃ G : Fin 2 → Fin 2048 → Fin 1024 → ℝ, ∀ s r k, g (ix3 s r k) = (G s r k : EReal))
    ∧ (∃ W : Fin 1024 → Fin 2048 → ℝ, ∀ l k, w (ix2 l k) = (W l k : EReal))
    ∧ (∃ X : Fin 2048 → Fin 1024 → ℝ, ∀ r l, x (ix2 r l) = (X r l : EReal))
    ∧ (∃ N : Fin 1024 → ℝ, ∀ l, nw (ix2 0 l) = (N l : EReal)) ∧ (∃ S : Fin 1024 → ℝ, ∀ l, sc (ix2 0 l) = (S l : EReal)) := by
  have h := congrFun h ix0
  unfold Pre_finite.fn Pre_finite.fn_part1 at h
  obtain ⟨h, hs⟩ := IntOp.andi_eq_one.1 h
  obtain ⟨h, hn⟩ := IntOp.andi_eq_one.1 h
  obtain ⟨h, hx⟩ := IntOp.andi_eq_one.1 h
  obtain ⟨hg, hw⟩ := IntOp.andi_eq_one.1 h
  obtain ⟨G, hG⟩ := exists_real_half _ _ _ _ _ _ _ _ hg
  obtain ⟨W, hW⟩ := exists_real_half _ _ _ _ _ _ _ _ hw
  obtain ⟨X, hX⟩ := exists_real _ _ _ _ _ _ _ hx
  obtain ⟨N, hN⟩ := exists_real _ _ _ _ _ _ _ hn
  obtain ⟨S, hS⟩ := exists_real _ _ _ _ _ _ _ hs
  exact ⟨⟨fun s r k => G (ix3 s r k), fun _ _ _ => hG _⟩, ⟨fun l k => W (ix2 l k), fun _ _ => hW _⟩,
    ⟨fun r l => X (ix2 r l), fun _ _ => hX _⟩, ⟨fun l => N (ix2 0 l), fun _ => hN _⟩, ⟨fun l => S (ix2 0 l), fun _ => hS _⟩⟩

theorem value : Cert.algebraic_KernelIdeal_ReferenceIdeal_pre_finite := fun m g m' g' hpre hag => by
  have key : ∀ c, (KernelIdeal.Gen.dats m 0 c).arrAt 6 KernelIdeal.cfg0.N = ReferenceIdeal.Value.res_main_v58 m' c
      ∧ (KernelIdeal.Gen.dats m 0 c).arrAt 7 KernelIdeal.cfg0.N = ReferenceIdeal.Read.val_main_v41 (F := Ideal) (m' ((c.tc : Thread _ _).loc ReferenceIdeal.main_arg0))
        (m' ((c.tc : Thread _ _).loc ReferenceIdeal.main_arg1)) (m' ((c.tc : Thread _ _).loc ReferenceIdeal.main_arg2)) (m' ((c.tc : Thread _ _).loc ReferenceIdeal.main_arg5))
      ∧ (KernelIdeal.Gen.dats m 0 c).arrAt 8 KernelIdeal.cfg0.N = ReferenceIdeal.Read.val_main_v61 (F := Ideal) (m' ((c.tc : Thread _ _).loc ReferenceIdeal.main_arg0))
        (m' ((c.tc : Thread _ _).loc ReferenceIdeal.main_arg1)) (m' ((c.tc : Thread _ _).loc ReferenceIdeal.main_arg2)) (m' ((c.tc : Thread _ _).loc ReferenceIdeal.main_arg3)) := by
    intro c
    obtain ⟨⟨G, hg⟩, ⟨W, hw⟩, ⟨X, hx⟩, ⟨N, hn⟩, S, hs⟩ := reals (hpre c)
    rw [ReferenceIdeal.Read.val_main_v58_eq]
    obtain ⟨e0, e1, e2, e3, e4, e5, e6⟩ := hag c
    rw [e0, e1, e2, e3, e5, e6]
    exact ⟨(dx_final hg hw hx hn hs).trans (Ref.dx_coe hg hw hx hn hs).symm,
      (dnw_final hg hw hx hs).trans (Ref.dnw_coe hg hw hx hs).symm, (dmod_final hg hw hx hn hs).trans (Ref.dmod_coe hg hw hx hn).symm⟩
  exact ⟨_, _, _, KernelIdeal.Value.run_blocks m g, (θ_run _ _ _).mono (fun r h c => by
    obtain ⟨h0, h1, h2, h⟩ := h c
    obtain ⟨k0, k1, k2⟩ := key c
    exact ⟨h0.trans k0.symm, h1.trans k1.symm, h2.trans k2.symm, h⟩) (ReferenceIdeal.Value.run m' g')⟩

theorem frame_reference : Cert.quiescent_ReferenceIdeal := fun m g _ =>
  (θ_run ReferenceIdeal.defs _ _).mono (fun r h => ⟨fun c => (h c).2.2.2, sem_eq_zero_of_no_sems rfl r.2⟩)
    (ReferenceIdeal.Value.run (F := Ideal) m g)

end Cert.PoolIn

end
-- ==== Proof.Silu.lean ====
/- The logistic function on real numbers, in the two ways the programs write it: as a quotient of exponentials, and
   through the hyperbolic tangent of half the argument. -/
module

public import proofs.«01_k».proof.Proof.Reals

@[expose] public section

noncomputable section

namespace Cert.Silu

open Cert.Reals Idealize.ShloMosaic

/-- The logistic function. -/
def sig (z : ℝ) : ℝ := 1 / (1 + Real.exp (-z))

/-- The gate `z · sig z`. -/
def silu (z : ℝ) : ℝ := z * sig z

theorem ofBits_half : Ideal.ofBits .f32 0x3F000000#32 = ((1 / 2 : ℝ) : EReal) := by
  simp [Ideal.ofBits, Ideal.ieee, -EReal.coe_mul]; norm_num

theorem half_tanh (z : ℝ) : 1 / 2 * Real.tanh (1 / 2 * z) + 1 / 2 = sig z := by
  have e : Real.exp (-z) = Real.exp (-(1 / 2 * z)) * Real.exp (-(1 / 2 * z)) := by rw [← Real.exp_add]; congr 1; ring
  have h1 : Real.exp (1 / 2 * z) * Real.exp (-(1 / 2 * z)) = 1 := by rw [← Real.exp_add]; simp
  have hp := Real.exp_pos (1 / 2 * z)
  have hn := Real.exp_pos (-(1 / 2 * z))
  unfold sig
  rw [Real.tanh_eq_sinh_div_cosh, Real.sinh_eq, Real.cosh_eq, e]
  generalize Real.exp (1 / 2 * z) = a at *
  generalize Real.exp (-(1 / 2 * z)) = b at *
  have h2 : 1 + b * b = b * (a + b) := by rw [mul_add, mul_comm b a, h1]
  have h3 : a + b ≠ 0 := by positivity
  rw [h2]
  field_simp
  linear_combination 2 * h1

/-- The logistic function through the hyperbolic tangent, as the kernels compute it. -/
theorem sig_tanh (z : ℝ) :
    ((1 / 2 : ℝ) : EReal) * Ideal.tanh (((1 / 2 : ℝ) : EReal) * (z : EReal)) + ((1 / 2 : ℝ) : EReal) = (sig z : EReal) := by
  rw [← half_tanh, EReal.coe_add, EReal.coe_mul, ← EReal.coe_mul (1 / 2) z]
  rfl

/-- The logistic function as a quotient. -/
theorem sig_exp (z : ℝ) : Ideal.div 1 (1 + Ideal.exp (-(z : EReal))) = (sig z : EReal) := by
  rw [← EReal.coe_neg, Ideal.exp_coe, ← EReal.coe_one, ← EReal.coe_add, div_coe _ _ (by positivity)]
  rfl

end Cert.Silu

end
-- ==== Proof.HgrnOutMath.lean ====
/- The gradients of the recurrence's output stage as functions of real arrays: cotangent `D` of the stage's result, the
   recurrence's output `O`, its gate's argument `Z`, the norm's weight `Gw` (heads of 128), the result's gate `Ga`, the
   projection `W`. -/
module

public import proofs.«01_k».proof.Proof.Norm
public import proofs.«01_k».proof.Proof.Silu

@[expose] public section

noncomputable section

namespace Cert.OutStage

open Cert.Reals Cert.Norm Cert.Silu

/-- Lane `k` of head `h`, the head of a lane, and its place in the head. -/
def col (h : Fin 8) (k : Fin 128) : Fin 1024 := ⟨h.val * 128 + k.val, by omega⟩
def head (j : Fin 1024) : Fin 8 := ⟨j.val / 128, by omega⟩
def lane (j : Fin 1024) : Fin 128 := ⟨j.val % 128, by omega⟩

theorem head_col (h : Fin 8) (k : Fin 128) : head (col h k) = h := Fin.ext (by unfold head col; dsimp only; omega)
theorem lane_col (h : Fin 8) (k : Fin 128) : lane (col h k) = k := Fin.ext (by unfold lane col; dsimp only; omega)
theorem col_head_lane (j : Fin 1024) : col (head j) (lane j) = j := Fin.ext (by unfold head lane col; dsimp only; omega)

/-- The stage reads the gate's argument behind the context's rows. -/
theorem late_lt (t : Fin 2048) : 256 + t.val < 2304 := by omega

variable {R : ℕ} (D O Z : Fin R → Fin 1024 → ℝ) (Gw Ga : Fin 1024 → ℝ) (W : Fin 1024 → Fin 1024 → ℝ)

/-- The output normalised head by head. -/
def nrm (t : Fin R) (j : Fin 1024) : ℝ := O t j * rms (fun k => O t (col (head j) k))
/-- What the projection is applied to. -/
def act (t : Fin R) (j : Fin 1024) : ℝ := nrm O t j * Gw j * silu (Z t j)
/-- The cotangent of the projection's result, and of its argument. -/
def dres (t : Fin R) (k : Fin 1024) : ℝ := D t k * Ga k
def da (t : Fin R) (j : Fin 1024) : ℝ := ∑ k, dres D Ga t k * W j k
/-- The cotangent of the weighted norm. -/
def don (t : Fin R) (j : Fin 1024) : ℝ := da D Ga W t j * silu (Z t j)
/-- The gradient of the recurrence's output, a head's place at a time. -/
def dO (t : Fin R) (h : Fin 8) (k : Fin 128) : ℝ :=
  grad (fun k => O t (col h k)) (fun k => don D Z Ga W t (col h k) * Gw (col h k)) k
/-- The gradient of the gate's argument. -/
def dZ (t : Fin R) (j : Fin 1024) : ℝ :=
  da D Ga W t j * (nrm O t j * Gw j) * (sig (Z t j) * (1 + Z t j * (1 - sig (Z t j))))
/-- The gradients of the norm's weight, the result's gate and the projection. -/
def dGw (j : Fin 1024) : ℝ := ∑ t, don D Z Ga W t j * nrm O t j
def dGa (k : Fin 1024) : ℝ := ∑ t, D t k * ∑ j, act O Z Gw t j * W j k
def dW (j k : Fin 1024) : ℝ := ∑ t, act O Z Gw t j * dres D Ga t k

end Cert.OutStage

end
-- ==== Proof.HgrnOutBlock.lean ====
/- One grid point of the output stage's gradient kernel, read at an index: over blocks of 256 rows of real numbers, the
   blocks it leaves and what it adds to the three sums it carries. -/
module

public import proofs.«01_k».proof.Proof.Gen.HgrnOutIdeal.Value
public import proofs.«01_k».proof.Proof.HgrnOutMath
public import Idealize.ShloMosaic.Lib.Pipeline.ReadBack
public import Idealize.ShloMosaic.Lib.Pipeline.ValueKit

@[expose] public section

set_option maxRecDepth 16384

noncomputable section

namespace Cert.OutStage

open Cert.HgrnOutIdeal Cert.HgrnOutIdeal.Gen Idealize.ShloMosaic Idealize.ShloMosaic.TcCoe Idealize.SL.Sem
open Cert.Reals Cert.Norm Cert.Silu

/-! ## The payloads at an index, over blocks of real numbers -/

section
variable {dx o res n E : Vec Ideal S256x1024 .f32} {z : Vec Ideal S1x256x1024 .f32} {gw ga : Vec Ideal S1x1024 .f32} {w : Vec Ideal S1024x1024 .bf16}
variable {D O Z Rs Er : Fin 256 → Fin 1024 → ℝ} {Gw Ga : Fin 1024 → ℝ} {W : Fin 1024 → Fin 1024 → ℝ}
variable (hd : ∀ r k, dx (ix2 r k) = (D r k : EReal)) (ho : ∀ r k, o (ix2 r k) = (O r k : EReal))
  (hz : ∀ r k, z (ix3 0 r k) = (Z r k : EReal)) (hr : ∀ r k, res (ix2 r k) = (Rs r k : EReal))
  (hgw : ∀ k, gw (ix2 0 k) = (Gw k : EReal)) (hga : ∀ k, ga (ix2 0 k) = (Ga k : EReal)) (hw : ∀ j k, w (ix2 j k) = (W j k : EReal))
  (hn : ∀ r k, n (ix2 r k) = (nrm O r k : EReal)) (hE : ∀ r k, E (ix2 r k) = (Er r k : EReal))

include hd hga in
theorem dres_coe (r : Fin 256) (k : Fin 1024) : k0_pay7 dx ga (ix2 r k) = (dres D Ga r k : EReal) := by
  pointwise [k0_pay7]
  simp only [hd, hga, ← EReal.coe_mul]
  rfl

include hd hga hw in
theorem da_coe (r : Fin 256) (j : Fin 1024) : k0_pay8 dx ga w (ix2 r j) = (da D Ga W r j : EReal) := by
  pointwise [k0_pay8]
  simp only [dres_coe hd hga, hw, ← EReal.coe_mul, coe_sum]
  rfl

include hz in
theorem silu_coe (r : Fin 256) (j : Fin 1024) : k0_pay34 z (ix2 r j) = (silu (Z r j) : EReal) := by
  pointwise [k0_pay34, k0_pay33]
  simp only [hz, ofBits_half]
  rw [sig_tanh, ← EReal.coe_mul]
  rfl

include hd hga hw hz in
theorem don_coe (r : Fin 256) (j : Fin 1024) : k0_pay37 (k0_pay8 dx ga w) z (ix2 r j) = (don D Z Ga W r j : EReal) := by
  pointwise [k0_pay37]
  rw [da_coe hd hga hw, silu_coe hz, ← EReal.coe_mul]
  rfl

include hd hga hw hz hgw in
theorem dn_coe (r : Fin 256) (j : Fin 1024) : k0_pay40 (k0_pay37 (k0_pay8 dx ga w) z) gw (ix2 r j) = (don D Z Ga W r j * Gw j : ℝ) := by
  pointwise [k0_pay40]
  rw [don_coe hd hz hga hw, hgw, ← EReal.coe_mul]

include hd hga hw hz hgw hn in
theorem dz_coe (r : Fin 256) (j : Fin 1024) :
    k0_pay38 (k0_pay8 dx ga w) (k0_pay33 z) (k0_pay35 n gw) (ix2 r j) = (dZ D O Z Gw Ga W r j : EReal) := by
  pointwise [k0_pay38, k0_pay33, k0_pay35]
  simp only [da_coe hd hga hw, hz, hn, hgw, ofBits_half]
  rw [sig_tanh]
  simp only [← EReal.coe_one, ← EReal.coe_mul, ← EReal.coe_add, ← EReal.coe_sub]
  rfl

include hd hr in
theorem dga_coe (p : Vec Ideal S1x1024 .f32) (k : Fin 1024) : k0_pay6 dx p res (ix2 0 k) = p (ix2 0 k) + ((∑ r, D r k * Rs r k : ℝ) : EReal) := by
  pointwise [k0_pay6]
  simp only [hd, hr, ← EReal.coe_mul, coe_sum]

include hd hga hw hz hn in
theorem dgw_coe (p : Vec Ideal S1x1024 .f32) (k : Fin 1024) :
    k0_pay39 n (k0_pay37 (k0_pay8 dx ga w) z) p (ix2 0 k) = p (ix2 0 k) + ((∑ r, don D Z Ga W r k * nrm O r k : ℝ) : EReal) := by
  pointwise [k0_pay39]
  simp only [don_coe hd hz hga hw, hn, ← EReal.coe_mul, coe_sum]

include hd hga hz hgw hn in
theorem dw_coe (p : Vec Ideal S1024x1024 .f32) (j k : Fin 1024) :
    k0_pay36 (k0_pay7 dx ga) z n gw p (ix2 j k) = p (ix2 j k) + ((∑ r, act O Z Gw r j * dres D Ga r k : ℝ) : EReal) := by
  pointwise [k0_pay36, k0_pay35]
  simp only [dres_coe hd hga, silu_coe hz, hn, hgw, ← EReal.coe_mul, coe_sum]
  rfl

/-! A head's lanes start at place `p` of the row. -/
variable {h : Fin 8} {p : ℕ} {b : ∀ k : Fin 128, p + k.val < 1024}

theorem place_eq (hp : h.val * 128 = p) (k : Fin 128) : (⟨p + k.val, b k⟩ : Fin 1024) = col h k := Fin.ext (by subst hp; rfl)

theorem head_norm (r : Fin 256) (k : Fin 128) (hp : h.val * 128 = p) :
    O r ⟨p + k.val, b k⟩ * rms (fun k => O r ⟨p + k.val, b k⟩) = nrm O r (col h k) := by
  simp only [place_eq hp]
  unfold nrm
  rw [head_col]

theorem head_grad (r : Fin 256) (k : Fin 128) (hp : h.val * 128 = p) :
    rms (fun k => O r ⟨p + k.val, b k⟩) * (Er r ⟨p + k.val, b k⟩ - O r ⟨p + k.val, b k⟩ * rms (fun k => O r ⟨p + k.val, b k⟩)
        * ((∑ k, Er r ⟨p + k.val, b k⟩ * (O r ⟨p + k.val, b k⟩ * rms (fun k => O r ⟨p + k.val, b k⟩))) / (128 : ℕ)))
      = grad (fun k => O r (col h k)) (fun k => Er r (col h k)) k := by
  simp only [place_eq hp]
  rfl

end

/-! ## What a point leaves -/

section
variable (m : (ℓ : Loc nD τ sig) → Buf (Elt Ideal) ℓ) (c : Dev nD) (t : Fin cfg0.N)
variable {D O Z Rs : Fin 256 → Fin 1024 → ℝ} {Gw Ga : Fin 1024 → ℝ} {W : Fin 1024 → Fin 1024 → ℝ}

/-- The point's blocks are these real ones. -/
structure Reads (D O Z Rs : Fin 256 → Fin 1024 → ℝ) (Gw Ga : Fin 1024 → ℝ) (W : Fin 1024 → Fin 1024 → ℝ) : Prop where
  hd : ∀ r k, (iblk m c 0 t : Vec Ideal S256x1024 .f32) (ix2 r k) = (D r k : EReal)
  ho : ∀ r k, (iblk m c 1 t : Vec Ideal S256x1024 .f32) (ix2 r k) = (O r k : EReal)
  hz : ∀ r k, (iblk m c 2 t : Vec Ideal S1x256x1024 .f32) (ix3 0 r k) = (Z r k : EReal)
  hr : ∀ r k, (iblk m c 3 t : Vec Ideal S256x1024 .f32) (ix2 r k) = (Rs r k : EReal)
  hgw : ∀ k, (iblk m c 4 t : Vec Ideal S1x1024 .f32) (ix2 0 k) = (Gw k : EReal)
  hga : ∀ k, (iblk m c 5 t : Vec Ideal S1x1024 .f32) (ix2 0 k) = (Ga k : EReal)
  hw : ∀ j k, (iblk m c 6 t : Vec Ideal S1024x1024 .bf16) (ix2 j k) = (W j k : EReal)

/-- The scratch that holds the normalised heads, stored head by head, read back whole. -/
abbrev heads (o : Vec Ideal S256x1024 .f32) : Vec Ideal S256x1024 .f32 := (View.whole cc0_scratch0).readCov
  [⟨Rect.unit ![0, 896] ![256, 128] inb_S256x1024_S256x128_0_896, k0_pay32 o⟩,
    ⟨Rect.unit ![0, 768] ![256, 128] inb_S256x1024_S256x128_0_768, k0_pay29 o⟩,
    ⟨Rect.unit ![0, 640] ![256, 128] inb_S256x1024_S256x128_0_640, k0_pay26 o⟩,
    ⟨Rect.unit ![0, 512] ![256, 128] inb_S256x1024_S256x128_0_512, k0_pay23 o⟩,
    ⟨Rect.unit ![0, 384] ![256, 128] inb_S256x1024_S256x128_0_384, k0_pay20 o⟩,
    ⟨Rect.unit ![0, 256] ![256, 128] inb_S256x1024_S256x128_0_256, k0_pay17 o⟩,
    ⟨Rect.unit ![0, 128] ![256, 128] inb_S256x1024_S256x128_0_128, k0_pay14 o⟩,
    ⟨Rect.unit ![0, 0] ![256, 128] inb_S256x1024_S256x128_0_0, k0_pay11 o⟩]
  (Rect.unit ![0, 0] ![256, 1024] inb_S256x1024_S256x1024_0_0).toLoadRect

theorem heads_coe {o : Vec Ideal S256x1024 .f32} (ho : ∀ r k, o (ix2 r k) = (O r k : EReal)) (r : Fin 256) (j : Fin 1024) :
    heads o (ix2 r j) = (nrm O r j : EReal) := by
  unfold heads
  rw [View.readCov_eq_canon']
  dsimp only
  rw [← col_head_lane j]
  generalize head j = h
  generalize lane j = k
  have e : (Rect.unit (s := S256x1024) ![0, 0] ![256, 1024] inb_S256x1024_S256x1024_0_0).idx (ix2 r (col h k)) = ix2 r (col h k) := by
    funext a
    refine Fin.ext ((Rect.idx_unit_val ..).trans ?_)
    fin_cases a <;> exact Nat.zero_add _
  rw [e]
  canon_tiles x hh
  all_goals
    obtain ⟨r', k', rfl⟩ : ∃ (r' : Fin 256) (k' : Fin 128), x = ix2 r' k' := ⟨x 0, x 1, eq_ix2 x⟩
    obtain rfl := Fin.ext (show r.val = r'.val from hh0)
    rw [ix2_1, ix2_1] at hh1
    unfold col at hh1
    dsimp only at hh1
    have hk : k.val = k'.val := by have := k'.isLt; have := k.isLt; omega
    obtain rfl := Fin.ext hk
    pointwise [k0_pay32, k0_pay31, k0_pay30, k0_pay29, k0_pay28, k0_pay27, k0_pay26, k0_pay25, k0_pay24, k0_pay23, k0_pay22, k0_pay21,
      k0_pay20, k0_pay19, k0_pay18, k0_pay17, k0_pay16, k0_pay15, k0_pay14, k0_pay13, k0_pay12, k0_pay11, k0_pay10, k0_pay9]
    rw [ofBits_128, ofBits_eps]
    simp only [ho, meanSq_coe, rsqrt_meanSq]
    simp only [← EReal.coe_mul]
    refine congrArg (fun a : ℝ => (a : EReal)) ?_
    first
    | exact head_norm (b := fun k => by omega) r k (Nat.add_right_cancel hh1)
    | simpa only [Nat.zero_add] using head_norm (O := O) (p := 0) (b := fun k => by omega) r k (Nat.add_right_cancel (hh1.trans (Nat.zero_add _).symm))

set_option maxHeartbeats 1000000 in
theorem do_out (H : Reads m c t D O Z Rs Gw Ga W) (r : Fin 256) (h : Fin 8) (k : Fin 128) :
    (outsAt0 m c t.val t.isLt).1 (ix2 r (col h k)) = (dO D O Z Gw Ga W r h k : EReal) := by
  have hE := dn_coe H.hd H.hz H.hgw H.hga H.hw
  have ho := H.ho
  obtain h0 | h7 | ⟨h0, h7⟩ : t.val % 8 = 0 ∨ t.val % 8 = 7 ∨ ¬ t.val % 8 = 0 ∧ ¬ t.val % 8 = 7 := by omega
  on_goal 1 => rw [outsAt0_A m c t h0 (by omega)]
  on_goal 2 => rw [outsAt0_C m c t (by omega) h7]
  on_goal 3 => rw [outsAt0_B m c t h0 h7]
  all_goals
    frame_out
    simp (disch := decide) only [↓ View.readCov_skip, ↓ View.readCov_cons_toLoadRect, ↓ View.readCov_fill]
    generalize k0_pay40 (F := Ideal) _ _ = E at hE ⊢
    generalize (iblk m c 1 t : Vec Ideal S256x1024 .f32) = o at ho ⊢
    canon_tiles x hh
  all_goals
    obtain ⟨r', k', rfl⟩ : ∃ (r' : Fin 256) (k' : Fin 128), x = ix2 r' k' := ⟨x 0, x 1, eq_ix2 x⟩
    obtain rfl := Fin.ext (show r.val = r'.val from hh0)
    rw [ix2_1, ix2_1] at hh1
    unfold col at hh1
    dsimp only at hh1
    have hk : k.val = k'.val := by have := k'.isLt; have := k.isLt; omega
    obtain rfl := Fin.ext hk
    pointwise [k0_pay1, k0_pay50, k0_pay49, k0_pay48, k0_pay47, k0_pay46, k0_pay45, k0_pay44, k0_pay43, k0_pay42, k0_pay41,
      k0_pay32, k0_pay31, k0_pay30, k0_pay29, k0_pay28, k0_pay27, k0_pay26, k0_pay25, k0_pay24, k0_pay23, k0_pay22, k0_pay21,
      k0_pay20, k0_pay19, k0_pay18, k0_pay17, k0_pay16, k0_pay15, k0_pay14, k0_pay13, k0_pay12, k0_pay11, k0_pay10, k0_pay9]
    rw [ofBits_128, ofBits_eps]
    simp only [ho, hE, meanSq_coe, rsqrt_meanSq]
    simp only [← EReal.coe_mul, coe_sum, div_coe _ _ (by norm_num : ((128 : ℕ) : ℝ) ≠ 0), ← EReal.coe_sub]
    refine congrArg (fun a : ℝ => (a : EReal)) ?_
    unfold dO
    first
    | exact head_grad (Er := fun r j => don D Z Ga W r j * Gw j) (b := fun k => by omega) r k (Nat.add_right_cancel hh1)
    | simpa only [Nat.zero_add] using head_grad (O := O) (Er := fun r j => don D Z Ga W r j * Gw j) (p := 0) (b := fun k => by omega) r k
        (Nat.add_right_cancel (hh1.trans (Nat.zero_add _).symm))

variable {m c t}

/-- The sums the points carry, before a point adds to them. -/
abbrev prev := outsAt0 m c (t.val - 1) (Nat.lt_of_le_of_lt (Nat.sub_le _ _) t.isLt)

theorem dz_out (H : Reads m c t D O Z Rs Gw Ga W) (r : Fin 256) (j : Fin 1024) :
    (outsAt0 m c t.val t.isLt).2.1 (ix2 r j) = (dZ D O Z Gw Ga W r j : EReal) := by
  have hn := heads_coe H.ho
  obtain h0 | h7 | ⟨h0, h7⟩ : t.val % 8 = 0 ∨ t.val % 8 = 7 ∨ ¬ t.val % 8 = 0 ∧ ¬ t.val % 8 = 7 := by omega
  on_goal 1 => rw [outsAt0_A m c t h0 (by omega)]
  on_goal 2 => rw [outsAt0_C m c t (by omega) h7]
  on_goal 3 => rw [outsAt0_B m c t h0 h7]
  all_goals
    frame_out
    exact dz_coe H.hd H.hz H.hgw H.hga H.hw hn r j

theorem dga_out (H : Reads m c t D O Z Rs Gw Ga W) (k : Fin 1024) :
    (outsAt0 m c t.val t.isLt).2.2.2.1 (ix2 0 k) = (if t.val % 8 = 0 then 0 else (prev (m := m) (c := c) (t := t)).2.2.2.1 (ix2 0 k)) + ((∑ r, D r k * Rs r k : ℝ) : EReal) := by
  obtain h0 | h7 | ⟨h0, h7⟩ : t.val % 8 = 0 ∨ t.val % 8 = 7 ∨ ¬ t.val % 8 = 0 ∧ ¬ t.val % 8 = 7 := by omega
  on_goal 1 => rw [outsAt0_A m c t h0 (by omega)]
  on_goal 2 => rw [outsAt0_C m c t (by omega) h7]
  on_goal 3 => rw [outsAt0_B m c t h0 h7]
  all_goals
    frame_out
    try simp (disch := decide) only [↓ View.readCov_skip, ↓ View.readCov_cons_toLoadRect, ↓ View.readCov_fill, read_unread_whole]
    refine (dga_coe H.hd H.hr _ k).trans ?_
    congr 1
    first
    | rw [if_neg (by omega)]
    | rw [if_pos h0]
      pointwise [k0_pay3, k0_pay4, k0_pay5]

theorem dgw_out (H : Reads m c t D O Z Rs Gw Ga W) (k : Fin 1024) :
    (outsAt0 m c t.val t.isLt).2.2.2.2.1 (ix2 0 k) = (if t.val % 8 = 0 then 0 else (prev (m := m) (c := c) (t := t)).2.2.2.2.1 (ix2 0 k)) + ((∑ r, don D Z Ga W r k * nrm O r k : ℝ) : EReal) := by
  have hn := heads_coe H.ho
  obtain h0 | h7 | ⟨h0, h7⟩ : t.val % 8 = 0 ∨ t.val % 8 = 7 ∨ ¬ t.val % 8 = 0 ∧ ¬ t.val % 8 = 7 := by omega
  on_goal 1 => rw [outsAt0_A m c t h0 (by omega)]
  on_goal 2 => rw [outsAt0_C m c t (by omega) h7]
  on_goal 3 => rw [outsAt0_B m c t h0 h7]
  all_goals
    frame_out
    try simp (disch := decide) only [↓ View.readCov_skip, ↓ View.readCov_cons_toLoadRect, ↓ View.readCov_fill, read_unread_whole]
    refine (dgw_coe H.hd H.hz H.hga H.hw hn _ k).trans ?_
    congr 1
    first
    | rw [if_neg (by omega)]
    | rw [if_pos h0]
      pointwise [k0_pay3, k0_pay4, k0_pay5]

theorem dw_sum (H : Reads m c t D O Z Rs Gw Ga W) (j k : Fin 1024) :
    (outsAt0 m c t.val t.isLt).2.2.2.2.2 (ix2 j k) = (if t.val % 8 = 0 then 0 else (prev (m := m) (c := c) (t := t)).2.2.2.2.2 (ix2 j k)) + ((∑ r, act O Z Gw r j * dres D Ga r k : ℝ) : EReal) := by
  have hn := heads_coe H.ho
  obtain h0 | h7 | ⟨h0, h7⟩ : t.val % 8 = 0 ∨ t.val % 8 = 7 ∨ ¬ t.val % 8 = 0 ∧ ¬ t.val % 8 = 7 := by omega
  on_goal 1 => rw [outsAt0_A m c t h0 (by omega)]
  on_goal 2 => rw [outsAt0_C m c t (by omega) h7]
  on_goal 3 => rw [outsAt0_B m c t h0 h7]
  all_goals
    frame_out
    try simp (disch := decide) only [↓ View.readCov_skip, ↓ View.readCov_cons_toLoadRect, ↓ View.readCov_fill, read_unread_whole]
    refine (dw_coe H.hd H.hz H.hgw H.hga hn _ j k).trans ?_
    congr 1
    first
    | rw [if_neg (by omega)]
    | rw [if_pos h0]
      pointwise [k0_pay3, k0_pay4, k0_pay5]

theorem dw_out (h7 : t.val % 8 = 7) (j k : Fin 1024) : (outsAt0 m c t.val t.isLt).2.2.1 (ix2 j k) = (outsAt0 m c t.val t.isLt).2.2.2.2.2 (ix2 j k) := by
  rw [outsAt0_C m c t (by omega) h7]
  frame_out
  simp (disch := decide) only [↓ View.readCov_skip, ↓ View.readCov_cons_toLoadRect, ↓ View.readCov_fill, read_unread_whole]
  pointwise [k0_pay2]

end

end Cert.OutStage

end
-- ==== Proof.HgrnOutRef.lean ====
/- The reference gradients of the recurrence's output stage, read at an index over real arrays. -/
module

public import proofs.«01_k».proof.Proof.Gen.HgrnOutRefIdeal.Run
public import proofs.«01_k».proof.Proof.Gen.HgrnOutRefIdeal.Read
public import proofs.«01_k».proof.Proof.HgrnOutMath
public import Idealize.ShloMosaic.Lib.Pointwise

@[expose] public section

set_option maxRecDepth 16384

noncomputable section

namespace Cert.OutStage.Ref

open Cert.HgrnOutRefIdeal Cert.HgrnOutRefIdeal.Read Idealize.ShloMosaic Idealize.ShloMosaic.TcCoe Idealize.SL.Sem
open Cert.Reals Cert.Norm Cert.Silu Cert.OutStage

variable {dx o : Vec Ideal S2048x1024 .f32} {g : Vec Ideal S5x2304x1024 .f32} {gw ga : Vec Ideal S1x1024 .f32} {w : Vec Ideal S1024x1024 .bf16}
variable {D O Z : Fin 2048 → Fin 1024 → ℝ} {Gw Ga : Fin 1024 → ℝ} {W : Fin 1024 → Fin 1024 → ℝ}
variable (hd : ∀ t k, dx (ix2 t k) = (D t k : EReal)) (ho : ∀ t k, o (ix2 t k) = (O t k : EReal))
  (hz : ∀ (t : Fin 2048) k, g (ix3 4 ⟨256 + t.val, late_lt t⟩ k) = (Z t k : EReal))
  (hgw : ∀ k, gw (ix2 0 k) = (Gw k : EReal)) (hga : ∀ k, ga (ix2 0 k) = (Ga k : EReal)) (hw : ∀ j k, w (ix2 j k) = (W j k : EReal))

include ho in
theorem v11_coe (t : Fin 2048) (h : Fin 8) : val_main_v11 (F := Ideal) o (ix3 t h 0) = (meanSq (fun k => O t (col h k)) : EReal) := by
  pointwise [val_main_v11, val_main_v10, val_main_v9, val_main_v8, val_main_v7, val_main_v6, val_main_v5, val_main_v3, val_main_cst, val_main_cst_0, val_main_cst_1]
  rw [ofBits_128, ofBits_eps]
  simp only [ho, meanSq_coe]
  rfl

include ho in
theorem v12_coe (t : Fin 2048) (h : Fin 8) : val_main_v12 (F := Ideal) o (ix3 t h 0) = (rms (fun k => O t (col h k)) : EReal) := by
  pointwise [val_main_v12]
  rw [v11_coe ho, rsqrt_meanSq]

include ho in
theorem v15_coe (t : Fin 2048) (h : Fin 8) : val_main_v15 (F := Ideal) o (ix3 t h 0)
    = (-1/2 * (rms (fun k => O t (col h k)) / meanSq (fun k => O t (col h k))) : ℝ) := by
  pointwise [val_main_v15, val_main_v14, val_main_v13, val_main_cst_2]
  rw [v12_coe ho, v11_coe ho, ofBits_neg_half, div_coe _ _ (meanSq_pos _).ne', ← EReal.coe_mul]

include ho in
theorem v17_coe (t : Fin 2048) (h : Fin 8) (k : Fin 128) : val_main_v17 (F := Ideal) o (ix3 t h k) = (nrm O t (col h k) : EReal) := by
  pointwise [val_main_v17, val_main_v16, val_main_v3]
  rw [v12_coe ho, ho, ← EReal.coe_mul, nrm, head_col]
  rfl

include ho hgw in
theorem v21_coe (t : Fin 2048) (j : Fin 1024) : val_main_v21 (F := Ideal) o gw (ix2 t j) = (nrm O t j * Gw j : ℝ) := by
  pointwise [val_main_v21, val_main_v20, val_main_v19, val_main_v18, val_main_v4]
  rw [v17_coe ho, hgw, ← EReal.coe_mul]
  exact congrArg (fun a : ℝ => (a : EReal)) (congrArg (nrm O t · * Gw j) (col_head_lane j))

include hz in
theorem sig_coe (t : Fin 2048) (j : Fin 1024) : val_main_v22_2 (F := Ideal) g (ix2 t j) = (sig (Z t j) : EReal) := by
  pointwise [val_main_v22_2, val_main_call0_v4, val_main_call0_v3, val_main_call0_v2, val_main_call0_v1, val_main_call0_v0, val_main_call0_cst,
    val_main_call0_cst_0, val_main_v1, val_main_v0]
  rw [hz, sig_exp]

include hz in
theorem silu_coe (t : Fin 2048) (j : Fin 1024) : val_main_v22_0 (F := Ideal) g (ix2 t j) = (silu (Z t j) : EReal) := by
  pointwise [val_main_v22_0, val_main_v1, val_main_v0]
  rw [sig_coe hz, hz, ← EReal.coe_mul]
  rfl

include ho hz hgw hw in
/-- The forward pass's result before its gate. -/
theorem res_coe (t : Fin 2048) (k : Fin 1024) : val_main_v24 (F := Ideal) o g gw w (ix2 t k) = (∑ j, act O Z Gw t j * W j k : ℝ) := by
  pointwise [val_main_v24, val_main_v23, val_main_v2]
  simp only [v21_coe ho hgw, silu_coe hz, hw, ← EReal.coe_mul, coe_sum]
  rfl

include hd hga in
theorem v28_coe (t : Fin 2048) (k : Fin 1024) : val_main_v28 (F := Ideal) dx ga (ix2 t k) = (dres D Ga t k : EReal) := by
  pointwise [val_main_v28, val_main_v27]
  rw [hd, hga, ← EReal.coe_mul, mul_comm]
  rfl

include hd hga hw in
theorem v34_coe (t : Fin 2048) (j : Fin 1024) : val_main_v34 (F := Ideal) dx ga w (ix2 t j) = (da D Ga W t j : EReal) := by
  pointwise [val_main_v34, val_main_v2]
  simp only [v28_coe hd hga, hw, ← EReal.coe_mul, coe_sum]
  rfl

include hd hga hw hz in
theorem v38_coe (t : Fin 2048) (h : Fin 8) (k : Fin 128) : val_main_v38 (F := Ideal) dx g ga w (ix3 t h k) = (don D Z Ga W t (col h k) : EReal) := by
  pointwise [val_main_v38, val_main_v36]
  rw [v34_coe hd hga hw, silu_coe hz, ← EReal.coe_mul]
  rfl

include hd hga hw hz hgw in
theorem v43_coe (t : Fin 2048) (h : Fin 8) (k : Fin 128) :
    val_main_v43 (F := Ideal) dx g gw ga w (ix3 t h k) = (don D Z Ga W t (col h k) * Gw (col h k) : ℝ) := by
  pointwise [val_main_v43, val_main_v42, val_main_v18, val_main_v4]
  rw [v38_coe hd hz hga hw, hgw, ← EReal.coe_mul]
  rfl

include hd ho hz hgw hga hw

/-- The recurrence's output's gradient. -/
theorem do_coe : val_main_v61 (F := Ideal) dx o g gw ga w = fun i => (dO D O Z Gw Ga W (i 0) (head (i 1)) (lane (i 1)) : EReal) := by
  funext i
  obtain ⟨t, j, rfl⟩ : ∃ (t : Fin 2048) (j : Fin 1024), i = ix2 t j := ⟨i 0, i 1, eq_ix2 i⟩
  show _ = (dO D O Z Gw Ga W t (head j) (lane j) : EReal)
  pointwise [val_main_v61, val_main_v60]
  show val_main_v58 (F := Ideal) dx o g gw ga w (ix3 t (head j) (lane j)) = _
  generalize head j = h
  generalize lane j = k
  pointwise [val_main_v58, val_main_v57, val_main_v56, val_main_v55, val_main_v54, val_main_v53, val_main_v52, val_main_v51, val_main_v50,
    val_main_v49, val_main_v48, val_main_v47, val_main_v46, val_main_v45, val_main_v3, val_main_cst_6, val_main_cst_7, val_main_cst_8]
  rw [ofBits_128]
  simp only [v43_coe hd hz hgw hga hw, v12_coe ho, v15_coe ho, ho, Finset.univ_unique, Finset.sum_singleton, Fin.default_eq_zero]
  simp only [← EReal.coe_mul, ← EReal.coe_add, coe_sum, div_coe _ _ (by norm_num : ((128 : ℕ) : ℝ) ≠ 0)]
  rw [add_assoc, dO, grad_eq]
  rfl

/-- The gate argument's gradient. -/
theorem dz_coe : val_main_v62 (F := Ideal) dx o g gw ga w = fun i => (dZ D O Z Gw Ga W (i 0) (i 1) : EReal) := by
  funext i
  obtain ⟨t, j, rfl⟩ : ∃ (t : Fin 2048) (j : Fin 1024), i = ix2 t j := ⟨i 0, i 1, eq_ix2 i⟩
  show _ = (dZ D O Z Gw Ga W t j : EReal)
  pointwise [val_main_v62, val_main_v37, val_main_call1_v2, val_main_call1_v1, val_main_call1_v0, val_main_v22_1, val_main_call0_v7, val_main_call0_v6,
    val_main_call0_cst_1, val_main_v1, val_main_v0, val_main_v35]
  simp only [v34_coe hd hga hw, v21_coe ho hgw, sig_coe hz, hz, ← EReal.coe_one, ← EReal.coe_sub, ← EReal.coe_mul, ← EReal.coe_add]
  unfold dZ
  congr 1
  ring

omit hgw in
/-- The norm weight's gradient. -/
theorem dgw_coe : val_main_v59 (F := Ideal) dx o g ga w = fun i => (dGw D O Z Ga W (i 1) : EReal) := by
  funext i
  obtain ⟨j, rfl⟩ : ∃ (j : Fin 1024), i = ix2 0 j := ⟨i 1, by rw [eq_ix2 i]; congr 1; exact Subsingleton.elim (α := Fin 1) _ _⟩
  show _ = (dGw D O Z Ga W j : EReal)
  pointwise [val_main_v59, val_main_v44, val_main_v41, val_main_v40, val_main_v39, val_main_cst_4, val_main_cst_5]
  simp only [v17_coe ho, v38_coe hd hz hga hw, ← EReal.coe_mul, coe_sum, Finset.univ_unique, Finset.sum_singleton, Fin.default_eq_zero]
  refine congrArg (fun a : ℝ => (a : EReal)) (Finset.sum_congr rfl fun t _ => ?_)
  rw [mul_comm]
  exact congrArg (fun j => don D Z Ga W t j * nrm O t j) (col_head_lane j)

omit hga in
/-- The result's gate's gradient. -/
theorem dga_coe : val_main_v31 (F := Ideal) dx o g gw w = fun i => (dGa D O Z Gw W (i 1) : EReal) := by
  funext i
  obtain ⟨k, rfl⟩ : ∃ (k : Fin 1024), i = ix2 0 k := ⟨i 1, by rw [eq_ix2 i]; congr 1; exact Subsingleton.elim (α := Fin 1) _ _⟩
  show _ = (dGa D O Z Gw W k : EReal)
  pointwise [val_main_v31, val_main_v30, val_main_v29, val_main_cst_3]
  simp only [res_coe ho hz hgw hw, hd, ← EReal.coe_mul, coe_sum]
  rfl

omit hw in
/-- The projection's gradient. -/
theorem dw_coe : val_main_v63 (F := Ideal) dx o g gw ga = fun i => (dW D O Z Gw Ga (i 0) (i 1) : EReal) := by
  funext i
  obtain ⟨j, k, rfl⟩ : ∃ (j k : Fin 1024), i = ix2 j k := ⟨i 0, i 1, eq_ix2 i⟩
  show _ = (dW D O Z Gw Ga j k : EReal)
  pointwise [val_main_v63, val_main_v33, val_main_v32, val_main_v23]
  simp only [v28_coe hd hga, v21_coe ho hgw, silu_coe hz, ← EReal.coe_mul, coe_sum]
  refine congrArg (fun a : ℝ => (a : EReal)) (Finset.sum_congr rfl fun t _ => ?_)
  rw [mul_comm]
  rfl

end Cert.OutStage.Ref

end
-- ==== Proof.HgrnOutArray.lean ====
/- The output stage's gradient kernel over its whole arrays: where each block sits, the sums over the eight points, and the
   five result arrays as the gradients of real arrays. -/
module

public import proofs.«01_k».proof.Proof.HgrnOutBlock
public import proofs.«01_k».proof.Proof.HgrnOutRef

@[expose] public section

set_option maxRecDepth 16384

noncomputable section

namespace Cert.OutStage

open Cert.HgrnOutIdeal Cert.HgrnOutIdeal.Gen Idealize.ShloMosaic Idealize.ShloMosaic.TcCoe Idealize.SL.Sem
open Cert.Reals Cert.Norm Cert.Silu

variable (m : (ℓ : Loc nD τ sig) → Buf (Elt Ideal) ℓ) (c : Dev nD) (t : Fin cfg0.N)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![4, t.val + 1, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

/-- Row `r` of point `t`'s block. -/
def row (r : Fin 256) : Fin 2048 := ⟨t.val * 256 + r.val, by have := t.isLt; have : cfg0.N = 8 := N_0; omega⟩

theorem rows_total : cfg0.N * 256 = 2048 := by rw [show cfg0.N = 8 from N_0]
theorem last (h : t.val % 8 = 7) : t.val + 1 = cfg0.N := by have := t.isLt; have : cfg0.N = 8 := N_0; omega

/-- The forward pass's result, as the host's own operations leave it. -/
theorem res_V : V m c main_v21 = HgrnOutRefIdeal.Read.val_main_v24 (F := Ideal) (m ((c : Thread nD τ).loc main_arg1)) (m ((c : Thread nD τ).loc main_arg2))
    (m ((c : Thread nD τ).loc main_arg3)) (m ((c : Thread nD τ).loc main_arg5)) := by
  unfold V hostOps0 hostOps0_1 hostOps0_2
  after_results
  rfl

section
variable {m} {c}
variable {D O Z : Fin 2048 → Fin 1024 → ℝ} {Gw Ga : Fin 1024 → ℝ} {W : Fin 1024 → Fin 1024 → ℝ}
variable (hd : ∀ t k, m ((c : Thread nD τ).loc main_arg0) (ix2 t k) = (D t k : EReal))
  (ho : ∀ t k, m ((c : Thread nD τ).loc main_arg1) (ix2 t k) = (O t k : EReal))
  (hz : ∀ (t : Fin 2048) k, m ((c : Thread nD τ).loc main_arg2) (ix3 4 ⟨256 + t.val, late_lt t⟩ k) = (Z t k : EReal))
  (hgw : ∀ k, m ((c : Thread nD τ).loc main_arg3) (ix2 0 k) = (Gw k : EReal))
  (hga : ∀ k, m ((c : Thread nD τ).loc main_arg4) (ix2 0 k) = (Ga k : EReal))
  (hw : ∀ j k, m ((c : Thread nD τ).loc main_arg5) (ix2 j k) = (W j k : EReal))

include hd ho hz hgw hga hw

set_option maxHeartbeats 2000000 in
theorem reads : Reads m c t (fun r => D (row t r)) (fun r => O (row t r)) (fun r => Z (row t r))
    (fun r k => ∑ j, act O Z Gw (row t r) j * W j k) Gw Ga W where
  hd r k := by
    blk_simp [iblk, V_main_arg0]
    rw [← hd]
    congr 1
    blk_ext [idx0 t, row]
  ho r k := by
    blk_simp [iblk, V_main_arg1]
    rw [← ho]
    congr 1
    blk_ext [idx1 t, row]
  hz r k := by
    blk_simp [iblk, V_main_arg2]
    rw [← hz]
    congr 1
    blk_ext [idx2 t, row]
  hr r k := by
    blk_simp [iblk, res_V]
    rw [← Ref.res_coe ho hz hgw hw]
    congr 1
    blk_ext [idx3 t, row]
  hgw k := by
    blk_simp [iblk, V_main_arg3]
    rw [← hgw]
    congr 1
    blk_ext [idx4 t]
  hga k := by
    blk_simp [iblk, V_main_arg4]
    rw [← hga]
    congr 1
    blk_ext [idx5 t]
  hw j k := by
    blk_simp [iblk, V_main_arg5]
    rw [← hw]
    congr 1
    blk_ext [idx6 t]

/-- The recurrence's output's gradient. -/
theorem do_final : (dats m 0 c).arrAt 7 cfg0.N
    = (fun i => (dO D O Z Gw Ga W (i 0) (head (i 1)) (lane (i 1)) : EReal) : Vec Ideal S2048x1024 .bf16) := by
  refine (dats m 0 c).arrAt_eq_of_covers 7 _ (by decide +kernel) fun t hf y => ?_
  blk_simp
  rw [after0_7]
  obtain ⟨r, j, rfl⟩ : ∃ (r : Fin 256) (j : Fin 1024), y = ix2 r j := ⟨y 0, y 1, eq_ix2 y⟩
  have e : (win0_7.blk t).view.emb (ix2 r j) = (ix2 (row t r) j : S2048x1024.Idx) := by blk_ext [idx7 t, row]
  rw [e]
  refine (congrArg (fun j => (outsAt0 m c t.val t.isLt).1 (ix2 r j)) (col_head_lane j).symm).trans ?_
  exact do_out m c t (reads t hd ho hz hgw hga hw) r (head j) (lane j)

/-- The gate argument's gradient. -/
theorem dz_final : (dats m 0 c).arrAt 8 cfg0.N = (fun i => (dZ D O Z Gw Ga W (i 0) (i 1) : EReal) : Vec Ideal S2048x1024 .bf16) := by
  refine (dats m 0 c).arrAt_eq_of_covers 8 _ (by decide +kernel) fun t hf y => ?_
  blk_simp
  rw [after0_8]
  obtain ⟨r, j, rfl⟩ : ∃ (r : Fin 256) (j : Fin 1024), y = ix2 r j := ⟨y 0, y 1, eq_ix2 y⟩
  have e : (win0_8.blk t).view.emb (ix2 r j) = (ix2 (row t r) j : S2048x1024.Idx) := by blk_ext [idx8 t, row]
  rw [e]
  exact dz_out (reads t hd ho hz hgw hga hw) r j

/-- The projection's gradient. -/
theorem dw_final : (dats m 0 c).arrAt 9 cfg0.N = (fun i => (dW D O Z Gw Ga (i 0) (i 1) : EReal) : Vec Ideal S1024x1024 .bf16) := by
  refine (dats m 0 c).arrAt_eq_of_covers 9 _ (by decide +kernel) fun t hf y => ?_
  blk_simp
  rw [after0_9]
  obtain ⟨j, k, rfl⟩ : ∃ (j k : Fin 1024), y = ix2 j k := ⟨y 0, y 1, eq_ix2 y⟩
  have e : (win0_9.blk t).view.emb (ix2 j k) = (ix2 j k : S1024x1024.Idx) := by blk_ext [idx9 t]
  rw [e, dw_out ((flush0_9 t).mp hf)]
  exact acc_total 8 (fun n h => (outsAt0 m c n h).2.2.2.2.2 (ix2 j k)) (fun t => act O Z Gw t j * dres D Ga t k) rows_total
    (fun t => dw_sum (reads t hd ho hz hgw hga hw) j k) (le_of_eq N_0) t (last t ((flush0_9 t).mp hf))

/-- The result's gate's gradient. -/
theorem dga_final : (dats m 0 c).arrAt 10 cfg0.N = (fun i => (dGa D O Z Gw W (i 1) : EReal) : Vec Ideal S1x1024 .f32) := by
  refine (dats m 0 c).arrAt_eq_of_covers 10 _ (by decide +kernel) fun t hf y => ?_
  blk_simp
  rw [after0_10]
  obtain ⟨k, rfl⟩ : ∃ (k : Fin 1024), y = ix2 0 k := ⟨y 1, by rw [eq_ix2 y]; congr 1; exact Subsingleton.elim (α := Fin 1) _ _⟩
  have e : (win0_10.blk t).view.emb (ix2 0 k) = (ix2 0 k : S1x1024.Idx) := by blk_ext [idx10 t]
  rw [e]
  exact acc_total 8 (fun n h => (outsAt0 m c n h).2.2.2.1 (ix2 0 k)) (fun t => D t k * ∑ j, act O Z Gw t j * W j k) rows_total
    (fun t => dga_out (reads t hd ho hz hgw hga hw) k) (le_of_eq N_0) t (last t ((flush0_10 t).mp hf))

/-- The norm weight's gradient. -/
theorem dgw_final : (dats m 0 c).arrAt 11 cfg0.N = (fun i => (dGw D O Z Ga W (i 1) : EReal) : Vec Ideal S1x1024 .f32) := by
  refine (dats m 0 c).arrAt_eq_of_covers 11 _ (by decide +kernel) fun t hf y => ?_
  blk_simp
  rw [after0_11]
  obtain ⟨k, rfl⟩ : ∃ (k : Fin 1024), y = ix2 0 k := ⟨y 1, by rw [eq_ix2 y]; congr 1; exact Subsingleton.elim (α := Fin 1) _ _⟩
  have e : (win0_11.blk t).view.emb (ix2 0 k) = (ix2 0 k : S1x1024.Idx) := by blk_ext [idx11 t]
  rw [e]
  exact acc_total 8 (fun n h => (outsAt0 m c n h).2.2.2.2.1 (ix2 0 k)) (fun t => don D Z Ga W t k * nrm O t k) rows_total
    (fun t => dgw_out (reads t hd ho hz hgw hga hw) k) (le_of_eq N_0) t (last t ((flush0_11 t).mp hf))

end

end Cert.OutStage

end
-- ==== Proof.HgrnOut.lean ====
/- The recurrence's output stage: kernel and reference leave the same five gradients, from the two runs and the
   precondition that the arguments they multiply are real. -/
module

public import proofs.«01_k».proof.Defs
public import proofs.«01_k».proof.Proof.HgrnOutArray
public import proofs.«01_k».proof.Proof.HgrnOutRef
public import proofs.«01_k».proof.Proof.Gen.Pre_finite_hgrn_out

@[expose] public section

set_option maxRecDepth 16384

noncomputable section

namespace Cert.OutStage

open Idealize.ShloMosaic Idealize.ShloMosaic.TcCoe Idealize.SL.Sem Cert.Reals

/-- The precondition, read: six arrays of reals, the gate's argument on the rows the stage reads. -/
theorem reals {dx o : FVec Ideal Pre_finite_hgrn_out.S2048x1024 .f32} {g : FVec Ideal Pre_finite_hgrn_out.S5x2304x1024 .f32}
    {gw ga : FVec Ideal Pre_finite_hgrn_out.S1x1024 .f32} {w : FVec Ideal Pre_finite_hgrn_out.S1024x1024 .bf16}
    (h : Pre_finite_hgrn_out.fn (F := Ideal) dx o g gw ga w = fun _ => 1#1) :
    (∃ D : Fin 2048 → Fin 1024 → ℝ, ∀ t k, dx (ix2 t k) = (D t k : EReal))
    ∧ (∃ O : Fin 2048 → Fin 1024 → ℝ, ∀ t k, o (ix2 t k) = (O t k : EReal))
    ∧ (∃ Z : Fin 2048 → Fin 1024 → ℝ, ∀ (t : Fin 2048) k, g (ix3 4 ⟨256 + t.val, late_lt t⟩ k) = (Z t k : EReal))
    ∧ (∃ Gw : Fin 1024 → ℝ, ∀ k, gw (ix2 0 k) = (Gw k : EReal)) ∧ (∃ Ga : Fin 1024 → ℝ, ∀ k, ga (ix2 0 k) = (Ga k : EReal))
    ∧ (∃ W : Fin 1024 → Fin 1024 → ℝ, ∀ j k, w (ix2 j k) = (W j k : EReal)) := by
  have h := congrFun h ix0
  unfold Pre_finite_hgrn_out.fn Pre_finite_hgrn_out.fn_part1 at h
  obtain ⟨h, hw⟩ := IntOp.andi_eq_one.1 h
  obtain ⟨h, hga⟩ := IntOp.andi_eq_one.1 h
  obtain ⟨h, hgw⟩ := IntOp.andi_eq_one.1 h
  obtain ⟨h, hz⟩ := IntOp.andi_eq_one.1 h
  obtain ⟨hd, ho⟩ := IntOp.andi_eq_one.1 h
  obtain ⟨D, hD⟩ := exists_real _ _ _ _ _ _ _ hd
  obtain ⟨O, hO⟩ := exists_real _ _ _ _ _ _ _ ho
  obtain ⟨Z, hZ⟩ := exists_real _ _ _ _ _ _ _ hz
  obtain ⟨Gw, hGw⟩ := exists_real _ _ _ _ _ _ _ hgw
  obtain ⟨Ga, hGa⟩ := exists_real _ _ _ _ _ _ _ hga
  obtain ⟨W, hW⟩ := exists_real_half _ _ _ _ _ _ _ _ hw
  refine ⟨⟨fun t k => D (ix2 t k), fun _ _ => hD _⟩, ⟨fun t k => O (ix2 t k), fun _ _ => hO _⟩, ⟨fun t k => Z (ix2 t k), fun t k => ?_⟩,
    ⟨fun k => Gw (ix2 0 k), fun _ => hGw _⟩, ⟨fun k => Ga (ix2 0 k), fun _ => hGa _⟩, ⟨fun j k => W (ix2 j k), fun _ _ => hW _⟩⟩
  rw [← hZ]
  pointwise []

set_option maxHeartbeats 2000000 in
theorem value : Cert.algebraic_HgrnOutIdeal_HgrnOutRefIdeal_pre_finite_hgrn_out := fun m g m' g' hpre hag => by
  have key : ∀ c, (HgrnOutIdeal.Gen.dats m 0 c).arrAt 7 HgrnOutIdeal.cfg0.N = HgrnOutRefIdeal.Value.res_main_v61 m' c
      ∧ (HgrnOutIdeal.Gen.dats m 0 c).arrAt 8 HgrnOutIdeal.cfg0.N = HgrnOutRefIdeal.Value.res_main_v62 m' c
      ∧ (HgrnOutIdeal.Gen.dats m 0 c).arrAt 9 HgrnOutIdeal.cfg0.N = HgrnOutRefIdeal.Read.val_main_v63 (F := Ideal)
        (m' ((c.tc : Thread _ _).loc HgrnOutRefIdeal.main_arg0)) (m' ((c.tc : Thread _ _).loc HgrnOutRefIdeal.main_arg1))
        (m' ((c.tc : Thread _ _).loc HgrnOutRefIdeal.main_arg2)) (m' ((c.tc : Thread _ _).loc HgrnOutRefIdeal.main_arg3)) (m' ((c.tc : Thread _ _).loc HgrnOutRefIdeal.main_arg4))
      ∧ (HgrnOutIdeal.Gen.dats m 0 c).arrAt 10 HgrnOutIdeal.cfg0.N = HgrnOutRefIdeal.Read.val_main_v31 (F := Ideal)
        (m' ((c.tc : Thread _ _).loc HgrnOutRefIdeal.main_arg0)) (m' ((c.tc : Thread _ _).loc HgrnOutRefIdeal.main_arg1))
        (m' ((c.tc : Thread _ _).loc HgrnOutRefIdeal.main_arg2)) (m' ((c.tc : Thread _ _).loc HgrnOutRefIdeal.main_arg3)) (m' ((c.tc : Thread _ _).loc HgrnOutRefIdeal.main_arg5))
      ∧ (HgrnOutIdeal.Gen.dats m 0 c).arrAt 11 HgrnOutIdeal.cfg0.N = HgrnOutRefIdeal.Read.val_main_v59 (F := Ideal)
        (m' ((c.tc : Thread _ _).loc HgrnOutRefIdeal.main_arg0)) (m' ((c.tc : Thread _ _).loc HgrnOutRefIdeal.main_arg1))
        (m' ((c.tc : Thread _ _).loc HgrnOutRefIdeal.main_arg2)) (m' ((c.tc : Thread _ _).loc HgrnOutRefIdeal.main_arg4)) (m' ((c.tc : Thread _ _).loc HgrnOutRefIdeal.main_arg5)) := by
    intro c
    obtain ⟨⟨D, hd⟩, ⟨O, ho⟩, ⟨Z, hz⟩, ⟨Gw, hgw⟩, ⟨Ga, hga⟩, W, hw⟩ := reals (hpre c)
    rw [HgrnOutRefIdeal.Read.val_main_v61_eq, HgrnOutRefIdeal.Read.val_main_v62_eq]
    obtain ⟨e0, e1, e2, e3, e4, e5⟩ := hag c
    rw [e0, e1, e2, e3, e4, e5]
    exact ⟨(do_final hd ho hz hgw hga hw).trans (Ref.do_coe hd ho hz hgw hga hw).symm,
      (dz_final hd ho hz hgw hga hw).trans (Ref.dz_coe hd ho hz hgw hga hw).symm,
      (dw_final hd ho hz hgw hga hw).trans (Ref.dw_coe hd ho hz hgw hga).symm,
      (dga_final hd ho hz hgw hga hw).trans (Ref.dga_coe hd ho hz hgw hw).symm,
      (dgw_final hd ho hz hgw hga hw).trans (Ref.dgw_coe hd ho hz hga hw).symm⟩
  exact ⟨_, _, _, _, _, HgrnOutIdeal.Value.run_blocks m g, (θ_run _ _ _).mono (fun r h c => by
    obtain ⟨h0, h1, h2, h3, h4, h⟩ := h c
    obtain ⟨k0, k1, k2, k3, k4⟩ := key c
    exact ⟨h0.trans k0.symm, h1.trans k1.symm, h2.trans k2.symm, h3.trans k3.symm, h4.trans k4.symm, h⟩) (HgrnOutRefIdeal.Value.run m' g')⟩

theorem frame_reference : Cert.quiescent_HgrnOutRefIdeal := fun m g _ =>
  (θ_run HgrnOutRefIdeal.defs _ _).mono (fun r h => ⟨fun c => (h c).2.2.2.2.2, sem_eq_zero_of_no_sems rfl r.2⟩)
    (HgrnOutRefIdeal.Value.run (F := Ideal) m g)

end Cert.OutStage

end
-- ==== Proof.HgrnInRun.lean ====
/- The body of the recurrence-input norm's backward pass run on arbitrary staging buffers, case by case: the first block is the
   context's, the second is the first latent block, the others follow it. Each run hands the inputs back as they were and
   each output as the pieces its stores wrote. -/
module

public import proofs.«01_k».proof.Proof.Gen.HgrnInIdeal.Frame
public import proofs.«01_k».proof.Proof.Gen.HgrnInIdeal.Skeleton

@[expose] public section

set_option maxRecDepth 16384

noncomputable section

namespace Cert.HgrnInStage

open Cert.HgrnInIdeal Cert.HgrnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The camera the ownership assertions speak of. -/
abbrev World (F : FTy → Type) [FloatOps F] := MT nD τ sig Unit (Elt F) ℕ (UR sig nD τ) ℕ

/-! ## The branch conditions, over the nine points -/

/-- The norm weight's sums are cleared. -/
abbrev first (i : grid0.Coords) : Prop := (Scalar.cmpi .ne (Scalar.extui (Scalar.cmpi .eq (BitVec.ofNat 32 (i 0).val) 0#32)) 0#32) = 1#1
/-- The modulation's sums are cleared. -/
abbrev opens (i : grid0.Coords) : Prop :=
  (Scalar.cmpi .ne (Scalar.extui (Scalar.ori (Scalar.cmpi .eq (BitVec.ofNat 32 (i 0).val) 0#32) (Scalar.cmpi .eq (BitVec.ofNat 32 (i 0).val) 1#32))) 0#32) = 1#1
/-- The input's gradient is stored: the block is a latent one. -/
abbrev latent (i : grid0.Coords) : Prop := k0_cond3 i = 1#1

theorem first_iff : ∀ t : Fin cfg0.N, first (grid0.coords t) ↔ t.val = 0 := by decide +kernel
theorem opens_iff : ∀ t : Fin cfg0.N, opens (grid0.coords t) ↔ t.val < 2 := by decide +kernel
theorem latent_iff : ∀ t : Fin cfg0.N, latent (grid0.coords t) ↔ 1 ≤ t.val := by decide +kernel

/-! ## The staging buffers of a point -/

abbrev ms0 (t : Fin cfg0.N) : Memref sig .tc .vmem S5x256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x5120 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8x1024 .f32 := win0_9.stage (cfg0.slots t 9)
abbrev hs9 (t : Fin cfg0.N) : (ms9 t).IsWhole := hstage0_9 ((cfg0.slots t 9).cast nbuf0_9)

/-! ## The runs -/

variable (c : Dev nD) (i : grid0.Coords)
  (arg1 : Memref sig .tc .vmem S5x256x1024 .bf16) (harg1 : arg1.IsWhole)
  (arg2 : Memref sig .tc .vmem S1024x5120 .bf16) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S1x1024 .f32) (harg5 : arg5.IsWhole)
  (arg6 : Memref sig .tc .vmem S1x1x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S1x1024 .f32) (harg9 : arg9.IsWhole)
  (arg10 : Memref sig .tc .vmem S1x8x1024 .f32) (harg10 : arg10.IsWhole)
  (x0 : Vec F S5x256x1024 .bf16)  (x1 : Vec F S1024x5120 .bf16)  (x2 : Vec F S256x1024 .f32)  (x3 : Vec F S256x1024 .f32)
  (x4 : Vec F S1x1024 .f32)  (x5 : Vec F S1x1x1024 .f32)  (x6 : Vec F S256x1024 .f32)

/-- The seven inputs' buffers at their contents. -/
def inputs : sProp (World F) :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6)

set_option maxHeartbeats 1000000 in
/-- The first point: every sum is cleared, the block is the context's, and no input gradient is stored. -/
def runContext (hc0 : first i) (hc1 : opens i) (hc2 : ¬latent i) :
    Σ' (L8 : List (View.Piece (Elt F) S1x1024 .f32)), { L9 : List (View.Piece (Elt F) S1x8x1024 .f32) //
      ∀ (E : Set ℕ) (K : PUnit → sProp (World F)),
        iprop(inputs c arg1 arg2 arg3 arg4 arg5 arg6 arg7 x0 x1 x2 x3 x4 x5 x6 ∗ (∃ d, owns (c : Thread nD τ) arg9 fullShare d) ∗ (∃ d, owns (c : Thread nD τ) arg10 fullShare d)
            ∗ (iprop(inputs c arg1 arg2 arg3 arg4 arg5 arg6 arg7 x0 x1 x2 x3 x4 x5 x6 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_hgrn_in_backward i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_hgrn_in_backward_eq_skeleton]; unfold cc0_hgrn_in_backward_skel
    simp only [k0_part1_eq_skeleton, k0_part2_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2)
    sl_step
    iapply Hk
    isplitl [H0 H1 H2 H3 H4 H5 H6]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      iexists _; isplitr; · ipureintro; exact harg7.read_unread _
      iexact H6
    isplitl [H8]; · iexists _; iexact H8
    iexists _; iexact H9

set_option maxHeartbeats 1000000 in
/-- The second point: the modulation's sums are cleared, the norm weight's go on. -/
def runSecond (hc0 : ¬first i) (hc1 : opens i) (hc2 : latent i)
    (xo8 : Vec F S1x1024 .f32) :
    Σ' (L7 : List (View.Piece (Elt F) S256x1024 .f32)), Σ' (L8 : List (View.Piece (Elt F) S1x1024 .f32)), { L9 : List (View.Piece (Elt F) S1x8x1024 .f32) //
      ∀ (E : Set ℕ) (K : PUnit → sProp (World F)),
        iprop(inputs c arg1 arg2 arg3 arg4 arg5 arg6 arg7 x0 x1 x2 x3 x4 x5 x6 ∗ (∃ d, owns (c : Thread nD τ) arg8 fullShare d) ∗ owns (c : Thread nD τ) arg9 fullShare xo8 ∗ (∃ d, owns (c : Thread nD τ) arg10 fullShare d)
            ∗ (iprop(inputs c arg1 arg2 arg3 arg4 arg5 arg6 arg7 x0 x1 x2 x3 x4 x5 x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_hgrn_in_backward i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_hgrn_in_backward_eq_skeleton]; unfold cc0_hgrn_in_backward_skel
    simp only [k0_part1_eq_skeleton, k0_part2_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | sl_exact hc0 | sl_exact hc1 | sl_exact hc2)
    sl_step
    iapply Hk
    isplitl [H0 H1 H2 H3 H4 H5 H6]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      iexists _; isplitr; · ipureintro; exact harg7.read_unread _
      iexact H6
    isplitl [H7]; · iexists _; iexact H7
    isplitl [H8]; · iexists _; iexact H8
    iexists _; iexact H9

set_option maxHeartbeats 1000000 in
/-- A later point: every sum goes on. -/
def runLater (hc0 : ¬first i) (hc1 : ¬opens i) (hc2 : latent i)
    (xo8 : Vec F S1x1024 .f32)
    (xo9 : Vec F S1x8x1024 .f32) :
    Σ' (L7 : List (View.Piece (Elt F) S256x1024 .f32)), Σ' (L8 : List (View.Piece (Elt F) S1x1024 .f32)), { L9 : List (View.Piece (Elt F) S1x8x1024 .f32) //
      ∀ (E : Set ℕ) (K : PUnit → sProp (World F)),
        iprop(inputs c arg1 arg2 arg3 arg4 arg5 arg6 arg7 x0 x1 x2 x3 x4 x5 x6 ∗ (∃ d, owns (c : Thread nD τ) arg8 fullShare d) ∗ owns (c : Thread nD τ) arg9 fullShare xo8 ∗ owns (c : Thread nD τ) arg10 fullShare xo9
            ∗ (iprop(inputs c arg1 arg2 arg3 arg4 arg5 arg6 arg7 x0 x1 x2 x3 x4 x5 x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread xo9) L9)) -∗ K ⟨⟩))
          ⊢ wp frame (wpE (defs₀ (F := F)) Variants.none c none) E (cc0_hgrn_in_backward i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_hgrn_in_backward_eq_skeleton]; unfold cc0_hgrn_in_backward_skel
    simp only [k0_part1_eq_skeleton, k0_part2_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | sl_exact hc0 | sl_exact hc1 | sl_exact hc2)
    sl_step
    iapply Hk
    isplitl [H0 H1 H2 H3 H4 H5 H6]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      iexists _; isplitr; · ipureintro; exact harg7.read_unread _
      iexact H6
    isplitl [H7]; · iexists _; iexact H7
    isplitl [H8]; · iexists _; iexact H8
    iexact H9

end Cert.HgrnInStage

end
-- ==== Proof.HgrnInOuts.lean ====
/- What one point of the recurrence-input norm's backward pass leaves in each output's staging buffer, as functions of the
   blocks it reads and of what it carries: the input's gradient, the norm weight's sums, and the two rows of the
   modulation's sums. -/
module

public import proofs.«01_k».proof.Proof.HgrnInRun
public import Idealize.ShloMosaic.Lib.WritesUnit
public import Idealize.ShloMosaic.Lib.Pipeline.Value
public import Idealize.ShloMosaic.Lib.Pipeline.ValueKit.Tiles
public import proofs.«01_k».proof.Proof.Norm

@[expose] public section

set_option maxRecDepth 16384

noncomputable section

namespace Cert.HgrnInStage

open Cert.HgrnInIdeal Cert.HgrnInIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section
variable (b : BitVec 32) (x0 : Vec F S5x256x1024 .bf16) (x1 : Vec F S1024x5120 .bf16) (x2 x3 x6 : Vec F S256x1024 .f32)
  (x4 : Vec F S1x1024 .f32) (x5 : Vec F S1x1x1024 .f32)

/-- The first four sections' products with the transposed projection, summed. -/
def dhPart : FVec F S256x1024 .f32 :=
  k0_pay7 (View.ld (Val := Elt F) (e' := .bf16) x0 (Rect.unit (s := S5x256x1024) ![0, 0, 0] S1x256x1024.size inb_S5x256x1024_S1x256x1024_0_0_0))
    (View.ld (Val := Elt F) (e' := .bf16) x1 (Rect.unit (s := S1024x5120) ![0, 0] S1024x1024.size inb_S1024x5120_S1024x1024_0_0))
    (View.ld (Val := Elt F) (e' := .bf16) x0 (Rect.unit (s := S5x256x1024) ![1, 0, 0] S1x256x1024.size inb_S5x256x1024_S1x256x1024_1_0_0))
    (View.ld (Val := Elt F) (e' := .bf16) x1 (Rect.unit (s := S1024x5120) ![0, 1024] S1024x1024.size inb_S1024x5120_S1024x1024_0_1024))
    (View.ld (Val := Elt F) (e' := .bf16) x0 (Rect.unit (s := S5x256x1024) ![2, 0, 0] S1x256x1024.size inb_S5x256x1024_S1x256x1024_2_0_0))
    (View.ld (Val := Elt F) (e' := .bf16) x1 (Rect.unit (s := S1024x5120) ![0, 2048] S1024x1024.size inb_S1024x5120_S1024x1024_0_2048))
    (View.ld (Val := Elt F) (e' := .bf16) x0 (Rect.unit (s := S5x256x1024) ![3, 0, 0] S1x256x1024.size inb_S5x256x1024_S1x256x1024_3_0_0))
    (View.ld (Val := Elt F) (e' := .bf16) x1 (Rect.unit (s := S1024x5120) ![0, 3072] S1024x1024.size inb_S1024x5120_S1024x1024_0_3072))
/-- The fifth section of the cotangent's block. -/
def sec4 : Vec F S1x256x1024 .bf16 :=
  View.ld (Val := Elt F) (e' := .bf16) x0 (Rect.unit (s := S5x256x1024) ![4, 0, 0] S1x256x1024.size inb_S5x256x1024_S1x256x1024_4_0_0)
/-- The columns of the projection that make the fifth section. -/
def cols4 : Vec F S1024x1024 .bf16 :=
  View.ld (Val := Elt F) (e' := .bf16) x1 (Rect.unit (s := S1024x5120) ![0, 4096] S1024x1024.size inb_S1024x5120_S1024x1024_0_4096)
/-- The gradient with respect to the projection's input. -/
def dhOf : FVec F S256x1024 .f32 := k0_pay8 (dhPart x0 x1) (sec4 x0) (cols4 x1)

/-- The block of the input's gradient. -/
def dxOf : FVec F S256x1024 .f32 := k0_pay4 (dhOf x0 x1) (k0_pay10 b x2 x3) (k0_pay11 b x2 x3) x4 x5 x6
/-- The norm weight's sums after the point, over what they were. -/
def dnwOf (p : Vec F S1x1024 .f32) : FVec F S1x1024 .f32 := k0_pay3 (dhOf x0 x1) (k0_pay11 b x2 x3) x5 p
/-- The shift's row after the point, over what it was. -/
def shiftOf (p : Vec F S1x1x1024 .f32) : FVec F S1x1x1024 .f32 := k0_pay12 (dhPart x0 x1) (sec4 x0) (cols4 x1) p
/-- The scale's row after the point, over what it was. -/
def scaleOf (p : Vec F S1x1x1024 .f32) : FVec F S1x1x1024 .f32 :=
  k0_pay1 (k0_pay13 p) (k0_pay14 b (dhPart x0 x1) (sec4 x0) (cols4 x1) x2 x3 x4)
/-- Row `k` of a block of eight. -/
def rowOf (p : Vec F S1x8x1024 .f32) (k : Fin 8) : Vec F S1x1x1024 .f32 := fun j => p (ix3 0 k (j 2))
/-- A block of eight rows with the first two replaced. -/
def twoRows (p : Vec F S1x8x1024 .f32) (v0 v1 : Vec F S1x1x1024 .f32) : Vec F S1x8x1024 .f32 := fun j =>
  if (j 1).val = 0 then v0 (ix3 0 0 (j 2)) else if (j 1).val = 1 then v1 (ix3 0 0 (j 2)) else p j
/-- The modulation's rows after the point, over what they were. -/
def dmodOf (p : Vec F S1x8x1024 .f32) : Vec F S1x8x1024 .f32 :=
  twoRows p (shiftOf x0 x1 (rowOf p 0)) (scaleOf b x0 x1 x2 x3 x4 (rowOf p 1))
end

/-- Two rows written over any contents. -/
theorem read_twoRows (v : View sig .tc .vmem S1x8x1024 .f32) (f : v.ty.Contents (Elt F)) (v0 v1 : Vec F S1x1x1024 .f32) :
    v.read (Elt F) (v.writes (Elt F) f [⟨Rect.unit (s := S1x8x1024) ![0, 1, 0] S1x1x1024.size inb_S1x8x1024_S1x1x1024_0_1_0, v1⟩,
      ⟨Rect.unit (s := S1x8x1024) ![0, 0, 0] S1x1x1024.size inb_S1x8x1024_S1x1x1024_0_0_0, v0⟩]) = twoRows (v.read (Elt F) f) v0 v1 := by
  funext y
  obtain ⟨k, l, rfl⟩ : ∃ (k : Fin 8) (l : Fin 1024), y = ix3 0 k l :=
    ⟨y 1, y 2, by rw [eq_ix3 y]; congr 1; exact Subsingleton.elim (α := Fin 1) _ _⟩
  show _ = if k.val = 0 then v0 (ix3 0 0 l) else if k.val = 1 then v1 (ix3 0 0 l) else v.read (Elt F) f (ix3 0 k l)
  by_cases h0 : k.val = 0
  · obtain rfl : k = 0 := Fin.ext h0
    rw [if_pos h0, View.read_writes_cons_unit_of_not_mem _ _ _ _ _ _ rfl 1 (Or.inl Nat.zero_lt_one),
      View.read_writes_cons_unit_of_mem _ _ _ _ _ _ (ix3 0 0 l) rfl (fun a => by fin_cases a <;> simp [ix3])]
  · rw [if_neg h0]
    by_cases h1 : k.val = 1
    · obtain rfl : k = 1 := Fin.ext h1
      rw [if_pos h1, View.read_writes_cons_unit_of_mem _ _ _ _ _ _ (ix3 0 0 l) rfl (fun a => by fin_cases a <;> simp [ix3])]
    · have hk : 2 ≤ k.val := by omega
      rw [if_neg h1, View.read_writes_cons_unit_of_not_mem _ _ _ _ _ _ rfl 1 (Or.inr hk),
        View.read_writes_cons_unit_of_not_mem _ _ _ _ _ _ rfl 1 (Or.inr (Nat.le_of_succ_le hk))]
      rfl

/-- Reading one row of a block of eight. -/
theorem ld_row0 (p : Vec F S1x8x1024 .f32) : View.ld (Val := Elt F) (e' := .f32) p
    (Rect.unit (s := S1x8x1024) ![0, 0, 0] S1x1x1024.size inb_S1x8x1024_S1x1x1024_0_0_0) = rowOf p 0 := by
  funext j
  obtain ⟨l, rfl⟩ : ∃ l : Fin 1024, j = ix3 0 0 l :=
    ⟨j 2, by rw [eq_ix3 j]; congr 1 <;> exact Subsingleton.elim (α := Fin 1) _ _⟩
  exact View.ld_unit_apply_of _ _ _ _ _ (ix3 0 0 l) fun a => by fin_cases a <;> simp [ix3]

theorem ld_row1 (p : Vec F S1x8x1024 .f32) : View.ld (Val := Elt F) (e' := .f32) p
    (Rect.unit (s := S1x8x1024) ![0, 1, 0] S1x1x1024.size inb_S1x8x1024_S1x1x1024_0_1_0) = rowOf p 1 := by
  funext j
  obtain ⟨l, rfl⟩ : ∃ l : Fin 1024, j = ix3 0 0 l :=
    ⟨j 2, by rw [eq_ix3 j]; congr 1 <;> exact Subsingleton.elim (α := Fin 1) _ _⟩
  exact View.ld_unit_apply_of _ _ _ _ _ (ix3 0 1 l) fun a => by fin_cases a <;> simp [ix3]

/-- The same rows of a block just stored whole. -/
theorem cov_row0 (v : View sig .tc .vmem S1x8x1024 .f32) (w : Vec F S1x8x1024 .f32) :
    v.readCov [(⟨Rect.unit (s := S1x8x1024) ![0, 0, 0] S1x8x1024.size inb_S1x8x1024_S1x8x1024_0_0_0, w⟩ : View.Piece (Elt F) S1x8x1024 .f32)]
      (Rect.unit (s := S1x8x1024) ![0, 0, 0] S1x1x1024.size inb_S1x8x1024_S1x1x1024_0_0_0).toLoadRect = rowOf w 0 := by
  rw [View.readCov_eq_canon', View.canon_cons_unit_zero (S := S1x8x1024) hz3]
  exact ld_row0 w

theorem cov_row1 (v : View sig .tc .vmem S1x8x1024 .f32) (w : Vec F S1x8x1024 .f32) (r : Vec F S1x1x1024 .f32) :
    v.readCov [(⟨Rect.unit (s := S1x8x1024) ![0, 0, 0] S1x1x1024.size inb_S1x8x1024_S1x1x1024_0_0_0, r⟩ : View.Piece (Elt F) S1x8x1024 .f32),
      ⟨Rect.unit (s := S1x8x1024) ![0, 0, 0] S1x8x1024.size inb_S1x8x1024_S1x8x1024_0_0_0, w⟩]
      (Rect.unit (s := S1x8x1024) ![0, 1, 0] S1x1x1024.size inb_S1x8x1024_S1x1x1024_0_1_0).toLoadRect = rowOf w 1 := by
  rw [View.readCov_cons_of_disjoint, View.readCov_eq_canon', View.canon_cons_unit_zero (S := S1x8x1024) hz3]
  · exact ld_row1 w
  · exact Rect.unit_disjoint (inb := inb_S1x8x1024_S1x1x1024_0_0_0) 1 (Or.inl Nat.le.refl)

/-- A block stored whole and then overwritten in its first two rows. -/
theorem read_cleared (v : View sig .tc .vmem S1x8x1024 .f32) (f : v.ty.Contents (Elt F)) (w : Vec F S1x8x1024 .f32) (v0 v1 : Vec F S1x1x1024 .f32) :
    v.read (Elt F) (v.writes (Elt F) f [⟨Rect.unit (s := S1x8x1024) ![0, 1, 0] S1x1x1024.size inb_S1x8x1024_S1x1x1024_0_1_0, v1⟩,
      ⟨Rect.unit (s := S1x8x1024) ![0, 0, 0] S1x1x1024.size inb_S1x8x1024_S1x1x1024_0_0_0, v0⟩,
      ⟨Rect.unit (s := S1x8x1024) ![0, 0, 0] S1x8x1024.size inb_S1x8x1024_S1x8x1024_0_0_0, w⟩]) = twoRows w v0 v1 := by
  have h := read_twoRows v (v.writes (Elt F) f [⟨Rect.unit (s := S1x8x1024) ![0, 0, 0] S1x8x1024.size inb_S1x8x1024_S1x8x1024_0_0_0, w⟩]) v0 v1
  rw [View.writes_cons, View.writes_cons, View.writes_nil] at h
  rw [View.writes_cons, View.writes_cons]
  refine h.trans ?_
  refine congrArg (fun q => twoRows q v0 v1) (funext fun y => ?_)
  obtain ⟨k, l, rfl⟩ : ∃ (k : Fin 8) (l : Fin 1024), y = ix3 0 k l :=
    ⟨y 1, y 2, by rw [eq_ix3 y]; congr 1; exact Subsingleton.elim (α := Fin 1) _ _⟩
  rw [View.read_writes_cons_unit_of_mem _ _ _ _ _ _ (ix3 0 k l) rfl (fun a => by fin_cases a <;> simp [ix3])]

variable (c : Dev nD) (i : grid0.Coords)
  (arg1 : Memref sig .tc .vmem S5x256x1024 .bf16) (harg1 : arg1.IsWhole)
  (arg2 : Memref sig .tc .vmem S1024x5120 .bf16) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S1x1024 .f32) (harg5 : arg5.IsWhole)
  (arg6 : Memref sig .tc .vmem S1x1x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S1x1024 .f32) (harg9 : arg9.IsWhole)
  (arg10 : Memref sig .tc .vmem S1x8x1024 .f32) (harg10 : arg10.IsWhole)
  (x0 : Vec F S5x256x1024 .bf16) (x1 : Vec F S1024x5120 .bf16) (x2 x3 : Vec F S256x1024 .f32)
  (x4 : Vec F S1x1024 .f32) (x5 : Vec F S1x1x1024 .f32) (x6 : Vec F S256x1024 .f32)
  (xo8 : Vec F S1x1024 .f32) (xo9 : Vec F S1x8x1024 .f32)

/-- The point's number, as the body reads it. -/
abbrev word : BitVec 32 := BitVec.ofNat 32 (i 0).val

/-- The first point's sums of the norm weight. -/
theorem context8 (hc0 : first i) (hc1 : opens i) (hc2 : ¬latent i) (f : arg9.view.ty.Contents (Elt F)) :
    arg9.view.read (Elt F) (arg9.view.writes (Elt F) f (runContext c i arg1 harg1 arg2 harg2 arg3 harg3 arg4 harg4 arg5 harg5 arg6 harg6
      arg7 harg7 arg8 harg8 arg9 harg9 arg10 harg10 x0 x1 x2 x3 x4 x5 x6 hc0 hc1 hc2).1) = dnwOf (word i) x0 x1 x2 x3 x5 (k0_pay5 (F := F)) := by
  unfold runContext
  dsimp only
  sl_unfold_words
  rw [View.read_writes_eq_canon _ _ _ (fun y => View.cover_of_tiledL _ S1x1024.size (by sl_kernel_rfl) y)]
  simp only [View.canon_cons_unit_zero (S := S1x1024) hz2, View.readCov_unit_zero (S := S1x1024) _ hz2, View.readAt_eq_ld, harg1.read_unread, harg2.read_unread, harg3.read_unread, harg4.read_unread, harg5.read_unread,
    harg6.read_unread, harg7.read_unread, harg9.read_unread, View.ld_unit_zero (S := S256x1024) hz2, View.ld_unit_zero (S := S1x1024) hz2, View.ld_unit_zero (S := S1x1x1024) hz3]
  rfl

/-- The first point's rows of the modulation. -/
theorem context9 (hc0 : first i) (hc1 : opens i) (hc2 : ¬latent i) (f : arg10.view.ty.Contents (Elt F)) :
    arg10.view.read (Elt F) (arg10.view.writes (Elt F) f (runContext c i arg1 harg1 arg2 harg2 arg3 harg3 arg4 harg4 arg5 harg5 arg6 harg6
      arg7 harg7 arg8 harg8 arg9 harg9 arg10 harg10 x0 x1 x2 x3 x4 x5 x6 hc0 hc1 hc2).2) = dmodOf (word i) x0 x1 x2 x3 x4 (k0_pay6 (F := F)) := by
  unfold runContext
  dsimp only
  sl_unfold_words
  rw [read_cleared]
  simp only [View.readAt_eq_ld, harg1.read_unread, harg2.read_unread, harg3.read_unread, harg4.read_unread, harg5.read_unread,
    harg6.read_unread, harg7.read_unread, harg9.read_unread, View.ld_unit_zero (S := S256x1024) hz2, View.ld_unit_zero (S := S1x1024) hz2, View.ld_unit_zero (S := S1x1x1024) hz3]
  exact congrArg₂ (twoRows (k0_pay6 (F := F))) (congrArg (shiftOf x0 x1) (cov_row0 arg10.view _))
    (congrArg (scaleOf (word i) x0 x1 x2 x3 x4) (cov_row1 arg10.view _ _))

/-- The second point's block of the input's gradient. -/
theorem second7 (hc0 : ¬first i) (hc1 : opens i) (hc2 : latent i) (f : arg8.view.ty.Contents (Elt F)) :
    arg8.view.read (Elt F) (arg8.view.writes (Elt F) f (runSecond c i arg1 harg1 arg2 harg2 arg3 harg3 arg4 harg4 arg5 harg5 arg6 harg6
      arg7 harg7 arg8 harg8 arg9 harg9 arg10 harg10 x0 x1 x2 x3 x4 x5 x6 hc0 hc1 hc2 xo8).1) = dxOf (word i) x0 x1 x2 x3 x6 x4 x5 := by
  unfold runSecond
  dsimp only
  sl_unfold_words
  rw [View.read_writes_eq_canon _ _ _ (fun y => View.cover_of_tiledL _ S256x1024.size (by sl_kernel_rfl) y)]
  simp only [View.canon_cons_unit_zero (S := S256x1024) hz2, View.readAt_eq_ld, harg1.read_unread, harg2.read_unread, harg3.read_unread, harg4.read_unread, harg5.read_unread,
    harg6.read_unread, harg7.read_unread, harg9.read_unread, View.ld_unit_zero (S := S256x1024) hz2, View.ld_unit_zero (S := S1x1024) hz2, View.ld_unit_zero (S := S1x1x1024) hz3]
  rfl

/-- The second point's sums of the norm weight. -/
theorem second8 (hc0 : ¬first i) (hc1 : opens i) (hc2 : latent i) (f : arg9.view.ty.Contents (Elt F)) :
    arg9.view.read (Elt F) (arg9.view.writes (Elt F) f (runSecond c i arg1 harg1 arg2 harg2 arg3 harg3 arg4 harg4 arg5 harg5 arg6 harg6
      arg7 harg7 arg8 harg8 arg9 harg9 arg10 harg10 x0 x1 x2 x3 x4 x5 x6 hc0 hc1 hc2 xo8).2.1) = dnwOf (word i) x0 x1 x2 x3 x5 (xo8) := by
  unfold runSecond
  dsimp only
  sl_unfold_words
  rw [View.read_writes_eq_canon _ _ _ (fun y => View.cover_of_tiledL _ S1x1024.size (by sl_kernel_rfl) y)]
  simp only [View.canon_cons_unit_zero (S := S1x1024) hz2, View.readAt_eq_ld, harg1.read_unread, harg2.read_unread, harg3.read_unread, harg4.read_unread, harg5.read_unread,
    harg6.read_unread, harg7.read_unread, harg9.read_unread, View.ld_unit_zero (S := S256x1024) hz2, View.ld_unit_zero (S := S1x1024) hz2, View.ld_unit_zero (S := S1x1x1024) hz3]
  rfl

/-- The second point's rows of the modulation. -/
theorem second9 (hc0 : ¬first i) (hc1 : opens i) (hc2 : latent i) (f : arg10.view.ty.Contents (Elt F)) :
    arg10.view.read (Elt F) (arg10.view.writes (Elt F) f (runSecond c i arg1 harg1 arg2 harg2 arg3 harg3 arg4 harg4 arg5 harg5 arg6 harg6
      arg7 harg7 arg8 harg8 arg9 harg9 arg10 harg10 x0 x1 x2 x3 x4 x5 x6 hc0 hc1 hc2 xo8).2.2) = dmodOf (word i) x0 x1 x2 x3 x4 (k0_pay6 (F := F)) := by
  unfold runSecond
  dsimp only
  sl_unfold_words
  rw [read_cleared]
  simp only [View.readAt_eq_ld, harg1.read_unread, harg2.read_unread, harg3.read_unread, harg4.read_unread, harg5.read_unread,
    harg6.read_unread, harg7.read_unread, harg9.read_unread, View.ld_unit_zero (S := S256x1024) hz2, View.ld_unit_zero (S := S1x1024) hz2, View.ld_unit_zero (S := S1x1x1024) hz3]
  exact congrArg₂ (twoRows (k0_pay6 (F := F))) (congrArg (shiftOf x0 x1) (cov_row0 arg10.view _))
    (congrArg (scaleOf (word i) x0 x1 x2 x3 x4) (cov_row1 arg10.view _ _))

/-- A later point's block of the input's gradient. -/
theorem later7 (hc0 : ¬first i) (hc1 : ¬opens i) (hc2 : latent i) (f : arg8.view.ty.Contents (Elt F)) :
    arg8.view.read (Elt F) (arg8.view.writes (Elt F) f (runLater c i arg1 harg1 arg2 harg2 arg3 harg3 arg4 harg4 arg5 harg5 arg6 harg6
      arg7 harg7 arg8 harg8 arg9 harg9 arg10 harg10 x0 x1 x2 x3 x4 x5 x6 hc0 hc1 hc2 xo8 xo9).1) = dxOf (word i) x0 x1 x2 x3 x6 x4 x5 := by
  unfold runLater
  dsimp only
  sl_unfold_words
  rw [View.read_writes_eq_canon _ _ _ (fun y => View.cover_of_tiledL _ S256x1024.size (by sl_kernel_rfl) y)]
  simp only [View.canon_cons_unit_zero (S := S256x1024) hz2, View.readAt_eq_ld, harg1.read_unread, harg2.read_unread, harg3.read_unread, harg4.read_unread, harg5.read_unread,
    harg6.read_unread, harg7.read_unread, harg9.read_unread, View.ld_unit_zero (S := S256x1024) hz2, View.ld_unit_zero (S := S1x1024) hz2, View.ld_unit_zero (S := S1x1x1024) hz3]
  rfl

/-- A later point's sums of the norm weight. -/
theorem later8 (hc0 : ¬first i) (hc1 : ¬opens i) (hc2 : latent i) (f : arg9.view.ty.Contents (Elt F)) :
    arg9.view.read (Elt F) (arg9.view.writes (Elt F) f (runLater c i arg1 harg1 arg2 harg2 arg3 harg3 arg4 harg4 arg5 harg5 arg6 harg6
      arg7 harg7 arg8 harg8 arg9 harg9 arg10 harg10 x0 x1 x2 x3 x4 x5 x6 hc0 hc1 hc2 xo8 xo9).2.1) = dnwOf (word i) x0 x1 x2 x3 x5 (xo8) := by
  unfold runLater
  dsimp only
  sl_unfold_words
  rw [View.read_writes_eq_canon _ _ _ (fun y => View.cover_of_tiledL _ S1x1024.size (by sl_kernel_rfl) y)]
  simp only [View.canon_cons_unit_zero (S := S1x1024) hz2, View.readAt_eq_ld, harg1.read_unread, harg2.read_unread, harg3.read_unread, harg4.read_unread, harg5.read_unread,
    harg6.read_unread, harg7.read_unread, harg9.read_unread, View.ld_unit_zero (S := S256x1024) hz2, View.ld_unit_zero (S := S1x1024) hz2, View.ld_unit_zero (S := S1x1x1024) hz3]
  rfl

/-- A later point's rows of the modulation. -/
theorem later9 (hc0 : ¬first i) (hc1 : ¬opens i) (hc2 : latent i) :
    arg10.view.read (Elt F) (arg10.view.writes (Elt F) (harg10.unread xo9) (runLater c i arg1 harg1 arg2 harg2 arg3 harg3 arg4 harg4 arg5 harg5 arg6 harg6
      arg7 harg7 arg8 harg8 arg9 harg9 arg10 harg10 x0 x1 x2 x3 x4 x5 x6 hc0 hc1 hc2 xo8 xo9).2.2) = dmodOf (word i) x0 x1 x2 x3 x4 (xo9) := by
  unfold runLater
  dsimp only
  sl_unfold_words
  rw [read_twoRows]
  simp only [harg10.read_unread, View.readAt_eq_ld, harg1.read_unread, harg2.read_unread, harg3.read_unread, harg4.read_unread, harg5.read_unread,
    harg6.read_unread, harg7.read_unread, harg9.read_unread, View.ld_unit_zero (S := S256x1024) hz2, View.ld_unit_zero (S := S1x1024) hz2, View.ld_unit_zero (S := S1x1x1024) hz3]
  exact congrArg₂ (twoRows xo9) (congrArg (shiftOf x0 x1) (ld_row0 xo9)) (congrArg (scaleOf (word i) x0 x1 x2 x3 x4) (ld_row1 xo9))

end Cert.HgrnInStage

end
-- ==== Proof.HgrnInFrame.lean ====
/- The recurrence-input norm's backward pass run whole: what each of the nine points leaves in the outputs' buffers, the body's
   triple at each, the run of the call, and that it leaves its arguments as they were. -/
module

public import proofs.«01_k».proof.Proof.HgrnInOuts
public import proofs.«01_k».proof.Proof.Gen.HgrnInIdeal.Points
public import proofs.«01_k».proof.Proof.Gen.HgrnInIdeal.Launch
public import Idealize.ShloMosaic.Lib.Claim

@[expose] public section

set_option maxRecDepth 16384

noncomputable section

namespace Cert.HgrnInStage

open Cert.HgrnInIdeal Cert.HgrnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## What each point leaves -/

section
variable (c : Dev nD) (t : Fin cfg0.N)

/-- The blocks of point `t`: the cotangent's, the projection, the context, the latent rows, the norm's weight, the scale, and
    the gradient coming from above. -/
abbrev gB : Vec F S5x256x1024 .bf16 := iblk m c 0 t
abbrev wB : Vec F S1024x5120 .bf16 := iblk m c 1 t
abbrev ctxB : Vec F S256x1024 .f32 := iblk m c 2 t
abbrev xB : Vec F S256x1024 .f32 := iblk m c 3 t
abbrev nB : Vec F S1x1024 .f32 := iblk m c 4 t
abbrev sB : Vec F S1x1x1024 .f32 := iblk m c 5 t
abbrev uB : Vec F S256x1024 .f32 := iblk m c 6 t

/-- The block of the input's gradient at point `t`. -/
def dxAt : Vec F S256x1024 .f32 :=
  dxOf (word (grid0.coords t)) (gB m c t) (wB m c t) (ctxB m c t) (xB m c t) (uB m c t) (nB m c t) (sB m c t)
/-- The norm weight's sums after point `t`, over what they were. -/
def dnwStep (p : Vec F S1x1024 .f32) : Vec F S1x1024 .f32 :=
  dnwOf (word (grid0.coords t)) (gB m c t) (wB m c t) (ctxB m c t) (xB m c t) (sB m c t) p
/-- The modulation's rows after point `t`, over what they were. -/
def dmodStep (p : Vec F S1x8x1024 .f32) : Vec F S1x8x1024 .f32 :=
  dmodOf (word (grid0.coords t)) (gB m c t) (wB m c t) (ctxB m c t) (xB m c t) (nB m c t) p
end

/-- The sums after each point: the norm weight's begin at the first, the modulation's at the first and again at the second. -/
def sums (c : Dev nD) : (n : ℕ) → n < cfg0.N → Vec F S1x1024 .f32 × Vec F S1x8x1024 .f32
  | 0, h => (dnwStep m c ⟨0, h⟩ (k0_pay5 (F := F)), dmodStep m c ⟨0, h⟩ (k0_pay6 (F := F)))
  | n + 1, h => (dnwStep m c ⟨n + 1, h⟩ (sums c n (Nat.lt_of_succ_lt h)).1,
      dmodStep m c ⟨n + 1, h⟩ (if n + 1 < 2 then k0_pay6 (F := F) else (sums c n (Nat.lt_of_succ_lt h)).2))

/-- The sums the point before `t` left. -/
abbrev before (c : Dev nD) (t : Fin cfg0.N) : Vec F S1x1024 .f32 × Vec F S1x8x1024 .f32 :=
  sums m c (t.val - 1) (Nat.lt_of_le_of_lt (Nat.sub_le _ _) t.isLt)

theorem sums_first (c : Dev nD) (t : Fin cfg0.N) (h : t.val = 0) :
    sums m c t.val t.isLt = (dnwStep m c t (k0_pay5 (F := F)), dmodStep m c t (k0_pay6 (F := F))) := by
  obtain ⟨n, hn⟩ := t
  obtain rfl : n = 0 := h
  rfl

theorem sums_second (c : Dev nD) (t : Fin cfg0.N) (h : t.val = 1) :
    sums m c t.val t.isLt = (dnwStep m c t (before m c t).1, dmodStep m c t (k0_pay6 (F := F))) := by
  obtain ⟨n, hn⟩ := t
  obtain rfl : n = 1 := h
  rfl

theorem sums_later (c : Dev nD) (t : Fin cfg0.N) (h : 2 ≤ t.val) :
    sums m c t.val t.isLt = (dnwStep m c t (before m c t).1, dmodStep m c t (before m c t).2) := by
  obtain ⟨n, hn⟩ := t
  cases n with
  | zero => exact absurd h (Nat.not_succ_le_zero 1)
  | succ n => exact congrArg (fun q => (dnwStep m c ⟨n + 1, hn⟩ (sums m c n (Nat.lt_of_succ_lt hn)).1, dmodStep m c ⟨n + 1, hn⟩ q)) (if_neg (Nat.not_lt.mpr h))

/-! ## The proof data -/

/-- After the body at point `t` each input's buffer holds its block and the outputs' what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dxAt m c t
    | ⟨8, _⟩ => (sums m c t.val t.isLt).1
    | ⟨9, _⟩ => (sums m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = dxAt m c t := by dsimp only [dats]
theorem after8 (c : Dev nD) (t : Fin cfg0.N) : (dats m 0 c).after 8 t = (sums m c t.val t.isLt).1 := by dsimp only [dats]
theorem after9 (c : Dev nD) (t : Fin cfg0.N) : (dats m 0 c).after 9 t = (sums m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

theorem live (w : Fin cfg0.W) (h : w ≠ 7) : ∀ i, cfg0.idle w i = false := by
  revert h; revert w; intro w
  fin_cases w <;> first | (intro _ _; rfl) | (intro h; exact absurd rfl h)
theorem idle7 : ∀ t : Fin cfg0.N, t.val = 0 → cfg0.idle 7 (grid0.coords t) = true := by decide +kernel
theorem live7 : ∀ t : Fin cfg0.N, 1 ≤ t.val → cfg0.idle 7 (grid0.coords t) = false := by decide +kernel
theorem flush7 : ∀ t : Fin cfg0.N, (cfg0.win 7).flush t = true ↔ 1 ≤ t.val :=
  (by decide +kernel : ∀ t : Fin grid0.N, win0_7.flush t = true ↔ 1 ≤ t.val)
theorem flush9 : ∀ t : Fin cfg0.N, (cfg0.win 9).flush t = true ↔ t.val = 0 ∨ t.val = 8 :=
  (by decide +kernel : ∀ t : Fin grid0.N, win0_9.flush t = true ↔ t.val = 0 ∨ t.val = 8)

theorem before8 (c : Dev nD) (t : Fin cfg0.N) (h : 1 ≤ t.val) (d) : (dats m 0 c).before 8 t d = (before m c t).1 := by
  have hN : t.val < 9 := lt_of_lt_of_eq t.isLt (show cfg0.N = 9 from N_0)
  rw [Dat.before_out_kept _ 8 rfl t (by omega) (Bool.eq_false_iff.mpr fun h => by have := (flush0_8 _).mp h; dsimp only at this; omega)
    (fun _ => rfl) (fun _ _ => rfl)]
  dsimp only [dats]

theorem before9 (c : Dev nD) (t : Fin cfg0.N) (h : 2 ≤ t.val) (d) : (dats m 0 c).before 9 t d = (before m c t).2 := by
  have hN : t.val < 9 := lt_of_lt_of_eq t.isLt (show cfg0.N = 9 from N_0)
  rw [Dat.before_out_kept _ 9 rfl t (by omega) (Bool.eq_false_iff.mpr fun h => by have := (flush9 _).mp h; dsimp only at this; omega)
    (fun _ => rfl) (fun _ _ => rfl)]
  dsimp only [dats]

theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-! ## The body's triple -/

/-- The body at point `t`. -/
abbrev bodyAt (t : Fin cfg0.N) := cc0_hgrn_in_backward (F := F) (grid0.coords t) (ms0 t) (hs0 t) (ms1 t) (hs1 t) (ms2 t) (hs2 t) (ms3 t) (hs3 t)
  (ms4 t) (hs4 t) (ms5 t) (hs5 t) (ms6 t) (hs6 t) (ms7 t) (hs7 t) (ms8 t) (hs8 t) (ms9 t) (hs9 t)

/-- What the body is called with at point `t`, and what it returns. -/
def bodyPre (c : Dev nD) (t : Fin cfg0.N) : sProp (World F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp (World F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
theorem sound_body (c : Dev nD) (t : Fin cfg0.N) :
    bodyPre m c t ⊢ wp frame (wpE (defs₀ (F := F)) Variants.none c none) Set.univ (bodyAt t) (fun _ => bodyPost m c t) := by
  unfold bodyPre bodyPost
  simp only [before0, before1, before2, before3, before4, before5, before6]
  rw [show (dats m 0 c).Φ t.succ = (dats m 0 c).Φ t.castSucc from rfl,
    show (dats m 0 c).owesAt () t.succ = (dats m 0 c).owesAt () t.castSucc from rfl]
  rw [leaves m c t 0 (live 0 (by decide) _), after0]
  rw [leaves m c t 1 (live 1 (by decide) _), after1]
  rw [leaves m c t 2 (live 2 (by decide) _), after2]
  rw [leaves m c t 3 (live 3 (by decide) _), after3]
  rw [leaves m c t 4 (live 4 (by decide) _), after4]
  rw [leaves m c t 5 (live 5 (by decide) _), after5]
  rw [leaves m c t 6 (live 6 (by decide) _), after6]
  rw [leaves m c t 8 (live 8 (by decide) _), after8]
  rw [leaves m c t 9 (live 9 (by decide) _), after9]
  by_cases h0 : t.val = 0
  · rw [Dat.leavesExact_idle _ 7 t (idle7 t h0) (Bool.eq_false_iff.mpr fun h => by have := (flush7 t).mp h; omega), sums_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runContext c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) ((first_iff t).mpr h0) ((opens_iff t).mpr (by omega)) (fun h => by have := (latent_iff t).mp h; omega)).2.2 Set.univ _)
    unfold inputs
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H8]; · iexists _; iexact H8
    isplitl [H9]; · iexists _; iexact H9
    iintro ⟨⟨H0, H1, H2, H3, H4, H5, H6⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; iexact H7
    isplitl [H8]
    · unfold owns; iexists _; isplitr
      swap; · iexact H8
      ipureintro; exact context8 (f := e8) ..
    unfold owns; iexists _; isplitr
    swap; · iexact H9
    ipureintro; exact context9 (f := e9) ..
  · have h1 : 1 ≤ t.val := by omega
    rw [leaves m c t 7 (live7 t h1), after7]
    simp only [before8 m c t h1]
    by_cases h2 : t.val = 1
    · rw [sums_second m c t h2]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runSecond c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (fun h => h0 ((first_iff t).mp h)) ((opens_iff t).mpr (by omega)) ((latent_iff t).mpr h1) _).2.2.2 Set.univ _)
      unfold inputs
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexact H8
      isplitl [H9]; · iexists _; iexact H9
      iintro ⟨⟨H0, H1, H2, H3, H4, H5, H6⟩, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact second7 (f := e7) ..
      isplitl [H8]
      · unfold owns; iexists _; isplitr
        swap; · iexact H8
        ipureintro; exact second8 (f := e8) ..
      unfold owns; iexists _; isplitr
      swap; · iexact H9
      ipureintro; exact second9 (f := e9) ..
    · have h3 : 2 ≤ t.val := by omega
      rw [sums_later m c t h3]
      simp only [before9 m c t h3]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLater c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (fun h => h0 ((first_iff t).mp h)) (fun h => by have := (opens_iff t).mp h; omega) ((latent_iff t).mpr h1) _ _).2.2.2 Set.univ _)
      unfold inputs
      isplitl [H0 H1 H2 H3 H4 H5 H6]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexists _; iexact H7
      isplitl [H8]; · iexact H8
      isplitl [H9]; · iexact H9
      iintro ⟨⟨H0, H1, H2, H3, H4, H5, H6⟩, ⟨%e7, H7⟩, ⟨%e8, H8⟩, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact later7 (f := e7) ..
      isplitl [H8]
      · unfold owns; iexists _; isplitr
        swap; · iexact H8
        ipureintro; exact later8 (f := e8) ..
      unfold owns; iexists _; isplitr
      swap; · iexact H9
      ipureintro; exact later9 ..

theorem defs₀_row (t : Fin cfg0.N) : defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The call runs to its end, every semaphore at zero, each window's array as the proof data says. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

/-- The three results after the run, and the arguments as they were. -/
theorem run_blocks : θ_run defs (onTc (τ := τ) (main (F := F))) ⟨m, fun _ => 0, ρ⟩ (fun r => ∀ c : Dev nD,
      (r.2.mem ((c.tc : Thread nD τ).loc main_v4_0) = (dats m 0 c).arrAt 7 cfg0.N
      ∧ r.2.mem ((c.tc : Thread nD τ).loc main_v4_1) = (dats m 0 c).arrAt 8 cfg0.N
      ∧ r.2.mem ((c.tc : Thread nD τ).loc main_v4_2) = (dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨⟨(h.1 c).1 7, (h.1 c).1 8, (h.1 c).1 9⟩, h.2 c⟩)
    (θ_run_and (run_main m ρ) (frame_of m ρ (dats m) (A_eq m) (run_main m ρ)))

end Cert.HgrnInStage

end
-- ==== Proof.HgrnInMath.lean ====
/- The gradients of the recurrence's input norm as functions of real arrays. The context's rows and the latent rows go through
   one norm weight and one projection, each with its own modulation. -/
module

public import proofs.«01_k».proof.Proof.PoolInMath

@[expose] public section

noncomputable section

namespace Cert.HgrnInStage

open Cert.Reals Cert.Norm

/-- One section's part of the gradient with respect to the projection's input. -/
def sect (g : Fin 1024 → ℝ) (w : Fin 5120 → ℝ) (s : Fin 5) : ℝ := ∑ k : Fin 1024, g k * w ⟨s.val * 1024 + k.val, by omega⟩

/-- All five sections of a row, added in order. -/
def projGrad5 (g : Fin 5 → Fin 1024 → ℝ) (w : Fin 5120 → ℝ) : ℝ :=
  sect (g 0) w 0 + sect (g 1) w 1 + sect (g 2) w 2 + sect (g 3) w 3 + sect (g 4) w 4

/-- The context has three sections: the last two of five are zero. -/
def padded {R : ℕ} (G : Fin 3 → Fin R → Fin 1024 → ℝ) (s : Fin 5) (r : Fin R) (k : Fin 1024) : ℝ :=
  if h : s.val < 3 then G ⟨s.val, h⟩ r k else 0

section
variable {R : ℕ} (D X : Fin R → Fin 1024 → ℝ) (N S : Fin 1024 → ℝ)

/-- The input's gradient through the norm, from the gradient `D` with respect to the projection's input. -/
def dxn (r : Fin R) (l : Fin 1024) : ℝ := grad (X r) (fun k => D r k * (1 + S k) * N k) l
/-- One row's part of the norm weight's gradient. -/
def dnwRow (r : Fin R) (l : Fin 1024) : ℝ := D r l * (1 + S l) * (X r l * rms (X r))
/-- One row's part of the modulation scale's gradient. -/
def dscaleRow (r : Fin R) (l : Fin 1024) : ℝ := D r l * (X r l * rms (X r) * N l)
/-- The modulation's gradient as the programs pack it: shift, scale, six zero rows. -/
def dmod (k : Fin 8) (l : Fin 1024) : ℝ := if k = 0 then ∑ r, D r l else if k = 1 then ∑ r, dscaleRow D X N r l else 0
end

section
variable (Gc : Fin 3 → Fin 256 → Fin 1024 → ℝ) (G : Fin 5 → Fin 2048 → Fin 1024 → ℝ) (W : Fin 1024 → Fin 5120 → ℝ)
  (C : Fin 256 → Fin 1024 → ℝ) (X : Fin 2048 → Fin 1024 → ℝ) (N Sc S : Fin 1024 → ℝ)

/-- The gradients with respect to the projection's input: the context's and the latent rows'. -/
def dhc (r : Fin 256) (l : Fin 1024) : ℝ := projGrad5 (fun s => padded Gc s r) (W l)
def dhx (r : Fin 2048) (l : Fin 1024) : ℝ := projGrad5 (fun s => G s r) (W l)
/-- The norm weight's gradient: both parts. -/
def dnw (l : Fin 1024) : ℝ := (∑ r, dnwRow (dhc Gc W) C Sc r l) + ∑ r, dnwRow (dhx G W) X S r l
/-- Both modulations' gradients. -/
def dmods (j : Fin 2) (k : Fin 8) (l : Fin 1024) : ℝ := if j = 0 then dmod (dhc Gc W) C N k l else dmod (dhx G W) X N k l
end

/-- A sum over rows taken block by block of `B`, over what was there before the first block. -/
theorem blocks_total {B R : ℕ} (n : ℕ) (f : Fin R → ℝ) (hR : n * B = R) (a : (k : ℕ) → k ≤ n → EReal) (b : ℝ) (h0 : a 0 (Nat.zero_le n) = (b : EReal))
    (hs : ∀ (k : ℕ) (h : k < n), a (k + 1) h = a k (Nat.le_of_lt h)
      + ((∑ r : Fin B, f ⟨k * B + r.val, by rw [← hR]; calc k * B + r.val < k * B + B := Nat.add_lt_add_left r.isLt _
                                                          _ = (k + 1) * B := (Nat.succ_mul k B).symm
                                                          _ ≤ n * B := Nat.mul_le_mul_right B h⟩ : ℝ) : EReal)) :
    a n le_rfl = ((b + ∑ r, f r : ℝ) : EReal) := by
  subst hR
  have key : ∀ (k : ℕ) (h : k ≤ n), a k h = ((b + ∑ r : Fin (k * B), f ⟨r.val, lt_of_lt_of_le r.isLt (Nat.mul_le_mul_right B h)⟩ : ℝ) : EReal) := by
    intro k
    induction k with
    | zero =>
      intro h
      rw [h0]
      refine congrArg _ ?_
      have : IsEmpty (Fin (0 * B)) := by rw [Nat.zero_mul]; infer_instance
      rw [Finset.univ_eq_empty, Finset.sum_empty, add_zero]
    | succ k ih =>
      intro h
      rw [hs k h, ih (Nat.le_of_lt h), ← EReal.coe_add]
      refine congrArg _ ?_
      rw [add_assoc]
      refine congrArg _ ?_
      have e : (k + 1) * B = k * B + B := Nat.succ_mul k B
      rw [← (finCongr e).symm.sum_comp, Fin.sum_univ_add]
      rfl
  exact key n le_rfl

end Cert.HgrnInStage

end
-- ==== Proof.HgrnInBlock.lean ====
/- One grid point of the recurrence-input norm's backward pass, read at an index over blocks of real numbers: the product
   with the transposed projection, the input's gradient, and what the point adds to each column sum. -/
module

public import proofs.«01_k».proof.Proof.HgrnInOuts
public import proofs.«01_k».proof.Proof.HgrnInMath
public import Idealize.ShloMosaic.Lib.Pointwise

@[expose] public section

set_option maxRecDepth 16384

noncomputable section

namespace Cert.HgrnInStage

open Cert.HgrnInIdeal Cert.HgrnInIdeal.Gen Idealize.ShloMosaic Idealize.ShloMosaic.TcCoe Idealize.SL.Sem
open Cert.Reals Cert.Norm

/-- The rows a point works on: the context's where the word is zero, the latent ones elsewhere. -/
theorem pick {F : FTy → Type} [FloatOps F] (b : BitVec 32) (x2 x3 : Vec F S256x1024 .f32) : k0_pay9 b x2 x3 = if b = 0#32 then x2 else x3 := by
  unfold k0_pay9
  by_cases h : b = 0#32
  · subst h; rfl
  · rw [if_neg h]
    show Scalar.select (Scalar.cmpi .eq b 0#32) x2 x3 = x3
    have : Scalar.cmpi .eq b 0#32 = 0#1 := by
      show BitVec.ofBool (b == 0#32) = 0#1
      rw [beq_eq_false_iff_ne.mpr h]; rfl
    rw [this]; rfl

section
variable {b : BitVec 32} {x0 : Vec Ideal S5x256x1024 .bf16} {x1 : Vec Ideal S1024x5120 .bf16} {x2 x3 x6 : Vec Ideal S256x1024 .f32}
  {x4 : Vec Ideal S1x1024 .f32} {x5 : Vec Ideal S1x1x1024 .f32}
variable {G : Fin 5 → Fin 256 → Fin 1024 → ℝ} {W : Fin 1024 → Fin 5120 → ℝ} {X D : Fin 256 → Fin 1024 → ℝ} {N S : Fin 1024 → ℝ}
variable (hg : ∀ s r k, x0 (ix3 s r k) = (G s r k : EReal)) (hw : ∀ l k, x1 (ix2 l k) = (W l k : EReal))
variable (hD : ∀ r l, dhOf x0 x1 (ix2 r l) = (D r l : EReal)) (hx : ∀ r l, k0_pay9 b x2 x3 (ix2 r l) = (X r l : EReal))
  (hn : ∀ l, x4 (ix2 0 l) = (N l : EReal)) (hs : ∀ l, x5 (ix3 0 0 l) = (S l : EReal))

include hg hw in
theorem dhOf_coe (r : Fin 256) (l : Fin 1024) : dhOf x0 x1 (ix2 r l) = (projGrad5 (fun s => G s r) (W l) : EReal) := by
  pointwise [dhOf, dhPart, sec4, cols4, k0_pay8, k0_pay7]
  simp only [hg, hw, ← EReal.coe_mul, coe_sum, ← EReal.coe_add]
  unfold projGrad5 sect
  refine congrArg (fun a : ℝ => (a : EReal)) ?_
  refine congrArg₂ (· + ·) (congrArg₂ (· + ·) (congrArg₂ (· + ·) (congrArg₂ (· + ·) ?_ ?_) ?_) ?_) ?_ <;>
    exact Finset.sum_congr rfl fun k _ => congrArg (_ * W l ·) (Fin.ext (by simp))

include hx in
theorem pay10_coe (r : Fin 256) : k0_pay10 b x2 x3 (ix2 r 0) = (rms (X r) : EReal) := by
  pointwise [k0_pay10]
  rw [ofBits_1024, ofBits_eps]
  simp only [hx, meanSq_coe, rsqrt_meanSq]

include hx in
theorem pay11_coe (r : Fin 256) (l : Fin 1024) : k0_pay11 b x2 x3 (ix2 r l) = ((X r l * rms (X r) : ℝ) : EReal) := by
  pointwise [k0_pay11]
  rw [pay10_coe hx, hx, ← EReal.coe_mul]

include hD hx hn hs in
theorem dxOf_coe (r : Fin 256) (l : Fin 1024) : dxOf b x0 x1 x2 x3 x6 x4 x5 (ix2 r l) = x6 (ix2 r l) + (dxn D X N S r l : EReal) := by
  pointwise [dxOf, k0_pay4, k0_pay2]
  rw [ofBits_1024]
  simp only [hD, pay10_coe hx, pay11_coe hx, hn, hs]
  simp only [← EReal.coe_one, ← EReal.coe_add, ← EReal.coe_mul, coe_sum,
    div_coe _ _ (by norm_num : ((1024 : ℕ) : ℝ) ≠ 0), ← EReal.coe_sub]
  rfl

include hD hx hs in
theorem dnwOf_coe (p : Vec Ideal S1x1024 .f32) (l : Fin 1024) : dnwOf b x0 x1 x2 x3 x5 p (ix2 0 l)
    = p (ix2 0 l) + ((∑ r, dnwRow D X S r l : ℝ) : EReal) := by
  pointwise [dnwOf, k0_pay3, k0_pay2]
  simp only [hD, pay11_coe hx, hs]
  simp only [← EReal.coe_one, ← EReal.coe_add, ← EReal.coe_mul, coe_sum]
  rfl

include hD in
theorem shiftOf_coe (p : Vec Ideal S1x1x1024 .f32) (l : Fin 1024) : shiftOf x0 x1 p (ix3 0 0 l)
    = p (ix3 0 0 l) + ((∑ r, D r l : ℝ) : EReal) := by
  have hD' : ∀ r l, k0_pay8 (dhPart x0 x1) (sec4 x0) (cols4 x1) (ix2 r l) = (D r l : EReal) := hD
  pointwise [shiftOf, k0_pay12]
  simp only [hD', coe_sum]

include hD hx hn in
theorem scaleOf_coe (p : Vec Ideal S1x1x1024 .f32) (l : Fin 1024) : scaleOf b x0 x1 x2 x3 x4 p (ix3 0 0 l)
    = p (ix3 0 0 l) + ((∑ r, dscaleRow D X N r l : ℝ) : EReal) := by
  have hD' : ∀ r l, k0_pay8 (dhPart x0 x1) (sec4 x0) (cols4 x1) (ix2 r l) = (D r l : EReal) := hD
  pointwise [scaleOf, k0_pay1, k0_pay13, k0_pay14]
  simp only [hD', pay11_coe hx, hn, ← EReal.coe_mul, coe_sum]
  rfl

include hD hx hn in
/-- What the point adds to each of the eight rows. -/
theorem dmodOf_coe (p : Vec Ideal S1x8x1024 .f32) (k : Fin 8) (l : Fin 1024) : dmodOf b x0 x1 x2 x3 x4 p (ix3 0 k l)
    = p (ix3 0 k l) + (dmod D X N k l : EReal) := by
  show (if k.val = 0 then shiftOf x0 x1 (rowOf p 0) (ix3 0 0 l) else if k.val = 1 then scaleOf b x0 x1 x2 x3 x4 (rowOf p 1) (ix3 0 0 l) else p (ix3 0 k l)) = _
  unfold dmod
  by_cases h0 : k = 0
  · subst h0
    have z : (0 : Fin 8).val = 0 := rfl
    rw [if_pos z, if_pos rfl, shiftOf_coe hD]; rfl
  · rw [if_neg (fun h : k.val = 0 => h0 (Fin.ext h)), if_neg h0]
    by_cases h1 : k = 1
    · subst h1
      have z : (1 : Fin 8).val = 1 := rfl
      rw [if_pos z, if_pos rfl, scaleOf_coe hD hx hn]; rfl
    · rw [if_neg (fun h : k.val = 1 => h1 (Fin.ext h)), if_neg h1, EReal.coe_zero, add_zero]
end

end Cert.HgrnInStage

end
-- ==== Proof.HgrnInArray.lean ====
/- The recurrence-input norm's backward pass over its whole arrays: where each block sits, the column sums over the
   context's point and the eight latent ones, and the three result arrays as the gradients of real arrays. -/
module

public import proofs.«01_k».proof.Proof.HgrnInFrame
public import proofs.«01_k».proof.Proof.HgrnInBlock
public import Idealize.ShloMosaic.Lib.Pipeline.ValueKit

@[expose] public section

set_option maxRecDepth 16384

noncomputable section

namespace Cert.HgrnInStage

open Cert.HgrnInIdeal Cert.HgrnInIdeal.Gen Idealize.ShloMosaic Idealize.ShloMosaic.TcCoe Idealize.SL.Sem
open Cert.Reals Cert.Norm
open Cert.PoolIn (addReal)

variable (m : (ℓ : Loc nD τ sig) → Buf (Elt Ideal) ℓ) (c : Dev nD) (t : Fin cfg0.N)

theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val - 1, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![min t.val 1, 0, 0] := (by decide +kernel : ∀ t : Fin grid0.N, _)
theorem idx6 : ∀ t : Fin cfg0.N, win0_6.index t = ![t.val - 1, 0] := (by decide +kernel : ∀ t : Fin grid0.N, _)
theorem idx7 : ∀ t : Fin cfg0.N, win0_7.index t = ![t.val - 1, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![min t.val 1, 0, 0] := (by decide +kernel : ∀ t : Fin grid0.N, _)
theorem word_zero : ∀ t : Fin cfg0.N, word (grid0.coords t) = 0#32 ↔ t.val = 0 := (by decide +kernel : ∀ t : Fin grid0.N, word (grid0.coords t) = 0#32 ↔ t.val = 0)

theorem eight : 8 < cfg0.N := lt_of_lt_of_eq (by decide) (show cfg0.N = 9 from N_0).symm

theorem lt9 : t.val < 9 := lt_of_lt_of_eq t.isLt (show cfg0.N = 9 from N_0)

/-- Row `r` of point `t`'s block, among the latent rows. -/
def row (r : Fin 256) : Fin 2048 := ⟨(t.val - 1) * 256 + r.val, by have := lt9 t; omega⟩

/-! ## The blocks -/

/-- Two sections of zeros after the context's three. -/
theorem pad_apply (hp : S3x256x1024.Pads (![0, 0, 0] : Fin 3 → ℕ) ![2, 0, 0] ![0, 0, 0] S5x256x1024) (z : FVec Ideal S3x256x1024 .bf16)
    (v : FVec Ideal S_ .bf16) (hv : ∀ i, v i = (0 : EReal)) (hv' : 0 < S_.numel) (s : Fin 5) (r : Fin 256) (k : Fin 1024) :
    pad S5x256x1024 ![0, 0, 0] ![2, 0, 0] ![0, 0, 0] z v hp hv' (ix3 s r k) = if h : s.val < 3 then z (ix3 ⟨s.val, h⟩ r k) else (0 : EReal) := by
  unfold pad
  split_ifs with h1 h2 h2
  · refine congrArg z (funext fun a => Fin.ext ?_)
    match a with
    | ⟨0, _⟩ => show (s.val - 0) / (0 + 1) = s.val; omega
    | ⟨1, _⟩ => show (r.val - 0) / (0 + 1) = r.val; omega
    | ⟨2, _⟩ => show (k.val - 0) / (0 + 1) = k.val; omega
  · have h3 : 0 ≤ s.val ∧ (s.val - 0) % (0 + 1) = 0 ∧ (s.val - 0) / (0 + 1) < 3 := h1 0
    omega
  · refine absurd (fun a => ?_) h1
    match a with
    | ⟨0, _⟩ => show 0 ≤ s.val ∧ (s.val - 0) % (0 + 1) = 0 ∧ (s.val - 0) / (0 + 1) < 3; omega
    | ⟨1, _⟩ => show 0 ≤ r.val ∧ (r.val - 0) % (0 + 1) = 0 ∧ (r.val - 0) / (0 + 1) < 256; have := r.isLt; omega
    | ⟨2, _⟩ => show 0 ≤ k.val ∧ (k.val - 0) % (0 + 1) = 0 ∧ (k.val - 0) / (0 + 1) < 1024; have := k.isLt; omega
  · exact hv _

theorem gB_apply (s : Fin 5) (r : Fin 256) (k : Fin 1024) : gB m c t (ix3 s r k)
    = if t.val = 0 then (if h : s.val < 3 then m ((c : Thread nD τ).loc main_arg0) (ix3 ⟨s.val, h⟩ r k) else (0 : EReal))
      else m ((c : Thread nD τ).loc main_arg1) (ix3 s (row t r) k) := by
  obtain ⟨P, hP, e⟩ : ∃ P : Vec Ideal S5x256x1024 .bf16,
      (∀ s r k, P (ix3 s r k) = if h : s.val < 3 then m ((c : Thread nD τ).loc main_arg0) (ix3 ⟨s.val, h⟩ r k) else (0 : EReal))
      ∧ V m c main_v1 = concatenate S5x2304x1024 1 [⟨S5x256x1024, P⟩, ⟨S5x2048x1024, (m ((c : Thread nD τ).loc main_arg1) : Vec Ideal S5x2048x1024 .bf16)⟩]
        concatenates_S5x256x1024_S5x2048x1024_S5x2304x1024_d1 := by
    refine ⟨pad S5x256x1024 ![0, 0, 0] ![2, 0, 0] ![0, 0, 0] (m ((c : Thread nD τ).loc main_arg0) : Vec Ideal S3x256x1024 .bf16)
        (sitofp (F := Ideal) .bf16 (constantI S_ 32 0#32)) pads_S3x256x1024_S5x256x1024_020_000_000 h_S_,
      pad_apply _ _ _ (fun i => ?_) _, ?_⟩
    · show (((0#32 : BitVec 32).toInt : ℝ) : EReal) = 0
      simp
    · unfold V hostOps0 hostOps0_1 hostOps0_2
      after_results
      rfl
  blk_simp [iblk, e]
  have e' : (win0_0.blk t).view.emb (ix3 s r k) = (ix3 s ⟨t.val * 256 + r.val, by have := lt9 t; omega⟩ k : S5x2304x1024.Idx) := by blk_ext [idx0 t]
  rw [e']
  pointwise []
  by_cases h : t.val = 0
  · have h1 : t.val * 256 + r.val < 256 := by rw [h]; omega
    rw [dif_pos h1, if_pos h, hP]
    have er : (⟨t.val * 256 + r.val, h1⟩ : Fin 256) = r := Fin.ext (by show t.val * 256 + r.val = r.val; rw [h]; omega)
    rw [er]
  · have h1 : ¬t.val * 256 + r.val < 256 := by omega
    rw [dif_neg h1, if_neg h]
    refine congrArg (fun i => m ((c : Thread nD τ).loc main_arg1) (ix3 s i k)) (Fin.ext ?_)
    show t.val * 256 + r.val - 256 = (t.val - 1) * 256 + r.val
    omega

theorem wB_apply (l : Fin 1024) (k : Fin 5120) : wB m c t (ix2 l k) = m ((c : Thread nD τ).loc main_arg2) (ix2 l k) := by
  blk_simp [iblk, V_main_arg2]
  congr 1
  blk_ext [idx1 t]

theorem ctxB_apply (r : Fin 256) (l : Fin 1024) : ctxB m c t (ix2 r l) = m ((c : Thread nD τ).loc main_arg3) (ix2 r l) := by
  blk_simp [iblk, V_main_arg3]
  congr 1
  blk_ext [idx2 t]

theorem xB_apply (r : Fin 256) (l : Fin 1024) : xB m c t (ix2 r l) = m ((c : Thread nD τ).loc main_arg4) (ix2 (row t r) l) := by
  blk_simp [iblk, V_main_arg4]
  congr 1
  blk_ext [idx3 t, row]

theorem nB_apply (l : Fin 1024) : nB m c t (ix2 0 l) = m ((c : Thread nD τ).loc main_arg5) (ix2 0 l) := by
  blk_simp [iblk, V_main_arg5]
  congr 1
  blk_ext [idx4 t]

theorem uB_apply (r : Fin 256) (l : Fin 1024) : uB m c t (ix2 r l) = m ((c : Thread nD τ).loc main_arg10) (ix2 (row t r) l) := by
  blk_simp [iblk, V_main_arg10]
  congr 1
  blk_ext [idx6 t, row]

theorem sB_apply (l : Fin 1024) : sB m c t (ix3 0 0 l)
    = if t.val = 0 then m ((c : Thread nD τ).loc main_arg7) (ix2 0 l) else m ((c : Thread nD τ).loc main_arg9) (ix2 0 l) := by
  have e : V m c main_v3 = shapeCast S2x1x1024 (concatenate S2x1024 0 [⟨S1x1024, (m ((c : Thread nD τ).loc main_arg7) : Vec Ideal S1x1024 .f32)⟩,
      ⟨S1x1024, (m ((c : Thread nD τ).loc main_arg9) : Vec Ideal S1x1024 .f32)⟩] concatenates_S1x1024_S1x1024_S2x1024_d0) shapeCasts_S2x1024_S2x1x1024 := by
    unfold V hostOps0 hostOps0_1 hostOps0_2
    after_results
    rfl
  blk_simp [iblk, e]
  have e' : (win0_5.blk t).view.emb (ix3 0 0 l) = (ix3 ⟨min t.val 1, by omega⟩ 0 l : S2x1x1024.Idx) := by blk_ext [idx5 t]
  rw [e']
  pointwise []
  by_cases h : t.val = 0
  · have h1 : min t.val 1 < 1 := by omega
    rw [dif_pos h1, if_pos h]
    exact congrArg (fun i => m ((c : Thread nD τ).loc main_arg7) (ix2 i l)) (Subsingleton.elim (α := Fin 1) _ _)
  · have h1 : ¬min t.val 1 < 1 := by omega
    rw [dif_neg h1, if_neg h]
    exact congrArg (fun i => m ((c : Thread nD τ).loc main_arg9) (ix2 i l)) (Subsingleton.elim (α := Fin 1) _ _)

/-! ## The points over real arrays -/

section
variable {m} {c}
variable {Gc : Fin 3 → Fin 256 → Fin 1024 → ℝ} {G : Fin 5 → Fin 2048 → Fin 1024 → ℝ} {W : Fin 1024 → Fin 5120 → ℝ}
  {C : Fin 256 → Fin 1024 → ℝ} {X : Fin 2048 → Fin 1024 → ℝ} {N Sc S : Fin 1024 → ℝ}

/-- The functions of one point's rows: the context's at the first point, the latent block's at the others. -/
def gAt (Gc : Fin 3 → Fin 256 → Fin 1024 → ℝ) (G : Fin 5 → Fin 2048 → Fin 1024 → ℝ) (t : Fin cfg0.N) (s : Fin 5) (r : Fin 256) (k : Fin 1024) : ℝ :=
  if t.val = 0 then padded Gc s r k else G s (row t r) k
def xAt (C : Fin 256 → Fin 1024 → ℝ) (X : Fin 2048 → Fin 1024 → ℝ) (t : Fin cfg0.N) (r : Fin 256) (l : Fin 1024) : ℝ :=
  if t.val = 0 then C r l else X (row t r) l
def sAt (Sc S : Fin 1024 → ℝ) (t : Fin cfg0.N) (l : Fin 1024) : ℝ := if t.val = 0 then Sc l else S l

variable (hgc : ∀ s r k, m ((c : Thread nD τ).loc main_arg0) (ix3 s r k) = (Gc s r k : EReal))
  (hg : ∀ s r k, m ((c : Thread nD τ).loc main_arg1) (ix3 s r k) = (G s r k : EReal))
  (hw : ∀ l k, m ((c : Thread nD τ).loc main_arg2) (ix2 l k) = (W l k : EReal))
  (hc : ∀ r l, m ((c : Thread nD τ).loc main_arg3) (ix2 r l) = (C r l : EReal))
  (hx : ∀ r l, m ((c : Thread nD τ).loc main_arg4) (ix2 r l) = (X r l : EReal))
  (hn : ∀ l, m ((c : Thread nD τ).loc main_arg5) (ix2 0 l) = (N l : EReal))
  (hsc : ∀ l, m ((c : Thread nD τ).loc main_arg7) (ix2 0 l) = (Sc l : EReal))
  (hs : ∀ l, m ((c : Thread nD τ).loc main_arg9) (ix2 0 l) = (S l : EReal))

include hgc hg in
theorem gB_coe (s : Fin 5) (r : Fin 256) (k : Fin 1024) : gB m c t (ix3 s r k) = (gAt Gc G t s r k : EReal) := by
  rw [gB_apply, gAt]
  by_cases h : t.val = 0
  · rw [if_pos h, if_pos h, padded]
    by_cases h3 : s.val < 3
    · rw [dif_pos h3, dif_pos h3]; exact hgc ..
    · rw [dif_neg h3, dif_neg h3, EReal.coe_zero]
  · rw [if_neg h, if_neg h]; exact hg ..

include hc hx in
theorem pick_coe (r : Fin 256) (l : Fin 1024) : k0_pay9 (word (grid0.coords t)) (ctxB m c t) (xB m c t) (ix2 r l) = (xAt C X t r l : EReal) := by
  rw [pick, xAt]
  by_cases h : t.val = 0
  · rw [if_pos ((word_zero t).mpr h), if_pos h, ctxB_apply]; exact hc ..
  · rw [if_neg (fun e => h ((word_zero t).mp e)), if_neg h, xB_apply]; exact hx ..

include hsc hs in
theorem sB_coe (l : Fin 1024) : sB m c t (ix3 0 0 l) = (sAt Sc S t l : EReal) := by
  rw [sB_apply, sAt]
  by_cases h : t.val = 0
  · rw [if_pos h, if_pos h]; exact hsc l
  · rw [if_neg h, if_neg h]; exact hs l

/-- The gradient with respect to the projection's input over one point's rows. -/
abbrev dhAt (Gc : Fin 3 → Fin 256 → Fin 1024 → ℝ) (G : Fin 5 → Fin 2048 → Fin 1024 → ℝ) (W : Fin 1024 → Fin 5120 → ℝ) (t : Fin cfg0.N)
    (r : Fin 256) (l : Fin 1024) : ℝ := projGrad5 (fun s => gAt Gc G t s r) (W l)

include hgc hg hw in
theorem dh_coe (r : Fin 256) (l : Fin 1024) : dhOf (gB m c t) (wB m c t) (ix2 r l) = (dhAt Gc G W t r l : EReal) :=
  dhOf_coe (gB_coe t hgc hg) (fun l k => (wB_apply m c t l k).trans (hw l k)) r l

theorem dhAt_first (h : t.val = 0) : dhAt Gc G W t = dhc Gc W := by
  funext r l
  show projGrad5 _ _ = projGrad5 _ _
  congr 1
  funext s k
  exact if_pos h
theorem dhAt_later (h : t.val ≠ 0) (r : Fin 256) (l : Fin 1024) : dhAt Gc G W t r l = dhx G W (row t r) l := by
  show projGrad5 _ _ = projGrad5 _ _
  congr 1
  funext s k
  exact if_neg h
theorem xAt_first (h : t.val = 0) : xAt C X t = C := funext fun r => funext fun l => if_pos h
theorem xAt_later (h : t.val ≠ 0) (r : Fin 256) : xAt C X t r = X (row t r) := funext fun l => if_neg h
theorem sAt_first (h : t.val = 0) : sAt Sc S t = Sc := funext fun l => if_pos h
theorem sAt_later (h : t.val ≠ 0) : sAt Sc S t = S := funext fun l => if_neg h

/-! ## The three result arrays -/

include hgc hg hw hc hx hn hsc hs in
/-- The input's gradient. -/
theorem dx_final : (dats m 0 c).arrAt 7 cfg0.N = addReal (m ((c : Thread nD τ).loc main_arg10)) (dxn (dhx G W) X N S) := by
  refine (dats m 0 c).arrAt_eq_of_covers 7 _ (by decide +kernel) fun t hf y => ?_
  have h0 : t.val ≠ 0 := Nat.one_le_iff_ne_zero.mp ((flush7 t).mp hf)
  blk_simp
  rw [after7]
  obtain ⟨r, l, rfl⟩ : ∃ (r : Fin 256) (l : Fin 1024), y = ix2 r l := ⟨y 0, y 1, eq_ix2 y⟩
  have e : (win0_7.blk t).view.emb (ix2 r l) = (ix2 (row t r) l : S2048x1024.Idx) := by blk_ext [idx7 t, row]
  rw [e]
  refine (dxOf_coe (dh_coe t hgc hg hw) (pick_coe t hc hx) (fun l => (nB_apply m c t l).trans (hn l)) (sB_coe t hsc hs) r l).trans ?_
  rw [uB_apply]
  show _ + ((grad _ _ l : ℝ) : EReal) = _ + ((grad _ _ l : ℝ) : EReal)
  rw [xAt_later t h0, sAt_later t h0]
  simp only [dhAt_later t h0]
  rfl

include hgc hg hw hc hx hsc hs in
theorem dnw_step (p : Vec Ideal S1x1024 .f32) (l : Fin 1024) : dnwStep m c t p (ix2 0 l)
    = p (ix2 0 l) + ((∑ r, dnwRow (dhAt Gc G W t) (xAt C X t) (sAt Sc S t) r l : ℝ) : EReal) :=
  dnwOf_coe (dh_coe t hgc hg hw) (pick_coe t hc hx) (sB_coe t hsc hs) p l

include hgc hg hw hc hx hn in
theorem dmod_step (p : Vec Ideal S1x8x1024 .f32) (k : Fin 8) (l : Fin 1024) : dmodStep m c t p (ix3 0 k l)
    = p (ix3 0 k l) + (dmod (dhAt Gc G W t) (xAt C X t) N k l : EReal) :=
  dmodOf_coe (dh_coe t hgc hg hw) (pick_coe t hc hx) (fun l => (nB_apply m c t l).trans (hn l)) p k l

include hgc hg hw hc hx hsc hs in
/-- The norm weight's gradient. -/
theorem dnw_final : (dats m 0 c).arrAt 8 cfg0.N = (fun i => (dnw Gc G W C X Sc S (i 1) : EReal) : Vec Ideal S1x1024 .f32) := by
  refine (dats m 0 c).arrAt_eq_of_covers 8 _ (by decide +kernel) fun t hf y => ?_
  have ht : t = (⟨8, eight⟩ : Fin cfg0.N) := Fin.ext (by have := (flush0_8 t).mp hf; have := lt9 t; show t.val = 8; omega)
  blk_simp
  rw [after8]
  obtain ⟨l, rfl⟩ : ∃ (l : Fin 1024), y = ix2 0 l := ⟨y 1, by rw [eq_ix2 y]; congr 1; exact Subsingleton.elim (α := Fin 1) _ _⟩
  have e : (win0_8.blk t).view.emb (ix2 0 l) = (ix2 0 l : S1x1024.Idx) := by blk_ext [idx8 t]
  rw [e]
  subst ht
  have lt (k : ℕ) (h : k ≤ 8) : k < cfg0.N := lt_of_lt_of_eq (Nat.lt_succ_of_le h) N_0.symm
  refine blocks_total (B := 256) 8 (fun r => dnwRow (dhx G W) X S r l) (by norm_num) (fun k h => (sums m c k (lt k h)).1 (ix2 0 l)) _ ?_ fun k h => ?_
  · show dnwStep m c ⟨0, lt 0 (Nat.zero_le 8)⟩ (k0_pay5 (F := Ideal)) (ix2 0 l) = _
    rw [dnw_step _ hgc hg hw hc hx hsc hs, dhAt_first _ rfl, xAt_first _ rfl, sAt_first _ rfl]
    pointwise [k0_pay5]
  · show dnwStep m c ⟨k + 1, lt (k + 1) h⟩ (sums m c k (lt k (Nat.le_of_lt h))).1 (ix2 0 l) = _
    rw [dnw_step _ hgc hg hw hc hx hsc hs]
    have h0 : (⟨k + 1, lt (k + 1) h⟩ : Fin cfg0.N).val ≠ 0 := Nat.succ_ne_zero k
    unfold dnwRow
    simp only [xAt_later _ h0, sAt_later _ h0, dhAt_later _ h0]
    rfl

/-- A point's part of the modulation's gradient, row by row. -/
def dmodRow {R : ℕ} (D X : Fin R → Fin 1024 → ℝ) (N : Fin 1024 → ℝ) (k : Fin 8) (l : Fin 1024) (r : Fin R) : ℝ :=
  if k = 0 then D r l else if k = 1 then dscaleRow D X N r l else 0

theorem dmod_rows {R : ℕ} (D X : Fin R → Fin 1024 → ℝ) (N : Fin 1024 → ℝ) (k : Fin 8) (l : Fin 1024) : dmod D X N k l = ∑ r, dmodRow D X N k l r := by
  unfold dmod dmodRow
  split_ifs
  · rfl
  · rfl
  · rw [Finset.sum_const_zero]

include hgc hg hw hc hx hn in
/-- The modulation's gradients. -/
theorem dmod_final : (dats m 0 c).arrAt 9 cfg0.N = (fun i => (dmods Gc G W C X N (i 0) (i 1) (i 2) : EReal) : Vec Ideal S2x8x1024 .f32) := by
  refine (dats m 0 c).arrAt_eq_of_covers 9 _ (by decide +kernel) fun t hf y => ?_
  blk_simp
  rw [after9]
  obtain ⟨k, l, rfl⟩ : ∃ (k : Fin 8) (l : Fin 1024), y = ix3 0 k l :=
    ⟨y 1, y 2, by rw [eq_ix3 y]; congr 1; exact Subsingleton.elim (α := Fin 1) _ _⟩
  have e : (win0_9.blk t).view.emb (ix3 0 k l) = (ix3 ⟨min t.val 1, by omega⟩ k l : S2x8x1024.Idx) := by blk_ext [idx9 t]
  rw [e]
  show (sums m c t.val t.isLt).2 (ix3 0 k l) = (dmods Gc G W C X N ⟨min t.val 1, by omega⟩ k l : EReal)
  have lt (k : ℕ) (h : k ≤ 8) : k < cfg0.N := lt_of_lt_of_eq (Nat.lt_succ_of_le h) N_0.symm
  have zero : k0_pay6 (F := Ideal) (ix3 0 k l) = 0 := by pointwise [k0_pay6]
  rcases (flush9 t).mp hf with h | h
  · rw [sums_first m c t h]
    show dmodStep m c t (k0_pay6 (F := Ideal)) (ix3 0 k l) = _
    rw [dmod_step _ hgc hg hw hc hx hn, zero, zero_add, dhAt_first _ h, xAt_first _ h]
    unfold dmods
    rw [if_pos (Fin.ext (by show min t.val 1 = 0; omega))]
  · obtain rfl : t = ⟨8, lt 8 le_rfl⟩ := Fin.ext h
    unfold dmods
    rw [if_neg (fun q => Nat.one_ne_zero (congrArg Fin.val q)), dmod_rows]
    let a : (k : ℕ) → k ≤ 8 → EReal := fun n h => match n, h with
      | 0, _ => 0
      | n + 1, h => (sums m c (n + 1) (lt (n + 1) h)).2 (ix3 0 k l)
    refine (blocks_total (B := 256) 8 (dmodRow (dhx G W) X N k l) (by norm_num) a 0 EReal.coe_zero.symm fun n h => ?_).trans (by rw [zero_add])
    have h0 : (⟨n + 1, lt (n + 1) h⟩ : Fin cfg0.N).val ≠ 0 := Nat.succ_ne_zero n
    have key : dmod (dhAt Gc G W ⟨n + 1, lt (n + 1) h⟩) (xAt C X ⟨n + 1, lt (n + 1) h⟩) N k l
        = ∑ r : Fin 256, dmodRow (dhx G W) X N k l (row ⟨n + 1, lt (n + 1) h⟩ r) := by
      rw [dmod_rows]
      unfold dmodRow dscaleRow
      simp only [xAt_later _ h0, dhAt_later _ h0]
    show dmodStep m c ⟨n + 1, lt (n + 1) h⟩ (if n + 1 < 2 then k0_pay6 (F := Ideal) else (sums m c n (lt n (Nat.le_of_lt h))).2) (ix3 0 k l) = _
    rw [dmod_step _ hgc hg hw hc hx hn, key]
    refine congrArg₂ (· + ·) ?_ rfl
    cases n with
    | zero => exact zero
    | succ n => rw [if_neg (by omega)]

end

end Cert.HgrnInStage

end
-- ==== Proof.HgrnInRef.lean ====
/- The reference gradients of the recurrence's input norm, read at an index over real arrays. -/
module

public import proofs.«01_k».proof.Proof.Gen.HgrnInRefIdeal.Run
public import proofs.«01_k».proof.Proof.Gen.HgrnInRefIdeal.Read
public import proofs.«01_k».proof.Proof.HgrnInMath
public import Idealize.ShloMosaic.Lib.Pointwise

@[expose] public section

set_option maxRecDepth 16384

noncomputable section

namespace Cert.HgrnInStage.Ref

open Cert.HgrnInRefIdeal Cert.HgrnInRefIdeal.Read Idealize.ShloMosaic Idealize.ShloMosaic.TcCoe Idealize.SL.Sem
open Cert.Reals Cert.Norm Cert.HgrnInStage
open Cert.PoolIn (addReal)

variable {gc : Vec Ideal S3x256x1024 .bf16} {g : Vec Ideal S5x2048x1024 .bf16} {w : Vec Ideal S1024x5120 .bf16}
  {ctx : Vec Ideal S256x1024 .f32} {x up : Vec Ideal S2048x1024 .f32} {nw csc sc : Vec Ideal S1x1024 .f32}
variable {Gc : Fin 3 → Fin 256 → Fin 1024 → ℝ} {G : Fin 5 → Fin 2048 → Fin 1024 → ℝ} {W : Fin 1024 → Fin 5120 → ℝ}
  {C : Fin 256 → Fin 1024 → ℝ} {X : Fin 2048 → Fin 1024 → ℝ} {N Sc S : Fin 1024 → ℝ}
variable (hgc : ∀ s r k, gc (ix3 s r k) = (Gc s r k : EReal)) (hg : ∀ s r k, g (ix3 s r k) = (G s r k : EReal))
  (hw : ∀ l k, w (ix2 l k) = (W l k : EReal)) (hc : ∀ r l, ctx (ix2 r l) = (C r l : EReal)) (hx : ∀ r l, x (ix2 r l) = (X r l : EReal))
  (hn : ∀ l, nw (ix2 0 l) = (N l : EReal)) (hsc : ∀ l, csc (ix2 0 l) = (Sc l : EReal)) (hs : ∀ l, sc (ix2 0 l) = (S l : EReal))

/-- A product's sum over three joined sections, section by section. -/
theorem joined (a b c : Fin 1024 → ℝ) (f : Fin 3072 → ℝ) (q : Fin 3072 → EReal)
    (hq : ∀ x, q x = (if h : x.val < 1024 then (a ⟨x.val, h⟩ : EReal) else if h' : x.val - 1024 < 1024 then (b ⟨x.val - 1024, h'⟩ : EReal)
        else (c ⟨x.val - 1024 - 1024, by omega⟩ : EReal)) * (f x : EReal)) :
    ∑ x, q x = (((∑ k : Fin 1024, a k * f ⟨0 * 1024 + k.val, by omega⟩) + (∑ k : Fin 1024, b k * f ⟨1 * 1024 + k.val, by omega⟩)
        + ∑ k : Fin 1024, c k * f ⟨2 * 1024 + k.val, by omega⟩ : ℝ) : EReal) := by
  have h := Fin.sum_univ_tiles 3 1024 (by norm_num : 3 * 1024 = 3072) q
  rw [h, Fin.sum_univ_three, EReal.coe_add, EReal.coe_add, ← coe_sum, ← coe_sum, ← coe_sum]
  refine congrArg₂ (· + ·) (congrArg₂ (· + ·) ?_ ?_) ?_ <;> refine Finset.sum_congr rfl fun k _ => ?_ <;> rw [EReal.coe_mul, hq] <;> refine congrArg (· * _) ?_
  · have h : 0 * 1024 + k.val < 1024 := by omega
    exact (dif_pos h).trans (congrArg (fun i => (a i : EReal)) (Fin.ext (by show 0 * 1024 + k.val = k.val; omega)))
  · have h : ¬1 * 1024 + k.val < 1024 := by omega
    have h' : 1 * 1024 + k.val - 1024 < 1024 := by omega
    exact (dif_neg h).trans ((dif_pos h').trans (congrArg (fun i => (b i : EReal)) (Fin.ext (by show 1 * 1024 + k.val - 1024 = k.val; omega))))
  · have h : ¬2 * 1024 + k.val < 1024 := by omega
    have h' : ¬2 * 1024 + k.val - 1024 < 1024 := by omega
    exact (dif_neg h).trans ((dif_neg h').trans (congrArg (fun i => (c i : EReal)) (Fin.ext (by show 2 * 1024 + k.val - 1024 - 1024 = k.val; omega))))

include hg hw in
theorem v76_coe (r : Fin 2048) (l : Fin 1024) : val_main_v76 (F := Ideal) g w (ix2 r l) = (dhx G W r l : EReal) := by
  pointwise [val_main_v76, val_main_v75, val_main_v74, val_main_v73, val_main_v72, val_main_v68, val_main_v63, val_main_v18, val_main_v17,
    val_main_v16, val_main_v15, val_main_v14, val_main_v13, val_main_v12, val_main_v11, val_main_v10, val_main_v9, val_main_v8, val_main_v0]
  simp only [hg, hw]
  refine (congrArg₂ (· + ·) rfl (joined (G 0 r) (G 1 r) (G 2 r) (fun x => W l ⟨x.val, by omega⟩) _ (fun _ => rfl))).trans ?_
  simp only [← EReal.coe_mul, coe_sum, ← EReal.coe_add]
  refine congrArg (fun a : ℝ => (a : EReal)) ?_
  unfold dhx projGrad5
  have e3 : ∀ x : Fin 1024, G 3 r x * W l ⟨3072 + x.val, by omega⟩ = G 3 r x * W l ⟨3 * 1024 + x.val, by omega⟩ := fun x => by norm_num
  have e4 : ∀ x : Fin 1024, G 4 r x * W l ⟨3072 + (1024 + x.val), by omega⟩ = G 4 r x * W l ⟨4 * 1024 + x.val, by omega⟩ :=
    fun x => congrArg (_ * W l ·) (Fin.ext (by show 3072 + (1024 + x.val) = 4 * 1024 + x.val; omega))
  simp only [e3, e4]
  show sect (G 3 r) (W l) 3 + sect (G 4 r) (W l) 4 + (sect (G 0 r) (W l) 0 + sect (G 1 r) (W l) 1 + sect (G 2 r) (W l) 2) = _
  ring

include hgc hw in
theorem v78_coe (r : Fin 256) (l : Fin 1024) : val_main_v78 (F := Ideal) gc w (ix2 r l) = (dhc Gc W r l : EReal) := by
  pointwise [val_main_v78, val_main_v77, val_main_v58, val_main_v7, val_main_v6, val_main_v5, val_main_v4, val_main_v3, val_main_v2, val_main_v1, val_main_v0]
  simp only [hgc, hw]
  refine (joined (Gc 0 r) (Gc 1 r) (Gc 2 r) (fun x => W l ⟨x.val, by omega⟩) _ (fun _ => rfl)).trans (congrArg (fun a : ℝ => (a : EReal)) ?_)
  have z : ∀ s : Fin 5, 3 ≤ s.val → sect (padded Gc s r) (W l) s = 0 := fun s h =>
    Finset.sum_eq_zero fun k _ => by rw [padded, dif_neg (Nat.not_lt.mpr h), zero_mul]
  unfold dhc projGrad5
  rw [z 3 (le_refl 3), z 4 (by decide), add_zero, add_zero]
  rfl

include hx in
theorem v25_coe (r : Fin 2048) : val_main_v25 (F := Ideal) x (ix2 r 0) = (meanSq (X r) : EReal) := by
  pointwise [val_main_v25, val_main_v24, val_main_v23, val_main_v22, val_main_v21, val_main_v20, val_main_v19, val_main_cst, val_main_cst_0, val_main_cst_1]
  rw [ofBits_1024, ofBits_eps]
  simp only [hx, meanSq_coe]

include hx in
theorem v26_coe (r : Fin 2048) : val_main_v26 (F := Ideal) x (ix2 r 0) = (rms (X r) : EReal) := by
  pointwise [val_main_v26]
  rw [v25_coe hx, rsqrt_meanSq]

include hx in
theorem v29_coe (r : Fin 2048) : val_main_v29 (F := Ideal) x (ix2 r 0) = (-1/2 * (rms (X r) / meanSq (X r)) : ℝ) := by
  pointwise [val_main_v29, val_main_v28, val_main_v27, val_main_cst_2]
  rw [v26_coe hx, v25_coe hx, ofBits_neg_half, div_coe _ _ (meanSq_pos _).ne', ← EReal.coe_mul]

include hc in
theorem v47_coe (r : Fin 256) : val_main_v47 (F := Ideal) ctx (ix2 r 0) = (rms (C r) : EReal) := by
  pointwise [val_main_v47, val_main_v46, val_main_v45, val_main_v44, val_main_v43, val_main_v42, val_main_v41, val_main_v40,
    val_main_cst_4, val_main_cst_5, val_main_cst_6]
  rw [ofBits_1024, ofBits_eps]
  simp only [hc, meanSq_coe, rsqrt_meanSq]

include hg hw hx hn hs in
theorem dx_coe : val_main_v116 (F := Ideal) g w x nw sc up = addReal up (dxn (dhx G W) X N S) := by
  funext i
  obtain ⟨r, l, rfl⟩ : ∃ (r : Fin 2048) (l : Fin 1024), i = ix2 r l := ⟨i 0, i 1, eq_ix2 i⟩
  show _ = up (ix2 r l) + (dxn (dhx G W) X N S r l : EReal)
  pointwise [val_main_v116, val_main_v115, val_main_v114, val_main_v113, val_main_v112, val_main_v111, val_main_v110, val_main_v109, val_main_v108,
    val_main_v107, val_main_v106, val_main_v105, val_main_v104, val_main_v103, val_main_v102, val_main_v101, val_main_v100, val_main_v95, val_main_v94,
    val_main_v35, val_main_v34, val_main_cst_3, val_main_cst_14, val_main_cst_15, val_main_cst_16]
  rw [ofBits_1024]
  simp only [v76_coe hg hw, v26_coe hx, v29_coe hx, hx, hn, hs, Finset.univ_unique, Finset.sum_singleton, Fin.default_eq_zero]
  simp only [← EReal.coe_one, ← EReal.coe_mul, ← EReal.coe_add, coe_sum, div_coe _ _ (by norm_num : ((1024 : ℕ) : ℝ) ≠ 0)]
  rw [add_assoc, add_assoc, ← EReal.coe_add, ← EReal.coe_add, dxn, grad_eq]

include hgc hg hw hc hx hsc hs in
theorem dnw_coe : val_main_v99 (F := Ideal) gc g w ctx x csc sc = fun i => (dnw Gc G W C X Sc S (i 1) : EReal) := by
  funext i
  obtain ⟨l, rfl⟩ : ∃ (l : Fin 1024), i = ix2 0 l := ⟨i 1, by rw [eq_ix2 i]; congr 1; exact Subsingleton.elim (α := Fin 1) _ _⟩
  show _ = (dnw Gc G W C X Sc S l : EReal)
  pointwise [val_main_v99, val_main_v98, val_main_v97, val_main_v96, val_main_v95, val_main_v94, val_main_v88, val_main_v87, val_main_v86,
    val_main_v85, val_main_v84, val_main_v35, val_main_v34, val_main_v31, val_main_v30, val_main_v53, val_main_v52, val_main_v49, val_main_v48,
    val_main_cst_3, val_main_cst_7, val_main_cst_10, val_main_cst_13]
  simp only [v76_coe hg hw, v78_coe hgc hw, v26_coe hx, v47_coe hc, hx, hc, hs, hsc, ← EReal.coe_one, ← EReal.coe_mul, ← EReal.coe_add, coe_sum]
  refine congrArg (fun a : ℝ => (a : EReal)) (congrArg₂ (· + ·) (Finset.sum_congr rfl fun r _ => ?_) (Finset.sum_congr rfl fun r _ => ?_)) <;>
    unfold dnwRow <;> ring

include hg hw hx hn hgc hc in
theorem dmod_coe : val_main_v122 (F := Ideal) gc g w ctx x nw = fun i => (dmods Gc G W C X N (i 0) (i 1) (i 2) : EReal) := by
  funext i
  obtain ⟨j, k, l, rfl⟩ : ∃ (j : Fin 2) (k : Fin 8) (l : Fin 1024), i = ix3 j k l := ⟨i 0, i 1, i 2, eq_ix3 i⟩
  show _ = (dmods Gc G W C X N j k l : EReal)
  pointwise [val_main_v122, val_main_v121, val_main_v120, val_main_v119, val_main_v118, val_main_v117, val_main_v93, val_main_v92, val_main_v91,
    val_main_v90, val_main_v89, val_main_v83, val_main_v82, val_main_v81, val_main_v80, val_main_v79, val_main_v33, val_main_v32,
    val_main_v31, val_main_v30, val_main_v51, val_main_v50, val_main_v49, val_main_v48, val_main_cst_8, val_main_cst_9, val_main_cst_11, val_main_cst_12, val_main_cst_17]
  simp only [v76_coe hg hw, v78_coe hgc hw, v26_coe hx, v47_coe hc, hx, hc, hn, ← EReal.coe_one, ← EReal.coe_mul, ← EReal.coe_add, coe_sum]
  have two : ∀ (z : Fin 8) (p q : ℝ), (if h : z.val < 1 then (p : EReal) else if h : z.val - 1 < 1 then (q : EReal) else 0)
      = ((if z = 0 then p else if z = 1 then q else 0 : ℝ) : EReal) := by
    intro z p q
    by_cases h0 : z = 0
    · subst h0; rfl
    · have h0' : ¬z.val < 1 := fun h => h0 (Fin.ext (Nat.lt_one_iff.mp h))
      rw [dif_neg h0', if_neg h0]
      by_cases h1 : z = 1
      · subst h1; rfl
      · rw [dif_neg (fun h => h1 (Fin.ext (by show z.val = 1; omega))), if_neg h1, EReal.coe_zero]
  unfold dmods dmod
  by_cases hj : j = 0
  · subst hj
    refine (dif_pos Nat.zero_lt_one).trans ((two k _ _).trans ?_)
    rw [if_pos rfl]
    refine congrArg (fun a : ℝ => ((if k = 0 then _ else if k = 1 then a else 0 : ℝ) : EReal)) (Finset.sum_congr rfl fun r _ => ?_)
    unfold dscaleRow; ring
  · have hj' : ¬j.val < 1 := fun h => hj (Fin.ext (Nat.lt_one_iff.mp h))
    refine (dif_neg hj').trans ((two k _ _).trans ?_)
    rw [if_neg hj]
    refine congrArg (fun a : ℝ => ((if k = 0 then _ else if k = 1 then a else 0 : ℝ) : EReal)) (Finset.sum_congr rfl fun r _ => ?_)
    unfold dscaleRow; ring

end Cert.HgrnInStage.Ref

end
-- ==== Proof.HgrnIn.lean ====
/- The recurrence's input norm: kernel and reference leave the same three gradients, from the two runs and the
   precondition that the arguments the gradient multiplies are real; and the frames of both programs. -/
module

public import proofs.«01_k».proof.Defs
public import proofs.«01_k».proof.Proof.HgrnInArray
public import proofs.«01_k».proof.Proof.HgrnInRef
public import proofs.«01_k».proof.Proof.Gen.HgrnIn
public import proofs.«01_k».proof.Proof.Gen.Pre_finite_hgrn_in

@[expose] public section

set_option maxRecDepth 65536

noncomputable section

namespace Cert.HgrnInStage

open Idealize.ShloMosaic Idealize.ShloMosaic.TcCoe Idealize.SL.Sem Cert.Reals

/-! ## The frames -/

/-- The ideal kernel at the machine's number formats is the kernel: its table of bodies, of all labels, and its main. -/
theorem rows : Cert.HgrnIn.defs₀ (F := Bits) = Cert.HgrnInIdeal.defs₀ (F := Bits) := by
  unfold Cert.HgrnIn.defs₀ Cert.HgrnInIdeal.defs₀
  refine congrArg Defs.onTc ?_
  funext p a
  obtain ⟨p, hp⟩ := p
  cases p with
  | zero => rfl
  | succ n => exact absurd hp (by omega)

theorem tables : Cert.HgrnIn.defs (F := Bits) = Cert.HgrnInIdeal.defs (F := Bits) := congrArg (Pipeline.defs Cert.HgrnInIdeal.pcfgs) rows

theorem mains : Cert.HgrnIn.main (F := Bits) = Cert.HgrnInIdeal.main (F := Bits) := rfl

theorem frame_kernel : Cert.quiescent_HgrnIn := by
  intro m g _
  rw [tables, mains]
  exact frame (F := Bits) m g

theorem frame_reference : Cert.quiescent_HgrnInRefIdeal := fun m g _ =>
  (θ_run HgrnInRefIdeal.defs _ _).mono (fun r h => ⟨fun c => (h c).2.2.2, sem_eq_zero_of_no_sems rfl r.2⟩)
    (HgrnInRefIdeal.Value.run (F := Ideal) m g)

/-! ## The value -/

/-- The precondition, read: eight arrays of reals. -/
theorem reals {gc : FVec Ideal Pre_finite_hgrn_in.S3x256x1024 .bf16} {g : FVec Ideal Pre_finite_hgrn_in.S5x2048x1024 .bf16}
    {w : FVec Ideal Pre_finite_hgrn_in.S1024x5120 .bf16} {ctx : FVec Ideal Pre_finite_hgrn_in.S256x1024 .f32}
    {x up : FVec Ideal Pre_finite_hgrn_in.S2048x1024 .f32} {nw csh csc sh sc : FVec Ideal Pre_finite_hgrn_in.S1x1024 .f32}
    (h : Pre_finite_hgrn_in.fn (F := Ideal) gc g w ctx x nw csh csc sh sc up = fun _ => 1#1) :
    (∃ Gc : Fin 3 → Fin 256 → Fin 1024 → ℝ, ∀ s r k, gc (ix3 s r k) = (Gc s r k : EReal))
    ∧ (∃ G : Fin 5 → Fin 2048 → Fin 1024 → ℝ, ∀ s r k, g (ix3 s r k) = (G s r k : EReal))
    ∧ (∃ W : Fin 1024 → Fin 5120 → ℝ, ∀ l k, w (ix2 l k) = (W l k : EReal))
    ∧ (∃ C : Fin 256 → Fin 1024 → ℝ, ∀ r l, ctx (ix2 r l) = (C r l : EReal))
    ∧ (∃ X : Fin 2048 → Fin 1024 → ℝ, ∀ r l, x (ix2 r l) = (X r l : EReal))
    ∧ (∃ N : Fin 1024 → ℝ, ∀ l, nw (ix2 0 l) = (N l : EReal)) ∧ (∃ Sc : Fin 1024 → ℝ, ∀ l, csc (ix2 0 l) = (Sc l : EReal))
    ∧ (∃ S : Fin 1024 → ℝ, ∀ l, sc (ix2 0 l) = (S l : EReal)) := by
  have h := congrFun h ix0
  unfold Pre_finite_hgrn_in.fn Pre_finite_hgrn_in.fn_part1 Pre_finite_hgrn_in.fn_part2 at h
  obtain ⟨h, hs⟩ := IntOp.andi_eq_one.1 h
  obtain ⟨h, hsc⟩ := IntOp.andi_eq_one.1 h
  obtain ⟨h, hn⟩ := IntOp.andi_eq_one.1 h
  obtain ⟨h, hx⟩ := IntOp.andi_eq_one.1 h
  obtain ⟨h, hc⟩ := IntOp.andi_eq_one.1 h
  obtain ⟨h, hw⟩ := IntOp.andi_eq_one.1 h
  obtain ⟨hgc, hg⟩ := IntOp.andi_eq_one.1 h
  obtain ⟨Gc, hGc⟩ := exists_real_half _ _ _ _ _ _ _ _ hgc
  obtain ⟨G, hG⟩ := exists_real_half _ _ _ _ _ _ _ _ hg
  obtain ⟨W, hW⟩ := exists_real_half _ _ _ _ _ _ _ _ hw
  obtain ⟨C, hC⟩ := exists_real _ _ _ _ _ _ _ hc
  obtain ⟨X, hX⟩ := exists_real _ _ _ _ _ _ _ hx
  obtain ⟨N, hN⟩ := exists_real _ _ _ _ _ _ _ hn
  obtain ⟨Sc, hSc⟩ := exists_real _ _ _ _ _ _ _ hsc
  obtain ⟨S, hS⟩ := exists_real _ _ _ _ _ _ _ hs
  exact ⟨⟨fun s r k => Gc (ix3 s r k), fun _ _ _ => hGc _⟩, ⟨fun s r k => G (ix3 s r k), fun _ _ _ => hG _⟩,
    ⟨fun l k => W (ix2 l k), fun _ _ => hW _⟩, ⟨fun r l => C (ix2 r l), fun _ _ => hC _⟩, ⟨fun r l => X (ix2 r l), fun _ _ => hX _⟩,
    ⟨fun l => N (ix2 0 l), fun _ => hN _⟩, ⟨fun l => Sc (ix2 0 l), fun _ => hSc _⟩, ⟨fun l => S (ix2 0 l), fun _ => hS _⟩⟩

theorem value : Cert.algebraic_HgrnInIdeal_HgrnInRefIdeal_pre_finite_hgrn_in := fun m g m' g' hpre hag => by
  have key : ∀ c, (dats m 0 c).arrAt 7 HgrnInIdeal.cfg0.N = HgrnInRefIdeal.Value.res_main_v116 m' c
      ∧ (dats m 0 c).arrAt 8 HgrnInIdeal.cfg0.N = HgrnInRefIdeal.Value.res_main_v99 m' c
      ∧ (dats m 0 c).arrAt 9 HgrnInIdeal.cfg0.N = HgrnInRefIdeal.Value.res_main_v122 m' c := by
    intro c
    obtain ⟨⟨Gc, hgc⟩, ⟨G, hg⟩, ⟨W, hw⟩, ⟨C, hc⟩, ⟨X, hx⟩, ⟨N, hn⟩, ⟨Sc, hsc⟩, S, hs⟩ := reals (hpre c)
    rw [HgrnInRefIdeal.Read.val_main_v116_eq, HgrnInRefIdeal.Read.val_main_v99_eq, HgrnInRefIdeal.Read.val_main_v122_eq]
    obtain ⟨e0, e1, e2, e3, e4, e5, e6, e7, e8, e9, e10⟩ := hag c
    rw [e0, e1, e2, e3, e4, e5, e7, e9, e10]
    exact ⟨(dx_final hgc hg hw hc hx hn hsc hs).trans (Ref.dx_coe hg hw hx hn hs).symm,
      (dnw_final hgc hg hw hc hx hsc hs).trans (Ref.dnw_coe hgc hg hw hc hx hsc hs).symm,
      (dmod_final hgc hg hw hc hx hn).trans (Ref.dmod_coe hgc hg hw hc hx hn).symm⟩
  exact ⟨_, _, _, (θ_run _ _ _).mono (fun r h c => ⟨(h c).1.1, (h c).1.2.1, (h c).1.2.2, (h c).2⟩) (run_blocks m g), (θ_run _ _ _).mono (fun r h c => by
    obtain ⟨h0, h1, h2, h⟩ := h c
    obtain ⟨k0, k1, k2⟩ := key c
    exact ⟨h0.trans k0.symm, h1.trans k1.symm, h2.trans k2.symm, h⟩) (HgrnInRefIdeal.Value.run m' g')⟩

end Cert.HgrnInStage

end
-- ==== Proof.AdaBlock.lean ====
/- The update of the conditioning weights: the gradient of a row of weights is the gates of sixteen conditions against the
   modulations' cotangents, and every element takes one step of the optimiser from it. Here what the kernel leaves in its
   whole arrays. -/
module

public import proofs.«01_k».proof.Proof.Gen.AdaIdeal.Value
public import proofs.«01_k».proof.Proof.Silu
public import Idealize.ShloMosaic.Lib.Pipeline.ValueKit
public import Idealize.ShloMosaic.Lib.WritesUnit

@[expose] public section

set_option maxRecDepth 16384

noncomputable section

namespace Cert.Ada

open Cert.AdaIdeal Cert.AdaIdeal.Gen Idealize.ShloMosaic Idealize.ShloMosaic.TcCoe Idealize.SL.Sem
open Cert.Reals Cert.Silu

/-! ## One element -/

/-- The gradient of layer `i`'s weight: the conditions' gates against the cotangent. -/
def gradient (C : Fin 16 → Fin 1024 → ℝ) (D : Fin 2 → Fin 16 → Fin 768 → ℝ) (i : Fin 2) (r : Fin 1024) (k : Fin 768) : ℝ :=
  ∑ b, silu (C b r) * D i b k

/-- The first moment after the step. -/
def newM (g m : EReal) : EReal := Ideal.ofBits .f32 0x3F666666#32 * m + Ideal.ofBits .f32 0x3DCCCCCD#32 * g

/-- The second moment after the step. -/
def newV (g v : EReal) : EReal := Ideal.ofBits .f32 0x3F7FBE77#32 * v + Ideal.ofBits .f32 0x3A83126F#32 * (g * g)

/-- The weight's change: the quotient of the corrected moments, and the weight's decay. -/
def change (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

/-! ## One block -/

section
variable {a : Vec Ideal S256x16 .f32} {b : Vec Ideal S1x16x768 .f32} {A : Fin 256 → Fin 16 → ℝ} {B : Fin 16 → Fin 768 → ℝ}

theorem grad_coe (ha : ∀ r j, a (ix2 r j) = (A r j : EReal)) (hb : ∀ j k, b (ix3 0 j k) = (B j k : EReal)) (r : Fin 256) (k : Fin 768) :
    k0_pay6 a b (ix2 r k) = ((∑ j, silu (A r j) * B j k : ℝ) : EReal) := by
  pointwise [k0_pay6]
  rw [ofBits_half]
  simp only [ha, hb, sig_tanh]
  simp only [← EReal.coe_mul, ← EReal.coe_sub, coe_sum, ← EReal.coe_add]
  refine congrArg (fun x : ℝ => (x : EReal)) ?_
  simp only [sub_self, zero_mul, mul_zero, Finset.sum_const_zero, add_zero]
  rfl

variable (g : FVec Ideal S256x768 .f32) (w p q : Vec Ideal S1x256x768 .f32) (r : Fin 256) (k : Fin 768)

theorem newM_apply : k0_pay4 g (k0_pay9 p) (ix3 0 r k) = newM (g (ix2 r k)) (p (ix3 0 r k)) := by
  pointwise [k0_pay4, k0_pay9, k0_pay1]
  rfl

theorem newV_apply : k0_pay5 g (k0_pay10 q) (ix3 0 r k) = newV (g (ix2 r k)) (q (ix3 0 r k)) := by
  pointwise [k0_pay5, k0_pay10, k0_pay2]
  rfl

theorem change_apply : k0_pay3 g (k0_pay8 w) (k0_pay9 p) (k0_pay10 q) (ix3 0 r k)
    = change (w (ix3 0 r k)) (g (ix2 r k)) (p (ix3 0 r k)) (q (ix3 0 r k)) := by
  pointwise [k0_pay3, k0_pay8, k0_pay9, k0_pay10, k0_pay1, k0_pay2]
  rfl

end

end Cert.Ada

end
-- ==== Proof.AdaArray.lean ====
/- The update of the conditioning weights over its whole arrays: where each block of 256 rows sits, and the four result
   arrays, element by element. -/
module

public import proofs.«01_k».proof.Proof.AdaBlock

@[expose] public section

set_option maxRecDepth 16384

noncomputable section

namespace Cert.Ada

open Cert.AdaIdeal Cert.AdaIdeal.Gen Idealize.ShloMosaic Idealize.ShloMosaic.TcCoe Idealize.SL.Sem
open Cert.Reals Cert.Silu

variable (m : (ℓ : Loc nD τ sig) → Buf (Elt Ideal) ℓ) (c : Dev nD) (t : Fin cfg0.N)

theorem idx0 : ∀ t : Fin cfg0.N, win0_0.index t = ![t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)

/-- The layer of point `t`, and row `r` of its block. -/
def layer : Fin 2 := ⟨t.val / 4, by have := t.isLt; have : cfg0.N = 8 := N_0; omega⟩
def row (r : Fin 256) : Fin 1024 := ⟨t.val % 4 * 256 + r.val, by omega⟩

theorem cond_apply (r : Fin 256) (j : Fin 16) :
    iblk m c 0 t (ix2 r j) = m ((c : Thread nD τ).loc main_arg0) (ix2 j (row t r)) := by
  have e : V m c main_v0 = transpose S1024x16 [1, 0] (m ((c : Thread nD τ).loc main_arg0) : Vec Ideal S16x1024 .f32) transposes_S16x1024_S1024x16_1_0 := by
    unfold V hostOps0
    after_results
  blk_simp [iblk, e]
  have e' : (win0_0.blk t).view.emb (ix2 r j) = (ix2 (row t r) j : S1024x16.Idx) := by blk_ext [idx0 t, row]
  rw [e']
  pointwise []

theorem cot_apply (j : Fin 16) (k : Fin 768) :
    iblk m c 1 t (ix3 0 j k) = m ((c : Thread nD τ).loc main_arg1) (ix3 (layer t) j k) := by
  blk_simp [iblk, V_main_arg1]
  congr 1
  blk_ext [idx1 t, layer]

theorem weight_apply (r : Fin 256) (k : Fin 768) :
    iblk m c 2 t (ix3 0 r k) = m ((c : Thread nD τ).loc main_arg2) (ix3 (layer t) (row t r) k) := by
  blk_simp [iblk, V_main_arg2]
  congr 1
  blk_ext [idx2 t, layer, row]

theorem first_apply (r : Fin 256) (k : Fin 768) :
    iblk m c 3 t (ix3 0 r k) = m ((c : Thread nD τ).loc main_arg3) (ix3 (layer t) (row t r) k) := by
  blk_simp [iblk, V_main_arg3]
  congr 1
  blk_ext [idx3 t, layer, row]

theorem second_apply (r : Fin 256) (k : Fin 768) :
    iblk m c 4 t (ix3 0 r k) = m ((c : Thread nD τ).loc main_arg4) (ix3 (layer t) (row t r) k) := by
  blk_simp [iblk, V_main_arg4]
  congr 1
  blk_ext [idx4 t, layer, row]

theorem hz2 : (![0, 0] : Fin 2 → Nat) = fun _ => 0 := funext fun a => by fin_cases a <;> rfl
theorem hz3 : (![0, 0, 0] : Fin 3 → Nat) = fun _ => 0 := funext fun a => by fin_cases a <;> rfl

section
variable {m} {c}
variable {C : Fin 16 → Fin 1024 → ℝ} {D : Fin 2 → Fin 16 → Fin 768 → ℝ}
variable (hc : ∀ b r, m ((c : Thread nD τ).loc main_arg0) (ix2 b r) = (C b r : EReal))
  (hd : ∀ i b k, m ((c : Thread nD τ).loc main_arg1) (ix3 i b k) = (D i b k : EReal))

include hc hd

theorem block_coe (r : Fin 256) (k : Fin 768) :
    k0_pay6 (iblk m c 0 t) (iblk m c 1 t) (ix2 r k) = (gradient C D (layer t) (row t r) k : EReal) :=
  grad_coe (A := fun r j => C j (row t r)) (B := fun j k => D (layer t) j k) (fun r j => (cond_apply m c t r j).trans (hc ..))
    (fun j k => (cot_apply m c t j k).trans (hd ..)) r k

theorem grad_final : (dats m 0 c).arrAt 5 cfg0.N = (fun i => (gradient C D (i 0) (i 1) (i 2) : EReal) : Vec Ideal S2x1024x768 .f32) := by
  refine (dats m 0 c).arrAt_eq_of_covers 5 _ (by decide +kernel) fun t hf y => ?_
  blk_simp
  rw [after0_5]
  obtain ⟨r, k, rfl⟩ : ∃ (r : Fin 256) (k : Fin 768), y = ix3 0 r k :=
    ⟨y 1, y 2, by rw [eq_ix3 y]; congr 1; exact Subsingleton.elim (α := Fin 1) _ _⟩
  have e : (win0_5.blk t).view.emb (ix3 0 r k) = (ix3 (layer t) (row t r) k : S2x1024x768.Idx) := by blk_ext [idx5 t, layer, row]
  rw [e]
  unfold_out out0_5
  simp only [View.canon_unit_zero (S := S1x256x768) hz3, View.ld_unit_zero (S := S256x16) hz2, View.ld_unit_zero (S := S1x16x768) hz3]
  refine Eq.trans ?_ (block_coe t hc hd r k)
  pointwise [k0_pay7]

theorem newM_final : (dats m 0 c).arrAt 7 cfg0.N
    = (fun i => newM (gradient C D (i 0) (i 1) (i 2) : EReal) (m ((c : Thread nD τ).loc main_arg3) i) : Vec Ideal S2x1024x768 .f32) := by
  refine (dats m 0 c).arrAt_eq_of_covers 7 _ (by decide +kernel) fun t hf y => ?_
  blk_simp
  rw [after0_7]
  obtain ⟨r, k, rfl⟩ : ∃ (r : Fin 256) (k : Fin 768), y = ix3 0 r k :=
    ⟨y 1, y 2, by rw [eq_ix3 y]; congr 1; exact Subsingleton.elim (α := Fin 1) _ _⟩
  have e : (win0_7.blk t).view.emb (ix3 0 r k) = (ix3 (layer t) (row t r) k : S2x1024x768.Idx) := by blk_ext [idx7 t, layer, row]
  rw [e]
  unfold_out out0_7
  simp only [View.canon_unit_zero (S := S1x256x768) hz3, View.ld_unit_zero (S := S256x16) hz2, View.ld_unit_zero (S := S1x16x768) hz3,
    View.ld_unit_zero (S := S1x256x768) hz3]
  rw [newM_apply, block_coe t hc hd, first_apply]
  rfl

theorem newV_final : (dats m 0 c).arrAt 8 cfg0.N
    = (fun i => newV (gradient C D (i 0) (i 1) (i 2) : EReal) (m ((c : Thread nD τ).loc main_arg4) i) : Vec Ideal S2x1024x768 .f32) := by
  refine (dats m 0 c).arrAt_eq_of_covers 8 _ (by decide +kernel) fun t hf y => ?_
  blk_simp
  rw [after0_8]
  obtain ⟨r, k, rfl⟩ : ∃ (r : Fin 256) (k : Fin 768), y = ix3 0 r k :=
    ⟨y 1, y 2, by rw [eq_ix3 y]; congr 1; exact Subsingleton.elim (α := Fin 1) _ _⟩
  have e : (win0_8.blk t).view.emb (ix3 0 r k) = (ix3 (layer t) (row t r) k : S2x1024x768.Idx) := by blk_ext [idx8 t, layer, row]
  rw [e]
  unfold_out out0_8
  simp only [View.canon_unit_zero (S := S1x256x768) hz3, View.ld_unit_zero (S := S256x16) hz2, View.ld_unit_zero (S := S1x16x768) hz3,
    View.ld_unit_zero (S := S1x256x768) hz3]
  rw [newV_apply, block_coe t hc hd, second_apply]
  rfl

theorem change_final : (dats m 0 c).arrAt 6 cfg0.N
    = (fun i => change (m ((c : Thread nD τ).loc main_arg2) i) (gradient C D (i 0) (i 1) (i 2) : EReal)
        (m ((c : Thread nD τ).loc main_arg3) i) (m ((c : Thread nD τ).loc main_arg4) i) : Vec Ideal S2x1024x768 .f32) := by
  refine (dats m 0 c).arrAt_eq_of_covers 6 _ (by decide +kernel) fun t hf y => ?_
  blk_simp
  rw [after0_6]
  obtain ⟨r, k, rfl⟩ : ∃ (r : Fin 256) (k : Fin 768), y = ix3 0 r k :=
    ⟨y 1, y 2, by rw [eq_ix3 y]; congr 1; exact Subsingleton.elim (α := Fin 1) _ _⟩
  have e : (win0_6.blk t).view.emb (ix3 0 r k) = (ix3 (layer t) (row t r) k : S2x1024x768.Idx) := by blk_ext [idx6 t, layer, row]
  rw [e]
  unfold_out out0_6
  simp only [View.canon_unit_zero (S := S1x256x768) hz3, View.ld_unit_zero (S := S256x16) hz2, View.ld_unit_zero (S := S1x16x768) hz3,
    View.ld_unit_zero (S := S1x256x768) hz3]
  rw [change_apply, block_coe t hc hd, weight_apply, first_apply, second_apply]
  rfl

end

end Cert.Ada

end
-- ==== Proof.AdaRef.lean ====
/- The reference of the conditioning weights' update: the derivative's two layers, each put down at its place, are the same
   gradient, and the optimiser's step is the same. -/
module

public import proofs.«01_k».proof.Proof.AdaBlock
public import proofs.«01_k».proof.Proof.Gen.AdaRefIdeal.Read

@[expose] public section

set_option maxRecDepth 16384

noncomputable section

namespace Cert.Ada.Ref

open Cert.AdaRefIdeal Cert.AdaRefIdeal.Gen Cert.AdaRefIdeal.Read Idealize.ShloMosaic Idealize.ShloMosaic.TcCoe Idealize.SL.Sem
open Cert.Reals Cert.Silu

/-- One layer put back among the two. -/
theorem pad_apply {lo hi : ℕ} (hp : S1x1024x768.Pads (![lo, 0, 0] : Fin 3 → ℕ) ![hi, 0, 0] ![0, 0, 0] S2x1024x768)
    (z : FVec Ideal S1x1024x768 .f32) (v : FVec Ideal S_ .f32) (hv : ∀ i, v i = (0 : EReal)) (hv' : 0 < S_.numel)
    (i : Fin 2) (r : Fin 1024) (k : Fin 768) :
    pad S2x1024x768 ![lo, 0, 0] ![hi, 0, 0] ![0, 0, 0] z v hp hv' (ix3 i r k) = if i.val = lo then z (ix3 0 r k) else (0 : EReal) := by
  unfold pad
  split_ifs with h1 h2 h2
  · refine congrArg z (funext fun a => Fin.ext ?_)
    match a with
    | ⟨0, _⟩ => show (i.val - lo) / (0 + 1) = 0; omega
    | ⟨1, _⟩ => show (r.val - 0) / (0 + 1) = r.val; omega
    | ⟨2, _⟩ => show (k.val - 0) / (0 + 1) = k.val; omega
  · have h3 : lo ≤ i.val ∧ (i.val - lo) % (0 + 1) = 0 ∧ (i.val - lo) / (0 + 1) < 1 := h1 0
    omega
  · refine absurd (fun a => ?_) h1
    match a with
    | ⟨0, _⟩ => show lo ≤ i.val ∧ (i.val - lo) % (0 + 1) = 0 ∧ (i.val - lo) / (0 + 1) < 1; omega
    | ⟨1, _⟩ => show 0 ≤ r.val ∧ (r.val - 0) % (0 + 1) = 0 ∧ (r.val - 0) / (0 + 1) < 1024; omega
    | ⟨2, _⟩ => show 0 ≤ k.val ∧ (k.val - 0) % (0 + 1) = 0 ∧ (k.val - 0) / (0 + 1) < 768; omega
  · exact hv _

section
variable {x : FVec Ideal S16x1024 .f32} {d : FVec Ideal S2x16x768 .f32}
variable {C : Fin 16 → Fin 1024 → ℝ} {D : Fin 2 → Fin 16 → Fin 768 → ℝ}
variable (hc : ∀ b r, x (ix2 b r) = (C b r : EReal)) (hd : ∀ i b k, d (ix3 i b k) = (D i b k : EReal))

include hc in
theorem gate_coe (b : Fin 16) (r : Fin 1024) : val_main_v0 (F := Ideal) x (ix2 b r) = (silu (C b r) : EReal) := by
  pointwise [val_main_v0, val_main_call0_v5, val_main_call0_v4, val_main_call0_v3, val_main_call0_v2, val_main_call0_v1, val_main_call0_v0,
    val_main_call0_cst, val_main_call0_cst_0]
  rw [hc, sig_exp, ← EReal.coe_mul]
  rfl

include hc hd

theorem first_coe (r : Fin 1024) (k : Fin 768) : val_main_v21 (F := Ideal) x d (ix3 0 r k) = (gradient C D 0 r k : EReal) := by
  pointwise [val_main_v21, val_main_v20, val_main_v19, val_main_v12, val_main_v11]
  simp only [gate_coe hc, hd, ← EReal.coe_mul, coe_sum]
  exact congrArg (fun a : ℝ => (a : EReal)) (Finset.sum_congr rfl fun b _ => mul_comm _ _)

theorem second_coe (r : Fin 1024) (k : Fin 768) : val_main_v17 (F := Ideal) x d (ix3 0 r k) = (gradient C D 1 r k : EReal) := by
  have e : val_main_v4 (F := Ideal) x = val_main_v0 (F := Ideal) x := rfl
  pointwise [val_main_v17, val_main_v16, val_main_v15, val_main_v14, val_main_v13]
  rw [e]
  simp only [gate_coe hc, hd, ← EReal.coe_mul, coe_sum]
  exact congrArg (fun a : ℝ => (a : EReal)) (Finset.sum_congr rfl fun b _ => mul_comm _ _)

theorem grad_coe : val_main_v23 (F := Ideal) x d = fun i => (gradient C D (i 0) (i 1) (i 2) : EReal) := by
  funext i
  obtain ⟨s, r, k, rfl⟩ : ∃ (s : Fin 2) (r : Fin 1024) (k : Fin 768), i = ix3 s r k := ⟨i 0, i 1, i 2, eq_ix3 i⟩
  show pad S2x1024x768 ![1, 0, 0] ![0, 0, 0] ![0, 0, 0] (val_main_v17 (F := Ideal) x d) (val_main_cst (F := Ideal)) pads_S1x1024x768_S2x1024x768_100_000_000 h_S_ (ix3 s r k)
    + pad S2x1024x768 ![0, 0, 0] ![1, 0, 0] ![0, 0, 0] (val_main_v21 (F := Ideal) x d) (val_main_cst_0 (F := Ideal)) pads_S1x1024x768_S2x1024x768_010_000_000 h_S_ (ix3 s r k)
    = (gradient C D s r k : EReal)
  rw [pad_apply _ _ _ (fun i => by pointwise [val_main_cst]), pad_apply _ _ _ (fun i => by pointwise [val_main_cst_0]), first_coe hc hd, second_coe hc hd]
  obtain ⟨s, hs⟩ := s
  match s with
  | 0 => exact zero_add _
  | 1 => exact add_zero _

variable (w m v : FVec Ideal S2x1024x768 .f32)

theorem newM_coe : val_main_v28 (F := Ideal) x d m = fun i => newM (gradient C D (i 0) (i 1) (i 2) : EReal) (m i) := by
  have e := grad_coe hc hd
  funext i
  obtain ⟨s, r, k, rfl⟩ : ∃ (s : Fin 2) (r : Fin 1024) (k : Fin 768), i = ix3 s r k := ⟨i 0, i 1, i 2, eq_ix3 i⟩
  pointwise [val_main_v28, val_main_v27, val_main_v26, val_main_v25, val_main_v24, val_main_cst_1, val_main_cst_2]
  rw [e]
  rfl

theorem newV_coe : val_main_v34 (F := Ideal) x d v = fun i => newV (gradient C D (i 0) (i 1) (i 2) : EReal) (v i) := by
  have e := grad_coe hc hd
  funext i
  obtain ⟨s, r, k, rfl⟩ : ∃ (s : Fin 2) (r : Fin 1024) (k : Fin 768), i = ix3 s r k := ⟨i 0, i 1, i 2, eq_ix3 i⟩
  pointwise [val_main_v34, val_main_v33, val_main_v32, val_main_v31, val_main_v30, val_main_v29, val_main_cst_3, val_main_cst_4]
  rw [e]
  rfl

theorem change_coe : val_main_v47 (F := Ideal) x d w m v = fun i => change (w i) (gradient C D (i 0) (i 1) (i 2) : EReal) (m i) (v i) := by
  have e := newM_coe hc hd m
  have e' := newV_coe hc hd v
  funext i
  obtain ⟨s, r, k, rfl⟩ : ∃ (s : Fin 2) (r : Fin 1024) (k : Fin 768), i = ix3 s r k := ⟨i 0, i 1, i 2, eq_ix3 i⟩
  pointwise [val_main_v47, val_main_v46, val_main_v45, val_main_v44, val_main_v43, val_main_v42, val_main_v41, val_main_v40, val_main_v39,
    val_main_v38, val_main_v37, val_main_v36, val_main_v35, val_main_cst_5, val_main_cst_6, val_main_cst_7, val_main_cst_8, val_main_cst_9]
  rw [e, e']
  rfl

end

end Cert.Ada.Ref

end
-- ==== Proof.Ada.lean ====
/- The conditioning weights' update: kernel and reference leave the same gradient, change and moments, from the two runs and
   the precondition that the conditions and the cotangent are real. -/
module

public import proofs.«01_k».proof.Defs
public import proofs.«01_k».proof.Proof.AdaArray
public import proofs.«01_k».proof.Proof.AdaRef
public import proofs.«01_k».proof.Proof.Gen.Pre_finite_ada

@[expose] public section

set_option maxRecDepth 16384

noncomputable section

namespace Cert.Ada

open Idealize.ShloMosaic Idealize.ShloMosaic.TcCoe Idealize.SL.Sem Cert.Reals

/-- The precondition, read: two arrays of reals. -/
theorem reals {x : FVec Ideal Pre_finite_ada.S16x1024 .f32} {d : FVec Ideal Pre_finite_ada.S2x16x768 .f32}
    {w m v : FVec Ideal Pre_finite_ada.S2x1024x768 .f32} (h : Pre_finite_ada.fn (F := Ideal) x d w m v = fun _ => 1#1) :
    (∃ C : Fin 16 → Fin 1024 → ℝ, ∀ b r, x (ix2 b r) = (C b r : EReal))
    ∧ ∃ D : Fin 2 → Fin 16 → Fin 768 → ℝ, ∀ i b k, d (ix3 i b k) = (D i b k : EReal) := by
  have h := congrFun h ix0
  unfold Pre_finite_ada.fn at h
  obtain ⟨hx, hd⟩ := IntOp.andi_eq_one.1 h
  obtain ⟨C, hC⟩ := exists_real _ _ _ _ _ _ _ hx
  obtain ⟨D, hD⟩ := exists_real _ _ _ _ _ _ _ hd
  exact ⟨⟨fun b r => C (ix2 b r), fun _ _ => hC _⟩, ⟨fun i b k => D (ix3 i b k), fun _ _ _ => hD _⟩⟩

theorem value : Cert.algebraic_AdaIdeal_AdaRefIdeal_pre_finite_ada := fun m g m' g' hpre hag => by
  have key : ∀ c, (AdaIdeal.Gen.dats m 0 c).arrAt 5 AdaIdeal.cfg0.N = AdaRefIdeal.Read.val_main_v23 (F := Ideal)
        (m' ((c.tc : Thread _ _).loc AdaRefIdeal.main_arg0)) (m' ((c.tc : Thread _ _).loc AdaRefIdeal.main_arg1))
      ∧ (AdaIdeal.Gen.dats m 0 c).arrAt 6 AdaIdeal.cfg0.N = AdaRefIdeal.Value.res_main_v47 m' c
      ∧ (AdaIdeal.Gen.dats m 0 c).arrAt 7 AdaIdeal.cfg0.N = AdaRefIdeal.Read.val_main_v28 (F := Ideal)
        (m' ((c.tc : Thread _ _).loc AdaRefIdeal.main_arg0)) (m' ((c.tc : Thread _ _).loc AdaRefIdeal.main_arg1)) (m' ((c.tc : Thread _ _).loc AdaRefIdeal.main_arg3))
      ∧ (AdaIdeal.Gen.dats m 0 c).arrAt 8 AdaIdeal.cfg0.N = AdaRefIdeal.Read.val_main_v34 (F := Ideal)
        (m' ((c.tc : Thread _ _).loc AdaRefIdeal.main_arg0)) (m' ((c.tc : Thread _ _).loc AdaRefIdeal.main_arg1)) (m' ((c.tc : Thread _ _).loc AdaRefIdeal.main_arg4)) := by
    intro c
    obtain ⟨⟨C, hc⟩, D, hd⟩ := reals (hpre c)
    rw [AdaRefIdeal.Read.val_main_v47_eq]
    obtain ⟨e0, e1, e2, e3, e4⟩ := hag c
    rw [e0, e1, e2, e3, e4]
    exact ⟨(grad_final hc hd).trans (Ref.grad_coe hc hd).symm, (change_final hc hd).trans (Ref.change_coe hc hd _ _ _).symm,
      (newM_final hc hd).trans (Ref.newM_coe hc hd _).symm, (newV_final hc hd).trans (Ref.newV_coe hc hd _).symm⟩
  exact ⟨_, _, _, _, AdaIdeal.Value.run_blocks m g, (θ_run _ _ _).mono (fun r h c => by
    obtain ⟨h0, h1, h2, h3, h⟩ := h c
    obtain ⟨k0, k1, k2, k3⟩ := key c
    exact ⟨h0.trans k0.symm, h1.trans k1.symm, h2.trans k2.symm, h3.trans k3.symm, h⟩) (AdaRefIdeal.Value.run m' g')⟩

theorem frame_reference : Cert.quiescent_AdaRefIdeal := fun m g _ =>
  (θ_run AdaRefIdeal.defs _ _).mono (fun r h => ⟨fun c => (h c).2.2.2.2, sem_eq_zero_of_no_sems rfl r.2⟩)
    (AdaRefIdeal.Value.run (F := Ideal) m g)

end Cert.Ada

end
-- ==== Proof.HgrnOutFwdMath.lean ====
/- The recurrence's output stage over the extended reals, so that nothing is asked of its arguments: the norm of a head of
   128 lanes, the logistic gate in the two ways the programs write it, and what the projection is applied to. -/
module

public import proofs.«01_k».proof.Proof.HgrnOutMath

@[expose] public section

noncomputable section

namespace Cert.OutFwd

open Cert.Reals Cert.Silu Cert.OutStage Idealize.ShloMosaic

/-- One value of a head over the root of the head's mean square. -/
def headNorm (u : Fin 128 → EReal) (k : Fin 128) : EReal :=
  u k * Ideal.rsqrt (Ideal.div (∑ k, u k * u k) (Ideal.ofBits .f32 0x43000000#32) + Ideal.ofBits .f32 0x358637BD#32)

/-- The gate `z` times the logistic function of `z`. -/
def gate (z : EReal) : EReal := z * Ideal.div 1 (1 + Ideal.exp (-z))

/-- The logistic function through the hyperbolic tangent is the quotient of exponentials, the infinities included. -/
theorem logistic_tanh (z : EReal) : ((1 / 2 : ℝ) : EReal) * Ideal.tanh (((1 / 2 : ℝ) : EReal) * z) + ((1 / 2 : ℝ) : EReal)
    = Ideal.div 1 (1 + Ideal.exp (-z)) := by
  induction z with
  | coe z => rw [sig_tanh, sig_exp]
  | bot =>
    rw [EReal.coe_mul_bot_of_pos (by norm_num), EReal.neg_bot]
    show ((1 / 2 : ℝ) : EReal) * -1 + ((1 / 2 : ℝ) : EReal) = Ideal.div 1 (1 + ⊤)
    have h : (1 : EReal) + ⊤ = ⊤ := EReal.add_top_of_ne_bot (by decide)
    rw [h, Ideal.div, if_neg (by decide), EReal.inv_top, mul_zero, ← EReal.coe_one, ← EReal.coe_neg, ← EReal.coe_mul, ← EReal.coe_add]
    norm_num
  | top =>
    rw [EReal.coe_mul_top_of_pos (by norm_num), EReal.neg_top]
    show ((1 / 2 : ℝ) : EReal) * 1 + ((1 / 2 : ℝ) : EReal) = Ideal.div 1 (1 + 0)
    rw [add_zero, ← EReal.coe_one, ← EReal.coe_mul, ← EReal.coe_add, div_coe _ _ one_ne_zero]
    norm_num

/-- What the projection is applied to: the heads' norms, weighted, times the gate. -/
def act (o z w : Fin 1024 → EReal) (j : Fin 1024) : EReal := headNorm (fun k => o (col (head j) k)) (lane j) * w j * gate (z j)

/-- The projection's result. -/
def res (o z w : Fin 1024 → EReal) (p : Fin 1024 → Fin 1024 → EReal) (k : Fin 1024) : EReal := ∑ j, act o z w j * p j k

/-! A head's lanes start at place `p` of the row. -/
variable {h : Fin 8} {p : ℕ} {b : ∀ k : Fin 128, p + k.val < 1024}

theorem place_eq (hp : h.val * 128 = p) (k : Fin 128) : (⟨p + k.val, b k⟩ : Fin 1024) = col h k := Fin.ext (by subst hp; rfl)

theorem headNorm_place (o : Fin 1024 → EReal) (k : Fin 128) (hp : h.val * 128 = p) :
    headNorm (fun k => o ⟨p + k.val, b k⟩) k = headNorm (fun k => o (col h k)) k := by
  simp only [place_eq hp]

end Cert.OutFwd

end
-- ==== Proof.HgrnOutFwdArray.lean ====
/- The recurrence's output stage: every point norms its 256 rows head by head into a scratch buffer, weights them, gates them
   and multiplies them into the projection. Here what the kernel leaves in its two arrays. -/
module

public import proofs.«01_k».proof.Proof.Gen.HgrnOutFwdIdeal.Value
public import proofs.«01_k».proof.Proof.HgrnOutFwdMath
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.OutFwd

open Cert.HgrnOutFwdIdeal Cert.HgrnOutFwdIdeal.Gen Idealize.ShloMosaic Idealize.ShloMosaic.TcCoe Idealize.SL.Sem
open Cert.Silu Cert.OutStage

/-! ## One point -/

/-- The scratch that holds the normalised heads, stored head by head, read back whole. -/
abbrev heads (o : Vec Ideal S256x1024 .f32) : Vec Ideal S256x1024 .f32 := (View.whole cc0_scratch0).readCov
  [⟨Rect.unit ![0, 896] ![256, 128] inb_S256x1024_S256x128_0_896, k0_pay13 o⟩,
    ⟨Rect.unit ![0, 768] ![256, 128] inb_S256x1024_S256x128_0_768, k0_pay12 o⟩,
    ⟨Rect.unit ![0, 640] ![256, 128] inb_S256x1024_S256x128_0_640, k0_pay11 (k0_pay10 o)⟩,
    ⟨Rect.unit ![0, 512] ![256, 128] inb_S256x1024_S256x128_0_512, k0_pay9 o⟩,
    ⟨Rect.unit ![0, 384] ![256, 128] inb_S256x1024_S256x128_0_384, k0_pay8 o⟩,
    ⟨Rect.unit ![0, 256] ![256, 128] inb_S256x1024_S256x128_0_256, k0_pay7 (k0_pay6 o)⟩,
    ⟨Rect.unit ![0, 128] ![256, 128] inb_S256x1024_S256x128_0_128, k0_pay5 o⟩,
    ⟨Rect.unit ![0, 0] ![256, 128] inb_S256x1024_S256x128_0_0, k0_pay4 o⟩]
  (Rect.unit ![0, 0] ![256, 1024] inb_S256x1024_S256x1024_0_0).toLoadRect

theorem heads_apply (o : Vec Ideal S256x1024 .f32) (r : Fin 256) (j : Fin 1024) :
    heads o (ix2 r j) = headNorm (fun k => o (ix2 r (col (head j) k))) (lane j) := by
  unfold heads
  rw [View.readCov_eq_canon']
  dsimp only
  rw [← col_head_lane j]
  generalize head j = h
  generalize lane j = k
  rw [head_col, lane_col]
  have e : (Rect.unit (s := S256x1024) ![0, 0] ![256, 1024] inb_S256x1024_S256x1024_0_0).idx (ix2 r (col h k)) = ix2 r (col h k) := by
    funext a
    refine Fin.ext ((Rect.idx_unit_val ..).trans ?_)
    fin_cases a <;> exact Nat.zero_add _
  rw [e]
  canon_tiles x hh
  all_goals
    obtain ⟨r', k', rfl⟩ : ∃ (r' : Fin 256) (k' : Fin 128), x = ix2 r' k' := ⟨x 0, x 1, eq_ix2 x⟩
    obtain rfl := Fin.ext (show r.val = r'.val from hh0)
    rw [ix2_1, ix2_1] at hh1
    unfold col at hh1
    dsimp only at hh1
    have hk : k.val = k'.val := by have := k'.isLt; have := k.isLt; omega
    obtain rfl := Fin.ext hk
    pointwise [k0_pay13, k0_pay12, k0_pay11, k0_pay10, k0_pay9, k0_pay8, k0_pay7, k0_pay6, k0_pay5, k0_pay4]
    first
    | exact headNorm_place (b := fun k => by omega) (fun j => o (ix2 r j)) k (Nat.add_right_cancel hh1)
    | simpa only [Nat.zero_add, headNorm] using headNorm_place (p := 0) (b := fun k => by omega) (fun j => o (ix2 r j)) k
        (Nat.add_right_cancel (hh1.trans (Nat.zero_add _).symm))

/-! ## The whole arrays -/

variable (m : (ℓ : Loc nD τ sig) → Buf (Elt Ideal) ℓ) (c : Dev nD) (t : Fin cfg0.N)

theorem idx0 : ∀ t : Fin cfg0.N, win0_0.index t = ![t.val, 0] := (by decide +kernel : ∀ t : Fin grid0.N, _)
theorem idx1 : ∀ t : Fin cfg0.N, win0_1.index t = ![4, t.val + 1, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem points : t.val < 8 := by have := t.isLt; have : cfg0.N = 8 := N_0; omega

/-- Row `r` of point `t`'s block. -/
def row (r : Fin 256) : Fin 2048 := ⟨t.val * 256 + r.val, by have := points t; omega⟩

theorem o_apply (r : Fin 256) (k : Fin 1024) : iblk m c 0 t (ix2 r k) = m ((c : Thread nD τ).loc main_arg0) (ix2 (row t r) k) := by
  blk_simp [iblk, V_main_arg0]
  congr 1
  blk_ext [idx0 t, row]

theorem z_apply (r : Fin 256) (k : Fin 1024) :
    iblk m c 1 t (ix3 0 r k) = m ((c : Thread nD τ).loc main_arg1) (ix3 4 ⟨256 + (row t r).val, late_lt _⟩ k) := by
  blk_simp [iblk, V_main_arg1]
  congr 1
  blk_ext [idx1 t, row]

theorem x_apply (r : Fin 256) (k : Fin 1024) : iblk m c 2 t (ix2 r k) = m ((c : Thread nD τ).loc main_arg2) (ix2 (row t r) k) := by
  blk_simp [iblk, V_main_arg2]
  congr 1
  blk_ext [idx2 t, row]

theorem w_apply (k : Fin 1024) : iblk m c 3 t (ix2 0 k) = m ((c : Thread nD τ).loc main_arg3) (ix2 0 k) := by
  blk_simp [iblk, V_main_arg3]
  congr 1
  blk_ext [idx3 t]

theorem gate_apply (k : Fin 1024) : iblk m c 4 t (ix2 0 k) = m ((c : Thread nD τ).loc main_arg4) (ix2 0 k) := by
  blk_simp [iblk, V_main_arg4]
  congr 1
  blk_ext [idx4 t]

theorem p_apply (j k : Fin 1024) : iblk m c 5 t (ix2 j k) = m ((c : Thread nD τ).loc main_arg5) (ix2 j k) := by
  blk_simp [iblk, V_main_arg5]
  congr 1
  blk_ext [idx5 t]

/-- The projection's result on the arguments' rows. -/
abbrev stage (o : Vec Ideal S2048x1024 .f32) (g : Vec Ideal S5x2304x1024 .f32) (w : Vec Ideal S1x1024 .f32) (p : Vec Ideal S1024x1024 .bf16)
    (t : Fin 2048) (k : Fin 1024) : EReal :=
  res (fun j => o (ix2 t j)) (fun j => g (ix3 4 ⟨256 + t.val, late_lt t⟩ j)) (fun j => w (ix2 0 j)) (fun j k => p (ix2 j k)) k

/-- The stage's input with the gated result added. -/
abbrev mixed (o : Vec Ideal S2048x1024 .f32) (g : Vec Ideal S5x2304x1024 .f32) (x : Vec Ideal S2048x1024 .f32) (w ga : Vec Ideal S1x1024 .f32)
    (p : Vec Ideal S1024x1024 .bf16) (t : Fin 2048) (k : Fin 1024) : EReal := x (ix2 t k) + ga (ix2 0 k) * stage o g w p t k

theorem res_block (n : Vec Ideal S256x1024 .f32) (w : Vec Ideal S1x1024 .f32) (z : Vec Ideal S1x256x1024 .f32) (p : Vec Ideal S1024x1024 .bf16)
    (r : Fin 256) (k : Fin 1024) : k0_pay1 (k0_pay14 n w) (k0_pay15 z) (k0_pay16 z) p (ix2 r k)
      = ∑ j, n (ix2 r j) * w (ix2 0 j) * gate (z (ix3 0 r j)) * p (ix2 j k) := by
  pointwise [k0_pay1, k0_pay14, k0_pay15, k0_pay16]
  simp only [ofBits_half, logistic_tanh]
  rfl

/-- A point's product is the stage's result on its rows. -/
theorem res_rows (r : Fin 256) (k : Fin 1024) :
    k0_pay1 (k0_pay14 (heads (iblk m c 0 t)) (iblk m c 3 t)) (k0_pay15 (iblk m c 1 t)) (k0_pay16 (iblk m c 1 t)) (iblk m c 5 t) (ix2 r k)
      = stage (m ((c : Thread nD τ).loc main_arg0)) (m ((c : Thread nD τ).loc main_arg1)) (m ((c : Thread nD τ).loc main_arg3))
        (m ((c : Thread nD τ).loc main_arg5)) (row t r) k := by
  rw [res_block]
  simp only [heads_apply, o_apply, z_apply, w_apply, p_apply]
  rfl

theorem res_point (r : Fin 256) (k : Fin 1024) : (outsAt0 m c t).2 (ix2 r k)
    = stage (m ((c : Thread nD τ).loc main_arg0)) (m ((c : Thread nD τ).loc main_arg1)) (m ((c : Thread nD τ).loc main_arg3))
      (m ((c : Thread nD τ).loc main_arg5)) (row t r) k := by
  unfold outsAt0
  frame_out
  refine Eq.trans ?_ (res_rows m c t r k)
  pointwise [k0_pay2]

theorem x_point (r : Fin 256) (k : Fin 1024) : (outsAt0 m c t).1 (ix2 r k)
    = mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row t r) k := by
  unfold mixed
  rw [← res_rows m c t r k, ← x_apply m c t, ← gate_apply m c t]
  unfold outsAt0
  frame_out
  pointwise [k0_pay3]

theorem res_final : (dats m 0 c).arrAt 7 cfg0.N = (fun i => stage (m ((c : Thread nD τ).loc main_arg0)) (m ((c : Thread nD τ).loc main_arg1))
    (m ((c : Thread nD τ).loc main_arg3)) (m ((c : Thread nD τ).loc main_arg5)) (i 0) (i 1) : Vec Ideal S2048x1024 .f32) := by
  refine (dats m 0 c).arrAt_eq_of_covers 7 _ (by decide +kernel) fun t hf y => ?_
  blk_simp
  rw [after0_7]
  obtain ⟨r, k, rfl⟩ : ∃ (r : Fin 256) (k : Fin 1024), y = ix2 r k := ⟨y 0, y 1, eq_ix2 y⟩
  have e : (win0_7.blk t).view.emb (ix2 r k) = (ix2 (row t r) k : S2048x1024.Idx) := by blk_ext [idx7 t, row]
  rw [e]
  exact res_point m c t r k

theorem x_final : (dats m 0 c).arrAt 6 cfg0.N = (fun i => mixed (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (i 0) (i 1) : Vec Ideal S2048x1024 .f32) := by
  refine (dats m 0 c).arrAt_eq_of_covers 6 _ (by decide +kernel) fun t hf y => ?_
  blk_simp
  rw [after0_6]
  obtain ⟨r, k, rfl⟩ : ∃ (r : Fin 256) (k : Fin 1024), y = ix2 r k := ⟨y 0, y 1, eq_ix2 y⟩
  have e : (win0_6.blk t).view.emb (ix2 r k) = (ix2 (row t r) k : S2048x1024.Idx) := by blk_ext [idx6 t, row]
  rw [e]
  exact x_point m c t r k

end Cert.OutFwd

end
-- ==== Proof.HgrnOutFwd.lean ====
/- The recurrence's output stage: the kernel and the plain forward lines leave the same two arrays, whatever the arguments. -/
module

public import proofs.«01_k».proof.Proof.HgrnOutFwdArray
public import proofs.«01_k».proof.Proof.Gen.HgrnOutFwdRefIdeal.Run
public import proofs.«01_k».proof.Proof.Gen.HgrnOutFwdRefIdeal.Read
public import proofs.«01_k».proof.Defs
public import Idealize.ShloMosaic.Adequacy

@[expose] public section

set_option maxRecDepth 16384

noncomputable section

namespace Cert.OutFwd

open Idealize.ShloMosaic Idealize.ShloMosaic.TcCoe Idealize.SL.Sem

namespace Ref

open Cert.HgrnOutFwdRefIdeal Cert.HgrnOutFwdRefIdeal.Read Cert.OutStage

variable (o : Vec Ideal S2048x1024 .f32) (g : Vec Ideal S5x2304x1024 .f32) (x : Vec Ideal S2048x1024 .f32) (w ga : Vec Ideal S1x1024 .f32)
  (p : Vec Ideal S1024x1024 .bf16)

theorem norm_apply (t : Fin 2048) (h : Fin 8) (k : Fin 128) : val_main_v17 (F := Ideal) o w (ix3 t h k)
    = headNorm (fun k => o (ix2 t (col h k))) k * w (ix2 0 (col h k)) := by
  pointwise [val_main_v17, val_main_v16, val_main_v15, val_main_v14, val_main_v13, val_main_v12, val_main_v11, val_main_v10, val_main_v9, val_main_v8,
    val_main_v7, val_main_v6, val_main_v5, val_main_v4, val_main_v3, val_main_cst, val_main_cst_0, val_main_cst_1]
  rfl

theorem act_apply (t : Fin 2048) (j : Fin 1024) : val_main_v20 (F := Ideal) o g w (ix2 t j)
    = act (fun j => o (ix2 t j)) (fun j => g (ix3 4 ⟨256 + t.val, late_lt t⟩ j)) (fun j => w (ix2 0 j)) j := by
  pointwise [val_main_v20, val_main_v18, val_main_v19, val_main_call0_v5, val_main_call0_v4, val_main_call0_v3, val_main_call0_v2, val_main_call0_v1,
    val_main_call0_v0, val_main_call0_cst, val_main_call0_cst_0, val_main_v1, val_main_v0]
  refine (congrArg (· * _) ((norm_apply o w t (head j) (lane j)).trans ?_)).trans rfl
  rw [col_head_lane]

theorem res_apply (t : Fin 2048) (k : Fin 1024) : val_main_v21 (F := Ideal) o g w p (ix2 t k) = stage o g w p t k := by
  pointwise [val_main_v21, val_main_v2]
  simp only [act_apply]
  rfl

theorem res_eq : val_main_v21 (F := Ideal) o g w p = fun i => stage o g w p (i 0) (i 1) := by
  funext i
  obtain ⟨t, k, rfl⟩ : ∃ (t : Fin 2048) (k : Fin 1024), i = ix2 t k := ⟨i 0, i 1, eq_ix2 i⟩
  exact res_apply o g w p t k

theorem x_eq : val_main_v24 (F := Ideal) o g x w ga p = fun i => mixed o g x w ga p (i 0) (i 1) := by
  funext i
  obtain ⟨t, k, rfl⟩ : ∃ (t : Fin 2048) (k : Fin 1024), i = ix2 t k := ⟨i 0, i 1, eq_ix2 i⟩
  pointwise [val_main_v24, val_main_v23, val_main_v22]
  rw [res_apply]

end Ref

theorem value : Cert.algebraic_HgrnOutFwdIdeal_HgrnOutFwdRefIdeal := fun m g m' g' _ hag => by
  have key : ∀ c, (HgrnOutFwdIdeal.Gen.dats m 0 c).arrAt 6 HgrnOutFwdIdeal.cfg0.N = HgrnOutFwdRefIdeal.Read.val_main_v24 (F := Ideal)
        (m' ((c.tc : Thread _ _).loc HgrnOutFwdRefIdeal.main_arg0)) (m' ((c.tc : Thread _ _).loc HgrnOutFwdRefIdeal.main_arg1))
        (m' ((c.tc : Thread _ _).loc HgrnOutFwdRefIdeal.main_arg2)) (m' ((c.tc : Thread _ _).loc HgrnOutFwdRefIdeal.main_arg3))
        (m' ((c.tc : Thread _ _).loc HgrnOutFwdRefIdeal.main_arg4)) (m' ((c.tc : Thread _ _).loc HgrnOutFwdRefIdeal.main_arg5))
      ∧ (HgrnOutFwdIdeal.Gen.dats m 0 c).arrAt 7 HgrnOutFwdIdeal.cfg0.N = HgrnOutFwdRefIdeal.Read.val_main_v21 (F := Ideal)
        (m' ((c.tc : Thread _ _).loc HgrnOutFwdRefIdeal.main_arg0)) (m' ((c.tc : Thread _ _).loc HgrnOutFwdRefIdeal.main_arg1))
        (m' ((c.tc : Thread _ _).loc HgrnOutFwdRefIdeal.main_arg3)) (m' ((c.tc : Thread _ _).loc HgrnOutFwdRefIdeal.main_arg5)) := by
    intro c
    obtain ⟨e0, e1, e2, e3, e4, e5⟩ := hag c
    rw [e0, e1, e2, e3, e4, e5]
    exact ⟨(x_final m c).trans (Ref.x_eq _ _ _ _ _ _).symm, (res_final m c).trans (Ref.res_eq _ _ _ _).symm⟩
  exact ⟨_, _, HgrnOutFwdIdeal.Value.run_blocks m g, (θ_run _ _ _).mono (fun r h c => by
    obtain ⟨h0, h1, h⟩ := h c
    obtain ⟨k0, k1⟩ := key c
    exact ⟨h0.trans k0.symm, h1.trans k1.symm, h⟩) (HgrnOutFwdRefIdeal.Value.run m' g')⟩

theorem frame_reference : Cert.quiescent_HgrnOutFwdRefIdeal := fun m g _ =>
  (θ_run HgrnOutFwdRefIdeal.defs _ _).mono (fun r h => ⟨fun c => (h c).2.2, sem_eq_zero_of_no_sems rfl r.2⟩)
    (HgrnOutFwdRefIdeal.Value.run (F := Ideal) m g)

end Cert.OutFwd

end
-- ==== Proof.ModNorm.lean ====
/- The modulated RMS norm of a row, as both programs compute it, over the extended reals: no argument need be finite. -/
module

public import proofs.«01_k».proof.Proof.Reals

@[expose] public section

noncomputable section

namespace Cert.ModNorm

open Idealize.ShloMosaic

/-- The row over its root mean square, times the norm's weight, times one and the scale, and the shift. -/
def modNorm (x nw sh sc : Fin 1024 → EReal) (l : Fin 1024) : EReal :=
  x l * Ideal.rsqrt (Ideal.div (∑ k, x k * x k) (Ideal.ofBits .f32 0x44800000#32) + Ideal.ofBits .f32 0x358637BD#32) * nw l * (1 + sc l) + sh l

/-- One element of the projection's section `s` of `n`: the normed row against the weight's column. -/
def proj {n : ℕ} (h : Fin 1024 → EReal) (w : Fin 1024 → Fin (n * 1024) → EReal) (s : Fin n) (k : Fin 1024) : EReal :=
  ∑ j, h j * w j ⟨s.val * 1024 + k.val, by have := s.isLt; have := k.isLt; omega⟩

end Cert.ModNorm

end
-- ==== Proof.PoolInFwdArray.lean ====
/- The projection into the pooling block: each point's block of 512 rows is normed and multiplied into both sections. Here
   what the kernel leaves in its two whole arrays. -/
module

public import proofs.«01_k».proof.Proof.Gen.PoolInFwdIdeal.Value
public import proofs.«01_k».proof.Proof.ModNorm
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.PoolFwd

open Cert.PoolInFwdIdeal Cert.PoolInFwdIdeal.Gen Idealize.ShloMosaic Idealize.ShloMosaic.TcCoe Idealize.SL.Sem Cert.ModNorm

/-! ## One point -/

theorem norm_apply (x : Vec Ideal S512x1024 .f32) (nw : Vec Ideal S1x1024 .f32) (sh sc : Vec Ideal S1x1x1024 .f32) (r : Fin 512) (l : Fin 1024) :
    k0_pay2 x nw sc sh (ix2 r l)
      = modNorm (fun l => x (ix2 r l)) (fun l => nw (ix2 0 l)) (fun l => sh (ix3 0 0 l)) (fun l => sc (ix3 0 0 l)) l := by
  pointwise [k0_pay2]
  rfl

/-! ## The whole arrays -/

variable (m : (ℓ : Loc nD τ sig) → Buf (Elt Ideal) ℓ) (c : Dev nD) (t : Fin cfg0.N)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![t.val, 0] := (by decide +kernel : ∀ t : Fin grid0.N, _)

/-- Row `r` of point `t`'s block. -/
def row (r : Fin 512) : Fin 2048 := ⟨t.val * 512 + r.val, by have := t.isLt; have : cfg0.N = 4 := N_0; omega⟩

theorem x_apply (r : Fin 512) (l : Fin 1024) : iblk m c 0 t (ix2 r l) = m ((c : Thread nD τ).loc main_arg0) (ix2 (row t r) l) := by
  blk_simp [iblk, V_main_arg0]
  congr 1
  blk_ext [idx0 t, row]

theorem nw_apply (l : Fin 1024) : iblk m c 1 t (ix2 0 l) = m ((c : Thread nD τ).loc main_arg1) (ix2 0 l) := by
  blk_simp [iblk, V_main_arg1]
  congr 1
  blk_ext [idx1 t]

theorem shift_apply (l : Fin 1024) : iblk m c 2 t (ix3 0 0 l) = m ((c : Thread nD τ).loc main_arg2) (ix2 0 l) := by
  have e : V m c main_v0 = shapeCast S1x1x1024 (m ((c : Thread nD τ).loc main_arg2) : Vec Ideal S1x1024 .f32) shapeCasts_S1x1024_S1x1x1024 := by
    unfold V hostOps0
    after_results
    rfl
  blk_simp [iblk, e]
  have e' : (win0_2.blk t).view.emb (ix3 0 0 l) = (ix3 0 0 l : S1x1x1024.Idx) := by blk_ext [idx2 t]
  rw [e']
  pointwise []

theorem scale_apply (l : Fin 1024) : iblk m c 3 t (ix3 0 0 l) = m ((c : Thread nD τ).loc main_arg3) (ix2 0 l) := by
  have e : V m c main_v1 = shapeCast S1x1x1024 (m ((c : Thread nD τ).loc main_arg3) : Vec Ideal S1x1024 .f32) shapeCasts_S1x1024_S1x1x1024 := by
    unfold V hostOps0
    after_results
    rfl
  blk_simp [iblk, e]
  have e' : (win0_3.blk t).view.emb (ix3 0 0 l) = (ix3 0 0 l : S1x1x1024.Idx) := by blk_ext [idx3 t]
  rw [e']
  pointwise []

theorem weight_apply (j : Fin 1024) (k : Fin 2048) : iblk m c 4 t (ix2 j k) = m ((c : Thread nD τ).loc main_arg4) (ix2 j k) := by
  blk_simp [iblk, V_main_arg4]
  congr 1
  blk_ext [idx4 t]

theorem hz2 : (![0, 0] : Fin 2 → Nat) = fun _ => 0 := funext fun a => by fin_cases a <;> rfl
theorem hz3 : (![0, 0, 0] : Fin 3 → Nat) = fun _ => 0 := funext fun a => by fin_cases a <;> rfl

/-- The normed rows. -/
def normed (x : Vec Ideal S2048x1024 .f32) (nw sh sc : Vec Ideal S1x1024 .f32) (t : Fin 2048) : Fin 1024 → EReal :=
  modNorm (fun l => x (ix2 t l)) (fun l => nw (ix2 0 l)) (fun l => sh (ix2 0 l)) (fun l => sc (ix2 0 l))

theorem block_norm (r : Fin 512) (l : Fin 1024) : k0_pay2 (iblk m c 0 t) (iblk m c 1 t) (iblk m c 3 t) (iblk m c 2 t) (ix2 r l)
    = normed (m ((c : Thread nD τ).loc main_arg0)) (m ((c : Thread nD τ).loc main_arg1)) (m ((c : Thread nD τ).loc main_arg2))
      (m ((c : Thread nD τ).loc main_arg3)) (row t r) l := by
  rw [norm_apply]
  simp only [x_apply, nw_apply, shift_apply, scale_apply]
  rfl

theorem norm_final : (dats m 0 c).arrAt 6 cfg0.N
    = (fun i => normed (m ((c : Thread nD τ).loc main_arg0)) (m ((c : Thread nD τ).loc main_arg1)) (m ((c : Thread nD τ).loc main_arg2))
      (m ((c : Thread nD τ).loc main_arg3)) (i 0) (i 1) : Vec Ideal S2048x1024 .bf16) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, eq_ix2 y⟩
  have e : (win0_6.blk t).view.emb (ix2 r l) = (ix2 (row t r) l : S2048x1024.Idx) := by blk_ext [idx6 t, row]
  rw [e]
  unfold out0_6
  simp only [View.canon_unit_zero (S := S512x1024) hz2, View.ld_unit_zero (S := S512x1024) hz2, View.ld_unit_zero (S := S1x1024) hz2,
    View.ld_unit_zero (S := S1x1x1024) hz3]
  refine Eq.trans ?_ (block_norm m c t r l)
  pointwise [k0_pay3]

/-- A section's product over a point's block, at the section's column among the weight's. -/
theorem section_apply (s : Fin 2) (r : Fin 512) (k : Fin 1024) {v : EReal} {q : Fin 2048} (hq : q.val = s.val * 1024 + k.val)
    (hv : v = ∑ j, k0_pay2 (View.ld (iblk m c 0 t) r0_0) (View.ld (iblk m c 1 t) r0_1) (View.ld (iblk m c 3 t) r0_2) (View.ld (iblk m c 2 t) r0_2) (ix2 r j)
      * iblk m c 4 t (ix2 j q)) :
    v = proj (n := 2) (normed (m ((c : Thread nD τ).loc main_arg0)) (m ((c : Thread nD τ).loc main_arg1)) (m ((c : Thread nD τ).loc main_arg2))
      (m ((c : Thread nD τ).loc main_arg3)) (row t r)) (fun j k => m ((c : Thread nD τ).loc main_arg4) (ix2 j k)) s k := by
  rw [hv, show q = ⟨s.val * 1024 + k.val, by omega⟩ from Fin.ext hq]
  simp only [View.ld_unit_zero (S := S512x1024) hz2, View.ld_unit_zero (S := S1x1024) hz2, View.ld_unit_zero (S := S1x1x1024) hz3, block_norm,
    weight_apply]
  rfl

theorem sections_final : (dats m 0 c).arrAt 5 cfg0.N
    = (fun i => proj (n := 2) (normed (m ((c : Thread nD τ).loc main_arg0)) (m ((c : Thread nD τ).loc main_arg1)) (m ((c : Thread nD τ).loc main_arg2))
      (m ((c : Thread nD τ).loc main_arg3)) (i 1)) (fun j k => m ((c : Thread nD τ).loc main_arg4) (ix2 j k)) (i 0) (i 2) : Vec Ideal S2x2048x1024 .f32) := by
  refine (dats m 0 c).arrAt_eq_of_covers 5 _ (by decide +kernel) fun t hf y => ?_
  blk_simp
  rw [after0_5]
  obtain ⟨s, r, k, rfl⟩ : ∃ (s : Fin 2) (r : Fin 512) (k : Fin 1024), y = ix3 s r k := ⟨y 0, y 1, y 2, eq_ix3 y⟩
  have e : (win0_5.blk t).view.emb (ix3 s r k) = (ix3 s (row t r) k : S2x2048x1024.Idx) := by blk_ext [idx5 t, row]
  rw [e]
  unfold out0_5
  canon_tiles x hh
  all_goals
    obtain ⟨r', k', rfl⟩ : ∃ (r' : Fin 512) (k' : Fin 1024), x = ix3 0 r' k' :=
      ⟨x 1, x 2, by rw [eq_ix3 x]; congr 1; exact Subsingleton.elim (α := Fin 1) _ _⟩
    obtain rfl := Fin.ext (show r.val = r'.val from hh1)
    obtain rfl := Fin.ext (show k.val = k'.val from hh2)
  · obtain rfl : s = 1 := Fin.ext hh0
    refine section_apply m c t 1 r k (q := ⟨1024 + k.val, by omega⟩) rfl ?_
    pointwise [k0_pay1]
    rfl
  · obtain rfl : s = 0 := Fin.ext hh0
    refine section_apply m c t 0 r k (q := ⟨k.val, by omega⟩) (by show k.val = 0 * 1024 + k.val; omega) ?_
    pointwise [k0_pay4]
    rfl

end Cert.PoolFwd

end
-- ==== Proof.PoolInFwd.lean ====
/- The projection into the pooling block: the reference's two arrays, and that the kernel leaves the same. -/
module

public import proofs.«01_k».proof.Defs
public import proofs.«01_k».proof.Proof.PoolInFwdArray
public import proofs.«01_k».proof.Proof.Gen.PoolInFwdRefIdeal.Read

@[expose] public section

set_option maxRecDepth 16384

noncomputable section

namespace Cert.PoolFwd

open Idealize.ShloMosaic Idealize.ShloMosaic.TcCoe Idealize.SL.Sem Cert.ModNorm

namespace Ref

open Cert.PoolInFwdRefIdeal Cert.PoolInFwdRefIdeal.Gen Cert.PoolInFwdRefIdeal.Read

variable (x : FVec Ideal S2048x1024 .f32) (nw sh sc : FVec Ideal S1x1024 .f32) (w : FVec Ideal S1024x2048 .bf16)

theorem norm_apply (t : Fin 2048) (l : Fin 1024) : val_main_v17 (F := Ideal) x nw sh sc (ix2 t l) = normed x nw sh sc t l := by
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, val_main_cst_2]
  rfl

theorem norm_eq : val_main_v25 (F := Ideal) x nw sh sc = fun i => normed x nw sh sc (i 0) (i 1) := by
  funext i
  obtain ⟨t, l, rfl⟩ : ∃ (t : Fin 2048) (l : Fin 1024), i = ix2 t l := ⟨i 0, i 1, eq_ix2 i⟩
  pointwise [val_main_v25]
  exact norm_apply x nw sh sc t l

theorem product_apply (t k : Fin 2048) : val_main_v19 (F := Ideal) x nw sh sc w (ix2 t k) = ∑ j, normed x nw sh sc t j * w (ix2 j k) := by
  pointwise [val_main_v19, val_main_v18]
  simp only [norm_apply]

theorem sections_eq : val_main_v24 (F := Ideal) x nw sh sc w
    = fun i => proj (n := 2) (normed x nw sh sc (i 1)) (fun j k => w (ix2 j k)) (i 0) (i 2) := by
  funext i
  obtain ⟨s, t, k, rfl⟩ : ∃ (s : Fin 2) (t : Fin 2048) (k : Fin 1024), i = ix3 s t k := ⟨i 0, i 1, i 2, eq_ix3 i⟩
  pointwise [val_main_v24, val_main_v23, val_main_v22, val_main_v21, val_main_v20]
  simp only [product_apply]
  match s with
  | 0 => simp [proj]
  | 1 => simp [proj]

end Ref

theorem value : Cert.algebraic_PoolInFwdIdeal_PoolInFwdRefIdeal := fun m g m' g' _ hag => by
  have key : ∀ c, (PoolInFwdIdeal.Gen.dats m 0 c).arrAt 5 PoolInFwdIdeal.cfg0.N = PoolInFwdRefIdeal.Read.val_main_v24 (F := Ideal)
        (m' ((c.tc : Thread _ _).loc PoolInFwdRefIdeal.main_arg0)) (m' ((c.tc : Thread _ _).loc PoolInFwdRefIdeal.main_arg1))
        (m' ((c.tc : Thread _ _).loc PoolInFwdRefIdeal.main_arg2)) (m' ((c.tc : Thread _ _).loc PoolInFwdRefIdeal.main_arg3))
        (m' ((c.tc : Thread _ _).loc PoolInFwdRefIdeal.main_arg4))
      ∧ (PoolInFwdIdeal.Gen.dats m 0 c).arrAt 6 PoolInFwdIdeal.cfg0.N = PoolInFwdRefIdeal.Read.val_main_v25 (F := Ideal)
        (m' ((c.tc : Thread _ _).loc PoolInFwdRefIdeal.main_arg0)) (m' ((c.tc : Thread _ _).loc PoolInFwdRefIdeal.main_arg1))
        (m' ((c.tc : Thread _ _).loc PoolInFwdRefIdeal.main_arg2)) (m' ((c.tc : Thread _ _).loc PoolInFwdRefIdeal.main_arg3)) := by
    intro c
    obtain ⟨e0, e1, e2, e3, e4⟩ := hag c
    rw [e0, e1, e2, e3, e4]
    exact ⟨(sections_final m c).trans (Ref.sections_eq _ _ _ _ _).symm, (norm_final m c).trans (Ref.norm_eq _ _ _ _).symm⟩
  exact ⟨_, _, PoolInFwdIdeal.Value.run_blocks m g, (θ_run _ _ _).mono (fun r h c => by
    obtain ⟨h0, h1, h⟩ := h c
    obtain ⟨k0, k1⟩ := key c
    exact ⟨h0.trans k0.symm, h1.trans k1.symm, h⟩) (PoolInFwdRefIdeal.Value.run m' g')⟩

theorem frame_reference : Cert.quiescent_PoolInFwdRefIdeal := fun m g _ =>
  (θ_run PoolInFwdRefIdeal.defs _ _).mono (fun r h => ⟨fun c => (h c).2.2, sem_eq_zero_of_no_sems rfl r.2⟩)
    (PoolInFwdRefIdeal.Value.run (F := Ideal) m g)

end Cert.PoolFwd

end
-- ==== Proof.HgrnInFwdArray.lean ====
/- The projection into the recurrence: the first point norms the context's block, the others the blocks of 256 rows of the
   input, and every point multiplies its block into the five sections. Here what the kernel leaves in its two arrays. -/
module

public import proofs.«01_k».proof.Proof.Gen.HgrnInFwdIdeal.Value
public import proofs.«01_k».proof.Proof.ModNorm
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.HgrnFwd

open Cert.HgrnInFwdIdeal Cert.HgrnInFwdIdeal.Gen Idealize.ShloMosaic Idealize.ShloMosaic.TcCoe Idealize.SL.Sem Cert.ModNorm

/-! ## One point -/

/-- Whether the point is the first. -/
abbrev first (i : grid0.Coords) : BitVec 1 := Scalar.cmpi .eq (BitVec.ofNat 32 (i 0).val) 0#32

theorem norm_apply (i : grid0.Coords) (x y : Vec Ideal S256x1024 .f32) (nw : Vec Ideal S1x1024 .f32) (sh sc : Vec Ideal S1x1x1024 .f32) (r : Fin 256)
    (l : Fin 1024) : k0_pay6 i x y nw sc sh (ix2 r l)
      = modNorm (fun l => Scalar.select (first i) (x (ix2 r l)) (y (ix2 r l))) (fun l => nw (ix2 0 l)) (fun l => sh (ix3 0 0 l))
        (fun l => sc (ix3 0 0 l)) l := by
  pointwise [k0_pay6]
  rfl

/-! ## The whole arrays -/

variable (m : (ℓ : Loc nD τ sig) → Buf (Elt Ideal) ℓ) (c : Dev nD) (t : Fin cfg0.N)

theorem idx0 : ∀ t : Fin cfg0.N, win0_0.index t = ![0, 0] := (by decide +kernel : ∀ t : Fin grid0.N, _)
theorem idx1 : ∀ t : Fin cfg0.N, win0_1.index t = ![t.val - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![min t.val 1, 0, 0] := (by decide +kernel : ∀ t : Fin grid0.N, _)
theorem idx4 : ∀ t : Fin cfg0.N, win0_4.index t = ![min t.val 1, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![t.val, 0] := (by decide +kernel : ∀ t : Fin grid0.N, _)
theorem first_at : ∀ t : Fin cfg0.N, first (grid0.coords t) = if t.val = 0 then 1#1 else 0#1 := (by decide +kernel : ∀ t : Fin grid0.N, _)

theorem points : t.val < 9 := by have := t.isLt; have : cfg0.N = 9 := N_0; omega

/-- Row `r` of point `t`'s block, among the context's rows and the input's. -/
def row (r : Fin 256) : Fin 2304 := ⟨t.val * 256 + r.val, by have := points t; omega⟩

/-- The normed rows: the context's 256 first, each part with its own shift and scale. -/
def normed (x0 : Vec Ideal S256x1024 .f32) (x : Vec Ideal S2048x1024 .f32) (nw sh0 sc0 sh sc : Vec Ideal S1x1024 .f32) (T : Fin 2304) : Fin 1024 → EReal :=
  if h : T.val < 256 then modNorm (fun l => x0 (ix2 ⟨T.val, h⟩ l)) (fun l => nw (ix2 0 l)) (fun l => sh0 (ix2 0 l)) (fun l => sc0 (ix2 0 l))
  else modNorm (fun l => x (ix2 ⟨T.val - 256, by have := T.isLt; omega⟩ l)) (fun l => nw (ix2 0 l)) (fun l => sh (ix2 0 l)) (fun l => sc (ix2 0 l))

theorem ctx_apply (r : Fin 256) (l : Fin 1024) : iblk m c 0 t (ix2 r l) = m ((c : Thread nD τ).loc main_arg0) (ix2 r l) := by
  blk_simp [iblk, V_main_arg0]
  congr 1
  blk_ext [idx0 t]

theorem x_apply (h : 0 < t.val) (r : Fin 256) (l : Fin 1024) :
    iblk m c 1 t (ix2 r l) = m ((c : Thread nD τ).loc main_arg1) (ix2 ⟨(row t r).val - 256, by have := (row t r).isLt; omega⟩ l) := by
  blk_simp [iblk, V_main_arg1]
  congr 1
  blk_ext [idx1 t, row]

theorem nw_apply (l : Fin 1024) : iblk m c 2 t (ix2 0 l) = m ((c : Thread nD τ).loc main_arg2) (ix2 0 l) := by
  blk_simp [iblk, V_main_arg2]
  congr 1
  blk_ext [idx2 t]

/-- Which of the two shifts and scales a point takes. -/
def part : Fin 2 := ⟨min t.val 1, by omega⟩

theorem which {a : (part t).val < 1 → EReal} {b : ¬ (part t).val < 1 → EReal} {u v : EReal} (ha : ∀ h, a h = u) (hb : ∀ h, b h = v) :
    (if h : (part t).val < 1 then a h else b h) = if t.val = 0 then u else v := by
  have e : (part t).val < 1 ↔ t.val = 0 := by show min t.val 1 < 1 ↔ _; omega
  by_cases h : t.val = 0
  · rw [dif_pos (e.mpr h), if_pos h, ha]
  · rw [dif_neg (mt e.mp h), if_neg h, hb]

theorem shift_apply (l : Fin 1024) : iblk m c 3 t (ix3 0 0 l)
    = if t.val = 0 then m ((c : Thread nD τ).loc main_arg3) (ix2 0 l) else m ((c : Thread nD τ).loc main_arg5) (ix2 0 l) := by
  have e : V m c main_v2 = shapeCast S2x1x1024 (concatenate S2x1024 0 [⟨S1x1024, (m ((c : Thread nD τ).loc main_arg3) : Vec Ideal S1x1024 .f32)⟩,
      ⟨S1x1024, (m ((c : Thread nD τ).loc main_arg5) : Vec Ideal S1x1024 .f32)⟩] concatenates_S1x1024_S1x1024_S2x1024_d0) shapeCasts_S2x1024_S2x1x1024 := by
    unfold V hostOps0
    after_results
    rfl
  blk_simp [iblk, e]
  have e' : (win0_3.blk t).view.emb (ix3 0 0 l) = (ix3 (part t) 0 l : S2x1x1024.Idx) := by blk_ext [idx3 t, part]
  rw [e']
  pointwise []
  exact which t (fun _ => congrArg (fun a : Fin 1 => m ((c : Thread nD τ).loc main_arg3) (ix2 a l)) (Subsingleton.elim _ _))
    (fun _ => congrArg (fun a : Fin 1 => m ((c : Thread nD τ).loc main_arg5) (ix2 a l)) (Subsingleton.elim _ _))

theorem scale_apply (l : Fin 1024) : iblk m c 4 t (ix3 0 0 l)
    = if t.val = 0 then m ((c : Thread nD τ).loc main_arg4) (ix2 0 l) else m ((c : Thread nD τ).loc main_arg6) (ix2 0 l) := by
  have e : V m c main_v3 = shapeCast S2x1x1024 (concatenate S2x1024 0 [⟨S1x1024, (m ((c : Thread nD τ).loc main_arg4) : Vec Ideal S1x1024 .f32)⟩,
      ⟨S1x1024, (m ((c : Thread nD τ).loc main_arg6) : Vec Ideal S1x1024 .f32)⟩] concatenates_S1x1024_S1x1024_S2x1024_d0) shapeCasts_S2x1024_S2x1x1024 := by
    unfold V hostOps0
    after_results
    rfl
  blk_simp [iblk, e]
  have e' : (win0_4.blk t).view.emb (ix3 0 0 l) = (ix3 (part t) 0 l : S2x1x1024.Idx) := by blk_ext [idx4 t, part]
  rw [e']
  pointwise []
  exact which t (fun _ => congrArg (fun a : Fin 1 => m ((c : Thread nD τ).loc main_arg4) (ix2 a l)) (Subsingleton.elim _ _))
    (fun _ => congrArg (fun a : Fin 1 => m ((c : Thread nD τ).loc main_arg6) (ix2 a l)) (Subsingleton.elim _ _))

theorem weight_apply (j : Fin 1024) (k : Fin 5120) : iblk m c 5 t (ix2 j k) = m ((c : Thread nD τ).loc main_arg7) (ix2 j k) := by
  blk_simp [iblk, V_main_arg7]
  congr 1
  blk_ext [idx5 t]

theorem hz2 : (![0, 0] : Fin 2 → Nat) = fun _ => 0 := funext fun a => by fin_cases a <;> rfl
theorem hz3 : (![0, 0, 0] : Fin 3 → Nat) = fun _ => 0 := funext fun a => by fin_cases a <;> rfl

/-- The normed rows of the memory's arguments. -/
abbrev rows (T : Fin 2304) : Fin 1024 → EReal :=
  normed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) T

theorem block_norm (r : Fin 256) (l : Fin 1024) :
    k0_pay6 (grid0.coords t) (iblk m c 0 t) (iblk m c 1 t) (iblk m c 2 t) (iblk m c 4 t) (iblk m c 3 t) (ix2 r l) = rows m c (row t r) l := by
  rw [norm_apply, first_at]
  simp only [nw_apply, shift_apply, scale_apply, ctx_apply]
  unfold rows normed
  by_cases h : t.val = 0
  · have hr : (row t r).val = r.val := by show t.val * 256 + r.val = r.val; omega
    rw [dif_pos (by omega)]
    simp only [if_pos h, hr]
    rfl
  · rw [dif_neg (by show ¬ t.val * 256 + r.val < 256; omega)]
    simp only [if_neg h, x_apply m c t (Nat.pos_of_ne_zero h)]
    rfl

theorem norm_final : (dats m 0 c).arrAt 7 cfg0.N = (fun i => rows m c (i 0) (i 1) : Vec Ideal S2304x1024 .bf16) := by
  refine (dats m 0 c).arrAt_eq_of_covers 7 _ (by decide +kernel) fun t hf y => ?_
  blk_simp
  rw [after0_7]
  obtain ⟨r, l, rfl⟩ : ∃ (r : Fin 256) (l : Fin 1024), y = ix2 r l := ⟨y 0, y 1, eq_ix2 y⟩
  have e : (win0_7.blk t).view.emb (ix2 r l) = (ix2 (row t r) l : S2304x1024.Idx) := by blk_ext [idx7 t, row]
  rw [e]
  unfold out0_7
  simp only [View.canon_unit_zero (S := S256x1024) hz2, View.ld_unit_zero (S := S256x1024) hz2, View.ld_unit_zero (S := S1x1024) hz2,
    View.ld_unit_zero (S := S1x1x1024) hz3]
  refine Eq.trans ?_ (block_norm m c t r l)
  pointwise [k0_pay7]

/-- A section's product over a point's block, at the section's column among the weight's. -/
theorem section_apply (s : Fin 5) (r : Fin 256) (k : Fin 1024) {v : EReal} {q : Fin 5120} (hq : q.val = s.val * 1024 + k.val)
    (hv : v = ∑ j, k0_pay6 (grid0.coords t) (View.ld (iblk m c 0 t) r0_0) (View.ld (iblk m c 1 t) r0_0) (View.ld (iblk m c 2 t) r0_1)
      (View.ld (iblk m c 4 t) r0_2) (View.ld (iblk m c 3 t) r0_2) (ix2 r j) * iblk m c 5 t (ix2 j q)) :
    v = proj (n := 5) (rows m c (row t r)) (fun j k => m ((c : Thread nD τ).loc main_arg7) (ix2 j k)) s k := by
  rw [hv, show q = ⟨s.val * 1024 + k.val, by omega⟩ from Fin.ext hq]
  simp only [View.ld_unit_zero (S := S256x1024) hz2, View.ld_unit_zero (S := S1x1024) hz2, View.ld_unit_zero (S := S1x1x1024) hz3, block_norm,
    weight_apply]
  rfl

theorem sections_final : (dats m 0 c).arrAt 6 cfg0.N
    = (fun i => proj (n := 5) (rows m c (i 1)) (fun j k => m ((c : Thread nD τ).loc main_arg7) (ix2 j k)) (i 0) (i 2) : Vec Ideal S5x2304x1024 .f32) := by
  refine (dats m 0 c).arrAt_eq_of_covers 6 _ (by decide +kernel) fun t hf y => ?_
  blk_simp
  rw [after0_6]
  obtain ⟨s, r, k, rfl⟩ : ∃ (s : Fin 5) (r : Fin 256) (k : Fin 1024), y = ix3 s r k := ⟨y 0, y 1, y 2, eq_ix3 y⟩
  have e : (win0_6.blk t).view.emb (ix3 s r k) = (ix3 s (row t r) k : S5x2304x1024.Idx) := by blk_ext [idx6 t, row]
  rw [e]
  unfold_out out0_6
  canon_tiles x hh
  all_goals
    obtain ⟨r', k', rfl⟩ : ∃ (r' : Fin 256) (k' : Fin 1024), x = ix3 0 r' k' :=
      ⟨x 1, x 2, by rw [eq_ix3 x]; congr 1; exact Subsingleton.elim (α := Fin 1) _ _⟩
    obtain rfl := Fin.ext (show r.val = r'.val from hh1)
    obtain rfl := Fin.ext (show k.val = k'.val from hh2)
  · obtain rfl : s = 4 := Fin.ext hh0
    refine section_apply m c t 4 r k (q := ⟨4096 + k.val, by omega⟩) rfl ?_
    pointwise [k0_pay5]
    rfl
  · obtain rfl : s = 3 := Fin.ext hh0
    refine section_apply m c t 3 r k (q := ⟨3072 + k.val, by omega⟩) rfl ?_
    pointwise [k0_pay4]
    rfl
  · obtain rfl : s = 2 := Fin.ext hh0
    refine section_apply m c t 2 r k (q := ⟨2048 + k.val, by omega⟩) rfl ?_
    pointwise [k0_pay3]
    rfl
  · obtain rfl : s = 1 := Fin.ext hh0
    refine section_apply m c t 1 r k (q := ⟨1024 + k.val, by omega⟩) rfl ?_
    pointwise [k0_pay2]
    rfl
  · obtain rfl : s = 0 := Fin.ext hh0
    refine section_apply m c t 0 r k (q := ⟨k.val, by omega⟩) (by show k.val = 0 * 1024 + k.val; omega) ?_
    pointwise [k0_pay1, k0_pay8]
    rfl

end Cert.HgrnFwd

end
-- ==== Proof.HgrnInFwd.lean ====
/- The projection into the recurrence: the reference's two arrays, and that the kernel leaves the same. -/
module

public import proofs.«01_k».proof.Defs
public import proofs.«01_k».proof.Proof.HgrnInFwdArray
public import proofs.«01_k».proof.Proof.Gen.HgrnInFwdRefIdeal.Read

@[expose] public section

set_option maxRecDepth 16384

noncomputable section

namespace Cert.HgrnFwd

open Idealize.ShloMosaic Idealize.ShloMosaic.TcCoe Idealize.SL.Sem Cert.ModNorm

namespace Ref

open Cert.HgrnInFwdRefIdeal Cert.HgrnInFwdRefIdeal.Gen Cert.HgrnInFwdRefIdeal.Read

variable (x0 : FVec Ideal S256x1024 .f32) (x : FVec Ideal S2048x1024 .f32) (nw sh0 sc0 sh sc : FVec Ideal S1x1024 .f32) (w : FVec Ideal S1024x5120 .bf16)

theorem input_apply (t : Fin 2048) (l : Fin 1024) : val_main_v17 (F := Ideal) x nw sh sc (ix2 t l)
    = modNorm (fun l => x (ix2 t l)) (fun l => nw (ix2 0 l)) (fun l => sh (ix2 0 l)) (fun l => sc (ix2 0 l)) l := by
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0,
    val_main_cst_1, val_main_cst_2]
  rfl

theorem context_apply (t : Fin 256) (l : Fin 1024) : val_main_v35 (F := Ideal) x0 nw sh0 sc0 (ix2 t l)
    = modNorm (fun l => x0 (ix2 t l)) (fun l => nw (ix2 0 l)) (fun l => sh0 (ix2 0 l)) (fun l => sc0 (ix2 0 l)) l := by
  pointwise [val_main_v35, val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_cst_3, val_main_cst_4,
    val_main_cst_5, val_main_cst_6]
  rfl

theorem rows_apply (T : Fin 2304) (l : Fin 1024) :
    val_main_v36 (F := Ideal) x0 x nw sh0 sc0 sh sc (ix2 T l) = normed x0 x nw sh0 sc0 sh sc T l := by
  pointwise [val_main_v36]
  unfold normed
  by_cases h : T.val < 256
  · rw [dif_pos h, dif_pos h]
    exact context_apply x0 nw sh0 sc0 ⟨T.val, h⟩ l
  · rw [dif_neg h, dif_neg h]
    exact input_apply x nw sh sc ⟨T.val - 256, by have := T.isLt; omega⟩ l

theorem norm_eq : val_main_v50 (F := Ideal) x0 x nw sh0 sc0 sh sc = fun i => normed x0 x nw sh0 sc0 sh sc (i 0) (i 1) := by
  funext i
  obtain ⟨t, l, rfl⟩ : ∃ (t : Fin 2304) (l : Fin 1024), i = ix2 t l := ⟨i 0, i 1, eq_ix2 i⟩
  exact rows_apply x0 x nw sh0 sc0 sh sc t l

theorem product_apply (t : Fin 2304) (k : Fin 5120) :
    val_main_v38 (F := Ideal) x0 x nw sh0 sc0 sh sc w (ix2 t k) = ∑ j, normed x0 x nw sh0 sc0 sh sc t j * w (ix2 j k) := by
  pointwise [val_main_v38, val_main_v37]
  simp only [rows_apply]

theorem sections_eq : val_main_v49 (F := Ideal) x0 x nw sh0 sc0 sh sc w
    = fun i => proj (n := 5) (normed x0 x nw sh0 sc0 sh sc (i 1)) (fun j k => w (ix2 j k)) (i 0) (i 2) := by
  funext i
  obtain ⟨s, t, k, rfl⟩ : ∃ (s : Fin 5) (t : Fin 2304) (k : Fin 1024), i = ix3 s t k := ⟨i 0, i 1, i 2, eq_ix3 i⟩
  pointwise [val_main_v49, val_main_v48, val_main_v47, val_main_v46, val_main_v45, val_main_v44, val_main_v43, val_main_v42, val_main_v41, val_main_v40,
    val_main_v39]
  simp only [product_apply]
  match s with
  | 0 => simp [proj]
  | 1 => simp [proj]
  | 2 => simp [proj]
  | 3 => simp [proj]
  | 4 => simp [proj]

end Ref

theorem value : Cert.algebraic_HgrnInFwdIdeal_HgrnInFwdRefIdeal := fun m g m' g' _ hag => by
  have key : ∀ c, (HgrnInFwdIdeal.Gen.dats m 0 c).arrAt 6 HgrnInFwdIdeal.cfg0.N = HgrnInFwdRefIdeal.Value.res_main_v49 m' c
      ∧ (HgrnInFwdIdeal.Gen.dats m 0 c).arrAt 7 HgrnInFwdIdeal.cfg0.N = HgrnInFwdRefIdeal.Read.val_main_v50 (F := Ideal)
        (m' ((c.tc : Thread _ _).loc HgrnInFwdRefIdeal.main_arg0)) (m' ((c.tc : Thread _ _).loc HgrnInFwdRefIdeal.main_arg1))
        (m' ((c.tc : Thread _ _).loc HgrnInFwdRefIdeal.main_arg2)) (m' ((c.tc : Thread _ _).loc HgrnInFwdRefIdeal.main_arg3))
        (m' ((c.tc : Thread _ _).loc HgrnInFwdRefIdeal.main_arg4)) (m' ((c.tc : Thread _ _).loc HgrnInFwdRefIdeal.main_arg5)) (m' ((c.tc : Thread _ _).loc HgrnInFwdRefIdeal.main_arg6)) := by
    intro c
    rw [HgrnInFwdRefIdeal.Read.val_main_v49_eq]
    obtain ⟨e0, e1, e2, e3, e4, e5, e6, e7⟩ := hag c
    rw [e0, e1, e2, e3, e4, e5, e6, e7]
    exact ⟨(sections_final m c).trans (Ref.sections_eq _ _ _ _ _ _ _ _).symm, (norm_final m c).trans (Ref.norm_eq _ _ _ _ _ _ _).symm⟩
  exact ⟨_, _, HgrnInFwdIdeal.Value.run_blocks m g, (θ_run _ _ _).mono (fun r h c => by
    obtain ⟨h0, h1, h⟩ := h c
    obtain ⟨k0, k1⟩ := key c
    exact ⟨h0.trans k0.symm, h1.trans k1.symm, h⟩) (HgrnInFwdRefIdeal.Value.run m' g')⟩

theorem frame_reference : Cert.quiescent_HgrnInFwdRefIdeal := fun m g _ =>
  (θ_run HgrnInFwdRefIdeal.defs _ _).mono (fun r h => ⟨fun c => (h c).2.2, sem_eq_zero_of_no_sems rfl r.2⟩)
    (HgrnInFwdRefIdeal.Value.run (F := Ideal) m g)

end Cert.HgrnFwd

end
-- ==== Proof.PoolMath.lean ====
/- The pooling mixer over the real numbers. Rows are numbered by naturals, 64 of them to a row of the latent grid; the 1024
   lanes are four groups of 256, group `g` pooled over the window of `2 ^ g` places on either side. -/
module

public import proofs.«01_k».proof.Proof.Norm
public import proofs.«01_k».proof.Proof.Silu
public import Idealize.ShloMosaic.Lib.Pointwise.Sums

@[expose] public section

noncomputable section

namespace Cert.Pool

open Cert.Reals Cert.Norm Cert.Silu

/-- Place `s` lies in group `g`'s window around place `t`. -/
def Near (g t s : ℕ) : Prop := t ≤ s + 2 ^ g ∧ s < t + 2 ^ g

instance (g t s : ℕ) : Decidable (Near g t s) := inferInstanceAs (Decidable (_ ∧ _))

/-- The number of places of a grid row in the window around `t`. -/
def len (g t : ℕ) : ℕ := min (t + 2 ^ g) 64 - (t - 2 ^ g)

theorem len_pos {g t : ℕ} (ht : t < 64) : 0 < len g t := by
  have : 0 < 2 ^ g := Nat.two_pow_pos g
  unfold len
  omega

/-- A lane's group and its place in the group. -/
def lane (g : Fin 4) (k : Fin 256) : Fin 1024 := ⟨g.val * 256 + k.val, by omega⟩
def grp (l : Fin 1024) : Fin 4 := ⟨l.val / 256, by omega⟩
def place (l : Fin 1024) : Fin 256 := ⟨l.val % 256, by omega⟩

theorem grp_lane (g : Fin 4) (k : Fin 256) : grp (lane g k) = g := Fin.ext (by unfold grp lane; dsimp only; omega)
theorem place_lane (g : Fin 4) (k : Fin 256) : place (lane g k) = k := Fin.ext (by unfold place lane; dsimp only; omega)
theorem lane_grp_place (l : Fin 1024) : lane (grp l) (place l) = l := Fin.ext (by unfold grp lane place; dsimp only; omega)

/-- The sum of a grid row's entries in the window around row `r`, and the mean. -/
def winSum (g : ℕ) (v : ℕ → ℝ) (r : ℕ) : ℝ := ∑ s : Fin 64, if Near g (r % 64) s.val then v (r / 64 * 64 + s.val) else 0
def mean (g : ℕ) (v : ℕ → ℝ) (r : ℕ) : ℝ := winSum g v r / (len g (r % 64) : ℕ)

/-- A window of four grid rows at once, as the kernels write it: 1 on the places of the same grid row in the window. -/
def mask (g R S : ℕ) : ℝ := if R / 64 = S / 64 ∧ Near g (R % 64) (S % 64) then 1 else 0

theorem sum_mask (q g : ℕ) (v : ℕ → ℝ) {R : ℕ} (hR : R < 256) :
    ∑ S : Fin 256, mask g R S.val * v (q * 64 + S.val) = winSum g v (q * 64 + R) := by
  have hR4 : R / 64 < 4 := by omega
  rw [Idealize.ShloMosaic.Fin.sum_univ_tiles 4 64 rfl, Finset.sum_eq_single (⟨R / 64, hR4⟩ : Fin 4)]
  · unfold winSum
    refine Finset.sum_congr rfl fun s _ => ?_
    have hs := s.isLt
    unfold mask
    dsimp only
    have e1 : (R / 64 * 64 + s.val) / 64 = R / 64 := by omega
    have e2 : (R / 64 * 64 + s.val) % 64 = s.val := by omega
    have e3 : (q * 64 + R) % 64 = R % 64 := by omega
    have e4 : (q * 64 + R) / 64 * 64 + s.val = q * 64 + (R / 64 * 64 + s.val) := by omega
    rw [e1, e2, e3, e4]
    by_cases h : Near g (R % 64) s.val
    · rw [if_pos ⟨rfl, h⟩, if_pos h, one_mul]
    · rw [if_neg fun q => h q.2, if_neg h, zero_mul]
  · intro a _ ha
    refine Finset.sum_eq_zero fun s _ => ?_
    have hs := s.isLt
    have : ¬ R / 64 = (a.val * 64 + s.val) / 64 := fun h => ha (Fin.ext (by dsimp only; omega))
    unfold mask
    rw [if_neg fun q => this q.1, zero_mul]
  · exact fun h => absurd (Finset.mem_univ _) h

variable (U Z X T : ℕ → Fin 1024 → ℝ) (Ga Ps Fw : Fin 1024 → ℝ) (Wg : Fin 4 → Fin 256 → Fin 256 → ℝ) (W : Fin 1024 → Fin 1024 → ℝ)

/-- The pooled lanes: the window's mean less the entry itself. -/
def pooled (r : ℕ) (l : Fin 1024) : ℝ := mean (grp l).val (fun s => U s l) r - U r l
/-- Each group through its own matrix, then scaled and gated: what the projection is applied to. -/
def mixed (r : ℕ) (l : Fin 1024) : ℝ := ∑ k, pooled U r (lane (grp l) k) * Wg (grp l) k (place l)
def act (r : ℕ) (l : Fin 1024) : ℝ := mixed U Wg r l * Ps l * silu (Z r l)
def res (r : ℕ) (j : Fin 1024) : ℝ := ∑ l, act U Z Ps Wg r l * W l j
/-- The residual stream behind the mixer. -/
def out (r : ℕ) (j : Fin 1024) : ℝ := X r j + Ga j * res U Z Ps Wg W r j
/-- The error of the normalised stream against the target. -/
def err (r : ℕ) (j : Fin 1024) : ℝ := out U Z X Ga Ps Wg W r j * rms (out U Z X Ga Ps Wg W r) * Fw j - T r j

def dErr (r : ℕ) (j : Fin 1024) : ℝ := err U Z X T Ga Ps Fw Wg W r j * (1 / 1024)
/-- The gradient of the stream. -/
def dOut (r : ℕ) (j : Fin 1024) : ℝ := grad (out U Z X Ga Ps Wg W r) (fun k => dErr U Z X T Ga Ps Fw Wg W r k * Fw k) j
/-- What a row adds to the loss, to the gradient of the norm's weight and to that of the mixer's gate. -/
def lossRow (r : ℕ) : ℝ := 1 / 2 * ((∑ j, err U Z X T Ga Ps Fw Wg W r j * err U Z X T Ga Ps Fw Wg W r j) / (1024 : ℕ))
def dFwRow (r : ℕ) (j : Fin 1024) : ℝ := dErr U Z X T Ga Ps Fw Wg W r j * (out U Z X Ga Ps Wg W r j * rms (out U Z X Ga Ps Wg W r))
def dGaRow (r : ℕ) (j : Fin 1024) : ℝ := dOut U Z X T Ga Ps Fw Wg W r j * res U Z Ps Wg W r j

end Cert.Pool

end
-- ==== Proof.PoolRows.lean ====
/- The 2048 rows of an array, read by a natural number (zero past the end). -/
module

public import proofs.«01_k».proof.Proof.PoolMath

@[expose] public section

noncomputable section

namespace Cert.Pool

def rows (A : Fin 2048 → Fin 1024 → ℝ) (r : ℕ) (l : Fin 1024) : ℝ := if h : r < 2048 then A ⟨r, h⟩ l else 0

theorem rows_val (A : Fin 2048 → Fin 1024 → ℝ) (r : Fin 2048) (l : Fin 1024) : rows A r.val l = A r l := dif_pos r.isLt

end Cert.Pool

end
-- ==== Proof.PoolMask.lean ====
/- The pooling windows as the host builds them from counters: their entries are the window of four grid rows, its
   transpose, and the inverse of the window's length. -/
module

public import proofs.«01_k».proof.Proof.PoolMath
public import proofs.«01_k».proof.LossIdeal
public import Idealize.ShloMosaic.Lib.Pointwise
public import Idealize.ShloMosaic.Lib.ValueIdx

@[expose] public section

set_option maxRecDepth 16384

noncomputable section

namespace Cert.Pool

open Cert.LossIdeal Cert.Reals Idealize.ShloMosaic Facts₀

variable [Facts₀]

/-! ## The terms -/

def half : IVec S4x64x64 32 := Host.shli (broadcastInDim S4x64x64 ![] bcast_S_S4x64x64 (constantI S_ 32 1#32)) (iotaInDim S4x64x64 32 0)
def near : IVec S4x64x64 1 :=
  andi (cmpi .sge (iotaInDim S4x64x64 32 2) (subi (iotaInDim S4x64x64 32 1) half)) (cmpi .slt (iotaInDim S4x64x64 32 2) (addi (iotaInDim S4x64x64 32 1) half))
def same : IVec S4x4 1 := cmpi .eq (iotaInDim S4x4 32 0) (iotaInDim S4x4 32 1)
def window : FVec Ideal S4x256x256 .f32 := shapeCast S4x256x256
  (mulf (broadcastInDim S4x4x64x4x64 ![0, 1, 2, 3, 4] bcast_S1x4x1x4x1_S4x4x64x4x64_0_1_2_3_4
      (broadcastInDim S1x4x1x4x1 ![1, 3] bcast_S4x4_S1x4x1x4x1_1_3 (uitofp .f32 same : FVec Ideal S4x4 .f32)))
    (broadcastInDim S4x4x64x4x64 ![0, 1, 2, 3, 4] bcast_S4x1x64x1x64_S4x4x64x4x64_0_1_2_3_4
      (broadcastInDim S4x1x64x1x64 ![0, 2, 4] bcast_S4x64x64_S4x1x64x1x64_0_2_4 (uitofp .f32 near : FVec Ideal S4x64x64 .f32))))
  shapeCasts_S4x4x64x4x64_S4x256x256

/-- The inverse lengths, column by column. -/
def length : IVec S4x64x64 32 :=
  subi (minsi (addi (iotaInDim S4x64x64 32 1) half) (broadcastInDim S4x64x64 ![] bcast_S_S4x64x64 (constantI S_ 32 64#32)))
    (maxsi (subi (iotaInDim S4x64x64 32 1) half) (broadcastInDim S4x64x64 ![] bcast_S_S4x64x64 (constantI S_ 32 0#32)))
def invLen : FVec Ideal S4x256x1 .f32 := shapeCast S4x256x1
  (broadcastInDim S4x4x64x1 ![0, 1, 2, 3] bcast_S4x1x64x1_S4x4x64x1_0_1_2_3
    (Host.divf (broadcastInDim S4x1x64x1 ![] bcast_S_S4x1x64x1 (constant S_ .f32 0x3F800000#32))
      (sitofp .f32 (broadcastInDim S4x1x64x1 ![0, 2, 3] bcast_S4x64x1_S4x1x64x1_0_2_3
        (extractStridedSlice S4x64x1 ![0, 0, 0] length slices_S4x64x64_S4x64x1_0_0_0)) : FVec Ideal S4x1x64x1 .f32)))
  shapeCasts_S4x4x64x1_S4x256x1

/-! ## Their entries -/

theorem near_apply (g : Fin 4) (t s : Fin 64) : near (ix3 g t s) = if Near g.val t.val s.val then 1#1 else 0#1 := by
  revert g t s
  pointwise [near, half]
  decide +kernel

theorem same_apply (a b : Fin 4) : same (ix2 a b) = if a = b then 1#1 else 0#1 := by
  revert a b
  pointwise [same]
  decide +kernel

theorem length_apply (g : Fin 4) (t s : Fin 64) : (length (ix3 g t s)).toInt = len g.val t.val := by
  revert g t s
  pointwise [length, half]
  decide +kernel

omit [Facts₀] in
theorem uitofp_ite (p : Prop) [Decidable p] :
    (FloatOps.uitofp (F := Ideal) .f32 (if p then 1#1 else 0#1) : EReal) = ((if p then 1 else 0 : ℝ) : EReal) := by
  split
  · exact congrArg (fun a : ℝ => (a : EReal)) (by norm_num : (((1#1).toNat : ℝ)) = 1)
  · exact congrArg (fun a : ℝ => (a : EReal)) (by norm_num : (((0#1).toNat : ℝ)) = 0)

omit [Facts₀] in
theorem sitofp_of (x : BitVec 32) (n : ℕ) (h : x.toInt = n) : (FloatOps.sitofp (F := Ideal) .f32 x : EReal) = ((n : ℝ) : EReal) :=
  congrArg (fun a : ℝ => (a : EReal)) (by rw [h]; norm_num : ((x.toInt : ℝ)) = n)

theorem window_apply (g : Fin 4) (R S : Fin 256) : (window (ix3 g R S) : EReal) = ((mask g.val R.val S.val : ℝ) : EReal) := by
  pointwise [window]
  rw [near_apply, same_apply, uitofp_ite, uitofp_ite, ← EReal.coe_mul]
  refine congrArg (fun a : ℝ => (a : EReal)) ?_
  unfold mask
  simp only [Fin.mk.injEq]
  by_cases h : R.val / 64 = S.val / 64 <;> by_cases h' : Near g.val (R.val % 64) (S.val % 64) <;> simp [h, h']

theorem invLen_apply (g : Fin 4) (R : Fin 256) : (invLen (ix3 g R 0) : EReal) = ((1 / (len g.val (R.val % 64) : ℕ) : ℝ) : EReal) := by
  have hl : 0 < len g.val (R.val % 64) := len_pos (by omega)
  pointwise [invLen]
  refine (congrArg (Ideal.div 1) (sitofp_of _ _ (length_apply g ⟨R.val % 64, by omega⟩ 0))).trans ?_
  rw [← EReal.coe_one, div_coe _ _ (by exact_mod_cast hl.ne')]

end Cert.Pool

end
-- ==== Proof.LossBlock.lean ====
/- One grid point of the kernel that runs the pooling mixer, the loss and the first gradients, read at an index: over blocks
   of 512 rows of real numbers, the block it leaves and what it adds to the three sums it carries. -/
module

public import proofs.«01_k».proof.Proof.Gen.LossIdeal.Value
public import proofs.«01_k».proof.Proof.PoolMask
public import Idealize.ShloMosaic.Lib.Pipeline.ReadBack
public import Idealize.ShloMosaic.Lib.Pipeline.ValueKit

@[expose] public section

set_option maxRecDepth 16384

noncomputable section

namespace Cert.LossStage

open Cert.LossIdeal Cert.LossIdeal.Gen Idealize.ShloMosaic Idealize.ShloMosaic.TcCoe Idealize.SL.Sem
open Cert.Reals Cert.Norm Cert.Silu Cert.Pool

/-! ## The pooled pieces

Each group's 256 lanes are pooled in two pieces of 256 rows; the eight pieces are one computation written eight times. -/

theorem piece7 (u : Vec Ideal S1x256x256 .f32) (w : Vec Ideal S1x256x256 .bf16) (v : Vec Ideal S1x256x1 .f32) :
    k0_pay7 (k0_pay5 u) (k0_pay6 u w) v = k0_pay4 u w v := rfl
theorem piece10 (u : Vec Ideal S1x256x256 .f32) (w : Vec Ideal S1x256x256 .bf16) (v : Vec Ideal S1x256x1 .f32) :
    k0_pay10 (k0_pay9 u w v) = k0_pay4 u w v := rfl
theorem piece11 (u : Vec Ideal S1x256x256 .f32) (w : Vec Ideal S1x256x256 .bf16) (v : Vec Ideal S1x256x1 .f32) :
    k0_pay11 u w v = k0_pay4 u w v := rfl
theorem piece14 (u : Vec Ideal S1x256x256 .f32) (w : Vec Ideal S1x256x256 .bf16) (v : Vec Ideal S1x256x1 .f32) :
    k0_pay14 (k0_pay13 u) w v = k0_pay4 u w v := rfl
theorem piece15 (u : Vec Ideal S1x256x256 .f32) (w : Vec Ideal S1x256x256 .bf16) (v : Vec Ideal S1x256x1 .f32) :
    k0_pay15 u w v = k0_pay4 u w v := rfl
theorem piece17 (u : Vec Ideal S1x256x256 .f32) (w : Vec Ideal S1x256x256 .bf16) (v : Vec Ideal S1x256x1 .f32) :
    k0_pay17 u w v = k0_pay4 u w v := rfl
theorem piece21 (u : Vec Ideal S1x256x256 .f32) (w : Vec Ideal S1x256x256 .bf16) (v : Vec Ideal S1x256x1 .f32) :
    k0_pay21 (k0_pay18 u) (k0_pay19 w) (k0_pay20 u) v = k0_pay4 u w v := rfl
theorem prod12 (u : Vec Ideal S512x256 .f32) (w : Vec Ideal S1x256x256 .bf16) : k0_pay12 u w = k0_pay8 u w := rfl
theorem prod16 (u : Vec Ideal S512x256 .f32) (w : Vec Ideal S1x256x256 .bf16) : k0_pay16 u w = k0_pay8 u w := rfl
theorem prod22 (u : Vec Ideal S512x256 .f32) (w : Vec Ideal S1x256x256 .bf16) : k0_pay22 u w = k0_pay8 u w := rfl

section
variable {U : ℕ → Fin 1024 → ℝ} {q : ℕ} {g : Fin 4} {Wg : Fin 4 → Fin 256 → Fin 256 → ℝ}

/-- One piece: 256 rows of a group's lanes, pooled. -/
theorem piece_coe {u : Vec Ideal S1x256x256 .f32} {w : Vec Ideal S1x256x256 .bf16} {v : Vec Ideal S1x256x1 .f32}
    (hu : ∀ S k, u (ix3 0 S k) = (U (q * 64 + S.val) (lane g k) : EReal)) (hw : ∀ R S, w (ix3 0 R S) = (mask g.val R.val S.val : EReal))
    (hv : ∀ R, v (ix3 0 R 0) = ((1 / (len g.val (R.val % 64) : ℕ) : ℝ) : EReal)) (R k : Fin 256) :
    k0_pay4 u w v (ix2 R k) = (pooled U (q * 64 + R.val) (lane g k) : EReal) := by
  pointwise [k0_pay4]
  simp only [hu, hw, hv, ← EReal.coe_mul, coe_sum, ← EReal.coe_sub, ← EReal.coe_add]
  refine congrArg (fun a : ℝ => (a : EReal)) ?_
  unfold pooled mean
  rw [grp_lane, sum_mask q g.val (fun s => U s (lane g k)) R.isLt]
  have e : (q * 64 + R.val) % 64 = R.val % 64 := by omega
  simp only [sub_self, mul_zero, Finset.sum_const_zero, add_zero]
  rw [e]
  ring

/-- One group's product with its own matrix. -/
theorem prod_coe {p : Vec Ideal S512x256 .f32} {w : Vec Ideal S1x256x256 .bf16}
    (hp : ∀ r k, p (ix2 r k) = (pooled U (q * 64 + r.val) (lane g k) : EReal)) (hw : ∀ i k, w (ix3 0 i k) = (Wg g i k : EReal))
    (r : Fin 512) (k : Fin 256) : k0_pay8 p w (ix2 r k) = (mixed U Wg (q * 64 + r.val) (lane g k) : EReal) := by
  pointwise [k0_pay8]
  simp only [hp, hw, ← EReal.coe_mul, coe_sum]
  refine congrArg (fun a : ℝ => (a : EReal)) ?_
  unfold mixed
  rw [grp_lane, place_lane]

end

/-! ## The two scratch arrays, read back -/

section
variable (u : Vec Ideal S1x512x1024 .f32) (w : Vec Ideal S4x256x256 .bf16) (v : Vec Ideal S4x256x1 .f32) (wg : Vec Ideal S4x256x256 .bf16)

theorem inb_piece (g : Fin 4) (h : Fin 2) : ∀ a, ![h.val * 256, g.val * 256] a + ![256, 256] a ≤ S512x1024.size a :=
  fun a => by fin_cases a <;> dsimp <;> omega
theorem inb_group (g : Fin 4) : ∀ a, ![0, g.val * 256] a + ![512, 256] a ≤ S512x1024.size a := fun a => by fin_cases a <;> dsimp <;> omega

theorem idx_group (g : Fin 4) (r : Fin 512) (k : Fin 256) :
    (Rect.unit (s := S512x1024) ![0, g.val * 256] ![512, 256] (inb_group g)).idx (ix2 r k) = ix2 r (lane g k) := by
  funext a
  refine Fin.ext ((Rect.idx_unit_val ..).trans ?_)
  fin_cases a
  · exact Nat.zero_add _
  · rfl

/-- Half `h` of group `g`'s lanes, stored. -/
def piece (g : Fin 4) (h : Fin 2) : View.Piece (Elt Ideal) S512x1024 .f32 :=
  ⟨Rect.unit ![h.val * 256, g.val * 256] ![256, 256] (inb_piece g h),
    k0_pay4 (View.ld (Val := Elt Ideal) (e' := .f32) u (Rect.unit (s := S1x512x1024) ![0, h.val * 256, g.val * 256] ![1, 256, 256] (fun a => by fin_cases a <;> dsimp <;> omega)))
      (View.ld (Val := Elt Ideal) (e' := .bf16) w (Rect.unit (s := S4x256x256) ![g.val, 0, 0] ![1, 256, 256] (fun a => by fin_cases a <;> dsimp <;> omega)))
      (View.ld (Val := Elt Ideal) (e' := .f32) v (Rect.unit (s := S4x256x1) ![g.val, 0, 0] ![1, 256, 1] (fun a => by fin_cases a <;> dsimp <;> omega)))⟩

/-- The pieces stored when group `g`'s lanes are read. -/
def stored : Fin 4 → List (View.Piece (Elt Ideal) S512x1024 .f32)
  | 0 => [piece u w v 0 1, piece u w v 0 0]
  | 1 => [piece u w v 1 1, piece u w v 1 0, piece u w v 0 1, piece u w v 0 0]
  | 2 => [piece u w v 2 1, piece u w v 2 0, piece u w v 1 1, piece u w v 1 0, piece u w v 0 1, piece u w v 0 0]
  | 3 => [piece u w v 3 1, piece u w v 3 0, piece u w v 2 1, piece u w v 2 0, piece u w v 1 1, piece u w v 1 0, piece u w v 0 1, piece u w v 0 0]

theorem stored_piece (g : Fin 4) : ∀ p ∈ stored u w v g, ∃ g h, p = piece u w v g h := by
  fin_cases g <;> simp only [stored, List.forall_mem_cons, List.not_mem_nil, false_imp_iff, implies_true, and_true]
  all_goals
    repeat' apply And.intro
    all_goals exact ⟨_, _, rfl⟩

theorem piece_stored (g : Fin 4) (h : Fin 2) : piece u w v g h ∈ stored u w v g := by
  fin_cases g <;> fin_cases h <;> simp [stored]

/-- Group `g`'s pooled lanes, read back. -/
def group (g : Fin 4) : Vec Ideal S512x256 .f32 := (View.whole cc0_scratch1).readCov (Val := Elt Ideal) (e := .f32) (stored u w v g)
  (Rect.unit (s := S512x1024) ![0, g.val * 256] ![512, 256] (inb_group g)).toLoadRect

variable {u w v wg} {U : ℕ → Fin 1024 → ℝ} {q : ℕ} {Wg : Fin 4 → Fin 256 → Fin 256 → ℝ}
  (hu : ∀ r l, u (ix3 0 r l) = (U (q * 64 + r.val) l : EReal)) (hw : ∀ g R S, w (ix3 g R S) = (mask g.val R.val S.val : EReal))
  (hv : ∀ g R, v (ix3 g R 0) = ((1 / (len g.val (R.val % 64) : ℕ) : ℝ) : EReal)) (hg : ∀ g i k, wg (ix3 g i k) = (Wg g i k : EReal))

include hu hw hv in
/-- Any pieces of this kind, group `g`'s two among them, leave group `g`'s pooled lanes. -/
theorem canon_group {L : List (View.Piece (Elt Ideal) S512x1024 .f32)} (hL : ∀ p ∈ L, ∃ g h, p = piece u w v g h) (g : Fin 4)
    (hg : ∀ h, piece u w v g h ∈ L) (r : Fin 512) (k : Fin 256) :
    View.canon L (ix2 r (lane g k)) = (pooled U (q * 64 + r.val) (lane g k) : EReal) := by
  refine View.canon_eq_of_allAt _ _ _ ⟨piece u w v g ⟨r.val / 256, by omega⟩, hg _, ?_⟩ ?_
  · refine (Rect.mem_set_unit (inb := inb_piece g ⟨r.val / 256, by omega⟩)).mpr fun a => ?_
    fin_cases a <;> dsimp <;> (try unfold lane) <;> (try dsimp) <;> omega
  · intro p hp x hx
    obtain ⟨g', h', rfl⟩ := hL p hp
    obtain ⟨R, S, rfl⟩ : ∃ (R S : Fin 256), x = ix2 R S := ⟨x 0, x 1, eq_ix2 x⟩
    replace hx : (Rect.unit (s := S512x1024) ![h'.val * 256, g'.val * 256] ![256, 256] (inb_piece g' h')).idx (ix2 R S) = ix2 r (lane g k) := hx
    have e0 := Rect.idx_unit_val (s := S512x1024) ![h'.val * 256, g'.val * 256] ![256, 256] (inb_piece g' h') (ix2 R S) 0
    have e1 := Rect.idx_unit_val (s := S512x1024) ![h'.val * 256, g'.val * 256] ![256, 256] (inb_piece g' h') (ix2 R S) 1
    rw [hx] at e0 e1
    have h0 : h'.val * 256 + R.val = r.val := e0.symm
    have h1 : lane g' S = lane g k := Fin.ext e1.symm
    rw [← h1, ← h0, show q * 64 + (h'.val * 256 + R.val) = (q + h'.val * 4) * 64 + R.val by omega]
    refine piece_coe (fun S k => ?_) (fun R S => ?_) (fun R => ?_) R S
    · refine (View.ld_unit_apply_of u _ _ _ _ (ix3 0 ⟨h'.val * 256 + S.val, by omega⟩ (lane g' k)) fun a => ?_).trans ((hu _ _).trans ?_)
      · fin_cases a <;> rfl
      · rw [show q * 64 + (h'.val * 256 + S.val) = (q + h'.val * 4) * 64 + S.val by omega]
    · refine (View.ld_unit_apply_of w _ _ _ _ (ix3 g' R S) fun a => ?_).trans (hw _ _ _)
      fin_cases a
      · rfl
      · exact (Nat.zero_add _).symm
      · exact (Nat.zero_add _).symm
    · refine (View.ld_unit_apply_of v _ _ _ _ (ix3 g' R 0) fun a => ?_).trans (hv _ _)
      fin_cases a
      · rfl
      · exact (Nat.zero_add _).symm
      · rfl

include hu hw hv in
theorem group_coe (g : Fin 4) (r : Fin 512) (k : Fin 256) : group u w v g (ix2 r k) = (pooled U (q * 64 + r.val) (lane g k) : EReal) := by
  unfold group
  rw [View.readCov_eq_canon']
  dsimp only
  rw [idx_group]
  exact canon_group hu hw hv (stored_piece u w v g) g (piece_stored u w v g) r k

variable (u w v wg)
/-- Group `g`'s product, stored. -/
def prod (g : Fin 4) : View.Piece (Elt Ideal) S512x1024 .f32 :=
  ⟨Rect.unit ![0, g.val * 256] ![512, 256] (inb_group g),
    k0_pay8 (group u w v g) (View.ld (Val := Elt Ideal) (e' := .bf16) wg (Rect.unit (s := S4x256x256) ![g.val, 0, 0] ![1, 256, 256] (fun a => by fin_cases a <;> dsimp <;> omega)))⟩

/-- The mixed lanes, read back whole. -/
def mix : Vec Ideal S512x1024 .f32 := (View.whole cc0_scratch0).readCov (Val := Elt Ideal) (e := .f32)
  [prod u w v wg 3, prod u w v wg 2, prod u w v wg 1, prod u w v wg 0]
  (Rect.unit (s := S512x1024) ![0, 0] ![512, 1024] inb_S512x1024_S512x1024_0_0).toLoadRect

variable {u w v wg}
include hu hw hv hg in
theorem mix_coe (r : Fin 512) (l : Fin 1024) : mix u w v wg (ix2 r l) = (mixed U Wg (q * 64 + r.val) l : EReal) := by
  unfold mix
  rw [View.readCov_eq_canon']
  dsimp only
  have e : (Rect.unit (s := S512x1024) ![0, 0] ![512, 1024] inb_S512x1024_S512x1024_0_0).idx (ix2 r l) = ix2 r l := by
    funext a
    refine Fin.ext ((Rect.idx_unit_val ..).trans ?_)
    fin_cases a <;> exact Nat.zero_add _
  rw [e]
  refine View.canon_eq_of_allAt _ _ _ ⟨prod u w v wg (grp l), ?_, ?_⟩ ?_
  · generalize grp l = g
    fin_cases g <;> simp
  · refine (Rect.mem_set_unit (inb := inb_group (grp l))).mpr fun a => ?_
    fin_cases a <;> dsimp <;> (try unfold grp) <;> (try dsimp) <;> omega
  · intro p hp x hx
    obtain ⟨g', rfl⟩ : ∃ g', p = prod u w v wg g' := by
      simp only [List.mem_cons, List.not_mem_nil, or_false] at hp
      rcases hp with h | h | h | h <;> exact ⟨_, h⟩
    obtain ⟨R, S, rfl⟩ : ∃ (R : Fin 512) (S : Fin 256), x = ix2 R S := ⟨x 0, x 1, eq_ix2 x⟩
    replace hx : (Rect.unit (s := S512x1024) ![0, g'.val * 256] ![512, 256] (inb_group g')).idx (ix2 R S) = ix2 r l := hx
    have e0 := Rect.idx_unit_val (s := S512x1024) ![0, g'.val * 256] ![512, 256] (inb_group g') (ix2 R S) 0
    have e1 := Rect.idx_unit_val (s := S512x1024) ![0, g'.val * 256] ![512, 256] (inb_group g') (ix2 R S) 1
    rw [hx] at e0 e1
    have h0 : R = r := Fin.ext ((Nat.zero_add _).symm.trans e0.symm)
    have h1 : lane g' S = l := Fin.ext e1.symm
    rw [← h1, ← h0]
    refine prod_coe (group_coe hu hw hv g') (fun i k => ?_) R S
    refine (View.ld_unit_apply_of wg _ _ _ _ (ix3 g' i k) fun a => ?_).trans (hg _ _ _)
    fin_cases a
    · rfl
    · exact (Nat.zero_add _).symm
    · exact (Nat.zero_add _).symm

end

/-! ## The payloads behind the mixer, over blocks of real numbers -/

theorem ofBits_inv1024 : Ideal.ofBits .f32 0x3A800000#32 = ((1 / 1024 : ℝ) : EReal) := by
  simp [Ideal.ofBits, Ideal.ieee, -EReal.coe_mul]; norm_num

section
variable {M x tg : Vec Ideal S512x1024 .f32} {z : Vec Ideal S1x512x1024 .f32} {ga ps fw : Vec Ideal S1x1024 .f32} {w : Vec Ideal S1024x1024 .bf16}
variable {U Z X T : ℕ → Fin 1024 → ℝ} {Ga Ps Fw : Fin 1024 → ℝ} {Wg : Fin 4 → Fin 256 → Fin 256 → ℝ} {W : Fin 1024 → Fin 1024 → ℝ} {b : ℕ}
variable (hM : ∀ r l, M (ix2 r l) = (mixed U Wg (b + r.val) l : EReal)) (hz : ∀ r l, z (ix3 0 r l) = (Z (b + r.val) l : EReal))
  (hx : ∀ r l, x (ix2 r l) = (X (b + r.val) l : EReal)) (ht : ∀ r l, tg (ix2 r l) = (T (b + r.val) l : EReal))
  (hga : ∀ l, ga (ix2 0 l) = (Ga l : EReal)) (hps : ∀ l, ps (ix2 0 l) = (Ps l : EReal)) (hfw : ∀ l, fw (ix2 0 l) = (Fw l : EReal))
  (hw : ∀ i k, w (ix2 i k) = (W i k : EReal))

/-- The mixer's result of a block, and the stream behind it. -/
abbrev resB (M : Vec Ideal S512x1024 .f32) (z : Vec Ideal S1x512x1024 .f32) (ps : Vec Ideal S1x1024 .f32) (w : Vec Ideal S1024x1024 .bf16) :=
  k0_pay26 (k0_pay23 M ps) (k0_pay24 z) (k0_pay25 z) (Ideal.ofBits .f32 0x3F000000#32) w
abbrev outB (M : Vec Ideal S512x1024 .f32) (z : Vec Ideal S1x512x1024 .f32) (ps : Vec Ideal S1x1024 .f32) (w : Vec Ideal S1024x1024 .bf16)
    (x : Vec Ideal S512x1024 .f32) (ga : Vec Ideal S1x1024 .f32) :=
  k0_pay27 (k0_pay23 M ps) (k0_pay24 z) (k0_pay25 z) (Ideal.ofBits .f32 0x3F000000#32) w x ga
abbrev rmsB (M : Vec Ideal S512x1024 .f32) (z : Vec Ideal S1x512x1024 .f32) (ps : Vec Ideal S1x1024 .f32) (w : Vec Ideal S1024x1024 .bf16)
    (x : Vec Ideal S512x1024 .f32) (ga : Vec Ideal S1x1024 .f32) :=
  k0_pay28 (k0_pay23 M ps) (k0_pay24 z) (k0_pay25 z) (Ideal.ofBits .f32 0x3F000000#32) w x ga
abbrev nrmB (M : Vec Ideal S512x1024 .f32) (z : Vec Ideal S1x512x1024 .f32) (ps : Vec Ideal S1x1024 .f32) (w : Vec Ideal S1024x1024 .bf16)
    (x : Vec Ideal S512x1024 .f32) (ga : Vec Ideal S1x1024 .f32) :=
  k0_pay29 (k0_pay23 M ps) (k0_pay24 z) (k0_pay25 z) (Ideal.ofBits .f32 0x3F000000#32) w x ga
abbrev errB (M : Vec Ideal S512x1024 .f32) (z : Vec Ideal S1x512x1024 .f32) (ps : Vec Ideal S1x1024 .f32) (w : Vec Ideal S1024x1024 .bf16)
    (x : Vec Ideal S512x1024 .f32) (ga fw : Vec Ideal S1x1024 .f32) (tg : Vec Ideal S512x1024 .f32) :=
  k0_pay30 (k0_pay23 M ps) (k0_pay24 z) (k0_pay25 z) (Ideal.ofBits .f32 0x3F000000#32) w x ga fw tg

include hM hz hps hw in
theorem res_coe (r : Fin 512) (j : Fin 1024) : resB M z ps w (ix2 r j) = (res U Z Ps Wg W (b + r.val) j : EReal) := by
  pointwise [resB, k0_pay26, k0_pay25, k0_pay24, k0_pay23]
  simp only [hM, hz, hps, hw, ofBits_half, sig_tanh]
  simp only [← EReal.coe_mul, coe_sum]
  rfl

include hM hz hps hw hx hga in
theorem out_coe (r : Fin 512) (j : Fin 1024) : outB M z ps w x ga (ix2 r j) = (out U Z X Ga Ps Wg W (b + r.val) j : EReal) := by
  pointwise [outB, k0_pay27]
  rw [show k0_pay26 (F := Ideal) _ _ _ _ _ (ix2 r j) = _ from res_coe hM hz hps hw r j, hx, hga, ← EReal.coe_mul, ← EReal.coe_add]
  rfl

include hM hz hps hw hx hga in
theorem rms_coe (r : Fin 512) : rmsB M z ps w x ga (ix2 r 0) = (rms (out U Z X Ga Ps Wg W (b + r.val)) : EReal) := by
  have ho := out_coe hM hz hx hga hps hw
  unfold outB at ho
  unfold rmsB
  generalize hO : k0_pay27 (F := Ideal) _ _ _ _ _ _ _ = O at ho
  pointwise [k0_pay28]
  rw [hO, ofBits_1024, ofBits_eps]
  simp only [ho, meanSq_coe, rsqrt_meanSq]

include hM hz hps hw hx hga in
theorem nrm_coe (r : Fin 512) (j : Fin 1024) : nrmB M z ps w x ga (ix2 r j)
    = (out U Z X Ga Ps Wg W (b + r.val) j * rms (out U Z X Ga Ps Wg W (b + r.val)) : ℝ) := by
  pointwise [nrmB, k0_pay29]
  rw [show k0_pay27 (F := Ideal) _ _ _ _ _ _ _ (ix2 r j) = _ from out_coe hM hz hx hga hps hw r j,
    show k0_pay28 (F := Ideal) _ _ _ _ _ _ _ (ix2 r 0) = _ from rms_coe hM hz hx hga hps hw r, ← EReal.coe_mul]

include hM hz hps hw hx hga hfw ht in
theorem err_coe (r : Fin 512) (j : Fin 1024) : errB M z ps w x ga fw tg (ix2 r j) = (err U Z X T Ga Ps Fw Wg W (b + r.val) j : EReal) := by
  pointwise [errB, k0_pay30]
  rw [show k0_pay29 (F := Ideal) _ _ _ _ _ _ _ (ix2 r j) = _ from nrm_coe hM hz hx hga hps hw r j, hfw, ht, ← EReal.coe_mul, ← EReal.coe_sub]
  rfl

end

/-! ## The four results, over any block with these errors -/

section
theorem lossB_coe {M x tg : Vec Ideal S512x1024 .f32} {z : Vec Ideal S1x512x1024 .f32} {ga ps fw : Vec Ideal S1x1024 .f32} {w : Vec Ideal S1024x1024 .bf16}
    {E : Fin 512 → Fin 1024 → ℝ} (he : ∀ r l, errB M z ps w x ga fw tg (ix2 r l) = (E r l : EReal)) (p : Vec Ideal S8x128 .f32) (a : Fin 8) (b : Fin 128) :
    k0_pay33 (k0_pay31 p) (k0_pay32 (k0_pay23 M ps) (k0_pay24 z) (k0_pay25 z) (Ideal.ofBits .f32 0x3F000000#32) w x ga fw tg) (ix2 a b)
      = p (ix2 a b) + ((∑ r, 1 / 2 * ((∑ l, E r l * E r l) / (1024 : ℕ)) : ℝ) : EReal) := by
  unfold errB at he
  pointwise [k0_pay33, k0_pay32, k0_pay31]
  simp only [he]
  rw [ofBits_1024, ofBits_half]
  simp only [Finset.univ_unique, Finset.sum_singleton]
  simp only [← EReal.coe_mul, coe_sum, div_coe _ _ (by norm_num : ((1024 : ℕ) : ℝ) ≠ 0)]
  refine congrArg (fun a : ℝ => p (ix2 _ _) + (a : EReal)) ?_
  rw [Finset.mul_sum]

variable {n e rs : Vec Ideal S512x1024 .f32} {ri : Vec Ideal S512x1 .f32} {fw : Vec Ideal S1x1024 .f32}
variable {O E Rs : Fin 512 → Fin 1024 → ℝ} {Fw : Fin 1024 → ℝ}
variable (hn : ∀ r l, n (ix2 r l) = (O r l * rms (O r) : ℝ)) (hri : ∀ r, ri (ix2 r 0) = (rms (O r) : EReal))
  (he : ∀ r l, e (ix2 r l) = (E r l : EReal)) (hr : ∀ r l, rs (ix2 r l) = (Rs r l : EReal)) (hfw : ∀ l, fw (ix2 0 l) = (Fw l : EReal))

include hn hri he hfw in
theorem dx_coe (r : Fin 512) (j : Fin 1024) :
    k0_pay37 ri n fw e (ix2 r j) = (grad (O r) (fun k => E r k * (1 / 1024) * Fw k) j : EReal) := by
  pointwise [k0_pay37, k0_pay36, k0_pay34]
  rw [ofBits_1024, ofBits_inv1024]
  simp only [hn, hri, he, hfw, ← EReal.coe_mul, coe_sum, div_coe _ _ (by norm_num : ((1024 : ℕ) : ℝ) ≠ 0), ← EReal.coe_sub]
  rfl

include hn hri he hfw hr in
theorem dga_coe (p : Vec Ideal S1x1024 .f32) (j : Fin 1024) : k0_pay38 rs ri n fw e p (ix2 0 j)
    = p (ix2 0 j) + ((∑ r, grad (O r) (fun k => E r k * (1 / 1024) * Fw k) j * Rs r j : ℝ) : EReal) := by
  have hd := dx_coe hn hri he hfw
  pointwise [k0_pay38]
  simp only [show ∀ r : Fin 512, k0_pay36 ri n fw e (ix2 r j) = _ from fun r => (show k0_pay36 ri n fw e (ix2 r j) = k0_pay37 ri n fw e (ix2 r j) by pointwise [k0_pay37]).trans (hd r j), hr, ← EReal.coe_mul, coe_sum]

include hn he in
theorem dfw_coe (p : Vec Ideal S1x1024 .f32) (j : Fin 1024) : k0_pay35 n e p (ix2 0 j)
    = p (ix2 0 j) + ((∑ r, E r j * (1 / 1024) * (O r j * rms (O r)) : ℝ) : EReal) := by
  pointwise [k0_pay35, k0_pay34]
  simp only [hn, he, ofBits_inv1024, ← EReal.coe_mul, coe_sum]

end

/-! ## What a point leaves -/

section
variable (m : (ℓ : Loc nD τ sig) → Buf (Elt Ideal) ℓ) (c : Dev nD) (t : Fin cfg0.N)
variable (U Z X T : ℕ → Fin 1024 → ℝ) (Ga Ps Fw : Fin 1024 → ℝ) (Wg : Fin 4 → Fin 256 → Fin 256 → ℝ) (W : Fin 1024 → Fin 1024 → ℝ)

/-- The point's blocks are these real ones; a point holds eight grid rows. -/
structure Reads : Prop where
  hu : ∀ r l, (iblk m c 0 t : Vec Ideal S1x512x1024 .f32) (ix3 0 r l) = (U (t.val * 8 * 64 + r.val) l : EReal)
  hz : ∀ r l, (iblk m c 1 t : Vec Ideal S1x512x1024 .f32) (ix3 0 r l) = (Z (t.val * 8 * 64 + r.val) l : EReal)
  hx : ∀ r l, (iblk m c 2 t : Vec Ideal S512x1024 .f32) (ix2 r l) = (X (t.val * 8 * 64 + r.val) l : EReal)
  ht : ∀ r l, (iblk m c 3 t : Vec Ideal S512x1024 .f32) (ix2 r l) = (T (t.val * 8 * 64 + r.val) l : EReal)
  hga : ∀ l, (iblk m c 4 t : Vec Ideal S1x1024 .f32) (ix2 0 l) = (Ga l : EReal)
  hwg : ∀ g i k, (iblk m c 5 t : Vec Ideal S4x256x256 .bf16) (ix3 g i k) = (Wg g i k : EReal)
  hps : ∀ l, (iblk m c 6 t : Vec Ideal S1x1024 .f32) (ix2 0 l) = (Ps l : EReal)
  hw : ∀ i k, (iblk m c 7 t : Vec Ideal S1024x1024 .bf16) (ix2 i k) = (W i k : EReal)
  hfw : ∀ l, (iblk m c 8 t : Vec Ideal S1x1024 .f32) (ix2 0 l) = (Fw l : EReal)
  hwin : ∀ g R S, (iblk m c 9 t : Vec Ideal S4x256x256 .bf16) (ix3 g R S) = (mask g.val R.val S.val : EReal)
  hinv : ∀ g R, (iblk m c 10 t : Vec Ideal S4x256x1 .f32) (ix3 g R 0) = ((1 / (len g.val (R.val % 64) : ℕ) : ℝ) : EReal)

variable {m c t U Z X T Ga Ps Fw Wg W}

/-- The sums the points carry, before a point adds to them. -/
abbrev prev := outsAt0 m c (t.val - 1) (Nat.lt_of_le_of_lt (Nat.sub_le _ _) t.isLt)

theorem dx_out (H : Reads m c t U Z X T Ga Ps Fw Wg W) (r : Fin 512) (j : Fin 1024) :
    (outsAt0 m c t.val t.isLt).1 (ix2 r j) = (dOut U Z X T Ga Ps Fw Wg W (t.val * 8 * 64 + r.val) j : EReal) := by
  have hM := mix_coe H.hu H.hwin H.hinv H.hwg
  obtain h0 | h0 : t.val % 4 = 0 ∨ ¬ t.val % 4 = 0 := by omega
  on_goal 1 => rw [outsAt0_A m c t h0]
  on_goal 2 => rw [outsAt0_B m c t h0]
  all_goals
    frame_out
    exact dx_coe (O := fun r => out U Z X Ga Ps Wg W (t.val * 8 * 64 + r.val)) (E := fun r => err U Z X T Ga Ps Fw Wg W (t.val * 8 * 64 + r.val))
      (nrm_coe hM H.hz H.hx H.hga H.hps H.hw) (rms_coe hM H.hz H.hx H.hga H.hps H.hw)
      (err_coe hM H.hz H.hx H.ht H.hga H.hps H.hfw H.hw) H.hfw r j

theorem loss_out (H : Reads m c t U Z X T Ga Ps Fw Wg W) (a : Fin 8) (b : Fin 128) :
    (outsAt0 m c t.val t.isLt).2.1 (ix2 a b) = (if t.val % 4 = 0 then 0 else (prev (m := m) (c := c) (t := t)).2.1 (ix2 a b))
      + ((∑ r : Fin 512, lossRow U Z X T Ga Ps Fw Wg W (t.val * 8 * 64 + r.val) : ℝ) : EReal) := by
  have hM := mix_coe H.hu H.hwin H.hinv H.hwg
  obtain h0 | h0 : t.val % 4 = 0 ∨ ¬ t.val % 4 = 0 := by omega
  on_goal 1 => rw [outsAt0_A m c t h0]
  on_goal 2 => rw [outsAt0_B m c t h0]
  all_goals
    frame_out
    try simp (disch := decide) only [↓ View.readCov_cons_toLoadRect, read_unread_whole]
    refine (lossB_coe (E := fun r => err U Z X T Ga Ps Fw Wg W (t.val * 8 * 64 + r.val)) (err_coe hM H.hz H.hx H.ht H.hga H.hps H.hfw H.hw) _ a b).trans ?_
    congr 1
    first
    | rw [if_neg (by omega)]
    | rw [if_pos h0]
      pointwise [k0_pay1]

theorem dfw_out (H : Reads m c t U Z X T Ga Ps Fw Wg W) (j : Fin 1024) :
    (outsAt0 m c t.val t.isLt).2.2.1 (ix2 0 j) = (if t.val % 4 = 0 then 0 else (prev (m := m) (c := c) (t := t)).2.2.1 (ix2 0 j))
      + ((∑ r : Fin 512, dFwRow U Z X T Ga Ps Fw Wg W (t.val * 8 * 64 + r.val) j : ℝ) : EReal) := by
  have hM := mix_coe H.hu H.hwin H.hinv H.hwg
  obtain h0 | h0 : t.val % 4 = 0 ∨ ¬ t.val % 4 = 0 := by omega
  on_goal 1 => rw [outsAt0_A m c t h0]
  on_goal 2 => rw [outsAt0_B m c t h0]
  all_goals
    frame_out
    try simp (disch := decide) only [↓ View.readCov_cons_toLoadRect, read_unread_whole]
    refine (dfw_coe (O := fun r => out U Z X Ga Ps Wg W (t.val * 8 * 64 + r.val)) (E := fun r => err U Z X T Ga Ps Fw Wg W (t.val * 8 * 64 + r.val))
      (nrm_coe hM H.hz H.hx H.hga H.hps H.hw) (err_coe hM H.hz H.hx H.ht H.hga H.hps H.hfw H.hw) _ j).trans ?_
    congr 1
    first
    | rw [if_neg (by omega)]
    | rw [if_pos h0]
      pointwise [k0_pay2]

theorem dga_out (H : Reads m c t U Z X T Ga Ps Fw Wg W) (j : Fin 1024) :
    (outsAt0 m c t.val t.isLt).2.2.2 (ix2 0 j) = (if t.val % 4 = 0 then 0 else (prev (m := m) (c := c) (t := t)).2.2.2 (ix2 0 j))
      + ((∑ r : Fin 512, dGaRow U Z X T Ga Ps Fw Wg W (t.val * 8 * 64 + r.val) j : ℝ) : EReal) := by
  have hM := mix_coe H.hu H.hwin H.hinv H.hwg
  obtain h0 | h0 : t.val % 4 = 0 ∨ ¬ t.val % 4 = 0 := by omega
  on_goal 1 => rw [outsAt0_A m c t h0]
  on_goal 2 => rw [outsAt0_B m c t h0]
  all_goals
    frame_out
    try simp (disch := decide) only [↓ View.readCov_cons_toLoadRect, read_unread_whole]
    refine (dga_coe (O := fun r => out U Z X Ga Ps Wg W (t.val * 8 * 64 + r.val)) (E := fun r => err U Z X T Ga Ps Fw Wg W (t.val * 8 * 64 + r.val))
      (nrm_coe hM H.hz H.hx H.hga H.hps H.hw) (rms_coe hM H.hz H.hx H.hga H.hps H.hw)
      (err_coe hM H.hz H.hx H.ht H.hga H.hps H.hfw H.hw) (res_coe hM H.hz H.hps H.hw) H.hfw _ j).trans ?_
    congr 1
    first
    | rw [if_neg (by omega)]
    | rw [if_pos h0]
      pointwise [k0_pay3]

end

end Cert.LossStage

end
-- ==== Proof.LossArray.lean ====
/- The mixer-and-loss kernel over its whole arrays: where each block sits, the sums over the four points, and the four
   result arrays as functions of real arrays. -/
module

public import proofs.«01_k».proof.Proof.LossBlock

@[expose] public section

set_option maxRecDepth 16384

noncomputable section

namespace Cert.LossStage

open Cert.LossIdeal Cert.LossIdeal.Gen Idealize.ShloMosaic Idealize.ShloMosaic.TcCoe Idealize.SL.Sem
open Cert.Reals Cert.Norm Cert.Silu Cert.Pool

variable (m : (ℓ : Loc nD τ sig) → Buf (Elt Ideal) ℓ) (c : Dev nD) (t : Fin cfg0.N)

theorem idx0 : ∀ t : Fin cfg0.N, win0_0.index t = ![0, t.val, 0] := (by decide +kernel : ∀ t : Fin grid0.N, _)
theorem idx1 : ∀ t : Fin cfg0.N, win0_1.index t = ![1, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)

/-- Row `r` of point `t`'s block. -/
def row (r : Fin 512) : Fin 2048 := ⟨t.val * 512 + r.val, by have := t.isLt; have : cfg0.N = 4 := N_0; omega⟩

theorem rows_total : cfg0.N * 512 = 2048 := by rw [show cfg0.N = 4 from N_0]
theorem last (h : t.val % 4 = 3) : t.val + 1 = cfg0.N := by have := t.isLt; have : cfg0.N = 4 := N_0; omega
theorem row_eq (r : ℕ) : t.val * 8 * 64 + r = t.val * 512 + r := by omega

/-- The windows and the inverse lengths, as the host's own operations leave them. -/
theorem win_V : V m c main_v35 = (truncf .bf16 (window : FVec Ideal S4x256x256 .f32) bitsLt_bf16_f32 : FVec Ideal S4x256x256 .bf16) := by
  unfold V hostOps0
  after_results
  rfl

theorem inv_V : V m c main_v34 = invLen := by
  unfold V hostOps0
  after_results
  rfl

section
variable {m} {c}
variable {U Z X T : ℕ → Fin 1024 → ℝ} {Ga Ps Fw : Fin 1024 → ℝ} {Wg : Fin 4 → Fin 256 → Fin 256 → ℝ} {W : Fin 1024 → Fin 1024 → ℝ}
variable (hu : ∀ (r : Fin 2048) l, m ((c : Thread nD τ).loc main_arg0) (ix3 0 r l) = (U r.val l : EReal))
  (hz : ∀ (r : Fin 2048) l, m ((c : Thread nD τ).loc main_arg0) (ix3 1 r l) = (Z r.val l : EReal))
  (hx : ∀ (r : Fin 2048) l, m ((c : Thread nD τ).loc main_arg1) (ix2 r l) = (X r.val l : EReal))
  (ht : ∀ (r : Fin 2048) l, m ((c : Thread nD τ).loc main_arg2) (ix2 r l) = (T r.val l : EReal))
  (hga : ∀ l, m ((c : Thread nD τ).loc main_arg3) (ix2 0 l) = (Ga l : EReal))
  (hwg : ∀ g i k, m ((c : Thread nD τ).loc main_arg4) (ix3 g i k) = (Wg g i k : EReal))
  (hps : ∀ l, m ((c : Thread nD τ).loc main_arg5) (ix2 0 l) = (Ps l : EReal))
  (hw : ∀ i k, m ((c : Thread nD τ).loc main_arg6) (ix2 i k) = (W i k : EReal))
  (hfw : ∀ l, m ((c : Thread nD τ).loc main_arg7) (ix2 0 l) = (Fw l : EReal))

include hu hz hx ht hga hwg hps hw hfw

set_option maxHeartbeats 2000000 in
theorem reads : Reads m c t U Z X T Ga Ps Fw Wg W where
  hu r l := by
    blk_simp [iblk, V_main_arg0]
    rw [row_eq, show t.val * 512 + r.val = (row t r).val from rfl, ← hu]
    congr 1
    blk_ext [idx0 t, row]
  hz r l := by
    blk_simp [iblk, V_main_arg0]
    rw [row_eq, show t.val * 512 + r.val = (row t r).val from rfl, ← hz]
    congr 1
    blk_ext [idx1 t, row]
  hx r l := by
    blk_simp [iblk, V_main_arg1]
    rw [row_eq, show t.val * 512 + r.val = (row t r).val from rfl, ← hx]
    congr 1
    blk_ext [idx2 t, row]
  ht r l := by
    blk_simp [iblk, V_main_arg2]
    rw [row_eq, show t.val * 512 + r.val = (row t r).val from rfl, ← ht]
    congr 1
    blk_ext [idx3 t, row]
  hga l := by
    blk_simp [iblk, V_main_arg3]
    rw [← hga]
    congr 1
    blk_ext [idx4 t]
  hwg g i k := by
    blk_simp [iblk, V_main_arg4]
    rw [← hwg]
    congr 1
    blk_ext [idx5 t]
  hps l := by
    blk_simp [iblk, V_main_arg5]
    rw [← hps]
    congr 1
    blk_ext [idx6 t]
  hw i k := by
    blk_simp [iblk, V_main_arg6]
    rw [← hw]
    congr 1
    blk_ext [idx7 t]
  hfw l := by
    blk_simp [iblk, V_main_arg7]
    rw [← hfw]
    congr 1
    blk_ext [idx8 t]
  hwin g R S := by
    blk_simp [iblk, win_V]
    rw [← window_apply]
    refine congrArg (window : FVec Ideal S4x256x256 .f32) ?_
    blk_ext [idx9 t]
  hinv g R := by
    blk_simp [iblk, inv_V]
    rw [← invLen_apply]
    refine congrArg (invLen : FVec Ideal S4x256x1 .f32) ?_
    blk_ext [idx10 t]

set_option maxHeartbeats 2000000 in
/-- The stream's gradient. -/
theorem dx_final : (dats m 0 c).arrAt 11 cfg0.N = (fun i => (dOut U Z X T Ga Ps Fw Wg W (i 0).val (i 1) : EReal) : Vec Ideal S2048x1024 .f32) := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, eq_ix2 y⟩
  have e : (win0_11.blk t).view.emb (ix2 r j) = (ix2 (row t r) j : S2048x1024.Idx) := by blk_ext [idx11 t, row]
  rw [e]
  have h := dx_out (reads t hu hz hx ht hga hwg hps hw hfw) r j
  rw [row_eq, show t.val * 512 + r.val = win0_11.index t 0 * 512 + r.val by rw [idx11 t]; rfl] at h
  generalize dOut U Z X T Ga Ps Fw Wg W = G at h ⊢
  exact h

set_option maxHeartbeats 2000000 in
/-- The loss, in every entry of its block. -/
theorem loss_final : (dats m 0 c).arrAt 12 cfg0.N = (fun i => ((∑ r : Fin 2048, lossRow U Z X T Ga Ps Fw Wg W r.val : ℝ) : EReal) : Vec Ideal S8x128 .f32) := by
  refine (dats m 0 c).arrAt_eq_of_covers 12 _ (by decide +kernel) fun t hf y => ?_
  blk_simp
  rw [after0_12]
  obtain ⟨a, b, rfl⟩ : ∃ (a : Fin 8) (b : Fin 128), y = ix2 a b := ⟨y 0, y 1, eq_ix2 y⟩
  exact acc_total 4 (fun n h => (outsAt0 m c n h).2.1 (ix2 a b)) (fun r => lossRow U Z X T Ga Ps Fw Wg W r.val) rows_total
    (fun t => by simpa only [row_eq] using loss_out (reads t hu hz hx ht hga hwg hps hw hfw) a b) (le_of_eq N_0) t (last t ((flush0_12 t).mp hf))

set_option maxHeartbeats 2000000 in
/-- The norm's weight's gradient. -/
theorem dfw_final : (dats m 0 c).arrAt 13 cfg0.N = (fun i => ((∑ r : Fin 2048, dFwRow U Z X T Ga Ps Fw Wg W r.val (i 1) : ℝ) : EReal) : Vec Ideal S1x1024 .f32) := by
  refine (dats m 0 c).arrAt_eq_of_covers 13 _ (by decide +kernel) fun t hf y => ?_
  blk_simp
  rw [after0_13]
  obtain ⟨k, rfl⟩ : ∃ (k : Fin 1024), y = ix2 0 k := ⟨y 1, by rw [eq_ix2 y]; congr 1; exact Subsingleton.elim (α := Fin 1) _ _⟩
  have e : (win0_13.blk t).view.emb (ix2 0 k) = (ix2 0 k : S1x1024.Idx) := by blk_ext [idx13 t]
  rw [e]
  exact acc_total 4 (fun n h => (outsAt0 m c n h).2.2.1 (ix2 0 k)) (fun r => dFwRow U Z X T Ga Ps Fw Wg W r.val k) rows_total
    (fun t => by simpa only [row_eq] using dfw_out (reads t hu hz hx ht hga hwg hps hw hfw) k) (le_of_eq N_0) t (last t ((flush0_13 t).mp hf))

set_option maxHeartbeats 2000000 in
/-- The mixer's gate's gradient. -/
theorem dga_final : (dats m 0 c).arrAt 14 cfg0.N = (fun i => ((∑ r : Fin 2048, dGaRow U Z X T Ga Ps Fw Wg W r.val (i 1) : ℝ) : EReal) : Vec Ideal S1x1024 .f32) := by
  refine (dats m 0 c).arrAt_eq_of_covers 14 _ (by decide +kernel) fun t hf y => ?_
  blk_simp
  rw [after0_14]
  obtain ⟨k, rfl⟩ : ∃ (k : Fin 1024), y = ix2 0 k := ⟨y 1, by rw [eq_ix2 y]; congr 1; exact Subsingleton.elim (α := Fin 1) _ _⟩
  have e : (win0_14.blk t).view.emb (ix2 0 k) = (ix2 0 k : S1x1024.Idx) := by blk_ext [idx14 t]
  rw [e]
  exact acc_total 4 (fun n h => (outsAt0 m c n h).2.2.2 (ix2 0 k)) (fun r => dGaRow U Z X T Ga Ps Fw Wg W r.val k) rows_total
    (fun t => by simpa only [row_eq] using dga_out (reads t hu hz hx ht hga hwg hps hw hfw) k) (le_of_eq N_0) t (last t ((flush0_14 t).mp hf))

end

end Cert.LossStage

end
-- ==== Proof.PoolTake.lean ====
/- The reference's pooling of one group: running sums along a grid row, two of them taken at the window's ends, their
   difference over the window's length. It is the window's mean. -/
module

public import proofs.«01_k».proof.Proof.PoolMask
public import proofs.«01_k».proof.LossRefIdeal

@[expose] public section

set_option maxRecDepth 16384

noncomputable section

namespace Cert.Pool

open Cert.LossRefIdeal Cert.Reals Idealize.ShloMosaic Facts₀

variable [Facts₀]

/-! ## Running sums -/

theorem foldl_add {ι : Type} (g : ι → EReal) : ∀ (L : List ι) (v : EReal), L.foldl (fun r n => r + g n) v = v + (L.map g).sum
  | [], v => by simp
  | n :: L, v => by rw [List.foldl_cons, foldl_add g L, List.map_cons, List.sum_cons, add_assoc]

theorem sum_shift (f : ℕ → ℝ) (q : ℕ) (hq : q < 64) :
    (∑ n : Fin 64, if 63 ≤ q + n.val then f (q + n.val - 63) else 0) = ∑ i ∈ Finset.range (q + 1), f i := by
  rw [Fin.sum_univ_eq_sum_range (fun n => if 63 ≤ q + n then f (q + n - 63) else 0) 64, ← Finset.sum_filter]
  refine Finset.sum_nbij' (fun n => q + n - 63) (fun i => i + 63 - q) ?_ ?_ ?_ ?_ ?_
  all_goals intro n hn; simp only [Finset.mem_filter, Finset.mem_range] at hn ⊢; try omega

/-- The running sums along the middle axis. -/
def running (x : FVec Ideal S32x64x256 .f32) : FVec Ideal S32x64x256 .f32 :=
  Host.reduceWindowAdd ![1, 64, 1] ![1, 1, 1] ![0, 63, 0] ![0, 0, 0] x (broadcastInDim S_ ![] bcast_S_S_ (constant S_ .f32 0x00000000#32))
    reduceWindows_S32x64x256_S32x64x256_w1s1p0_0_w64s1p63_0_w1s1p0_0 h_S_

/-- What position `p` of entry `j`'s window adds. -/
def slot (x : FVec Ideal S32x64x256 .f32) (j : S32x64x256.Idx) (p : (⟨3, ![1, 64, 1]⟩ : Shape).Idx) : EReal :=
  if hin : ∀ a : Fin 3, (![0, 63, 0] : Fin 3 → ℕ) a ≤ (j a).val * (![1, 1, 1] : Fin 3 → ℕ) a + (p a).val
    ∧ (j a).val * (![1, 1, 1] : Fin 3 → ℕ) a + (p a).val - (![0, 63, 0] : Fin 3 → ℕ) a < S32x64x256.size a
  then x (fun a => ⟨_, (hin a).2⟩) else 0

theorem window_sum (x : FVec Ideal S32x64x256 .f32) (j : S32x64x256.Idx) :
    Ideal.hostReduceWindowAdd ![1, 64, 1] ![1, 1, 1] ![0, 63, 0] ![0, 0, 0] reduceWindows_S32x64x256_S32x64x256_w1s1p0_0_w64s1p63_0_w1s1p0_0 x 0 j
      = ∑ p, slot x j p := by
  unfold Ideal.hostReduceWindowAdd Host.reduceWindow
  dsimp only
  refine (congrArg (fun f => List.foldl f (0 : EReal) _) (funext fun r => funext fun n => ?_
    : _ = fun (r : EReal) n => r + slot x j ((⟨3, ![1, 64, 1]⟩ : Shape).rowMajor.symm n))).trans ?_
  · refine congrArg (r + ·) ?_
    unfold slot
    split
    · next h =>
      split
      · rfl
      · next h' => exact absurd h h'
    · next h =>
      split
      · next h' => exact absurd h' h
      · rfl
  rw [foldl_add, zero_add, ← List.ofFn_eq_map, List.sum_ofFn]
  exact Equiv.sum_comp (⟨3, ![1, 64, 1]⟩ : Shape).rowMajor.symm (slot x j)

theorem running_apply (x : FVec Ideal S32x64x256 .f32) (f : Fin 32 → ℕ → Fin 256 → ℝ)
    (hx : ∀ b (s : Fin 64) k, x (ix3 b s k) = (f b s.val k : EReal)) (b : Fin 32) (q : Fin 64) (k : Fin 256) :
    running x (ix3 b q k) = ((∑ i ∈ Finset.range (q.val + 1), f b i k : ℝ) : EReal) := by
  have hq := q.isLt
  have z : (broadcastInDim S_ ![] bcast_S_S_ (constant (F := Ideal) S_ .f32 0x00000000#32)) (Shape.Idx.first h_S_) = (0 : EReal) := by
    refine (congrArg (broadcastInDim S_ ![] bcast_S_S_ (constant (F := Ideal) S_ .f32 0x00000000#32)) (funext fun a => a.elim0 : _ = ix0)).trans ?_
    pointwise []
  have e : running x (ix3 b q k) = Ideal.hostReduceWindowAdd ![1, 64, 1] ![1, 1, 1] ![0, 63, 0] ![0, 0, 0]
      reduceWindows_S32x64x256_S32x64x256_w1s1p0_0_w64s1p63_0_w1s1p0_0 x ((broadcastInDim S_ ![] bcast_S_S_ (constant (F := Ideal) S_ .f32 0x00000000#32)) (Shape.Idx.first h_S_)) (ix3 b q k) := rfl
  rw [e, z, window_sum, sum_idx3]
  simp only [Finset.univ_unique, Finset.sum_singleton]
  rw [← sum_shift (fun i => f b i k) q.val hq, ← coe_sum]
  refine Finset.sum_congr rfl fun n _ => ?_
  have hn := n.isLt
  by_cases h : 63 ≤ q.val + n.val
  · unfold slot
    rw [if_pos h, dif_pos (by
      intro a
      match a with
      | ⟨0, _⟩ => show 0 ≤ b.val * 1 + 0 ∧ b.val * 1 + 0 - 0 < 32; omega
      | ⟨1, _⟩ => show 63 ≤ q.val * 1 + n.val ∧ q.val * 1 + n.val - 63 < 64; omega
      | ⟨2, _⟩ => show 0 ≤ k.val * 1 + 0 ∧ k.val * 1 + 0 - 0 < 256; omega)]
    refine Eq.trans (congrArg x (funext fun a => Fin.ext ?_)) (hx b ⟨q.val + n.val - 63, by omega⟩ k)
    match a with
    | ⟨0, _⟩ => show b.val * 1 + 0 - 0 = b.val; omega
    | ⟨1, _⟩ => show q.val * 1 + n.val - 63 = q.val + n.val - 63; omega
    | ⟨2, _⟩ => show k.val * 1 + 0 - 0 = k.val; omega
  · unfold slot
    rw [if_neg h, dif_neg fun hin => h (by have h1 : 63 ≤ q.val * 1 + n.val := (hin 1).1; omega)]
    rfl

/-- The running sums behind a first row of zeros. -/
def table (x : FVec Ideal S32x64x256 .f32) : FVec Ideal S32x65x256 .f32 :=
  concatenate S32x65x256 1 [⟨S32x1x256, broadcastInDim S32x1x256 ![] bcast_S_S32x1x256 (constant (F := Ideal) S_ .f32 0x00000000#32)⟩, ⟨S32x64x256, running x⟩]
    concatenates_S32x1x256_S32x64x256_S32x65x256_d1

theorem table_apply (x : FVec Ideal S32x64x256 .f32) (f : Fin 32 → ℕ → Fin 256 → ℝ)
    (hx : ∀ b (s : Fin 64) k, x (ix3 b s k) = (f b s.val k : EReal)) (b : Fin 32) (q : Fin 65) (k : Fin 256) :
    table x (ix3 b q k) = ((∑ i ∈ Finset.range q.val, f b i k : ℝ) : EReal) := by
  have hq := q.isLt
  pointwise [table]
  by_cases h : q.val < 1
  · have : q.val = 0 := by omega
    simp [this]
  · simp only [dif_neg h]
    refine (running_apply x f hx b ⟨q.val - 1, by omega⟩ k).trans ?_
    rw [show q.val - 1 + 1 = q.val by omega]

/-! ## Taking rows -/

theorem foldl_ones {ι : Type} (g : ι → BitVec 1) (hg : ∀ i, g i = 1#1) : ∀ L : List ι, L.foldl (fun r i => IntOp.andi r (g i)) 1#1 = 1#1
  | [] => rfl
  | i :: L => by
    rw [List.foldl_cons, hg i]
    exact foldl_ones g hg L

def column (idx : IVec S64 32) : IVec S64x1 32 := broadcastInDim S64x1 ![0] bcast_S64_S64x1_0
  (select (cmpi .slt idx (broadcastInDim S64 ![] bcast_S_S64 (constantI S_ 32 0#32))) (addi idx (broadcastInDim S64 ![] bcast_S_S64 (constantI S_ 32 65#32))) idx)
def inside (idx : IVec S64 32) : IVec S64x1 1 := andi
  (cmpi .sge (column idx) (broadcastInDim S64x1 ![] bcast_S_S64x1 (constantI S_ 32 0#32)))
  (cmpi .sle (column idx) (broadcastInDim S64x1 ![0, 1] bcast_S1x1_S64x1_0_1 (broadcastInDim S1x1 ![1] bcast_S1_S1x1_1 (constantI S1 32 64#32))))
/-- The rows of `x` that `idx` names. -/
def take (x : FVec Ideal S32x65x256 .f32) (idx : IVec S64 32) : FVec Ideal S32x64x256 .f32 :=
  select (broadcastInDim S32x64x256 ![1] bcast_S64_S32x64x256_1 (Host.reduce IntOp.andi (inside idx) (constantI S_ 1 1#1) reducesTo_S64x1_S64_d1 h_S_))
    (Host.gather gather_S32x65x256_S64x1_S32x64x256_02_1_n_n_1_1_321256 x (column idx))
    (broadcastInDim S32x64x256 ![] bcast_S_S32x64x256 (constant S_ .f32 0x7FC00000#32))

section
variable {idx : IVec S64 32} {n : Fin 64 → Fin 65} (hi : ∀ q, idx (ix1 q) = BitVec.ofNat 32 (n q).val)
include hi

theorem column_apply (q : Fin 64) : column idx (ix2 q 0) = BitVec.ofNat 32 (n q).val := by
  pointwise [column]
  rw [hi]
  generalize n q = k
  revert k
  decide +kernel

theorem inside_apply (q : Fin 64) : inside idx (ix2 q 0) = 1#1 := by
  pointwise [inside]
  rw [column_apply hi]
  generalize n q = k
  revert k
  decide +kernel

theorem take_apply (x : FVec Ideal S32x65x256 .f32) (b : Fin 32) (q : Fin 64) (k : Fin 256) : take x idx (ix3 b q k) = x (ix3 b (n q) k) := by
  have e1 : Host.reduce IntOp.andi (inside idx) (constantI S_ 1 1#1) reducesTo_S64x1_S64_d1 h_S_ (ix1 q) = 1#1 :=
    foldl_ones (fun m => inside idx (S64x1.rowMajor.symm m)) (fun m => by
      have e : ∀ i : S64x1.Idx, inside idx i = 1#1 := fun i => by
        rw [show i = ix2 (i 0) 0 by rw [eq_ix2 i]; congr 1; exact Subsingleton.elim (α := Fin 1) _ _]
        exact inside_apply hi (i 0)
      exact e _) _
  have e2 : Host.gather gather_S32x65x256_S64x1_S32x64x256_02_1_n_n_1_1_321256 x (column idx) (ix3 b q k) = x (ix3 b (n q) k) := by
    unfold Host.gather
    refine congrArg x (funext fun a => Fin.ext ?_)
    match a with
    | ⟨0, _⟩ => show 0 + 0 + b.val = b.val; omega
    | ⟨1, _⟩ =>
      have hn := (n q).isLt
      refine (congrArg (fun i => min (column idx i).toInt.toNat (65 - 1)) (funext fun a => match a with
        | ⟨0, _⟩ => rfl
        | ⟨1, _⟩ => rfl : _ = ix2 q 0)).trans ?_
      rw [column_apply hi q]
      show min (BitVec.ofNat 32 (n q).val).toInt.toNat (65 - 1) = (n q).val
      clear e1 hn
      generalize n q = k
      revert k
      decide +kernel
    | ⟨2, _⟩ => show 0 + 0 + k.val = k.val; omega
  have e3 : broadcastInDim S32x64x256 ![1] bcast_S64_S32x64x256_1 (Host.reduce IntOp.andi (inside idx) (constantI S_ 1 1#1) reducesTo_S64x1_S64_d1 h_S_) (ix3 b q k) = 1#1 := by
    refine (broadcastInDim_apply _ bcast_S64_S32x64x256_1 _ _ (ix1 q) fun a => ?_).trans e1
    match a with
    | ⟨0, _⟩ => rfl
  exact (if_pos e3).trans e2
end

/-! ## The window's mean -/

/-- The window's ends: `w` places before, `v - w` behind, cut to the grid row. -/
def first (w : BitVec 32) : IVec S64 32 := minsi (broadcastInDim S64 ![] bcast_S_S64 (constantI S_ 32 64#32))
  (maxsi (broadcastInDim S64 ![] bcast_S_S64 (constantI S_ 32 0#32)) (subi (iotaInDim S64 32 0) (broadcastInDim S64 ![] bcast_S_S64 (constantI S_ 32 w))))
def behind (w v : BitVec 32) : IVec S64 32 := minsi (broadcastInDim S64 ![] bcast_S_S64 (constantI S_ 32 64#32))
  (maxsi (broadcastInDim S64 ![] bcast_S_S64 (constantI S_ 32 0#32)) (addi (subi (iotaInDim S64 32 0) (broadcastInDim S64 ![] bcast_S_S64 (constantI S_ 32 w)))
    (broadcastInDim S64 ![] bcast_S_S64 (constantI S_ 32 v))))
def lo (g : Fin 4) (q : Fin 64) : Fin 65 := ⟨q.val - 2 ^ g.val, lt_of_le_of_lt (Nat.sub_le _ _) (by omega)⟩
def hi (g : Fin 4) (q : Fin 64) : Fin 65 := ⟨min (q.val + 2 ^ g.val) 64, by omega⟩

theorem first_apply (g : Fin 4) (q : Fin 64) : first (1#32 <<< g.val) (ix1 q) = BitVec.ofNat 32 (lo g q).val := by
  show _ = BitVec.ofNat 32 (q.val - 2 ^ g.val)
  pointwise [first]
  revert g q
  decide +kernel
theorem behind_apply (g : Fin 4) (q : Fin 64) : behind (1#32 <<< g.val) (2#32 <<< g.val) (ix1 q) = BitVec.ofNat 32 (hi g q).val := by
  show _ = BitVec.ofNat 32 (min (q.val + 2 ^ g.val) 64)
  pointwise [behind]
  revert g q
  decide +kernel
theorem length_of (g : Fin 4) (q : Fin 64) : (IntOp.subi (BitVec.ofNat 32 (hi g q).val) (BitVec.ofNat 32 (lo g q).val)).toInt = (len g.val q.val : ℕ) := by
  revert g q
  decide +kernel

/-- One group's means. -/
def means (w v : BitVec 32) (x : FVec Ideal S32x64x256 .f32) : FVec Ideal S32x64x256 .f32 :=
  Host.divf (subf (take (table x) (behind w v)) (take (table x) (first w)))
    (broadcastInDim S32x64x256 ![0, 1, 2] bcast_S1x64x1_S32x64x256_0_1_2 (broadcastInDim S1x64x1 ![1, 2] bcast_S64x1_S1x64x1_1_2
      (broadcastInDim S64x1 ![0] bcast_S64_S64x1_0 (sitofp .f32 (subi (behind w v) (first w)) : FVec Ideal S64 .f32))))

theorem sum_window (g : Fin 4) (v : ℕ → ℝ) (b : ℕ) (q : Fin 64) :
    (∑ i ∈ Finset.range (hi g q).val, v (b * 64 + i)) - ∑ i ∈ Finset.range (lo g q).val, v (b * 64 + i) = winSum g.val v (b * 64 + q.val) := by
  have hq := q.isLt
  have hg : 0 < 2 ^ g.val := Nat.two_pow_pos _
  have hle : (lo g q).val ≤ (hi g q).val := by unfold lo hi; dsimp only; omega
  rw [← Finset.sum_Ico_eq_sub _ hle]
  unfold winSum
  rw [show (b * 64 + q.val) % 64 = q.val by omega, show (b * 64 + q.val) / 64 * 64 = b * 64 by omega,
    Fin.sum_univ_eq_sum_range (fun s => if Near g.val q.val s then v (b * 64 + s) else 0) 64, ← Finset.sum_filter]
  refine Finset.sum_congr (Finset.ext fun s => ?_) fun _ _ => rfl
  rw [Finset.mem_Ico, Finset.mem_filter, Finset.mem_range]
  unfold lo hi Near
  dsimp only
  omega

theorem means_apply (g : Fin 4) (x : FVec Ideal S32x64x256 .f32) (v : Fin 256 → ℕ → ℝ)
    (hx : ∀ (b : Fin 32) (s : Fin 64) k, x (ix3 b s k) = (v k (b.val * 64 + s.val) : EReal)) (b : Fin 32) (q : Fin 64) (k : Fin 256) :
    means (1#32 <<< g.val) (2#32 <<< g.val) x (ix3 b q k) = (mean g.val (v k) (b.val * 64 + q.val) : EReal) := by
  have hl : 0 < len g.val q.val := len_pos q.isLt
  pointwise [means]
  rw [take_apply (behind_apply g), take_apply (first_apply g), behind_apply, first_apply,
    table_apply x (fun b i k => v k (b.val * 64 + i)) hx, table_apply x (fun b i k => v k (b.val * 64 + i)) hx, ← EReal.coe_sub,
    sitofp_of _ _ (length_of g q), div_coe _ _ (by exact_mod_cast hl.ne'), sum_window g (v k) b.val q]
  refine congrArg (fun a : ℝ => (a : EReal)) ?_
  unfold mean
  rw [show (b.val * 64 + q.val) % 64 = q.val by have := q.isLt; omega]

end Cert.Pool

end
-- ==== Proof.LossRef.lean ====
/- The reference loss and its gradients, read at an index over real arrays. -/
module

public import proofs.«01_k».proof.Proof.Gen.LossRefIdeal.Run
public import proofs.«01_k».proof.Proof.Gen.LossRefIdeal.Read
public import proofs.«01_k».proof.Proof.PoolTake

@[expose] public section

set_option maxRecDepth 16384

noncomputable section

namespace Cert.LossStage.Ref

open Cert.LossRefIdeal Cert.LossRefIdeal.Read Idealize.ShloMosaic Idealize.ShloMosaic.TcCoe Idealize.SL.Sem
open Cert.Reals Cert.Norm Cert.Silu Cert.Pool

variable {uz : Vec Ideal S2x2048x1024 .f32} {x tg : Vec Ideal S2048x1024 .f32} {ga ps fw : Vec Ideal S1x1024 .f32}
  {wg : Vec Ideal S4x256x256 .bf16} {w : Vec Ideal S1024x1024 .bf16}
variable {U Z X T : ℕ → Fin 1024 → ℝ} {Ga Ps Fw : Fin 1024 → ℝ} {Wg : Fin 4 → Fin 256 → Fin 256 → ℝ} {W : Fin 1024 → Fin 1024 → ℝ}
variable (hu : ∀ (r : Fin 2048) l, uz (ix3 0 r l) = (U r.val l : EReal)) (hz : ∀ (r : Fin 2048) l, uz (ix3 1 r l) = (Z r.val l : EReal))
  (hx : ∀ (r : Fin 2048) l, x (ix2 r l) = (X r.val l : EReal)) (ht : ∀ (r : Fin 2048) l, tg (ix2 r l) = (T r.val l : EReal))
  (hga : ∀ l, ga (ix2 0 l) = (Ga l : EReal)) (hwg : ∀ g i k, wg (ix3 g i k) = (Wg g i k : EReal)) (hps : ∀ l, ps (ix2 0 l) = (Ps l : EReal))
  (hw : ∀ i k, w (ix2 i k) = (W i k : EReal)) (hfw : ∀ l, fw (ix2 0 l) = (Fw l : EReal))

/-! ## Pooling -/

include hu in
theorem lanes_coe (b : Fin 32) (q : Fin 64) (g : Fin 4) (k : Fin 256) :
    val_main_v6 (F := Ideal) uz (ix4 b q g k) = (U (b.val * 64 + q.val) (lane g k) : EReal) := by
  pointwise [val_main_v6, val_main_v1, val_main_v0]
  exact hu ⟨b.val * 64 + q.val, _⟩ (lane g k)

include hu in
theorem mean0_coe (b : Fin 32) (q : Fin 64) (k : Fin 256) :
    val_main_v30 (F := Ideal) uz (ix3 b q k) = (mean 0 (fun r => U r (lane 0 k)) (b.val * 64 + q.val) : EReal) :=
  (show val_main_v30 (F := Ideal) uz (ix3 b q k) = means (1#32 <<< ((0 : Fin 4).val)) (2#32 <<< ((0 : Fin 4).val)) (val_main_v8 (F := Ideal) uz) (ix3 b q k) from rfl).trans
    (means_apply 0 _ (fun k r => U r (lane 0 k)) (fun b q k => by
      pointwise [val_main_v8, val_main_v7]
      exact lanes_coe hu b q 0 k) b q k)

include hu in
theorem mean1_coe (b : Fin 32) (q : Fin 64) (k : Fin 256) :
    val_main_v54 (F := Ideal) uz (ix3 b q k) = (mean 1 (fun r => U r (lane 1 k)) (b.val * 64 + q.val) : EReal) :=
  (show val_main_v54 (F := Ideal) uz (ix3 b q k) = means (1#32 <<< ((1 : Fin 4).val)) (2#32 <<< ((1 : Fin 4).val)) (val_main_v32 (F := Ideal) uz) (ix3 b q k) from rfl).trans
    (means_apply 1 _ (fun k r => U r (lane 1 k)) (fun b q k => by
      pointwise [val_main_v32, val_main_v31]
      exact lanes_coe hu b q 1 k) b q k)

include hu in
theorem mean2_coe (b : Fin 32) (q : Fin 64) (k : Fin 256) :
    val_main_v78 (F := Ideal) uz (ix3 b q k) = (mean 2 (fun r => U r (lane 2 k)) (b.val * 64 + q.val) : EReal) :=
  (show val_main_v78 (F := Ideal) uz (ix3 b q k) = means (1#32 <<< ((2 : Fin 4).val)) (2#32 <<< ((2 : Fin 4).val)) (val_main_v56 (F := Ideal) uz) (ix3 b q k) from rfl).trans
    (means_apply 2 _ (fun k r => U r (lane 2 k)) (fun b q k => by
      pointwise [val_main_v56, val_main_v55]
      exact lanes_coe hu b q 2 k) b q k)

include hu in
theorem mean3_coe (b : Fin 32) (q : Fin 64) (k : Fin 256) :
    val_main_v102 (F := Ideal) uz (ix3 b q k) = (mean 3 (fun r => U r (lane 3 k)) (b.val * 64 + q.val) : EReal) :=
  (show val_main_v102 (F := Ideal) uz (ix3 b q k) = means (1#32 <<< ((3 : Fin 4).val)) (2#32 <<< ((3 : Fin 4).val)) (val_main_v80 (F := Ideal) uz) (ix3 b q k) from rfl).trans
    (means_apply 3 _ (fun k r => U r (lane 3 k)) (fun b q k => by
      pointwise [val_main_v80, val_main_v79]
      exact lanes_coe hu b q 3 k) b q k)

include hu in
theorem pooled_coe (b : Fin 32) (q : Fin 64) (g : Fin 4) (k : Fin 256) :
    val_main_v108 (F := Ideal) uz (ix4 b q g k) = (pooled U (b.val * 64 + q.val) (lane g k) : EReal) := by
  have e : val_main_v107 (F := Ideal) uz (ix4 b q g k) = (mean g.val (fun r => U r (lane g k)) (b.val * 64 + q.val) : EReal) := by
    revert g
    pointwise [val_main_v107, val_main_v103, val_main_v104, val_main_v105, val_main_v106]
    exact ⟨mean0_coe hu b q k, mean1_coe hu b q k, mean2_coe hu b q k, mean3_coe hu b q k⟩
  pointwise [val_main_v108]
  rw [e, lanes_coe hu, ← EReal.coe_sub, pooled, grp_lane]

include hu hwg in
theorem mixed_coe (r : Fin 2048) (l : Fin 1024) : val_main_v111 (F := Ideal) uz wg (ix2 r l) = (mixed U Wg r.val l : EReal) := by
  pointwise [val_main_v111, val_main_v110, val_main_v109, val_main_v4]
  simp only [hwg, pooled_coe hu, ← EReal.coe_mul, coe_sum]
  refine congrArg (fun a : ℝ => (a : EReal)) ?_
  unfold mixed
  refine Finset.sum_congr rfl fun k _ => ?_
  rw [mul_comm, show r.val / 64 * 64 + r.val % 64 = r.val by omega]
  rfl

/-! ## The residual stream and the error -/

include hz in
theorem silu_coe (r : Fin 2048) (l : Fin 1024) : val_main_v114 (F := Ideal) uz (ix2 r l) = (silu (Z r.val l) : EReal) := by
  pointwise [val_main_v114, val_main_call20_v5, val_main_call20_v4, val_main_call20_v3, val_main_call20_v2, val_main_call20_v1, val_main_call20_v0,
    val_main_call20_cst, val_main_call20_cst_0, val_main_v3, val_main_v2]
  rw [hz, sig_exp, ← EReal.coe_mul]
  rfl

include hu hz hwg hps hw in
theorem res_coe (r : Fin 2048) (j : Fin 1024) : val_main_v116 (F := Ideal) uz wg ps w (ix2 r j) = (res U Z Ps Wg W r.val j : EReal) := by
  pointwise [val_main_v116, val_main_v115, val_main_v113, val_main_v112, val_main_v5]
  simp only [mixed_coe hu hwg, silu_coe hz, hps, hw, ← EReal.coe_mul, coe_sum]
  rfl

include hu hz hx hga hwg hps hw in
theorem out_coe (r : Fin 2048) (j : Fin 1024) : val_main_v119 (F := Ideal) uz x ga wg ps w (ix2 r j) = (out U Z X Ga Ps Wg W r.val j : EReal) := by
  pointwise [val_main_v119, val_main_v118, val_main_v117]
  rw [res_coe hu hz hwg hps hw, hx, hga, ← EReal.coe_mul, ← EReal.coe_add]
  rfl

include hu hz hx hga hwg hps hw in
theorem meanSq_out (r : Fin 2048) : val_main_v126 (F := Ideal) uz x ga wg ps w (ix2 r 0) = (meanSq (out U Z X Ga Ps Wg W r.val) : EReal) := by
  pointwise [val_main_v126, val_main_v125, val_main_v124, val_main_v123, val_main_v122, val_main_v121, val_main_v120, val_main_cst_30, val_main_cst_31, val_main_cst_32]
  rw [ofBits_1024, ofBits_eps]
  simp only [out_coe hu hz hx hga hwg hps hw, meanSq_coe]

include hu hz hx hga hwg hps hw in
theorem rms_out (r : Fin 2048) : val_main_v127 (F := Ideal) uz x ga wg ps w (ix2 r 0) = (rms (out U Z X Ga Ps Wg W r.val) : EReal) := by
  pointwise [val_main_v127]
  rw [meanSq_out hu hz hx hga hwg hps hw, rsqrt_meanSq]

include hu hz hx hga hwg hps hw in
theorem v130_coe (r : Fin 2048) : val_main_v130 (F := Ideal) uz x ga wg ps w (ix2 r 0)
    = (-1/2 * (rms (out U Z X Ga Ps Wg W r.val) / meanSq (out U Z X Ga Ps Wg W r.val)) : ℝ) := by
  pointwise [val_main_v130, val_main_v129, val_main_v128, val_main_cst_33]
  rw [rms_out hu hz hx hga hwg hps hw, meanSq_out hu hz hx hga hwg hps hw, ofBits_neg_half, div_coe _ _ (meanSq_pos _).ne', ← EReal.coe_mul]

include hu hz hx hga hwg hps hw in
theorem nrm_coe (r : Fin 2048) (j : Fin 1024) : val_main_v132 (F := Ideal) uz x ga wg ps w (ix2 r j)
    = (out U Z X Ga Ps Wg W r.val j * rms (out U Z X Ga Ps Wg W r.val) : ℝ) := by
  pointwise [val_main_v132, val_main_v131]
  rw [rms_out hu hz hx hga hwg hps hw, out_coe hu hz hx hga hwg hps hw, ← EReal.coe_mul]

include hu hz hx ht hga hwg hps hw hfw

theorem err_coe (r : Fin 2048) (j : Fin 1024) : val_main_v135 (F := Ideal) uz x tg ga wg ps w fw (ix2 r j) = (err U Z X T Ga Ps Fw Wg W r.val j : EReal) := by
  pointwise [val_main_v135, val_main_v134, val_main_v133]
  rw [nrm_coe hu hz hx hga hwg hps hw, ht, hfw, ← EReal.coe_mul, ← EReal.coe_sub]
  rfl

theorem dErr_coe (r : Fin 2048) (j : Fin 1024) : val_main_v149 (F := Ideal) uz x tg ga wg ps w fw (ix2 r j) = (dErr U Z X T Ga Ps Fw Wg W r.val j : EReal) := by
  pointwise [val_main_v149, val_main_v148, val_main_v147, val_main_v146, val_main_v145, val_main_v144, val_main_v138, val_main_v137, val_main_cst_34, val_main_cst_39,
    val_main_cst_40, val_main_cst_41]
  rw [err_coe hu hz hx ht hga hwg hps hw hfw, ofBits_half, ofBits_two, ofBits_1024]
  simp only [← EReal.coe_mul, div_coe _ _ (by norm_num : ((1024 : ℕ) : ℝ) ≠ 0)]
  refine congrArg (fun a : ℝ => (a : EReal)) ?_
  unfold dErr
  push_cast
  ring

theorem dNrm_coe (r : Fin 2048) (j : Fin 1024) : val_main_v154 (F := Ideal) uz x tg ga wg ps w fw (ix2 r j)
    = (dErr U Z X T Ga Ps Fw Wg W r.val j * Fw j : ℝ) := by
  pointwise [val_main_v154, val_main_v153]
  rw [dErr_coe hu hz hx ht hga hwg hps hw hfw, hfw, ← EReal.coe_mul]

/-! ## The results -/

theorem dOut_coe (r : Fin 2048) (j : Fin 1024) : val_main_v168 (F := Ideal) uz x tg ga wg ps w fw (ix2 r j) = (dOut U Z X T Ga Ps Fw Wg W r.val j : EReal) := by
  pointwise [val_main_v168, val_main_v167, val_main_v166, val_main_v165, val_main_v164, val_main_v163, val_main_v162, val_main_v161, val_main_v160, val_main_v159,
    val_main_v158, val_main_v157, val_main_v156, val_main_v155, val_main_cst_43, val_main_cst_44, val_main_cst_45]
  rw [ofBits_1024]
  simp only [dNrm_coe hu hz hx ht hga hwg hps hw hfw, rms_out hu hz hx hga hwg hps hw, v130_coe hu hz hx hga hwg hps hw, out_coe hu hz hx hga hwg hps hw,
    Finset.univ_unique, Finset.sum_singleton, Fin.default_eq_zero]
  simp only [← EReal.coe_one, ← EReal.coe_mul, ← EReal.coe_add, coe_sum, div_coe _ _ (by norm_num : ((1024 : ℕ) : ℝ) ≠ 0)]
  refine congrArg (fun a : ℝ => (a : EReal)) ?_
  rw [dOut, grad_eq, add_assoc]

theorem dx_coe : val_main_v168 (F := Ideal) uz x tg ga wg ps w fw = fun i => (dOut U Z X T Ga Ps Fw Wg W (i 0).val (i 1) : EReal) := by
  funext i
  obtain ⟨r, j, rfl⟩ : ∃ (r : Fin 2048) (j : Fin 1024), i = ix2 r j := ⟨i 0, i 1, eq_ix2 i⟩
  exact dOut_coe hu hz hx ht hga hwg hps hw hfw r j

theorem loss_coe : val_main_v172 (F := Ideal) uz x tg ga wg ps w fw = fun _ => ((∑ r : Fin 2048, lossRow U Z X T Ga Ps Fw Wg W r.val : ℝ) : EReal) := by
  funext i
  obtain ⟨a, b, rfl⟩ : ∃ (a : Fin 8) (b : Fin 128), i = ix2 a b := ⟨i 0, i 1, eq_ix2 i⟩
  pointwise [val_main_v172, val_main_v143, val_main_v142, val_main_v141, val_main_v140, val_main_v139, val_main_v136, val_main_cst_35, val_main_cst_36, val_main_cst_37, val_main_cst_38]
  rw [ofBits_half, ofBits_1024]
  simp only [err_coe hu hz hx ht hga hwg hps hw hfw]
  simp only [← EReal.coe_mul, coe_sum, div_coe _ _ (by norm_num : ((1024 : ℕ) : ℝ) ≠ 0)]
  refine congrArg (fun a : ℝ => (a : EReal)) ?_
  rw [Finset.mul_sum]
  rfl

theorem dfw_coe : val_main_v152 (F := Ideal) uz x tg ga wg ps w fw = fun i => ((∑ r : Fin 2048, dFwRow U Z X T Ga Ps Fw Wg W r.val (i 1) : ℝ) : EReal) := by
  funext i
  obtain ⟨k, rfl⟩ : ∃ (k : Fin 1024), i = ix2 0 k := ⟨i 1, by rw [eq_ix2 i]; congr 1; exact Subsingleton.elim (α := Fin 1) _ _⟩
  pointwise [val_main_v152, val_main_v151, val_main_v150, val_main_cst_42]
  simp only [nrm_coe hu hz hx hga hwg hps hw, dErr_coe hu hz hx ht hga hwg hps hw hfw, ← EReal.coe_mul, coe_sum]
  refine congrArg (fun a : ℝ => (a : EReal)) (Finset.sum_congr rfl fun r _ => ?_)
  exact mul_comm _ _

theorem dga_coe : val_main_v171 (F := Ideal) uz x tg ga wg ps w fw = fun i => ((∑ r : Fin 2048, dGaRow U Z X T Ga Ps Fw Wg W r.val (i 1) : ℝ) : EReal) := by
  funext i
  obtain ⟨k, rfl⟩ : ∃ (k : Fin 1024), i = ix2 0 k := ⟨i 1, by rw [eq_ix2 i]; congr 1; exact Subsingleton.elim (α := Fin 1) _ _⟩
  pointwise [val_main_v171, val_main_v170, val_main_v169, val_main_cst_46]
  simp only [dOut_coe hu hz hx ht hga hwg hps hw hfw, res_coe hu hz hwg hps hw, ← EReal.coe_mul, coe_sum]
  rfl

end Cert.LossStage.Ref

end
-- ==== Proof.Loss.lean ====
/- The pooling block with the loss: kernel and reference leave the same gradient, loss and sums, from the two runs and the
   precondition that the arguments are real. -/
module

public import proofs.«01_k».proof.Defs
public import proofs.«01_k».proof.Proof.PoolRows
public import proofs.«01_k».proof.Proof.LossArray
public import proofs.«01_k».proof.Proof.LossRef
public import proofs.«01_k».proof.Proof.Gen.Pre_finite_loss

@[expose] public section

set_option maxRecDepth 16384

noncomputable section

namespace Cert.LossStage

open Idealize.ShloMosaic Idealize.ShloMosaic.TcCoe Idealize.SL.Sem Cert.Reals Cert.Pool

/-- The precondition, read: eight arrays of reals, the activations by row number. -/
theorem reals {uz : FVec Ideal Pre_finite_loss.S2x2048x1024 .f32} {x tg : FVec Ideal Pre_finite_loss.S2048x1024 .f32}
    {ga ps fw : FVec Ideal Pre_finite_loss.S1x1024 .f32} {wg : FVec Ideal Pre_finite_loss.S4x256x256 .bf16}
    {w : FVec Ideal Pre_finite_loss.S1024x1024 .bf16}
    (h : Pre_finite_loss.fn (F := Ideal) uz x tg ga wg ps w fw = fun _ => 1#1) :
    (∃ U : ℕ → Fin 1024 → ℝ, ∀ (r : Fin 2048) l, uz (ix3 0 r l) = (U r.val l : EReal))
    ∧ (∃ Z : ℕ → Fin 1024 → ℝ, ∀ (r : Fin 2048) l, uz (ix3 1 r l) = (Z r.val l : EReal))
    ∧ (∃ X : ℕ → Fin 1024 → ℝ, ∀ (r : Fin 2048) l, x (ix2 r l) = (X r.val l : EReal))
    ∧ (∃ T : ℕ → Fin 1024 → ℝ, ∀ (r : Fin 2048) l, tg (ix2 r l) = (T r.val l : EReal))
    ∧ (∃ Ga : Fin 1024 → ℝ, ∀ k, ga (ix2 0 k) = (Ga k : EReal))
    ∧ (∃ Wg : Fin 4 → Fin 256 → Fin 256 → ℝ, ∀ g i k, wg (ix3 g i k) = (Wg g i k : EReal))
    ∧ (∃ Ps : Fin 1024 → ℝ, ∀ k, ps (ix2 0 k) = (Ps k : EReal))
    ∧ (∃ W : Fin 1024 → Fin 1024 → ℝ, ∀ j k, w (ix2 j k) = (W j k : EReal))
    ∧ (∃ Fw : Fin 1024 → ℝ, ∀ k, fw (ix2 0 k) = (Fw k : EReal)) := by
  have h := congrFun h ix0
  unfold Pre_finite_loss.fn Pre_finite_loss.fn_part1 Pre_finite_loss.fn_part2 at h
  obtain ⟨h, hfw⟩ := IntOp.andi_eq_one.1 h
  obtain ⟨h, hw⟩ := IntOp.andi_eq_one.1 h
  obtain ⟨h, hps⟩ := IntOp.andi_eq_one.1 h
  obtain ⟨h, hwg⟩ := IntOp.andi_eq_one.1 h
  obtain ⟨h, hga⟩ := IntOp.andi_eq_one.1 h
  obtain ⟨h, ht⟩ := IntOp.andi_eq_one.1 h
  obtain ⟨hu, hx⟩ := IntOp.andi_eq_one.1 h
  obtain ⟨A, hA⟩ := exists_real _ _ _ _ _ _ _ hu
  obtain ⟨X, hX⟩ := exists_real _ _ _ _ _ _ _ hx
  obtain ⟨T, hT⟩ := exists_real _ _ _ _ _ _ _ ht
  obtain ⟨Ga, hGa⟩ := exists_real _ _ _ _ _ _ _ hga
  obtain ⟨Wg, hWg⟩ := exists_real_half _ _ _ _ _ _ _ _ hwg
  obtain ⟨Ps, hPs⟩ := exists_real _ _ _ _ _ _ _ hps
  obtain ⟨W, hW⟩ := exists_real_half _ _ _ _ _ _ _ _ hw
  obtain ⟨Fw, hFw⟩ := exists_real _ _ _ _ _ _ _ hfw
  refine ⟨⟨rows fun r l => A (ix3 0 r l), fun r l => ?_⟩, ⟨rows fun r l => A (ix3 1 r l), fun r l => ?_⟩, ⟨rows fun r l => X (ix2 r l), fun r l => ?_⟩,
    ⟨rows fun r l => T (ix2 r l), fun r l => ?_⟩, ⟨fun k => Ga (ix2 0 k), fun _ => hGa _⟩, ⟨fun g i k => Wg (ix3 g i k), fun _ _ _ => hWg _⟩,
    ⟨fun k => Ps (ix2 0 k), fun _ => hPs _⟩, ⟨fun j k => W (ix2 j k), fun _ _ => hW _⟩, ⟨fun k => Fw (ix2 0 k), fun _ => hFw _⟩⟩
  · rw [rows_val]; exact hA _
  · rw [rows_val]; exact hA _
  · rw [rows_val]; exact hX _
  · rw [rows_val]; exact hT _

set_option maxHeartbeats 2000000 in
theorem value : Cert.algebraic_LossIdeal_LossRefIdeal_pre_finite_loss := fun m g m' g' hpre hag => by
  refine ⟨_, _, _, _, LossIdeal.Value.run_blocks m g, (θ_run _ _ _).mono (fun r h c => ?_) (LossRefIdeal.Value.run m' g')⟩
  obtain ⟨h0, h1, h2, h3, h⟩ := h c
  obtain ⟨⟨U, hu⟩, ⟨Z, hz⟩, ⟨X, hx⟩, ⟨T, ht⟩, ⟨Ga, hga⟩, ⟨Wg, hwg⟩, ⟨Ps, hps⟩, ⟨W, hw⟩, Fw, hfw⟩ := reals (hpre c)
  obtain ⟨e0, e1, e2, e3, e4, e5, e6, e7⟩ := hag c
  rw [← e0] at hu hz
  rw [← e1] at hx
  rw [← e2] at ht
  rw [← e3] at hga
  rw [← e4] at hwg
  rw [← e5] at hps
  rw [← e6] at hw
  rw [← e7] at hfw
  refine ⟨(h0.trans (LossRefIdeal.Read.val_main_v168_eq _)).trans ((Ref.dx_coe hu hz hx ht hga hwg hps hw hfw).trans ?_),
    (h1.trans (LossRefIdeal.Read.val_main_v172_eq _)).trans ((Ref.loss_coe hu hz hx ht hga hwg hps hw hfw).trans ?_),
    (h2.trans (LossRefIdeal.Read.val_main_v152_eq _)).trans ((Ref.dfw_coe hu hz hx ht hga hwg hps hw hfw).trans ?_),
    (h3.trans (LossRefIdeal.Read.val_main_v171_eq _)).trans ((Ref.dga_coe hu hz hx ht hga hwg hps hw hfw).trans ?_), h⟩
  all_goals
    rw [e0] at hu hz
    rw [e1] at hx
    rw [e2] at ht
    rw [e3] at hga
    rw [e4] at hwg
    rw [e5] at hps
    rw [e6] at hw
    rw [e7] at hfw
  · exact (dx_final hu hz hx ht hga hwg hps hw hfw).symm
  · exact (loss_final hu hz hx ht hga hwg hps hw hfw).symm
  · exact (dfw_final hu hz hx ht hga hwg hps hw hfw).symm
  · exact (dga_final hu hz hx ht hga hwg hps hw hfw).symm

theorem frame_reference : Cert.quiescent_LossRefIdeal := fun m g _ =>
  (θ_run LossRefIdeal.defs _ _).mono (fun r h => ⟨fun c => (h c).2.2.2.2, sem_eq_zero_of_no_sems rfl r.2⟩)
    (LossRefIdeal.Value.run (F := Ideal) m g)

end Cert.LossStage

end
-- ==== Proof.PoolGrad.lean ====
/- The pooling mixer's gradients over the real numbers, from the cotangent `D` of the residual stream behind it. -/
module

public import proofs.«01_k».proof.Proof.PoolMath

@[expose] public section

noncomputable section

namespace Cert.Pool

open Cert.Reals Cert.Norm Cert.Silu

/-- What row `r` gets back from the means its entry was part of: the entries of the windows that contain it, each over its
    window's length. -/
def backMean (g : ℕ) (v : ℕ → ℝ) (r : ℕ) : ℝ :=
  ∑ s : Fin 64, if Near g s.val (r % 64) then v (r / 64 * 64 + s.val) / (len g s.val : ℕ) else 0

/-- The transposed window of four grid rows gathers just that. -/
theorem sum_mask_back (q g : ℕ) (v : ℕ → ℝ) {R : ℕ} (hR : R < 256) :
    ∑ S : Fin 256, mask g S.val R * (v (q * 64 + S.val) * (1 / (len g (S.val % 64) : ℕ))) = backMean g v (q * 64 + R) := by
  have hR4 : R / 64 < 4 := by omega
  rw [Idealize.ShloMosaic.Fin.sum_univ_tiles 4 64 rfl, Finset.sum_eq_single (⟨R / 64, hR4⟩ : Fin 4)]
  · unfold backMean
    refine Finset.sum_congr rfl fun s _ => ?_
    have hs := s.isLt
    unfold mask
    dsimp only
    have e1 : (R / 64 * 64 + s.val) / 64 = R / 64 := by omega
    have e2 : (R / 64 * 64 + s.val) % 64 = s.val := by omega
    have e3 : (q * 64 + R) % 64 = R % 64 := by omega
    have e4 : (q * 64 + R) / 64 * 64 + s.val = q * 64 + (R / 64 * 64 + s.val) := by omega
    rw [e1, e2, e3, e4]
    by_cases h : Near g s.val (R % 64)
    · rw [if_pos ⟨rfl, h⟩, if_pos h, one_mul, mul_one_div]
    · rw [if_neg fun q => h q.2, if_neg h, zero_mul]
  · intro a _ ha
    refine Finset.sum_eq_zero fun s _ => ?_
    have hs := s.isLt
    have : ¬ (a.val * 64 + s.val) / 64 = R / 64 := fun h => ha (Fin.ext (by dsimp only; omega))
    unfold mask
    rw [if_neg fun q => this q.1, zero_mul]
  · exact fun h => absurd (Finset.mem_univ _) h

/-- The gate `z · sig z`'s derivative. -/
def dsilu (z : ℝ) : ℝ := sig z * (1 + z * (1 - sig z))

variable (U Z D : ℕ → Fin 1024 → ℝ) (Ga Ps : Fin 1024 → ℝ) (Wg : Fin 4 → Fin 256 → Fin 256 → ℝ) (W : Fin 1024 → Fin 1024 → ℝ)

/-- The cotangents of the projection's argument, of the scaled lanes, of the groups' products and of the pooled lanes. -/
def dAct (r : ℕ) (l : Fin 1024) : ℝ := ∑ j, D r j * Ga j * W l j
def dScaled (r : ℕ) (l : Fin 1024) : ℝ := dAct D Ga W r l * silu (Z r l)
def dMixed (r : ℕ) (l : Fin 1024) : ℝ := dScaled Z D Ga W r l * Ps l
def dPooled (r : ℕ) (l : Fin 1024) : ℝ := ∑ k, dMixed Z D Ga Ps W r (lane (grp l) k) * Wg (grp l) (place l) k
/-- The gradients of the lanes that are pooled and of the gate's argument. -/
def dLanes (r : ℕ) (l : Fin 1024) : ℝ :=
  backMean (grp l).val (fun s => dPooled Z D Ga Ps Wg W s l) r - dPooled Z D Ga Ps Wg W r l
def dGate (r : ℕ) (l : Fin 1024) : ℝ := dAct D Ga W r l * (mixed U Wg r l * Ps l) * dsilu (Z r l)
/-- What a row adds to the gradients of the projection, of a group's matrix and of the scale. -/
def dProjRow (r : ℕ) (l j : Fin 1024) : ℝ := act U Z Ps Wg r l * (D r j * Ga j)
def dGroupRow (r : ℕ) (g : Fin 4) (i k : Fin 256) : ℝ := pooled U r (lane g i) * dMixed Z D Ga Ps W r (lane g k)
def dScaleRow (r : ℕ) (l : Fin 1024) : ℝ := dScaled Z D Ga W r l * mixed U Wg r l

end Cert.Pool

end
-- ==== Proof.PoolBackBlock.lean ====
/- One grid point of the pooling mixer's backward kernel, read at an index: over blocks of 512 rows of real numbers, the
   gradients it leaves and what it adds to the sums it carries. -/
module

public import proofs.«01_k».proof.Proof.Gen.PoolBackIdeal.Value
public import proofs.«01_k».proof.Proof.LossBlock
public import proofs.«01_k».proof.Proof.PoolGrad

@[expose] public section

set_option maxRecDepth 16384

noncomputable section

namespace Cert.PoolStage

open Cert.PoolBackIdeal Cert.PoolBackIdeal.Gen Idealize.ShloMosaic Idealize.ShloMosaic.TcCoe Idealize.SL.Sem
open Cert.Reals Cert.Norm Cert.Silu Cert.Pool
open Cert.LossStage (piece stored inb_piece inb_group idx_group)

/-! ## The payloads, over blocks of real numbers -/

section
variable {M dx : Vec Ideal S512x1024 .f32} {z : Vec Ideal S1x512x1024 .f32} {ga ps : Vec Ideal S1x1024 .f32} {w : Vec Ideal S1024x1024 .bf16}
variable {U Z D : ℕ → Fin 1024 → ℝ} {Ga Ps : Fin 1024 → ℝ} {Wg : Fin 4 → Fin 256 → Fin 256 → ℝ} {W : Fin 1024 → Fin 1024 → ℝ} {b : ℕ}
variable (hM : ∀ r l, M (ix2 r l) = (mixed U Wg (b + r.val) l : EReal)) (hz : ∀ r l, z (ix3 0 r l) = (Z (b + r.val) l : EReal))
  (hx : ∀ r l, dx (ix2 r l) = (D (b + r.val) l : EReal)) (hga : ∀ l, ga (ix2 0 l) = (Ga l : EReal)) (hps : ∀ l, ps (ix2 0 l) = (Ps l : EReal))
  (hw : ∀ i k, w (ix2 i k) = (W i k : EReal))

include hz in
theorem silu_coe (r : Fin 512) (l : Fin 1024) : k0_pay27 z (ix2 r l) = (silu (Z (b + r.val) l) : EReal) := by
  pointwise [k0_pay27, k0_pay26]
  simp only [hz, ofBits_half, sig_tanh]
  rw [← EReal.coe_mul]
  rfl

include hx hga hw in
theorem dAct_coe (r : Fin 512) (l : Fin 1024) : k0_pay30 dx ga w (ix2 r l) = (dAct D Ga W (b + r.val) l : EReal) := by
  pointwise [k0_pay30, k0_pay29]
  simp only [hx, hga, hw, ← EReal.coe_mul, coe_sum]
  rfl

include hz hx hga hw in
theorem dScaled_coe (r : Fin 512) (l : Fin 1024) : k0_pay32 (k0_pay27 z) dx ga w (ix2 r l) = (dScaled Z D Ga W (b + r.val) l : EReal) := by
  pointwise [k0_pay32]
  rw [show k0_pay30 (F := Ideal) _ _ _ (ix2 r l) = _ from dAct_coe hx hga hw r l, show k0_pay27 (F := Ideal) _ (ix2 r l) = _ from silu_coe hz r l, ← EReal.coe_mul]
  rfl

include hz hx hga hps hw in
theorem dMixed_coe (r : Fin 512) (l : Fin 1024) :
    k0_pay35 (k0_pay32 (k0_pay27 z) dx ga w) ps (ix2 r l) = (dMixed Z D Ga Ps W (b + r.val) l : EReal) := by
  pointwise [k0_pay35]
  rw [show k0_pay32 (F := Ideal) _ _ _ _ (ix2 r l) = _ from dScaled_coe hz hx hga hw r l, hps, ← EReal.coe_mul]
  rfl

include hM hz hx hga hps hw in
theorem dGate_coe (r : Fin 512) (l : Fin 1024) :
    k0_pay33 (k0_pay26 z) M ps dx ga w (ix3 0 r l) = (dGate U Z D Ga Ps Wg W (b + r.val) l : EReal) := by
  pointwise [k0_pay33, k0_pay28, k0_pay26]
  rw [show k0_pay30 (F := Ideal) _ _ _ (ix2 r l) = _ from dAct_coe hx hga hw r l]
  simp only [hM, hps, hz, ofBits_half, sig_tanh]
  simp only [← EReal.coe_one, ← EReal.coe_mul, ← EReal.coe_sub, ← EReal.coe_add]
  rfl

include hM hz hx hga hps in
theorem dProj_coe (p : Vec Ideal S1024x1024 .f32) (l j : Fin 1024) : k0_pay31 (k0_pay27 z) M ps dx ga p (ix2 l j)
    = p (ix2 l j) + ((∑ r : Fin 512, dProjRow U Z D Ga Ps Wg (b + r.val) l j : ℝ) : EReal) := by
  have hs := silu_coe hz
  generalize k0_pay27 z = s at hs ⊢
  pointwise [k0_pay31, k0_pay29, k0_pay28]
  simp only [hM, hps, hs, hx, hga, ← EReal.coe_mul, coe_sum]
  rfl

include hM hz hx hga hw in
theorem dScale_coe (p : Vec Ideal S1x1024 .f32) (l : Fin 1024) : k0_pay34 M (k0_pay32 (k0_pay27 z) dx ga w) p (ix2 0 l)
    = p (ix2 0 l) + ((∑ r : Fin 512, dScaleRow U Z D Ga Wg W (b + r.val) l : ℝ) : EReal) := by
  have hs := dScaled_coe hz hx hga hw
  generalize k0_pay32 (k0_pay27 z) dx ga w = s at hs ⊢
  pointwise [k0_pay34]
  simp only [hM, hs, ← EReal.coe_mul, coe_sum]
  rfl

end

/-! ## One group -/

section
variable {N P : Vec Ideal S512x256 .f32} {wg wt : Vec Ideal S1x256x256 .bf16} {v : Vec Ideal S1x256x1 .f32}
variable {U Z D : ℕ → Fin 1024 → ℝ} {Ga Ps : Fin 1024 → ℝ} {Wg : Fin 4 → Fin 256 → Fin 256 → ℝ} {W : Fin 1024 → Fin 1024 → ℝ} {q : ℕ} {g : Fin 4}
variable (hN : ∀ r k, N (ix2 r k) = (dMixed Z D Ga Ps W (q * 64 + r.val) (lane g k) : EReal))
  (hP : ∀ r k, P (ix2 r k) = (pooled U (q * 64 + r.val) (lane g k) : EReal))
  (hwg : ∀ i k, wg (ix3 0 i k) = (Wg g i k : EReal)) (hwt : ∀ R S, wt (ix3 0 R S) = (mask g.val S.val R.val : EReal))
  (hv : ∀ R, v (ix3 0 R 0) = ((1 / (len g.val (R.val % 64) : ℕ) : ℝ) : EReal))

include hN hwg in
theorem dPooled_coe (r : Fin 512) (k : Fin 256) : k0_pay56 N wg (ix2 r k) = (dPooled Z D Ga Ps Wg W (q * 64 + r.val) (lane g k) : EReal) := by
  pointwise [k0_pay56, k0_pay55]
  simp only [hN, hwg, ← EReal.coe_mul, coe_sum]
  refine congrArg (fun a : ℝ => (a : EReal)) ?_
  unfold dPooled
  rw [grp_lane, place_lane]

omit hN hP hwg hwt hv in
/-- A tile of 256 rows: each row's share of the means less the row itself. -/
theorem dLanes_eq (q : ℕ) (R k : Fin 256) (G : ℕ → Fin 1024 → ℝ) (hG : G = dPooled Z D Ga Ps Wg W) :
    (∑ S : Fin 256, mask g.val S.val R.val * (G (q * 64 + S.val) (lane g k) * (1 / (len g.val (S.val % 64) : ℕ)))) - G (q * 64 + R.val) (lane g k)
      = dLanes Z D Ga Ps Wg W (q * 64 + R.val) (lane g k) := by
  subst hG
  rw [sum_mask_back q g.val (fun s => dPooled Z D Ga Ps Wg W s (lane g k)) R.isLt]
  unfold dLanes
  rw [grp_lane]

include hN hwg hwt hv in
theorem dLanes0_coe (R k : Fin 256) : k0_pay58 N wg wt v (ix3 0 R k) = (dLanes Z D Ga Ps Wg W (q * 64 + R.val) (lane g k) : EReal) := by
  have hp := dPooled_coe hN hwg
  rw [← dLanes_eq q R k _ rfl]
  generalize dPooled Z D Ga Ps Wg W = G at hp ⊢
  pointwise [k0_pay58]
  simp only [hp, hwt, hv, ← EReal.coe_mul, ← EReal.coe_sub, sub_self, mul_zero, coe_sum, Finset.sum_const_zero, ← EReal.coe_add, add_zero]

include hN hwg hwt hv in
theorem dLanes1_coe (R k : Fin 256) : k0_pay1 (k0_pay56 N wg) wt v (ix3 0 R k)
    = (dLanes Z D Ga Ps Wg W (q * 64 + (256 + R.val)) (lane g k) : EReal) := by
  have hp := dPooled_coe hN hwg
  rw [show q * 64 + (256 + R.val) = (q + 4) * 64 + R.val by omega, ← dLanes_eq (q + 4) R k _ rfl]
  generalize dPooled Z D Ga Ps Wg W = G at hp ⊢
  generalize k0_pay56 N wg = B at hp ⊢
  replace hp : ∀ r k, B (ix2 r k) = _ := hp
  pointwise [k0_pay1]
  simp only [hp, hwt, hv, ← EReal.coe_mul, ← EReal.coe_sub, sub_self, mul_zero, coe_sum, Finset.sum_const_zero, ← EReal.coe_add, add_zero]
  refine congrArg (fun a : ℝ => (a : EReal)) ?_
  simp only [show ∀ s : ℕ, q * 64 + (256 + s) = (q + 4) * 64 + s from fun s => by omega]

include hN hP in
theorem dGroup_coe (p : Vec Ideal S1x256x256 .f32) (i k : Fin 256) : k0_pay57 N p P (ix3 0 i k)
    = p (ix3 0 i k) + ((∑ r : Fin 512, dGroupRow U Z D Ga Ps W (q * 64 + r.val) g i k : ℝ) : EReal) := by
  pointwise [k0_pay57, k0_pay55]
  simp only [hN, hP, ← EReal.coe_mul, coe_sum]
  rfl

end

end Cert.PoolStage

end
-- ==== Proof.PoolBackPoint.lean ====
/- What one grid point of the pooling mixer's backward kernel leaves in its outputs and its carried sums: the pieces it
   stores, read back. -/
module

public import proofs.«01_k».proof.Proof.PoolBackBlock
public import Idealize.ShloMosaic.Lib.Pipeline.ReadBack
public import Idealize.ShloMosaic.Lib.Pipeline.ValueKit

@[expose] public section

set_option maxRecDepth 16384

noncomputable section

namespace Cert.PoolStage

open Cert.PoolBackIdeal Cert.PoolBackIdeal.Gen Idealize.ShloMosaic Idealize.ShloMosaic.TcCoe Idealize.SL.Sem
open Cert.Reals Cert.Norm Cert.Silu Cert.Pool
open Cert.LossStage (piece stored stored_piece piece_stored inb_piece inb_group idx_group canon_group prod_coe)

/-! ## Pieces in front of others -/

theorem canon_append {S : Shape} {e : EltTy} (L L' : List (View.Piece (Elt Ideal) S e)) (y : S.Idx) (v : Elt Ideal e)
    (hc : ∃ p ∈ L, y ∈ p.1.set) (h : View.AllAt L y v) : View.canon (L ++ L') y = v := by
  induction L with
  | nil => obtain ⟨p, hp, _⟩ := hc; exact absurd hp List.not_mem_nil
  | cons p L ih =>
    by_cases hm : y ∈ p.1.set
    · obtain ⟨x, rfl⟩ := p.1.exists_idx_of_mem hm
      rw [show p.1.idx x = p.1.emb x from rfl, List.cons_append, View.canon_cons_emb]
      exact h p List.mem_cons_self x rfl
    · rw [List.cons_append, View.canon_cons_of_not_mem _ _ hm]
      refine ih ?_ fun q hq => h q (List.mem_cons_of_mem _ hq)
      obtain ⟨q, hq, hyq⟩ := hc
      rcases List.mem_cons.mp hq with rfl | hq'
      · exact absurd hyq hm
      · exact ⟨q, hq', hyq⟩

/-! ## The scratch arrays of the forward part, read back -/

section
variable (u : Vec Ideal S1x512x1024 .f32) (w : Vec Ideal S4x256x256 .bf16) (v : Vec Ideal S4x256x1 .f32) (wg : Vec Ideal S4x256x256 .bf16)

theorem inb_mat (g : Fin 4) : ∀ a, ![g.val, 0, 0] a + ![1, 256, 256] a ≤ S4x256x256.size a := fun a => by fin_cases a <;> dsimp <;> omega
theorem inb_col (g : Fin 4) : ∀ a, ![g.val, 0, 0] a + ![1, 256, 1] a ≤ S4x256x1.size a := fun a => by fin_cases a <;> dsimp <;> omega

/-- Group `g`'s matrix out of the four. -/
abbrev mat (wg : Vec Ideal S4x256x256 .bf16) (g : Fin 4) : Vec Ideal S1x256x256 .bf16 :=
  View.ld (Val := Elt Ideal) (e' := .bf16) wg (Rect.unit (s := S4x256x256) ![g.val, 0, 0] ![1, 256, 256] (inb_mat g))
abbrev col (v : Vec Ideal S4x256x1 .f32) (g : Fin 4) : Vec Ideal S1x256x1 .f32 :=
  View.ld (Val := Elt Ideal) (e' := .f32) v (Rect.unit (s := S4x256x1) ![g.val, 0, 0] ![1, 256, 1] (inb_col g))

theorem mat_apply (g : Fin 4) (i k : Fin 256) : mat wg g (ix3 0 i k) = wg (ix3 g i k) := by
  refine View.ld_unit_apply_of wg _ _ _ _ (ix3 g i k) fun a => ?_
  fin_cases a
  · rfl
  · exact (Nat.zero_add _).symm
  · exact (Nat.zero_add _).symm

theorem col_apply (g : Fin 4) (R : Fin 256) : col v g (ix3 0 R 0) = v (ix3 g R 0) := by
  refine View.ld_unit_apply_of v _ _ _ _ (ix3 g R 0) fun a => ?_
  fin_cases a
  · rfl
  · exact (Nat.zero_add _).symm
  · rfl

/-- Group `g`'s pooled lanes as they are read for its product, and once all groups are stored. -/
def early (g : Fin 4) : Vec Ideal S512x256 .f32 := (View.whole cc0_scratch0).readCov (Val := Elt Ideal) (e := .f32) (stored u w v g)
  (Rect.unit (s := S512x1024) ![0, g.val * 256] ![512, 256] (inb_group g)).toLoadRect
def late (g : Fin 4) : Vec Ideal S512x256 .f32 := (View.whole cc0_scratch0).readCov (Val := Elt Ideal) (e := .f32) (stored u w v 3)
  (Rect.unit (s := S512x1024) ![0, g.val * 256] ![512, 256] (inb_group g)).toLoadRect

/-- Group `g`'s product, stored, and the mixed lanes read back whole. -/
def prod (g : Fin 4) : View.Piece (Elt Ideal) S512x1024 .f32 :=
  ⟨Rect.unit ![0, g.val * 256] ![512, 256] (inb_group g), k0_pay25 (early u w v g) (mat wg g)⟩
def mix : Vec Ideal S512x1024 .f32 := (View.whole cc0_scratch1).readCov (Val := Elt Ideal) (e := .f32)
  [prod u w v wg 3, prod u w v wg 2, prod u w v wg 1, prod u w v wg 0]
  (Rect.unit (s := S512x1024) ![0, 0] ![512, 1024] inb_S512x1024_S512x1024_0_0).toLoadRect

variable {u w v wg} {U : ℕ → Fin 1024 → ℝ} {q : ℕ} {Wg : Fin 4 → Fin 256 → Fin 256 → ℝ}
  (hu : ∀ r l, u (ix3 0 r l) = (U (q * 64 + r.val) l : EReal)) (hw : ∀ g R S, w (ix3 g R S) = (mask g.val R.val S.val : EReal))
  (hv : ∀ g R, v (ix3 g R 0) = ((1 / (len g.val (R.val % 64) : ℕ) : ℝ) : EReal)) (hg : ∀ g i k, wg (ix3 g i k) = (Wg g i k : EReal))

include hu hw hv in
theorem early_coe (g : Fin 4) (r : Fin 512) (k : Fin 256) : early u w v g (ix2 r k) = (pooled U (q * 64 + r.val) (lane g k) : EReal) := by
  unfold early
  rw [View.readCov_eq_canon']
  dsimp only
  rw [idx_group]
  exact canon_group hu hw hv (stored_piece u w v g) g (piece_stored u w v g) r k

include hu hw hv in
theorem late_coe (g : Fin 4) (r : Fin 512) (k : Fin 256) : late u w v g (ix2 r k) = (pooled U (q * 64 + r.val) (lane g k) : EReal) := by
  unfold late
  rw [View.readCov_eq_canon']
  dsimp only
  rw [idx_group]
  exact canon_group hu hw hv (stored_piece u w v 3) g (fun h => by fin_cases g <;> fin_cases h <;> simp [stored]) r k

include hu hw hv hg in
theorem mix_coe (r : Fin 512) (l : Fin 1024) : mix u w v wg (ix2 r l) = (mixed U Wg (q * 64 + r.val) l : EReal) := by
  have e : mix u w v wg = LossStage.mix u w v wg := by
    unfold mix LossStage.mix
    rw [View.readCov_eq_canon', View.readCov_eq_canon']
    have e : ∀ g, prod u w v wg g = LossStage.prod u w v wg g := fun g => by
      unfold prod LossStage.prod early LossStage.group
      rw [View.readCov_eq_canon', View.readCov_eq_canon']
      rfl
    rw [e 0, e 1, e 2, e 3]
    rfl
  rw [e]
  exact LossStage.mix_coe hu hw hv hg r l

end

/-! ## The groups' gradients, stored and read back -/

section
variable (B : Vec Ideal S512x1024 .f32) (wg wt : Vec Ideal S4x256x256 .bf16) (v : Vec Ideal S4x256x1 .f32)

/-- Group `g`'s lanes of the scratch that holds the products' cotangent. -/
def lanesOf (g : Fin 4) : Vec Ideal S512x256 .f32 := (View.whole cc0_scratch2).readCov (Val := Elt Ideal) (e := .f32)
  [⟨Rect.unit (s := S512x1024) ![0, 0] ![512, 1024] inb_S512x1024_S512x1024_0_0, B⟩]
  (Rect.unit (s := S512x1024) ![0, g.val * 256] ![512, 256] (inb_group g)).toLoadRect

theorem lanesOf_apply (g : Fin 4) (r : Fin 512) (k : Fin 256) : lanesOf B g (ix2 r k) = B (ix2 r (lane g k)) := by
  unfold lanesOf
  rw [View.readCov_eq_canon']
  dsimp only
  rw [idx_group]
  have e : (Rect.unit (s := S512x1024) ![0, 0] ![512, 1024] inb_S512x1024_S512x1024_0_0).emb (ix2 r (lane g k)) = ix2 r (lane g k) := by
    funext a
    refine Fin.ext ((Rect.idx_unit_val ..).trans ?_)
    fin_cases a <;> exact Nat.zero_add _
  conv_lhs => rw [← e]
  exact View.canon_cons_emb _ _ _ _

theorem inb_lanes (g : Fin 4) (h : Fin 2) : ∀ a, ![0, h.val * 256, g.val * 256] a + ![1, 256, 256] a ≤ S2x512x1024.size a :=
  fun a => by fin_cases a <;> dsimp <;> omega

/-- Half `h` of group `g`'s lanes' gradient, stored. -/
def lanesPay (g : Fin 4) : Fin 2 → Vec Ideal S1x256x256 .bf16
  | 0 => k0_pay58 (lanesOf B g) (mat wg g) (mat wt g) (col v g)
  | 1 => k0_pay1 (k0_pay56 (lanesOf B g) (mat wg g)) (mat wt g) (col v g)
def lanesPiece (g : Fin 4) (h : Fin 2) : View.Piece (Elt Ideal) S2x512x1024 .bf16 :=
  ⟨Rect.unit ![0, h.val * 256, g.val * 256] ![1, 256, 256] (inb_lanes g h), lanesPay B wg wt v g h⟩
def lanesPieces : List (View.Piece (Elt Ideal) S2x512x1024 .bf16) :=
  [lanesPiece B wg wt v 3 1, lanesPiece B wg wt v 3 0, lanesPiece B wg wt v 2 1, lanesPiece B wg wt v 2 0,
    lanesPiece B wg wt v 1 1, lanesPiece B wg wt v 1 0, lanesPiece B wg wt v 0 1, lanesPiece B wg wt v 0 0]
/-- The gate's argument's gradient, stored before them. -/
def gatePiece (G : Vec Ideal S1x512x1024 .bf16) : View.Piece (Elt Ideal) S2x512x1024 .bf16 :=
  ⟨Rect.unit ![1, 0, 0] ![1, 512, 1024] inb_S2x512x1024_S1x512x1024_1_0_0, G⟩

variable {B wg wt v} {Z D : ℕ → Fin 1024 → ℝ} {Ga Ps : Fin 1024 → ℝ} {Wg : Fin 4 → Fin 256 → Fin 256 → ℝ} {W : Fin 1024 → Fin 1024 → ℝ} {q : ℕ}
  (hB : ∀ r l, B (ix2 r l) = (dMixed Z D Ga Ps W (q * 64 + r.val) l : EReal)) (hg : ∀ g i k, wg (ix3 g i k) = (Wg g i k : EReal))
  (ht : ∀ g R S, wt (ix3 g R S) = (mask g.val S.val R.val : EReal)) (hv : ∀ g R, v (ix3 g R 0) = ((1 / (len g.val (R.val % 64) : ℕ) : ℝ) : EReal))

include hB hg ht hv in
theorem lanesPay_coe (g : Fin 4) (h : Fin 2) (R k : Fin 256) : lanesPay B wg wt v g h (ix3 0 R k)
    = (dLanes Z D Ga Ps Wg W (q * 64 + (h.val * 256 + R.val)) (lane g k) : EReal) := by
  have hN : ∀ r k, lanesOf B g (ix2 r k) = (dMixed Z D Ga Ps W (q * 64 + r.val) (lane g k) : EReal) := fun r k => (lanesOf_apply B g r k).trans (hB _ _)
  have hg' : ∀ i k, mat wg g (ix3 0 i k) = (Wg g i k : EReal) := fun i k => (mat_apply wg g i k).trans (hg g i k)
  have ht' : ∀ i k, mat wt g (ix3 0 i k) = (mask g.val k.val i.val : EReal) := fun i k => (mat_apply wt g i k).trans (ht g i k)
  have hv' : ∀ R, col v g (ix3 0 R 0) = ((1 / (len g.val (R.val % 64) : ℕ) : ℝ) : EReal) := fun R => (col_apply v g R).trans (hv g R)
  obtain rfl | rfl : h = 0 ∨ h = 1 := by omega
  · refine (dLanes0_coe hN hg' ht' hv' R k).trans ?_
    rw [show ((0 : Fin 2).val * 256 + R.val) = R.val by simp]
  · refine (dLanes1_coe hN hg' ht' hv' R k).trans ?_
    rw [show ((1 : Fin 2).val * 256 + R.val) = 256 + R.val by simp]

include hB hg ht hv in
theorem canon_lanes (G : Vec Ideal S1x512x1024 .bf16) (r : Fin 512) (l : Fin 1024) :
    View.canon (lanesPieces B wg wt v ++ [gatePiece G]) (ix3 0 r l) = (dLanes Z D Ga Ps Wg W (q * 64 + r.val) l : EReal) := by
  refine canon_append _ _ _ _ ⟨lanesPiece B wg wt v (grp l) ⟨r.val / 256, by omega⟩, ?_, ?_⟩ ?_
  · generalize grp l = g
    generalize (⟨r.val / 256, by omega⟩ : Fin 2) = h
    fin_cases g <;> fin_cases h <;> simp [lanesPieces]
  · refine (Rect.mem_set_unit (inb := inb_lanes (grp l) ⟨r.val / 256, by omega⟩)).mpr fun a => ?_
    fin_cases a <;> dsimp <;> (try unfold grp) <;> (try dsimp) <;> omega
  · intro p hp x hx
    obtain ⟨g, h, rfl⟩ : ∃ g h, p = lanesPiece B wg wt v g h := by
      simp only [lanesPieces, List.mem_cons, List.not_mem_nil, or_false] at hp
      rcases hp with h | h | h | h | h | h | h | h <;> exact ⟨_, _, h⟩
    obtain ⟨R, S, rfl⟩ : ∃ (R S : Fin 256), x = ix3 0 R S := ⟨x 1, x 2, by rw [eq_ix3 x]; congr 1; exact Subsingleton.elim (α := Fin 1) _ _⟩
    replace hx : (Rect.unit (s := S2x512x1024) ![0, h.val * 256, g.val * 256] ![1, 256, 256] (inb_lanes g h)).idx (ix3 0 R S) = ix3 0 r l := hx
    have e1 := Rect.idx_unit_val (s := S2x512x1024) ![0, h.val * 256, g.val * 256] ![1, 256, 256] (inb_lanes g h) (ix3 0 R S) 1
    have e2 := Rect.idx_unit_val (s := S2x512x1024) ![0, h.val * 256, g.val * 256] ![1, 256, 256] (inb_lanes g h) (ix3 0 R S) 2
    rw [hx] at e1 e2
    have h1 : h.val * 256 + R.val = r.val := e1.symm
    have h2 : lane g S = l := Fin.ext e2.symm
    rw [← h2, ← h1]
    exact lanesPay_coe hB hg ht hv g h R S

theorem canon_gate (G : Vec Ideal S1x512x1024 .bf16) (r : Fin 512) (l : Fin 1024) :
    View.canon (lanesPieces B wg wt v ++ [gatePiece G]) (ix3 1 r l) = G (ix3 0 r l) := by
  refine View.canon_eq_of_allAt _ _ _ ⟨gatePiece G, by simp, ?_⟩ ?_
  · refine (Rect.mem_set_unit (inb := inb_S2x512x1024_S1x512x1024_1_0_0)).mpr fun a => ?_
    fin_cases a <;> dsimp <;> omega
  · intro p hp x hx
    rcases List.mem_append.mp hp with hp | hp
    · obtain ⟨g, h, rfl⟩ : ∃ g h, p = lanesPiece B wg wt v g h := by
        simp only [lanesPieces, List.mem_cons, List.not_mem_nil, or_false] at hp
        rcases hp with h | h | h | h | h | h | h | h <;> exact ⟨_, _, h⟩
      replace hx : (Rect.unit (s := S2x512x1024) ![0, h.val * 256, g.val * 256] ![1, 256, 256] (inb_lanes g h)).idx x = ix3 1 r l := hx
      have e0 := Rect.idx_unit_val (s := S2x512x1024) ![0, h.val * 256, g.val * 256] ![1, 256, 256] (inb_lanes g h) x 0
      rw [hx] at e0
      have h0 : (1 : ℕ) = 0 + (x 0).val := e0
      have : (x 0).val < 1 := (x 0).isLt
      omega
    · obtain rfl := List.mem_singleton.mp hp
      obtain ⟨R, S, rfl⟩ : ∃ (R : Fin 512) (S : Fin 1024), x = ix3 0 R S := ⟨x 1, x 2, by rw [eq_ix3 x]; congr 1; exact Subsingleton.elim (α := Fin 1) _ _⟩
      replace hx : (Rect.unit (s := S2x512x1024) ![1, 0, 0] ![1, 512, 1024] inb_S2x512x1024_S1x512x1024_1_0_0).idx (ix3 0 R S) = ix3 1 r l := hx
      have e1 := Rect.idx_unit_val (s := S2x512x1024) ![1, 0, 0] ![1, 512, 1024] inb_S2x512x1024_S1x512x1024_1_0_0 (ix3 0 R S) 1
      have e2 := Rect.idx_unit_val (s := S2x512x1024) ![1, 0, 0] ![1, 512, 1024] inb_S2x512x1024_S1x512x1024_1_0_0 (ix3 0 R S) 2
      rw [hx] at e1 e2
      obtain rfl : R = r := Fin.ext ((Nat.zero_add _).symm.trans e1.symm)
      obtain rfl : S = l := Fin.ext ((Nat.zero_add _).symm.trans e2.symm)
      rfl

end

/-! ## The groups' matrices' gradients -/

section
variable (B : Vec Ideal S512x1024 .f32) (P : Fin 4 → Vec Ideal S512x256 .f32) (Q : Fin 4 → Vec Ideal S1x256x256 .f32)

/-- Group `g`'s sum, stored: what it held (`Q`) and this point's product. -/
def sumPiece (P : Vec Ideal S512x256 .f32) (Q : Vec Ideal S1x256x256 .f32) (g : Fin 4) : View.Piece (Elt Ideal) S4x256x256 .f32 :=
  ⟨Rect.unit ![g.val, 0, 0] ![1, 256, 256] (inb_mat g), k0_pay57 (lanesOf B g) Q P⟩
def sumPieces : List (View.Piece (Elt Ideal) S4x256x256 .f32) :=
  [sumPiece B (P 3) (Q 3) 3, sumPiece B (P 2) (Q 2) 2, sumPiece B (P 1) (Q 1) 1, sumPiece B (P 0) (Q 0) 0]

variable {B P Q} {U Z D : ℕ → Fin 1024 → ℝ} {Ga Ps : Fin 1024 → ℝ} {W : Fin 1024 → Fin 1024 → ℝ} {q : ℕ}
  (hB : ∀ r l, B (ix2 r l) = (dMixed Z D Ga Ps W (q * 64 + r.val) l : EReal))
  (hP : ∀ g r k, P g (ix2 r k) = (pooled U (q * 64 + r.val) (lane g k) : EReal))

theorem idx_mat (g : Fin 4) (i k : Fin 256) : (Rect.unit (s := S4x256x256) ![g.val, 0, 0] ![1, 256, 256] (inb_mat g)).idx (ix3 0 i k) = ix3 g i k := by
  funext a
  refine Fin.ext ((Rect.idx_unit_val ..).trans ?_)
  fin_cases a
  · rfl
  · exact Nat.zero_add _
  · exact Nat.zero_add _

include hB hP in
theorem canon_sum (L' : List (View.Piece (Elt Ideal) S4x256x256 .f32)) (g : Fin 4) (i k : Fin 256) :
    View.canon (sumPieces B P Q ++ L') (ix3 g i k)
      = Q g (ix3 0 i k) + ((∑ r : Fin 512, dGroupRow U Z D Ga Ps W (q * 64 + r.val) g i k : ℝ) : EReal) := by
  refine canon_append _ _ _ _ ⟨sumPiece B (P g) (Q g) g, ?_, ?_⟩ ?_
  · fin_cases g <;> simp [sumPieces]
  · refine (Rect.mem_set_unit (inb := inb_mat g)).mpr fun a => ?_
    fin_cases a <;> dsimp <;> omega
  · intro p hp x hx
    obtain ⟨g', rfl⟩ : ∃ g', p = sumPiece B (P g') (Q g') g' := by
      simp only [sumPieces, List.mem_cons, List.not_mem_nil, or_false] at hp
      rcases hp with h | h | h | h <;> exact ⟨_, h⟩
    obtain ⟨R, S, rfl⟩ : ∃ (R S : Fin 256), x = ix3 0 R S := ⟨x 1, x 2, by rw [eq_ix3 x]; congr 1; exact Subsingleton.elim (α := Fin 1) _ _⟩
    replace hx : (Rect.unit (s := S4x256x256) ![g'.val, 0, 0] ![1, 256, 256] (inb_mat g')).idx (ix3 0 R S) = ix3 g i k := hx
    rw [idx_mat] at hx
    have h0 := congrFun hx 0
    have h1 := congrFun hx 1
    have h2 := congrFun hx 2
    obtain rfl : g' = g := h0
    obtain rfl : R = i := h1
    obtain rfl : S = k := h2
    exact dGroup_coe (fun r k => (lanesOf_apply B g' r k).trans (hB _ _)) (hP g') (Q g') R S

/-- The zeros of the first point, and what a group's place holds with the pieces `L` on top of them. -/
def zeros : View.Piece (Elt Ideal) S4x256x256 .f32 :=
  ⟨Rect.unit (s := S4x256x256) ![0, 0, 0] ![4, 256, 256] inb_S4x256x256_S4x256x256_0_0_0, (k0_pay5 (F := Ideal) : Vec Ideal S4x256x256 .f32)⟩
def held (L : List (View.Piece (Elt Ideal) S4x256x256 .f32)) (g : Fin 4) : Vec Ideal S1x256x256 .f32 :=
  (View.whole cc0_scratch4).readCov (Val := Elt Ideal) (e := .f32) (L ++ [zeros]) (Rect.unit (s := S4x256x256) ![g.val, 0, 0] ![1, 256, 256] (inb_mat g)).toLoadRect

/-- The groups' places at the first point, each read after the groups before it are stored. -/
def first0 : Vec Ideal S1x256x256 .f32 := held [] 0
variable (B P) in
def first1 : Vec Ideal S1x256x256 .f32 := held [sumPiece B (P 0) first0 0] 1
variable (B P) in
def first2 : Vec Ideal S1x256x256 .f32 := held [sumPiece B (P 1) (first1 B P) 1, sumPiece B (P 0) first0 0] 2
variable (B P) in
def first3 : Vec Ideal S1x256x256 .f32 := held [sumPiece B (P 2) (first2 B P) 2, sumPiece B (P 1) (first1 B P) 1, sumPiece B (P 0) first0 0] 3

/-- Only other groups' pieces lie on top of the zeros: the place still holds zero. -/
theorem held_zero (L : List (View.Piece (Elt Ideal) S4x256x256 .f32)) (g : Fin 4) (hL : ∀ p ∈ L, ∃ g' x y, g' ≠ g ∧ p = sumPiece B x y g')
    (i k : Fin 256) : held L g (ix3 0 i k) = (0 : EReal) := by
  unfold held
  rw [View.readCov_eq_canon']
  dsimp only
  rw [idx_mat]
  refine View.canon_eq_of_allAt _ _ _ ⟨zeros, List.mem_append_right _ (List.mem_singleton.mpr rfl), ?_⟩ ?_
  · refine (Rect.mem_set_unit (inb := inb_S4x256x256_S4x256x256_0_0_0)).mpr fun a => ?_
    fin_cases a <;> dsimp <;> omega
  · intro p hp x hx
    rcases List.mem_append.mp hp with hp | hp
    · obtain ⟨g', _, _, hne, rfl⟩ := hL p hp
      replace hx : (Rect.unit (s := S4x256x256) ![g'.val, 0, 0] ![1, 256, 256] (inb_mat g')).idx x = ix3 g i k := hx
      have e0 := Rect.idx_unit_val (s := S4x256x256) ![g'.val, 0, 0] ![1, 256, 256] (inb_mat g') x 0
      rw [hx] at e0
      have h0 : g.val = g'.val + (x 0).val := e0
      have : (x 0).val < 1 := (x 0).isLt
      exact absurd (Fin.ext (by omega)) hne
    · obtain rfl := List.mem_singleton.mp hp
      obtain ⟨a, b, c, rfl⟩ : ∃ (a : Fin 4) (b c : Fin 256), x = ix3 a b c := ⟨x 0, x 1, x 2, eq_ix3 x⟩
      show k0_pay5 (F := Ideal) (ix3 a b c) = _
      pointwise [k0_pay5]

theorem mem_other (g g' : Fin 4) (h : g' ≠ g) (x : Vec Ideal S512x256 .f32) (y : Vec Ideal S1x256x256 .f32) :
    ∃ a x' y', a ≠ g ∧ sumPiece B x y g' = sumPiece B x' y' a := ⟨g', x, y, h, rfl⟩

theorem first0_zero (i k : Fin 256) : first0 (ix3 0 i k) = (0 : EReal) := held_zero (B := fun _ => (0 : EReal)) [] 0 (by simp) i k
theorem first1_zero (i k : Fin 256) : first1 B P (ix3 0 i k) = (0 : EReal) :=
  held_zero _ 1 (List.forall_mem_cons.mpr ⟨mem_other 1 0 (by decide) _ _, by simp⟩) i k
theorem first2_zero (i k : Fin 256) : first2 B P (ix3 0 i k) = (0 : EReal) :=
  held_zero _ 2 (List.forall_mem_cons.mpr ⟨mem_other 2 1 (by decide) _ _, List.forall_mem_cons.mpr ⟨mem_other 2 0 (by decide) _ _, by simp⟩⟩) i k
theorem first3_zero (i k : Fin 256) : first3 B P (ix3 0 i k) = (0 : EReal) :=
  held_zero _ 3 (List.forall_mem_cons.mpr ⟨mem_other 3 2 (by decide) _ _, List.forall_mem_cons.mpr ⟨mem_other 3 1 (by decide) _ _,
    List.forall_mem_cons.mpr ⟨mem_other 3 0 (by decide) _ _, by simp⟩⟩⟩) i k

variable (B P) in
def firsts : Fin 4 → Vec Ideal S1x256x256 .f32
  | 0 => first0
  | 1 => first1 B P
  | 2 => first2 B P
  | 3 => first3 B P

theorem firsts_zero : ∀ (g : Fin 4) (i k : Fin 256), firsts B P g (ix3 0 i k) = (0 : EReal)
  | 0 => first0_zero
  | 1 => first1_zero
  | 2 => first2_zero
  | 3 => first3_zero

end

end Cert.PoolStage

end
-- ==== Proof.PoolBackOut.lean ====
/- What one grid point of the pooling mixer's backward kernel leaves in its outputs and its carried sums. -/
module

public import proofs.«01_k».proof.Proof.PoolBackPoint

@[expose] public section

set_option maxRecDepth 16384

noncomputable section

namespace Cert.PoolStage

open Cert.PoolBackIdeal Cert.PoolBackIdeal.Gen Idealize.ShloMosaic Idealize.ShloMosaic.TcCoe Idealize.SL.Sem
open Cert.Reals Cert.Norm Cert.Silu Cert.Pool
open Cert.LossStage (piece stored stored_piece piece_stored inb_piece inb_group idx_group canon_group prod_coe)

/-! ## What a point leaves -/

section
variable (m : (ℓ : Loc nD τ sig) → Buf (Elt Ideal) ℓ) (c : Dev nD) (t : Fin cfg0.N)
variable (U Z D : ℕ → Fin 1024 → ℝ) (Ga Ps : Fin 1024 → ℝ) (Wg : Fin 4 → Fin 256 → Fin 256 → ℝ) (W : Fin 1024 → Fin 1024 → ℝ)

/-- The point's blocks are these real ones; a point holds eight grid rows. -/
structure Reads : Prop where
  hx : ∀ r l, (iblk m c 0 t : Vec Ideal S512x1024 .f32) (ix2 r l) = (D (t.val * 8 * 64 + r.val) l : EReal)
  hu : ∀ r l, (iblk m c 1 t : Vec Ideal S1x512x1024 .f32) (ix3 0 r l) = (U (t.val * 8 * 64 + r.val) l : EReal)
  hz : ∀ r l, (iblk m c 2 t : Vec Ideal S1x512x1024 .f32) (ix3 0 r l) = (Z (t.val * 8 * 64 + r.val) l : EReal)
  hga : ∀ l, (iblk m c 3 t : Vec Ideal S1x1024 .f32) (ix2 0 l) = (Ga l : EReal)
  hwg : ∀ g i k, (iblk m c 4 t : Vec Ideal S4x256x256 .bf16) (ix3 g i k) = (Wg g i k : EReal)
  hps : ∀ l, (iblk m c 5 t : Vec Ideal S1x1024 .f32) (ix2 0 l) = (Ps l : EReal)
  hw : ∀ i k, (iblk m c 6 t : Vec Ideal S1024x1024 .bf16) (ix2 i k) = (W i k : EReal)
  hwin : ∀ g R S, (iblk m c 7 t : Vec Ideal S4x256x256 .bf16) (ix3 g R S) = (mask g.val R.val S.val : EReal)
  hwint : ∀ g R S, (iblk m c 8 t : Vec Ideal S4x256x256 .bf16) (ix3 g R S) = (mask g.val S.val R.val : EReal)
  hinv : ∀ g R, (iblk m c 9 t : Vec Ideal S4x256x1 .f32) (ix3 g R 0) = ((1 / (len g.val (R.val % 64) : ℕ) : ℝ) : EReal)

variable {m c t U Z D Ga Ps Wg W}

/-- What the points carry, before a point adds to it. -/
abbrev prev := outsAt0 m c (t.val - 1) (Nat.lt_of_le_of_lt (Nat.sub_le _ _) t.isLt)

theorem lanes_out (H : Reads m c t U Z D Ga Ps Wg W) (r : Fin 512) (l : Fin 1024) :
    (outsAt0 m c t.val t.isLt).1 (ix3 0 r l) = (dLanes Z D Ga Ps Wg W (t.val * 8 * 64 + r.val) l : EReal) := by
  have hB := dMixed_coe H.hz H.hx H.hga H.hps H.hw
  obtain ⟨h0, h1⟩ | ⟨h0, h1⟩ | ⟨h0, h1⟩ : (t.val % 4 = 0 ∧ ¬ t.val % 4 = 3) ∨ (¬ t.val % 4 = 0 ∧ ¬ t.val % 4 = 3) ∨ (¬ t.val % 4 = 0 ∧ t.val % 4 = 3) := by omega
  on_goal 1 => rw [outsAt0_A m c t h0 h1]
  on_goal 2 => rw [outsAt0_B m c t h0 h1]
  on_goal 3 => rw [outsAt0_C m c t h0 h1]
  all_goals
    frame_out
    exact canon_lanes hB H.hwg H.hwint H.hinv _ r l

theorem gate_out (H : Reads m c t U Z D Ga Ps Wg W) (r : Fin 512) (l : Fin 1024) :
    (outsAt0 m c t.val t.isLt).1 (ix3 1 r l) = (dGate U Z D Ga Ps Wg W (t.val * 8 * 64 + r.val) l : EReal) := by
  have hM := mix_coe H.hu H.hwin H.hinv H.hwg
  obtain ⟨h0, h1⟩ | ⟨h0, h1⟩ | ⟨h0, h1⟩ : (t.val % 4 = 0 ∧ ¬ t.val % 4 = 3) ∨ (¬ t.val % 4 = 0 ∧ ¬ t.val % 4 = 3) ∨ (¬ t.val % 4 = 0 ∧ t.val % 4 = 3) := by omega
  on_goal 1 => rw [outsAt0_A m c t h0 h1]
  on_goal 2 => rw [outsAt0_B m c t h0 h1]
  on_goal 3 => rw [outsAt0_C m c t h0 h1]
  all_goals
    frame_out
    exact (canon_gate (B := k0_pay35 (k0_pay32 (k0_pay27 (iblk m c 2 t)) (iblk m c 0 t) (iblk m c 3 t) (iblk m c 6 t)) (iblk m c 5 t))
      (wg := iblk m c 4 t) (wt := iblk m c 8 t) (v := iblk m c 9 t) _ r l).trans (dGate_coe hM H.hz H.hx H.hga H.hps H.hw r l)

theorem scale_out (H : Reads m c t U Z D Ga Ps Wg W) (l : Fin 1024) :
    (outsAt0 m c t.val t.isLt).2.2.2.1 (ix2 0 l) = (if t.val % 4 = 0 then 0 else (prev (m := m) (c := c) (t := t)).2.2.2.1 (ix2 0 l))
      + ((∑ r : Fin 512, dScaleRow U Z D Ga Wg W (t.val * 8 * 64 + r.val) l : ℝ) : EReal) := by
  have hM := mix_coe H.hu H.hwin H.hinv H.hwg
  obtain ⟨h0, h1⟩ | ⟨h0, h1⟩ | ⟨h0, h1⟩ : (t.val % 4 = 0 ∧ ¬ t.val % 4 = 3) ∨ (¬ t.val % 4 = 0 ∧ ¬ t.val % 4 = 3) ∨ (¬ t.val % 4 = 0 ∧ t.val % 4 = 3) := by omega
  on_goal 1 => rw [outsAt0_A m c t h0 h1]
  on_goal 2 => rw [outsAt0_B m c t h0 h1]
  on_goal 3 => rw [outsAt0_C m c t h0 h1]
  all_goals
    frame_out
    try simp (disch := decide) only [↓ View.readCov_cons_toLoadRect, read_unread_whole]
    refine (dScale_coe hM H.hz H.hx H.hga H.hw _ l).trans ?_
    congr 1
    first
    | rw [if_neg (by omega)]
    | rw [if_pos h0]
      pointwise [k0_pay6]

theorem proj_sum (H : Reads m c t U Z D Ga Ps Wg W) (l j : Fin 1024) :
    (outsAt0 m c t.val t.isLt).2.2.2.2.1 (ix2 l j) = (if t.val % 4 = 0 then 0 else (prev (m := m) (c := c) (t := t)).2.2.2.2.1 (ix2 l j))
      + ((∑ r : Fin 512, dProjRow U Z D Ga Ps Wg (t.val * 8 * 64 + r.val) l j : ℝ) : EReal) := by
  have hM := mix_coe H.hu H.hwin H.hinv H.hwg
  obtain ⟨h0, h1⟩ | ⟨h0, h1⟩ | ⟨h0, h1⟩ : (t.val % 4 = 0 ∧ ¬ t.val % 4 = 3) ∨ (¬ t.val % 4 = 0 ∧ ¬ t.val % 4 = 3) ∨ (¬ t.val % 4 = 0 ∧ t.val % 4 = 3) := by omega
  on_goal 1 => rw [outsAt0_A m c t h0 h1]
  on_goal 2 => rw [outsAt0_B m c t h0 h1]
  on_goal 3 => rw [outsAt0_C m c t h0 h1]
  all_goals
    frame_out
    try simp (disch := decide) only [↓ View.readCov_cons_toLoadRect, read_unread_whole]
    refine (dProj_coe hM H.hz H.hx H.hga H.hps _ l j).trans ?_
    congr 1
    first
    | rw [if_neg (by omega)]
    | rw [if_pos h0]
      pointwise [k0_pay4]

/-- At the last point the projection's gradient leaves the scratch. -/
theorem proj_out (H : Reads m c t U Z D Ga Ps Wg W) (h1 : t.val % 4 = 3) (l j : Fin 1024) :
    (outsAt0 m c t.val t.isLt).2.1 (ix2 l j) = (outsAt0 m c t.val t.isLt).2.2.2.2.1 (ix2 l j) := by
  refine Eq.trans ?_ (proj_sum H l j).symm
  have hM := mix_coe H.hu H.hwin H.hinv H.hwg
  have h0 : ¬ t.val % 4 = 0 := by omega
  rw [outsAt0_C m c t h0 h1, if_neg h0]
  frame_out
  try simp (disch := decide) only [↓ View.readCov_cons_toLoadRect, read_unread_whole]
  refine Eq.trans ?_ (dProj_coe hM H.hz H.hx H.hga H.hps _ l j)
  pointwise [k0_pay2]
  rfl

variable (m c t) in
/-- The products' cotangent of a point, and the groups' sums it finds. -/
abbrev pB : Vec Ideal S512x1024 .f32 := k0_pay35 (k0_pay32 (k0_pay27 (iblk m c 2 t)) (iblk m c 0 t) (iblk m c 3 t) (iblk m c 6 t)) (iblk m c 5 t)
variable (m c t) in
abbrev pQ (g : Fin 4) : Vec Ideal S1x256x256 .f32 := View.ld (Val := Elt Ideal) (e' := .f32) (prev (m := m) (c := c) (t := t)).2.2.2.2.2
  (Rect.unit (s := S4x256x256) ![g.val, 0, 0] ![1, 256, 256] (inb_mat g))

theorem pQ_apply (g : Fin 4) (i k : Fin 256) : pQ m c t g (ix3 0 i k) = (prev (m := m) (c := c) (t := t)).2.2.2.2.2 (ix3 g i k) := by
  refine View.ld_unit_apply_of _ _ _ _ _ (ix3 g i k) fun a => ?_
  fin_cases a
  · rfl
  · exact (Nat.zero_add _).symm
  · exact (Nat.zero_add _).symm

set_option maxHeartbeats 4000000 in
theorem group_sum (H : Reads m c t U Z D Ga Ps Wg W) (g : Fin 4) (i k : Fin 256) :
    (outsAt0 m c t.val t.isLt).2.2.2.2.2 (ix3 g i k) = (if t.val % 4 = 0 then 0 else (prev (m := m) (c := c) (t := t)).2.2.2.2.2 (ix3 g i k))
      + ((∑ r : Fin 512, dGroupRow U Z D Ga Ps W (t.val * 8 * 64 + r.val) g i k : ℝ) : EReal) := by
  have hB := dMixed_coe H.hz H.hx H.hga H.hps H.hw
  have hP := late_coe H.hu H.hwin H.hinv
  obtain ⟨h0, h1⟩ | ⟨h0, h1⟩ | ⟨h0, h1⟩ : (t.val % 4 = 0 ∧ ¬ t.val % 4 = 3) ∨ (¬ t.val % 4 = 0 ∧ ¬ t.val % 4 = 3) ∨ (¬ t.val % 4 = 0 ∧ t.val % 4 = 3) := by omega
  on_goal 1 => rw [outsAt0_A m c t h0 h1]
  on_goal 2 => rw [outsAt0_B m c t h0 h1]
  on_goal 3 => rw [outsAt0_C m c t h0 h1]
  all_goals
    frame_out
  · rw [if_pos h0]
    refine (canon_sum (P := late (iblk m c 1 t) (iblk m c 7 t) (iblk m c 9 t)) (Q := firsts (pB m c t) (late (iblk m c 1 t) (iblk m c 7 t) (iblk m c 9 t))) hB hP [zeros] g i k).trans ?_
    rw [firsts_zero]
  all_goals
    rw [if_neg h0]
    try simp (disch := decide) only [↓ View.readCov_cons_toLoadRect, read_unread_whole]
    refine (canon_sum (P := late (iblk m c 1 t) (iblk m c 7 t) (iblk m c 9 t)) (Q := pQ m c t) hB hP [] g i k).trans ?_
    rw [pQ_apply]

set_option maxHeartbeats 4000000 in
/-- At the last point the groups' gradients leave the scratch. -/
theorem group_out (H : Reads m c t U Z D Ga Ps Wg W) (h1 : t.val % 4 = 3) (g : Fin 4) (i k : Fin 256) :
    (outsAt0 m c t.val t.isLt).2.2.1 (ix3 g i k) = (outsAt0 m c t.val t.isLt).2.2.2.2.2 (ix3 g i k) := by
  refine Eq.trans ?_ (group_sum H g i k).symm
  have hB := dMixed_coe H.hz H.hx H.hga H.hps H.hw
  have hP := late_coe H.hu H.hwin H.hinv
  have h0 : ¬ t.val % 4 = 0 := by omega
  rw [outsAt0_C m c t h0 h1, if_neg h0]
  frame_out
  try simp (disch := decide) only [↓ View.readCov_cons_toLoadRect, read_unread_whole]
  have e : (Rect.unit (s := S4x256x256) ![0, 0, 0] ![4, 256, 256] inb_S4x256x256_S4x256x256_0_0_0).idx (ix3 g i k) = ix3 g i k := by
    funext a
    refine Fin.ext ((Rect.idx_unit_val ..).trans ?_)
    fin_cases a <;> exact Nat.zero_add _
  have e3 : ∀ x : Vec Ideal S4x256x256 .f32, k0_pay3 x (ix3 g i k) = x (ix3 g i k) := fun x => by pointwise [k0_pay3]
  refine (e3 _).trans ?_
  rw [View.readCov_eq_canon']
  dsimp only
  rw [e]
  refine (canon_sum (P := late (iblk m c 1 t) (iblk m c 7 t) (iblk m c 9 t)) (Q := pQ m c t) hB hP [] g i k).trans ?_
  rw [pQ_apply]

end

end Cert.PoolStage

end
-- ==== Proof.PoolBackArray.lean ====
/- The pooling mixer's backward kernel over its whole arrays: where each block sits, the sums over the four points, and the
   four result arrays as functions of real arrays. -/
module

public import proofs.«01_k».proof.Proof.PoolBackOut

@[expose] public section

set_option maxRecDepth 16384

noncomputable section

namespace Cert.PoolStage

open Cert.PoolBackIdeal Cert.PoolBackIdeal.Gen Idealize.ShloMosaic Idealize.ShloMosaic.TcCoe Idealize.SL.Sem
open Cert.Reals Cert.Norm Cert.Silu Cert.Pool

variable (m : (ℓ : Loc nD τ sig) → Buf (Elt Ideal) ℓ) (c : Dev nD) (t : Fin cfg0.N)

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![1, t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, t.val, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0] := (by decide +kernel : ∀ t : Fin grid0.N, _)

/-- Row `r` of point `t`'s block. -/
def row (r : Fin 512) : Fin 2048 := ⟨t.val * 512 + r.val, by have := t.isLt; have : cfg0.N = 4 := N_0; omega⟩

theorem rows_total : cfg0.N * 512 = 2048 := by rw [show cfg0.N = 4 from N_0]
theorem last (h : t.val % 4 = 3) : t.val + 1 = cfg0.N := by have := t.isLt; have : cfg0.N = 4 := N_0; omega
theorem row_eq (r : ℕ) : t.val * 8 * 64 + r = t.val * 512 + r := by omega

/-- The windows, the transposed windows and the inverse lengths, as the host's own operations leave them. -/
theorem win_V : V m c main_v35 = (truncf .bf16 (window : FVec Ideal S4x256x256 .f32) bitsLt_bf16_f32 : FVec Ideal S4x256x256 .bf16) := by
  unfold V hostOps0
  after_results
  rfl

theorem wint_V : V m c main_v37 = (truncf .bf16 (transpose S4x256x256 [0, 2, 1] (window : FVec Ideal S4x256x256 .f32)
    transposes_S4x256x256_S4x256x256_0_2_1 : FVec Ideal S4x256x256 .f32) bitsLt_bf16_f32 : FVec Ideal S4x256x256 .bf16) := by
  unfold V hostOps0
  after_results
  rfl

theorem inv_V : V m c main_v34 = invLen := by
  unfold V hostOps0
  after_results
  rfl

theorem wint_apply (g : Fin 4) (R S : Fin 256) : (truncf .bf16 (transpose S4x256x256 [0, 2, 1] (window : FVec Ideal S4x256x256 .f32)
    transposes_S4x256x256_S4x256x256_0_2_1 : FVec Ideal S4x256x256 .f32) bitsLt_bf16_f32 : FVec Ideal S4x256x256 .bf16) (ix3 g R S)
      = (mask g.val S.val R.val : EReal) := by
  rw [← window_apply]
  generalize (window : FVec Ideal S4x256x256 .f32) = A
  pointwise []

/-- Two gradients side by side. -/
def both (G H : ℕ → Fin 1024 → ℝ) : Vec Ideal S2x2048x1024 .bf16 := fun i => ((if (i 0).val = 0 then G (i 1).val (i 2) else H (i 1).val (i 2) : ℝ) : EReal)
theorem both_zero (G H : ℕ → Fin 1024 → ℝ) (r : Fin 2048) (l : Fin 1024) : both G H (ix3 0 r l) = (G r.val l : EReal) :=
  congrArg (fun a : ℝ => (a : EReal)) (if_pos rfl)
theorem both_one (G H : ℕ → Fin 1024 → ℝ) (r : Fin 2048) (l : Fin 1024) : both G H (ix3 1 r l) = (H r.val l : EReal) :=
  congrArg (fun a : ℝ => (a : EReal)) (if_neg (show ¬ (1 : ℕ) = 0 by decide))

section
variable {m} {c}
variable {U Z D : ℕ → Fin 1024 → ℝ} {Ga Ps : Fin 1024 → ℝ} {Wg : Fin 4 → Fin 256 → Fin 256 → ℝ} {W : Fin 1024 → Fin 1024 → ℝ}
variable (hx : ∀ (r : Fin 2048) l, m ((c : Thread nD τ).loc main_arg0) (ix2 r l) = (D r.val l : EReal))
  (hu : ∀ (r : Fin 2048) l, m ((c : Thread nD τ).loc main_arg1) (ix3 0 r l) = (U r.val l : EReal))
  (hz : ∀ (r : Fin 2048) l, m ((c : Thread nD τ).loc main_arg1) (ix3 1 r l) = (Z r.val l : EReal))
  (hga : ∀ l, m ((c : Thread nD τ).loc main_arg2) (ix2 0 l) = (Ga l : EReal))
  (hwg : ∀ g i k, m ((c : Thread nD τ).loc main_arg3) (ix3 g i k) = (Wg g i k : EReal))
  (hps : ∀ l, m ((c : Thread nD τ).loc main_arg4) (ix2 0 l) = (Ps l : EReal))
  (hw : ∀ i k, m ((c : Thread nD τ).loc main_arg5) (ix2 i k) = (W i k : EReal))

include hx hu hz hga hwg hps hw

set_option maxHeartbeats 2000000 in
theorem reads : Reads m c t U Z D Ga Ps Wg W where
  hx r l := by
    blk_simp [iblk, V_main_arg0]
    rw [row_eq, show t.val * 512 + r.val = (row t r).val from rfl, ← hx]
    congr 1
    blk_ext [idx0 t, row]
  hu r l := by
    blk_simp [iblk, V_main_arg1]
    rw [row_eq, show t.val * 512 + r.val = (row t r).val from rfl, ← hu]
    congr 1
    blk_ext [idx1 t, row]
  hz r l := by
    blk_simp [iblk, V_main_arg1]
    rw [row_eq, show t.val * 512 + r.val = (row t r).val from rfl, ← hz]
    congr 1
    blk_ext [idx2 t, row]
  hga l := by
    blk_simp [iblk, V_main_arg2]
    rw [← hga]
    congr 1
    blk_ext [idx3 t]
  hwg g i k := by
    blk_simp [iblk, V_main_arg3]
    rw [← hwg]
    congr 1
    blk_ext [idx4 t]
  hps l := by
    blk_simp [iblk, V_main_arg4]
    rw [← hps]
    congr 1
    blk_ext [idx5 t]
  hw i k := by
    blk_simp [iblk, V_main_arg5]
    rw [← hw]
    congr 1
    blk_ext [idx6 t]
  hwin g R S := by
    blk_simp [iblk, win_V]
    rw [← window_apply]
    refine congrArg (window : FVec Ideal S4x256x256 .f32) ?_
    blk_ext [idx7 t]
  hwint g R S := by
    blk_simp [iblk, wint_V]
    rw [← wint_apply]
    refine congrArg (truncf .bf16 (transpose S4x256x256 [0, 2, 1] (window : FVec Ideal S4x256x256 .f32)
      transposes_S4x256x256_S4x256x256_0_2_1 : FVec Ideal S4x256x256 .f32) bitsLt_bf16_f32 : FVec Ideal S4x256x256 .bf16) ?_
    blk_ext [idx8 t]
  hinv g R := by
    blk_simp [iblk, inv_V]
    rw [← invLen_apply]
    refine congrArg (invLen : FVec Ideal S4x256x1 .f32) ?_
    blk_ext [idx9 t]

set_option maxHeartbeats 2000000 in
/-- The gradients of the pooled lanes' source and of the gate's argument. -/
theorem duz_final : (dats m 0 c).arrAt 10 cfg0.N = both (dLanes Z D Ga Ps Wg W) (dGate U Z D Ga Ps Wg W) := by
  refine (dats m 0 c).arrAt_eq_of_covers 10 _ (by decide +kernel) fun t hf y => ?_
  have h0 := lanes_out (reads t hx hu hz hga hwg hps hw)
  have h1 := gate_out (reads t hx hu hz hga hwg hps hw)
  generalize dLanes Z D Ga Ps Wg W = G at h0 ⊢
  generalize dGate U Z D Ga Ps Wg W = H at h1 ⊢
  blk_simp
  rw [after0_10]
  obtain ⟨s, r, j, rfl⟩ : ∃ (s : Fin 2) (r : Fin 512) (j : Fin 1024), y = ix3 s r j := ⟨y 0, y 1, y 2, eq_ix3 y⟩
  have e : (win0_10.blk t).view.emb (ix3 s r j) = (ix3 s (row t r) j : S2x2048x1024.Idx) := by blk_ext [idx10 t, row]
  rw [e]
  generalize (outsAt0 m c t.val t.isLt).1 = O at h0 h1 ⊢
  obtain rfl | rfl : s = 0 ∨ s = 1 := by omega
  · rw [both_zero]
    have h := h0 r j
    rw [row_eq] at h
    exact h
  · rw [both_one]
    have h := h1 r j
    rw [row_eq] at h
    exact h

set_option maxHeartbeats 2000000 in
/-- The projection's gradient. -/
theorem dproj_final : (dats m 0 c).arrAt 11 cfg0.N
    = (fun i => ((∑ r : Fin 2048, dProjRow U Z D Ga Ps Wg r.val (i 0) (i 1) : ℝ) : EReal) : Vec Ideal S1024x1024 .bf16) := by
  refine (dats m 0 c).arrAt_eq_of_covers 11 _ (by decide +kernel) fun t hf y => ?_
  blk_simp
  rw [after0_11]
  obtain ⟨l, j, rfl⟩ : ∃ (l j : Fin 1024), y = ix2 l j := ⟨y 0, y 1, eq_ix2 y⟩
  have e : (win0_11.blk t).view.emb (ix2 l j) = (ix2 l j : S1024x1024.Idx) := by blk_ext [idx11 t]
  rw [e]
  refine (proj_out (reads t hx hu hz hga hwg hps hw) ((flush0_11 t).mp hf) l j).trans ?_
  exact acc_total 4 (fun n h => (outsAt0 m c n h).2.2.2.2.1 (ix2 l j)) (fun r => dProjRow U Z D Ga Ps Wg r.val l j) rows_total
    (fun t => by simpa only [row_eq] using proj_sum (reads t hx hu hz hga hwg hps hw) l j) (le_of_eq N_0) t (last t ((flush0_11 t).mp hf))

set_option maxHeartbeats 2000000 in
/-- The groups' matrices' gradients. -/
theorem dgroup_final : (dats m 0 c).arrAt 12 cfg0.N
    = (fun i => ((∑ r : Fin 2048, dGroupRow U Z D Ga Ps W r.val (i 0) (i 1) (i 2) : ℝ) : EReal) : Vec Ideal S4x256x256 .bf16) := by
  refine (dats m 0 c).arrAt_eq_of_covers 12 _ (by decide +kernel) fun t hf y => ?_
  blk_simp
  rw [after0_12]
  obtain ⟨g, i, k, rfl⟩ : ∃ (g : Fin 4) (i k : Fin 256), y = ix3 g i k := ⟨y 0, y 1, y 2, eq_ix3 y⟩
  have e : (win0_12.blk t).view.emb (ix3 g i k) = (ix3 g i k : S4x256x256.Idx) := by blk_ext [idx12 t]
  rw [e]
  refine (group_out (reads t hx hu hz hga hwg hps hw) ((flush0_12 t).mp hf) g i k).trans ?_
  exact acc_total 4 (fun n h => (outsAt0 m c n h).2.2.2.2.2 (ix3 g i k)) (fun r => dGroupRow U Z D Ga Ps W r.val g i k) rows_total
    (fun t => by simpa only [row_eq] using group_sum (reads t hx hu hz hga hwg hps hw) g i k) (le_of_eq N_0) t (last t ((flush0_12 t).mp hf))

set_option maxHeartbeats 2000000 in
/-- The scale's gradient. -/
theorem dscale_final : (dats m 0 c).arrAt 13 cfg0.N
    = (fun i => ((∑ r : Fin 2048, dScaleRow U Z D Ga Wg W r.val (i 1) : ℝ) : EReal) : Vec Ideal S1x1024 .f32) := by
  refine (dats m 0 c).arrAt_eq_of_covers 13 _ (by decide +kernel) fun t hf y => ?_
  blk_simp
  rw [after0_13]
  obtain ⟨k, rfl⟩ : ∃ (k : Fin 1024), y = ix2 0 k := ⟨y 1, by rw [eq_ix2 y]; congr 1; exact Subsingleton.elim (α := Fin 1) _ _⟩
  have e : (win0_13.blk t).view.emb (ix2 0 k) = (ix2 0 k : S1x1024.Idx) := by blk_ext [idx13 t]
  rw [e]
  exact acc_total 4 (fun n h => (outsAt0 m c n h).2.2.2.1 (ix2 0 k)) (fun r => dScaleRow U Z D Ga Wg W r.val k) rows_total
    (fun t => by simpa only [row_eq] using scale_out (reads t hx hu hz hga hwg hps hw) k) (le_of_eq N_0) t (last t ((flush0_13 t).mp hf))

end

end Cert.PoolStage

end
-- ==== Proof.PoolGive.lean ====
/- The reference's derivative of one group's pooling: every entry over its window's length is put down at the window's two
   ends, with opposite signs, and summed from behind along the grid row. It is what each place gets back from the means. -/
module

public import proofs.«01_k».proof.Proof.PoolTake
public import proofs.«01_k».proof.Proof.PoolGrad
public import proofs.«01_k».proof.PoolBackRefIdeal

@[expose] public section

set_option maxRecDepth 16384

noncomputable section

namespace Cert.Pool

open Cert.PoolBackRefIdeal Cert.Reals Idealize.ShloMosaic Facts₀

variable [Facts₀] [Cert.LossRefIdeal.Facts₀]

/-! ## Sums from behind -/

/-- The sums of the entries at and behind each place of the middle axis. -/
def trailing (x : FVec Ideal S32x64x256 .f32) : FVec Ideal S32x64x256 .f32 :=
  Host.reduceWindowAdd ![1, 64, 1] ![1, 1, 1] ![0, 0, 0] ![0, 63, 0] x (broadcastInDim S_ ![] bcast_S_S_ (constant S_ .f32 0x00000000#32))
    reduceWindows_S32x64x256_S32x64x256_w1s1p0_0_w64s1p0_63_w1s1p0_0 h_S_

/-- What position `p` of entry `j`'s window adds. -/
def spot (x : FVec Ideal S32x64x256 .f32) (j : S32x64x256.Idx) (p : (⟨3, ![1, 64, 1]⟩ : Shape).Idx) : EReal :=
  if hin : ∀ a : Fin 3, (![0, 0, 0] : Fin 3 → ℕ) a ≤ (j a).val * (![1, 1, 1] : Fin 3 → ℕ) a + (p a).val
    ∧ (j a).val * (![1, 1, 1] : Fin 3 → ℕ) a + (p a).val - (![0, 0, 0] : Fin 3 → ℕ) a < S32x64x256.size a
  then x (fun a => ⟨_, (hin a).2⟩) else 0

theorem trailing_sum (x : FVec Ideal S32x64x256 .f32) (j : S32x64x256.Idx) :
    Ideal.hostReduceWindowAdd ![1, 64, 1] ![1, 1, 1] ![0, 0, 0] ![0, 63, 0] reduceWindows_S32x64x256_S32x64x256_w1s1p0_0_w64s1p0_63_w1s1p0_0 x 0 j
      = ∑ p, spot x j p := by
  unfold Ideal.hostReduceWindowAdd Host.reduceWindow
  dsimp only
  refine (congrArg (fun f => List.foldl f (0 : EReal) _) (funext fun r => funext fun n => ?_
    : _ = fun (r : EReal) n => r + spot x j ((⟨3, ![1, 64, 1]⟩ : Shape).rowMajor.symm n))).trans ?_
  · refine congrArg (r + ·) ?_
    unfold spot
    split
    · next h =>
      split
      · rfl
      · next h' => exact absurd h h'
    · next h =>
      split
      · next h' => exact absurd h' h
      · rfl
  rw [foldl_add, zero_add, ← List.ofFn_eq_map, List.sum_ofFn]
  exact Equiv.sum_comp (⟨3, ![1, 64, 1]⟩ : Shape).rowMajor.symm (spot x j)

omit [Facts₀] [Cert.LossRefIdeal.Facts₀] in
theorem sum_from (f : ℕ → ℝ) (q : ℕ) (hq : q < 64) : (∑ n : Fin 64, if q + n.val < 64 then f (q + n.val) else 0) = ∑ i ∈ Finset.Ico q 64, f i := by
  rw [Fin.sum_univ_eq_sum_range (fun n => if q + n < 64 then f (q + n) else 0) 64, ← Finset.sum_filter]
  refine Finset.sum_nbij' (fun n => q + n) (fun i => i - q) ?_ ?_ ?_ ?_ ?_
  all_goals intro n hn; simp only [Finset.mem_filter, Finset.mem_range, Finset.mem_Ico] at hn ⊢; try omega

theorem trailing_apply (x : FVec Ideal S32x64x256 .f32) (f : Fin 32 → ℕ → Fin 256 → ℝ)
    (hx : ∀ b (s : Fin 64) k, x (ix3 b s k) = (f b s.val k : EReal)) (b : Fin 32) (q : Fin 64) (k : Fin 256) :
    trailing x (ix3 b q k) = ((∑ i ∈ Finset.Ico q.val 64, f b i k : ℝ) : EReal) := by
  have hq := q.isLt
  have z : (broadcastInDim S_ ![] bcast_S_S_ (constant (F := Ideal) S_ .f32 0x00000000#32)) (Shape.Idx.first h_S_) = (0 : EReal) := by
    refine (congrArg (broadcastInDim S_ ![] bcast_S_S_ (constant (F := Ideal) S_ .f32 0x00000000#32)) (funext fun a => a.elim0 : _ = ix0)).trans ?_
    pointwise []
  have e : trailing x (ix3 b q k) = Ideal.hostReduceWindowAdd ![1, 64, 1] ![1, 1, 1] ![0, 0, 0] ![0, 63, 0]
      reduceWindows_S32x64x256_S32x64x256_w1s1p0_0_w64s1p0_63_w1s1p0_0 x ((broadcastInDim S_ ![] bcast_S_S_ (constant (F := Ideal) S_ .f32 0x00000000#32)) (Shape.Idx.first h_S_)) (ix3 b q k) := rfl
  rw [e, z, trailing_sum, sum_idx3]
  simp only [Finset.univ_unique, Finset.sum_singleton]
  rw [← sum_from (fun i => f b i k) q.val hq, ← coe_sum]
  refine Finset.sum_congr rfl fun n _ => ?_
  have hn := n.isLt
  by_cases h : q.val + n.val < 64
  · unfold spot
    rw [if_pos h, dif_pos (by
      intro a
      match a with
      | ⟨0, _⟩ => show 0 ≤ b.val * 1 + 0 ∧ b.val * 1 + 0 - 0 < 32; omega
      | ⟨1, _⟩ => show 0 ≤ q.val * 1 + n.val ∧ q.val * 1 + n.val - 0 < 64; omega
      | ⟨2, _⟩ => show 0 ≤ k.val * 1 + 0 ∧ k.val * 1 + 0 - 0 < 256; omega)]
    refine Eq.trans (congrArg x (funext fun a => Fin.ext ?_)) (hx b ⟨q.val + n.val, h⟩ k)
    match a with
    | ⟨0, _⟩ => show b.val * 1 + 0 - 0 = b.val; omega
    | ⟨1, _⟩ => show q.val * 1 + n.val - 0 = q.val + n.val; omega
    | ⟨2, _⟩ => show k.val * 1 + 0 - 0 = k.val; omega
  · unfold spot
    rw [if_neg h, dif_neg fun hin => h (by have h1 : q.val * 1 + n.val - 0 < 64 := (hin 1).2; omega)]
    rfl

/-! ## Putting rows down -/

/-- The rows of `y` added up where `idx` names their place. -/
def put (idx : IVec S64 32) (y : FVec Ideal S32x64x256 .f32) : FVec Ideal S32x65x256 .f32 :=
  Host.scatterAdd scatter_S32x65x256_S64x1_S32x64x256_02_1_1_1 (broadcastInDim S32x65x256 ![] bcast_S_S32x65x256 (constant S_ .f32 0x00000000#32)) (column idx) y

section
variable {idx : IVec S64 32} {n : Fin 64 → Fin 65} (hi : ∀ q, idx (ix1 q) = BitVec.ofNat 32 (n q).val)
include hi

theorem place_of (b : Fin 32) (q : Fin 64) (k : Fin 256) :
    scatter_S32x65x256_S64x1_S32x64x256_02_1_1_1.resultIdx? (ix3 b q k) (column idx) = some (ix3 b (n q) k) := by
  have s1 : scatter_S32x65x256_S64x1_S32x64x256_02_1_1_1.start (ix3 b q k) (column idx) 1 = ((n q).val : ℤ) := by
    refine (congrArg (fun i => (column idx i).toInt) (funext fun a => match a with
      | ⟨0, _⟩ => rfl
      | ⟨1, _⟩ => rfl : _ = ix2 q 0)).trans ?_
    rw [column_apply hi q]
    generalize n q = k
    revert k
    decide +kernel
  have s : ∀ a, scatter_S32x65x256_S64x1_S32x64x256_02_1_1_1.start (ix3 b q k) (column idx) a
      + scatter_S32x65x256_S64x1_S32x64x256_02_1_1_1.window (ix3 b q k) a = ((ix3 b (n q) k : S32x65x256.Idx) a).val := by
    intro a
    match a with
    | ⟨0, _⟩ => show (0 : ℤ) + (b.val : ℕ) = (b.val : ℕ); omega
    | ⟨1, _⟩ =>
      refine (congrArg (· + ((scatter_S32x65x256_S64x1_S32x64x256_02_1_1_1.window (ix3 b q k) 1 : ℕ) : ℤ)) s1).trans ?_
      show ((n q).val : ℤ) + ((0 : ℕ) : ℤ) = ((n q).val : ℤ)
      simp
    | ⟨2, _⟩ => show (0 : ℤ) + (k.val : ℕ) = (k.val : ℕ); omega
  unfold ScatterDims.resultIdx?
  rw [dif_pos fun a => ⟨by rw [s a]; exact Int.natCast_nonneg _, by rw [s a]; exact_mod_cast ((ix3 b (n q) k : S32x65x256.Idx) a).isLt⟩]
  refine congrArg some (funext fun a => Fin.ext ?_)
  show (_ : ℤ).toNat = _
  rw [s a]
  exact Int.toNat_natCast _

theorem put_apply (y : FVec Ideal S32x64x256 .f32) (f : Fin 32 → ℕ → Fin 256 → ℝ)
    (hy : ∀ b (s : Fin 64) k, y (ix3 b s k) = (f b s.val k : EReal)) (b : Fin 32) (i : Fin 65) (k : Fin 256) :
    put idx y (ix3 b i k) = ((∑ q : Fin 64, if n q = i then f b q.val k else 0 : ℝ) : EReal) := by
  have e : put idx y (ix3 b i k) = (broadcastInDim S32x65x256 ![] bcast_S_S32x65x256 (constant (F := Ideal) S_ .f32 0x00000000#32)) (ix3 b i k)
      + ∑ j ∈ Finset.univ.filter (fun j => scatter_S32x65x256_S64x1_S32x64x256_02_1_1_1.resultIdx? j (column idx) = some (ix3 b i k)), y j := rfl
  have z : (broadcastInDim S32x65x256 ![] bcast_S_S32x65x256 (constant (F := Ideal) S_ .f32 0x00000000#32)) (ix3 b i k) = (0 : EReal) := by pointwise []
  rw [e, z, zero_add, Finset.sum_filter, sum_idx3, ← coe_sum]
  rw [Finset.sum_eq_single b]
  · refine Finset.sum_congr rfl fun q _ => ?_
    rw [Finset.sum_eq_single k]
    · rw [place_of hi, hy]
      by_cases h : n q = i
      · rw [if_pos h, if_pos (by rw [h])]
      · rw [if_neg h, if_neg fun e => h (congrFun (Option.some.inj e) 1)]
        rfl
    · intro k' _ hk
      rw [place_of hi, if_neg fun e => hk (congrFun (Option.some.inj e) 2)]
    · exact fun h => absurd (Finset.mem_univ _) h
  · intro b' _ hb
    refine Finset.sum_eq_zero fun q _ => Finset.sum_eq_zero fun k' _ => ?_
    rw [place_of hi, if_neg fun e => hb (congrFun (Option.some.inj e) 0)]
  · exact fun h => absurd (Finset.mem_univ _) h
end

/-! ## One group's derivative -/

/-- One group's entries over their windows' lengths, and what the places get back from them. -/
def share (w v : BitVec 32) (d : FVec Ideal S32x64x256 .f32) : FVec Ideal S32x64x256 .f32 :=
  Host.divf d (broadcastInDim S32x64x256 ![0, 1, 2] bcast_S1x64x1_S32x64x256_0_1_2 (broadcastInDim S1x64x1 ![1, 2] bcast_S64x1_S1x64x1_1_2
      (broadcastInDim S64x1 ![0] bcast_S64_S64x1_0 (sitofp .f32 (subi (behind w v) (first w)) : FVec Ideal S64 .f32))))
def give (w v : BitVec 32) (d : FVec Ideal S32x64x256 .f32) : FVec Ideal S32x64x256 .f32 :=
  trailing (extractStridedSlice S32x64x256 ![0, 1, 0] (addf (put (first w) (Host.negf (share w v d))) (put (behind w v) (share w v d)))
    slices_S32x65x256_S32x64x256_0_1_0)

omit [Facts₀] [Cert.LossRefIdeal.Facts₀] in
theorem sum_hit (q a : ℕ) (y : ℝ) : (∑ i ∈ Finset.Ico q 64, if a = i + 1 then y else 0) = if q < a ∧ a ≤ 64 then y else 0 := by
  by_cases h : q < a ∧ a ≤ 64
  · rw [if_pos h, Finset.sum_eq_single (a - 1)]
    · rw [if_pos (by omega)]
    · intro i _ hi
      rw [if_neg (by omega)]
    · intro hi
      exact absurd (Finset.mem_Ico.mpr (by omega)) hi
  · rw [if_neg h]
    refine Finset.sum_eq_zero fun i hi => if_neg fun e => h ?_
    have := Finset.mem_Ico.mp hi
    omega

omit [Facts₀] [Cert.LossRefIdeal.Facts₀] in
theorem sum_ends (g : Fin 4) (y : ℕ → ℝ) (q : Fin 64) :
    (∑ i ∈ Finset.Ico q.val 64, ((∑ s : Fin 64, if (lo g s).val = i + 1 then -y s.val else 0) + ∑ s : Fin 64, if (hi g s).val = i + 1 then y s.val else 0))
      = ∑ s : Fin 64, if Near g.val s.val q.val then y s.val else 0 := by
  have hq := q.isLt
  rw [Finset.sum_add_distrib, Finset.sum_comm, Finset.sum_comm (s := Finset.Ico q.val 64), ← Finset.sum_add_distrib]
  refine Finset.sum_congr rfl fun s _ => ?_
  have hs := s.isLt
  have hg : 0 < 2 ^ g.val := Nat.two_pow_pos _
  rw [sum_hit, sum_hit]
  have hN : Near g.val s.val q.val ↔ s.val ≤ q.val + 2 ^ g.val ∧ q.val < s.val + 2 ^ g.val := Iff.rfl
  rw [show (lo g s).val = s.val - 2 ^ g.val from rfl, show (hi g s).val = min (s.val + 2 ^ g.val) 64 from rfl]
  by_cases h1 : s.val ≤ q.val + 2 ^ g.val
  · by_cases h2 : q.val < s.val + 2 ^ g.val
    · rw [if_neg (by omega), if_pos (by omega), if_pos (hN.mpr ⟨h1, h2⟩), zero_add]
    · rw [if_neg (by omega), if_neg (by omega), if_neg (fun h => h2 (hN.mp h).2), zero_add]
  · rw [if_pos (by omega), if_pos (by omega), if_neg (fun h => h1 (hN.mp h).1), neg_add_cancel]

theorem give_apply (g : Fin 4) (d : FVec Ideal S32x64x256 .f32) (v : Fin 256 → ℕ → ℝ)
    (hd : ∀ (b : Fin 32) (s : Fin 64) k, d (ix3 b s k) = (v k (b.val * 64 + s.val) : EReal)) (b : Fin 32) (q : Fin 64) (k : Fin 256) :
    give (1#32 <<< g.val) (2#32 <<< g.val) d (ix3 b q k) = (backMean g.val (v k) (b.val * 64 + q.val) : EReal) := by
  have hy : ∀ (b : Fin 32) (s : Fin 64) k, share (1#32 <<< g.val) (2#32 <<< g.val) d (ix3 b s k)
      = ((v k (b.val * 64 + s.val) / (len g.val s.val : ℕ) : ℝ) : EReal) := fun b s k => by
    have hl : 0 < len g.val s.val := len_pos s.isLt
    pointwise [share]
    rw [behind_apply, first_apply, sitofp_of _ _ (length_of g s), hd, div_coe _ _ (by exact_mod_cast hl.ne')]
  have hn : ∀ (b : Fin 32) (s : Fin 64) k, Host.negf (share (1#32 <<< g.val) (2#32 <<< g.val) d) (ix3 b s k)
      = ((-(v k (b.val * 64 + s.val) / (len g.val s.val : ℕ)) : ℝ) : EReal) := fun b s k => by
    refine (show _ = -(share (1#32 <<< g.val) (2#32 <<< g.val) d (ix3 b s k) : EReal) from rfl).trans ?_
    rw [hy, EReal.coe_neg]
  have h := trailing_apply (extractStridedSlice S32x64x256 ![0, 1, 0] (addf (put (first (1#32 <<< g.val)) (Host.negf (share (1#32 <<< g.val) (2#32 <<< g.val) d)))
      (put (behind (1#32 <<< g.val) (2#32 <<< g.val)) (share (1#32 <<< g.val) (2#32 <<< g.val) d))) slices_S32x65x256_S32x64x256_0_1_0)
    (fun b i k => (∑ s : Fin 64, if (lo g s).val = i + 1 then -(v k (b.val * 64 + s.val) / (len g.val s.val : ℕ)) else 0)
      + ∑ s : Fin 64, if (hi g s).val = i + 1 then v k (b.val * 64 + s.val) / (len g.val s.val : ℕ) else 0) (fun b s k => by
    pointwise []
    rw [put_apply (first_apply g) _ (f := fun b s k => -(v k (b.val * 64 + s) / (len g.val s : ℕ))) hn,
      put_apply (behind_apply g) _ (f := fun b s k => v k (b.val * 64 + s) / (len g.val s : ℕ)) hy, ← EReal.coe_add]
    simp only [Fin.ext_iff, Nat.add_comm 1 s.val]) b q k
  unfold give
  rw [h, sum_ends g (fun s => v k (b.val * 64 + s) / (len g.val s : ℕ)) q]
  refine congrArg (fun a : ℝ => (a : EReal)) ?_
  unfold backMean
  rw [show (b.val * 64 + q.val) % 64 = q.val by have := q.isLt; omega, show (b.val * 64 + q.val) / 64 * 64 = b.val * 64 by have := q.isLt; omega]

end Cert.Pool

end
-- ==== Proof.PoolBackRef.lean ====
/- The reference's derivative of the pooling mixer, read at an index over real arrays. -/
module

public import proofs.«01_k».proof.Proof.Gen.PoolBackRefIdeal.Run
public import proofs.«01_k».proof.Proof.Gen.PoolBackRefIdeal.Read
public import proofs.«01_k».proof.Proof.PoolGive
public import proofs.«01_k».proof.Proof.PoolBackArray

@[expose] public section

set_option maxRecDepth 16384

noncomputable section

namespace Cert.PoolStage.Ref

open Cert.PoolBackRefIdeal Cert.PoolBackRefIdeal.Read Idealize.ShloMosaic Idealize.ShloMosaic.TcCoe Idealize.SL.Sem
open Cert.Reals Cert.Norm Cert.Silu Cert.Pool

variable {x : Vec Ideal S2048x1024 .f32} {uz : Vec Ideal S2x2048x1024 .f32} {ga ps : Vec Ideal S1x1024 .f32}
  {wg : Vec Ideal S4x256x256 .bf16} {w : Vec Ideal S1024x1024 .bf16}
variable {U Z D : ℕ → Fin 1024 → ℝ} {Ga Ps : Fin 1024 → ℝ} {Wg : Fin 4 → Fin 256 → Fin 256 → ℝ} {W : Fin 1024 → Fin 1024 → ℝ}
variable (hx : ∀ (r : Fin 2048) l, x (ix2 r l) = (D r.val l : EReal))
  (hu : ∀ (r : Fin 2048) l, uz (ix3 0 r l) = (U r.val l : EReal)) (hz : ∀ (r : Fin 2048) l, uz (ix3 1 r l) = (Z r.val l : EReal))
  (hga : ∀ l, ga (ix2 0 l) = (Ga l : EReal)) (hwg : ∀ g i k, wg (ix3 g i k) = (Wg g i k : EReal)) (hps : ∀ l, ps (ix2 0 l) = (Ps l : EReal))
  (hw : ∀ i k, w (ix2 i k) = (W i k : EReal))

/-! ## The forward lines -/

include hu in
theorem lanes_coe (b : Fin 32) (q : Fin 64) (g : Fin 4) (k : Fin 256) :
    val_main_v6 (F := Ideal) uz (ix4 b q g k) = (U (b.val * 64 + q.val) (lane g k) : EReal) := by
  pointwise [val_main_v6, val_main_v1, val_main_v0]
  exact hu ⟨b.val * 64 + q.val, _⟩ (lane g k)

include hu in
theorem mean0_coe (b : Fin 32) (q : Fin 64) (k : Fin 256) :
    val_main_v31 (F := Ideal) uz (ix3 b q k) = (mean 0 (fun r => U r (lane 0 k)) (b.val * 64 + q.val) : EReal) :=
  (show val_main_v31 (F := Ideal) uz (ix3 b q k) = means (1#32 <<< ((0 : Fin 4).val)) (2#32 <<< ((0 : Fin 4).val)) (val_main_v8 (F := Ideal) uz) (ix3 b q k) from rfl).trans
    (means_apply 0 _ (fun k r => U r (lane 0 k)) (fun b q k => by
      pointwise [val_main_v8, val_main_v7]
      exact lanes_coe hu b q 0 k) b q k)

include hu in
theorem mean1_coe (b : Fin 32) (q : Fin 64) (k : Fin 256) :
    val_main_v56 (F := Ideal) uz (ix3 b q k) = (mean 1 (fun r => U r (lane 1 k)) (b.val * 64 + q.val) : EReal) :=
  (show val_main_v56 (F := Ideal) uz (ix3 b q k) = means (1#32 <<< ((1 : Fin 4).val)) (2#32 <<< ((1 : Fin 4).val)) (val_main_v33 (F := Ideal) uz) (ix3 b q k) from rfl).trans
    (means_apply 1 _ (fun k r => U r (lane 1 k)) (fun b q k => by
      pointwise [val_main_v33, val_main_v32]
      exact lanes_coe hu b q 1 k) b q k)

include hu in
theorem mean2_coe (b : Fin 32) (q : Fin 64) (k : Fin 256) :
    val_main_v81 (F := Ideal) uz (ix3 b q k) = (mean 2 (fun r => U r (lane 2 k)) (b.val * 64 + q.val) : EReal) :=
  (show val_main_v81 (F := Ideal) uz (ix3 b q k) = means (1#32 <<< ((2 : Fin 4).val)) (2#32 <<< ((2 : Fin 4).val)) (val_main_v58 (F := Ideal) uz) (ix3 b q k) from rfl).trans
    (means_apply 2 _ (fun k r => U r (lane 2 k)) (fun b q k => by
      pointwise [val_main_v58, val_main_v57]
      exact lanes_coe hu b q 2 k) b q k)

include hu in
theorem mean3_coe (b : Fin 32) (q : Fin 64) (k : Fin 256) :
    val_main_v106 (F := Ideal) uz (ix3 b q k) = (mean 3 (fun r => U r (lane 3 k)) (b.val * 64 + q.val) : EReal) :=
  (show val_main_v106 (F := Ideal) uz (ix3 b q k) = means (1#32 <<< ((3 : Fin 4).val)) (2#32 <<< ((3 : Fin 4).val)) (val_main_v83 (F := Ideal) uz) (ix3 b q k) from rfl).trans
    (means_apply 3 _ (fun k r => U r (lane 3 k)) (fun b q k => by
      pointwise [val_main_v83, val_main_v82]
      exact lanes_coe hu b q 3 k) b q k)

include hu in
theorem pooled_coe (b : Fin 32) (q : Fin 64) (g : Fin 4) (k : Fin 256) :
    val_main_v112 (F := Ideal) uz (ix4 b q g k) = (pooled U (b.val * 64 + q.val) (lane g k) : EReal) := by
  have e : val_main_v111 (F := Ideal) uz (ix4 b q g k) = (mean g.val (fun r => U r (lane g k)) (b.val * 64 + q.val) : EReal) := by
    revert g
    pointwise [val_main_v111, val_main_v107, val_main_v108, val_main_v109, val_main_v110]
    exact ⟨mean0_coe hu b q k, mean1_coe hu b q k, mean2_coe hu b q k, mean3_coe hu b q k⟩
  pointwise [val_main_v112]
  rw [e, lanes_coe hu, ← EReal.coe_sub, pooled, grp_lane]

include hu hwg in
theorem mixed_coe (r : Fin 2048) (l : Fin 1024) : val_main_v115 (F := Ideal) uz wg (ix2 r l) = (mixed U Wg r.val l : EReal) := by
  pointwise [val_main_v115, val_main_v114, val_main_v113, val_main_v4]
  simp only [hwg, pooled_coe hu, ← EReal.coe_mul, coe_sum]
  refine congrArg (fun a : ℝ => (a : EReal)) ?_
  unfold mixed
  refine Finset.sum_congr rfl fun k _ => ?_
  rw [mul_comm, show r.val / 64 * 64 + r.val % 64 = r.val by omega]
  rfl

include hz in
theorem z_coe (r : Fin 2048) (l : Fin 1024) : val_main_v3 (F := Ideal) uz (ix2 r l) = (Z r.val l : EReal) := by
  pointwise [val_main_v3, val_main_v2]
  exact hz r l

include hz in
theorem sig_coe (r : Fin 2048) (l : Fin 1024) : val_main_v118_2 (F := Ideal) uz (ix2 r l) = (sig (Z r.val l) : EReal) := by
  pointwise [val_main_v118_2, val_main_call20_v4, val_main_call20_v3, val_main_call20_v2, val_main_call20_v1, val_main_call20_v0,
    val_main_call20_cst, val_main_call20_cst_0]
  rw [z_coe hz, sig_exp]

include hz in
theorem silu_coe (r : Fin 2048) (l : Fin 1024) : val_main_v118_0 (F := Ideal) uz (ix2 r l) = (silu (Z r.val l) : EReal) := by
  pointwise [val_main_v118_0]
  rw [sig_coe hz, z_coe hz, ← EReal.coe_mul]
  rfl

include hu hwg hps in
theorem scaled_coe (r : Fin 2048) (l : Fin 1024) : val_main_v117 (F := Ideal) uz wg ps (ix2 r l) = (mixed U Wg r.val l * Ps l : ℝ) := by
  pointwise [val_main_v117, val_main_v116]
  rw [mixed_coe hu hwg, hps, ← EReal.coe_mul]

include hu hz hwg hps in
theorem act_coe (r : Fin 2048) (l : Fin 1024) : val_main_v119 (F := Ideal) uz wg ps (ix2 r l) = (act U Z Ps Wg r.val l : EReal) := by
  pointwise [val_main_v119]
  rw [scaled_coe hu hwg hps, silu_coe hz, ← EReal.coe_mul]
  rfl

/-! ## The gradients -/

include hx hga in
theorem cot_coe (r : Fin 2048) (j : Fin 1024) : val_main_v124 (F := Ideal) x ga (ix2 r j) = (D r.val j * Ga j : ℝ) := by
  pointwise [val_main_v124, val_main_v123]
  rw [hx, hga, ← EReal.coe_mul, mul_comm]

include hx hga hw in
theorem dAct_coe (r : Fin 2048) (l : Fin 1024) : val_main_v127 (F := Ideal) x ga w (ix2 r l) = (dAct D Ga W r.val l : EReal) := by
  pointwise [val_main_v127, val_main_v5]
  simp only [cot_coe hx hga, hw, ← EReal.coe_mul, coe_sum]
  rfl

include hx hz hga hw in
theorem dScaled_coe (r : Fin 2048) (l : Fin 1024) : val_main_v129 (F := Ideal) x uz ga w (ix2 r l) = (dScaled Z D Ga W r.val l : EReal) := by
  pointwise [val_main_v129]
  rw [dAct_coe hx hga hw, silu_coe hz, ← EReal.coe_mul]
  rfl

include hx hz hga hps hw in
theorem dMixed_coe (b : Fin 32) (q : Fin 64) (g : Fin 4) (k : Fin 256) :
    val_main_v137 (F := Ideal) x uz ga ps w (ix4 g k b q) = (dMixed Z D Ga Ps W (b.val * 64 + q.val) (lane g k) : EReal) := by
  pointwise [val_main_v137, val_main_v136, val_main_v135, val_main_v134]
  refine (congrArg₂ (fun a b : EReal => a * b) (dScaled_coe hx hz hga hw ⟨b.val * 64 + q.val, _⟩ (lane g k)) (hps (lane g k))).trans ?_
  rw [← EReal.coe_mul]
  rfl

include hx hz hga hwg hps hw in
theorem dPooled_coe (b : Fin 32) (q : Fin 64) (g : Fin 4) (k : Fin 256) :
    val_main_v139 (F := Ideal) x uz ga wg ps w (ix4 b q g k) = (dPooled Z D Ga Ps Wg W (b.val * 64 + q.val) (lane g k) : EReal) := by
  pointwise [val_main_v139, val_main_v138, val_main_v4]
  simp only [dMixed_coe hx hz hga hps hw, hwg, ← EReal.coe_mul, coe_sum]
  unfold dPooled
  rw [grp_lane, place_lane]

/-! ## What the lanes get back through the means -/

section
variable {d : FVec Ideal S32x64x4x256 .f32}

/-- One group's part put back among the four groups. -/
theorem pad_apply {lo hi : ℕ} (hp : S32x64x1x256.Pads (![0, 0, lo, 0] : Fin 4 → ℕ) ![0, 0, hi, 0] ![0, 0, 0, 0] S32x64x4x256)
    (z : FVec Ideal S32x64x1x256 .f32) (v : FVec Ideal S_ .f32) (hv : ∀ i, v i = (0 : EReal)) (hv' : 0 < S_.numel)
    (b : Fin 32) (q : Fin 64) (g : Fin 4) (k : Fin 256) :
    pad S32x64x4x256 ![0, 0, lo, 0] ![0, 0, hi, 0] ![0, 0, 0, 0] z v hp hv' (ix4 b q g k) = if g.val = lo then z (ix4 b q 0 k) else (0 : EReal) := by
  unfold pad
  split_ifs with h1 h2 h2
  · refine congrArg z (funext fun a => Fin.ext ?_)
    match a with
    | ⟨0, _⟩ => show (b.val - 0) / (0 + 1) = b.val; omega
    | ⟨1, _⟩ => show (q.val - 0) / (0 + 1) = q.val; omega
    | ⟨2, _⟩ => show (g.val - lo) / (0 + 1) = 0; omega
    | ⟨3, _⟩ => show (k.val - 0) / (0 + 1) = k.val; omega
  · have h3 : lo ≤ g.val ∧ (g.val - lo) % (0 + 1) = 0 ∧ (g.val - lo) / (0 + 1) < 1 := h1 2
    omega
  · refine absurd (fun a => ?_) h1
    match a with
    | ⟨0, _⟩ => show 0 ≤ b.val ∧ (b.val - 0) % (0 + 1) = 0 ∧ (b.val - 0) / (0 + 1) < 32; omega
    | ⟨1, _⟩ => show 0 ≤ q.val ∧ (q.val - 0) % (0 + 1) = 0 ∧ (q.val - 0) / (0 + 1) < 64; omega
    | ⟨2, _⟩ => show lo ≤ g.val ∧ (g.val - lo) % (0 + 1) = 0 ∧ (g.val - lo) / (0 + 1) < 1; omega
    | ⟨3, _⟩ => show 0 ≤ k.val ∧ (k.val - 0) % (0 + 1) = 0 ∧ (k.val - 0) / (0 + 1) < 256; omega
  · exact hv _
end

include hx hz hga hwg hps hw

theorem give0_coe (b : Fin 32) (q : Fin 64) (k : Fin 256) : val_main_v195 (F := Ideal) x uz ga wg ps w (ix3 b q k)
    = (backMean 0 (fun s => dPooled Z D Ga Ps Wg W s (lane 0 k)) (b.val * 64 + q.val) : EReal) :=
  (show val_main_v195 (F := Ideal) x uz ga wg ps w (ix3 b q k)
      = give (1#32 <<< ((0 : Fin 4).val)) (2#32 <<< ((0 : Fin 4).val)) (val_main_v144 (F := Ideal) x uz ga wg ps w) (ix3 b q k) from rfl).trans
    (give_apply 0 _ (fun k s => dPooled Z D Ga Ps Wg W s (lane 0 k)) (fun b q k => by
      pointwise [val_main_v144, val_main_v143]
      exact dPooled_coe hx hz hga hwg hps hw b q 0 k) b q k)

theorem give1_coe (b : Fin 32) (q : Fin 64) (k : Fin 256) : val_main_v183 (F := Ideal) x uz ga wg ps w (ix3 b q k)
    = (backMean 1 (fun s => dPooled Z D Ga Ps Wg W s (lane 1 k)) (b.val * 64 + q.val) : EReal) :=
  (show val_main_v183 (F := Ideal) x uz ga wg ps w (ix3 b q k)
      = give (1#32 <<< ((1 : Fin 4).val)) (2#32 <<< ((1 : Fin 4).val)) (val_main_v146 (F := Ideal) x uz ga wg ps w) (ix3 b q k) from rfl).trans
    (give_apply 1 _ (fun k s => dPooled Z D Ga Ps Wg W s (lane 1 k)) (fun b q k => by
      pointwise [val_main_v146, val_main_v145]
      exact dPooled_coe hx hz hga hwg hps hw b q 1 k) b q k)

theorem give2_coe (b : Fin 32) (q : Fin 64) (k : Fin 256) : val_main_v171 (F := Ideal) x uz ga wg ps w (ix3 b q k)
    = (backMean 2 (fun s => dPooled Z D Ga Ps Wg W s (lane 2 k)) (b.val * 64 + q.val) : EReal) :=
  (show val_main_v171 (F := Ideal) x uz ga wg ps w (ix3 b q k)
      = give (1#32 <<< ((2 : Fin 4).val)) (2#32 <<< ((2 : Fin 4).val)) (val_main_v148 (F := Ideal) x uz ga wg ps w) (ix3 b q k) from rfl).trans
    (give_apply 2 _ (fun k s => dPooled Z D Ga Ps Wg W s (lane 2 k)) (fun b q k => by
      pointwise [val_main_v148, val_main_v147]
      exact dPooled_coe hx hz hga hwg hps hw b q 2 k) b q k)

theorem give3_coe (b : Fin 32) (q : Fin 64) (k : Fin 256) : val_main_v159 (F := Ideal) x uz ga wg ps w (ix3 b q k)
    = (backMean 3 (fun s => dPooled Z D Ga Ps Wg W s (lane 3 k)) (b.val * 64 + q.val) : EReal) :=
  (show val_main_v159 (F := Ideal) x uz ga wg ps w (ix3 b q k)
      = give (1#32 <<< ((3 : Fin 4).val)) (2#32 <<< ((3 : Fin 4).val)) (val_main_v150 (F := Ideal) x uz ga wg ps w) (ix3 b q k) from rfl).trans
    (give_apply 3 _ (fun k s => dPooled Z D Ga Ps Wg W s (lane 3 k)) (fun b q k => by
      pointwise [val_main_v150, val_main_v149]
      exact dPooled_coe hx hz hga hwg hps hw b q 3 k) b q k)

theorem dLanes_coe (b : Fin 32) (q : Fin 64) (g : Fin 4) (k : Fin 256) :
    val_main_v198 (F := Ideal) x uz ga wg ps w (ix4 b q g k) = (dLanes Z D Ga Ps Wg W (b.val * 64 + q.val) (lane g k) : EReal) := by
  have zero : ∀ i : S_.Idx, constant (F := Ideal) S_ .f32 0x00000000#32 i = (0 : EReal) := fun i => by
    rw [show i = ix0 from funext fun a => a.elim0]; pointwise []
  have p3 : val_main_v161 (F := Ideal) x uz ga wg ps w (ix4 b q g k)
      = if g.val = 3 then val_main_v159 (F := Ideal) x uz ga wg ps w (ix3 b q k) else (0 : EReal) :=
    (pad_apply _ _ _ zero _ b q g k).trans (by rw [show val_main_v160 (F := Ideal) x uz ga wg ps w (ix4 b q 0 k) = val_main_v159 (F := Ideal) x uz ga wg ps w (ix3 b q k) by pointwise [val_main_v160]])
  have p2 : val_main_v173 (F := Ideal) x uz ga wg ps w (ix4 b q g k)
      = if g.val = 2 then val_main_v171 (F := Ideal) x uz ga wg ps w (ix3 b q k) else (0 : EReal) :=
    (pad_apply _ _ _ zero _ b q g k).trans (by rw [show val_main_v172 (F := Ideal) x uz ga wg ps w (ix4 b q 0 k) = val_main_v171 (F := Ideal) x uz ga wg ps w (ix3 b q k) by pointwise [val_main_v172]])
  have p1 : val_main_v185 (F := Ideal) x uz ga wg ps w (ix4 b q g k)
      = if g.val = 1 then val_main_v183 (F := Ideal) x uz ga wg ps w (ix3 b q k) else (0 : EReal) :=
    (pad_apply _ _ _ zero _ b q g k).trans (by rw [show val_main_v184 (F := Ideal) x uz ga wg ps w (ix4 b q 0 k) = val_main_v183 (F := Ideal) x uz ga wg ps w (ix3 b q k) by pointwise [val_main_v184]])
  have p0 : val_main_v197 (F := Ideal) x uz ga wg ps w (ix4 b q g k)
      = if g.val = 0 then val_main_v195 (F := Ideal) x uz ga wg ps w (ix3 b q k) else (0 : EReal) :=
    (pad_apply _ _ _ zero _ b q g k).trans (by rw [show val_main_v196 (F := Ideal) x uz ga wg ps w (ix4 b q 0 k) = val_main_v195 (F := Ideal) x uz ga wg ps w (ix3 b q k) by pointwise [val_main_v196]])
  pointwise [val_main_v198, val_main_v186, val_main_v174, val_main_v162, val_main_v142]
  rw [p0, p1, p2, p3, dPooled_coe hx hz hga hwg hps hw, give0_coe hx hz hga hwg hps hw, give1_coe hx hz hga hwg hps hw, give2_coe hx hz hga hwg hps hw,
    give3_coe hx hz hga hwg hps hw]
  unfold dLanes
  rw [grp_lane, sub_eq_neg_add, EReal.coe_add, EReal.coe_neg]
  match g with
  | ⟨0, _⟩ => simp
  | ⟨1, _⟩ => simp
  | ⟨2, _⟩ => simp
  | ⟨3, _⟩ => simp

include hu in
theorem dGate_coe (r : Fin 2048) (l : Fin 1024) : val_main_v130 (F := Ideal) x uz ga wg ps w (ix2 r l) = (dGate U Z D Ga Ps Wg W r.val l : EReal) := by
  pointwise [val_main_v130, val_main_call21_v2, val_main_call21_v1, val_main_call21_v0, val_main_v128, val_main_v118_1, val_main_call20_v7, val_main_call20_v6,
    val_main_call20_cst_1]
  rw [scaled_coe hu hwg hps, dAct_coe hx hga hw, sig_coe hz, z_coe hz]
  simp only [← EReal.coe_one, ← EReal.coe_sub, ← EReal.coe_mul, ← EReal.coe_add]
  refine congrArg (fun a : ℝ => (a : EReal)) ?_
  unfold dGate dsilu
  ring

include hu in
theorem duz_coe : val_main_v203 (F := Ideal) x uz ga wg ps w = both (dLanes Z D Ga Ps Wg W) (dGate U Z D Ga Ps Wg W) := by
  funext i
  obtain ⟨s, r, l, rfl⟩ : ∃ (s : Fin 2) (r : Fin 2048) (l : Fin 1024), i = ix3 s r l := ⟨i 0, i 1, i 2, eq_ix3 i⟩
  revert s
  pointwise [val_main_v203, val_main_v202, val_main_v200, val_main_v201, val_main_v199]
  refine ⟨(dLanes_coe hx hz hga hwg hps hw _ _ _ _).trans ?_, (dGate_coe hx hu hz hga hwg hps hw r l).trans (both_one _ _ r l).symm⟩
  refine Eq.trans ?_ (both_zero _ _ r l).symm
  refine congrArg (fun a : ℝ => (a : EReal)) ?_
  exact congrArg₂ (dLanes Z D Ga Ps Wg W) (by dsimp only; omega) (lane_grp_place l)

include hu in
theorem dproj_coe : val_main_v204 (F := Ideal) x uz ga wg ps = fun i => ((∑ r : Fin 2048, dProjRow U Z D Ga Ps Wg r.val (i 0) (i 1) : ℝ) : EReal) := by
  funext i
  obtain ⟨l, j, rfl⟩ : ∃ (l j : Fin 1024), i = ix2 l j := ⟨i 0, i 1, eq_ix2 i⟩
  pointwise [val_main_v204, val_main_v126, val_main_v125]
  simp only [cot_coe hx hga, act_coe hu hz hwg hps, ← EReal.coe_mul, coe_sum]
  refine congrArg (fun a : ℝ => (a : EReal)) (Finset.sum_congr rfl fun r _ => ?_)
  exact mul_comm _ _

include hu in
theorem dscale_coe : val_main_v133 (F := Ideal) x uz ga wg w = fun i => ((∑ r : Fin 2048, dScaleRow U Z D Ga Wg W r.val (i 1) : ℝ) : EReal) := by
  funext i
  obtain ⟨l, rfl⟩ : ∃ l : Fin 1024, i = ix2 0 l := ⟨i 1, by rw [eq_ix2 i]; congr 1; exact Subsingleton.elim (α := Fin 1) _ _⟩
  pointwise [val_main_v133, val_main_v132, val_main_v131, val_main_cst_34]
  simp only [mixed_coe hu hwg, dScaled_coe hx hz hga hw, ← EReal.coe_mul, coe_sum]
  refine congrArg (fun a : ℝ => (a : EReal)) (Finset.sum_congr rfl fun r _ => ?_)
  exact mul_comm _ _

include hu in
theorem dgroup_coe : val_main_v205 (F := Ideal) x uz ga ps w = fun i => ((∑ r : Fin 2048, dGroupRow U Z D Ga Ps W r.val (i 0) (i 1) (i 2) : ℝ) : EReal) := by
  funext i
  obtain ⟨g, j, k, rfl⟩ : ∃ (g : Fin 4) (j k : Fin 256), i = ix3 g j k := ⟨i 0, i 1, i 2, eq_ix3 i⟩
  pointwise [val_main_v205, val_main_v141, val_main_v140]
  simp only [dMixed_coe hx hz hga hps hw, pooled_coe hu, ← EReal.coe_mul, coe_sum]
  refine congrArg (fun a : ℝ => (a : EReal)) ?_
  refine Eq.trans ?_ (Idealize.ShloMosaic.Fin.sum_univ_tiles 32 64 (by norm_num : 32 * 64 = 2048) _).symm
  refine Finset.sum_congr rfl fun b _ => Finset.sum_congr rfl fun q _ => ?_
  exact mul_comm _ _

end Cert.PoolStage.Ref

end
-- ==== Proof.PoolBack.lean ====
/- The pooling mixer's gradient: kernel and reference leave the same four gradients, from the two runs and the precondition
   that the arguments are real. -/
module

public import proofs.«01_k».proof.Defs
public import proofs.«01_k».proof.Proof.PoolRows
public import proofs.«01_k».proof.Proof.PoolBackArray
public import proofs.«01_k».proof.Proof.PoolBackRef
public import proofs.«01_k».proof.Proof.Gen.Pre_finite_pool

@[expose] public section

set_option maxRecDepth 16384

noncomputable section

namespace Cert.PoolStage

open Idealize.ShloMosaic Idealize.ShloMosaic.TcCoe Idealize.SL.Sem Cert.Reals Cert.Pool

/-- The precondition, read: six arrays of reals, the activations by row number. -/
theorem reals {x : FVec Ideal Pre_finite_pool.S2048x1024 .f32} {uz : FVec Ideal Pre_finite_pool.S2x2048x1024 .f32}
    {ga ps : FVec Ideal Pre_finite_pool.S1x1024 .f32} {wg : FVec Ideal Pre_finite_pool.S4x256x256 .bf16}
    {w : FVec Ideal Pre_finite_pool.S1024x1024 .bf16}
    (h : Pre_finite_pool.fn (F := Ideal) x uz ga wg ps w = fun _ => 1#1) :
    (∃ D : ℕ → Fin 1024 → ℝ, ∀ (r : Fin 2048) l, x (ix2 r l) = (D r.val l : EReal))
    ∧ (∃ U : ℕ → Fin 1024 → ℝ, ∀ (r : Fin 2048) l, uz (ix3 0 r l) = (U r.val l : EReal))
    ∧ (∃ Z : ℕ → Fin 1024 → ℝ, ∀ (r : Fin 2048) l, uz (ix3 1 r l) = (Z r.val l : EReal))
    ∧ (∃ Ga : Fin 1024 → ℝ, ∀ k, ga (ix2 0 k) = (Ga k : EReal))
    ∧ (∃ Wg : Fin 4 → Fin 256 → Fin 256 → ℝ, ∀ g i k, wg (ix3 g i k) = (Wg g i k : EReal))
    ∧ (∃ Ps : Fin 1024 → ℝ, ∀ k, ps (ix2 0 k) = (Ps k : EReal))
    ∧ (∃ W : Fin 1024 → Fin 1024 → ℝ, ∀ j k, w (ix2 j k) = (W j k : EReal)) := by
  have h := congrFun h ix0
  unfold Pre_finite_pool.fn Pre_finite_pool.fn_part1 at h
  obtain ⟨h, hw⟩ := IntOp.andi_eq_one.1 h
  obtain ⟨h, hps⟩ := IntOp.andi_eq_one.1 h
  obtain ⟨h, hwg⟩ := IntOp.andi_eq_one.1 h
  obtain ⟨h, hga⟩ := IntOp.andi_eq_one.1 h
  obtain ⟨hx, hu⟩ := IntOp.andi_eq_one.1 h
  obtain ⟨D, hD⟩ := exists_real _ _ _ _ _ _ _ hx
  obtain ⟨A, hA⟩ := exists_real _ _ _ _ _ _ _ hu
  obtain ⟨Ga, hGa⟩ := exists_real _ _ _ _ _ _ _ hga
  obtain ⟨Wg, hWg⟩ := exists_real_half _ _ _ _ _ _ _ _ hwg
  obtain ⟨Ps, hPs⟩ := exists_real _ _ _ _ _ _ _ hps
  obtain ⟨W, hW⟩ := exists_real_half _ _ _ _ _ _ _ _ hw
  refine ⟨⟨rows fun r l => D (ix2 r l), fun r l => ?_⟩, ⟨rows fun r l => A (ix3 0 r l), fun r l => ?_⟩, ⟨rows fun r l => A (ix3 1 r l), fun r l => ?_⟩,
    ⟨fun k => Ga (ix2 0 k), fun _ => hGa _⟩, ⟨fun g i k => Wg (ix3 g i k), fun _ _ _ => hWg _⟩,
    ⟨fun k => Ps (ix2 0 k), fun _ => hPs _⟩, ⟨fun j k => W (ix2 j k), fun _ _ => hW _⟩⟩
  · rw [rows_val]; exact hD _
  · rw [rows_val]; exact hA _
  · rw [rows_val]; exact hA _

set_option maxHeartbeats 2000000 in
theorem value : Cert.algebraic_PoolBackIdeal_PoolBackRefIdeal_pre_finite_pool := fun m g m' g' hpre hag => by
  refine ⟨_, _, _, _, PoolBackIdeal.Value.run_blocks m g, (θ_run _ _ _).mono (fun r h c => ?_) (PoolBackRefIdeal.Value.run m' g')⟩
  obtain ⟨h0, h1, h2, h3, h⟩ := h c
  obtain ⟨⟨D, hx⟩, ⟨U, hu⟩, ⟨Z, hz⟩, ⟨Ga, hga⟩, ⟨Wg, hwg⟩, ⟨Ps, hps⟩, W, hw⟩ := reals (hpre c)
  obtain ⟨e0, e1, e2, e3, e4, e5⟩ := hag c
  rw [← e0] at hx
  rw [← e1] at hu hz
  rw [← e2] at hga
  rw [← e3] at hwg
  rw [← e4] at hps
  rw [← e5] at hw
  refine ⟨(h0.trans (PoolBackRefIdeal.Read.val_main_v203_eq _)).trans ((Ref.duz_coe hx hu hz hga hwg hps hw).trans ?_),
    (h1.trans (PoolBackRefIdeal.Read.val_main_v204_eq _)).trans ((Ref.dproj_coe hx hu hz hga hwg hps hw).trans ?_),
    (h2.trans (PoolBackRefIdeal.Read.val_main_v205_eq _)).trans ((Ref.dgroup_coe hx hu hz hga hwg hps hw).trans ?_),
    (h3.trans (PoolBackRefIdeal.Read.val_main_v133_eq _)).trans ((Ref.dscale_coe hx hu hz hga hwg hps hw).trans ?_), h⟩
  all_goals
    rw [e0] at hx
    rw [e1] at hu hz
    rw [e2] at hga
    rw [e3] at hwg
    rw [e4] at hps
    rw [e5] at hw
  · exact (duz_final hx hu hz hga hwg hps hw).symm
  · exact (dproj_final hx hu hz hga hwg hps hw).symm
  · exact (dgroup_final hx hu hz hga hwg hps hw).symm
  · exact (dscale_final hx hu hz hga hwg hps hw).symm

theorem frame_reference : Cert.quiescent_PoolBackRefIdeal := fun m g _ =>
  (θ_run PoolBackRefIdeal.defs _ _).mono (fun r h => ⟨fun c => (h c).2.2.2.2, sem_eq_zero_of_no_sems rfl r.2⟩)
    (PoolBackRefIdeal.Value.run (F := Ideal) m g)

end Cert.PoolStage

end
-- ==== Proof.WeightGrad.lean ====
/- The gradient of the pooling block's projection: the kernel adds four tiles of 512 rows in its scratch, the reference sums all
   2048 rows at once. -/
module

public import proofs.«01_k».proof.Defs
public import proofs.«01_k».proof.Proof.Reals
public import proofs.«01_k».proof.Proof.Gen.WeightGradIdeal.Value
public import proofs.«01_k».proof.Proof.Gen.WeightGradRefIdeal.Read
public import Idealize.ShloMosaic.Lib.Pipeline.ReadBack
public import Idealize.ShloMosaic.Lib.Pipeline.ValueKit

@[expose] public section

set_option maxRecDepth 16384

noncomputable section

namespace Cert.PoolWeight

open Idealize.ShloMosaic Idealize.ShloMosaic.TcCoe Idealize.SL.Sem Cert.Reals

/-- The section of column `l`, and its place there. -/
def section_ (l : Fin 2048) : Fin 2 := ⟨l.val / 1024, by omega⟩
def place (l : Fin 2048) : Fin 1024 := ⟨l.val % 1024, by omega⟩

section
open Cert.WeightGradIdeal Cert.WeightGradIdeal.Gen

variable (m : (ℓ : Loc nD τ sig) → Buf (Elt Ideal) ℓ) (c : Dev nD) (t : Fin cfg0.N)

theorem idx0 : ∀ t : Fin cfg0.N, win0_0.index t = ![t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![0, t.val / 4] := (by decide +kernel : ∀ t : Fin grid0.N, _)

/-- What row `x` adds to the gradient's entry. -/
def entry (h : FVec Ideal S2048x1024 .bf16) (d : FVec Ideal S2x2048x1024 .bf16) (s : Fin 2) (j k : Fin 1024) (x : Fin 2048) : EReal :=
  h (ix2 x j) * d (ix3 s x k)

abbrev term (s : Fin 2) (j k : Fin 1024) (x : Fin 2048) : EReal :=
  entry (m ((c : Thread nD τ).loc main_arg0)) (m ((c : Thread nD τ).loc main_arg1)) s j k x

/-- What tile `i` of 512 rows adds. -/
def tile (s : Fin 2) (j k : Fin 1024) (i : Fin 4) : EReal := ∑ r : Fin 512, term m c s j k ⟨i.val * 512 + r.val, by omega⟩

/-- The section and the tile of point `t`. -/
def sec : Fin 2 := ⟨t.val / 4, by have := t.isLt; have : cfg0.N = 8 := N_0; omega⟩
def part : Fin 4 := ⟨t.val % 4, by omega⟩

theorem product_apply (j k : Fin 1024) : k0_pay1 (iblk m c 0 t) (iblk m c 1 t) (ix2 j k) = tile m c (sec t) j k (part t) := by
  have h (r : Fin 512) : iblk m c 0 t (ix2 r j) = m ((c : Thread nD τ).loc main_arg0) (ix2 ⟨(part t).val * 512 + r.val, by omega⟩ j) := by
    blk_simp [iblk, V_main_arg0]
    congr 1
    blk_ext [idx0 t, part]
  have g (r : Fin 512) : iblk m c 1 t (ix3 0 r k) = m ((c : Thread nD τ).loc main_arg1) (ix3 (sec t) ⟨(part t).val * 512 + r.val, by omega⟩ k) := by
    blk_simp [iblk, V_main_arg1]
    congr 1
    blk_ext [idx1 t, sec, part]
  pointwise [k0_pay1]
  simp only [h, g]
  rfl

/-- The sum carried, before a point adds to it. -/
abbrev prev := outsAt0 m c (t.val - 1) (Nat.lt_of_le_of_lt (Nat.sub_le _ _) t.isLt)

theorem first_apply (h0 : t.val % 4 = 0) (j k : Fin 1024) :
    (outsAt0 m c t.val t.isLt).2 (ix2 j k) = tile m c (sec t) j k (part t) := by
  rw [outsAt0_A m c t h0 (by omega) (by omega)]
  frame_out
  refine Eq.trans ?_ (product_apply m c t j k)
  pointwise [k0_pay2]

theorem middle_apply (h1 : 1 ≤ t.val % 4 ∧ t.val % 4 ≤ 2) (j k : Fin 1024) :
    (outsAt0 m c t.val t.isLt).2 (ix2 j k) = (prev m c t).2 (ix2 j k) + tile m c (sec t) j k (part t) := by
  rw [outsAt0_B m c t (by omega) h1 (by omega)]
  frame_out
  try simp (disch := decide) only [↓ View.readCov_skip, ↓ View.readCov_cons_toLoadRect, ↓ View.readCov_fill, read_unread_whole]
  refine Eq.trans ?_ (congrArg _ (product_apply m c t j k))
  pointwise [k0_pay3]

theorem last_apply (h3 : t.val % 4 = 3) (j k : Fin 1024) :
    (outsAt0 m c t.val t.isLt).1 (ix2 j k) = (prev m c t).2 (ix2 j k) + tile m c (sec t) j k (part t) := by
  rw [outsAt0_C m c t (by omega) (by omega) h3]
  frame_out
  try simp (disch := decide) only [↓ View.readCov_skip, ↓ View.readCov_cons_toLoadRect, ↓ View.readCov_fill, read_unread_whole]
  refine Eq.trans ?_ (congrArg _ (product_apply m c t j k))
  pointwise [k0_pay4]

/-- A section's four points leave the sum over all rows. -/
theorem block_apply (h3 : t.val % 4 = 3) (j k : Fin 1024) : (outsAt0 m c t.val t.isLt).1 (ix2 j k) = ∑ x, term m c (sec t) j k x := by
  have hN : cfg0.N = 8 := N_0
  have ht := t.isLt
  have e (i : ℕ) (hi : i ≤ 3) : sec ⟨t.val - i, by omega⟩ = sec t := Fin.ext (show (t.val - i) / 4 = t.val / 4 by omega)
  have p (i : ℕ) (hi : i ≤ 3) : part ⟨t.val - i, by omega⟩ = ⟨3 - i, by omega⟩ := Fin.ext (show (t.val - i) % 4 = 3 - i by omega)
  have h2 := middle_apply m c ⟨t.val - 1, by omega⟩ (show 1 ≤ (t.val - 1) % 4 ∧ (t.val - 1) % 4 ≤ 2 by omega) j k
  have h1 := middle_apply m c ⟨t.val - 2, by omega⟩ (show 1 ≤ (t.val - 2) % 4 ∧ (t.val - 2) % 4 ≤ 2 by omega) j k
  have h0 := first_apply m c ⟨t.val - 3, by omega⟩ (show (t.val - 3) % 4 = 0 by omega) j k
  rw [e 1 (by omega), p 1 (by omega)] at h2
  rw [e 2 (by omega), p 2 (by omega)] at h1
  rw [e 3 (by omega), p 3 (by omega)] at h0
  rw [last_apply m c t h3, show part t = (3 : Fin 4) from Fin.ext h3]
  refine (congrArg (· + _) (h2.trans (congrArg (· + _) (h1.trans (congrArg (· + _) h0))))).trans ?_
  rw [Fin.sum_univ_tiles 4 512 rfl, Fin.sum_univ_four]
  rfl

theorem final : (dats m 0 c).arrAt 2 cfg0.N
    = (fun i => ∑ x, term m c (section_ (i 1)) (i 0) (place (i 1)) x : Vec Ideal S1024x2048 .bf16) := by
  refine (dats m 0 c).arrAt_eq_of_covers 2 _ (by decide +kernel) fun t hf y => ?_
  blk_simp
  rw [after0_2]
  obtain ⟨j, k, rfl⟩ : ∃ (j k : Fin 1024), y = ix2 j k := ⟨y 0, y 1, eq_ix2 y⟩
  have h3 : t.val % 4 = 3 := (flush0_2 t).mp hf
  have e : (win0_2.blk t).view.emb (ix2 j k) = (ix2 j ⟨(sec t).val * 1024 + k.val, by omega⟩ : S1024x2048.Idx) := by blk_ext [idx2 t, sec]
  rw [e, block_apply m c t h3]
  have es : section_ ⟨(sec t).val * 1024 + k.val, by omega⟩ = sec t := Fin.ext (show ((sec t).val * 1024 + k.val) / 1024 = (sec t).val by omega)
  have ek : place ⟨(sec t).val * 1024 + k.val, by omega⟩ = k := Fin.ext (show ((sec t).val * 1024 + k.val) % 1024 = k.val by omega)
  show _ = ∑ x, term m c (section_ ⟨(sec t).val * 1024 + k.val, _⟩) j (place ⟨(sec t).val * 1024 + k.val, _⟩) x
  rw [es, ek]

end

namespace Ref

open Cert.WeightGradRefIdeal Cert.WeightGradRefIdeal.Gen Cert.WeightGradRefIdeal.Read

variable (h : FVec Ideal S2048x1024 .bf16) (d : FVec Ideal S2x2048x1024 .bf16)

theorem cotangent_apply (x l : Fin 2048) : val_main_v13 (F := Ideal) d (ix2 x l) = d (ix3 (section_ l) x (place l)) := by
  have hl := l.isLt
  unfold val_main_v13
  by_cases h1 : l.val < 1024
  · have es : section_ l = 0 := Fin.ext (show l.val / 1024 = 0 by omega)
    have ek : place l = ⟨l.val, h1⟩ := Fin.ext (show l.val % 1024 = l.val by omega)
    rw [es, ek]
    refine (concatenate_pair_apply_left (s₁ := S2048x1024) (s₂ := S2048x1024) (1 : Fin S2048x2048.rank) _ _ _ (ix2 x l) rfl (ix2 x ⟨l.val, h1⟩ : S2048x1024.Idx)
      fun b => match b with
      | ⟨0, _⟩ => rfl
      | ⟨1, _⟩ => rfl).trans ?_
    pointwise [val_main_v10, val_main_v9, val_main_v8, val_main_v0]
  · have es : section_ l = 1 := Fin.ext (show l.val / 1024 = 1 by omega)
    have ek : place l = ⟨l.val - 1024, by omega⟩ := Fin.ext (show l.val % 1024 = l.val - 1024 by omega)
    rw [es, ek]
    refine (concatenate_pair_apply_right (s₁ := S2048x1024) (s₂ := S2048x1024) (1 : Fin S2048x2048.rank) _ _ _ (ix2 x l) rfl rfl
      (ix2 x ⟨l.val - 1024, by omega⟩ : S2048x1024.Idx) (fun b hb => match b with
      | ⟨0, _⟩ => rfl
      | ⟨1, _⟩ => absurd rfl hb) (show l.val - 1024 + 1024 = l.val by omega)).trans ?_
    pointwise [val_main_v12, val_main_v11, val_main_v8, val_main_v0]

theorem grad_eq : val_main_v16 (F := Ideal) h d
    = fun i => ∑ x, h (ix2 x (i 0)) * d (ix3 (section_ (i 1)) x (place (i 1))) := by
  funext i
  obtain ⟨j, l, rfl⟩ : ∃ (j : Fin 1024) (l : Fin 2048), i = ix2 j l := ⟨i 0, i 1, eq_ix2 i⟩
  pointwise [val_main_v16, val_main_v15, val_main_v14, val_main_v1]
  simp only [cotangent_apply]
  exact Finset.sum_congr rfl fun x _ => mul_comm _ _

end Ref

theorem value : Cert.algebraic_WeightGradIdeal_WeightGradRefIdeal := fun m g m' g' _ hag => by
  have key : ∀ c, (WeightGradIdeal.Gen.dats m 0 c).arrAt 2 WeightGradIdeal.cfg0.N = WeightGradRefIdeal.Read.val_main_v16 (F := Ideal)
      (m' ((c.tc : Thread _ _).loc WeightGradRefIdeal.main_arg0)) (m' ((c.tc : Thread _ _).loc WeightGradRefIdeal.main_arg1)) := by
    intro c
    obtain ⟨e0, e1⟩ := hag c
    rw [e0, e1]
    exact (final m c).trans (Ref.grad_eq _ _).symm
  exact ⟨_, WeightGradIdeal.Value.run_blocks m g, (θ_run _ _ _).mono (fun r h c => ⟨(h c).1.trans (key c).symm, (h c).2⟩)
    (WeightGradRefIdeal.Value.run m' g')⟩

theorem frame_reference : Cert.quiescent_WeightGradRefIdeal := fun m g _ =>
  (θ_run WeightGradRefIdeal.defs _ _).mono (fun r h => ⟨fun c => (h c).2, sem_eq_zero_of_no_sems rfl r.2⟩)
    (WeightGradRefIdeal.Value.run (F := Ideal) m g)

end Cert.PoolWeight

end
-- ==== Proof.Adamw.lean ====
/- The optimiser's step of the four weights that are exchanged late: kernel and reference leave the same changes and moments, and
   each element's is the same tree of operations on both sides. -/
module

public import proofs.«01_k».proof.Defs
public import proofs.«01_k».proof.Proof.Gen.AdamwIdeal.Value
public import proofs.«01_k».proof.Proof.Gen.AdamwRefIdeal.Run

@[expose] public section

noncomputable section

namespace Cert.Update

open Idealize.ShloMosaic Idealize.ShloMosaic.TcCoe Idealize.SL.Sem

theorem value : Cert.algebraic_AdamwIdeal_AdamwRefIdeal := fun m g m' g' _ hag =>
  ⟨_, _, _, _, _, _, _, _, _, _, _, _, AdamwIdeal.Value.run m g, (θ_run _ _ _).mono (fun r h c => by
    obtain ⟨e0, e1, e2, e3, e4, e5, e6, e7, e8, e9, e10, e11, e12, e13, e14, e15⟩ := hag c
    obtain ⟨h0, h1, h2, h3, h4, h5, h6, h7, h8, h9, h10, h11, h⟩ := h c
    refine ⟨h0.trans ?_, h1.trans ?_, h2.trans ?_, h3.trans ?_, h4.trans ?_, h5.trans ?_, h6.trans ?_, h7.trans ?_, h8.trans ?_,
      h9.trans ?_, h10.trans ?_, h11.trans ?_, h⟩
    all_goals
      simp only [e0, e1, e2, e3, e4, e5, e6, e7, e8, e9, e10, e11, e12, e13, e14, e15]
      rfl) (AdamwRefIdeal.Value.run m' g')⟩

theorem frame_reference : Cert.quiescent_AdamwRefIdeal := fun m g _ =>
  (θ_run AdamwRefIdeal.defs _ _).mono (fun r h => ⟨fun c => (h c).2.2.2.2.2.2.2.2.2.2.2.2, sem_eq_zero_of_no_sems rfl r.2⟩)
    (AdamwRefIdeal.Value.run (F := Ideal) m g)

end Cert.Update

end
-- ==== Proof.SumsArray.lean ====
/- The sums of all devices' small gradients and the context condition's gradient: what they are, and that the kernel leaves them in
   its whole arrays. -/
module

public import proofs.«01_k».proof.Proof.Gen.SumsIdeal.Value
public import proofs.«01_k».proof.Proof.AdaBlock
public import Idealize.ShloMosaic.Lib.Pipeline.ReadBack
public import Idealize.ShloMosaic.Lib.Pipeline.ValueKit

@[expose] public section

set_option maxRecDepth 16384

noncomputable section

namespace Cert.SmallSums

open Idealize.ShloMosaic Idealize.ShloMosaic.TcCoe Idealize.SL.Sem
open Cert.Reals Cert.Silu

/-! ## The results -/

/-- The sum of the devices' rows. -/
def total (x : Fin 192 → Fin 1024 → EReal) (r : Fin 24) (k : Fin 1024) : EReal := ∑ d : Fin 8, x ⟨d.val * 24 + r.val, by omega⟩ k

/-- The cotangent of the context's modulation: three rows of the sums, one after the other. -/
def col (x : Fin 192 → Fin 1024 → EReal) (l : Fin 3072) : EReal := total x ⟨6 + l.val / 1024, by omega⟩ ⟨l.val % 1024, by omega⟩

/-- The columns of the chip at place `(p, q)`. -/
def mine (x : Fin 192 → Fin 1024 → EReal) (p q : BitVec 32) (k : Fin 768) : EReal :=
  ∑ s : Fin 4, if 2#32 * p + q = BitVec.ofNat 32 s.val then col x ⟨s.val * 768 + k.val, by omega⟩ else 0

/-- The chip's part of the cotangent of the condition's gate. -/
def part (x : Fin 192 → Fin 1024 → EReal) (p q : BitVec 32) (w : Fin 1024 → Fin 768 → EReal) (j : Fin 1024) : EReal :=
  ∑ k, mine x p q k * w j k

/-- The condition's gradient, from all chips' parts. -/
def grad (Y : Fin 64 → Fin 1024 → ℝ) (C : Fin 1024 → ℝ) (j : Fin 1024) : ℝ :=
  (∑ s : Fin 4, Y ⟨s.val * 16, by omega⟩ j) * (sig (C j) * (1 + C j * (1 - sig (C j))))

theorem exists_mine {x : Fin 192 → Fin 1024 → EReal} {X : Fin 192 → Fin 1024 → ℝ} (hx : ∀ r k, x r k = (X r k : EReal)) (p q : BitVec 32) :
    ∃ M : Fin 768 → ℝ, ∀ k, mine x p q k = (M k : EReal) := by
  refine ⟨fun k => ∑ s : Fin 4, if 2#32 * p + q = BitVec.ofNat 32 s.val then
    ∑ d : Fin 8, X ⟨d.val * 24 + (6 + (s.val * 768 + k.val) / 1024), by omega⟩ ⟨(s.val * 768 + k.val) % 1024, by omega⟩ else 0, fun k => ?_⟩
  unfold mine
  rw [← coe_sum]
  refine Finset.sum_congr rfl fun s _ => ?_
  split
  · unfold col total
    simp only [hx, coe_sum]
  · rfl

/-! ## The kernel -/

open Cert.SumsIdeal Cert.SumsIdeal.Gen

theorem select_eq (a b : BitVec 32) (y : EReal) : Scalar.select (Scalar.cmpi .eq a b) y 0 = if a = b then y else 0 := by
  by_cases h : a = b
  · simp [Scalar.select, Scalar.cmpi, IntOp.cmpi, h]
  · have e : (a == b) = false := beq_eq_false_iff_ne.2 h
    simp [Scalar.select, Scalar.cmpi, IntOp.cmpi, h, e]

section
variable {v0 v1 v3 v5 v7 v9 v11 v13 : Vec Ideal S24x1024 .f32} {x : Fin 192 → Fin 1024 → EReal}
  (h : ∀ r k, k0_pay2 v0 v1 v3 v5 v7 v9 v11 v13 (ix2 r k) = total x r k)
include h

theorem col_apply (l : Fin 3072) : k0_pay3 v0 v1 v3 v5 v7 v9 v11 v13 (ix2 0 l) = col x l := by
  have hl := l.isLt
  pointwise [k0_pay3]
  simp only [h]
  unfold col
  by_cases h1 : l.val < 1024
  · rw [dif_pos h1]
    exact congr (congrArg _ (Fin.ext (show 6 = 6 + l.val / 1024 by omega))) (Fin.ext (show l.val = l.val % 1024 by omega))
  · rw [dif_neg h1]
    by_cases h2 : l.val - 1024 < 1024
    · rw [dif_pos h2]
      exact congr (congrArg _ (Fin.ext (show 7 = 6 + l.val / 1024 by omega))) (Fin.ext (show l.val - 1024 = l.val % 1024 by omega))
    · rw [dif_neg h2]
      exact congr (congrArg _ (Fin.ext (show 8 = 6 + l.val / 1024 by omega))) (Fin.ext (show l.val - 1024 - 1024 = l.val % 1024 by omega))

theorem mine_apply (p q : BitVec 32) (k : Fin 768) :
    k0_pay4 v0 v1 v3 v5 v7 v9 v11 v13 p q (ix2 0 k)
      + Scalar.select (Scalar.cmpi .eq (Scalar.addi (Scalar.muli 2#32 p) q) 1#32) (k0_pay3 v0 v1 v3 v5 v7 v9 v11 v13 (ix2 0 ⟨768 + k.val, by omega⟩)) 0
      + Scalar.select (Scalar.cmpi .eq (Scalar.addi (Scalar.muli 2#32 p) q) 2#32) (k0_pay3 v0 v1 v3 v5 v7 v9 v11 v13 (ix2 0 ⟨1536 + k.val, by omega⟩)) 0
      + Scalar.select (Scalar.cmpi .eq (Scalar.addi (Scalar.muli 2#32 p) q) 3#32) (k0_pay3 v0 v1 v3 v5 v7 v9 v11 v13 (ix2 0 ⟨2304 + k.val, by omega⟩)) 0
      = mine x p q k := by
  have e : k0_pay4 v0 v1 v3 v5 v7 v9 v11 v13 p q (ix2 0 k)
      = Scalar.select (Scalar.cmpi .eq (Scalar.addi (Scalar.muli 2#32 p) q) 0#32) (k0_pay3 v0 v1 v3 v5 v7 v9 v11 v13 (ix2 0 ⟨0 + k.val, by omega⟩)) 0 := by
    pointwise [k0_pay4]
  rw [e]
  simp only [col_apply h, select_eq]
  unfold mine
  rw [Fin.sum_univ_four]
  simp
  rfl

theorem part_coe {X : Fin 192 → Fin 1024 → ℝ} {W : Fin 1024 → Fin 768 → ℝ} (hx : ∀ r k, x r k = (X r k : EReal))
    {w : Vec Ideal S1x1024x768 .f32} (hw : ∀ j k, w (ix3 0 j k) = (W j k : EReal)) (p q : BitVec 32) (r : Fin 8) (j : Fin 1024) :
    k0_pay5 p q (k0_pay3 v0 v1 v3 v5 v7 v9 v11 v13) (k0_pay4 v0 v1 v3 v5 v7 v9 v11 v13 p q)
      (Scalar.cmpi .eq (Scalar.addi (Scalar.muli 2#32 p) q) 1#32) w (ix2 r j) = part x p q (fun j k => (W j k : EReal)) j := by
  obtain ⟨M, hM⟩ := exists_mine hx p q
  pointwise [k0_pay5]
  simp only [mine_apply h, hM, hw, part]
  simp only [← EReal.coe_mul, ← EReal.coe_sub, coe_sum, ← EReal.coe_add]
  refine congrArg (fun x : ℝ => (x : EReal)) ?_
  simp only [sub_self, zero_mul, mul_zero, Finset.sum_const_zero, add_zero]

end

section
variable (m : (ℓ : Loc nD τ sig) → Buf (Elt Ideal) ℓ) (c : Dev nD) (t : Fin cfg0.N)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

abbrev slabs : FVec Ideal S192x1024 .f32 := m ((c : Thread nD τ).loc main_arg0)
abbrev parts : FVec Ideal S64x1024 .f32 := m ((c : Thread nD τ).loc main_arg1)
abbrev place : IVec S2 32 := m ((c : Thread nD τ).loc main_arg2)
abbrev weight : FVec Ideal S2x1024x768 .f32 := m ((c : Thread nD τ).loc main_arg3)
abbrev cond : FVec Ideal S1x1024 .f32 := m ((c : Thread nD τ).loc main_arg4)
abbrev mom : FVec Ideal S1x1024 .f32 := m ((c : Thread nD τ).loc main_arg5)
abbrev vel : FVec Ideal S1x1024 .f32 := m ((c : Thread nD τ).loc main_arg6)

theorem in0 (r : Fin 192) (k : Fin 1024) : iblk m c 0 t (ix2 r k) = slabs m c (ix2 r k) := by
  blk_simp [iblk, V_main_arg0]; congr 1; blk_ext [idx0 t]
theorem in1 (r : Fin 64) (k : Fin 1024) : iblk m c 1 t (ix2 r k) = parts m c (ix2 r k) := by
  blk_simp [iblk, V_main_arg1]; congr 1; blk_ext [idx1 t]
theorem in2 (r : Fin 2) : iblk m c 2 t (ix1 r) = place m c (ix1 r) := by
  blk_simp [iblk, V_main_arg2]; congr 1; blk_ext [idx2 t]
theorem in3 (s : Fin 2) (j : Fin 1024) (k : Fin 768) : iblk m c 3 t (ix3 s j k) = weight m c (ix3 s j k) := by
  blk_simp [iblk, V_main_arg3]; congr 1; blk_ext [idx3 t]
theorem in4 (k : Fin 1024) : iblk m c 4 t (ix2 0 k) = cond m c (ix2 0 k) := by
  blk_simp [iblk, V_main_arg4]; congr 1; blk_ext [idx4 t]
theorem in5 (k : Fin 1024) : iblk m c 5 t (ix2 0 k) = mom m c (ix2 0 k) := by
  blk_simp [iblk, V_main_arg5]; congr 1; blk_ext [idx5 t]
theorem in6 (k : Fin 1024) : iblk m c 6 t (ix2 0 k) = vel m c (ix2 0 k) := by
  blk_simp [iblk, V_main_arg6]; congr 1; blk_ext [idx6 t]

/-- The eight loads' sum. -/
theorem total_apply (r : Fin 24) (k : Fin 1024) :
    k0_pay2 (View.ld (iblk m c 0 t) (Rect.unit ![0, 0] ![24, 1024] inb_S192x1024_S24x1024_0_0))
      (View.ld (iblk m c 0 t) (Rect.unit ![24, 0] ![24, 1024] inb_S192x1024_S24x1024_24_0))
      (View.ld (iblk m c 0 t) (Rect.unit ![48, 0] ![24, 1024] inb_S192x1024_S24x1024_48_0))
      (View.ld (iblk m c 0 t) (Rect.unit ![72, 0] ![24, 1024] inb_S192x1024_S24x1024_72_0))
      (View.ld (iblk m c 0 t) (Rect.unit ![96, 0] ![24, 1024] inb_S192x1024_S24x1024_96_0))
      (View.ld (iblk m c 0 t) (Rect.unit ![120, 0] ![24, 1024] inb_S192x1024_S24x1024_120_0))
      (View.ld (iblk m c 0 t) (Rect.unit ![144, 0] ![24, 1024] inb_S192x1024_S24x1024_144_0))
      (View.ld (iblk m c 0 t) (Rect.unit ![168, 0] ![24, 1024] inb_S192x1024_S24x1024_168_0)) (ix2 r k)
      = total (fun r k => slabs m c (ix2 r k)) r k := by
  pointwise [k0_pay2]
  simp only [in0]
  unfold total
  rw [Fin.sum_univ_eight]
  simp

theorem sums_apply (r : Fin 24) (k : Fin 1024) : (outsAt0 m c t).1 (ix2 r k) = total (fun r k => slabs m c (ix2 r k)) r k := by
  simp only [outsAt0]
  frame_out
  simp (disch := decide) only [↓ View.readCov_skip, ↓ View.readCov_cons_toLoadRect, ↓ View.readCov_fill, read_unread_whole]
  exact total_apply m c t r k

section
variable {m c}
variable {X : Fin 192 → Fin 1024 → ℝ} {W : Fin 2 → Fin 1024 → Fin 768 → ℝ} {Y : Fin 64 → Fin 1024 → ℝ} {C : Fin 1024 → ℝ}
variable (hx : ∀ r k, slabs m c (ix2 r k) = (X r k : EReal)) (hw : ∀ s j k, weight m c (ix3 s j k) = (W s j k : EReal))
  (hy : ∀ r k, parts m c (ix2 r k) = (Y r k : EReal)) (hc : ∀ k, cond m c (ix2 0 k) = (C k : EReal))

include hx hw in
theorem part_apply (r : Fin 8) (j : Fin 1024) : (outsAt0 m c t).2.1 (ix2 r j)
    = part (fun r k => slabs m c (ix2 r k)) (place m c (ix1 0)) (place m c (ix1 1)) (fun j k => (W 0 j k : EReal)) j := by
  have p0 : ∀ h, View.ld (iblk m c 2 t) (Rect.unit ![0] ![1] inb_S2_S1_0) (Shape.Idx.first h) = place m c (ix1 0) := fun h => by
    rw [← in2 m c t 0]
    exact congrArg (iblk m c 2 t) (funext fun a => Fin.ext (match a with | ⟨0, _⟩ => rfl))
  have p1 : ∀ h, View.ld (iblk m c 2 t) (Rect.unit ![1] ![1] inb_S2_S1_1) (Shape.Idx.first h) = place m c (ix1 1) := fun h => by
    rw [← in2 m c t 1]
    exact congrArg (iblk m c 2 t) (funext fun a => Fin.ext (match a with | ⟨0, _⟩ => rfl))
  simp only [outsAt0]
  frame_out
  simp (disch := decide) only [↓ View.readCov_skip, ↓ View.readCov_cons_toLoadRect, ↓ View.readCov_fill, read_unread_whole]
  rw [p0, p1]
  refine part_coe (total_apply m c t) hx (fun j k => ?_) _ _ r j
  pointwise []
  exact (in3 m c t 0 j k).trans (hw 0 j k)

include hy hc in
theorem grad_coe (k : Fin 1024) (y0 y1 y2 y3 a : Vec Ideal S1x1024 .f32) (h0 : y0 (ix2 0 k) = parts m c (ix2 0 k))
    (h1 : y1 (ix2 0 k) = parts m c (ix2 16 k)) (h2 : y2 (ix2 0 k) = parts m c (ix2 32 k)) (h3 : y3 (ix2 0 k) = parts m c (ix2 48 k))
    (ha : a (ix2 0 k) = cond m c (ix2 0 k)) : k0_pay7 (k0_pay6 y0 y1) y2 y3 a (ix2 0 k) = (grad Y C k : EReal) := by
  pointwise [k0_pay7, k0_pay6]
  rw [ofBits_half, h0, h1, h2, h3, ha, hc, sig_tanh]
  simp only [hy, ← EReal.coe_one, ← EReal.coe_mul, ← EReal.coe_sub, ← EReal.coe_add]
  refine congrArg (fun x : ℝ => (x : EReal)) ?_
  unfold grad
  rw [Fin.sum_univ_four]
  rfl

theorem pay8_apply (v71 v72 v74 v76 v92 : Vec Ideal S1x1024 .f32) (k : Fin 1024) :
    k0_pay8 v71 v72 v74 v76 v92 (ix2 0 k) = Cert.Ada.newM (k0_pay7 v71 v72 v74 v76 (ix2 0 k)) (v92 (ix2 0 k)) := by
  pointwise [k0_pay8]
  rfl

theorem pay9_apply (v71 v72 v74 v76 v93 : Vec Ideal S1x1024 .f32) (k : Fin 1024) :
    k0_pay9 v71 v72 v74 v76 v93 (ix2 0 k) = Cert.Ada.newV (k0_pay7 v71 v72 v74 v76 (ix2 0 k)) (v93 (ix2 0 k)) := by
  pointwise [k0_pay9]
  rfl

theorem pay1_apply (v71 v72 v74 v76 v92 v93 : Vec Ideal S1x1024 .f32) (k : Fin 1024) :
    k0_pay1 v76 (k0_pay10 v71 v72 v74 v76 v92) (k0_pay11 v71 v72 v74 v76 v93) (ix2 0 k)
      = Cert.Ada.change (v76 (ix2 0 k)) (k0_pay7 v71 v72 v74 v76 (ix2 0 k)) (v92 (ix2 0 k)) (v93 (ix2 0 k)) := by
  pointwise [k0_pay1, k0_pay10, k0_pay11]
  rw [pay8_apply, pay9_apply]
  rfl

include hy hc

theorem load_apply (k : Fin 1024) : k0_pay7
      (k0_pay6 (View.ld (iblk m c 1 t) (Rect.unit ![0, 0] ![1, 1024] inb_S64x1024_S1x1024_0_0))
        (View.ld (iblk m c 1 t) (Rect.unit ![16, 0] ![1, 1024] inb_S64x1024_S1x1024_16_0)))
      (View.ld (iblk m c 1 t) (Rect.unit ![32, 0] ![1, 1024] inb_S64x1024_S1x1024_32_0))
      (View.ld (iblk m c 1 t) (Rect.unit ![48, 0] ![1, 1024] inb_S64x1024_S1x1024_48_0)) (iblk m c 4 t) (ix2 0 k) = (grad Y C k : EReal) := by
  refine grad_coe hy hc k _ _ _ _ _ ?_ ?_ ?_ ?_ ?_
  all_goals pointwise []
  · exact in1 m c t 0 k
  · exact in1 m c t 16 k
  · exact in1 m c t 32 k
  · exact in1 m c t 48 k
  · exact in4 m c t k

theorem grad_apply (k : Fin 1024) : (outsAt0 m c t).2.2.1 (ix2 0 k) = (grad Y C k : EReal) := by
  simp only [outsAt0]
  frame_out
  simp (disch := decide) only [↓ View.readCov_skip, ↓ View.readCov_cons_toLoadRect, ↓ View.readCov_fill, read_unread_whole]
  exact load_apply t hy hc k

theorem change_apply (k : Fin 1024) : (outsAt0 m c t).2.2.2.1 (ix2 0 k)
    = Cert.Ada.change (cond m c (ix2 0 k)) (grad Y C k : EReal) (mom m c (ix2 0 k)) (vel m c (ix2 0 k)) := by
  simp only [outsAt0]
  frame_out
  simp (disch := decide) only [↓ View.readCov_skip, ↓ View.readCov_cons_toLoadRect, ↓ View.readCov_fill, read_unread_whole]
  rw [pay1_apply]
  exact congr (congr (congr (congrArg Cert.Ada.change (in4 m c t k)) (load_apply t hy hc k)) (in5 m c t k)) (in6 m c t k)

theorem newM_apply (k : Fin 1024) : (outsAt0 m c t).2.2.2.2.1 (ix2 0 k) = Cert.Ada.newM (grad Y C k : EReal) (mom m c (ix2 0 k)) := by
  simp only [outsAt0]
  frame_out
  simp (disch := decide) only [↓ View.readCov_skip, ↓ View.readCov_cons_toLoadRect, ↓ View.readCov_fill, read_unread_whole]
  rw [pay8_apply]
  exact congrArg₂ Cert.Ada.newM (load_apply t hy hc k) (in5 m c t k)

theorem newV_apply (k : Fin 1024) : (outsAt0 m c t).2.2.2.2.2 (ix2 0 k) = Cert.Ada.newV (grad Y C k : EReal) (vel m c (ix2 0 k)) := by
  simp only [outsAt0]
  frame_out
  simp (disch := decide) only [↓ View.readCov_skip, ↓ View.readCov_cons_toLoadRect, ↓ View.readCov_fill, read_unread_whole]
  rw [pay9_apply]
  exact congrArg₂ Cert.Ada.newV (load_apply t hy hc k) (in6 m c t k)

omit hy hc in
theorem sums_final : (dats m 0 c).arrAt 7 cfg0.N = (fun i => total (fun r k => slabs m c (ix2 r k)) (i 0) (i 1) : Vec Ideal S24x1024 .f32) := by
  refine (dats m 0 c).arrAt_eq_of_covers 7 _ (by decide +kernel) fun t hf y => ?_
  blk_simp
  rw [after0_7]
  obtain ⟨r, k, rfl⟩ : ∃ (r : Fin 24) (k : Fin 1024), y = ix2 r k := ⟨y 0, y 1, eq_ix2 y⟩
  have e : (win0_7.blk t).view.emb (ix2 r k) = (ix2 r k : S24x1024.Idx) := by blk_ext [idx7 t]
  rw [e]
  exact sums_apply m c t r k

omit hy hc in
include hx hw in
theorem part_final : (dats m 0 c).arrAt 8 cfg0.N = (fun i => part (fun r k => slabs m c (ix2 r k)) (place m c (ix1 0)) (place m c (ix1 1)) (fun j k => (W 0 j k : EReal)) (i 1) : Vec Ideal S8x1024 .f32) := by
  refine (dats m 0 c).arrAt_eq_of_covers 8 _ (by decide +kernel) fun t hf y => ?_
  blk_simp
  rw [after0_8]
  obtain ⟨r, k, rfl⟩ : ∃ (r : Fin 8) (k : Fin 1024), y = ix2 r k := ⟨y 0, y 1, eq_ix2 y⟩
  have e : (win0_8.blk t).view.emb (ix2 r k) = (ix2 r k : S8x1024.Idx) := by blk_ext [idx8 t]
  rw [e]
  exact part_apply t hx hw r k

theorem grad_final : (dats m 0 c).arrAt 9 cfg0.N = (fun i => (grad Y C (i 1) : EReal) : Vec Ideal S1x1024 .f32) := by
  refine (dats m 0 c).arrAt_eq_of_covers 9 _ (by decide +kernel) fun t hf y => ?_
  blk_simp
  rw [after0_9]
  obtain ⟨r, k, rfl⟩ : ∃ (r : Fin 1) (k : Fin 1024), y = ix2 r k := ⟨y 0, y 1, eq_ix2 y⟩
  obtain rfl : r = 0 := Subsingleton.elim _ _
  have e : (win0_9.blk t).view.emb (ix2 (0 : Fin 1) k) = (ix2 (0 : Fin 1) k : S1x1024.Idx) := by blk_ext [idx9 t]
  rw [e]
  exact grad_apply t hy hc k

theorem change_final : (dats m 0 c).arrAt 10 cfg0.N = (fun i => Cert.Ada.change (cond m c i) (grad Y C (i 1) : EReal) (mom m c i) (vel m c i) : Vec Ideal S1x1024 .f32) := by
  refine (dats m 0 c).arrAt_eq_of_covers 10 _ (by decide +kernel) fun t hf y => ?_
  blk_simp
  rw [after0_10]
  obtain ⟨r, k, rfl⟩ : ∃ (r : Fin 1) (k : Fin 1024), y = ix2 r k := ⟨y 0, y 1, eq_ix2 y⟩
  obtain rfl : r = 0 := Subsingleton.elim _ _
  have e : (win0_10.blk t).view.emb (ix2 (0 : Fin 1) k) = (ix2 (0 : Fin 1) k : S1x1024.Idx) := by blk_ext [idx10 t]
  rw [e]
  exact change_apply t hy hc k

theorem newM_final : (dats m 0 c).arrAt 11 cfg0.N = (fun i => Cert.Ada.newM (grad Y C (i 1) : EReal) (mom m c i) : Vec Ideal S1x1024 .f32) := by
  refine (dats m 0 c).arrAt_eq_of_covers 11 _ (by decide +kernel) fun t hf y => ?_
  blk_simp
  rw [after0_11]
  obtain ⟨r, k, rfl⟩ : ∃ (r : Fin 1) (k : Fin 1024), y = ix2 r k := ⟨y 0, y 1, eq_ix2 y⟩
  obtain rfl : r = 0 := Subsingleton.elim _ _
  have e : (win0_11.blk t).view.emb (ix2 (0 : Fin 1) k) = (ix2 (0 : Fin 1) k : S1x1024.Idx) := by blk_ext [idx11 t]
  rw [e]
  exact newM_apply t hy hc k

theorem newV_final : (dats m 0 c).arrAt 12 cfg0.N = (fun i => Cert.Ada.newV (grad Y C (i 1) : EReal) (vel m c i) : Vec Ideal S1x1024 .f32) := by
  refine (dats m 0 c).arrAt_eq_of_covers 12 _ (by decide +kernel) fun t hf y => ?_
  blk_simp
  rw [after0_12]
  obtain ⟨r, k, rfl⟩ : ∃ (r : Fin 1) (k : Fin 1024), y = ix2 r k := ⟨y 0, y 1, eq_ix2 y⟩
  obtain rfl : r = 0 := Subsingleton.elim _ _
  have e : (win0_12.blk t).view.emb (ix2 (0 : Fin 1) k) = (ix2 (0 : Fin 1) k : S1x1024.Idx) := by blk_ext [idx12 t]
  rw [e]
  exact newV_apply t hy hc k

end
end

end Cert.SmallSums

end
-- ==== Proof.Sums.lean ====
/- The sums of all devices' small gradients and the context condition's gradient: the reference's derivative is the same. -/
module

public import proofs.«01_k».proof.Defs
public import proofs.«01_k».proof.Proof.SumsArray
public import proofs.«01_k».proof.Proof.Gen.SumsRefIdeal.Read
public import proofs.«01_k».proof.Proof.Gen.Pre_finite_sums

@[expose] public section

set_option maxRecDepth 16384

noncomputable section

namespace Cert.SmallSums

open Idealize.ShloMosaic Idealize.ShloMosaic.TcCoe Idealize.SL.Sem Cert.Reals Cert.Silu

namespace Ref

open Cert.SumsRefIdeal Cert.SumsRefIdeal.Gen Cert.SumsRefIdeal.Read

variable (x : FVec Ideal S192x1024 .f32) (p : IVec S2 32)

theorem sums_eq : val_main_v1 (F := Ideal) x = fun i => total (fun r k => x (ix2 r k)) (i 0) (i 1) := by
  funext i
  obtain ⟨r, k, rfl⟩ : ∃ (r : Fin 24) (k : Fin 1024), i = ix2 r k := ⟨i 0, i 1, eq_ix2 i⟩
  pointwise [val_main_v1, val_main_v0, val_main_cst]
  rfl

theorem col_apply (s : Fin 4) (k : Fin 768) :
    val_main_v3 (F := Ideal) x (ix2 s k) = col (fun r k => x (ix2 r k)) ⟨s.val * 768 + k.val, by omega⟩ := by
  pointwise [val_main_v3, val_main_v2]
  rw [sums_eq]
  rfl

theorem one_hot_apply (s : Fin 4) :
    val_main_v10 (F := Ideal) p (ix1 s) = if 2#32 * p (ix1 0) + p (ix1 1) = BitVec.ofNat 32 s.val then (1 : EReal) else 0 := by
  pointwise [val_main_v10, val_main_call0_v3, val_main_call0_v2, val_main_call0_v1, val_main_call0_v0, val_main_v9, val_main_v8,
    val_main_v7, val_main_v6, val_main_v5, val_main_v4, val_main_c]
  show ((BitVec.ofBool (2#32 * p (ix1 0) + p (ix1 1) == BitVec.ofNat 32 s.val)).toNat : EReal) = _
  by_cases h : 2#32 * p (ix1 0) + p (ix1 1) = BitVec.ofNat 32 s.val
  · rw [if_pos h, beq_iff_eq.2 h]
    simp
  · rw [if_neg h, beq_eq_false_iff_ne.2 h]
    simp

theorem mine_apply (k : Fin 768) :
    ∑ s, val_main_v10 (F := Ideal) p (ix1 s) * val_main_v3 (F := Ideal) x (ix2 s k) = mine (fun r k => x (ix2 r k)) (p (ix1 0)) (p (ix1 1)) k := by
  refine Finset.sum_congr rfl fun s _ => ?_
  rw [one_hot_apply, col_apply]
  split
  · exact one_mul _
  · exact zero_mul _

theorem part_eq {w : FVec Ideal S2x1024x768 .f32} {W : Fin 2 → Fin 1024 → Fin 768 → ℝ} (hw : ∀ s j k, w (ix3 s j k) = (W s j k : EReal)) :
    val_main_v17 (F := Ideal) x p w
      = fun i => part (fun r k => x (ix2 r k)) (p (ix1 0)) (p (ix1 1)) (fun j k => (W 0 j k : EReal)) (i 1) := by
  funext i
  obtain ⟨r, j, rfl⟩ : ∃ (r : Fin 8) (j : Fin 1024), i = ix2 r j := ⟨i 0, i 1, eq_ix2 i⟩
  pointwise [val_main_v17, val_main_v16, val_main_v14, val_main_v13, val_main_v11]
  simp only [hw]
  exact Finset.sum_congr rfl fun k _ => congrArg (· * (W 0 j k : EReal)) (mine_apply x p k)

section
variable {y : FVec Ideal S64x1024 .f32} {a : FVec Ideal S1x1024 .f32} {Y : Fin 64 → Fin 1024 → ℝ} {C : Fin 1024 → ℝ}
variable (hy : ∀ r k, y (ix2 r k) = (Y r k : EReal)) (hc : ∀ k, a (ix2 0 k) = (C k : EReal)) (u v : FVec Ideal S1x1024 .f32)
include hy hc

theorem grad_eq : val_main_v24 (F := Ideal) y a = fun i => (grad Y C (i 1) : EReal) := by
  funext i
  obtain ⟨r, j, rfl⟩ : ∃ (r : Fin 1) (j : Fin 1024), i = ix2 r j := ⟨i 0, i 1, eq_ix2 i⟩
  obtain rfl : r = 0 := Subsingleton.elim _ _
  pointwise [val_main_v24, val_main_call2_v2, val_main_call2_v1, val_main_call2_v0, val_main_v23_1, val_main_call1_v7, val_main_call1_v6,
    val_main_call1_cst_1, val_main_v23_2, val_main_call1_v4, val_main_call1_v3, val_main_call1_v2, val_main_call1_v1, val_main_call1_v0,
    val_main_call1_cst, val_main_call1_cst_0, val_main_v22, val_main_v21, val_main_v20, val_main_v19, val_main_v18, val_main_cst_1]
  rw [hc, sig_exp]
  simp only [hy, coe_sum, ← EReal.coe_one, ← EReal.coe_mul, ← EReal.coe_sub, ← EReal.coe_add]
  refine congrArg (fun x : ℝ => (x : EReal)) ?_
  unfold grad
  ring

theorem newM_eq : val_main_v29 (F := Ideal) y a u = fun i => Cert.Ada.newM (grad Y C (i 1) : EReal) (u i) := by
  have e := grad_eq hy hc
  funext i
  obtain ⟨r, j, rfl⟩ : ∃ (r : Fin 1) (j : Fin 1024), i = ix2 r j := ⟨i 0, i 1, eq_ix2 i⟩
  pointwise [val_main_v29, val_main_v28, val_main_v27, val_main_v26, val_main_v25, val_main_cst_2, val_main_cst_3]
  rw [e]
  rfl

theorem newV_eq : val_main_v35 (F := Ideal) y a v = fun i => Cert.Ada.newV (grad Y C (i 1) : EReal) (v i) := by
  have e := grad_eq hy hc
  funext i
  obtain ⟨r, j, rfl⟩ : ∃ (r : Fin 1) (j : Fin 1024), i = ix2 r j := ⟨i 0, i 1, eq_ix2 i⟩
  pointwise [val_main_v35, val_main_v34, val_main_v33, val_main_v32, val_main_v31, val_main_v30, val_main_cst_4, val_main_cst_5]
  rw [e]
  rfl

theorem change_eq : val_main_v48 (F := Ideal) y a u v = fun i => Cert.Ada.change (a i) (grad Y C (i 1) : EReal) (u i) (v i) := by
  have e := newM_eq hy hc u
  have e' := newV_eq hy hc v
  funext i
  obtain ⟨r, j, rfl⟩ : ∃ (r : Fin 1) (j : Fin 1024), i = ix2 r j := ⟨i 0, i 1, eq_ix2 i⟩
  pointwise [val_main_v48, val_main_v47, val_main_v46, val_main_v45, val_main_v44, val_main_v43, val_main_v42, val_main_v41, val_main_v40,
    val_main_v39, val_main_v38, val_main_v37, val_main_v36, val_main_cst_6, val_main_cst_7, val_main_cst_8, val_main_cst_9, val_main_cst_10]
  rw [e, e']
  rfl

end
end Ref

/-- The precondition, read: four arrays of reals. -/
theorem reals {x : FVec Ideal Pre_finite_sums.S192x1024 .f32} {y : FVec Ideal Pre_finite_sums.S64x1024 .f32} {p : IVec Pre_finite_sums.S2 32}
    {w : FVec Ideal Pre_finite_sums.S2x1024x768 .f32} {a u v : FVec Ideal Pre_finite_sums.S1x1024 .f32}
    (h : Pre_finite_sums.fn (F := Ideal) x y p w a u v = fun _ => 1#1) :
    (∃ X : Fin 192 → Fin 1024 → ℝ, ∀ r k, x (ix2 r k) = (X r k : EReal)) ∧ (∃ Y : Fin 64 → Fin 1024 → ℝ, ∀ r k, y (ix2 r k) = (Y r k : EReal))
    ∧ (∃ W : Fin 2 → Fin 1024 → Fin 768 → ℝ, ∀ s j k, w (ix3 s j k) = (W s j k : EReal)) ∧ ∃ C : Fin 1024 → ℝ, ∀ k, a (ix2 0 k) = (C k : EReal) := by
  have h := congrFun h ix0
  unfold Pre_finite_sums.fn at h
  obtain ⟨h, ha⟩ := IntOp.andi_eq_one.1 h
  obtain ⟨h, hw⟩ := IntOp.andi_eq_one.1 h
  obtain ⟨hx, hy⟩ := IntOp.andi_eq_one.1 h
  obtain ⟨X, hX⟩ := exists_real _ _ _ _ _ _ _ hx
  obtain ⟨Y, hY⟩ := exists_real _ _ _ _ _ _ _ hy
  obtain ⟨W, hW⟩ := exists_real _ _ _ _ _ _ _ hw
  obtain ⟨C, hC⟩ := exists_real _ _ _ _ _ _ _ ha
  exact ⟨⟨fun r k => X (ix2 r k), fun _ _ => hX _⟩, ⟨fun r k => Y (ix2 r k), fun _ _ => hY _⟩, ⟨fun s j k => W (ix3 s j k), fun _ _ _ => hW _⟩,
    ⟨fun k => C (ix2 0 k), fun _ => hC _⟩⟩

theorem value : Cert.algebraic_SumsIdeal_SumsRefIdeal_pre_finite_sums := fun m g m' g' hpre hag => by
  have key : ∀ c, (SumsIdeal.Gen.dats m 0 c).arrAt 7 SumsIdeal.cfg0.N = SumsRefIdeal.Read.val_main_v1 (F := Ideal)
        (m' ((c.tc : Thread _ _).loc SumsRefIdeal.main_arg0))
      ∧ (SumsIdeal.Gen.dats m 0 c).arrAt 8 SumsIdeal.cfg0.N = SumsRefIdeal.Read.val_main_v17 (F := Ideal)
        (m' ((c.tc : Thread _ _).loc SumsRefIdeal.main_arg0)) (m' ((c.tc : Thread _ _).loc SumsRefIdeal.main_arg2)) (m' ((c.tc : Thread _ _).loc SumsRefIdeal.main_arg3))
      ∧ (SumsIdeal.Gen.dats m 0 c).arrAt 9 SumsIdeal.cfg0.N = SumsRefIdeal.Read.val_main_v24 (F := Ideal)
        (m' ((c.tc : Thread _ _).loc SumsRefIdeal.main_arg1)) (m' ((c.tc : Thread _ _).loc SumsRefIdeal.main_arg4))
      ∧ (SumsIdeal.Gen.dats m 0 c).arrAt 10 SumsIdeal.cfg0.N = SumsRefIdeal.Read.val_main_v48 (F := Ideal)
        (m' ((c.tc : Thread _ _).loc SumsRefIdeal.main_arg1)) (m' ((c.tc : Thread _ _).loc SumsRefIdeal.main_arg4))
        (m' ((c.tc : Thread _ _).loc SumsRefIdeal.main_arg5)) (m' ((c.tc : Thread _ _).loc SumsRefIdeal.main_arg6))
      ∧ (SumsIdeal.Gen.dats m 0 c).arrAt 11 SumsIdeal.cfg0.N = SumsRefIdeal.Read.val_main_v29 (F := Ideal)
        (m' ((c.tc : Thread _ _).loc SumsRefIdeal.main_arg1)) (m' ((c.tc : Thread _ _).loc SumsRefIdeal.main_arg4)) (m' ((c.tc : Thread _ _).loc SumsRefIdeal.main_arg5))
      ∧ (SumsIdeal.Gen.dats m 0 c).arrAt 12 SumsIdeal.cfg0.N = SumsRefIdeal.Read.val_main_v35 (F := Ideal)
        (m' ((c.tc : Thread _ _).loc SumsRefIdeal.main_arg1)) (m' ((c.tc : Thread _ _).loc SumsRefIdeal.main_arg4)) (m' ((c.tc : Thread _ _).loc SumsRefIdeal.main_arg6)) := by
    intro c
    obtain ⟨⟨X, hx⟩, ⟨Y, hy⟩, ⟨W, hw⟩, C, hc⟩ := reals (hpre c)
    obtain ⟨e0, e1, e2, e3, e4, e5, e6⟩ := hag c
    rw [e0, e1, e2, e3, e4, e5, e6]
    exact ⟨(sums_final).trans (Ref.sums_eq _).symm, (part_final hx hw).trans (Ref.part_eq _ _ hw).symm,
      (grad_final hy hc).trans (Ref.grad_eq hy hc).symm, (change_final hy hc).trans (Ref.change_eq hy hc _ _).symm,
      (newM_final hy hc).trans (Ref.newM_eq hy hc _).symm, (newV_final hy hc).trans (Ref.newV_eq hy hc _).symm⟩
  exact ⟨_, _, _, _, _, _, SumsIdeal.Value.run_blocks m g, (θ_run _ _ _).mono (fun r h c => by
    obtain ⟨h0, h1, h2, h3, h4, h5, h⟩ := h c
    obtain ⟨k0, k1, k2, k3, k4, k5⟩ := key c
    exact ⟨h0.trans k0.symm, h1.trans k1.symm, h2.trans k2.symm, h3.trans k3.symm, h4.trans k4.symm, h5.trans k5.symm, h⟩)
    (SumsRefIdeal.Value.run m' g')⟩

theorem frame_reference : Cert.quiescent_SumsRefIdeal := fun m g _ =>
  (θ_run SumsRefIdeal.defs _ _).mono (fun r h => ⟨fun c => (h c).2.2.2.2.2.2, sem_eq_zero_of_no_sems rfl r.2⟩)
    (SumsRefIdeal.Value.run (F := Ideal) m g)

end Cert.SmallSums

end
-- ==== Proof.GradSum.lean ====
/- The sum of the parts of four gradients that arrived from the eight devices: kernel and reference leave the same sums. -/
module

public import proofs.«01_k».proof.Defs
public import proofs.«01_k».proof.Proof.Gen.GradSumIdeal.Value
public import proofs.«01_k».proof.Proof.Gen.GradSumRefIdeal.Read
public import Idealize.ShloMosaic.Lib.Pipeline.ValueKit

@[expose] public section

set_option maxRecDepth 16384

noncomputable section

namespace Cert.GradParts

open Idealize.ShloMosaic Idealize.ShloMosaic.TcCoe Idealize.SL.Sem
open Cert.GradSumIdeal Cert.GradSumIdeal.Gen Cert.GradSumIdeal.Value Cert.GradSumRefIdeal.Read

variable (a0 : FVec Ideal S8x128x1024 .bf16) (a1 : FVec Ideal S8x512x512 .bf16) (a2 : FVec Ideal S8x4x32x256 .bf16)
  (a3 : FVec Ideal S8x128x1024 .bf16)

/-- Eight terms, one after the other, are their sum. -/
theorem eight (f : Fin 8 → EReal) : f 0 + f 1 + f 2 + f 3 + f 4 + f 5 + f 6 + f 7 = ∑ x, f x := (Fin.sum_univ_eight f).symm

theorem sum0 : G4 a0 a1 a2 a3 = val_main_v1 (F := Ideal) a0 := by
  funext i
  obtain ⟨r, k, rfl⟩ : ∃ (r : Fin 128) (k : Fin 1024), i = ix2 r k := ⟨i 0, i 1, eq_ix2 i⟩
  pointwise [G4, k0_pay2, val_main_v1, val_main_v0, val_main_cst]
  exact eight fun x => a0 (ix3 x r k)

theorem sum1 : G5 a0 a1 a2 a3 = val_main_v3 (F := Ideal) a1 := by
  funext i
  obtain ⟨r, k, rfl⟩ : ∃ (r : Fin 512) (k : Fin 512), i = ix2 r k := ⟨i 0, i 1, eq_ix2 i⟩
  pointwise [G5, k0_pay3, val_main_v3, val_main_v2, val_main_cst_0]
  exact eight fun x => a1 (ix3 x r k)

theorem sum2 : G6 a0 a1 a2 a3 = val_main_v5 (F := Ideal) a2 := by
  funext i
  obtain ⟨g, r, k, rfl⟩ : ∃ (g : Fin 4) (r : Fin 32) (k : Fin 256), i = ix3 g r k := ⟨i 0, i 1, i 2, eq_ix3 i⟩
  pointwise [G6, k0_pay6, k0_pay4, k0_pay5, val_main_v5, val_main_v4, val_main_cst_1]
  exact eight fun x => a2 (ix4 x g r k)

theorem sum3 : G7 a0 a1 a2 a3 = val_main_v7 (F := Ideal) a3 := by
  funext i
  obtain ⟨r, k, rfl⟩ : ∃ (r : Fin 128) (k : Fin 1024), i = ix2 r k := ⟨i 0, i 1, eq_ix2 i⟩
  pointwise [G7, k0_pay1, k0_pay7, k0_pay8, val_main_v7, val_main_v6, val_main_cst_2]
  exact eight fun x => a3 (ix3 x r k)

theorem value : Cert.algebraic_GradSumIdeal_GradSumRefIdeal := fun m g m' g' _ hag =>
  ⟨_, _, _, _, GradSumIdeal.Value.run m g, (θ_run _ _ _).mono (fun r h c => by
    obtain ⟨e0, e1, e2, e3⟩ := hag c
    obtain ⟨h0, h1, h2, h3, h⟩ := h c
    refine ⟨h0.trans ?_, h1.trans ?_, h2.trans ?_, h3.trans ?_, h⟩
    · exact ((sum0 _ _ _ _).trans (congrArg _ e0.symm)).symm
    · exact ((sum1 _ _ _ _).trans (congrArg _ e1.symm)).symm
    · exact ((sum2 _ _ _ _).trans (congrArg _ e2.symm)).symm
    · exact ((sum3 _ _ _ _).trans (congrArg _ e3.symm)).symm)
    (GradSumRefIdeal.Value.run m' g')⟩

theorem frame_reference : Cert.quiescent_GradSumRefIdeal := fun m g _ =>
  (θ_run GradSumRefIdeal.defs _ _).mono (fun r h => ⟨fun c => (h c).2.2.2.2, sem_eq_zero_of_no_sems rfl r.2⟩)
    (GradSumRefIdeal.Value.run (F := Ideal) m g)

end Cert.GradParts

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.PoolIn
public import proofs.«01_k».proof.Proof.HgrnOut
public import proofs.«01_k».proof.Proof.Gen.ReferenceIdeal.Run
public import proofs.«01_k».proof.Proof.Gen.ReferenceIdeal.Read
public import proofs.«01_k».proof.Proof.Gen.HgrnOut.Frame
public import proofs.«01_k».proof.Proof.Gen.HgrnOutIdeal.Frame
public import proofs.«01_k».proof.Proof.Gen.HgrnOutIdeal.Value
public import proofs.«01_k».proof.Proof.Gen.HgrnOutRefIdeal.Run
public import proofs.«01_k».proof.Proof.Gen.HgrnOutRefIdeal.Read
public import proofs.«01_k».proof.Proof.Gen.Pre_finite_hgrn_out
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.Pre_finite_loss
public import proofs.«01_k».proof.Proof.Gen.PoolBack.Frame
public import proofs.«01_k».proof.Proof.Gen.PoolBackIdeal.Frame
public import proofs.«01_k».proof.Proof.Gen.PoolBackIdeal.Value
public import proofs.«01_k».proof.Proof.Gen.PoolBackRefIdeal.Run
public import proofs.«01_k».proof.Proof.Gen.PoolBackRefIdeal.Read
public import proofs.«01_k».proof.Proof.Gen.HgrnIn
public import proofs.«01_k».proof.Proof.Gen.HgrnInIdeal
public import proofs.«01_k».proof.Proof.Gen.HgrnInIdeal.Frame
public import proofs.«01_k».proof.Proof.Gen.HgrnInIdeal.Skeleton
public import proofs.«01_k».proof.Proof.Gen.HgrnInIdeal.Launch
public import proofs.«01_k».proof.Proof.Gen.HgrnInIdeal.Points
public import proofs.«01_k».proof.Proof.Gen.HgrnInRefIdeal.Run
public import proofs.«01_k».proof.Proof.Gen.HgrnInRefIdeal.Read
public import proofs.«01_k».proof.Proof.Gen.Pre_finite_hgrn_in
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.HgrnOutFwd.Frame
public import proofs.«01_k».proof.Proof.Gen.HgrnOutFwdIdeal.Frame
public import proofs.«01_k».proof.Proof.Gen.HgrnOutFwdIdeal.Value
public import proofs.«01_k».proof.Proof.Gen.HgrnOutFwdRefIdeal.Run
public import proofs.«01_k».proof.Proof.Gen.HgrnOutFwdRefIdeal.Read
public import proofs.«01_k».proof.Proof.Gen.PoolInFwd.Frame
public import proofs.«01_k».proof.Proof.Gen.PoolInFwdIdeal.Frame
public import proofs.«01_k».proof.Proof.Gen.PoolInFwdIdeal.Value
public import proofs.«01_k».proof.Proof.Gen.PoolInFwdRefIdeal.Run
public import proofs.«01_k».proof.Proof.Gen.PoolInFwdRefIdeal.Read
public import proofs.«01_k».proof.Proof.Gen.HgrnInFwd.Frame
public import proofs.«01_k».proof.Proof.Gen.HgrnInFwdIdeal.Frame
public import proofs.«01_k».proof.Proof.Gen.HgrnInFwdIdeal.Value
public import proofs.«01_k».proof.Proof.Gen.HgrnInFwdRefIdeal.Run
public import proofs.«01_k».proof.Proof.Gen.HgrnInFwdRefIdeal.Read
public import proofs.«01_k».proof.Proof.Gen.Pre_finite_ada
public import proofs.«01_k».proof.Proof.HgrnIn
public import proofs.«01_k».proof.Proof.Gen.GlaFwd.Frame
public import proofs.«01_k».proof.Proof.Gen.GlaFwdIdeal.Frame
public import proofs.«01_k».proof.Proof.Gen.GlaBack.Frame
public import proofs.«01_k».proof.Proof.Gen.GlaBackIdeal.Frame
public import proofs.«01_k».proof.Proof.Gen.WeightGrad.Frame
public import proofs.«01_k».proof.Proof.Gen.WeightGradIdeal.Frame
public import proofs.«01_k».proof.Proof.Gen.WeightGradIdeal.Value
public import proofs.«01_k».proof.Proof.Gen.WeightGradRefIdeal.Run
public import proofs.«01_k».proof.Proof.Gen.WeightGradRefIdeal.Read
public import proofs.«01_k».proof.Proof.Gen.Adamw.Frame
public import proofs.«01_k».proof.Proof.Gen.AdamwIdeal.Frame
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.Gen.Sums.Frame
public import proofs.«01_k».proof.Proof.Gen.SumsIdeal.Frame
public import proofs.«01_k».proof.Proof.Gen.SumsIdeal.Value
public import proofs.«01_k».proof.Proof.Gen.SumsRefIdeal.Run
public import proofs.«01_k».proof.Proof.Gen.SumsRefIdeal.Read
public import proofs.«01_k».proof.Proof.Gen.GradSum.Frame
public import proofs.«01_k».proof.Proof.Gen.GradSumIdeal.Frame
public import proofs.«01_k».proof.Proof.Gen.GradSumIdeal.Value
public import proofs.«01_k».proof.Proof.Gen.GradSumRefIdeal.Run
public import proofs.«01_k».proof.Proof.Gen.GradSumRefIdeal.Read
public import proofs.«01_k».proof.Proof.Ada
public import proofs.«01_k».proof.Proof.HgrnOutFwd
public import proofs.«01_k».proof.Proof.PoolInFwd
public import proofs.«01_k».proof.Proof.HgrnInFwd
public import proofs.«01_k».proof.Proof.Loss
public import proofs.«01_k».proof.Proof.PoolBack
public import proofs.«01_k».proof.Proof.WeightGrad
public import proofs.«01_k».proof.Proof.Adamw
public import proofs.«01_k».proof.Proof.Sums
public import proofs.«01_k».proof.Proof.GradSum
public import proofs.«01_k».proof.Proof.Gen.Pre_finite_pool
public import proofs.«01_k».proof.Proof.Gen.Pre_finite_sums
public import Idealize.ShloMosaic.Adequacy
public import Idealize.ShloMosaic.Init

@[expose] public section

noncomputable section

namespace Cert.Proof

open Idealize.ShloMosaic Idealize.SL.Sem Cert.Kernel

/-- For each pair: the frames of kernel, ideal kernel and reference, the ideal program being the kernel, and the two computing
    one function: the pooling block's norm gradient, the recurrence's output stage's gradients, the pooling block with the loss,
    the pooling mixer's gradient, the recurrence's input norm's gradient, the conditioning network's gradients with their update,
    the forward stages before and after the recurrence and before the pooling, the gradient of the pooling block's projection, the
    optimiser's step of four weights, the sums of the small gradients with the context condition's gradient and its step, and the
    sums of four weights' gradients over the devices; of the gated recurrence and its gradient the frames. -/
theorem claim : Cert.Claim := ⟨Cert.Kernel.Gen.facts, Cert.KernelIdeal.Gen.facts, Cert.ReferenceIdeal.Gen.facts,
  Cert.HgrnOut.Gen.facts, Cert.HgrnOutIdeal.Gen.facts, Cert.HgrnOutRefIdeal.Gen.facts,
  Cert.Loss.Gen.facts, Cert.LossIdeal.Gen.facts, Cert.LossRefIdeal.Gen.facts,
  Cert.PoolBack.Gen.facts, Cert.PoolBackIdeal.Gen.facts, Cert.PoolBackRefIdeal.Gen.facts,
  Cert.HgrnIn.Gen.facts, Cert.HgrnInIdeal.Gen.facts, Cert.HgrnInRefIdeal.Gen.facts,
  Cert.Ada.Gen.facts, Cert.AdaIdeal.Gen.facts, Cert.AdaRefIdeal.Gen.facts,
  Cert.HgrnOutFwd.Gen.facts, Cert.HgrnOutFwdIdeal.Gen.facts, Cert.HgrnOutFwdRefIdeal.Gen.facts,
  Cert.PoolInFwd.Gen.facts, Cert.PoolInFwdIdeal.Gen.facts, Cert.PoolInFwdRefIdeal.Gen.facts,
  Cert.HgrnInFwd.Gen.facts, Cert.HgrnInFwdIdeal.Gen.facts, Cert.HgrnInFwdRefIdeal.Gen.facts,
  Cert.GlaFwd.Gen.facts, Cert.GlaFwdIdeal.Gen.facts, Cert.GlaBack.Gen.facts, Cert.GlaBackIdeal.Gen.facts,
  Cert.WeightGrad.Gen.facts, Cert.WeightGradIdeal.Gen.facts, Cert.WeightGradRefIdeal.Gen.facts,
  Cert.Adamw.Gen.facts, Cert.AdamwIdeal.Gen.facts, Cert.AdamwRefIdeal.Gen.facts,
  Cert.Sums.Gen.facts, Cert.SumsIdeal.Gen.facts, Cert.SumsRefIdeal.Gen.facts,
  Cert.GradSum.Gen.facts, Cert.GradSumIdeal.Gen.facts, Cert.GradSumRefIdeal.Gen.facts,
  Cert.Pre_finite.Gen.facts, Cert.Pre_finite_hgrn_out.Gen.facts, Cert.Pre_finite_loss.Gen.facts, Cert.Pre_finite_pool.Gen.facts,
  Cert.Pre_finite_hgrn_in.Gen.facts, Cert.Pre_finite_ada.Gen.facts, Cert.Pre_finite_sums.Gen.facts,
  fun m ρ _ => Cert.Kernel.Gen.frame m ρ, fun m ρ _ => Cert.KernelIdeal.Gen.frame m ρ, fun m ρ _ => Cert.KernelIdeal.Gen.frame m ρ,
  Cert.PoolIn.frame_reference, fun m ρ _ => Cert.PoolIn.frame_reference m ρ trivial,
  fun m ρ _ => Cert.HgrnOut.Gen.frame m ρ, fun m ρ _ => Cert.HgrnOutIdeal.Gen.frame m ρ, fun m ρ _ => Cert.HgrnOutIdeal.Gen.frame m ρ,
  Cert.OutStage.frame_reference, fun m ρ _ => Cert.OutStage.frame_reference m ρ trivial,
  fun m ρ _ => Cert.Loss.Gen.frame m ρ, fun m ρ _ => Cert.LossIdeal.Gen.frame m ρ, fun m ρ _ => Cert.LossIdeal.Gen.frame m ρ,
  Cert.LossStage.frame_reference, fun m ρ _ => Cert.LossStage.frame_reference m ρ trivial,
  fun m ρ _ => Cert.PoolBack.Gen.frame m ρ, fun m ρ _ => Cert.PoolBackIdeal.Gen.frame m ρ, fun m ρ _ => Cert.PoolBackIdeal.Gen.frame m ρ,
  Cert.PoolStage.frame_reference, fun m ρ _ => Cert.PoolStage.frame_reference m ρ trivial,
  Cert.HgrnInStage.frame_kernel, fun m ρ _ => Cert.HgrnInStage.frame m ρ, fun m ρ _ => Cert.HgrnInStage.frame m ρ,
  Cert.HgrnInStage.frame_reference, fun m ρ _ => Cert.HgrnInStage.frame_reference m ρ trivial,
  fun m ρ _ => Cert.Ada.Gen.frame m ρ, fun m ρ _ => Cert.AdaIdeal.Gen.frame m ρ, fun m ρ _ => Cert.AdaIdeal.Gen.frame m ρ,
  Cert.Ada.frame_reference, fun m ρ _ => Cert.Ada.frame_reference m ρ trivial,
  fun m ρ _ => Cert.HgrnOutFwd.Gen.frame m ρ, fun m ρ _ => Cert.HgrnOutFwdIdeal.Gen.frame m ρ, Cert.OutFwd.frame_reference,
  fun m ρ _ => Cert.PoolInFwd.Gen.frame m ρ, fun m ρ _ => Cert.PoolInFwdIdeal.Gen.frame m ρ, Cert.PoolFwd.frame_reference,
  fun m ρ _ => Cert.HgrnInFwd.Gen.frame m ρ, fun m ρ _ => Cert.HgrnInFwdIdeal.Gen.frame m ρ, Cert.HgrnFwd.frame_reference,
  fun m ρ _ => Cert.GlaFwd.Gen.frame m ρ, fun m ρ _ => Cert.GlaFwdIdeal.Gen.frame m ρ, fun m ρ _ => Cert.GlaBack.Gen.frame m ρ,
  fun m ρ _ => Cert.GlaBackIdeal.Gen.frame m ρ,
  fun m ρ _ => Cert.WeightGrad.Gen.frame m ρ, fun m ρ _ => Cert.WeightGradIdeal.Gen.frame m ρ, Cert.PoolWeight.frame_reference,
  fun m ρ _ => Cert.Adamw.Gen.frame m ρ, fun m ρ _ => Cert.AdamwIdeal.Gen.frame m ρ, Cert.Update.frame_reference,
  fun m ρ _ => Cert.Sums.Gen.frame m ρ, fun m ρ _ => Cert.SumsIdeal.Gen.frame m ρ, fun m ρ _ => Cert.SumsIdeal.Gen.frame m ρ,
  Cert.SmallSums.frame_reference, fun m ρ _ => Cert.SmallSums.frame_reference m ρ trivial,
  fun m ρ _ => Cert.GradSum.Gen.frame m ρ, fun m ρ _ => Cert.GradSumIdeal.Gen.frame m ρ, Cert.GradParts.frame_reference,
  trivial, Cert.PoolIn.value, trivial, Cert.OutStage.value, trivial, Cert.LossStage.value, trivial, Cert.PoolStage.value,
  trivial, Cert.HgrnInStage.value, trivial, Cert.Ada.value, trivial, Cert.OutFwd.value, trivial, Cert.PoolFwd.value, trivial, Cert.HgrnFwd.value,
  trivial, trivial, trivial, Cert.PoolWeight.value, trivial, Cert.Update.value, trivial, Cert.SmallSums.value, trivial, Cert.GradParts.value⟩

end Cert.Proof

end
